-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v106) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v108) = v1 c
          ∧ r.2.mem ((c.tc : Thread Cert.Reference2Ideal.nD Cert.Reference2Ideal.τ).loc Cert.Reference2Ideal.main_v109) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v107) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v104_0)) (v1 : (c : Dev Cert.Kernel4Ideal.nD) → Buf (Elt Ideal) ((c.tc : Thread Cert.Kernel4Ideal.nD Cert.Kernel4Ideal.τ).loc Cert.Kernel4Ideal.main_v104_1)) (v2 : (c : Dev Cert.Kernel4Ideal.nD) → Buf (Elt Ideal) ((c.tc : Thread Cert.Kernel4Ideal.nD Cert.Kernel4Ideal.τ).loc Cert.Kernel4Ideal.main_v104_2)) (v3 : (c : Dev Cert.Kernel4Ideal.nD) → Buf (Elt Ideal) ((c.tc : Thread Cert.Kernel4Ideal.nD Cert.Kernel4Ideal.τ).loc Cert.Kernel4Ideal.main_v104_3)) (v4 : (c : Dev Cert.Kernel4Ideal.nD) → Buf (Elt Ideal) ((c.tc : Thread Cert.Kernel4Ideal.nD Cert.Kernel4Ideal.τ).loc Cert.Kernel4Ideal.main_v104_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v104_0) = v0 c
          ∧ r.2.mem ((c.tc : Thread Cert.Kernel4Ideal.nD Cert.Kernel4Ideal.τ).loc Cert.Kernel4Ideal.main_v104_1) = v1 c
          ∧ r.2.mem ((c.tc : Thread Cert.Kernel4Ideal.nD Cert.Kernel4Ideal.τ).loc Cert.Kernel4Ideal.main_v104_2) = v2 c
          ∧ r.2.mem ((c.tc : Thread Cert.Kernel4Ideal.nD Cert.Kernel4Ideal.τ).loc Cert.Kernel4Ideal.main_v104_3) = v3 c
          ∧ r.2.mem ((c.tc : Thread Cert.Kernel4Ideal.nD Cert.Kernel4Ideal.τ).loc Cert.Kernel4Ideal.main_v104_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v205) = v0 c
          ∧ r.2.mem ((c.tc : Thread Cert.Reference4Ideal.nD Cert.Reference4Ideal.τ).loc Cert.Reference4Ideal.main_v213) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_v214) = v3 c
          ∧ r.2.mem ((c.tc : Thread Cert.Reference4Ideal.nD Cert.Reference4Ideal.τ).loc Cert.Reference4Ideal.main_v212) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v101) = v0 c
          ∧ r.2.mem ((c.tc : Thread Cert.Reference5Ideal.nD Cert.Reference5Ideal.τ).loc Cert.Reference5Ideal.main_v103) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v104) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_v30) = v4 c
          ∧ r.2.mem ((c.tc : Thread Cert.Reference6Ideal.nD Cert.Reference6Ideal.τ).loc Cert.Reference6Ideal.main_v36) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x512 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x1024 : Shape := ⟨2, ![4096, 1024]⟩
abbrev S1x256 : Shape := ⟨2, ![1, 256]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x256 .f32) (main_arg5 : FVec F S1024x1024 .f32) (main_arg6 : FVec F S1024 .f32) : IVec S_ 1 :=
  let main_v0 : FVec F S4096x1024 .f32 := Host.absf main_arg3
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite4.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S4x256 .f32) (main_arg6 : FVec F S1x1024 .f32) (main_arg7 : FVec F S1024x1024 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : FVec F S4x256 .f32 := Host.absf main_arg5
  let main_cst_6 : FVec F S_ .f32 := constant S_ .f32 0x7F800000#32
  let main_v19 : FVec F S4x256 .f32 := broadcastInDim S4x256 ![] bcast_S_S4x256 main_cst_6
  let main_v20 : IVec S4x256 1 := cmpf .olt main_v18 main_v19
  let main_c_7 : IVec S_ 1 := constantI S_ 1 1#1
  let main_v21 : IVec S_ 1 := (fun x v => Host.reduce IntOp.andi x v reducesTo_S4x256_S_d0_1 h_S_) main_v20 main_c_7
  let main_v22 : IVec S_ 1 := andi main_v17 main_v21
  let main_v23 : IVec S_ 1 := andi main_v13 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S1x1024 .f32) (main_arg3 : FVec F S1024x2048 .f32) (main_arg4 : FVec F S4x256x256 .f32) (main_arg5 : FVec F S4x256 .f32) (main_arg6 : FVec F S1x1024 .f32) (main_arg7 : FVec F S1024x1024 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4x256x256 .f32 := Host.absf main_arg4
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg5 main_arg6 main_arg7 main_v13 main_v16
-- ==== Pre_finite5.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4096x1024 .f32) (main_arg1 : FVec F S1x1024 .f32) (main_arg2 : FVec F S1024x2048 .f32) (main_arg3 : FVec F S4x256x256 .f32) (main_arg4 : FVec F S4x256 .f32) (main_arg5 : FVec F S1x1024 .f32) (main_arg6 : FVec F S1024x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S4096x1024 : Shape := ⟨2, ![4096, 1024]⟩
abbrev S4096x512 : Shape := ⟨2, ![4096, 512]⟩
abbrev S64x4x256x128 : Shape := ⟨4, ![64, 4, 256, 128]⟩
abbrev S4096x256 : Shape := ⟨2, ![4096, 256]⟩
abbrev S512x512 : Shape := ⟨2, ![512, 512]⟩
abbrev S512x1024 : Shape := ⟨2, ![512, 1024]⟩
abbrev S8x4x256x128 : Shape := ⟨4, ![8, 4, 256, 128]⟩
abbrev S512x256 : Shape := ⟨2, ![512, 256]⟩
abbrev S4x256x128 : Shape := ⟨3, ![4, 256, 128]⟩
abbrev S64x64 : Shape := ⟨2, ![64, 64]⟩
abbrev S64x128 : Shape := ⟨2, ![64, 128]⟩
abbrev S64x256 : Shape := ⟨2, ![64, 256]⟩
abbrev S1x128 : Shape := ⟨2, ![1, 128]⟩
abbrev S1x256x128 : Shape := ⟨3, ![1, 256, 128]⟩
abbrev S256x128 : Shape := ⟨2, ![256, 128]⟩
abbrev S1x1x256x128 : Shape := ⟨4, ![1, 1, 256, 128]⟩
abbrev S128 : Shape := ⟨1, ![128]⟩

abbrev nBuf : Space → Nat
  | .hbm => 13
  | .vmem => 38
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S64x4x256x128, .f32⟩
  | .hbm, ⟨8, _⟩ => ⟨S4096x256, .bf16⟩
  | .hbm, ⟨9, _⟩ => ⟨S4096x512, .bf16⟩
  | .hbm, ⟨10, _⟩ => ⟨S4096x512, .bf16⟩
  | .hbm, ⟨11, _⟩ => ⟨S4096x1024, .bf16⟩
  | .hbm, ⟨12, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S8x4x256x128, .f32⟩
  | .local _ .vmem, ⟨11, _⟩ => ⟨S8x4x256x128, .f32⟩
  | .local _ .vmem, ⟨12, _⟩ => ⟨S512x256, .bf16⟩
  | .local _ .vmem, ⟨13, _⟩ => ⟨S512x256, .bf16⟩
  | .local _ .vmem, ⟨14, _⟩ => ⟨S4x256x128, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x512, .f32⟩
  | .local _ .vmem, ⟨22, _⟩ => ⟨S512x512, .f32⟩
  | .local _ .vmem, ⟨23, _⟩ => ⟨S512x1024, .bf16⟩
  | .local _ .vmem, ⟨24, _⟩ => ⟨S512x1024, .bf16⟩
  | .local _ .vmem, ⟨25, _⟩ => ⟨S8x4x256x128, .f32⟩
  | .local _ .vmem, ⟨26, _⟩ => ⟨S8x4x256x128, .f32⟩
  | .local _ .vmem, ⟨27, _⟩ => ⟨S512x256, .bf16⟩
  | .local _ .vmem, ⟨28, _⟩ => ⟨S512x256, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x1024, .bf16⟩
  | .local _ .vmem, ⟨34, _⟩ => ⟨S512x1024, .bf16⟩
  | .local _ .vmem, ⟨35, _⟩ => ⟨S512x512, .f32⟩
  | .local _ .vmem, ⟨36, _⟩ => ⟨S512x512, .f32⟩
  | .local _ .vmem, ⟨37, _⟩ => ⟨S4x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨1, ![8], ![false]⟩

def k0_mult1 : BitVec 32 :=
  let c0_i32_1 : BitVec 32 := 0#32
  let c64_i32 : BitVec 32 := 64#32
  let v6 : BitVec 32 := Scalar.muli c0_i32_1 c64_i32
  v6
def k0_off1 (c0_i32_1 : BitVec 32) : Fin 2 → Nat :=
  let c64_i32 : BitVec 32 := 64#32
  let v6 : BitVec 32 := Scalar.muli c0_i32_1 c64_i32
  let v7 : BitVec 32 := v6
  let v8 : Index := Scalar.indexCast v7
  let c0 : Index := 0#32
  ![v8.toNat, 0]
def k0_off2 (c0_i32_1 : BitVec 32) : Fin 2 → Nat :=
  let c64_i32 : BitVec 32 := 64#32
  let v6 : BitVec 32 := Scalar.muli c0_i32_1 c64_i32
  let v7 : BitVec 32 := v6
  let v12 : Index := Scalar.indexCast v7
  let c0_3 : Index := 0#32
  ![v12.toNat, 0]
def k0_off3 (c0_i32_1 : BitVec 32) : Fin 2 → Nat :=
  let c64_i32 : BitVec 32 := 64#32
  let v6 : BitVec 32 := Scalar.muli c0_i32_1 c64_i32
  let v7 : BitVec 32 := v6
  let v40 : Index := Scalar.indexCast v7
  let c0_8 : Index := 0#32
  ![v40.toNat, 0]
def k0_off4 (c0_i32_1 : BitVec 32) : Fin 2 → Nat :=
  let c64_i32 : BitVec 32 := 64#32
  let v6 : BitVec 32 := Scalar.muli c0_i32_1 c64_i32
  let v7 : BitVec 32 := v6
  let v63 : Index := Scalar.indexCast v7
  let c128 : Index := 128#32
  ![v63.toNat, 128]
def k0_off5 (c0_i32_1 : BitVec 32) : Fin 2 → Nat :=
  let c64_i32 : BitVec 32 := 64#32
  let v6 : BitVec 32 := Scalar.muli c0_i32_1 c64_i32
  let v7 : BitVec 32 := v6
  let v67 : Index := Scalar.indexCast v7
  let c256 : Index := 256#32
  ![v67.toNat, 256]
def k0_off6 (c0_i32_1 : BitVec 32) : Fin 2 → Nat :=
  let c64_i32 : BitVec 32 := 64#32
  let v6 : BitVec 32 := Scalar.muli c0_i32_1 c64_i32
  let v7 : BitVec 32 := v6
  let v95 : Index := Scalar.indexCast v7
  let c64 : Index := 64#32
  ![v95.toNat, 64]
def k0_off7 (c0_i32_1 : BitVec 32) : Fin 2 → Nat :=
  let c64_i32 : BitVec 32 := 64#32
  let v6 : BitVec 32 := Scalar.muli c0_i32_1 c64_i32
  let v7 : BitVec 32 := v6
  let v118 : Index := Scalar.indexCast v7
  let c256_40 : Index := 256#32
  ![v118.toNat, 256]
def k0_off8 (c0_i32_1 : BitVec 32) : Fin 2 → Nat :=
  let c64_i32 : BitVec 32 := 64#32
  let v6 : BitVec 32 := Scalar.muli c0_i32_1 c64_i32
  let v7 : BitVec 32 := v6
  let v122 : Index := Scalar.indexCast v7
  let c512 : Index := 512#32
  ![v122.toNat, 512]
def k0_off9 (c0_i32_1 : BitVec 32) : Fin 2 → Nat :=
  let c64_i32 : BitVec 32 := 64#32
  let v6 : BitVec 32 := Scalar.muli c0_i32_1 c64_i32
  let v7 : BitVec 32 := v6
  let v150 : Index := Scalar.indexCast v7
  let c128_47 : Index := 128#32
  ![v150.toNat, 128]
def k0_off10 (c0_i32_1 : BitVec 32) : Fin 2 → Nat :=
  let c64_i32 : BitVec 32 := 64#32
  let v6 : BitVec 32 := Scalar.muli c0_i32_1 c64_i32
  let v7 : BitVec 32 := v6
  let v173 : Index := Scalar.indexCast v7
  let c384 : Index := 384#32
  ![v173.toNat, 384]
def k0_off11 (c0_i32_1 : BitVec 32) : Fin 2 → Nat :=
  let c64_i32 : BitVec 32 := 64#32
  let v6 : BitVec 32 := Scalar.muli c0_i32_1 c64_i32
  let v7 : BitVec 32 := v6
  let v177 : Index := Scalar.indexCast v7
  let c768 : Index := 768#32
  ![v177.toNat, 768]
def k0_off12 (c0_i32_1 : BitVec 32) : Fin 2 → Nat :=
  let c64_i32 : BitVec 32 := 64#32
  let v6 : BitVec 32 := Scalar.muli c0_i32_1 c64_i32
  let v7 : BitVec 32 := v6
  let v205 : Index := Scalar.indexCast v7
  let c192 : Index := 192#32
  ![v205.toNat, 192]
def k0_mult2 : BitVec 32 :=
  let c1_i32 : BitVec 32 := 1#32
  let c64_i32_78 : BitVec 32 := 64#32
  let v228 : BitVec 32 := Scalar.muli c1_i32 c64_i32_78
  v228
def k0_mult3 : BitVec 32 :=
  let c2_i32 : BitVec 32 := 2#32
  let c64_i32_167 : BitVec 32 := 64#32
  let v450 : BitVec 32 := Scalar.muli c2_i32 c64_i32_167
  v450
def k0_mult4 : BitVec 32 :=
  let c3_i32 : BitVec 32 := 3#32
  let c64_i32_256 : BitVec 32 := 64#32
  let v672 : BitVec 32 := Scalar.muli c3_i32 c64_i32_256
  v672
def k0_mult5 : BitVec 32 :=
  let c4_i32 : BitVec 32 := 4#32
  let c64_i32_345 : BitVec 32 := 64#32
  let v894 : BitVec 32 := Scalar.muli c4_i32 c64_i32_345
  v894
def k0_mult6 : BitVec 32 :=
  let c5_i32 : BitVec 32 := 5#32
  let c64_i32_434 : BitVec 32 := 64#32
  let v1116 : BitVec 32 := Scalar.muli c5_i32 c64_i32_434
  v1116
def k0_mult7 : BitVec 32 :=
  let c6_i32 : BitVec 32 := 6#32
  let c64_i32_523 : BitVec 32 := 64#32
  let v1338 : BitVec 32 := Scalar.muli c6_i32 c64_i32_523
  v1338
def k0_mult8 : BitVec 32 :=
  let c7_i32 : BitVec 32 := 7#32
  let c64_i32_612 : BitVec 32 := 64#32
  let v1560 : BitVec 32 := Scalar.muli c7_i32 c64_i32_612
  v1560
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_mult1 : BitVec 32 :=
  let c7_i32 : BitVec 32 := 7#32
  let c0_i32_1 : BitVec 32 := 0#32
  let v9 : BitVec 32 := Scalar.subi c7_i32 c0_i32_1
  let c64_i32 : BitVec 32 := 64#32
  let v10 : BitVec 32 := Scalar.muli v9 c64_i32
  v10
def k1_off1 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v12 : Index := Scalar.indexCast v11
  let c0 : Index := 0#32
  ![v12.toNat, 0]
def k1_off2 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v16 : Index := Scalar.indexCast v11
  let c0_3 : Index := 0#32
  ![v16.toNat, 0]
def k1_off3 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v45 : Index := Scalar.indexCast v11
  let c0_7 : Index := 0#32
  ![v45.toNat, 0]
def k1_off4 (c0_i32_1 : BitVec 32) : Fin 4 → Nat :=
  let c7_i32 : BitVec 32 := 7#32
  let v9 : BitVec 32 := Scalar.subi c7_i32 c0_i32_1
  let v48 : Index := Scalar.indexCast v9
  let c0_8 : Index := 0#32
  let c0_9 : Index := 0#32
  let c0_10 : Index := 0#32
  ![v48.toNat, 0, 0, 0]
def k1_off5 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v124 : Index := Scalar.indexCast v11
  let c128 : Index := 128#32
  ![v124.toNat, 128]
def k1_off6 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v128 : Index := Scalar.indexCast v11
  let c256 : Index := 256#32
  ![v128.toNat, 256]
def k1_off7 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v157 : Index := Scalar.indexCast v11
  let c64 : Index := 64#32
  ![v157.toNat, 64]
def k1_off8 (c0_i32_1 : BitVec 32) : Fin 4 → Nat :=
  let c7_i32 : BitVec 32 := 7#32
  let v9 : BitVec 32 := Scalar.subi c7_i32 c0_i32_1
  let v160 : Index := Scalar.indexCast v9
  let c1 : Index := 1#32
  let c0_42 : Index := 0#32
  let c0_43 : Index := 0#32
  ![v160.toNat, 1, 0, 0]
def k1_off9 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v236 : Index := Scalar.indexCast v11
  let c256_70 : Index := 256#32
  ![v236.toNat, 256]
def k1_off10 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v240 : Index := Scalar.indexCast v11
  let c512 : Index := 512#32
  ![v240.toNat, 512]
def k1_off11 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v269 : Index := Scalar.indexCast v11
  let c128_76 : Index := 128#32
  ![v269.toNat, 128]
def k1_off12 (c0_i32_1 : BitVec 32) : Fin 4 → Nat :=
  let c7_i32 : BitVec 32 := 7#32
  let v9 : BitVec 32 := Scalar.subi c7_i32 c0_i32_1
  let v272 : Index := Scalar.indexCast v9
  let c2 : Index := 2#32
  let c0_77 : Index := 0#32
  let c0_78 : Index := 0#32
  ![v272.toNat, 2, 0, 0]
def k1_off13 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v348 : Index := Scalar.indexCast v11
  let c384 : Index := 384#32
  ![v348.toNat, 384]
def k1_off14 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v352 : Index := Scalar.indexCast v11
  let c768 : Index := 768#32
  ![v352.toNat, 768]
def k1_off15 (c0_i32_1 : BitVec 32) : Fin 2 → Nat :=
  let c7_i32 : BitVec 32 := 7#32
  let v9 : BitVec 32 := Scalar.subi c7_i32 c0_i32_1
  let c64_i32 : BitVec 32 := 64#32
  let v10 : BitVec 32 := Scalar.muli v9 c64_i32
  let v11 : BitVec 32 := v10
  let v381 : Index := Scalar.indexCast v11
  let c192 : Index := 192#32
  ![v381.toNat, 192]
def k1_off16 (c0_i32_1 : BitVec 32) : Fin 4 → Nat :=
  let c7_i32 : BitVec 32 := 7#32
  let v9 : BitVec 32 := Scalar.subi c7_i32 c0_i32_1
  let v384 : Index := Scalar.indexCast v9
  let c3 : Index := 3#32
  let c0_110 : Index := 0#32
  let c0_111 : Index := 0#32
  ![v384.toNat, 3, 0, 0]
def k1_mult2 : BitVec 32 :=
  let c7_i32_138 : BitVec 32 := 7#32
  let c1_i32 : BitVec 32 := 1#32
  let v460 : BitVec 32 := Scalar.subi c7_i32_138 c1_i32
  let c64_i32_139 : BitVec 32 := 64#32
  let v461 : BitVec 32 := Scalar.muli v460 c64_i32_139
  v461
def k1_mult3 : BitVec 32 :=
  let c7_i32_288 : BitVec 32 := 7#32
  let c2_i32 : BitVec 32 := 2#32
  let v911 : BitVec 32 := Scalar.subi c7_i32_288 c2_i32
  let c64_i32_289 : BitVec 32 := 64#32
  let v912 : BitVec 32 := Scalar.muli v911 c64_i32_289
  v912
def k1_mult4 : BitVec 32 :=
  let c7_i32_438 : BitVec 32 := 7#32
  let c3_i32 : BitVec 32 := 3#32
  let v1362 : BitVec 32 := Scalar.subi c7_i32_438 c3_i32
  let c64_i32_439 : BitVec 32 := 64#32
  let v1363 : BitVec 32 := Scalar.muli v1362 c64_i32_439
  v1363
def k1_mult5 : BitVec 32 :=
  let c7_i32_588 : BitVec 32 := 7#32
  let c4_i32 : BitVec 32 := 4#32
  let v1813 : BitVec 32 := Scalar.subi c7_i32_588 c4_i32
  let c64_i32_589 : BitVec 32 := 64#32
  let v1814 : BitVec 32 := Scalar.muli v1813 c64_i32_589
  v1814
def k1_mult6 : BitVec 32 :=
  let c7_i32_738 : BitVec 32 := 7#32
  let c5_i32 : BitVec 32 := 5#32
  let v2264 : BitVec 32 := Scalar.subi c7_i32_738 c5_i32
  let c64_i32_739 : BitVec 32 := 64#32
  let v2265 : BitVec 32 := Scalar.muli v2264 c64_i32_739
  v2265
def k1_mult7 : BitVec 32 :=
  let c7_i32_888 : BitVec 32 := 7#32
  let c6_i32 : BitVec 32 := 6#32
  let v2715 : BitVec 32 := Scalar.subi c7_i32_888 c6_i32
  let c64_i32_889 : BitVec 32 := 64#32
  let v2716 : BitVec 32 := Scalar.muli v2715 c64_i32_889
  v2716
def k1_mult8 : BitVec 32 :=
  let c7_i32_1039 : BitVec 32 := 7#32
  let c7_i32_1038 : BitVec 32 := 7#32
  let v3166 : BitVec 32 := Scalar.subi c7_i32_1039 c7_i32_1038
  let c64_i32_1040 : BitVec 32 := 64#32
  let v3167 : BitVec 32 := Scalar.muli v3166 c64_i32_1040
  v3167
def cc1_transform_0 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_5 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x4x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S4096x1024 : Shape := ⟨2, ![4096, 1024]⟩
abbrev S4096x512 : Shape := ⟨2, ![4096, 512]⟩
abbrev S1x64x64x4x128 : Shape := ⟨5, ![1, 64, 64, 4, 128]⟩
abbrev S_ : Shape := ⟨0, ![]⟩
abbrev S1x64x64x4x256 : Shape := ⟨5, ![1, 64, 64, 4, 256]⟩
abbrev S1x64x1x4x128 : Shape := ⟨5, ![1, 64, 1, 4, 128]⟩
abbrev S1x64x4x64x64 : Shape := ⟨5, ![1, 64, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x4x256x64 : Shape := ⟨5, ![1, 64, 4, 256, 64]⟩
abbrev S1x64x4x128 : Shape := ⟨4, ![1, 64, 4, 128]⟩
abbrev S64x1x64x4x128 : Shape := ⟨5, ![64, 1, 64, 4, 128]⟩
abbrev S64x1x64x4x256 : Shape := ⟨5, ![64, 1, 64, 4, 256]⟩
abbrev S64x1x4x128 : Shape := ⟨4, ![64, 1, 4, 128]⟩
abbrev S1x4x128x256 : Shape := ⟨4, ![1, 4, 128, 256]⟩
abbrev S64x1x4x128x256 : Shape := ⟨5, ![64, 1, 4, 128, 256]⟩
abbrev S64x1x4x128x1 : Shape := ⟨5, ![64, 1, 4, 128, 1]⟩
abbrev S1x1x64x4x128 : Shape := ⟨5, ![1, 1, 64, 4, 128]⟩
abbrev S1x1x64x4x256 : Shape := ⟨5, ![1, 1, 64, 4, 256]⟩
abbrev S1x64x4x256 : Shape := ⟨4, ![1, 64, 4, 256]⟩
abbrev S1x1x4x128 : Shape := ⟨4, ![1, 1, 4, 128]⟩
abbrev S1x4x128 : Shape := ⟨3, ![1, 4, 128]⟩
abbrev S1x4x256x64 : Shape := ⟨4, ![1, 4, 256, 64]⟩
abbrev S1x4x128x1 : Shape := ⟨4, ![1, 4, 128, 1]⟩
abbrev S1x1x4x128x256 : Shape := ⟨5, ![1, 1, 4, 128, 256]⟩
abbrev S1x1x4x128x1 : Shape := ⟨5, ![1, 1, 4, 128, 1]⟩
abbrev S1x4x128x64 : Shape := ⟨4, ![1, 4, 128, 64]⟩
abbrev S4x128 : Shape := ⟨2, ![4, 128]⟩
abbrev S1x4x64x128 : Shape := ⟨4, ![1, 4, 64, 128]⟩
abbrev S1x4x256x128 : Shape := ⟨4, ![1, 4, 256, 128]⟩
abbrev S1x64x4x64x128 : Shape := ⟨5, ![1, 64, 4, 64, 128]⟩

abbrev nBuf : Space → Nat
  | .hbm => 296
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x1024, .f32⟩
  | 4 => ⟨S4096x512, .f32⟩
  | 5 => ⟨S4096x512, .f32⟩
  | 6 => ⟨S1x64x64x4x128, .f32⟩
  | 7 => ⟨S_, .f32⟩
  | 8 => ⟨S1x64x64x4x128, .f32⟩
  | 9 => ⟨S1x64x64x4x128, .f32⟩
  | 10 => ⟨S1x64x64x4x128, .f32⟩
  | 11 => ⟨S1x64x64x4x256, .f32⟩
  | 12 => ⟨S1x64x64x4x128, .f32⟩
  | 13 => ⟨S1x64x1x4x128, .f32⟩
  | 14 => ⟨S1x64x64x4x128, .f32⟩
  | 15 => ⟨S1x64x64x4x128, .f32⟩
  | 16 => ⟨S1x64x64x4x128, .f32⟩
  | 17 => ⟨S1x64x64x4x128, .f32⟩
  | 18 => ⟨S1x64x64x4x128, .f32⟩
  | 19 => ⟨S1x64x4x64x64, .f32⟩
  | 20 => ⟨S1x64x64x4x128, .f32⟩
  | 21 => ⟨S1x64x64x4x128, .f32⟩
  | 22 => ⟨S1x64x4x64x64, .f32⟩
  | 23 => ⟨S64, .i32⟩
  | 24 => ⟨S64x1, .i32⟩
  | 25 => ⟨S1x64, .i32⟩
  | 26 => ⟨S64x64, .i32⟩
  | 27 => ⟨S64x64, .i32⟩
  | 28 => ⟨S64x64, .i1⟩
  | 29 => ⟨S1x64x4x64x64, .i1⟩
  | 30 => ⟨S1x64x4x64x64, .f32⟩
  | 31 => ⟨S1x64x4x256x64, .f32⟩
  | 32 => ⟨S1x64x64x4x256, .f32⟩
  | 33 => ⟨S1x64x64x4x128, .f32⟩
  | 34 => ⟨S1x64x64x4x128, .f32⟩
  | 35 => ⟨S1x64x64x4x128, .f32⟩
  | 36 => ⟨S1x64x64x4x128, .f32⟩
  | 37 => ⟨S1x64x64x4x128, .f32⟩
  | 38 => ⟨S1x64x4x128, .f32⟩
  | 39 => ⟨S1x64x4x128, .f32⟩
  | 40 => ⟨S64x1x64x4x128, .f32⟩
  | 41 => ⟨S64x1x64x4x128, .f32⟩
  | 42 => ⟨S64x1x64x4x256, .f32⟩
  | 43 => ⟨S64x1x4x128, .f32⟩
  | 44 => ⟨S_, .f32⟩
  | 45 => ⟨S1x4x128x256, .f32⟩
  | 46 => ⟨S_, .f32⟩
  | 47 => ⟨S64x1x64x4x256, .f32⟩
  | 48 => ⟨S_, .f32⟩
  | 49 => ⟨S64x1x4x128x256, .f32⟩
  | 50 => ⟨S_, .f32⟩
  | 51 => ⟨S64x1x4x128x1, .f32⟩
  | 52 => ⟨S_, .i32⟩
  | 53 => ⟨S64x1x64x4x128, .f32⟩
  | 54 => ⟨S64x1x64x4x128, .f32⟩
  | 55 => ⟨S64x1x64x4x256, .f32⟩
  | 56 => ⟨S64x1x4x128, .f32⟩
  | 57 => ⟨S_, .i32⟩
  | 58 => ⟨S1x4x128x256, .f32⟩
  | 59 => ⟨S64x1x64x4x256, .f32⟩
  | 60 => ⟨S64x1x4x128x256, .f32⟩
  | 61 => ⟨S64x1x4x128x1, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x1x64x4x128, .f32⟩
  | 69 => ⟨S1x64x4x128, .f32⟩
  | 70 => ⟨S_, .i32⟩
  | 71 => ⟨S_, .i32⟩
  | 72 => ⟨S_, .i32⟩
  | 73 => ⟨S_, .i32⟩
  | 74 => ⟨S1x1x64x4x128, .f32⟩
  | 75 => ⟨S1x64x4x128, .f32⟩
  | 76 => ⟨S_, .i32⟩
  | 77 => ⟨S_, .i32⟩
  | 78 => ⟨S_, .i32⟩
  | 79 => ⟨S_, .i32⟩
  | 80 => ⟨S1x1x64x4x256, .f32⟩
  | 81 => ⟨S1x64x4x256, .f32⟩
  | 82 => ⟨S_, .i32⟩
  | 83 => ⟨S_, .i32⟩
  | 84 => ⟨S_, .i32⟩
  | 85 => ⟨S1x1x4x128, .f32⟩
  | 86 => ⟨S1x4x128, .f32⟩
  | 87 => ⟨S1x4x256x64, .f32⟩
  | 88 => ⟨S1x64x4x256, .f32⟩
  | 89 => ⟨S1x4x128x1, .f32⟩
  | 90 => ⟨S1x4x128x256, .f32⟩
  | 91 => ⟨S1x4x128x256, .f32⟩
  | 92 => ⟨S1x4x128x256, .f32⟩
  | 93 => ⟨S1x4x128x256, .f32⟩
  | 94 => ⟨S1x1x64x4x256, .f32⟩
  | 95 => ⟨S_, .i32⟩
  | 96 => ⟨S_, .i32⟩
  | 97 => ⟨S_, .i32⟩
  | 98 => ⟨S_, .i32⟩
  | 99 => ⟨S64x1x64x4x256, .f32⟩
  | 100 => ⟨S1x1x4x128x256, .f32⟩
  | 101 => ⟨S_, .i32⟩
  | 102 => ⟨S_, .i32⟩
  | 103 => ⟨S_, .i32⟩
  | 104 => ⟨S_, .i32⟩
  | 105 => ⟨S64x1x4x128x256, .f32⟩
  | 106 => ⟨S1x1x4x128x1, .f32⟩
  | 107 => ⟨S_, .i32⟩
  | 108 => ⟨S_, .i32⟩
  | 109 => ⟨S_, .i32⟩
  | 110 => ⟨S_, .i32⟩
  | 111 => ⟨S64x1x4x128x1, .f32⟩
  | 112 => ⟨S_, .i32⟩
  | 113 => ⟨S_, .i32⟩
  | 114 => ⟨S1x64x64x4x256, .f32⟩
  | 115 => ⟨S1x64x64x4x256, .f32⟩
  | 116 => ⟨S4096x1024, .f32⟩
  | 117 => ⟨S_, .f32⟩
  | 118 => ⟨S1x4x128x256, .f32⟩
  | 119 => ⟨S1x64x64x4x256, .f32⟩
  | 120 => ⟨S64x1x64x4x256, .f32⟩
  | 121 => ⟨S_, .f32⟩
  | 122 => ⟨S1x4x128x256, .f32⟩
  | 123 => ⟨S_, .f32⟩
  | 124 => ⟨S64x1x64x4x128, .f32⟩
  | 125 => ⟨S_, .f32⟩
  | 126 => ⟨S64x1x64x4x128, .f32⟩
  | 127 => ⟨S_, .f32⟩
  | _ => ⟨S4096x1024, .f32⟩

abbrev hbmTy0_1 (i : Nat) : BufTy := match i % 128 with
  | 0 => ⟨S64x1x64x4x256, .f32⟩
  | 1 => ⟨S_, .f32⟩
  | 2 => ⟨S64x1x4x128, .f32⟩
  | 3 => ⟨S_, .i32⟩
  | 4 => ⟨S64x1x64x4x256, .f32⟩
  | 5 => ⟨S64x1x64x4x128, .f32⟩
  | 6 => ⟨S64x1x4x128x256, .f32⟩
  | 7 => ⟨S64x1x4x128x1, .f32⟩
  | 8 => ⟨S64x1x64x4x256, .f32⟩
  | 9 => ⟨S64x1x64x4x128, .f32⟩
  | 10 => ⟨S_, .i32⟩
  | 11 => ⟨S1x4x128x256, .f32⟩
  | 12 => ⟨S64x1x64x4x128, .f32⟩
  | 13 => ⟨S64x1x64x4x128, .f32⟩
  | 14 => ⟨S64x1x64x4x256, .f32⟩
  | 15 => ⟨S64x1x4x128, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x1x64x4x256, .f32⟩
  | 27 => ⟨S1x64x4x256, .f32⟩
  | 28 => ⟨S_, .i32⟩
  | 29 => ⟨S_, .i32⟩
  | 30 => ⟨S_, .i32⟩
  | 31 => ⟨S_, .i32⟩
  | 32 => ⟨S1x1x64x4x128, .f32⟩
  | 33 => ⟨S1x64x4x128, .f32⟩
  | 34 => ⟨S_, .i32⟩
  | 35 => ⟨S_, .i32⟩
  | 36 => ⟨S_, .i32⟩
  | 37 => ⟨S_, .i32⟩
  | 38 => ⟨S1x1x4x128x256, .f32⟩
  | 39 => ⟨S1x4x128x256, .f32⟩
  | 40 => ⟨S_, .i32⟩
  | 41 => ⟨S_, .i32⟩
  | 42 => ⟨S_, .i32⟩
  | 43 => ⟨S_, .i32⟩
  | 44 => ⟨S1x1x4x128x1, .f32⟩
  | 45 => ⟨S1x4x128x1, .f32⟩
  | 46 => ⟨S_, .i32⟩
  | 47 => ⟨S_, .i32⟩
  | 48 => ⟨S_, .i32⟩
  | 49 => ⟨S_, .i32⟩
  | 50 => ⟨S1x1x64x4x256, .f32⟩
  | 51 => ⟨S1x64x4x256, .f32⟩
  | 52 => ⟨S_, .i32⟩
  | 53 => ⟨S_, .i32⟩
  | 54 => ⟨S_, .i32⟩
  | 55 => ⟨S_, .i32⟩
  | 56 => ⟨S1x1x64x4x128, .f32⟩
  | 57 => ⟨S1x64x4x128, .f32⟩
  | 58 => ⟨S1x4x256x64, .f32⟩
  | 59 => ⟨S1x64x4x256, .f32⟩
  | 60 => ⟨S1x4x128x64, .f32⟩
  | 61 => ⟨S1x64x4x128, .f32⟩
  | 62 => ⟨S1x4x128x256, .f32⟩
  | 63 => ⟨S_, .f32⟩
  | 64 => ⟨S1x4x128, .f32⟩
  | 65 => ⟨S1x4x128x1, .f32⟩
  | 66 => ⟨S1x4x128x256, .f32⟩
  | 67 => ⟨S1x4x128x256, .f32⟩
  | 68 => ⟨S_, .f32⟩
  | 69 => ⟨S4x128, .f32⟩
  | 70 => ⟨S1x4x128, .f32⟩
  | 71 => ⟨S1x4x256x64, .f32⟩
  | 72 => ⟨S1x4x64x128, .f32⟩
  | 73 => ⟨S1x64x4x128, .f32⟩
  | 74 => ⟨S1x4x256x128, .f32⟩
  | 75 => ⟨S1x4x128x256, .f32⟩
  | 76 => ⟨S1x4x128x256, .f32⟩
  | 77 => ⟨S1x1x64x4x128, .f32⟩
  | 78 => ⟨S_, .i32⟩
  | 79 => ⟨S_, .i32⟩
  | 80 => ⟨S_, .i32⟩
  | 81 => ⟨S_, .i32⟩
  | 82 => ⟨S64x1x64x4x128, .f32⟩
  | 83 => ⟨S1x1x64x4x128, .f32⟩
  | 84 => ⟨S_, .i32⟩
  | 85 => ⟨S_, .i32⟩
  | 86 => ⟨S_, .i32⟩
  | 87 => ⟨S_, .i32⟩
  | 88 => ⟨S64x1x64x4x128, .f32⟩
  | 89 => ⟨S1x1x64x4x256, .f32⟩
  | 90 => ⟨S_, .i32⟩
  | 91 => ⟨S_, .i32⟩
  | 92 => ⟨S_, .i32⟩
  | 93 => ⟨S_, .i32⟩
  | 94 => ⟨S64x1x64x4x256, .f32⟩
  | 95 => ⟨S1x1x4x128, .f32⟩
  | 96 => ⟨S_, .i32⟩
  | 97 => ⟨S_, .i32⟩
  | 98 => ⟨S_, .i32⟩
  | 99 => ⟨S64x1x4x128, .f32⟩
  | 100 => ⟨S_, .i32⟩
  | 101 => ⟨S_, .i32⟩
  | 102 => ⟨S1x64x4x128, .f32⟩
  | 103 => ⟨S1x64x64x4x256, .f32⟩
  | 104 => ⟨S1x64x64x4x128, .f32⟩
  | 105 => ⟨S1x64x64x4x128, .f32⟩
  | 106 => ⟨S1x64x4x128, .f32⟩
  | 107 => ⟨S1x64x1x4x128, .f32⟩
  | 108 => ⟨S1x64x64x4x128, .f32⟩
  | 109 => ⟨S1x64x64x4x128, .f32⟩
  | 110 => ⟨S1x64x64x4x128, .f32⟩
  | 111 => ⟨S_, .f32⟩
  | 112 => ⟨S1x64x4x128, .f32⟩
  | 113 => ⟨S1x64x1x4x128, .f32⟩
  | 114 => ⟨S1x64x64x4x128, .f32⟩
  | 115 => ⟨S1x64x1x4x128, .f32⟩
  | 116 => ⟨S1x64x64x4x128, .f32⟩
  | 117 => ⟨S1x64x64x4x128, .f32⟩
  | 118 => ⟨S1x64x4x256x64, .f32⟩
  | 119 => ⟨S1x64x4x64x64, .f32⟩
  | 120 => ⟨S1x64x4x256x64, .f32⟩
  | 121 => ⟨S1x64x64x4x256, .f32⟩
  | 122 => ⟨S1x64x64x4x256, .f32⟩
  | 123 => ⟨S_, .f32⟩
  | 124 => ⟨S1x64x4x64x64, .f32⟩
  | 125 => ⟨S1x64x4x64x64, .f32⟩
  | 126 => ⟨S1x64x4x64x64, .f32⟩
  | 127 => ⟨S1x64x4x64x128, .f32⟩
  | _ => ⟨S4096x1024, .f32⟩

abbrev hbmTy0_2 (i : Nat) : BufTy := match i % 128 with
  | 0 => ⟨S1x64x64x4x128, .f32⟩
  | 1 => ⟨S1x64x4x64x128, .f32⟩
  | 2 => ⟨S1x64x64x4x128, .f32⟩
  | 3 => ⟨S1x64x64x4x128, .f32⟩
  | 4 => ⟨S1x64x64x4x128, .f32⟩
  | 5 => ⟨S1x64x64x4x128, .f32⟩
  | 6 => ⟨S1x64x64x4x128, .f32⟩
  | 7 => ⟨S1x64x64x4x128, .f32⟩
  | 8 => ⟨S1x64x64x4x128, .f32⟩
  | 9 => ⟨S1x64x64x4x128, .f32⟩
  | 10 => ⟨S1x64x4x64x128, .f32⟩
  | 11 => ⟨S1x64x64x4x128, .f32⟩
  | 12 => ⟨S1x64x4x64x128, .f32⟩
  | 13 => ⟨S1x64x64x4x128, .f32⟩
  | 14 => ⟨S1x64x64x4x128, .f32⟩
  | 15 => ⟨S1x64x64x4x128, .f32⟩
  | 16 => ⟨S1x64x64x4x128, .f32⟩
  | 17 => ⟨S1x64x64x4x128, .f32⟩
  | 18 => ⟨S1x64x64x4x128, .f32⟩
  | 19 => ⟨S1x64x64x4x128, .f32⟩
  | 20 => ⟨S1x64x64x4x128, .f32⟩
  | 21 => ⟨S1x64x64x4x128, .f32⟩
  | 22 => ⟨S1x64x64x4x128, .f32⟩
  | 23 => ⟨S1x64x64x4x128, .f32⟩
  | 24 => ⟨S1x64x64x4x128, .f32⟩
  | 25 => ⟨S1x64x64x4x128, .f32⟩
  | 26 => ⟨S1x64x64x4x128, .f32⟩
  | 27 => ⟨S_, .f32⟩
  | 28 => ⟨S1x64x64x4x128, .f32⟩
  | 29 => ⟨S1x64x64x4x128, .f32⟩
  | 30 => ⟨S4096x512, .f32⟩
  | 31 => ⟨S4096x1024, .f32⟩
  | 32 => ⟨S4096x512, .f32⟩
  | 33 => ⟨S_, .f32⟩
  | 34 => ⟨S1x64x64x4x128, .f32⟩
  | 35 => ⟨S1x64x64x4x128, .f32⟩
  | 36 => ⟨S4096x512, .f32⟩
  | 37 => ⟨S4096x512, .bf16⟩
  | 38 => ⟨S4096x512, .bf16⟩
  | 39 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_1 : Ref sig .tc := ⟨.hbm, 29, rfl⟩
abbrev main_v24_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_c : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev main_v42_5 : Ref sig .tc := ⟨.hbm, 58, rfl⟩
abbrev main_v42_6 : Ref sig .tc := ⟨.hbm, 59, rfl⟩
abbrev main_v42_7 : Ref sig .tc := ⟨.hbm, 60, rfl⟩
abbrev main_v42_8 : Ref sig .tc := ⟨.hbm, 61, rfl⟩
abbrev main_while0c_c_22 : Ref sig .tc := ⟨.hbm, 62, rfl⟩
abbrev main_while0c_v115 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_c_2 : Ref sig .tc := ⟨.hbm, 67, rfl⟩
abbrev main_while0b_call1_v0 : Ref sig .tc := ⟨.hbm, 68, rfl⟩
abbrev main_while0b_v115 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_call2_c_2 : Ref sig .tc := ⟨.hbm, 73, rfl⟩
abbrev main_while0b_call2_v0 : Ref sig .tc := ⟨.hbm, 74, rfl⟩
abbrev main_while0b_v116 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_c_2 : Ref sig .tc := ⟨.hbm, 79, rfl⟩
abbrev main_while0b_call3_v0 : Ref sig .tc := ⟨.hbm, 80, rfl⟩
abbrev main_while0b_v117 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_v0 : Ref sig .tc := ⟨.hbm, 85, rfl⟩
abbrev main_while0b_v118 : Ref sig .tc := ⟨.hbm, 86, rfl⟩
abbrev main_while0b_v119 : Ref sig .tc := ⟨.hbm, 87, rfl⟩
abbrev main_while0b_v120 : Ref sig .tc := ⟨.hbm, 88, rfl⟩
abbrev main_while0b_v121 : Ref sig .tc := ⟨.hbm, 89, rfl⟩
abbrev main_while0b_v122 : Ref sig .tc := ⟨.hbm, 90, rfl⟩
abbrev main_while0b_v123 : Ref sig .tc := ⟨.hbm, 91, rfl⟩
abbrev main_while0b_v124 : Ref sig .tc := ⟨.hbm, 92, rfl⟩
abbrev main_while0b_v125 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_v126 : Ref sig .tc := ⟨.hbm, 99, rfl⟩
abbrev main_while0b_call6_v0 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_c_2 : Ref sig .tc := ⟨.hbm, 104, rfl⟩
abbrev main_while0b_v127 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v128 : Ref sig .tc := ⟨.hbm, 111, rfl⟩
abbrev main_while0b_c_22 : Ref sig .tc := ⟨.hbm, 112, rfl⟩
abbrev main_while0b_v129 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_cst_4 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_cst_5 : Ref sig .tc := ⟨.hbm, 121, rfl⟩
abbrev main_v49 : Ref sig .tc := ⟨.hbm, 122, rfl⟩
abbrev main_cst_6 : Ref sig .tc := ⟨.hbm, 123, rfl⟩
abbrev main_v50 : Ref sig .tc := ⟨.hbm, 124, rfl⟩
abbrev main_cst_7 : Ref sig .tc := ⟨.hbm, 125, rfl⟩
abbrev main_v51 : Ref sig .tc := ⟨.hbm, 126, rfl⟩
abbrev main_cst_8 : Ref sig .tc := ⟨.hbm, 127, rfl⟩
abbrev main_v52 : Ref sig .tc := ⟨.hbm, 128, rfl⟩
abbrev main_cst_9 : Ref sig .tc := ⟨.hbm, 129, rfl⟩
abbrev main_v53 : Ref sig .tc := ⟨.hbm, 130, rfl⟩
abbrev main_c_10 : Ref sig .tc := ⟨.hbm, 131, rfl⟩
abbrev main_v54_0 : Ref sig .tc := ⟨.hbm, 132, rfl⟩
abbrev main_v54_1 : Ref sig .tc := ⟨.hbm, 133, rfl⟩
abbrev main_v54_2 : Ref sig .tc := ⟨.hbm, 134, rfl⟩
abbrev main_v54_3 : Ref sig .tc := ⟨.hbm, 135, rfl⟩
abbrev main_v54_4 : Ref sig .tc := ⟨.hbm, 136, rfl⟩
abbrev main_v54_5 : Ref sig .tc := ⟨.hbm, 137, rfl⟩
abbrev main_v54_6 : Ref sig .tc := ⟨.hbm, 138, rfl⟩
abbrev main_v54_7 : Ref sig .tc := ⟨.hbm, 139, rfl⟩
abbrev main_v54_8 : Ref sig .tc := ⟨.hbm, 140, rfl⟩
abbrev main_v54_9 : Ref sig .tc := ⟨.hbm, 141, rfl⟩
abbrev main_v54_10 : Ref sig .tc := ⟨.hbm, 142, rfl⟩
abbrev main_v54_11 : Ref sig .tc := ⟨.hbm, 143, rfl⟩
abbrev main_while1c_c_25 : Ref sig .tc := ⟨.hbm, 144, rfl⟩
abbrev main_while1c_v115 : Ref sig .tc := ⟨.hbm, 145, rfl⟩
abbrev main_while1b_c_25 : Ref sig .tc := ⟨.hbm, 146, rfl⟩
abbrev main_while1b_v115 : Ref sig .tc := ⟨.hbm, 147, rfl⟩
abbrev main_while1b_c_26 : Ref sig .tc := ⟨.hbm, 148, rfl⟩
abbrev main_while1b_v116 : Ref sig .tc := ⟨.hbm, 149, rfl⟩
abbrev main_while1b_call8_c : Ref sig .tc := ⟨.hbm, 150, rfl⟩
abbrev main_while1b_call8_c_0 : Ref sig .tc := ⟨.hbm, 151, rfl⟩
abbrev main_while1b_call8_c_1 : Ref sig .tc := ⟨.hbm, 152, rfl⟩
abbrev main_while1b_call8_c_2 : Ref sig .tc := ⟨.hbm, 153, rfl⟩
abbrev main_while1b_call8_v0 : Ref sig .tc := ⟨.hbm, 154, rfl⟩
abbrev main_while1b_v117 : Ref sig .tc := ⟨.hbm, 155, rfl⟩
abbrev main_while1b_call9_c : Ref sig .tc := ⟨.hbm, 156, rfl⟩
abbrev main_while1b_call9_c_0 : Ref sig .tc := ⟨.hbm, 157, rfl⟩
abbrev main_while1b_call9_c_1 : Ref sig .tc := ⟨.hbm, 158, rfl⟩
abbrev main_while1b_call9_c_2 : Ref sig .tc := ⟨.hbm, 159, rfl⟩
abbrev main_while1b_call9_v0 : Ref sig .tc := ⟨.hbm, 160, rfl⟩
abbrev main_while1b_v118 : Ref sig .tc := ⟨.hbm, 161, rfl⟩
abbrev main_while1b_call10_c : Ref sig .tc := ⟨.hbm, 162, rfl⟩
abbrev main_while1b_call10_c_0 : Ref sig .tc := ⟨.hbm, 163, rfl⟩
abbrev main_while1b_call10_c_1 : Ref sig .tc := ⟨.hbm, 164, rfl⟩
abbrev main_while1b_call10_c_2 : Ref sig .tc := ⟨.hbm, 165, rfl⟩
abbrev main_while1b_call10_v0 : Ref sig .tc := ⟨.hbm, 166, rfl⟩
abbrev main_while1b_v119 : Ref sig .tc := ⟨.hbm, 167, rfl⟩
abbrev main_while1b_call11_c : Ref sig .tc := ⟨.hbm, 168, rfl⟩
abbrev main_while1b_call11_c_0 : Ref sig .tc := ⟨.hbm, 169, rfl⟩
abbrev main_while1b_call11_c_1 : Ref sig .tc := ⟨.hbm, 170, rfl⟩
abbrev main_while1b_call11_c_2 : Ref sig .tc := ⟨.hbm, 171, rfl⟩
abbrev main_while1b_call11_v0 : Ref sig .tc := ⟨.hbm, 172, rfl⟩
abbrev main_while1b_v120 : Ref sig .tc := ⟨.hbm, 173, rfl⟩
abbrev main_while1b_call12_c : Ref sig .tc := ⟨.hbm, 174, rfl⟩
abbrev main_while1b_call12_c_0 : Ref sig .tc := ⟨.hbm, 175, rfl⟩
abbrev main_while1b_call12_c_1 : Ref sig .tc := ⟨.hbm, 176, rfl⟩
abbrev main_while1b_call12_c_2 : Ref sig .tc := ⟨.hbm, 177, rfl⟩
abbrev main_while1b_call12_v0 : Ref sig .tc := ⟨.hbm, 178, rfl⟩
abbrev main_while1b_v121 : Ref sig .tc := ⟨.hbm, 179, rfl⟩
abbrev main_while1b_call13_c : Ref sig .tc := ⟨.hbm, 180, rfl⟩
abbrev main_while1b_call13_c_0 : Ref sig .tc := ⟨.hbm, 181, rfl⟩
abbrev main_while1b_call13_c_1 : Ref sig .tc := ⟨.hbm, 182, rfl⟩
abbrev main_while1b_call13_c_2 : Ref sig .tc := ⟨.hbm, 183, rfl⟩
abbrev main_while1b_call13_v0 : Ref sig .tc := ⟨.hbm, 184, rfl⟩
abbrev main_while1b_v122 : Ref sig .tc := ⟨.hbm, 185, rfl⟩
abbrev main_while1b_v123 : Ref sig .tc := ⟨.hbm, 186, rfl⟩
abbrev main_while1b_v124 : Ref sig .tc := ⟨.hbm, 187, rfl⟩
abbrev main_while1b_v125 : Ref sig .tc := ⟨.hbm, 188, rfl⟩
abbrev main_while1b_v126 : Ref sig .tc := ⟨.hbm, 189, rfl⟩
abbrev main_while1b_v127 : Ref sig .tc := ⟨.hbm, 190, rfl⟩
abbrev main_while1b_cst_27 : Ref sig .tc := ⟨.hbm, 191, rfl⟩
abbrev main_while1b_v128 : Ref sig .tc := ⟨.hbm, 192, rfl⟩
abbrev main_while1b_v129 : Ref sig .tc := ⟨.hbm, 193, rfl⟩
abbrev main_while1b_v130 : Ref sig .tc := ⟨.hbm, 194, rfl⟩
abbrev main_while1b_v131 : Ref sig .tc := ⟨.hbm, 195, rfl⟩
abbrev main_while1b_cst_28 : Ref sig .tc := ⟨.hbm, 196, rfl⟩
abbrev main_while1b_v132 : Ref sig .tc := ⟨.hbm, 197, rfl⟩
abbrev main_while1b_v133 : Ref sig .tc := ⟨.hbm, 198, rfl⟩
abbrev main_while1b_v134 : Ref sig .tc := ⟨.hbm, 199, rfl⟩
abbrev main_while1b_v135 : Ref sig .tc := ⟨.hbm, 200, rfl⟩
abbrev main_while1b_v136 : Ref sig .tc := ⟨.hbm, 201, rfl⟩
abbrev main_while1b_v137 : Ref sig .tc := ⟨.hbm, 202, rfl⟩
abbrev main_while1b_v138 : Ref sig .tc := ⟨.hbm, 203, rfl⟩
abbrev main_while1b_v139 : Ref sig .tc := ⟨.hbm, 204, rfl⟩
abbrev main_while1b_call14_v0 : Ref sig .tc := ⟨.hbm, 205, rfl⟩
abbrev main_while1b_call14_c : Ref sig .tc := ⟨.hbm, 206, rfl⟩
abbrev main_while1b_call14_c_0 : Ref sig .tc := ⟨.hbm, 207, rfl⟩
abbrev main_while1b_call14_c_1 : Ref sig .tc := ⟨.hbm, 208, rfl⟩
abbrev main_while1b_call14_c_2 : Ref sig .tc := ⟨.hbm, 209, rfl⟩
abbrev main_while1b_v140 : Ref sig .tc := ⟨.hbm, 210, rfl⟩
abbrev main_while1b_call15_v0 : Ref sig .tc := ⟨.hbm, 211, rfl⟩
abbrev main_while1b_call15_c : Ref sig .tc := ⟨.hbm, 212, rfl⟩
abbrev main_while1b_call15_c_0 : Ref sig .tc := ⟨.hbm, 213, rfl⟩
abbrev main_while1b_call15_c_1 : Ref sig .tc := ⟨.hbm, 214, rfl⟩
abbrev main_while1b_call15_c_2 : Ref sig .tc := ⟨.hbm, 215, rfl⟩
abbrev main_while1b_v141 : Ref sig .tc := ⟨.hbm, 216, rfl⟩
abbrev main_while1b_call16_v0 : Ref sig .tc := ⟨.hbm, 217, rfl⟩
abbrev main_while1b_call16_c : Ref sig .tc := ⟨.hbm, 218, rfl⟩
abbrev main_while1b_call16_c_0 : Ref sig .tc := ⟨.hbm, 219, rfl⟩
abbrev main_while1b_call16_c_1 : Ref sig .tc := ⟨.hbm, 220, rfl⟩
abbrev main_while1b_call16_c_2 : Ref sig .tc := ⟨.hbm, 221, rfl⟩
abbrev main_while1b_v142 : Ref sig .tc := ⟨.hbm, 222, rfl⟩
abbrev main_while1b_call17_v0 : Ref sig .tc := ⟨.hbm, 223, rfl⟩
abbrev main_while1b_call17_c : Ref sig .tc := ⟨.hbm, 224, rfl⟩
abbrev main_while1b_call17_c_0 : Ref sig .tc := ⟨.hbm, 225, rfl⟩
abbrev main_while1b_call17_c_1 : Ref sig .tc := ⟨.hbm, 226, rfl⟩
abbrev main_while1b_v143 : Ref sig .tc := ⟨.hbm, 227, rfl⟩
abbrev main_while1b_c_29 : Ref sig .tc := ⟨.hbm, 228, rfl⟩
abbrev main_while1b_v144 : Ref sig .tc := ⟨.hbm, 229, rfl⟩
abbrev main_v55 : Ref sig .tc := ⟨.hbm, 230, rfl⟩
abbrev main_v56 : Ref sig .tc := ⟨.hbm, 231, rfl⟩
abbrev main_v57 : Ref sig .tc := ⟨.hbm, 232, rfl⟩
abbrev main_v58 : Ref sig .tc := ⟨.hbm, 233, rfl⟩
abbrev main_v59 : Ref sig .tc := ⟨.hbm, 234, rfl⟩
abbrev main_v60 : Ref sig .tc := ⟨.hbm, 235, rfl⟩
abbrev main_v61 : Ref sig .tc := ⟨.hbm, 236, rfl⟩
abbrev main_v62 : Ref sig .tc := ⟨.hbm, 237, rfl⟩
abbrev main_v63 : Ref sig .tc := ⟨.hbm, 238, rfl⟩
abbrev main_cst_11 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_v74 : Ref sig .tc := ⟨.hbm, 250, rfl⟩
abbrev main_call18_cst : Ref sig .tc := ⟨.hbm, 251, rfl⟩
abbrev main_call18_v0 : Ref sig .tc := ⟨.hbm, 252, rfl⟩
abbrev main_v75_1 : Ref sig .tc := ⟨.hbm, 253, rfl⟩
abbrev main_v75_0 : Ref sig .tc := ⟨.hbm, 254, rfl⟩
abbrev main_v76 : Ref sig .tc := ⟨.hbm, 255, rfl⟩
abbrev main_v77 : Ref sig .tc := ⟨.hbm, 256, rfl⟩
abbrev main_v78 : Ref sig .tc := ⟨.hbm, 257, rfl⟩
abbrev main_v79 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_v83 : Ref sig .tc := ⟨.hbm, 262, rfl⟩
abbrev main_v84 : Ref sig .tc := ⟨.hbm, 263, rfl⟩
abbrev main_v85 : Ref sig .tc := ⟨.hbm, 264, rfl⟩
abbrev main_v86 : Ref sig .tc := ⟨.hbm, 265, rfl⟩
abbrev main_v87 : Ref sig .tc := ⟨.hbm, 266, rfl⟩
abbrev main_v88 : Ref sig .tc := ⟨.hbm, 267, rfl⟩
abbrev main_v89 : Ref sig .tc := ⟨.hbm, 268, rfl⟩
abbrev main_v90 : Ref sig .tc := ⟨.hbm, 269, rfl⟩
abbrev main_v91 : Ref sig .tc := ⟨.hbm, 270, rfl⟩
abbrev main_v92 : Ref sig .tc := ⟨.hbm, 271, rfl⟩
abbrev main_v93 : Ref sig .tc := ⟨.hbm, 272, rfl⟩
abbrev main_v94 : Ref sig .tc := ⟨.hbm, 273, rfl⟩
abbrev main_v95 : Ref sig .tc := ⟨.hbm, 274, rfl⟩
abbrev main_v96 : Ref sig .tc := ⟨.hbm, 275, rfl⟩
abbrev main_v97 : Ref sig .tc := ⟨.hbm, 276, rfl⟩
abbrev main_v98 : Ref sig .tc := ⟨.hbm, 277, rfl⟩
abbrev main_v99 : Ref sig .tc := ⟨.hbm, 278, rfl⟩
abbrev main_v100 : Ref sig .tc := ⟨.hbm, 279, rfl⟩
abbrev main_v101 : Ref sig .tc := ⟨.hbm, 280, rfl⟩
abbrev main_v102 : Ref sig .tc := ⟨.hbm, 281, rfl⟩
abbrev main_v103 : Ref sig .tc := ⟨.hbm, 282, rfl⟩
abbrev main_cst_12 : Ref sig .tc := ⟨.hbm, 283, rfl⟩
abbrev main_v104 : Ref sig .tc := ⟨.hbm, 284, rfl⟩
abbrev main_v105 : Ref sig .tc := ⟨.hbm, 285, rfl⟩
abbrev main_v106 : Ref sig .tc := ⟨.hbm, 286, rfl⟩
abbrev main_v107 : Ref sig .tc := ⟨.hbm, 287, rfl⟩
abbrev main_v108 : Ref sig .tc := ⟨.hbm, 288, rfl⟩
abbrev main_cst_13 : Ref sig .tc := ⟨.hbm, 289, rfl⟩
abbrev main_v109 : Ref sig .tc := ⟨.hbm, 290, rfl⟩
abbrev main_v110 : Ref sig .tc := ⟨.hbm, 291, rfl⟩
abbrev main_v111 : Ref sig .tc := ⟨.hbm, 292, rfl⟩
abbrev main_v112 : Ref sig .tc := ⟨.hbm, 293, rfl⟩
abbrev main_v113 : Ref sig .tc := ⟨.hbm, 294, rfl⟩
abbrev main_v114 : Ref sig .tc := ⟨.hbm, 295, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x1024 : Shape := ⟨2, ![4096, 1024]⟩
abbrev S1x256 : Shape := ⟨2, ![1, 256]⟩
abbrev S1024x1024 : Shape := ⟨2, ![1024, 1024]⟩
abbrev S1024 : Shape := ⟨1, ![1024]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 17
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x256, .f32⟩
  | .hbm, ⟨5, _⟩ => ⟨S1024x1024, .f32⟩
  | .hbm, ⟨6, _⟩ => ⟨S1024, .f32⟩
  | .hbm, ⟨7, _⟩ => ⟨S1x1x1x256, .f32⟩
  | .hbm, ⟨8, _⟩ => ⟨S1x1x4x256, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S1024x1024, .f32⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x256 : Shape := ⟨2, ![1, 256]⟩
abbrev S1024x1024 : Shape := ⟨2, ![1024, 1024]⟩
abbrev S1024 : Shape := ⟨1, ![1024]⟩
abbrev S256 : Shape := ⟨1, ![256]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1x1x256 : Shape := ⟨3, ![1, 1, 256]⟩
abbrev S4096 : Shape := ⟨1, ![4096]⟩
abbrev S4096x1 : Shape := ⟨2, ![4096, 1]⟩
abbrev S1x1024 : Shape := ⟨2, ![1, 1024]⟩
abbrev S5x1024 : Shape := ⟨2, ![5, 1024]⟩
abbrev S8x1024 : Shape := ⟨2, ![8, 1024]⟩

abbrev nBuf : Space → Nat
  | .hbm => 161
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1x256, .f32⟩
  | 5 => ⟨S1024x1024, .f32⟩
  | 6 => ⟨S1024, .f32⟩
  | 7 => ⟨S256, .f32⟩
  | 8 => ⟨S4096x4x256, .f32⟩
  | 9 => ⟨S4096x4x256, .f32⟩
  | 10 => ⟨S_, .f32⟩
  | 11 => ⟨S4096x4, .f32⟩
  | 12 => ⟨S4096x4x1, .f32⟩
  | 13 => ⟨S_, .f32⟩
  | 14 => ⟨S4096x4x1, .f32⟩
  | 15 => ⟨S4096x4x1, .f32⟩
  | 16 => ⟨S_, .f32⟩
  | 17 => ⟨S4096x4x1, .f32⟩
  | 18 => ⟨S4096x4x1, .f32⟩
  | 19 => ⟨S4096x4x1, .f32⟩
  | 20 => ⟨S4096x4x1, .f32⟩
  | 21 => ⟨S_, .f32⟩
  | 22 => ⟨S4096x4x1, .f32⟩
  | 23 => ⟨S4096x4x1, .f32⟩
  | 24 => ⟨S4096x4x256, .f32⟩
  | 25 => ⟨S4096x4x256, .f32⟩
  | 26 => ⟨S1x1x256, .f32⟩
  | 27 => ⟨S4096x4x256, .f32⟩
  | 28 => ⟨S4096x4x256, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S_, .f32⟩
  | 96 => ⟨S1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S1024x1024, .f32⟩
  | 115 => ⟨S1024x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x4x256, .f32⟩
  | 124 => ⟨S4096x4x256, .f32⟩
  | 125 => ⟨S_, .f32⟩
  | 126 => ⟨S256, .f32⟩
  | 127 => ⟨S1x1x256, .f32⟩
  | _ => ⟨S4096x1024, .f32⟩

abbrev hbmTy0_1 (i : Nat) : BufTy := match i % 128 with
  | 0 => ⟨S4096x4x256, .f32⟩
  | 1 => ⟨S4096x4x256, .f32⟩
  | 2 => ⟨S_, .f32⟩
  | 3 => ⟨S256, .f32⟩
  | 4 => ⟨S4096x4x256, .f32⟩
  | 5 => ⟨S_, .f32⟩
  | 6 => ⟨S4096x4, .f32⟩
  | 7 => ⟨S4096x4x1, .f32⟩
  | 8 => ⟨S4096x4x256, .f32⟩
  | 9 => ⟨S4096x4x256, .f32⟩
  | 10 => ⟨S4096x4x1, .f32⟩
  | 11 => ⟨S_, .f32⟩
  | 12 => ⟨S4096x4x1, .f32⟩
  | 13 => ⟨S4096x4x1, .f32⟩
  | 14 => ⟨S_, .f32⟩
  | 15 => ⟨S4096x4, .f32⟩
  | 16 => ⟨S4096x4x256, .f32⟩
  | 17 => ⟨S4096x4x256, .f32⟩
  | 18 => ⟨S4096x4x256, .f32⟩
  | 19 => ⟨S4096x4x256, .f32⟩
  | 20 => ⟨S4096x4x256, .f32⟩
  | 21 => ⟨S4096x1024, .f32⟩
  | 22 => ⟨S1x1024, .f32⟩
  | 23 => ⟨S1x256, .f32⟩
  | 24 => ⟨S_, .i32⟩
  | 25 => ⟨S_, .f32⟩
  | 26 => ⟨S1x1024, .f32⟩
  | 27 => ⟨S1x1024, .f32⟩
  | 28 => ⟨S_, .f32⟩
  | 29 => ⟨S5x1024, .f32⟩
  | 30 => ⟨S8x1024, .f32⟩
  | 31 => ⟨S4096x1024, .bf16⟩
  | 32 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_cst_12 : Ref sig .tc := ⟨.hbm, 80, rfl⟩
abbrev main_cst_13 : Ref sig .tc := ⟨.hbm, 81, rfl⟩
abbrev main_v48 : Ref sig .tc := ⟨.hbm, 82, rfl⟩
abbrev main_v49 : Ref sig .tc := ⟨.hbm, 83, rfl⟩
abbrev main_cst_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_18 : Ref sig .tc := ⟨.hbm, 104, rfl⟩
abbrev main_v66 : Ref sig .tc := ⟨.hbm, 105, rfl⟩
abbrev main_v67 : Ref sig .tc := ⟨.hbm, 106, rfl⟩
abbrev main_cst_19 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_cst_22 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_cst_24 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c : Ref sig .tc := ⟨.hbm, 152, rfl⟩
abbrev main_call2_v0 : Ref sig .tc := ⟨.hbm, 153, rfl⟩
abbrev main_v104 : Ref sig .tc := ⟨.hbm, 154, rfl⟩
abbrev main_v105 : Ref sig .tc := ⟨.hbm, 155, rfl⟩
abbrev main_cst_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩

abbrev nD : Nat := 1
abbrev τ : Topo := Topo.v7x

variable {F : FTy → Type} [FloatOps F]
-- ==== Kernel3.lean ====
abbrev S4096x512 : Shape := ⟨2, ![4096, 512]⟩
abbrev S4096x1024 : Shape := ⟨2, ![4096, 1024]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S1024x4x772 : Shape := ⟨3, ![1024, 4, 772]⟩
abbrev S4x1024x772 : Shape := ⟨3, ![4, 1024, 772]⟩
abbrev S_ : Shape := ⟨0, ![]⟩
abbrev S128x512 : Shape := ⟨2, ![128, 512]⟩
abbrev S1024x16 : Shape := ⟨2, ![1024, 16]⟩
abbrev S1024x128 : Shape := ⟨2, ![1024, 128]⟩
abbrev S4096 : Shape := ⟨1, ![4096]⟩
abbrev S4096x1 : Shape := ⟨2, ![4096, 1]⟩
abbrev S4096x128 : Shape := ⟨2, ![4096, 128]⟩
abbrev S4096x3200 : Shape := ⟨2, ![4096, 3200]⟩
abbrev S8x1024 : Shape := ⟨2, ![8, 1024]⟩
abbrev S512x512 : Shape := ⟨2, ![512, 512]⟩
abbrev S512x1024 : Shape := ⟨2, ![512, 1024]⟩
abbrev S512x128 : Shape := ⟨2, ![512, 128]⟩
abbrev S512x3200 : Shape := ⟨2, ![512, 3200]⟩
abbrev S1024x3200 : Shape := ⟨2, ![1024, 3200]⟩
abbrev S256x112 : Shape := ⟨2, ![256, 112]⟩
abbrev S1x256x772 : Shape := ⟨3, ![1, 256, 772]⟩
abbrev S256x772 : Shape := ⟨2, ![256, 772]⟩
abbrev S256x3200 : Shape := ⟨2, ![256, 3200]⟩
abbrev S64x64 : Shape := ⟨2, ![64, 64]⟩
abbrev S64x512 : Shape := ⟨2, ![64, 512]⟩
abbrev S512 : Shape := ⟨1, ![512]⟩
abbrev S1024x512 : Shape := ⟨2, ![1024, 512]⟩
abbrev S1024x1024 : Shape := ⟨2, ![1024, 1024]⟩
abbrev S512x1 : Shape := ⟨2, ![512, 1]⟩
abbrev S1024 : Shape := ⟨1, ![1024]⟩

abbrev nBuf : Space → Nat
  | .hbm => 49
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x3088, .f32⟩
  | .hbm, ⟨9, _⟩ => ⟨S16x512, .f32⟩
  | .hbm, ⟨10, _⟩ => ⟨S1x512, .f32⟩
  | .hbm, ⟨11, _⟩ => ⟨S1024x4x772, .f32⟩
  | .hbm, ⟨12, _⟩ => ⟨S4x1024x772, .f32⟩
  | .hbm, ⟨13, _⟩ => ⟨S4x1024x772, .bf16⟩
  | .hbm, ⟨14, _⟩ => ⟨S_, .i32⟩
  | .hbm, ⟨15, _⟩ => ⟨S_, .f32⟩
  | .hbm, ⟨16, _⟩ => ⟨S128x512, .f32⟩
  | .hbm, ⟨17, _⟩ => ⟨S128x512, .bf16⟩
  | .hbm, ⟨18, _⟩ => ⟨S1024x16, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x128, .f32⟩
  | .hbm, ⟨40, _⟩ => ⟨S4096x128, .bf16⟩
  | .hbm, ⟨41, _⟩ => ⟨S4096x512, .bf16⟩
  | .hbm, ⟨42, _⟩ => ⟨S4096x512, .bf16⟩
  | .hbm, ⟨43, _⟩ => ⟨S4096x1024, .bf16⟩
  | .hbm, ⟨44, _⟩ => ⟨S4096x1024, .bf16⟩
  | .hbm, ⟨45, _⟩ => ⟨S4096x1024, .f32⟩
  | .hbm, ⟨46, _⟩ => ⟨S4096x3200, .bf16⟩
  | .hbm, ⟨47, _⟩ => ⟨S128x512, .f32⟩
  | .hbm, ⟨48, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x128, .bf16⟩
  | .local _ .vmem, ⟨11, _⟩ => ⟨S512x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S4x1024x772, .bf16⟩
  | .local _ .vmem, ⟨18, _⟩ => ⟨S128x512, .bf16⟩
  | .local _ .vmem, ⟨19, _⟩ => ⟨S1x512, .f32⟩
  | .local _ .vmem, ⟨20, _⟩ => ⟨S512x1024, .f32⟩
  | .local _ .vmem, ⟨21, _⟩ => ⟨S512x1024, .f32⟩
  | .local _ .vmem, ⟨22, _⟩ => ⟨S512x3200, .bf16⟩
  | .local _ .vmem, ⟨23, _⟩ => ⟨S512x3200, .bf16⟩
  | .local _ .vmem, ⟨24, _⟩ => ⟨S128x512, .f32⟩
  | .local _ .vmem, ⟨25, _⟩ => ⟨S8x1024, .f32⟩
  | .local _ .vmem, ⟨26, _⟩ => ⟨S1024x3200, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x772 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3200 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4096x512 : Shape := ⟨2, ![4096, 512]⟩
abbrev S4096x1024 : Shape := ⟨2, ![4096, 1024]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3088 : Shape := ⟨2, ![4096, 3088]⟩
abbrev S512 : Shape := ⟨1, ![512]⟩
abbrev S4096x16 : Shape := ⟨2, ![4096, 16]⟩
abbrev S64x64x512 : Shape := ⟨3, ![64, 64, 512]⟩
abbrev S512x16 : Shape := ⟨2, ![512, 16]⟩
abbrev S6x1024 : Shape := ⟨2, ![6, 1024]⟩
abbrev S8x1024 : Shape := ⟨2, ![8, 1024]⟩
abbrev S4096x3200 : Shape := ⟨2, ![4096, 3200]⟩
abbrev S128x512 : Shape := ⟨2, ![128, 512]⟩

abbrev nBuf : Space → Nat
  | .hbm => 161
  | .vmem => 0
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S4096x1024, .f32⟩
  | 4 => ⟨S4096x512, .f32⟩
  | 5 => ⟨S4096x1024, .f32⟩
  | 6 => ⟨S4096x1024, .f32⟩
  | 7 => ⟨S1x1024, .f32⟩
  | 8 => ⟨S1024x3088, .f32⟩
  | 9 => ⟨S16x512, .f32⟩
  | 10 => ⟨S1x512, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x3088, .f32⟩
  | 33 => ⟨S512, .f32⟩
  | 34 => ⟨S4096x512, .f32⟩
  | 35 => ⟨S4096x512, .f32⟩
  | 36 => ⟨S4096x1024, .f32⟩
  | 37 => ⟨S4096x1024, .f32⟩
  | 38 => ⟨S4096x16, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S4096x512, .f32⟩
  | 49 => ⟨S4096x512, .i1⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .i1⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .i1⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S_, .f32⟩
  | 73 => ⟨S_, .f32⟩
  | 74 => ⟨S_, .i1⟩
  | 75 => ⟨S_, .f32⟩
  | 76 => ⟨S_, .f32⟩
  | 77 => ⟨S_, .f32⟩
  | 78 => ⟨S_, .f32⟩
  | 79 => ⟨S4096x512, .f32⟩
  | 80 => ⟨S4096x512, .i1⟩
  | 81 => ⟨S_, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S64x64x512, .f32⟩
  | 95 => ⟨S_, .f32⟩
  | 96 => ⟨S_, .f32⟩
  | 97 => ⟨S64x64x512, .f32⟩
  | 98 => ⟨S4096x512, .f32⟩
  | 99 => ⟨S64x64x512, .f32⟩
  | 100 => ⟨S_, .f32⟩
  | 101 => ⟨S_, .f32⟩
  | 102 => ⟨S64x64x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S512x16, .f32⟩
  | 116 => ⟨S16x512, .f32⟩
  | 117 => ⟨S4096x16, .f32⟩
  | 118 => ⟨S4096x3088, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x512, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S1x1024, .f32⟩
  | 19 => ⟨S1x512, .f32⟩
  | 20 => ⟨S_, .i32⟩
  | 21 => ⟨S_, .f32⟩
  | 22 => ⟨S1x1024, .f32⟩
  | 23 => ⟨S_, .f32⟩
  | 24 => ⟨S6x1024, .f32⟩
  | 25 => ⟨S8x1024, .f32⟩
  | 26 => ⟨S_, .i32⟩
  | 27 => ⟨S_, .f32⟩
  | 28 => ⟨S4096x3200, .f32⟩
  | 29 => ⟨S4096x3200, .bf16⟩
  | 30 => ⟨S_, .i32⟩
  | 31 => ⟨S_, .f32⟩
  | 32 => ⟨S128x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1_0 : Ref sig .tc := ⟨.hbm, 57, rfl⟩
abbrev main_call0_call0_cst_0 : Ref sig .tc := ⟨.hbm, 58, rfl⟩
abbrev main_call0_call0_v13 : Ref sig .tc := ⟨.hbm, 59, rfl⟩
abbrev main_call0_call0_v14 : Ref sig .tc := ⟨.hbm, 60, rfl⟩
abbrev main_call0_call0_cst_1 : Ref sig .tc := ⟨.hbm, 61, rfl⟩
abbrev main_call0_call0_v15 : Ref sig .tc := ⟨.hbm, 62, rfl⟩
abbrev main_call0_call0_v16 : Ref sig .tc := ⟨.hbm, 63, rfl⟩
abbrev main_call0_call0_cst_2 : Ref sig .tc := ⟨.hbm, 64, rfl⟩
abbrev main_call0_call0_v17 : Ref sig .tc := ⟨.hbm, 65, rfl⟩
abbrev main_call0_call0_v18 : Ref sig .tc := ⟨.hbm, 66, rfl⟩
abbrev main_call0_call0_cst_3 : Ref sig .tc := ⟨.hbm, 67, rfl⟩
abbrev main_call0_call0_v19 : Ref sig .tc := ⟨.hbm, 68, rfl⟩
abbrev main_call0_call0_v20 : Ref sig .tc := ⟨.hbm, 69, rfl⟩
abbrev main_call0_call0_v21 : Ref sig .tc := ⟨.hbm, 70, rfl⟩
abbrev main_v28_1 : Ref sig .tc := ⟨.hbm, 71, rfl⟩
abbrev main_call0_call0_cst_4 : Ref sig .tc := ⟨.hbm, 72, rfl⟩
abbrev main_call0_call0_cst_5 : Ref sig .tc := ⟨.hbm, 73, rfl⟩
abbrev main_call0_call0_v23 : Ref sig .tc := ⟨.hbm, 74, rfl⟩
abbrev main_call0_call0_cst_6 : Ref sig .tc := ⟨.hbm, 75, rfl⟩
abbrev main_call0_call0_cst_7 : Ref sig .tc := ⟨.hbm, 76, rfl⟩
abbrev main_call0_call0_v24 : Ref sig .tc := ⟨.hbm, 77, rfl⟩
abbrev main_call0_call0_cst_8 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_cst_9 : Ref sig .tc := ⟨.hbm, 81, rfl⟩
abbrev main_call0_call0_v27 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_cst_10 : Ref sig .tc := ⟨.hbm, 87, rfl⟩
abbrev main_call0_call0_v32 : Ref sig .tc := ⟨.hbm, 88, rfl⟩
abbrev main_v28_2 : Ref sig .tc := ⟨.hbm, 89, rfl⟩
abbrev main_v28_0 : Ref sig .tc := ⟨.hbm, 90, rfl⟩
abbrev main_cst_3 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_call1_call0_cst : Ref sig .tc := ⟨.hbm, 95, rfl⟩
abbrev main_call1_call0_v0 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_call2_call0_cst : Ref sig .tc := ⟨.hbm, 100, rfl⟩
abbrev main_call2_call0_v0 : Ref sig .tc := ⟨.hbm, 101, rfl⟩
abbrev main_v35 : Ref sig .tc := ⟨.hbm, 102, rfl⟩
abbrev main_v36 : Ref sig .tc := ⟨.hbm, 103, rfl⟩
abbrev main_cst_4 : Ref sig .tc := ⟨.hbm, 104, rfl⟩
abbrev main_v37 : Ref sig .tc := ⟨.hbm, 105, rfl⟩
abbrev main_v38 : Ref sig .tc := ⟨.hbm, 106, rfl⟩
abbrev main_call3_v0 : Ref sig .tc := ⟨.hbm, 107, rfl⟩
abbrev main_call3_v1 : Ref sig .tc := ⟨.hbm, 108, rfl⟩
abbrev main_v39 : Ref sig .tc := ⟨.hbm, 109, rfl⟩
abbrev main_cst_5 : Ref sig .tc := ⟨.hbm, 110, rfl⟩
abbrev main_v40 : Ref sig .tc := ⟨.hbm, 111, rfl⟩
abbrev main_v41 : Ref sig .tc := ⟨.hbm, 112, rfl⟩
abbrev main_cst_6 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_cst_7 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_cst_8 : Ref sig .tc := ⟨.hbm, 126, rfl⟩
abbrev main_v53 : Ref sig .tc := ⟨.hbm, 127, rfl⟩
abbrev main_v54 : Ref sig .tc := ⟨.hbm, 128, rfl⟩
abbrev main_cst_9 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_cst_10 : Ref sig .tc := ⟨.hbm, 136, rfl⟩
abbrev main_v61 : Ref sig .tc := ⟨.hbm, 137, rfl⟩
abbrev main_v62 : Ref sig .tc := ⟨.hbm, 138, rfl⟩
abbrev main_cst_11 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_c : Ref sig .tc := ⟨.hbm, 148, rfl⟩
abbrev main_call4_v0 : Ref sig .tc := ⟨.hbm, 149, rfl⟩
abbrev main_v71 : Ref sig .tc := ⟨.hbm, 150, rfl⟩
abbrev main_cst_12 : Ref sig .tc := ⟨.hbm, 151, rfl⟩
abbrev main_v72 : Ref sig .tc := ⟨.hbm, 152, rfl⟩
abbrev main_v73 : Ref sig .tc := ⟨.hbm, 153, rfl⟩
abbrev main_c_13 : Ref sig .tc := ⟨.hbm, 154, rfl⟩
abbrev main_call5_v0 : Ref sig .tc := ⟨.hbm, 155, rfl⟩
abbrev main_v74 : Ref sig .tc := ⟨.hbm, 156, rfl⟩
abbrev main_v75 : Ref sig .tc := ⟨.hbm, 157, rfl⟩
abbrev main_c_14 : Ref sig .tc := ⟨.hbm, 158, rfl⟩
abbrev main_call6_v0 : Ref sig .tc := ⟨.hbm, 159, rfl⟩
abbrev main_v76 : Ref sig .tc := ⟨.hbm, 160, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S1024x4x512 : Shape := ⟨3, ![1024, 4, 512]⟩
abbrev S4x1024x512 : Shape := ⟨3, ![4, 1024, 512]⟩
abbrev S4x4x64x256 : Shape := ⟨4, ![4, 4, 64, 256]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x256 : Shape := ⟨2, ![4096, 256]⟩
abbrev S4097x256 : Shape := ⟨2, ![4097, 256]⟩
abbrev S4098x256 : Shape := ⟨2, ![4098, 256]⟩
abbrev S4100x256 : Shape := ⟨2, ![4100, 256]⟩
abbrev S4104x256 : Shape := ⟨2, ![4104, 256]⟩
abbrev S8x1024 : Shape := ⟨2, ![8, 1024]⟩
abbrev S512x1024 : Shape := ⟨2, ![512, 1024]⟩
abbrev S512x2048 : Shape := ⟨2, ![512, 2048]⟩
abbrev S544x1024 : Shape := ⟨2, ![544, 1024]⟩
abbrev S32x1024 : Shape := ⟨2, ![32, 1024]⟩
abbrev S512x256 : Shape := ⟨2, ![512, 256]⟩
abbrev S1x64x256 : Shape := ⟨3, ![1, 64, 256]⟩
abbrev S64x256 : Shape := ⟨2, ![64, 256]⟩
abbrev S256x256 : Shape := ⟨2, ![256, 256]⟩
abbrev S1024 : Shape := ⟨1, ![1024]⟩
abbrev S512x1 : Shape := ⟨2, ![512, 1]⟩
abbrev S536x256 : Shape := ⟨2, ![536, 256]⟩
abbrev S528x256 : Shape := ⟨2, ![528, 256]⟩
abbrev S520x256 : Shape := ⟨2, ![520, 256]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 152
  | .vmem => 24
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2048, .f32⟩
  | 4 => ⟨S4x256x256, .f32⟩
  | 5 => ⟨S4x256, .f32⟩
  | 6 => ⟨S1x1024, .f32⟩
  | 7 => ⟨S1024x1024, .f32⟩
  | 8 => ⟨S1024x4x512, .f32⟩
  | 9 => ⟨S4x1024x512, .f32⟩
  | 10 => ⟨S4x1024x512, .bf16⟩
  | 11 => ⟨S4x4x64x256, .f32⟩
  | 12 => ⟨S4x4x64x256, .f32⟩
  | 13 => ⟨S4x4x64x256, .bf16⟩
  | 14 => ⟨S4x256x256, .bf16⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S4096x1024, .bf16⟩
  | 31 => ⟨S1024x2048, .bf16⟩
  | 32 => ⟨S4096x2048, .f32⟩
  | 33 => ⟨S4096x1024, .f32⟩
  | 34 => ⟨S4096x1024, .f32⟩
  | 35 => ⟨S4096, .i32⟩
  | 36 => ⟨S4096x1, .i32⟩
  | 37 => ⟨S4096x256, .f32⟩
  | 38 => ⟨S_, .i32⟩
  | 39 => ⟨S_, .f32⟩
  | 40 => ⟨S4097x256, .f32⟩
  | 41 => ⟨S4096x256, .f32⟩
  | 42 => ⟨S4096x256, .f32⟩
  | 43 => ⟨S_, .i32⟩
  | 44 => ⟨S4096x1, .i32⟩
  | 45 => ⟨S4096x1, .i32⟩
  | 46 => ⟨S_, .i32⟩
  | 47 => ⟨S4096x1, .i32⟩
  | 48 => ⟨S4096x1, .i32⟩
  | 49 => ⟨S4096x1, .f32⟩
  | 50 => ⟨S_, .f32⟩
  | 51 => ⟨S4096x1, .f32⟩
  | 52 => ⟨S4096x1, .f32⟩
  | 53 => ⟨S4096x256, .f32⟩
  | 54 => ⟨S4096x256, .f32⟩
  | 55 => ⟨S4096x256, .f32⟩
  | 56 => ⟨S4096x256, .f32⟩
  | 57 => ⟨S_, .i32⟩
  | 58 => ⟨S_, .f32⟩
  | 59 => ⟨S4097x256, .f32⟩
  | 60 => ⟨S4096x256, .f32⟩
  | 61 => ⟨S4096x256, .f32⟩
  | 62 => ⟨S_, .i32⟩
  | 63 => ⟨S_, .f32⟩
  | 64 => ⟨S4098x256, .f32⟩
  | 65 => ⟨S4096x256, .f32⟩
  | 66 => ⟨S4096x256, .f32⟩
  | 67 => ⟨S_, .i32⟩
  | 68 => ⟨S4096x1, .i32⟩
  | 69 => ⟨S4096x1, .i32⟩
  | 70 => ⟨S_, .i32⟩
  | 71 => ⟨S4096x1, .i32⟩
  | 72 => ⟨S4096x1, .i32⟩
  | 73 => ⟨S4096x1, .f32⟩
  | 74 => ⟨S_, .f32⟩
  | 75 => ⟨S4096x1, .f32⟩
  | 76 => ⟨S4096x1, .f32⟩
  | 77 => ⟨S4096x256, .f32⟩
  | 78 => ⟨S4096x256, .f32⟩
  | 79 => ⟨S4096x256, .f32⟩
  | 80 => ⟨S4096x256, .f32⟩
  | 81 => ⟨S_, .i32⟩
  | 82 => ⟨S_, .f32⟩
  | 83 => ⟨S4097x256, .f32⟩
  | 84 => ⟨S4096x256, .f32⟩
  | 85 => ⟨S4096x256, .f32⟩
  | 86 => ⟨S_, .i32⟩
  | 87 => ⟨S_, .f32⟩
  | 88 => ⟨S4098x256, .f32⟩
  | 89 => ⟨S4096x256, .f32⟩
  | 90 => ⟨S4096x256, .f32⟩
  | 91 => ⟨S_, .i32⟩
  | 92 => ⟨S_, .f32⟩
  | 93 => ⟨S4100x256, .f32⟩
  | 94 => ⟨S4096x256, .f32⟩
  | 95 => ⟨S4096x256, .f32⟩
  | 96 => ⟨S_, .i32⟩
  | 97 => ⟨S4096x1, .i32⟩
  | 98 => ⟨S4096x1, .i32⟩
  | 99 => ⟨S_, .i32⟩
  | 100 => ⟨S4096x1, .i32⟩
  | 101 => ⟨S4096x1, .i32⟩
  | 102 => ⟨S4096x1, .f32⟩
  | 103 => ⟨S_, .f32⟩
  | 104 => ⟨S4096x1, .f32⟩
  | 105 => ⟨S4096x1, .f32⟩
  | 106 => ⟨S4096x256, .f32⟩
  | 107 => ⟨S4096x256, .f32⟩
  | 108 => ⟨S4096x256, .f32⟩
  | 109 => ⟨S4096x256, .f32⟩
  | 110 => ⟨S_, .i32⟩
  | 111 => ⟨S_, .f32⟩
  | 112 => ⟨S4097x256, .f32⟩
  | 113 => ⟨S4096x256, .f32⟩
  | 114 => ⟨S4096x256, .f32⟩
  | 115 => ⟨S_, .i32⟩
  | 116 => ⟨S_, .f32⟩
  | 117 => ⟨S4098x256, .f32⟩
  | 118 => ⟨S4096x256, .f32⟩
  | 119 => ⟨S4096x256, .f32⟩
  | 120 => ⟨S_, .i32⟩
  | 121 => ⟨S_, .f32⟩
  | 122 => ⟨S4100x256, .f32⟩
  | 123 => ⟨S4096x256, .f32⟩
  | 124 => ⟨S4096x256, .f32⟩
  | 125 => ⟨S_, .i32⟩
  | 126 => ⟨S_, .f32⟩
  | 127 => ⟨S4104x256, .f32⟩
  | _ => ⟨S4096x1024, .f32⟩

abbrev hbmTy0_1 (i : Nat) : BufTy := match i % 128 with
  | 0 => ⟨S4096x256, .f32⟩
  | 1 => ⟨S4096x256, .f32⟩
  | 2 => ⟨S_, .i32⟩
  | 3 => ⟨S4096x1, .i32⟩
  | 4 => ⟨S4096x1, .i32⟩
  | 5 => ⟨S_, .i32⟩
  | 6 => ⟨S4096x1, .i32⟩
  | 7 => ⟨S4096x1, .i32⟩
  | 8 => ⟨S4096x1, .f32⟩
  | 9 => ⟨S_, .f32⟩
  | 10 => ⟨S4096x1, .f32⟩
  | 11 => ⟨S4096x1, .f32⟩
  | 12 => ⟨S4096x256, .f32⟩
  | 13 => ⟨S4096x256, .f32⟩
  | 14 => ⟨S4096x256, .f32⟩
  | 15 => ⟨S4096x1024, .f32⟩
  | 16 => ⟨S4096x1024, .bf16⟩
  | 17 => ⟨S1x1024, .f32⟩
  | 18 => ⟨S1024x1024, .bf16⟩
  | 19 => ⟨S4096x1024, .f32⟩
  | 20 => ⟨S4096x2048, .bf16⟩
  | 21 => ⟨S1024x1024, .f32⟩
  | 22 => ⟨S4x256x256, .f32⟩
  | 23 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x1024x512, .bf16⟩
  | .local _ .vmem, ⟨10, _⟩ => ⟨S4x256x256, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S1024x1024, .f32⟩
  | .local _ .vmem, ⟨19, _⟩ => ⟨S4x256x256, .f32⟩
  | .local _ .vmem, ⟨20, _⟩ => ⟨S8x1024, .f32⟩
  | .local _ .vmem, ⟨21, _⟩ => ⟨S544x1024, .f32⟩
  | .local _ .vmem, ⟨22, _⟩ => ⟨S544x1024, .f32⟩
  | .local _ .vmem, ⟨23, _⟩ => ⟨S32x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_call1_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_call2_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_call3_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_call4_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_call5_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_call6_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_call7_v0 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_18 : Ref sig .tc := ⟨.hbm, 120, rfl⟩
abbrev main_call8_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_call9_v0 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_20 : Ref sig .tc := ⟨.hbm, 130, rfl⟩
abbrev main_v90 : Ref sig .tc := ⟨.hbm, 131, rfl⟩
abbrev main_v91 : Ref sig .tc := ⟨.hbm, 132, rfl⟩
abbrev main_c_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104_0 : Ref sig .tc := ⟨.hbm, 147, rfl⟩
abbrev main_v104_1 : Ref sig .tc := ⟨.hbm, 148, rfl⟩
abbrev main_v104_2 : Ref sig .tc := ⟨.hbm, 149, rfl⟩
abbrev main_v104_3 : Ref sig .tc := ⟨.hbm, 150, rfl⟩
abbrev main_v104_4 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x4x256 : Shape := ⟨3, ![1, 4, 256]⟩
abbrev S4x4096x256 : Shape := ⟨3, ![4, 4096, 256]⟩
abbrev S4x4x64x256 : Shape := ⟨4, ![4, 4, 64, 256]⟩
abbrev S5x1024 : Shape := ⟨2, ![5, 1024]⟩
abbrev S8x1024 : Shape := ⟨2, ![8, 1024]⟩

abbrev nBuf : Space → Nat
  | .hbm => 292
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2048, .f32⟩
  | 4 => ⟨S4x256x256, .f32⟩
  | 5 => ⟨S4x256, .f32⟩
  | 6 => ⟨S1x1024, .f32⟩
  | 7 => ⟨S1024x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x2048, .f32⟩
  | 30 => ⟨S1024, .f32⟩
  | 31 => ⟨S4096x1024, .f32⟩
  | 32 => ⟨S4096x1024, .f32⟩
  | 33 => ⟨S4096x4x256, .f32⟩
  | 34 => ⟨S4096x1x256, .f32⟩
  | 35 => ⟨S4096x256, .f32⟩
  | 36 => ⟨S_, .f32⟩
  | 37 => ⟨S_, .f32⟩
  | 38 => ⟨S4096x256, .f32⟩
  | 39 => ⟨S_, .f32⟩
  | 40 => ⟨S2x256, .f32⟩
  | 41 => ⟨S4094x256, .f32⟩
  | 42 => ⟨S4096x256, .f32⟩
  | 43 => ⟨S_, .f32⟩
  | 44 => ⟨S2x256, .f32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096, .f32⟩
  | 53 => ⟨S4096x256, .f32⟩
  | 54 => ⟨S4096x1, .f32⟩
  | 55 => ⟨S4096x256, .f32⟩
  | 56 => ⟨S4096x256, .f32⟩
  | 57 => ⟨S4096x1x256, .f32⟩
  | 58 => ⟨S4096x256, .f32⟩
  | 59 => ⟨S_, .f32⟩
  | 60 => ⟨S_, .f32⟩
  | 61 => ⟨S4096x256, .f32⟩
  | 62 => ⟨S_, .f32⟩
  | 63 => ⟨S4x256, .f32⟩
  | 64 => ⟨S4092x256, .f32⟩
  | 65 => ⟨S4096x256, .f32⟩
  | 66 => ⟨S_, .f32⟩
  | 67 => ⟨S4x256, .f32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .f32⟩
  | 76 => ⟨S4096x256, .f32⟩
  | 77 => ⟨S4096x1, .f32⟩
  | 78 => ⟨S4096x256, .f32⟩
  | 79 => ⟨S4096x256, .f32⟩
  | 80 => ⟨S4096x1x256, .f32⟩
  | 81 => ⟨S4096x256, .f32⟩
  | 82 => ⟨S_, .f32⟩
  | 83 => ⟨S_, .f32⟩
  | 84 => ⟨S4096x256, .f32⟩
  | 85 => ⟨S_, .f32⟩
  | 86 => ⟨S8x256, .f32⟩
  | 87 => ⟨S4088x256, .f32⟩
  | 88 => ⟨S4096x256, .f32⟩
  | 89 => ⟨S_, .f32⟩
  | 90 => ⟨S8x256, .f32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .f32⟩
  | 99 => ⟨S4096x256, .f32⟩
  | 100 => ⟨S4096x1, .f32⟩
  | 101 => ⟨S4096x256, .f32⟩
  | 102 => ⟨S4096x256, .f32⟩
  | 103 => ⟨S4096x1x256, .f32⟩
  | 104 => ⟨S4096x256, .f32⟩
  | 105 => ⟨S_, .f32⟩
  | 106 => ⟨S_, .f32⟩
  | 107 => ⟨S4096x256, .f32⟩
  | 108 => ⟨S_, .f32⟩
  | 109 => ⟨S16x256, .f32⟩
  | 110 => ⟨S4080x256, .f32⟩
  | 111 => ⟨S4096x256, .f32⟩
  | 112 => ⟨S_, .f32⟩
  | 113 => ⟨S16x256, .f32⟩
  | 114 => ⟨S4096, .i32⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096, .f32⟩
  | 122 => ⟨S4096x256, .f32⟩
  | 123 => ⟨S4096x1, .f32⟩
  | 124 => ⟨S4096x256, .f32⟩
  | 125 => ⟨S4096x256, .f32⟩
  | 126 => ⟨S4096x1x256, .f32⟩
  | 127 => ⟨S4096x1x256, .f32⟩
  | _ => ⟨S4096x1024, .f32⟩

abbrev hbmTy0_1 (i : Nat) : BufTy := match i % 128 with
  | 0 => ⟨S4096x1x256, .f32⟩
  | 1 => ⟨S4096x1x256, .f32⟩
  | 2 => ⟨S4096x4x256, .f32⟩
  | 3 => ⟨S4096x4x256, .f32⟩
  | 4 => ⟨S4x256x4096, .f32⟩
  | 5 => ⟨S4096x4x256, .f32⟩
  | 6 => ⟨S1x4x256, .f32⟩
  | 7 => ⟨S4096x4x256, .f32⟩
  | 8 => ⟨S4096x4x256, .f32⟩
  | 9 => ⟨S4096x1024, .f32⟩
  | 10 => ⟨S1x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S1024x1024, .f32⟩
  | 29 => ⟨S1024x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S1024, .f32⟩
  | 40 => ⟨S1x1024, .f32⟩
  | 41 => ⟨S4096x1024, .f32⟩
  | 42 => ⟨S4096x1024, .f32⟩
  | 43 => ⟨S_, .f32⟩
  | 44 => ⟨S1024, .f32⟩
  | 45 => ⟨S4096x4x256, .f32⟩
  | 46 => ⟨S_, .f32⟩
  | 47 => ⟨S4x256, .f32⟩
  | 48 => ⟨S1x4x256, .f32⟩
  | 49 => ⟨S_, .f32⟩
  | 50 => ⟨S4x256, .f32⟩
  | 51 => ⟨S4x256x4096, .f32⟩
  | 52 => ⟨S4x4096x256, .f32⟩
  | 53 => ⟨S4096x4x256, .f32⟩
  | 54 => ⟨S4x256x256, .f32⟩
  | 55 => ⟨S4x256x256, .f32⟩
  | 56 => ⟨S4096x4x256, .f32⟩
  | 57 => ⟨S4096x1x256, .f32⟩
  | 58 => ⟨S4096x256, .f32⟩
  | 59 => ⟨S4096x1x256, .f32⟩
  | 60 => ⟨S4096x256, .f32⟩
  | 61 => ⟨S4096x1x256, .f32⟩
  | 62 => ⟨S4096x256, .f32⟩
  | 63 => ⟨S4096x1x256, .f32⟩
  | 64 => ⟨S4096x256, .f32⟩
  | 65 => ⟨S4096x256, .f32⟩
  | 66 => ⟨S4096x256, .f32⟩
  | 67 => ⟨S4096x256, .f32⟩
  | 68 => ⟨S16x256, .f32⟩
  | 69 => ⟨S4080x256, .f32⟩
  | 70 => ⟨S_, .f32⟩
  | 71 => ⟨S4096x256, .f32⟩
  | 72 => ⟨S4096x256, .f32⟩
  | 73 => ⟨S_, .f32⟩
  | 74 => ⟨S_, .f32⟩
  | 75 => ⟨S4096x256, .f32⟩
  | 76 => ⟨S4096x1x256, .f32⟩
  | 77 => ⟨S_, .f32⟩
  | 78 => ⟨S4096x4x256, .f32⟩
  | 79 => ⟨S4096x4x256, .f32⟩
  | 80 => ⟨S4096x256, .f32⟩
  | 81 => ⟨S4096x256, .f32⟩
  | 82 => ⟨S4096x256, .f32⟩
  | 83 => ⟨S8x256, .f32⟩
  | 84 => ⟨S4088x256, .f32⟩
  | 85 => ⟨S_, .f32⟩
  | 86 => ⟨S4096x256, .f32⟩
  | 87 => ⟨S4096x256, .f32⟩
  | 88 => ⟨S_, .f32⟩
  | 89 => ⟨S_, .f32⟩
  | 90 => ⟨S4096x256, .f32⟩
  | 91 => ⟨S4096x1x256, .f32⟩
  | 92 => ⟨S_, .f32⟩
  | 93 => ⟨S4096x4x256, .f32⟩
  | 94 => ⟨S4096x4x256, .f32⟩
  | 95 => ⟨S4096x256, .f32⟩
  | 96 => ⟨S4096x256, .f32⟩
  | 97 => ⟨S4096x256, .f32⟩
  | 98 => ⟨S4x256, .f32⟩
  | 99 => ⟨S4092x256, .f32⟩
  | 100 => ⟨S_, .f32⟩
  | 101 => ⟨S4096x256, .f32⟩
  | 102 => ⟨S4096x256, .f32⟩
  | 103 => ⟨S_, .f32⟩
  | 104 => ⟨S_, .f32⟩
  | 105 => ⟨S4096x256, .f32⟩
  | 106 => ⟨S4096x1x256, .f32⟩
  | 107 => ⟨S_, .f32⟩
  | 108 => ⟨S4096x4x256, .f32⟩
  | 109 => ⟨S4096x4x256, .f32⟩
  | 110 => ⟨S4096x256, .f32⟩
  | 111 => ⟨S4096x256, .f32⟩
  | 112 => ⟨S4096x256, .f32⟩
  | 113 => ⟨S2x256, .f32⟩
  | 114 => ⟨S4094x256, .f32⟩
  | 115 => ⟨S_, .f32⟩
  | 116 => ⟨S4096x256, .f32⟩
  | 117 => ⟨S4096x256, .f32⟩
  | 118 => ⟨S_, .f32⟩
  | 119 => ⟨S_, .f32⟩
  | 120 => ⟨S4096x256, .f32⟩
  | 121 => ⟨S4096x1x256, .f32⟩
  | 122 => ⟨S_, .f32⟩
  | 123 => ⟨S4096x4x256, .f32⟩
  | 124 => ⟨S4096x4x256, .f32⟩
  | 125 => ⟨S4096x1024, .f32⟩
  | 126 => ⟨S4096x2048, .f32⟩
  | 127 => ⟨S4096x1024, .f32⟩
  | _ => ⟨S4096x1024, .f32⟩

abbrev hbmTy0_2 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S4096x1024, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4x4x64x256, .f32⟩
  | 27 => ⟨S4x4x64x256, .f32⟩
  | 28 => ⟨S1x1024, .f32⟩
  | 29 => ⟨S1x1024, .f32⟩
  | 30 => ⟨S1x1024, .f32⟩
  | 31 => ⟨S_, .f32⟩
  | 32 => ⟨S5x1024, .f32⟩
  | 33 => ⟨S8x1024, .f32⟩
  | 34 => ⟨S4096x2048, .bf16⟩
  | 35 => ⟨S4x256x256, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_call0_cst : Ref sig .tc := ⟨.hbm, 36, rfl⟩
abbrev main_call0_call0_v0 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_call0_cst : Ref sig .tc := ⟨.hbm, 59, rfl⟩
abbrev main_call1_call0_v0 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call2_call0_cst : Ref sig .tc := ⟨.hbm, 82, rfl⟩
abbrev main_call2_call0_v0 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call3_call0_cst : Ref sig .tc := ⟨.hbm, 105, rfl⟩
abbrev main_call3_call0_v0 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_v105_2 : Ref sig .tc := ⟨.hbm, 148, rfl⟩
abbrev main_call4_cst_1 : Ref sig .tc := ⟨.hbm, 149, rfl⟩
abbrev main_call4_v6 : Ref sig .tc := ⟨.hbm, 150, rfl⟩
abbrev main_call4_v7 : Ref sig .tc := ⟨.hbm, 151, rfl⟩
abbrev main_v105_1 : Ref sig .tc := ⟨.hbm, 152, rfl⟩
abbrev main_v105_0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_v113 : Ref sig .tc := ⟨.hbm, 164, rfl⟩
abbrev main_v114 : Ref sig .tc := ⟨.hbm, 165, rfl⟩
abbrev main_cst_18 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_19 : Ref sig .tc := ⟨.hbm, 171, rfl⟩
abbrev main_v119 : Ref sig .tc := ⟨.hbm, 172, rfl⟩
abbrev main_v120 : Ref sig .tc := ⟨.hbm, 173, rfl⟩
abbrev main_cst_20 : Ref sig .tc := ⟨.hbm, 174, rfl⟩
abbrev main_v121 : Ref sig .tc := ⟨.hbm, 175, rfl⟩
abbrev main_v122 : Ref sig .tc := ⟨.hbm, 176, rfl⟩
abbrev main_cst_21 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_22 : Ref sig .tc := ⟨.hbm, 198, rfl⟩
abbrev main_v143 : Ref sig .tc := ⟨.hbm, 199, rfl⟩
abbrev main_v144 : Ref sig .tc := ⟨.hbm, 200, rfl⟩
abbrev main_call6_call0_cst : Ref sig .tc := ⟨.hbm, 201, rfl⟩
abbrev main_call6_call0_v0 : Ref sig .tc := ⟨.hbm, 202, rfl⟩
abbrev main_v145 : Ref sig .tc := ⟨.hbm, 203, rfl⟩
abbrev main_v146 : Ref sig .tc := ⟨.hbm, 204, rfl⟩
abbrev main_cst_23 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_24 : Ref sig .tc := ⟨.hbm, 213, rfl⟩
abbrev main_v154 : Ref sig .tc := ⟨.hbm, 214, rfl⟩
abbrev main_v155 : Ref sig .tc := ⟨.hbm, 215, rfl⟩
abbrev main_call7_call0_cst : Ref sig .tc := ⟨.hbm, 216, rfl⟩
abbrev main_call7_call0_v0 : Ref sig .tc := ⟨.hbm, 217, rfl⟩
abbrev main_v156 : Ref sig .tc := ⟨.hbm, 218, rfl⟩
abbrev main_v157 : Ref sig .tc := ⟨.hbm, 219, rfl⟩
abbrev main_cst_25 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_26 : Ref sig .tc := ⟨.hbm, 228, rfl⟩
abbrev main_v165 : Ref sig .tc := ⟨.hbm, 229, rfl⟩
abbrev main_v166 : Ref sig .tc := ⟨.hbm, 230, rfl⟩
abbrev main_call8_call0_cst : Ref sig .tc := ⟨.hbm, 231, rfl⟩
abbrev main_call8_call0_v0 : Ref sig .tc := ⟨.hbm, 232, rfl⟩
abbrev main_v167 : Ref sig .tc := ⟨.hbm, 233, rfl⟩
abbrev main_v168 : Ref sig .tc := ⟨.hbm, 234, rfl⟩
abbrev main_cst_27 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_28 : Ref sig .tc := ⟨.hbm, 243, rfl⟩
abbrev main_v176 : Ref sig .tc := ⟨.hbm, 244, rfl⟩
abbrev main_v177 : Ref sig .tc := ⟨.hbm, 245, rfl⟩
abbrev main_call9_call0_cst : Ref sig .tc := ⟨.hbm, 246, rfl⟩
abbrev main_call9_call0_v0 : Ref sig .tc := ⟨.hbm, 247, rfl⟩
abbrev main_v178 : Ref sig .tc := ⟨.hbm, 248, rfl⟩
abbrev main_v179 : Ref sig .tc := ⟨.hbm, 249, rfl⟩
abbrev main_cst_29 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_cst_30 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_cst_31 : Ref sig .tc := ⟨.hbm, 262, rfl⟩
abbrev main_v190 : Ref sig .tc := ⟨.hbm, 263, rfl⟩
abbrev main_v191 : Ref sig .tc := ⟨.hbm, 264, rfl⟩
abbrev main_cst_32 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_33 : Ref sig .tc := ⟨.hbm, 272, rfl⟩
abbrev main_v198 : Ref sig .tc := ⟨.hbm, 273, rfl⟩
abbrev main_v199 : Ref sig .tc := ⟨.hbm, 274, rfl⟩
abbrev main_cst_34 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_cst_35 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S1024x4x512 : Shape := ⟨3, ![1024, 4, 512]⟩
abbrev S4x1024x512 : Shape := ⟨3, ![4, 1024, 512]⟩
abbrev S4x4x64x256 : Shape := ⟨4, ![4, 4, 64, 256]⟩
abbrev S512x1024 : Shape := ⟨2, ![512, 1024]⟩
abbrev S544x1024 : Shape := ⟨2, ![544, 1024]⟩
abbrev S32x1024 : Shape := ⟨2, ![32, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S536x256 : Shape := ⟨2, ![536, 256]⟩
abbrev S512x256 : Shape := ⟨2, ![512, 256]⟩
abbrev S1x64x256 : Shape := ⟨3, ![1, 64, 256]⟩
abbrev S64x256 : Shape := ⟨2, ![64, 256]⟩
abbrev S256x256 : Shape := ⟨2, ![256, 256]⟩
abbrev S528x256 : Shape := ⟨2, ![528, 256]⟩
abbrev S520x256 : Shape := ⟨2, ![520, 256]⟩

abbrev nBuf : Space → Nat
  | .hbm => 20
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4x256x256, .f32⟩
  | .hbm, ⟨4, _⟩ => ⟨S4x256, .f32⟩
  | .hbm, ⟨5, _⟩ => ⟨S1x1024, .f32⟩
  | .hbm, ⟨6, _⟩ => ⟨S1024x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S4x4x64x256, .f32⟩
  | .hbm, ⟨11, _⟩ => ⟨S4x4x64x256, .f32⟩
  | .hbm, ⟨12, _⟩ => ⟨S4x4x64x256, .bf16⟩
  | .hbm, ⟨13, _⟩ => ⟨S4x256x256, .bf16⟩
  | .hbm, ⟨14, _⟩ => ⟨S1x1024, .f32⟩
  | .hbm, ⟨15, _⟩ => ⟨S1024x1024, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S544x1024, .f32⟩
  | .local _ .vmem, ⟨17, _⟩ => ⟨S544x1024, .f32⟩
  | .local _ .vmem, ⟨18, _⟩ => ⟨S32x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4096x1024 : Shape := ⟨2, ![4096, 1024]⟩
abbrev S1x1024 : Shape := ⟨2, ![1, 1024]⟩
abbrev S1024x2048 : Shape := ⟨2, ![1024, 2048]⟩
abbrev S4x256x256 : Shape := ⟨3, ![4, 256, 256]⟩
abbrev S4x256 : Shape := ⟨2, ![4, 256]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S1x4x256 : Shape := ⟨3, ![1, 4, 256]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S4x256x256, .f32⟩
  | 4 => ⟨S4x256, .f32⟩
  | 5 => ⟨S1x1024, .f32⟩
  | 6 => ⟨S1024x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S4096x1024, .f32⟩
  | 26 => ⟨S4096x1024, .f32⟩
  | 27 => ⟨S4096x4x256, .f32⟩
  | 28 => ⟨S4096x1x256, .f32⟩
  | 29 => ⟨S4096x256, .f32⟩
  | 30 => ⟨S_, .f32⟩
  | 31 => ⟨S_, .f32⟩
  | 32 => ⟨S4096x256, .f32⟩
  | 33 => ⟨S_, .f32⟩
  | 34 => ⟨S2x256, .f32⟩
  | 35 => ⟨S4094x256, .f32⟩
  | 36 => ⟨S4096x256, .f32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S4096x256, .f32⟩
  | 46 => ⟨S4096x1, .f32⟩
  | 47 => ⟨S4096x256, .f32⟩
  | 48 => ⟨S4096x256, .f32⟩
  | 49 => ⟨S4096x1x256, .f32⟩
  | 50 => ⟨S4096x256, .f32⟩
  | 51 => ⟨S_, .f32⟩
  | 52 => ⟨S_, .f32⟩
  | 53 => ⟨S4096x256, .f32⟩
  | 54 => ⟨S_, .f32⟩
  | 55 => ⟨S4x256, .f32⟩
  | 56 => ⟨S4092x256, .f32⟩
  | 57 => ⟨S4096x256, .f32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .f32⟩
  | 66 => ⟨S4096x256, .f32⟩
  | 67 => ⟨S4096x1, .f32⟩
  | 68 => ⟨S4096x256, .f32⟩
  | 69 => ⟨S4096x256, .f32⟩
  | 70 => ⟨S4096x1x256, .f32⟩
  | 71 => ⟨S4096x256, .f32⟩
  | 72 => ⟨S_, .f32⟩
  | 73 => ⟨S_, .f32⟩
  | 74 => ⟨S4096x256, .f32⟩
  | 75 => ⟨S_, .f32⟩
  | 76 => ⟨S8x256, .f32⟩
  | 77 => ⟨S4088x256, .f32⟩
  | 78 => ⟨S4096x256, .f32⟩
  | 79 => ⟨S4096, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .f32⟩
  | 87 => ⟨S4096x256, .f32⟩
  | 88 => ⟨S4096x1, .f32⟩
  | 89 => ⟨S4096x256, .f32⟩
  | 90 => ⟨S4096x256, .f32⟩
  | 91 => ⟨S4096x1x256, .f32⟩
  | 92 => ⟨S4096x256, .f32⟩
  | 93 => ⟨S_, .f32⟩
  | 94 => ⟨S_, .f32⟩
  | 95 => ⟨S4096x256, .f32⟩
  | 96 => ⟨S_, .f32⟩
  | 97 => ⟨S16x256, .f32⟩
  | 98 => ⟨S4080x256, .f32⟩
  | 99 => ⟨S4096x256, .f32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S4096, .f32⟩
  | 108 => ⟨S4096x256, .f32⟩
  | 109 => ⟨S4096x1, .f32⟩
  | 110 => ⟨S4096x256, .f32⟩
  | 111 => ⟨S4096x256, .f32⟩
  | 112 => ⟨S4096x1x256, .f32⟩
  | 113 => ⟨S4096x1x256, .f32⟩
  | 114 => ⟨S4096x1x256, .f32⟩
  | 115 => ⟨S4096x1x256, .f32⟩
  | 116 => ⟨S4096x4x256, .f32⟩
  | 117 => ⟨S4096x4x256, .f32⟩
  | 118 => ⟨S1024, .f32⟩
  | 119 => ⟨S4x256x4096, .f32⟩
  | 120 => ⟨S4096x4x256, .f32⟩
  | 121 => ⟨S1x4x256, .f32⟩
  | 122 => ⟨S4096x4x256, .f32⟩
  | 123 => ⟨S4096x4x256, .f32⟩
  | 124 => ⟨S4096x1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | 14 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_call0_cst : Ref sig .tc := ⟨.hbm, 30, rfl⟩
abbrev main_call0_call0_v0 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_call0_cst : Ref sig .tc := ⟨.hbm, 51, rfl⟩
abbrev main_call1_call0_v0 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_call0_cst : Ref sig .tc := ⟨.hbm, 72, rfl⟩
abbrev main_call2_call0_v0 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call3_call0_cst : Ref sig .tc := ⟨.hbm, 93, rfl⟩
abbrev main_call3_call0_v0 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S1024x4x772 : Shape := ⟨3, ![1024, 4, 772]⟩
abbrev S4x1024x772 : Shape := ⟨3, ![4, 1024, 772]⟩
abbrev S_ : Shape := ⟨0, ![]⟩
abbrev S128x512 : Shape := ⟨2, ![128, 512]⟩
abbrev S4096x128 : Shape := ⟨2, ![4096, 128]⟩
abbrev S4096x512 : Shape := ⟨2, ![4096, 512]⟩
abbrev S512x1024 : Shape := ⟨2, ![512, 1024]⟩
abbrev S512x128 : Shape := ⟨2, ![512, 128]⟩
abbrev S512x512 : Shape := ⟨2, ![512, 512]⟩
abbrev S1024x3200 : Shape := ⟨2, ![1024, 3200]⟩
abbrev S256x112 : Shape := ⟨2, ![256, 112]⟩
abbrev S1x256x772 : Shape := ⟨3, ![1, 256, 772]⟩
abbrev S256x772 : Shape := ⟨2, ![256, 772]⟩
abbrev S256x3200 : Shape := ⟨2, ![256, 3200]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S64x64 : Shape := ⟨2, ![64, 64]⟩
abbrev S64x512 : Shape := ⟨2, ![64, 512]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3088, .f32⟩
  | .hbm, ⟨3, _⟩ => ⟨S16x512, .f32⟩
  | .hbm, ⟨4, _⟩ => ⟨S1x512, .f32⟩
  | .hbm, ⟨5, _⟩ => ⟨S1024x4x772, .f32⟩
  | .hbm, ⟨6, _⟩ => ⟨S4x1024x772, .f32⟩
  | .hbm, ⟨7, _⟩ => ⟨S4x1024x772, .bf16⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x128, .bf16⟩
  | .hbm, ⟨16, _⟩ => ⟨S4096x512, .f32⟩
  | .hbm, ⟨17, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x772, .bf16⟩
  | .local _ .vmem, ⟨4, _⟩ => ⟨S128x512, .bf16⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x128, .bf16⟩
  | .local _ .vmem, ⟨13, _⟩ => ⟨S512x128, .bf16⟩
  | .local _ .vmem, ⟨14, _⟩ => ⟨S512x512, .f32⟩
  | .local _ .vmem, ⟨15, _⟩ => ⟨S512x512, .f32⟩
  | .local _ .vmem, ⟨16, _⟩ => ⟨S512x1024, .bf16⟩
  | .local _ .vmem, ⟨17, _⟩ => ⟨S512x1024, .bf16⟩
  | .local _ .vmem, ⟨18, _⟩ => ⟨S1024x3200, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x772 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4096x1024 : Shape := ⟨2, ![4096, 1024]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3088 : Shape := ⟨2, ![4096, 3088]⟩
abbrev S512 : Shape := ⟨1, ![512]⟩
abbrev S4096x512 : Shape := ⟨2, ![4096, 512]⟩
abbrev S4096x16 : Shape := ⟨2, ![4096, 16]⟩
abbrev S64x64x512 : Shape := ⟨3, ![64, 64, 512]⟩
abbrev S4096x128 : Shape := ⟨2, ![4096, 128]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3088, .f32⟩
  | .hbm, ⟨3, _⟩ => ⟨S16x512, .f32⟩
  | .hbm, ⟨4, _⟩ => ⟨S1x512, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x3088, .f32⟩
  | .hbm, ⟨23, _⟩ => ⟨S512, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S4096x1024, .f32⟩
  | .hbm, ⟨28, _⟩ => ⟨S4096x16, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .i1⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S64x64x512, .f32⟩
  | .hbm, ⟨53, _⟩ => ⟨S_, .f32⟩
  | .hbm, ⟨54, _⟩ => ⟨S_, .f32⟩
  | .hbm, ⟨55, _⟩ => ⟨S64x64x512, .f32⟩
  | .hbm, ⟨56, _⟩ => ⟨S4096x512, .f32⟩
  | .hbm, ⟨57, _⟩ => ⟨S4096x16, .f32⟩
  | .hbm, ⟨58, _⟩ => ⟨S_, .i32⟩
  | .hbm, ⟨59, _⟩ => ⟨S_, .f32⟩
  | .hbm, ⟨60, _⟩ => ⟨S4096x128, .f32⟩
  | .hbm, ⟨61, _⟩ => ⟨S4096x1024, .f32⟩
  | .hbm, ⟨62, _⟩ => ⟨S4096x1024, .bf16⟩
  | .hbm, ⟨63, _⟩ => ⟨S4096x128, .bf16⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_call0_cst : Ref sig .tc := ⟨.hbm, 53, rfl⟩
abbrev main_call1_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c : Ref sig .tc := ⟨.hbm, 58, rfl⟩
abbrev main_call2_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Proof.Kernel.Units.lean ====
/-
  The arithmetic of one unit of the two calls: one chunk of 64 rows of one head. Each definition is one value that the
  kernel's body computes from what it loads for the unit, written once; `Programs.lean` shows that the printed bodies are
  chains of these units.
-/
module

public import proofs.«01_k».proof.Proof.Gen.KernelIdeal

@[expose] public section

noncomputable section

namespace Cert.KernelIdeal.Own

open Idealize.ShloMosaic Idealize.SL.Sem Cert.KernelIdeal Cert.KernelIdeal.Gen

variable {F : FTy → Type} [FloatOps F]

/-! ## The factors that both calls take from a chunk -/

/-- The exponential of the decay's running sum. -/
def grow (cum : Vec F S64x128 .f32) : FVec F S64x128 .f32 := exp cum

/-- The exponential of minus the decay's running sum. -/
def shrink (cum : Vec F S64x128 .f32) : FVec F S64x128 .f32 :=
  exp (subf (broadcast S64x128 (Scalar.ofBits (F := F) .f32 0x00000000#32)) cum)

/-- The queries times the head's scale. -/
def scaled (q : Vec F S64x128 .f32) : FVec F S64x128 .f32 := mulf q (broadcast S64x128 (Scalar.ofBits (F := F) .f32 0x3DB504F3#32))

/-- The last row of a chunk. -/
def lastRow (cum : Vec F S64x128 .f32) : FVec F S1x128 .f32 := extractStridedSlice S1x128 ![63, 0] cum slices_S64x128_o63_0_S1x128

/-- The decay from each row to the chunk's end. -/
def toEnd (cum : Vec F S64x128 .f32) : FVec F S64x128 .f32 :=
  exp (subf (broadcastTo S64x128 (lastRow cum) broadcasts_S1x128_S64x128) cum)

/-- The decay of a whole chunk. -/
def whole (cum : Vec F S64x128 .f32) : FVec F S1x128 .f32 := exp (lastRow cum)

/-- A rounding to bf16. -/
def rnd {s : Shape} (x : FVec F s .f32) : FVec F s .bf16 := truncf .bf16 x bitsLt_bf16_f32

/-- Rows at or below the diagonal. -/
def lower : IVec S64x64 1 := cmpi .sge (iota .tc S64x64 32 [0] iota_S64x64_d0_w32) (iota .tc S64x64 32 [1] iota_S64x64_d1_w32)

/-- The chunk's last row. -/
def isLast : IVec S64x128 1 := cmpi .eq (iota .tc S64x128 32 [0] iota_S64x128_d0_w32) (broadcast S64x128 (63#32 : BitVec 32))

def qGrow (q cum : Vec F S64x128 .f32) : FVec F S64x128 .bf16 := rnd (mulf (scaled q) (grow cum))
def qShrink (q cum : Vec F S64x128 .f32) : FVec F S64x128 .bf16 := rnd (mulf (scaled q) (shrink cum))
def kGrow (k cum : Vec F S64x128 .f32) : FVec F S64x128 .bf16 := rnd (mulf k (grow cum))
def kShrink (k cum : Vec F S64x128 .f32) : FVec F S64x128 .bf16 := rnd (mulf k (shrink cum))
def kEnd (k cum : Vec F S64x128 .f32) : FVec F S64x128 .bf16 := rnd (mulf k (toEnd cum))

/-- A head's state as a matrix. -/
def mat (st : Vec F S1x256x128 .f32) : FVec F S256x128 .f32 := shapeCast S256x128 st shapeCasts_S1x256x128_S256x128

/-- A bf16 block as the body reads it. -/
def same (v : Vec F S64x256 .bf16) : FVec F S64x256 .bf16 := shapeCast S64x256 v shapeCasts_S64x256_S64x256

/-! ## The forward unit -/

/-- The scores within the chunk: the decayed product below the diagonal, the one with the signs turned above it. -/
def scoresOf (q k cum : Vec F S64x128 .f32) : FVec F S64x64 .bf16 :=
  rnd (select lower
    (matmul dot_S64x128_S64x128_S64x64_1_1_0_0_n_n none (qGrow q cum) (kShrink k cum) (constant S64x64 .f32 0x00000000#32))
    (matmul dot_S64x128_S64x128_S64x64_1_1_0_0_n_n none (qShrink q cum) (kGrow k cum) (constant S64x64 .f32 0x00000000#32)))

/-- The state that the unit found, kept for the backward call. -/
def keptOf (st : Vec F S1x256x128 .f32) : FVec F S1x1x256x128 .f32 := shapeCast S1x1x256x128 (mat st) shapeCasts_S256x128_S1x1x256x128

/-- The unit's output: the part within the chunk and the part from the state. -/
def outOf (q k cum : Vec F S64x128 .f32) (v : Vec F S64x256 .bf16) (st : Vec F S1x256x128 .f32) : FVec F S64x256 .f32 :=
  addf (matmul dot_S64x64_S64x256_S64x256_1_0_0_1_n_n none (scoresOf q k cum) (same v) (constant S64x256 .f32 0x00000000#32))
    (matmul dot_S64x128_S256x128_S64x256_1_1_0_0_n_n none (qGrow q cum) (rnd (mat st)) (constant S64x256 .f32 0x00000000#32))

/-- The state that the unit leaves. -/
def stateOf (k cum : Vec F S64x128 .f32) (v : Vec F S64x256 .bf16) (st : Vec F S1x256x128 .f32) : FVec F S1x256x128 .f32 :=
  shapeCast S1x256x128
    (addf (mulf (mat st) (broadcastTo S256x128 (whole cum) broadcasts_S1x128_S256x128))
      (matmul dot_S64x256_S64x128_S256x128_0_0_1_1_n_n none (same v) (kEnd k cum) (constant S256x128 .f32 0x00000000#32)))
    shapeCasts_S256x128_S1x256x128

/-- The state at the grid's first point. -/
def start : FVec F S4x256x128 .f32 :=
  shapeCast S4x256x128 (broadcast S4x256x128 (Scalar.ofBits (F := F) .f32 0x00000000#32)) shapeCasts_S4x256x128_S4x256x128

/-! ## The backward unit -/

/-- A kept state as a matrix. -/
def kept (st : Vec F S1x1x256x128 .f32) : FVec F S256x128 .f32 := shapeCast S256x128 st shapeCasts_S1x1x256x128_S256x128

/-- The scores as the body reads them. -/
def same64 (w : Vec F S64x64 .bf16) : FVec F S64x64 .bf16 := shapeCast S64x64 w shapeCasts_S64x64_S64x64

/-- The gradient of the scores, with no mask. -/
def gScores (v g : Vec F S64x256 .bf16) : FVec F S64x64 .f32 :=
  matmul dot_S64x256_S64x256_S64x64_1_1_0_0_n_n none (same g) (same v) (constant S64x64 .f32 0x00000000#32)

def zero64 : FVec F S64x64 .f32 := broadcast S64x64 (Scalar.ofBits (F := F) .f32 0x00000000#32)

/-- Its part at or below the diagonal. -/
def gLow (v g : Vec F S64x256 .bf16) : FVec F S64x64 .bf16 := rnd (select lower (gScores v g) zero64)

/-- Its part above the diagonal. -/
def gHigh (v g : Vec F S64x256 .bf16) : FVec F S64x64 .bf16 := rnd (select lower zero64 (gScores v g))

/-- The gradient of the values. -/
def gValues (k cum : Vec F S64x128 .f32) (g : Vec F S64x256 .bf16) (w : Vec F S64x64 .bf16) (d : Vec F S1x256x128 .f32) : FVec F S64x256 .bf16 :=
  rnd (addf (matmul dot_S64x64_S64x256_S64x256_0_0_1_1_n_n none (same64 w) (same g) (constant S64x256 .f32 0x00000000#32))
    (matmul dot_S64x128_S256x128_S64x256_1_1_0_0_n_n none (kEnd k cum) (rnd (mat d)) (constant S64x256 .f32 0x00000000#32)))

/-- The gradient of the growing queries. -/
def gA (k cum : Vec F S64x128 .f32) (v g : Vec F S64x256 .bf16) (st : Vec F S1x1x256x128 .f32) : FVec F S64x128 .f32 :=
  addf (matmul dot_S64x64_S64x128_S64x128_1_0_0_1_n_n none (gLow v g) (kShrink k cum) (constant S64x128 .f32 0x00000000#32))
    (matmul dot_S64x256_S256x128_S64x128_1_0_0_1_n_n none (same g) (rnd (kept st)) (constant S64x128 .f32 0x00000000#32))

/-- The gradient of the shrinking keys. -/
def gB (q cum : Vec F S64x128 .f32) (v g : Vec F S64x256 .bf16) : FVec F S64x128 .f32 :=
  matmul dot_S64x64_S64x128_S64x128_0_0_1_1_n_n none (gLow v g) (qGrow q cum) (constant S64x128 .f32 0x00000000#32)

/-- The gradient of the shrinking queries. -/
def gC (k cum : Vec F S64x128 .f32) (v g : Vec F S64x256 .bf16) : FVec F S64x128 .f32 :=
  matmul dot_S64x64_S64x128_S64x128_1_0_0_1_n_n none (gHigh v g) (kGrow k cum) (constant S64x128 .f32 0x00000000#32)

/-- The gradient of the growing keys. -/
def gD (q cum : Vec F S64x128 .f32) (v g : Vec F S64x256 .bf16) : FVec F S64x128 .f32 :=
  matmul dot_S64x64_S64x128_S64x128_0_0_1_1_n_n none (gHigh v g) (qShrink q cum) (constant S64x128 .f32 0x00000000#32)

/-- The gradient of the keys decayed to the chunk's end. -/
def gE (v : Vec F S64x256 .bf16) (d : Vec F S1x256x128 .f32) : FVec F S64x128 .f32 :=
  matmul dot_S64x256_S256x128_S64x128_1_0_0_1_n_n none (same v) (rnd (mat d)) (constant S64x128 .f32 0x00000000#32)

/-- The gradient of the chunk's whole decay. -/
def gWhole (st : Vec F S1x1x256x128 .f32) (d : Vec F S1x256x128 .f32) : FVec F S1x128 .f32 :=
  shapeCast S1x128 (multiReduction .add [0] S128 (mulf (mat d) (kept st)) 0x00000000#32 reduces_S256x128_S128 (.inl rfl) rfl) shapeCasts_S128_S1x128

/-- The state's gradient that the unit leaves. -/
def gState (q cum : Vec F S64x128 .f32) (g : Vec F S64x256 .bf16) (d : Vec F S1x256x128 .f32) : FVec F S1x256x128 .f32 :=
  shapeCast S1x256x128
    (addf (mulf (mat d) (broadcastTo S256x128 (whole cum) broadcasts_S1x128_S256x128))
      (matmul dot_S64x256_S64x128_S256x128_0_0_1_1_n_n none (same g) (qGrow q cum) (constant S256x128 .f32 0x00000000#32)))
    shapeCasts_S256x128_S1x256x128

/-- What the decay to the chunk's end takes from the running sum. -/
def gEnd (k cum : Vec F S64x128 .f32) (v : Vec F S64x256 .bf16) (d : Vec F S1x256x128 .f32) : FVec F S64x128 .f32 :=
  mulf (mulf (gE v d) k) (toEnd cum)

/-- The gradient of the queries. -/
def gQueries (k cum : Vec F S64x128 .f32) (v g : Vec F S64x256 .bf16) (st : Vec F S1x1x256x128 .f32) : FVec F S64x128 .bf16 :=
  rnd (mulf (addf (mulf (gA k cum v g st) (grow cum)) (mulf (gC k cum v g) (shrink cum)))
    (broadcast S64x128 (Scalar.ofBits (F := F) .f32 0x3DB504F3#32)))

/-- The gradient of the keys. -/
def gKeys (q cum : Vec F S64x128 .f32) (v g : Vec F S64x256 .bf16) (d : Vec F S1x256x128 .f32) : FVec F S64x128 .bf16 :=
  rnd (addf (addf (mulf (gB q cum v g) (shrink cum)) (mulf (gD q cum v g) (grow cum))) (mulf (gE v d) (toEnd cum)))

/-- The gradient of the running sum, but for what its last row adds. -/
def gCumIn (q k cum : Vec F S64x128 .f32) (v g : Vec F S64x256 .bf16) (st : Vec F S1x1x256x128 .f32) (d : Vec F S1x256x128 .f32) : FVec F S64x128 .f32 :=
  subf
    (subf (mulf (addf (mulf (gA k cum v g st) (scaled q)) (mulf (gD q cum v g) k)) (grow cum))
      (mulf (addf (mulf (gB q cum v g) k) (mulf (gC k cum v g) (scaled q))) (shrink cum)))
    (gEnd k cum v d)

/-- What the last row adds. -/
def gLast (k cum : Vec F S64x128 .f32) (v : Vec F S64x256 .bf16) (st : Vec F S1x1x256x128 .f32) (d : Vec F S1x256x128 .f32) : FVec F S1x128 .f32 :=
  addf (shapeCast S1x128 (multiReduction .add [0] S128 (gEnd k cum v d) 0x00000000#32 reduces_S64x128_S128 (.inl rfl) rfl) shapeCasts_S128_S1x128)
    (mulf (gWhole st d) (whole cum))

/-- The gradient of the running sum. -/
def gCum (q k cum : Vec F S64x128 .f32) (v g : Vec F S64x256 .bf16) (st : Vec F S1x1x256x128 .f32) (d : Vec F S1x256x128 .f32) : FVec F S64x128 .f32 :=
  addf (gCumIn q k cum v g st d)
    (select isLast (broadcastTo S64x128 (shapeCast S1x128 (gLast k cum v st d) shapeCasts_S1x128_S1x128) broadcasts_S1x128_S64x128)
      (broadcast S64x128 (Scalar.ofBits (F := F) .f32 0x00000000#32)))

end Cert.KernelIdeal.Own
-- ==== Proof.Kernel.Programs.lean ====
/-
  The two printed bodies as chains of units: first the scratch state is cleared at the grid's first point, then the 32
  units of a block of 512 rows, chunk by chunk and within a chunk head by head. The backward body takes the chunks from the
  last to the first.
-/
module

public import proofs.«01_k».proof.Proof.Kernel.Units
public import proofs.«01_k».proof.Proof.Gen.KernelIdeal.Skeleton
public import Idealize.ShloMosaic.Lib.Tactic

@[expose] public section

set_option maxRecDepth 65536

noncomputable section

namespace Cert.KernelIdeal.Own

open Idealize.ShloMosaic Idealize.SL.Sem Cert.KernelIdeal Cert.KernelIdeal.Gen

variable {F : FTy → Type} [FloatOps F]

/-! ## Where a unit's blocks lie -/

def offKey (j : Fin 8) (h : Fin 4) : Fin 2 → ℕ := ![64 * j.val, 128 * h.val]
def offVal (j : Fin 8) (h : Fin 4) : Fin 2 → ℕ := ![64 * j.val, 256 * h.val]
def offScore (j : Fin 8) (h : Fin 4) : Fin 2 → ℕ := ![64 * j.val, 64 * h.val]
def offKept (j : Fin 8) (h : Fin 4) : Fin 4 → ℕ := ![j.val, h.val, 0, 0]
def offState (h : Fin 4) : Fin 3 → ℕ := ![h.val, 0, 0]

theorem inKey : ∀ (j : Fin 8) (h : Fin 4), ∀ a, offKey j h a + S64x128.size a ≤ S512x512.size a := by decide +kernel
theorem inVal : ∀ (j : Fin 8) (h : Fin 4), ∀ a, offVal j h a + S64x256.size a ≤ S512x1024.size a := by decide +kernel
theorem inScore : ∀ (j : Fin 8) (h : Fin 4), ∀ a, offScore j h a + S64x64.size a ≤ S512x256.size a := by decide +kernel
theorem inKept : ∀ (j : Fin 8) (h : Fin 4), ∀ a, offKept j h a + S1x1x256x128.size a ≤ S8x4x256x128.size a := by decide +kernel
theorem inState : ∀ (h : Fin 4), ∀ a, offState h a + S1x256x128.size a ≤ S4x256x128.size a := by decide +kernel

theorem packKey : ∀ (j : Fin 8) (h : Fin 4), (Rect.unit (s := S512x512) (offKey j h) S64x128.size (inKey j h)).PackedRows (EltTy.packing .bf16) := by decide +kernel
theorem packVal : ∀ (j : Fin 8) (h : Fin 4), (Rect.unit (s := S512x1024) (offVal j h) S64x256.size (inVal j h)).PackedRows (EltTy.packing .bf16) := by decide +kernel
theorem packScore : ∀ (j : Fin 8) (h : Fin 4), (Rect.unit (s := S512x256) (offScore j h) S64x64.size (inScore j h)).PackedRows (EltTy.packing .bf16) := by decide +kernel

abbrev rKey (j : Fin 8) (h : Fin 4) : Rect S512x512 := Rect.unit (s := S512x512) (offKey j h) S64x128.size (inKey j h)
abbrev rVal (j : Fin 8) (h : Fin 4) : Rect S512x1024 := Rect.unit (s := S512x1024) (offVal j h) S64x256.size (inVal j h)
abbrev rScore (j : Fin 8) (h : Fin 4) : Rect S512x256 := Rect.unit (s := S512x256) (offScore j h) S64x64.size (inScore j h)
abbrev rKept (j : Fin 8) (h : Fin 4) : Rect S8x4x256x128 := Rect.unit (s := S8x4x256x128) (offKept j h) S1x1x256x128.size (inKept j h)
abbrev rState (h : Fin 4) : Rect S4x256x128 := Rect.unit (s := S4x256x128) (offState h) S1x256x128.size (inState h)

/-- The units of a block in the order in which the chunks are listed. -/
def unitsOf (chunks : List (Fin 8)) : List (Fin 8 × Fin 4) := chunks.flatMap fun j => [(j, 0), (j, 1), (j, 2), (j, 3)]

/-- The forward call's order. -/
def upward : List (Fin 8 × Fin 4) := unitsOf [0, 1, 2, 3, 4, 5, 6, 7]

/-- The backward call's order. -/
def downward : List (Fin 8 × Fin 4) := unitsOf [7, 6, 5, 4, 3, 2, 1, 0]

/-- A program run for each item of a list, one after the other. -/
def chain {E : Type → Type} {α : Type} (f : α → Prog E PUnit) : List α → Prog E PUnit
  | [] => pure ⟨⟩
  | x :: xs => f x >>= fun _ => chain f xs

/-- The scratch state cleared at the grid's point 0. -/
def clear (n : ℕ) (m : Memref sig .tc .vmem S4x256x128 .f32) : Prog (TpuEff nD τ sig (Elt F) Λ₀ .tc) PUnit :=
  if _h : Scalar.cmpi .ne (Scalar.extui (Scalar.cmpi .eq (BitVec.ofNat 32 n) 0#32) : BitVec 32) 0#32 = 1#1 then do
    let _ : Vec F S4x256x128 .f32 ← Prog.lift (.load m (Rect.unit (s := S4x256x128) ![0, 0, 0] S4x256x128.size inb_S4x256x128_S4x256x128_0_0_0).toLoadRect (View.loadsAt_vmem h_S4x256x128))
    Prog.lift (.store m (Rect.unit (s := S4x256x128) ![0, 0, 0] S4x256x128.size inb_S4x256x128_S4x256x128_0_0_0) (start (F := F)) Finset.univ (View.stores_vmem_bits_univ h_S4x256x128 rfl) (.inl rfl))
    pure ⟨⟩
  else pure ⟨⟩

/-- One unit of the forward body. -/
def fwdUnit (arg1 arg2 : Memref sig .tc .vmem S512x512 .f32) (arg3 : Memref sig .tc .vmem S512x1024 .bf16) (arg4 : Memref sig .tc .vmem S512x512 .f32)
    (arg5 : Memref sig .tc .vmem S512x1024 .f32) (arg6 : Memref sig .tc .vmem S8x4x256x128 .f32) (arg7 : Memref sig .tc .vmem S512x256 .bf16) (harg7 : arg7.IsWhole)
    (arg8 : Memref sig .tc .vmem S4x256x128 .f32) (jh : Fin 8 × Fin 4) : Prog (TpuEff nD τ sig (Elt F) Λ₀ .tc) PUnit := do
  let q : Vec F S64x128 .f32 ← Prog.lift (.load arg1 (rKey jh.1 jh.2).toLoadRect (View.loadsAt_vmem h_S64x128))
  let k : Vec F S64x128 .f32 ← Prog.lift (.load arg2 (rKey jh.1 jh.2).toLoadRect (View.loadsAt_vmem h_S64x128))
  let v : Vec F S64x256 .bf16 ← Prog.lift (.load arg3 (rVal jh.1 jh.2).toLoadRect (View.loadsAt_vmem h_S64x256))
  let cum : Vec F S64x128 .f32 ← Prog.lift (.load arg4 (rKey jh.1 jh.2).toLoadRect (View.loadsAt_vmem h_S64x128))
  let _ : Vec F S64x64 .bf16 ← Prog.lift (.load arg7 (rScore jh.1 jh.2).toLoadRect (View.loadsAt_vmem h_S64x64))
  Prog.lift (.store arg7 (rScore jh.1 jh.2) (scoresOf q k cum) Finset.univ (View.stores_vmem h_S64x64 (harg7.storeExact_slice rfl _ (packScore jh.1 jh.2)) (fun _ => rfl)) (.inl rfl))
  let st : Vec F S1x256x128 .f32 ← Prog.lift (.load arg8 (rState jh.2).toLoadRect (View.loadsAt_vmem h_S1x256x128))
  let _ : Vec F S1x1x256x128 .f32 ← Prog.lift (.load arg6 (rKept jh.1 jh.2).toLoadRect (View.loadsAt_vmem h_S1x1x256x128))
  Prog.lift (.store arg6 (rKept jh.1 jh.2) (keptOf st) Finset.univ (View.stores_vmem_bits_univ h_S1x1x256x128 rfl) (.inl rfl))
  let _ : Vec F S64x256 .f32 ← Prog.lift (.load arg5 (rVal jh.1 jh.2).toLoadRect (View.loadsAt_vmem h_S64x256))
  Prog.lift (.store arg5 (rVal jh.1 jh.2) (outOf q k cum v st) Finset.univ (View.stores_vmem_bits_univ h_S64x256 rfl) (.inl rfl))
  let _ : Vec F S1x256x128 .f32 ← Prog.lift (.load arg8 (rState jh.2).toLoadRect (View.loadsAt_vmem h_S1x256x128))
  Prog.lift (.store arg8 (rState jh.2) (stateOf k cum v st) Finset.univ (View.stores_vmem_bits_univ h_S1x256x128 rfl) (.inl rfl))
  pure ⟨⟩

/-- One unit of the backward body. -/
def bwdUnit (arg1 arg2 : Memref sig .tc .vmem S512x512 .f32) (arg3 : Memref sig .tc .vmem S512x1024 .bf16) (arg4 : Memref sig .tc .vmem S512x512 .f32)
    (arg5 : Memref sig .tc .vmem S512x1024 .bf16) (arg6 : Memref sig .tc .vmem S8x4x256x128 .f32) (arg7 : Memref sig .tc .vmem S512x256 .bf16)
    (arg8 : Memref sig .tc .vmem S512x512 .bf16) (harg8 : arg8.IsWhole) (arg9 : Memref sig .tc .vmem S512x512 .bf16) (harg9 : arg9.IsWhole)
    (arg10 : Memref sig .tc .vmem S512x1024 .bf16) (harg10 : arg10.IsWhole) (arg11 : Memref sig .tc .vmem S512x512 .f32)
    (arg12 : Memref sig .tc .vmem S4x256x128 .f32) (jh : Fin 8 × Fin 4) : Prog (TpuEff nD τ sig (Elt F) Λ₀ .tc) PUnit := do
  let q : Vec F S64x128 .f32 ← Prog.lift (.load arg1 (rKey jh.1 jh.2).toLoadRect (View.loadsAt_vmem h_S64x128))
  let k : Vec F S64x128 .f32 ← Prog.lift (.load arg2 (rKey jh.1 jh.2).toLoadRect (View.loadsAt_vmem h_S64x128))
  let v : Vec F S64x256 .bf16 ← Prog.lift (.load arg3 (rVal jh.1 jh.2).toLoadRect (View.loadsAt_vmem h_S64x256))
  let g : Vec F S64x256 .bf16 ← Prog.lift (.load arg5 (rVal jh.1 jh.2).toLoadRect (View.loadsAt_vmem h_S64x256))
  let cum : Vec F S64x128 .f32 ← Prog.lift (.load arg4 (rKey jh.1 jh.2).toLoadRect (View.loadsAt_vmem h_S64x128))
  let w : Vec F S64x64 .bf16 ← Prog.lift (.load arg7 (rScore jh.1 jh.2).toLoadRect (View.loadsAt_vmem h_S64x64))
  let st : Vec F S1x1x256x128 .f32 ← Prog.lift (.load arg6 (rKept jh.1 jh.2).toLoadRect (View.loadsAt_vmem h_S1x1x256x128))
  let d : Vec F S1x256x128 .f32 ← Prog.lift (.load arg12 (rState jh.2).toLoadRect (View.loadsAt_vmem h_S1x256x128))
  let _ : Vec F S64x256 .bf16 ← Prog.lift (.load arg10 (rVal jh.1 jh.2).toLoadRect (View.loadsAt_vmem h_S64x256))
  Prog.lift (.store arg10 (rVal jh.1 jh.2) (gValues k cum g w d) Finset.univ (View.stores_vmem h_S64x256 (harg10.storeExact_slice rfl _ (packVal jh.1 jh.2)) (fun _ => rfl)) (.inl rfl))
  let _ : Vec F S1x256x128 .f32 ← Prog.lift (.load arg12 (rState jh.2).toLoadRect (View.loadsAt_vmem h_S1x256x128))
  Prog.lift (.store arg12 (rState jh.2) (gState q cum g d) Finset.univ (View.stores_vmem_bits_univ h_S1x256x128 rfl) (.inl rfl))
  let _ : Vec F S64x128 .bf16 ← Prog.lift (.load arg8 (rKey jh.1 jh.2).toLoadRect (View.loadsAt_vmem h_S64x128))
  Prog.lift (.store arg8 (rKey jh.1 jh.2) (gQueries k cum v g st) Finset.univ (View.stores_vmem h_S64x128 (harg8.storeExact_slice rfl _ (packKey jh.1 jh.2)) (fun _ => rfl)) (.inl rfl))
  let _ : Vec F S64x128 .bf16 ← Prog.lift (.load arg9 (rKey jh.1 jh.2).toLoadRect (View.loadsAt_vmem h_S64x128))
  Prog.lift (.store arg9 (rKey jh.1 jh.2) (gKeys q cum v g d) Finset.univ (View.stores_vmem h_S64x128 (harg9.storeExact_slice rfl _ (packKey jh.1 jh.2)) (fun _ => rfl)) (.inl rfl))
  let _ : Vec F S64x128 .f32 ← Prog.lift (.load arg11 (rKey jh.1 jh.2).toLoadRect (View.loadsAt_vmem h_S64x128))
  Prog.lift (.store arg11 (rKey jh.1 jh.2) (gCum q k cum v g st d) Finset.univ (View.stores_vmem_bits_univ h_S64x128 rfl) (.inl rfl))
  pure ⟨⟩

/-- The first window of the forward body clears the scratch state at point 0 and then goes on as at any other point. -/
theorem fwd_split (i j : grid0.Coords) (hj : (j 0).val = 1) (arg1 : Memref sig .tc .vmem S512x512 .f32) (harg1 : arg1.IsWhole) (arg2 : Memref sig .tc .vmem S512x512 .f32) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .f32) (harg5 : arg5.IsWhole) (arg6 : Memref sig .tc .vmem S8x4x256x128 .f32) (harg6 : arg6.IsWhole) (arg7 : Memref sig .tc .vmem S512x256 .bf16) (harg7 : arg7.IsWhole) (arg8 : Memref sig .tc .vmem S4x256x128 .f32) (harg8 : arg8.IsWhole) :
    k0_part1 (F := F) i arg1 harg1 arg2 harg2 arg3 harg3 arg4 harg4 arg5 harg5 arg6 harg6 arg7 harg7 arg8 harg8 = clear (i 0).val arg8 >>= fun _ => k0_part1 (F := F) j arg1 harg1 arg2 harg2 arg3 harg3 arg4 harg4 arg5 harg5 arg6 harg6 arg7 harg7 arg8 harg8 := by
  have hz : ¬ Scalar.cmpi .ne (Scalar.extui (Scalar.cmpi .eq (BitVec.ofNat 32 (j 0).val) 0#32) : BitVec 32) 0#32 = 1#1 := by
    rw [hj]; decide
  have e (i : grid0.Coords) := congrFun (k0_part1_eq_skeleton (F := F)) i
  rw [e i, e j]
  unfold k0_part1_skel clear
  rw [dif_neg hz]
  by_cases h : Scalar.cmpi .ne (Scalar.extui (Scalar.cmpi .eq (BitVec.ofNat 32 (i 0).val) 0#32) : BitVec 32) 0#32 = 1#1
  · rw [dif_pos h, dif_pos h]; rfl
  · rw [dif_neg h, dif_neg h]; rfl

/-- The forward body is its chain of units. -/
theorem fwd_eq (i : grid0.Coords) (arg1 : Memref sig .tc .vmem S512x512 .f32) (harg1 : arg1.IsWhole) (arg2 : Memref sig .tc .vmem S512x512 .f32) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .f32) (harg5 : arg5.IsWhole) (arg6 : Memref sig .tc .vmem S8x4x256x128 .f32) (harg6 : arg6.IsWhole) (arg7 : Memref sig .tc .vmem S512x256 .bf16) (harg7 : arg7.IsWhole) (arg8 : Memref sig .tc .vmem S4x256x128 .f32) (harg8 : arg8.IsWhole) :
    cc0_gla_forward (F := F) i arg1 harg1 arg2 harg2 arg3 harg3 arg4 harg4 arg5 harg5 arg6 harg6 arg7 harg7 arg8 harg8
      = clear (i 0).val arg8 >>= fun _ => chain (fwdUnit arg1 arg2 arg3 arg4 arg5 arg6 arg7 harg7 arg8) upward := by
  simp only [cc0_gla_forward_eq_skeleton]
  unfold cc0_gla_forward_skel
  simp only [k0_part44_eq_skeleton]
  unfold k0_part44_skel
  rw [fwd_split i (Fin.cons (⟨1, by decide⟩ : Fin 8) fun a => a.elim0) rfl, Prog.bind_assoc, Prog.bind_assoc]
  refine congrArg _ (funext fun _ => ?_)
  sl_kernel_rfl

/-- The first window of the backward body clears the scratch state at point 0 and then goes on as at any other point. -/
theorem bwd_split (i j : grid1.Coords) (hj : (j 0).val = 1) (arg1 : Memref sig .tc .vmem S512x512 .f32) (harg1 : arg1.IsWhole) (arg2 : Memref sig .tc .vmem S512x512 .f32) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S512x256 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x256x128 .f32) (harg12 : arg12.IsWhole) :
    k1_part1 (F := F) i arg1 harg1 arg2 harg2 arg3 harg3 arg4 harg4 arg5 harg5 arg6 harg6 arg7 harg7 arg8 harg8 arg9 harg9 arg10 harg10 arg11 harg11 arg12 harg12 = clear (i 0).val arg12 >>= fun _ => k1_part1 (F := F) j arg1 harg1 arg2 harg2 arg3 harg3 arg4 harg4 arg5 harg5 arg6 harg6 arg7 harg7 arg8 harg8 arg9 harg9 arg10 harg10 arg11 harg11 arg12 harg12 := by
  have hz : ¬ Scalar.cmpi .ne (Scalar.extui (Scalar.cmpi .eq (BitVec.ofNat 32 (j 0).val) 0#32) : BitVec 32) 0#32 = 1#1 := by
    rw [hj]; decide
  have e (i : grid1.Coords) := congrFun (k1_part1_eq_skeleton (F := F)) i
  rw [e i, e j]
  unfold k1_part1_skel clear
  rw [dif_neg hz]
  by_cases h : Scalar.cmpi .ne (Scalar.extui (Scalar.cmpi .eq (BitVec.ofNat 32 (i 0).val) 0#32) : BitVec 32) 0#32 = 1#1
  · rw [dif_pos h, dif_pos h]; rfl
  · rw [dif_neg h, dif_neg h]; rfl

/-- The backward body is its chain of units. -/
theorem bwd_eq (i : grid1.Coords) (arg1 : Memref sig .tc .vmem S512x512 .f32) (harg1 : arg1.IsWhole) (arg2 : Memref sig .tc .vmem S512x512 .f32) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1024 .bf16) (harg5 : arg5.IsWhole) (arg6 : Memref sig .tc .vmem S8x4x256x128 .f32) (harg6 : arg6.IsWhole) (arg7 : Memref sig .tc .vmem S512x256 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S4x256x128 .f32) (harg12 : arg12.IsWhole) :
    cc1_gla_backward (F := F) i arg1 harg1 arg2 harg2 arg3 harg3 arg4 harg4 arg5 harg5 arg6 harg6 arg7 harg7 arg8 harg8 arg9 harg9 arg10 harg10 arg11 harg11 arg12 harg12
      = clear (i 0).val arg12 >>= fun _ => chain (bwdUnit arg1 arg2 arg3 arg4 arg5 arg6 arg7 arg8 harg8 arg9 harg9 arg10 harg10 arg11 arg12) downward := by
  simp only [cc1_gla_backward_eq_skeleton]
  unfold cc1_gla_backward_skel
  simp only [k1_part84_eq_skeleton]
  unfold k1_part84_skel
  rw [bwd_split i (Fin.cons (⟨1, by decide⟩ : Fin 8) fun a => a.elim0) rfl, Prog.bind_assoc, Prog.bind_assoc]
  refine congrArg _ (funext fun _ => ?_)
  sl_kernel_rfl

end Cert.KernelIdeal.Own
-- ==== Proof.Kernel.Buffers.lean ====
/-
  What a body's stores do to a buffer, the blocks that a unit reads, and the clearing of the scratch state.
-/
module

public import proofs.«01_k».proof.Proof.Kernel.Programs
public import Idealize.ShloMosaic.Lib.VecWindow
public import Idealize.ShloMosaic.Lib.Pipeline.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A buffer with one store over the window at `off` holds what it held with the payload put there. -/
theorem owns_put (c : Dev nD) {sp : Space} {s : Shape} {e : EltTy} (m : Memref sig .tc sp s e) (f : m.view.ty.Contents (Elt F))
    {off size : Fin s.rank → ℕ} (inb : ∀ a, off a + size a ≤ s.size a) (w : (Rect.unit off size inb).shape.Idx → Elt F e) (X : s.Idx → Elt F e)
    (hX : VecWindow.put (m.view.read (Elt F) f) off size w = X) :
    (m.view.loc (c : Thread nD τ) ↦[m.view.set]{fullShare} m.view.writes (Elt F) f [⟨Rect.unit off size inb, w⟩] : sProp 𝕄)
      ⊢ iprop(∃ f, ⌜m.view.read (Elt F) f = X⌝ ∗ (m.view.loc (c : Thread nD τ) ↦[m.view.set]{fullShare} f)) := by
  iintro H
  iexists _
  isplitr
  · ipureintro; exact (View.read_writes_cons_put m.view f inb w [] rfl).trans hX
  iexact H

/-- A buffer holds what it reads. -/
theorem owns_self (c : Dev nD) {sp : Space} {s : Shape} {e : EltTy} (m : Memref sig .tc sp s e) (f : m.view.ty.Contents (Elt F)) :
    (m.view.loc (c : Thread nD τ) ↦[m.view.set]{fullShare} f : sProp 𝕄)
      ⊢ iprop(∃ f', ⌜m.view.read (Elt F) f' = m.view.read (Elt F) f⌝ ∗ (m.view.loc (c : Thread nD τ) ↦[m.view.set]{fullShare} f')) := by
  iintro H
  iexists f
  isplitr
  · ipureintro; exact rfl
  iexact H

/-! ## A unit's blocks of the whole blocks -/

def keyOf (x : Vec F S512x512 .f32) (j : Fin 8) (h : Fin 4) : Vec F S64x128 .f32 := VecWindow.window x (offKey j h) S64x128.size (inKey j h)
def valOf (x : Vec F S512x1024 .bf16) (j : Fin 8) (h : Fin 4) : Vec F S64x256 .bf16 := VecWindow.window x (offVal j h) S64x256.size (inVal j h)
def stOf (x : Vec F S4x256x128 .f32) (h : Fin 4) : Vec F S1x256x128 .f32 := VecWindow.window x (offState h) S1x256x128.size (inState h)

/-- The scratch state as the units of grid point `n` find it. -/
def startAt (n : ℕ) (x : Vec F S4x256x128 .f32) : Vec F S4x256x128 .f32 :=
  if Scalar.cmpi .ne (Scalar.extui (Scalar.cmpi .eq (BitVec.ofNat 32 n) 0#32) : BitVec 32) 0#32 = 1#1 then start else x

/-- The opening of a body clears the scratch state at point 0 and leaves it alone at the others. -/
theorem clear_run (c : Dev nD) (n : ℕ) (m : Memref sig .tc .vmem S4x256x128 .f32) (x : Vec F S4x256x128 .f32) (E : Set ℕ) (K : PUnit → sProp 𝕄) :
    iprop(owns (c : Thread nD τ) m fullShare x ∗ (owns (c : Thread nD τ) m fullShare (startAt n x) -∗ K ⟨⟩))
      ⊢ wp frame (wpE (defs₀ (F := F)) Variants.none c none) E (clear (F := F) n m) K := by
  by_cases hc : Scalar.cmpi .ne (Scalar.extui (Scalar.cmpi .eq (BitVec.ofNat 32 n) 0#32) : BitVec 32) 0#32 = 1#1
  · unfold clear startAt
    rw [dif_pos hc, if_pos hc]
    unfold owns
    iintro ⟨⟨%f, %hf, H⟩, Hk⟩
    sl_exec
    sl_step
    iapply Hk
    have hX : VecWindow.put (m.view.read (Elt F) f) ![0, 0, 0] S4x256x128.size (start (F := F)) = start :=
      (View.read_writes_cons_put m.view f inb_S4x256x128_S4x256x128_0_0_0 start [] rfl).symm.trans
        (View.read_writes_full m.view f inb_S4x256x128_S4x256x128_0_0_0 start [])
    iapply (owns_put c m f inb_S4x256x128_S4x256x128_0_0_0 start start hX)
    iexact H
  · unfold clear startAt
    rw [dif_neg hc, if_neg hc]
    iintro ⟨H, Hk⟩
    sl_step
    iapply Hk
    iexact H

end Cert.KernelIdeal.Own
-- ==== Proof.Kernel.FwdRun.lean ====
/-
  One unit of the forward body run once, at any chunk and head, and from it the whole body: what the four output buffers
  hold is a fold of `fwdStep` over the units.
-/
module

public import proofs.«01_k».proof.Proof.Kernel.Buffers

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The blocks that the forward body reads at one grid point. -/
structure FwdIn (F : FTy → Type) where
  q : Vec F S512x512 .f32
  k : Vec F S512x512 .f32
  v : Vec F S512x1024 .bf16
  cum : Vec F S512x512 .f32

/-- The buffers that the forward body writes: its three outputs' blocks and the scratch state. -/
structure FwdSt (F : FTy → Type) where
  out : Vec F S512x1024 .f32
  kept : Vec F S8x4x256x128 .f32
  scores : Vec F S512x256 .bf16
  st : Vec F S4x256x128 .f32

/-- What one unit does to the buffers. -/
def fwdStep (b : FwdIn F) (s : FwdSt F) (jh : Fin 8 × Fin 4) : FwdSt F where
  scores := VecWindow.put s.scores (offScore jh.1 jh.2) S64x64.size (scoresOf (keyOf b.q jh.1 jh.2) (keyOf b.k jh.1 jh.2) (keyOf b.cum jh.1 jh.2))
  kept := VecWindow.put s.kept (offKept jh.1 jh.2) S1x1x256x128.size (keptOf (stOf s.st jh.2))
  out := VecWindow.put s.out (offVal jh.1 jh.2) S64x256.size
    (outOf (keyOf b.q jh.1 jh.2) (keyOf b.k jh.1 jh.2) (keyOf b.cum jh.1 jh.2) (valOf b.v jh.1 jh.2) (stOf s.st jh.2))
  st := VecWindow.put s.st (offState jh.2) S1x256x128.size
    (stateOf (keyOf b.k jh.1 jh.2) (keyOf b.cum jh.1 jh.2) (valOf b.v jh.1 jh.2) (stOf s.st jh.2))

section Run

variable (c : Dev nD) (arg1 arg2 : Memref sig .tc .vmem S512x512 .f32) (arg3 : Memref sig .tc .vmem S512x1024 .bf16) (arg4 : Memref sig .tc .vmem S512x512 .f32)
  (arg5 : Memref sig .tc .vmem S512x1024 .f32) (arg6 : Memref sig .tc .vmem S8x4x256x128 .f32) (arg7 : Memref sig .tc .vmem S512x256 .bf16) (harg7 : arg7.IsWhole)
  (arg8 : Memref sig .tc .vmem S4x256x128 .f32)

/-- The body's buffers: the inputs at their blocks, the outputs and the scratch at the state's contents. -/
def fwdOwn (b : FwdIn F) (s : FwdSt F) : sProp 𝕄 :=
  iprop(owns (c : Thread nD τ) arg1 fullShare b.q ∗ owns (c : Thread nD τ) arg2 fullShare b.k ∗ owns (c : Thread nD τ) arg3 fullShare b.v
    ∗ owns (c : Thread nD τ) arg4 fullShare b.cum ∗ owns (c : Thread nD τ) arg5 fullShare s.out ∗ owns (c : Thread nD τ) arg6 fullShare s.kept
    ∗ owns (c : Thread nD τ) arg7 fullShare s.scores ∗ owns (c : Thread nD τ) arg8 fullShare s.st)

/-- One unit of the forward body takes the buffers from `s` to `fwdStep b s`. -/
theorem fwdUnit_run (b : FwdIn F) (s : FwdSt F) (jh : Fin 8 × Fin 4) (E : Set ℕ) (K : PUnit → sProp 𝕄) :
    iprop(fwdOwn c arg1 arg2 arg3 arg4 arg5 arg6 arg7 arg8 b s ∗ (fwdOwn c arg1 arg2 arg3 arg4 arg5 arg6 arg7 arg8 b (fwdStep b s jh) -∗ K ⟨⟩))
      ⊢ wp frame (wpE (defs₀ (F := F)) Variants.none c none) E (fwdUnit arg1 arg2 arg3 arg4 arg5 arg6 arg7 harg7 arg8 jh) K := by
  obtain ⟨j, h⟩ := jh
  obtain ⟨q, k, v, cum⟩ := b
  obtain ⟨out, kept, scores, st⟩ := s
  unfold fwdOwn fwdUnit owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf0; subst hf1; subst hf2; subst hf3; subst hf4; subst hf5; subst hf6; subst hf7
  sl_exec
  sl_step
  iapply Hk
  isplitl [H0]; · iapply (owns_self c arg1 f0); iexact H0
  isplitl [H1]; · iapply (owns_self c arg2 f1); iexact H1
  isplitl [H2]; · iapply (owns_self c arg3 f2); iexact H2
  isplitl [H3]; · iapply (owns_self c arg4 f3); iexact H3
  isplitl [H4]; · iapply (owns_put c arg5 f4 (inVal j h) _ _ rfl); iexact H4
  isplitl [H5]; · iapply (owns_put c arg6 f5 (inKept j h) _ _ rfl); iexact H5
  isplitl [H6]; · iapply (owns_put c arg7 f6 (inScore j h) _ _ rfl); iexact H6
  iapply (owns_put c arg8 f7 (inState h) _ _ rfl); iexact H7

/-- A chain of units takes the buffers through the fold of `fwdStep`. -/
theorem fwdChain_run (b : FwdIn F) (l : List (Fin 8 × Fin 4)) (s : FwdSt F) (E : Set ℕ) (K : PUnit → sProp 𝕄) :
    iprop(fwdOwn c arg1 arg2 arg3 arg4 arg5 arg6 arg7 arg8 b s ∗ (fwdOwn c arg1 arg2 arg3 arg4 arg5 arg6 arg7 arg8 b (l.foldl (fwdStep b) s) -∗ K ⟨⟩))
      ⊢ wp frame (wpE (defs₀ (F := F)) Variants.none c none) E (chain (fwdUnit arg1 arg2 arg3 arg4 arg5 arg6 arg7 harg7 arg8) l) K := by
  induction l generalizing s with
  | nil =>
    unfold chain
    iintro ⟨H, Hk⟩
    sl_step
    iapply Hk
    iexact H
  | cons x xs ih =>
    unfold chain
    rw [wp_bind]
    refine BI.BIBase.Entails.trans ?_ (fwdUnit_run c arg1 arg2 arg3 arg4 arg5 arg6 arg7 harg7 arg8 b s x E _)
    iintro ⟨H, Hk⟩
    isplitl [H]; · iexact H
    iintro H
    iapply (ih (fwdStep b s x))
    isplitl [H]; · iexact H
    iexact Hk

/-- The forward body at one grid point, from any contents of its outputs and the state `s.st`. -/
theorem fwdBody_run (i : grid0.Coords) (harg1 : arg1.IsWhole) (harg2 : arg2.IsWhole) (harg3 : arg3.IsWhole) (harg4 : arg4.IsWhole) (harg5 : arg5.IsWhole)
    (harg6 : arg6.IsWhole) (harg8 : arg8.IsWhole) (b : FwdIn F) (s : FwdSt F) (E : Set ℕ) (K : PUnit → sProp 𝕄) :
    iprop(fwdOwn c arg1 arg2 arg3 arg4 arg5 arg6 arg7 arg8 b s
        ∗ (fwdOwn c arg1 arg2 arg3 arg4 arg5 arg6 arg7 arg8 b (upward.foldl (fwdStep b) { s with st := startAt (i 0).val s.st }) -∗ K ⟨⟩))
      ⊢ wp frame (wpE (defs₀ (F := F)) Variants.none c none) E
          (cc0_gla_forward i arg1 harg1 arg2 harg2 arg3 harg3 arg4 harg4 arg5 harg5 arg6 harg6 arg7 harg7 arg8 harg8) K := by
  rw [fwd_eq, wp_bind]
  refine BI.BIBase.Entails.trans ?_ (clear_run c (i 0).val arg8 s.st E _)
  unfold fwdOwn
  iintro ⟨⟨H1, H2, H3, H4, H5, H6, H7, H8⟩, Hk⟩
  isplitl [H8]; · iexact H8
  iintro H8
  iapply (fwdChain_run c arg1 arg2 arg3 arg4 arg5 arg6 arg7 harg7 arg8 b upward { s with st := startAt (i 0).val s.st })
  unfold fwdOwn
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hk

end Run

end Cert.KernelIdeal.Own
-- ==== Proof.Kernel.BwdRun.lean ====
/-
  One unit of the backward body run once, at any chunk and head, and from it the whole body.
-/
module

public import proofs.«01_k».proof.Proof.Kernel.Buffers

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

def scoreOf (x : Vec F S512x256 .bf16) (j : Fin 8) (h : Fin 4) : Vec F S64x64 .bf16 := VecWindow.window x (offScore j h) S64x64.size (inScore j h)
def keptBlk (x : Vec F S8x4x256x128 .f32) (j : Fin 8) (h : Fin 4) : Vec F S1x1x256x128 .f32 := VecWindow.window x (offKept j h) S1x1x256x128.size (inKept j h)

/-- The blocks that the backward body reads at one grid point. -/
structure BwdIn (F : FTy → Type) where
  q : Vec F S512x512 .f32
  k : Vec F S512x512 .f32
  v : Vec F S512x1024 .bf16
  cum : Vec F S512x512 .f32
  g : Vec F S512x1024 .bf16
  kept : Vec F S8x4x256x128 .f32
  scores : Vec F S512x256 .bf16

/-- The buffers that the backward body writes: the four gradients' blocks and the scratch state's gradient. -/
structure BwdSt (F : FTy → Type) where
  dq : Vec F S512x512 .bf16
  dk : Vec F S512x512 .bf16
  dv : Vec F S512x1024 .bf16
  dcum : Vec F S512x512 .f32
  st : Vec F S4x256x128 .f32

/-- What one unit does to the buffers. -/
def bwdStep (b : BwdIn F) (s : BwdSt F) (jh : Fin 8 × Fin 4) : BwdSt F where
  dq := VecWindow.put s.dq (offKey jh.1 jh.2) S64x128.size
    (gQueries (keyOf b.k jh.1 jh.2) (keyOf b.cum jh.1 jh.2) (valOf b.v jh.1 jh.2) (valOf b.g jh.1 jh.2) (keptBlk b.kept jh.1 jh.2))
  dk := VecWindow.put s.dk (offKey jh.1 jh.2) S64x128.size
    (gKeys (keyOf b.q jh.1 jh.2) (keyOf b.cum jh.1 jh.2) (valOf b.v jh.1 jh.2) (valOf b.g jh.1 jh.2) (stOf s.st jh.2))
  dv := VecWindow.put s.dv (offVal jh.1 jh.2) S64x256.size
    (gValues (keyOf b.k jh.1 jh.2) (keyOf b.cum jh.1 jh.2) (valOf b.g jh.1 jh.2) (scoreOf b.scores jh.1 jh.2) (stOf s.st jh.2))
  dcum := VecWindow.put s.dcum (offKey jh.1 jh.2) S64x128.size
    (gCum (keyOf b.q jh.1 jh.2) (keyOf b.k jh.1 jh.2) (keyOf b.cum jh.1 jh.2) (valOf b.v jh.1 jh.2) (valOf b.g jh.1 jh.2) (keptBlk b.kept jh.1 jh.2) (stOf s.st jh.2))
  st := VecWindow.put s.st (offState jh.2) S1x256x128.size
    (gState (keyOf b.q jh.1 jh.2) (keyOf b.cum jh.1 jh.2) (valOf b.g jh.1 jh.2) (stOf s.st jh.2))

section Run

variable (c : Dev nD) (arg1 arg2 : Memref sig .tc .vmem S512x512 .f32) (arg3 : Memref sig .tc .vmem S512x1024 .bf16) (arg4 : Memref sig .tc .vmem S512x512 .f32)
  (arg5 : Memref sig .tc .vmem S512x1024 .bf16) (arg6 : Memref sig .tc .vmem S8x4x256x128 .f32) (arg7 : Memref sig .tc .vmem S512x256 .bf16)
  (arg8 : Memref sig .tc .vmem S512x512 .bf16) (harg8 : arg8.IsWhole) (arg9 : Memref sig .tc .vmem S512x512 .bf16) (harg9 : arg9.IsWhole)
  (arg10 : Memref sig .tc .vmem S512x1024 .bf16) (harg10 : arg10.IsWhole) (arg11 : Memref sig .tc .vmem S512x512 .f32)
  (arg12 : Memref sig .tc .vmem S4x256x128 .f32)

/-- The body's buffers: the inputs at their blocks, the outputs and the scratch at the state's contents. -/
def bwdOwn (b : BwdIn F) (s : BwdSt F) : sProp 𝕄 :=
  iprop(owns (c : Thread nD τ) arg1 fullShare b.q ∗ owns (c : Thread nD τ) arg2 fullShare b.k ∗ owns (c : Thread nD τ) arg3 fullShare b.v
    ∗ owns (c : Thread nD τ) arg4 fullShare b.cum ∗ owns (c : Thread nD τ) arg5 fullShare b.g ∗ owns (c : Thread nD τ) arg6 fullShare b.kept
    ∗ owns (c : Thread nD τ) arg7 fullShare b.scores ∗ owns (c : Thread nD τ) arg8 fullShare s.dq ∗ owns (c : Thread nD τ) arg9 fullShare s.dk
    ∗ owns (c : Thread nD τ) arg10 fullShare s.dv ∗ owns (c : Thread nD τ) arg11 fullShare s.dcum ∗ owns (c : Thread nD τ) arg12 fullShare s.st)

/-- One unit of the backward body takes the buffers from `s` to `bwdStep b s`. -/
theorem bwdUnit_run (b : BwdIn F) (s : BwdSt F) (jh : Fin 8 × Fin 4) (E : Set ℕ) (K : PUnit → sProp 𝕄) :
    iprop(bwdOwn c arg1 arg2 arg3 arg4 arg5 arg6 arg7 arg8 arg9 arg10 arg11 arg12 b s
        ∗ (bwdOwn c arg1 arg2 arg3 arg4 arg5 arg6 arg7 arg8 arg9 arg10 arg11 arg12 b (bwdStep b s jh) -∗ K ⟨⟩))
      ⊢ wp frame (wpE (defs₀ (F := F)) Variants.none c none) E
          (bwdUnit arg1 arg2 arg3 arg4 arg5 arg6 arg7 arg8 harg8 arg9 harg9 arg10 harg10 arg11 arg12 jh) K := by
  obtain ⟨j, h⟩ := jh
  obtain ⟨q, k, v, cum, g, kept, scores⟩ := b
  obtain ⟨dq, dk, dv, dcum, st⟩ := s
  unfold bwdOwn bwdUnit owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1; subst hf2; subst hf3; subst hf4; subst hf5; subst hf6; subst hf7; subst hf8; subst hf9; subst hf10; subst hf11; subst hf12
  sl_exec
  sl_step
  iapply Hk
  isplitl [H1]; · iapply (owns_self c arg1 f1); iexact H1
  isplitl [H2]; · iapply (owns_self c arg2 f2); iexact H2
  isplitl [H3]; · iapply (owns_self c arg3 f3); iexact H3
  isplitl [H4]; · iapply (owns_self c arg4 f4); iexact H4
  isplitl [H5]; · iapply (owns_self c arg5 f5); iexact H5
  isplitl [H6]; · iapply (owns_self c arg6 f6); iexact H6
  isplitl [H7]; · iapply (owns_self c arg7 f7); iexact H7
  isplitl [H8]; · iapply (owns_put c arg8 f8 (inKey j h) _ _ rfl); iexact H8
  isplitl [H9]; · iapply (owns_put c arg9 f9 (inKey j h) _ _ rfl); iexact H9
  isplitl [H10]; · iapply (owns_put c arg10 f10 (inVal j h) _ _ rfl); iexact H10
  isplitl [H11]; · iapply (owns_put c arg11 f11 (inKey j h) _ _ rfl); iexact H11
  iapply (owns_put c arg12 f12 (inState h) _ _ rfl); iexact H12

/-- A chain of units takes the buffers through the fold of `bwdStep`. -/
theorem bwdChain_run (b : BwdIn F) (l : List (Fin 8 × Fin 4)) (s : BwdSt F) (E : Set ℕ) (K : PUnit → sProp 𝕄) :
    iprop(bwdOwn c arg1 arg2 arg3 arg4 arg5 arg6 arg7 arg8 arg9 arg10 arg11 arg12 b s
        ∗ (bwdOwn c arg1 arg2 arg3 arg4 arg5 arg6 arg7 arg8 arg9 arg10 arg11 arg12 b (l.foldl (bwdStep b) s) -∗ K ⟨⟩))
      ⊢ wp frame (wpE (defs₀ (F := F)) Variants.none c none) E
          (chain (bwdUnit arg1 arg2 arg3 arg4 arg5 arg6 arg7 arg8 harg8 arg9 harg9 arg10 harg10 arg11 arg12) l) K := by
  induction l generalizing s with
  | nil =>
    unfold chain
    iintro ⟨H, Hk⟩
    sl_step
    iapply Hk
    iexact H
  | cons x xs ih =>
    unfold chain
    rw [wp_bind]
    refine BI.BIBase.Entails.trans ?_ (bwdUnit_run c arg1 arg2 arg3 arg4 arg5 arg6 arg7 arg8 harg8 arg9 harg9 arg10 harg10 arg11 arg12 b s x E _)
    iintro ⟨H, Hk⟩
    isplitl [H]; · iexact H
    iintro H
    iapply (ih (bwdStep b s x))
    isplitl [H]; · iexact H
    iexact Hk

/-- The backward body at one grid point, from any contents of its outputs and the state's gradient `s.st`. -/
theorem bwdBody_run (i : grid1.Coords) (harg1 : arg1.IsWhole) (harg2 : arg2.IsWhole) (harg3 : arg3.IsWhole) (harg4 : arg4.IsWhole) (harg5 : arg5.IsWhole)
    (harg6 : arg6.IsWhole) (harg7 : arg7.IsWhole) (harg11 : arg11.IsWhole) (harg12 : arg12.IsWhole) (b : BwdIn F) (s : BwdSt F) (E : Set ℕ) (K : PUnit → sProp 𝕄) :
    iprop(bwdOwn c arg1 arg2 arg3 arg4 arg5 arg6 arg7 arg8 arg9 arg10 arg11 arg12 b s
        ∗ (bwdOwn c arg1 arg2 arg3 arg4 arg5 arg6 arg7 arg8 arg9 arg10 arg11 arg12 b (downward.foldl (bwdStep b) { s with st := startAt (i 0).val s.st }) -∗ K ⟨⟩))
      ⊢ wp frame (wpE (defs₀ (F := F)) Variants.none c none) E
          (cc1_gla_backward i arg1 harg1 arg2 harg2 arg3 harg3 arg4 harg4 arg5 harg5 arg6 harg6 arg7 harg7 arg8 harg8 arg9 harg9 arg10 harg10 arg11 harg11 arg12 harg12) K := by
  rw [bwd_eq, wp_bind]
  refine BI.BIBase.Entails.trans ?_ (clear_run c (i 0).val arg12 s.st E _)
  unfold bwdOwn
  iintro ⟨⟨H1, H2, H3, H4, H5, H6, H7, H8, H9, H10, H11, H12⟩, Hk⟩
  isplitl [H12]; · iexact H12
  iintro H12
  iapply (bwdChain_run c arg1 arg2 arg3 arg4 arg5 arg6 arg7 arg8 harg8 arg9 harg9 arg10 harg10 arg11 arg12 b downward { s with st := startAt (i 0).val s.st })
  unfold bwdOwn
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hk

end Run

end Cert.KernelIdeal.Own
-- ==== Proof.Kernel.Fold.lean ====
/-
  What the folds over the units leave in the buffers: each unit's window holds its payload at the state that the earlier
  units left, whatever the buffers held before.
-/
module

public import proofs.«01_k».proof.Proof.Kernel.FwdRun
public import proofs.«01_k».proof.Proof.Kernel.BwdRun

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## A buffer written window by window -/

section Fold

variable {σ U α : Type} {s : Shape} (step : σ → U → σ) (get : σ → s.Idx → α) (off : U → Fin s.rank → ℕ) (size : Fin s.rank → ℕ)
  (inb : ∀ u a, off u a + size a ≤ s.size a) (pay : σ → U → ((a : Fin s.rank) → Fin (size a)) → α)
  (hget : ∀ x u, get (step x u) = VecWindow.put (get x) (off u) size (pay x u))
  (hdis : ∀ u u', u ≠ u' → ∃ a, off u a + size a ≤ off u' a ∨ off u' a + size a ≤ off u a)

include hget hdis

/-- Units other than `u` leave its window alone. -/
theorem window_foldl_of_not_mem (u : U) (l : List U) (hu : u ∉ l) (x : σ) :
    VecWindow.window (get (l.foldl step x)) (off u) size (inb u) = VecWindow.window (get x) (off u) size (inb u) := by
  induction l generalizing x with
  | nil => rfl
  | cons w ws ih =>
    have hw : u ≠ w := fun h => hu (h ▸ List.mem_cons_self)
    obtain ⟨a, ha⟩ := hdis u w hw
    rw [List.foldl_cons, ih (fun h => hu (List.mem_cons_of_mem _ h)), hget]
    exact VecWindow.window_put_of_disjoint _ _ _ _ _ _ _ a ha

/-- After all the units, `u`'s window holds what `u` put there. -/
theorem window_foldl (u : U) (p q : List U) (hu : u ∉ q) (x : σ) :
    VecWindow.window (get ((p ++ u :: q).foldl step x)) (off u) size (inb u) = pay (p.foldl step x) u := by
  rw [List.foldl_append, List.foldl_cons, window_foldl_of_not_mem step get off size inb pay hget hdis u q hu, hget]
  exact VecWindow.window_put_same _ _ _ _ _

end Fold

/-- Two vectors with the same windows are equal, where the windows cover the shape. -/
theorem eq_of_windows {U α : Type} {s : Shape} (off : U → Fin s.rank → ℕ) (size : Fin s.rank → ℕ) (inb : ∀ u a, off u a + size a ≤ s.size a)
    (hcov : ∀ y : s.Idx, ∃ u, ∀ a, off u a ≤ (y a).val ∧ (y a).val < off u a + size a) (x x' : s.Idx → α)
    (h : ∀ u, VecWindow.window x (off u) size (inb u) = VecWindow.window x' (off u) size (inb u)) : x = x' := by
  funext y
  obtain ⟨u, hu⟩ := hcov y
  have e : y = (Rect.unit (off u) size (inb u)).emb (Rect.unitLocal (s := s) (off := off u) (size := size) y hu) :=
    funext fun a => Fin.ext (by
      show (y a).val = off u a + 1 * ((y a).val - off u a)
      have := hu a; omega)
  rw [e]
  exact congrFun (h u) _

/-! ## The windows lie apart and cover -/

abbrev Unt := Fin 8 × Fin 4

theorem disKey (u u' : Unt) (h : u ≠ u') : ∃ a, offKey u.1 u.2 a + S64x128.size a ≤ offKey u'.1 u'.2 a ∨ offKey u'.1 u'.2 a + S64x128.size a ≤ offKey u.1 u.2 a := by
  revert u u'; decide +kernel
theorem disVal (u u' : Unt) (h : u ≠ u') : ∃ a, offVal u.1 u.2 a + S64x256.size a ≤ offVal u'.1 u'.2 a ∨ offVal u'.1 u'.2 a + S64x256.size a ≤ offVal u.1 u.2 a := by
  revert u u'; decide +kernel
theorem disScore (u u' : Unt) (h : u ≠ u') : ∃ a, offScore u.1 u.2 a + S64x64.size a ≤ offScore u'.1 u'.2 a ∨ offScore u'.1 u'.2 a + S64x64.size a ≤ offScore u.1 u.2 a := by
  revert u u'; decide +kernel
theorem disKept (u u' : Unt) (h : u ≠ u') : ∃ a, offKept u.1 u.2 a + S1x1x256x128.size a ≤ offKept u'.1 u'.2 a ∨ offKept u'.1 u'.2 a + S1x1x256x128.size a ≤ offKept u.1 u.2 a := by
  revert u u'; decide +kernel

theorem covKey (y : S512x512.Idx) : ∃ u : Unt, ∀ a, offKey u.1 u.2 a ≤ (y a).val ∧ (y a).val < offKey u.1 u.2 a + S64x128.size a := by
  have h0 : (y 0).val < 512 := (y 0).isLt
  have h1 : (y 1).val < 512 := (y 1).isLt
  refine ⟨(⟨(y 0).val / 64, by omega⟩, ⟨(y 1).val / 128, by omega⟩), fun a => ?_⟩
  fin_cases a
  · show 64 * ((y 0).val / 64) ≤ (y 0).val ∧ (y 0).val < 64 * ((y 0).val / 64) + 64; omega
  · show 128 * ((y 1).val / 128) ≤ (y 1).val ∧ (y 1).val < 128 * ((y 1).val / 128) + 128; omega
theorem covVal (y : S512x1024.Idx) : ∃ u : Unt, ∀ a, offVal u.1 u.2 a ≤ (y a).val ∧ (y a).val < offVal u.1 u.2 a + S64x256.size a := by
  have h0 : (y 0).val < 512 := (y 0).isLt
  have h1 : (y 1).val < 1024 := (y 1).isLt
  refine ⟨(⟨(y 0).val / 64, by omega⟩, ⟨(y 1).val / 256, by omega⟩), fun a => ?_⟩
  fin_cases a
  · show 64 * ((y 0).val / 64) ≤ (y 0).val ∧ (y 0).val < 64 * ((y 0).val / 64) + 64; omega
  · show 256 * ((y 1).val / 256) ≤ (y 1).val ∧ (y 1).val < 256 * ((y 1).val / 256) + 256; omega
theorem covScore (y : S512x256.Idx) : ∃ u : Unt, ∀ a, offScore u.1 u.2 a ≤ (y a).val ∧ (y a).val < offScore u.1 u.2 a + S64x64.size a := by
  have h0 : (y 0).val < 512 := (y 0).isLt
  have h1 : (y 1).val < 256 := (y 1).isLt
  refine ⟨(⟨(y 0).val / 64, by omega⟩, ⟨(y 1).val / 64, by omega⟩), fun a => ?_⟩
  fin_cases a
  · show 64 * ((y 0).val / 64) ≤ (y 0).val ∧ (y 0).val < 64 * ((y 0).val / 64) + 64; omega
  · show 64 * ((y 1).val / 64) ≤ (y 1).val ∧ (y 1).val < 64 * ((y 1).val / 64) + 64; omega
theorem covKept (y : S8x4x256x128.Idx) : ∃ u : Unt, ∀ a, offKept u.1 u.2 a ≤ (y a).val ∧ (y a).val < offKept u.1 u.2 a + S1x1x256x128.size a := by
  have h0 : (y 0).val < 8 := (y 0).isLt
  have h1 : (y 1).val < 4 := (y 1).isLt
  have h2 : (y 2).val < 256 := (y 2).isLt
  have h3 : (y 3).val < 128 := (y 3).isLt
  refine ⟨(⟨(y 0).val, h0⟩, ⟨(y 1).val, h1⟩), fun a => ?_⟩
  fin_cases a
  · show (y 0).val ≤ (y 0).val ∧ (y 0).val < (y 0).val + 1; omega
  · show (y 1).val ≤ (y 1).val ∧ (y 1).val < (y 1).val + 1; omega
  · show 0 ≤ (y 2).val ∧ (y 2).val < 0 + 256; omega
  · show 0 ≤ (y 3).val ∧ (y 3).val < 0 + 128; omega
theorem covState (y : S4x256x128.Idx) : ∃ h : Fin 4, ∀ a, offState h a ≤ (y a).val ∧ (y a).val < offState h a + S1x256x128.size a := by
  have h0 : (y 0).val < 4 := (y 0).isLt
  have h1 : (y 1).val < 256 := (y 1).isLt
  have h2 : (y 2).val < 128 := (y 2).isLt
  refine ⟨⟨(y 0).val, h0⟩, fun a => ?_⟩
  fin_cases a
  · show (y 0).val ≤ (y 0).val ∧ (y 0).val < (y 0).val + 1; omega
  · show 0 ≤ (y 1).val ∧ (y 1).val < 0 + 256; omega
  · show 0 ≤ (y 2).val ∧ (y 2).val < 0 + 128; omega

/-- The state put for one head, read at another. -/
theorem stOf_put (x : Vec F S4x256x128 .f32) (h h' : Fin 4) (w : Vec F S1x256x128 .f32) :
    stOf (VecWindow.put x (offState h') S1x256x128.size w) h = if h' = h then w else stOf x h := by
  unfold stOf
  by_cases e : h' = h
  · subst e; rw [if_pos rfl]; exact VecWindow.window_put_same _ _ _ _ _
  · rw [if_neg e]
    refine VecWindow.window_put_of_disjoint _ _ _ _ _ _ _ 0 ?_
    show h.val + 1 ≤ h'.val ∨ h'.val + 1 ≤ h.val
    have : h'.val ≠ h.val := fun hh => e (Fin.ext hh)
    omega

/-- A unit's place in the forward order. -/
theorem upward_split : ∀ u : Unt, upward = upward.take (4 * u.1.val + u.2.val) ++ u :: upward.drop (4 * u.1.val + u.2.val + 1)
    ∧ u ∉ upward.drop (4 * u.1.val + u.2.val + 1) := by decide +kernel

/-- A unit's place in the backward order. -/
theorem downward_split : ∀ u : Unt, downward = downward.take (4 * (7 - u.1.val) + u.2.val) ++ u :: downward.drop (4 * (7 - u.1.val) + u.2.val + 1)
    ∧ u ∉ downward.drop (4 * (7 - u.1.val) + u.2.val + 1) := by decide +kernel

/-! ## The forward body -/

/-- The state that a head's unit of chunk `j` leaves. -/
def upNext (b : FwdIn F) (h : Fin 4) (st : Vec F S1x256x128 .f32) (j : Fin 8) : Vec F S1x256x128 .f32 :=
  stateOf (keyOf b.k j h) (keyOf b.cum j h) (valOf b.v j h) st

/-- The state that a head's unit of chunk `n` finds. -/
def upSt (b : FwdIn F) (x : Vec F S4x256x128 .f32) (h : Fin 4) (n : ℕ) : Vec F S1x256x128 .f32 :=
  ([0, 1, 2, 3, 4, 5, 6, 7].take n).foldl (upNext b h) (stOf x h)

theorem fwd_st (b : FwdIn F) (h : Fin 4) (l : List Unt) (s : FwdSt F) :
    stOf (l.foldl (fwdStep b) s).st h = l.foldl (fun st u => if u.2 = h then upNext b h st u.1 else st) (stOf s.st h) := by
  induction l generalizing s with
  | nil => rfl
  | cons u us ih =>
    rw [List.foldl_cons, List.foldl_cons, ih]
    refine congrArg (fun st => us.foldl _ st) ?_
    refine (stOf_put s.st h u.2 _).trans ?_
    by_cases e : u.2 = h
    · rw [if_pos e, if_pos e]; subst e; rfl
    · rw [if_neg e, if_neg e]

theorem fwd_st_take (b : FwdIn F) (u : Unt) (s : FwdSt F) :
    stOf ((upward.take (4 * u.1.val + u.2.val)).foldl (fwdStep b) s).st u.2 = upSt b s.st u.2 u.1.val := by
  rw [fwd_st]
  obtain ⟨j, h⟩ := u
  fin_cases j <;> fin_cases h <;> rfl

theorem fwd_st_end (b : FwdIn F) (h : Fin 4) (s : FwdSt F) : stOf (upward.foldl (fwdStep b) s).st h = upSt b s.st h 8 := by
  rw [fwd_st]
  fin_cases h <;> rfl

theorem fwd_out (b : FwdIn F) (s : FwdSt F) (u : Unt) :
    VecWindow.window (upward.foldl (fwdStep b) s).out (offVal u.1 u.2) S64x256.size (inVal u.1 u.2)
      = outOf (keyOf b.q u.1 u.2) (keyOf b.k u.1 u.2) (keyOf b.cum u.1 u.2) (valOf b.v u.1 u.2) (upSt b s.st u.2 u.1.val) := by
  obtain ⟨e, hq⟩ := upward_split u
  rw [← fwd_st_take b u s]
  conv_lhs => rw [e]
  exact window_foldl (fwdStep b) FwdSt.out (fun u => offVal u.1 u.2) S64x256.size (fun u => inVal u.1 u.2) _ (fun _ _ => rfl) disVal u _ _ hq s

theorem fwd_kept (b : FwdIn F) (s : FwdSt F) (u : Unt) :
    VecWindow.window (upward.foldl (fwdStep b) s).kept (offKept u.1 u.2) S1x1x256x128.size (inKept u.1 u.2) = keptOf (upSt b s.st u.2 u.1.val) := by
  obtain ⟨e, hq⟩ := upward_split u
  rw [← fwd_st_take b u s]
  conv_lhs => rw [e]
  exact window_foldl (fwdStep b) FwdSt.kept (fun u => offKept u.1 u.2) S1x1x256x128.size (fun u => inKept u.1 u.2) _ (fun _ _ => rfl) disKept u _ _ hq s

theorem fwd_scores (b : FwdIn F) (s : FwdSt F) (u : Unt) :
    VecWindow.window (upward.foldl (fwdStep b) s).scores (offScore u.1 u.2) S64x64.size (inScore u.1 u.2)
      = scoresOf (keyOf b.q u.1 u.2) (keyOf b.k u.1 u.2) (keyOf b.cum u.1 u.2) := by
  obtain ⟨e, hq⟩ := upward_split u
  conv_lhs => rw [e]
  exact window_foldl (fwdStep b) FwdSt.scores (fun u => offScore u.1 u.2) S64x64.size (fun u => inScore u.1 u.2) _ (fun _ _ => rfl) disScore u _ _ hq s

/-- Outputs that hold zeros, and the state `x`. -/
def fwdBlank (x : Vec F S4x256x128 .f32) : FwdSt F := ⟨fun _ => Scalar.ofBits (F := F) .f32 0x00000000#32, fun _ => Scalar.ofBits (F := F) .f32 0x00000000#32, fun _ => Scalar.ofBits (F := F) .bf16 0x0000#16, x⟩

/-- The forward body's buffers at its end, from the state it starts with. -/
def fwdEnd (b : FwdIn F) (x : Vec F S4x256x128 .f32) : FwdSt F :=
  upward.foldl (fwdStep b) (fwdBlank x)

/-- They don't depend on what the outputs held. -/
theorem fwd_end (b : FwdIn F) (s : FwdSt F) : upward.foldl (fwdStep b) s = fwdEnd b s.st := by
  have h1 : (upward.foldl (fwdStep b) s).out = (fwdEnd b s.st).out :=
    eq_of_windows (s := S512x1024) (fun u : Unt => offVal u.1 u.2) S64x256.size (fun u => inVal u.1 u.2) covVal _ _ fun u => (fwd_out b s u).trans (fwd_out b (fwdBlank s.st) u).symm
  have h2 : (upward.foldl (fwdStep b) s).kept = (fwdEnd b s.st).kept :=
    eq_of_windows (s := S8x4x256x128) (fun u : Unt => offKept u.1 u.2) S1x1x256x128.size (fun u => inKept u.1 u.2) covKept _ _ fun u => (fwd_kept b s u).trans (fwd_kept b (fwdBlank s.st) u).symm
  have h3 : (upward.foldl (fwdStep b) s).scores = (fwdEnd b s.st).scores :=
    eq_of_windows (s := S512x256) (fun u : Unt => offScore u.1 u.2) S64x64.size (fun u => inScore u.1 u.2) covScore _ _ fun u => (fwd_scores b s u).trans (fwd_scores b (fwdBlank s.st) u).symm
  have h4 : (upward.foldl (fwdStep b) s).st = (fwdEnd b s.st).st :=
    eq_of_windows (s := S4x256x128) offState S1x256x128.size inState covState _ _ fun h => (fwd_st_end b h s).trans (fwd_st_end b h (fwdBlank s.st)).symm
  generalize upward.foldl (fwdStep b) s = a at *
  generalize fwdEnd b s.st = a' at *
  cases a; cases a'
  simp only at h1 h2 h3 h4
  subst h1; subst h2; subst h3; subst h4; rfl

/-! ## The backward body -/

/-- The state's gradient that a head's unit of chunk `j` leaves. -/
def downNext (b : BwdIn F) (h : Fin 4) (d : Vec F S1x256x128 .f32) (j : Fin 8) : Vec F S1x256x128 .f32 :=
  gState (keyOf b.q j h) (keyOf b.cum j h) (valOf b.g j h) d

/-- The state's gradient that a head's unit finds after `n` chunks. -/
def downSt (b : BwdIn F) (x : Vec F S4x256x128 .f32) (h : Fin 4) (n : ℕ) : Vec F S1x256x128 .f32 :=
  ([7, 6, 5, 4, 3, 2, 1, 0].take n).foldl (downNext b h) (stOf x h)

theorem bwd_st (b : BwdIn F) (h : Fin 4) (l : List Unt) (s : BwdSt F) :
    stOf (l.foldl (bwdStep b) s).st h = l.foldl (fun st u => if u.2 = h then downNext b h st u.1 else st) (stOf s.st h) := by
  induction l generalizing s with
  | nil => rfl
  | cons u us ih =>
    rw [List.foldl_cons, List.foldl_cons, ih]
    refine congrArg (fun st => us.foldl _ st) ?_
    refine (stOf_put s.st h u.2 _).trans ?_
    by_cases e : u.2 = h
    · rw [if_pos e, if_pos e]; subst e; rfl
    · rw [if_neg e, if_neg e]

theorem bwd_st_take (b : BwdIn F) (u : Unt) (s : BwdSt F) :
    stOf ((downward.take (4 * (7 - u.1.val) + u.2.val)).foldl (bwdStep b) s).st u.2 = downSt b s.st u.2 (7 - u.1.val) := by
  rw [bwd_st]
  obtain ⟨j, h⟩ := u
  fin_cases j <;> fin_cases h <;> rfl

theorem bwd_st_end (b : BwdIn F) (h : Fin 4) (s : BwdSt F) : stOf (downward.foldl (bwdStep b) s).st h = downSt b s.st h 8 := by
  rw [bwd_st]
  fin_cases h <;> rfl

theorem bwd_dq (b : BwdIn F) (s : BwdSt F) (u : Unt) :
    VecWindow.window (downward.foldl (bwdStep b) s).dq (offKey u.1 u.2) S64x128.size (inKey u.1 u.2)
      = gQueries (keyOf b.k u.1 u.2) (keyOf b.cum u.1 u.2) (valOf b.v u.1 u.2) (valOf b.g u.1 u.2) (keptBlk b.kept u.1 u.2) := by
  obtain ⟨e, hq⟩ := downward_split u
  conv_lhs => rw [e]
  exact window_foldl (bwdStep b) BwdSt.dq (fun u => offKey u.1 u.2) S64x128.size (fun u => inKey u.1 u.2) _ (fun _ _ => rfl) disKey u _ _ hq s

theorem bwd_dk (b : BwdIn F) (s : BwdSt F) (u : Unt) :
    VecWindow.window (downward.foldl (bwdStep b) s).dk (offKey u.1 u.2) S64x128.size (inKey u.1 u.2)
      = gKeys (keyOf b.q u.1 u.2) (keyOf b.cum u.1 u.2) (valOf b.v u.1 u.2) (valOf b.g u.1 u.2) (downSt b s.st u.2 (7 - u.1.val)) := by
  obtain ⟨e, hq⟩ := downward_split u
  rw [← bwd_st_take b u s]
  conv_lhs => rw [e]
  exact window_foldl (bwdStep b) BwdSt.dk (fun u => offKey u.1 u.2) S64x128.size (fun u => inKey u.1 u.2) _ (fun _ _ => rfl) disKey u _ _ hq s

theorem bwd_dv (b : BwdIn F) (s : BwdSt F) (u : Unt) :
    VecWindow.window (downward.foldl (bwdStep b) s).dv (offVal u.1 u.2) S64x256.size (inVal u.1 u.2)
      = gValues (keyOf b.k u.1 u.2) (keyOf b.cum u.1 u.2) (valOf b.g u.1 u.2) (scoreOf b.scores u.1 u.2) (downSt b s.st u.2 (7 - u.1.val)) := by
  obtain ⟨e, hq⟩ := downward_split u
  rw [← bwd_st_take b u s]
  conv_lhs => rw [e]
  exact window_foldl (bwdStep b) BwdSt.dv (fun u => offVal u.1 u.2) S64x256.size (fun u => inVal u.1 u.2) _ (fun _ _ => rfl) disVal u _ _ hq s

theorem bwd_dcum (b : BwdIn F) (s : BwdSt F) (u : Unt) :
    VecWindow.window (downward.foldl (bwdStep b) s).dcum (offKey u.1 u.2) S64x128.size (inKey u.1 u.2)
      = gCum (keyOf b.q u.1 u.2) (keyOf b.k u.1 u.2) (keyOf b.cum u.1 u.2) (valOf b.v u.1 u.2) (valOf b.g u.1 u.2) (keptBlk b.kept u.1 u.2) (downSt b s.st u.2 (7 - u.1.val)) := by
  obtain ⟨e, hq⟩ := downward_split u
  rw [← bwd_st_take b u s]
  conv_lhs => rw [e]
  exact window_foldl (bwdStep b) BwdSt.dcum (fun u => offKey u.1 u.2) S64x128.size (fun u => inKey u.1 u.2) _ (fun _ _ => rfl) disKey u _ _ hq s

/-- Outputs that hold zeros, and the state's gradient `x`. -/
def bwdBlank (x : Vec F S4x256x128 .f32) : BwdSt F := ⟨fun _ => Scalar.ofBits (F := F) .bf16 0x0000#16, fun _ => Scalar.ofBits (F := F) .bf16 0x0000#16, fun _ => Scalar.ofBits (F := F) .bf16 0x0000#16, fun _ => Scalar.ofBits (F := F) .f32 0x00000000#32, x⟩

/-- The backward body's buffers at its end, from the state's gradient it starts with. -/
def bwdEnd (b : BwdIn F) (x : Vec F S4x256x128 .f32) : BwdSt F :=
  downward.foldl (bwdStep b) (bwdBlank x)

/-- They don't depend on what the outputs held. -/
theorem bwd_end (b : BwdIn F) (s : BwdSt F) : downward.foldl (bwdStep b) s = bwdEnd b s.st := by
  have h1 : (downward.foldl (bwdStep b) s).dq = (bwdEnd b s.st).dq :=
    eq_of_windows (s := S512x512) (fun u : Unt => offKey u.1 u.2) S64x128.size (fun u => inKey u.1 u.2) covKey _ _ fun u => (bwd_dq b s u).trans (bwd_dq b (bwdBlank s.st) u).symm
  have h2 : (downward.foldl (bwdStep b) s).dk = (bwdEnd b s.st).dk :=
    eq_of_windows (s := S512x512) (fun u : Unt => offKey u.1 u.2) S64x128.size (fun u => inKey u.1 u.2) covKey _ _ fun u => (bwd_dk b s u).trans (bwd_dk b (bwdBlank s.st) u).symm
  have h3 : (downward.foldl (bwdStep b) s).dv = (bwdEnd b s.st).dv :=
    eq_of_windows (s := S512x1024) (fun u : Unt => offVal u.1 u.2) S64x256.size (fun u => inVal u.1 u.2) covVal _ _ fun u => (bwd_dv b s u).trans (bwd_dv b (bwdBlank s.st) u).symm
  have h4 : (downward.foldl (bwdStep b) s).dcum = (bwdEnd b s.st).dcum :=
    eq_of_windows (s := S512x512) (fun u : Unt => offKey u.1 u.2) S64x128.size (fun u => inKey u.1 u.2) covKey _ _ fun u => (bwd_dcum b s u).trans (bwd_dcum b (bwdBlank s.st) u).symm
  have h5 : (downward.foldl (bwdStep b) s).st = (bwdEnd b s.st).st :=
    eq_of_windows (s := S4x256x128) offState S1x256x128.size inState covState _ _ fun h => (bwd_st_end b h s).trans (bwd_st_end b h (bwdBlank s.st)).symm
  generalize downward.foldl (bwdStep b) s = a at *
  generalize bwdEnd b s.st = a' at *
  cases a; cases a'
  simp only at h1 h2 h3 h4 h5
  subst h1; subst h2; subst h3; subst h4; subst h5; rfl

end Cert.KernelIdeal.Own
-- ==== Proof.Kernel.Region0.lean ====
/-
  The forward call's pipeline at any contents of the buffers that it is entered with: what its windows hold after each grid
  point, the invariant that carries the scratch state from point to point, and the body's obligation.
-/
module

public import proofs.«01_k».proof.Proof.Kernel.Fold
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks that the body reads at a point. -/
def fwdIn (c : Dev nD) (t : Fin cfg0.N) : FwdIn F :=
  ⟨iblk0 V c 0 t, iblk0 V c 1 t, iblk0 V c 2 t, iblk0 V c 3 t⟩

/-- What the body leaves at a point, from the scratch state `x`. -/
def fwdAt (c : Dev nD) (t : Fin cfg0.N) (x : Vec F S4x256x128 .f32) : FwdSt F := fwdEnd (fwdIn V c t) (startAt (grid0.coords t 0).val x)

/-- The scratch state after `n` points. -/
def fwdState (c : Dev nD) : ℕ → Vec F S4x256x128 .f32
  | 0 => start
  | n + 1 => if h : n < cfg0.N then (fwdAt V c ⟨n, h⟩ (fwdState c n)).st else fwdState c n

theorem fwdState_succ (c : Dev nD) (t : Fin cfg0.N) : fwdState V c (t.val + 1) = (fwdAt V c t (fwdState V c t.val)).st := by
  show (if h : t.val < cfg0.N then _ else _) = _
  rw [dif_pos t.isLt]

theorem coord0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- At point 0 the state that a body finds doesn't matter. -/
theorem fwdAt_congr (c : Dev nD) (t : Fin cfg0.N) (d : Vec F S4x256x128 .f32) (hd : t.val ≠ 0 → d = fwdState V c t.val) :
    fwdAt V c t d = fwdAt V c t (fwdState V c t.val) := by
  by_cases h : t.val = 0
  · unfold fwdAt
    rw [coord0, h]
    rfl
  · rw [hd h]

abbrev ms0_0 (t : Fin cfg0.N) : Memref sig .tc .vmem S512x512 .f32 := win0_0.stage (cfg0.slots t 0)
abbrev ms0_1 (t : Fin cfg0.N) : Memref sig .tc .vmem S512x512 .f32 := win0_1.stage (cfg0.slots t 1)
abbrev ms0_2 (t : Fin cfg0.N) : Memref sig .tc .vmem S512x1024 .bf16 := win0_2.stage (cfg0.slots t 2)
abbrev ms0_3 (t : Fin cfg0.N) : Memref sig .tc .vmem S512x512 .f32 := win0_3.stage (cfg0.slots t 3)
abbrev ms0_4 (t : Fin cfg0.N) : Memref sig .tc .vmem S512x1024 .f32 := win0_4.stage (cfg0.slots t 4)
abbrev ms0_5 (t : Fin cfg0.N) : Memref sig .tc .vmem S8x4x256x128 .f32 := win0_5.stage (cfg0.slots t 5)
abbrev ms0_6 (t : Fin cfg0.N) : Memref sig .tc .vmem S512x256 .bf16 := win0_6.stage (cfg0.slots t 6)
abbrev sc0 : Memref sig .tc .vmem S4x256x128 .f32 := Memref.whole cc0_scratch0

/-- The scoped buffers that are neither this call's staging buffers nor its scratch. -/
def others0 (c : Dev nD) : sProp 𝕄 := Pipeline.scopedRestBut (Ix := Unit) (Name := ℕ) (U := UR sig nD τ) (Lvl := ℕ) (Val := Elt F) spec0 c [cc0_scratch0]

theorem scoped0 (c : Dev nD) : (Pipeline.ΦA spec0 c : sProp 𝕄) = iprop(((∃ d, owns (c : Thread nD τ) sc0 fullShare d) ∗ others0 (F := F) c) ∗ ∃ r, prngReg c r) := by
  unfold Pipeline.ΦA others0
  rw [Pipeline.scopedRest_split_of_list spec0 c [cc0_scratch0] (by decide) (by decide)]
  simp only [sc0, owns_whole]
  rfl

/-- The invariant before point `n`: the scratch state at what the points before left, anything before the first. -/
def inv0 (c : Dev nD) (n : ℕ) : sProp 𝕄 :=
  iprop(((∃ d, ⌜n ≠ 0 → d = fwdState V c n⌝ ∗ owns (c : Thread nD τ) sc0 fullShare d) ∗ others0 (F := F) c) ∗ ∃ r, prngReg c r)

/-- The pipeline's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (fwdAt V c t (fwdState V c t.val)).out
    | ⟨5, _⟩ => (fwdAt V c t (fwdState V c t.val)).kept
    | ⟨6, _⟩ => (fwdAt V c t (fwdState V c t.val)).scores
  Φ t := inv0 V c t.val
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (fwdAt V c t (fwdState V c t.val)).out := by dsimp only [dat0]
theorem after0_5 (c : Dev nD) (t : Fin cfg0.N) : (dat0 V c).after 5 t = (fwdAt V c t (fwdState V c t.val)).kept := by dsimp only [dat0]
theorem after0_6 (c : Dev nD) (t : Fin cfg0.N) : (dat0 V c).after 6 t = (fwdAt V c t (fwdState V c t.val)).scores := by dsimp only [dat0]

/-! An input window's staging buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; rfl)

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.castSucc = inv0 V c t.val from rfl, show (dat0 V c).Φ t.succ = inv0 V c (t.val + 1) from rfl,
    after0_0, after0_1, after0_2, after0_3, after0_4, after0_5, after0_6]
  unfold inv0
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (fwdBody_run c (ms0_0 t) (ms0_1 t) (ms0_2 t) (ms0_3 t) (ms0_4 t) (ms0_5 t) (ms0_6 t) (hstage0_6 ((cfg0.slots t 6).cast nbuf0_6)) sc0 (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (Memref.isWhole_whole _) (fwdIn V c t) ⟨(dat0 V c).before 4 t d4, (dat0 V c).before 5 t d5, (dat0 V c).before 6 t d6, d⟩)
  rw [fwd_end]
  unfold fwdOwn
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  rw [show fwdEnd (fwdIn V c t) (startAt (grid0.coords t 0).val d) = fwdAt V c t (fwdState V c t.val) from fwdAt_congr V c t d hd]
  iintro ⟨H0, H1, H2, H3, H4, H5, H6, HS⟩
  isplitl [HS Hr Hg]
  · isplitl [HS Hr]
    · isplitl [HS]
      · iexists _
        isplitr
        · ipureintro; exact fun _ => (fwdState_succ V c t).symm
        iexact HS
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) : defs₀ (F := F) .tc cfg0.body (cfg0.bodyArgs t (cfg0.slots t)) = bodyAt0 t := by
  unfold defs₀; rw [Defs.onTc_tc]

/-- The body's obligation at every point. -/
theorem obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the call is handed is the invariant before the first point. -/
theorem enter0 (c : Dev nD) : Pipeline.ΦA spec0 c ⊢ (dat0 V c).Φ 0 := by
  rw [show (dat0 V c).Φ 0 = inv0 V c 0 from rfl, scoped0]
  unfold inv0
  iintro ⟨⟨⟨%d, HS⟩, Hr⟩, Hg⟩
  isplitr [Hg]
  · isplitl [HS]
    · iexists d
      isplitr
      · ipureintro; exact fun h => absurd rfl h
      iexact HS
    iexact Hr
  iexact Hg

/-- The invariant after the last point gives back what the call was handed. -/
theorem leave0 (c : Dev nD) : (dat0 V c).Φ (Fin.last cfg0.N) ⊢ Pipeline.ΦA spec0 c := by
  rw [show (dat0 V c).Φ (Fin.last cfg0.N) = inv0 V c cfg0.N from rfl, scoped0]
  unfold inv0
  iintro ⟨⟨⟨%d, %hd, HS⟩, Hr⟩, Hg⟩
  isplitr [Hg]
  · isplitl [HS]
    · iexists _; iexact HS
    iexact Hr
  iexact Hg

end Cert.KernelIdeal.Own
-- ==== Proof.Kernel.Region1.lean ====
/-
  The backward call's pipeline at any contents of the buffers that it is entered with: what its windows hold after each grid
  point, the invariant that carries the scratch state from point to point, and the body's obligation.
-/
module

public import proofs.«01_k».proof.Proof.Kernel.Fold
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks that the body reads at a point. -/
def bwdIn (c : Dev nD) (t : Fin cfg1.N) : BwdIn F :=
  ⟨iblk1 V c 0 t, iblk1 V c 1 t, iblk1 V c 2 t, iblk1 V c 3 t, iblk1 V c 4 t, iblk1 V c 5 t, iblk1 V c 6 t⟩

/-- What the body leaves at a point, from the scratch state `x`. -/
def bwdAt (c : Dev nD) (t : Fin cfg1.N) (x : Vec F S4x256x128 .f32) : BwdSt F := bwdEnd (bwdIn V c t) (startAt (grid1.coords t 0).val x)

/-- The scratch state after `n` points. -/
def bwdState (c : Dev nD) : ℕ → Vec F S4x256x128 .f32
  | 0 => start
  | n + 1 => if h : n < cfg1.N then (bwdAt V c ⟨n, h⟩ (bwdState c n)).st else bwdState c n

theorem bwdState_succ (c : Dev nD) (t : Fin cfg1.N) : bwdState V c (t.val + 1) = (bwdAt V c t (bwdState V c t.val)).st := by
  show (if h : t.val < cfg1.N then _ else _) = _
  rw [dif_pos t.isLt]

theorem coord1 (t : Fin cfg1.N) : (grid1.coords t 0).val = t.val := by
  have ht : t.val < 8 := Nat.lt_of_lt_of_eq t.isLt N_1
  have e0 : (grid1.coords t 0).val = t.val / 1 % 8 := Pipeline.Grid.coords_val t 0 (by decide) rfl
  omega

/-- At point 0 the state that a body finds doesn't matter. -/
theorem bwdAt_congr (c : Dev nD) (t : Fin cfg1.N) (d : Vec F S4x256x128 .f32) (hd : t.val ≠ 0 → d = bwdState V c t.val) :
    bwdAt V c t d = bwdAt V c t (bwdState V c t.val) := by
  by_cases h : t.val = 0
  · unfold bwdAt
    rw [coord1, h]
    rfl
  · rw [hd h]

abbrev ms1_0 (t : Fin cfg1.N) : Memref sig .tc .vmem S512x512 .f32 := win1_0.stage (cfg1.slots t 0)
abbrev ms1_1 (t : Fin cfg1.N) : Memref sig .tc .vmem S512x512 .f32 := win1_1.stage (cfg1.slots t 1)
abbrev ms1_2 (t : Fin cfg1.N) : Memref sig .tc .vmem S512x1024 .bf16 := win1_2.stage (cfg1.slots t 2)
abbrev ms1_3 (t : Fin cfg1.N) : Memref sig .tc .vmem S512x512 .f32 := win1_3.stage (cfg1.slots t 3)
abbrev ms1_4 (t : Fin cfg1.N) : Memref sig .tc .vmem S512x1024 .bf16 := win1_4.stage (cfg1.slots t 4)
abbrev ms1_5 (t : Fin cfg1.N) : Memref sig .tc .vmem S8x4x256x128 .f32 := win1_5.stage (cfg1.slots t 5)
abbrev ms1_6 (t : Fin cfg1.N) : Memref sig .tc .vmem S512x256 .bf16 := win1_6.stage (cfg1.slots t 6)
abbrev ms1_7 (t : Fin cfg1.N) : Memref sig .tc .vmem S512x512 .bf16 := win1_7.stage (cfg1.slots t 7)
abbrev ms1_8 (t : Fin cfg1.N) : Memref sig .tc .vmem S512x512 .bf16 := win1_8.stage (cfg1.slots t 8)
abbrev ms1_9 (t : Fin cfg1.N) : Memref sig .tc .vmem S512x1024 .bf16 := win1_9.stage (cfg1.slots t 9)
abbrev ms1_10 (t : Fin cfg1.N) : Memref sig .tc .vmem S512x512 .f32 := win1_10.stage (cfg1.slots t 10)
abbrev sc1 : Memref sig .tc .vmem S4x256x128 .f32 := Memref.whole cc1_scratch0

/-- The scoped buffers that are neither this call's staging buffers nor its scratch. -/
def others1 (c : Dev nD) : sProp 𝕄 := Pipeline.scopedRestBut (Ix := Unit) (Name := ℕ) (U := UR sig nD τ) (Lvl := ℕ) (Val := Elt F) spec1 c [cc1_scratch0]

theorem scoped1 (c : Dev nD) : (Pipeline.ΦA spec1 c : sProp 𝕄) = iprop(((∃ d, owns (c : Thread nD τ) sc1 fullShare d) ∗ others1 (F := F) c) ∗ ∃ r, prngReg c r) := by
  unfold Pipeline.ΦA others1
  rw [Pipeline.scopedRest_split_of_list spec1 c [cc1_scratch0] (by decide) (by decide)]
  simp only [sc1, owns_whole]
  rfl

/-- The invariant before point `n`: the scratch state at what the points before left, anything before the first. -/
def inv1 (c : Dev nD) (n : ℕ) : sProp 𝕄 :=
  iprop(((∃ d, ⌜n ≠ 0 → d = bwdState V c n⌝ ∗ owns (c : Thread nD τ) sc1 fullShare d) ∗ others1 (F := F) c) ∗ ∃ r, prngReg c r)

/-- The pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (bwdAt V c t (bwdState V c t.val)).dq
    | ⟨8, _⟩ => (bwdAt V c t (bwdState V c t.val)).dk
    | ⟨9, _⟩ => (bwdAt V c t (bwdState V c t.val)).dv
    | ⟨10, _⟩ => (bwdAt V c t (bwdState V c t.val)).dcum
  Φ t := inv1 V c t.val
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (bwdAt V c t (bwdState V c t.val)).dq := by dsimp only [dat1]
theorem after1_8 (c : Dev nD) (t : Fin cfg1.N) : (dat1 V c).after 8 t = (bwdAt V c t (bwdState V c t.val)).dk := by dsimp only [dat1]
theorem after1_9 (c : Dev nD) (t : Fin cfg1.N) : (dat1 V c).after 9 t = (bwdAt V c t (bwdState V c t.val)).dv := by dsimp only [dat1]
theorem after1_10 (c : Dev nD) (t : Fin cfg1.N) : (dat1 V c).after 10 t = (bwdAt V c t (bwdState V c t.val)).dcum := by dsimp only [dat1]

/-! An input window's staging buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]) t d).trans
    (by unfold Dat.fetched Dat.blockOf iblk1; rw [A_eq1]; rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]) t d).trans
    (by unfold Dat.fetched Dat.blockOf iblk1; rw [A_eq1]; rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]) t d).trans
    (by unfold Dat.fetched Dat.blockOf iblk1; rw [A_eq1]; rfl)

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.castSucc = inv1 V c t.val from rfl, show (dat1 V c).Φ t.succ = inv1 V c (t.val + 1) from rfl,
    after1_0, after1_1, after1_2, after1_3, after1_4, after1_5, after1_6, after1_7, after1_8, after1_9, after1_10]
  unfold inv1
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bwdBody_run c (ms1_0 t) (ms1_1 t) (ms1_2 t) (ms1_3 t) (ms1_4 t) (ms1_5 t) (ms1_6 t) (ms1_7 t) (hstage1_7 ((cfg1.slots t 7).cast nbuf1_7)) (ms1_8 t) (hstage1_8 ((cfg1.slots t 8).cast nbuf1_8)) (ms1_9 t) (hstage1_9 ((cfg1.slots t 9).cast nbuf1_9)) (ms1_10 t) sc1 (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_10 ((cfg1.slots t 10).cast nbuf1_10)) (Memref.isWhole_whole _) (bwdIn V c t) ⟨(dat1 V c).before 7 t d7, (dat1 V c).before 8 t d8, (dat1 V c).before 9 t d9, (dat1 V c).before 10 t d10, d⟩)
  rw [bwd_end]
  unfold bwdOwn
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  rw [show bwdEnd (bwdIn V c t) (startAt (grid1.coords t 0).val d) = bwdAt V c t (bwdState V c t.val) from bwdAt_congr V c t d hd]
  iintro ⟨H0, H1, H2, H3, H4, H5, H6, H7, H8, H9, H10, HS⟩
  isplitl [HS Hr Hg]
  · isplitl [HS Hr]
    · isplitl [HS]
      · iexists _
        isplitr
        · ipureintro; exact fun _ => (bwdState_succ V c t).symm
        iexact HS
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) : defs₀ (F := F) .tc cfg1.body (cfg1.bodyArgs t (cfg1.slots t)) = bodyAt1 t := by
  unfold defs₀; rw [Defs.onTc_tc]

/-- The body's obligation at every point. -/
theorem obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is handed is the invariant before the first point. -/
theorem enter1 (c : Dev nD) : Pipeline.ΦA spec1 c ⊢ (dat1 V c).Φ 0 := by
  rw [show (dat1 V c).Φ 0 = inv1 V c 0 from rfl, scoped1]
  unfold inv1
  iintro ⟨⟨⟨%d, HS⟩, Hr⟩, Hg⟩
  isplitr [Hg]
  · isplitl [HS]
    · iexists d
      isplitr
      · ipureintro; exact fun h => absurd rfl h
      iexact HS
    iexact Hr
  iexact Hg

/-- The invariant after the last point gives back what the call was handed. -/
theorem leave1 (c : Dev nD) : (dat1 V c).Φ (Fin.last cfg1.N) ⊢ Pipeline.ΦA spec1 c := by
  rw [show (dat1 V c).Φ (Fin.last cfg1.N) = inv1 V c cfg1.N from rfl, scoped1]
  unfold inv1
  iintro ⟨⟨⟨%d, %hd, HS⟩, Hr⟩, Hg⟩
  isplitr [Hg]
  · isplitl [HS]
    · iexists _; iexact HS
    iexact Hr
  iexact Hg

end Cert.KernelIdeal.Own
-- ==== Proof.Kernel.Run.lean ====
/-
  The whole program's run: two conversions on the host, the forward call, the backward call. Every buffer's contents at the
  end are the valuation `W3`, the arguments are as launched and every semaphore counter is zero.
-/
module

public import proofs.«01_k».proof.Proof.Kernel.Region0
public import proofs.«01_k».proof.Proof.Kernel.Region1
public import proofs.«01_k».proof.Proof.Gen.KernelIdeal.Regions

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3]

/-! ## The buffers' contents at each boundary -/

/-- After the two conversions. -/
def W1 (c : Dev nD) : Valuation τ sig (Elt F) := StableHlo.after hostOps0 (fun b => m (c, b))

abbrev U1 : (c : Dev nD) → (b : Ref sig .tc) → Buf (Elt F) ((c : Thread nD τ).loc b) := fun c b => W1 m c b

theorem W1_of (c : Dev nD) (r : Ref sig .tc) (h : r ∉ hostOps0_W) : W1 m c r = m ((c : Thread nD τ).loc r) := by
  unfold W1; exact StableHlo.after_of_writes_sub hostOps0 _ hostOps0_writes h

/-- After the forward call. -/
def W2 (c : Dev nD) : Valuation τ sig (Elt F) := Pipeline.withArrays spec0 c (W1 m c) fun w => (dat0 (U1 m) c).arrAt w cfg0.N

theorem W2_arr (c : Dev nD) (w : Fin cfg0.W) : W2 m c (Proc.devRef .tc (Pipeline.arrRef spec0 w)) = (dat0 (U1 m) c).arrAt w cfg0.N := by
  unfold W2; exact (dat0 (U1 m) c).withArrays_arrAt sharedIn0 (W1 m c) (A_eq0 (U1 m) c) w

theorem W2_of_ne (c : Dev nD) (b : Ref sig .tc) (hb : ∀ w, Pipeline.arrRef spec0 w ≠ b) : W2 m c (Proc.devRef .tc b) = W1 m c (Proc.devRef .tc b) := by
  unfold W2; exact Pipeline.withArrays_of_ne spec0 c _ _ b hb

/-- A buffer that the call doesn't write keeps its contents. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (U1 m) c).arrAt_in w (h w rfl) _).trans (A_eq0 (U1 m) c w))
  · exact W2_of_ne m c r fun w e => hw ⟨w, e⟩

abbrev U2 : (c : Dev nD) → (b : Ref sig .tc) → Buf (Elt F) ((c : Thread nD τ).loc b) := fun c b => W2 m c b

theorem argsIn0 : ∀ a ∈ argRefs, ∀ w : Fin cfg0.W, Pipeline.arrRef spec0 w = a → (cfg0.win w).isOut = false :=
  ListAll.forall_mem_of_all_decide (by decide +kernel)

theorem rest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the backward call. -/
def W3 (c : Dev nD) : Valuation τ sig (Elt F) := Pipeline.withArrays spec1 c (W2 m c) fun w => (dat1 (U2 m) c).arrAt w cfg1.N

theorem W3_arr (c : Dev nD) (w : Fin cfg1.W) : W3 m c (Proc.devRef .tc (Pipeline.arrRef spec1 w)) = (dat1 (U2 m) c).arrAt w cfg1.N := by
  unfold W3; exact (dat1 (U2 m) c).withArrays_arrAt sharedIn1 (W2 m c) (A_eq1 (U2 m) c) w

theorem W3_of_ne (c : Dev nD) (b : Ref sig .tc) (hb : ∀ w, Pipeline.arrRef spec1 w ≠ b) : W3 m c (Proc.devRef .tc b) = W2 m c (Proc.devRef .tc b) := by
  unfold W3; exact Pipeline.withArrays_of_ne spec1 c _ _ b hb

/-- A buffer that the call doesn't write keeps its contents. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (U2 m) c).arrAt_in w (h w rfl) _).trans (A_eq1 (U2 m) c w))
  · exact W3_of_ne m c r fun w e => hw ⟨w, e⟩

abbrev U3 : (c : Dev nD) → (b : Ref sig .tc) → Buf (Elt F) ((c : Thread nD τ).loc b) := fun c b => W3 m c b

theorem argsIn1 : ∀ a ∈ argRefs, ∀ w : Fin cfg1.W, Pipeline.arrRef spec1 w = a → (cfg1.win w).isOut = false :=
  ListAll.forall_mem_of_all_decide (by decide +kernel)

theorem rest1 (c : Dev nD) : ∀ b, b ∉ Finset.univ.image (Pipeline.arrRef spec1) → U3 m c b = U2 m c b :=
  fun b hb => W3_of_ne m c b fun w e => hb (Finset.mem_image.mpr ⟨w, Finset.mem_univ _, e⟩)

theorem argsHost : ∀ a ∈ argRefs, a ∉ hostOps0_W := by decide

/-- The arguments end as launched. -/
theorem W3_args (c : Dev nD) (a : Ref sig .tc) (ha : a ∈ argRefs) : W3 m c (Proc.devRef .tc a) = m ((c : Thread nD τ).loc a) :=
  ((W3_of m c a (argsIn1 a ha)).trans (W2_of m c a (argsIn0 a ha))).trans (W1_of m c a (argsHost a ha))

/-! ## The segments -/

def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c

abbrev 𝒱₀ : Variants := Variants.none
abbrev lvs : GSem nD τ sig → Finset Unit := fun _ => ∅
abbrev lv : GSem nD τ sig → Unit → ℕ := fun _ _ => 0

/-- What rides beside the buffers: the generator register at some state and nothing owed. -/
abbrev beside (c : Dev nD) : sProp 𝕄 := iprop((∃ r, prngReg c r) ∗ ∃ W, owes (c : Thread nD τ) (0 : CellTallies nD τ sig Unit) W)

/-- The thread's state at a boundary whose contents are `W`. -/
abbrev stateAt (W : Dev nD → Valuation τ sig (Elt F)) (c : Dev nD) : sProp 𝕄 :=
  iprop(StableHlo.held (c : Thread nD τ) (Pipeline.ucRefs τ sig) (W c) ∗ beside c)

def host0 : Pipeline.HostSeg (Name := ℕ) (U := UR sig nD τ) (pcfgs (F := F)) defs₀ 𝒱₀ lvs lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) beside

abbrev lastState (c : Dev nD) : sProp 𝕄 := iprop(StableHlo.held (c : Thread nD τ) (Pipeline.ucRefs τ sig) (W3 m c) ∗ ∃ r, prngReg c r)

set_option backward.isDefEq.respectTransparency.types false in
/-- The forward call as a segment. -/
def reg0 : Pipeline.RegionSeg (pcfgs (F := F)) adm (pdats m) () defs₀ 𝒱₀ lvs lv 0 where
  win := winFacts₀0
  block_pos := block_pos0
  stage_whole := stage_whole0
  K := PEmpty
  osem k := k.elim
  ho := Pipeline.OwnSemFacts.none _
  hbody c := (obligation0 (U1 m) c).loose
  hwaits := Pipeline.hwaits_of_owed_zero _ _ _ _ lvs lv 0 fun _ _ => rfl
  pre c := stateAt (W1 m) c
  post c := stateAt (W2 m) c
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs_shared (p := 0) (pcfgs (F := F)) adm (pdats m) winFacts₀0 sharedIn0 arr_whole0 c
      (fun _ _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (enter0 (U1 m) c)
    unfold Pipeline.ΦA
    iintro ⟨Hp, -, Hr⟩
    isplitl [Hr]; · iexact Hr
    iexact Hp
  hout c := by
    rw [Pipeline.ownSems0_none]
    refine BI.BIBase.Entails.trans (leave0 (U1 m) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl)
      (U1 m c) (U2 m c) ((pdats m 0 c).arrAt · cfg0.N) (fun w => (W2_arr m c w).symm) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment. -/
def reg1 : Pipeline.RegionSeg (pcfgs (F := F)) adm (pdats m) () defs₀ 𝒱₀ lvs lv 1 where
  win := winFacts₀1
  block_pos := block_pos1
  stage_whole := stage_whole1
  K := PEmpty
  osem k := k.elim
  ho := Pipeline.OwnSemFacts.none _
  hbody c := (obligation1 (U2 m) c).loose
  hwaits := Pipeline.hwaits_of_owed_zero _ _ _ _ lvs lv 1 fun _ _ => rfl
  pre c := stateAt (W2 m) c
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs_shared (p := 1) (pcfgs (F := F)) adm (pdats m) winFacts₀1 sharedIn1 arr_whole1 c
      (fun _ _ => rfl) (U2 m c) (A_eq1 (U2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (enter1 (U2 m) c)
    unfold Pipeline.ΦA
    iintro ⟨Hp, -, Hr⟩
    isplitl [Hr]; · iexact Hr
    iexact Hp
  hout c := by
    rw [Pipeline.ownSems0_none]
    refine BI.BIBase.Entails.trans (leave1 (U2 m) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl)
      (U2 m c) (U3 m c) ((pdats m 1 c).arrAt · cfg1.N) (fun w => (W3_arr m c w).symm) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev items : List (Pipeline.Seg (pcfgs (F := F)) adm (pdats m) () defs₀ 𝒱₀ lvs lv) := [.host (host0 m), .region (reg0 m), .region (reg1 m)]

theorem main_items (c : Dev nD) : main (F := F) c = Pipeline.Seg.run (items m) := (main_chain c).trans (by chain_rfl)

set_option backward.isDefEq.respectTransparency.types false in
/-- The program ends with every buffer at `W3` and every counter at zero. -/
theorem run : θ_run defs (onTc (τ := τ) (main (F := F))) ⟨m, fun _ => 0, ρ⟩
    (fun r => (∀ c : Dev nD, ∀ b ∈ Pipeline.ucRefs τ sig, r.2.mem ((c : Thread nD τ).1, b) = W3 m c b) ∧ r.2.sem = fun _ => 0) :=
  Pipeline.θ_run_regions_kit_sems (pcfgs (F := F)) adm (pdats m) () cellOf_inj emb₁ defs₀ 𝒱₀ lvs lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt fun c b => m (c, b)) (Tₙ := lastState m)
    (hch := ⟨fun _ => .rfl, fun _ => .rfl, fun _ => .rfl, fun _ => .rfl⟩)
    (hinit := by
      refine Pipeline.initEach lvs lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨h, funext fun g => hz g (.inr (regions_no_unscoped g.2))⟩)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W3_args m c main_arg0 (by decide)),
     (h.1 c _ (mem_uc main_arg1 (by decide))).trans (W3_args m c main_arg1 (by decide)),
     (h.1 c _ (mem_uc main_arg2 (by decide))).trans (W3_args m c main_arg2 (by decide)),
     (h.1 c _ (mem_uc main_arg3 (by decide))).trans (W3_args m c main_arg3 (by decide))⟩, h.2⟩) (run m ρ)

end Cert.KernelIdeal.Own
-- ==== Proof.Reference.Ops.lean ====
/-
  The reference's host operations, listed: the program's three parts, the two loops' bodies, and each called function's
  operations over that call's buffers. Every list is what the program prints, in order.
-/
module

public import proofs.«01_k».proof.Proof.Gen.ReferenceIdeal
public import Idealize.ShloMosaic.Lib.StableHlo.RunLoop

@[expose] public section

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The contents of a buffer of shape `S` and element type `e`. -/
abbrev T (F : FTy → Type) (S : Shape) (e : EltTy) : Type := (⟨S, e⟩ : BufTy).Contents (Elt F)

/-- The operations of one call of `fn_where`, in order. -/
abbrev fn_whereOps (arg0 : StableHlo.TRef sig ⟨S64x64, .i1⟩) (arg1 : StableHlo.TRef sig ⟨S1x64x4x64x64, .f32⟩) (arg2 : StableHlo.TRef sig ⟨S1x64x4x64x64, .f32⟩) (φ : fn_where.Bufs) : List (HloOp τ sig (Elt F)) :=
  [ StableHlo.TRef.unary arg0 φ.v0 (broadcastInDim S1x64x4x64x64 ![3, 4] bcast_S64x64_S1x64x4x64x64_3_4),
    StableHlo.TRef.ternary φ.v0 arg1 arg2 φ.v1 select ]

theorem fn_where_sub (arg0 : StableHlo.TRef sig ⟨S64x64, .i1⟩) (arg1 : StableHlo.TRef sig ⟨S1x64x4x64x64, .f32⟩) (arg2 : StableHlo.TRef sig ⟨S1x64x4x64x64, .f32⟩) (φ : fn_where.Bufs) : (fn_whereOps arg0 arg1 arg2 φ : List (HloOp τ sig (Elt F))).Forall fun op => op.bufs ⊆ tcRefs τ sig :=
  ⟨unary_bufs_sub .., ternary_bufs_sub ..⟩

/-- The operations of one call of `fn_dynamic_index_in_dim`, in order. -/
abbrev fn_dynamic_index_in_dimOps (arg0 : StableHlo.TRef sig ⟨S64x1x64x4x128, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x64x4x128 x (fun k => (i k (Shape.Idx.first h_S_)).toInt) sliceFits_S64x1x64x4x128_S1x1x64x4x128),
    StableHlo.TRef.reshape φ.v0 φ.v1 (rfl : (.f32 : EltTy) = .f32) shapeCasts_S1x1x64x4x128_S1x64x4x128 ]

theorem fn_dynamic_index_in_dim_sub (arg0 : StableHlo.TRef sig ⟨S64x1x64x4x128, .f32⟩) (arg1 : StableHlo.TRef sig ⟨S_, .i32⟩) (φ : fn_dynamic_index_in_dim.Bufs) : (fn_dynamic_index_in_dimOps arg0 arg1 φ : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩

/-- The operations of one call of `fn_dynamic_index_in_dim_0`, in order. -/
abbrev fn_dynamic_index_in_dim_0Ops (arg0 : StableHlo.TRef sig ⟨S64x1x64x4x256, .f32⟩) (arg1 : StableHlo.TRef sig ⟨S_, .i32⟩) (φ : fn_dynamic_index_in_dim_0.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x64x4x256 x (fun k => (i k (Shape.Idx.first h_S_)).toInt) sliceFits_S64x1x64x4x256_S1x1x64x4x256),
    StableHlo.TRef.reshape φ.v0 φ.v1 (rfl : (.f32 : EltTy) = .f32) shapeCasts_S1x1x64x4x256_S1x64x4x256 ]

theorem fn_dynamic_index_in_dim_0_sub (arg0 : StableHlo.TRef sig ⟨S64x1x64x4x256, .f32⟩) (arg1 : StableHlo.TRef sig ⟨S_, .i32⟩) (φ : fn_dynamic_index_in_dim_0.Bufs) : (fn_dynamic_index_in_dim_0Ops arg0 arg1 φ : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩

/-- The operations of one call of `fn_dynamic_index_in_dim_1`, in order. -/
abbrev fn_dynamic_index_in_dim_1Ops (arg0 : StableHlo.TRef sig ⟨S64x1x4x128, .f32⟩) (arg1 : StableHlo.TRef sig ⟨S_, .i32⟩) (φ : fn_dynamic_index_in_dim_1.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x1x4x128 x (fun k => (i k (Shape.Idx.first h_S_)).toInt) sliceFits_S64x1x4x128_S1x1x4x128),
    StableHlo.TRef.reshape φ.v0 φ.v1 (rfl : (.f32 : EltTy) = .f32) shapeCasts_S1x1x4x128_S1x4x128 ]

theorem fn_dynamic_index_in_dim_1_sub (arg0 : StableHlo.TRef sig ⟨S64x1x4x128, .f32⟩) (arg1 : StableHlo.TRef sig ⟨S_, .i32⟩) (φ : fn_dynamic_index_in_dim_1.Bufs) : (fn_dynamic_index_in_dim_1Ops arg0 arg1 φ : List (HloOp τ sig (Elt F))).Forall fun op => op.bufs ⊆ tcRefs τ sig :=
  ⟨nullary_bufs_sub .., nullary_bufs_sub .., nullary_bufs_sub .., unaryIndexed_bufs_sub .., reshape_bufs_sub ..⟩

/-- The operations of one call of `fn_dynamic_update_index_in_dim`, in order. -/
abbrev fn_dynamic_update_index_in_dimOps (arg0 : StableHlo.TRef sig ⟨S64x1x64x4x256, .f32⟩) (arg1 : StableHlo.TRef sig ⟨S1x64x4x256, .f32⟩) (arg2 : StableHlo.TRef sig ⟨S_, .i32⟩) (φ : fn_dynamic_update_index_in_dim.Bufs) : List (HloOp τ sig (Elt F)) :=
  [ StableHlo.TRef.unary arg1 φ.v0 (broadcastInDim S1x1x64x4x256 ![1, 2, 3, 4] bcast_S1x64x4x256_S1x1x64x4x256_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S64x1x64x4x256_S1x1x64x4x256) ]

theorem fn_dynamic_update_index_in_dim_sub (arg0 : StableHlo.TRef sig ⟨S64x1x64x4x256, .f32⟩) (arg1 : StableHlo.TRef sig ⟨S1x64x4x256, .f32⟩) (arg2 : StableHlo.TRef sig ⟨S_, .i32⟩) (φ : fn_dynamic_update_index_in_dim.Bufs) : (fn_dynamic_update_index_in_dimOps arg0 arg1 arg2 φ : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩

/-- The operations of one call of `fn_dynamic_update_index_in_dim_2`, in order. -/
abbrev fn_dynamic_update_index_in_dim_2Ops (arg0 : StableHlo.TRef sig ⟨S64x1x4x128x256, .f32⟩) (arg1 : StableHlo.TRef sig ⟨S1x4x128x256, .f32⟩) (arg2 : StableHlo.TRef sig ⟨S_, .i32⟩) (φ : fn_dynamic_update_index_in_dim_2.Bufs) : List (HloOp τ sig (Elt F)) :=
  [ StableHlo.TRef.unary arg1 φ.v0 (broadcastInDim S1x1x4x128x256 ![1, 2, 3, 4] bcast_S1x4x128x256_S1x1x4x128x256_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S64x1x4x128x256_S1x1x4x128x256) ]

theorem fn_dynamic_update_index_in_dim_2_sub (arg0 : StableHlo.TRef sig ⟨S64x1x4x128x256, .f32⟩) (arg1 : StableHlo.TRef sig ⟨S1x4x128x256, .f32⟩) (arg2 : StableHlo.TRef sig ⟨S_, .i32⟩) (φ : fn_dynamic_update_index_in_dim_2.Bufs) : (fn_dynamic_update_index_in_dim_2Ops arg0 arg1 arg2 φ : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩

/-- The operations of one call of `fn_dynamic_update_index_in_dim_3`, in order. -/
abbrev fn_dynamic_update_index_in_dim_3Ops (arg0 : StableHlo.TRef sig ⟨S64x1x4x128x1, .f32⟩) (arg1 : StableHlo.TRef sig ⟨S1x4x128x1, .f32⟩) (arg2 : StableHlo.TRef sig ⟨S_, .i32⟩) (φ : fn_dynamic_update_index_in_dim_3.Bufs) : List (HloOp τ sig (Elt F)) :=
  [ StableHlo.TRef.unary arg1 φ.v0 (broadcastInDim S1x1x4x128x1 ![1, 2, 3, 4] bcast_S1x4x128x1_S1x1x4x128x1_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S64x1x4x128x1_S1x1x4x128x1) ]

theorem fn_dynamic_update_index_in_dim_3_sub (arg0 : StableHlo.TRef sig ⟨S64x1x4x128x1, .f32⟩) (arg1 : StableHlo.TRef sig ⟨S1x4x128x1, .f32⟩) (arg2 : StableHlo.TRef sig ⟨S_, .i32⟩) (φ : fn_dynamic_update_index_in_dim_3.Bufs) : (fn_dynamic_update_index_in_dim_3Ops arg0 arg1 arg2 φ : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩

/-- The operations of one call of `fn_dynamic_index_in_dim_4`, in order. -/
abbrev fn_dynamic_index_in_dim_4Ops (arg0 : StableHlo.TRef sig ⟨S64x1x4x128x256, .f32⟩) (arg1 : StableHlo.TRef sig ⟨S_, .i32⟩) (φ : fn_dynamic_index_in_dim_4.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x4x128x256 x (fun k => (i k (Shape.Idx.first h_S_)).toInt) sliceFits_S64x1x4x128x256_S1x1x4x128x256),
    StableHlo.TRef.reshape φ.v0 φ.v1 (rfl : (.f32 : EltTy) = .f32) shapeCasts_S1x1x4x128x256_S1x4x128x256 ]

theorem fn_dynamic_index_in_dim_4_sub (arg0 : StableHlo.TRef sig ⟨S64x1x4x128x256, .f32⟩) (arg1 : StableHlo.TRef sig ⟨S_, .i32⟩) (φ : fn_dynamic_index_in_dim_4.Bufs) : (fn_dynamic_index_in_dim_4Ops arg0 arg1 φ : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩

/-- The operations of one call of `fn_dynamic_index_in_dim_5`, in order. -/
abbrev fn_dynamic_index_in_dim_5Ops (arg0 : StableHlo.TRef sig ⟨S64x1x4x128x1, .f32⟩) (arg1 : StableHlo.TRef sig ⟨S_, .i32⟩) (φ : fn_dynamic_index_in_dim_5.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x4x128x1 x (fun k => (i k (Shape.Idx.first h_S_)).toInt) sliceFits_S64x1x4x128x1_S1x1x4x128x1),
    StableHlo.TRef.reshape φ.v0 φ.v1 (rfl : (.f32 : EltTy) = .f32) shapeCasts_S1x1x4x128x1_S1x4x128x1 ]

theorem fn_dynamic_index_in_dim_5_sub (arg0 : StableHlo.TRef sig ⟨S64x1x4x128x1, .f32⟩) (arg1 : StableHlo.TRef sig ⟨S_, .i32⟩) (φ : fn_dynamic_index_in_dim_5.Bufs) : (fn_dynamic_index_in_dim_5Ops arg0 arg1 φ : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩

/-- The operations of one call of `fn_dynamic_update_index_in_dim_6`, in order. -/
abbrev fn_dynamic_update_index_in_dim_6Ops (arg0 : StableHlo.TRef sig ⟨S64x1x64x4x128, .f32⟩) (arg1 : StableHlo.TRef sig ⟨S1x64x4x128, .f32⟩) (arg2 : StableHlo.TRef sig ⟨S_, .i32⟩) (φ : fn_dynamic_update_index_in_dim_6.Bufs) : List (HloOp τ sig (Elt F)) :=
  [ StableHlo.TRef.unary arg1 φ.v0 (broadcastInDim S1x1x64x4x128 ![1, 2, 3, 4] bcast_S1x64x4x128_S1x1x64x4x128_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S64x1x64x4x128_S1x1x64x4x128) ]

theorem fn_dynamic_update_index_in_dim_6_sub (arg0 : StableHlo.TRef sig ⟨S64x1x64x4x128, .f32⟩) (arg1 : StableHlo.TRef sig ⟨S1x64x4x128, .f32⟩) (arg2 : StableHlo.TRef sig ⟨S_, .i32⟩) (φ : fn_dynamic_update_index_in_dim_6.Bufs) : (fn_dynamic_update_index_in_dim_6Ops arg0 arg1 arg2 φ : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩

/-- The operations of one call of `fn_dynamic_update_index_in_dim_7`, in order. -/
abbrev fn_dynamic_update_index_in_dim_7Ops (arg0 : StableHlo.TRef sig ⟨S64x1x4x128, .f32⟩) (arg1 : StableHlo.TRef sig ⟨S1x4x128, .f32⟩) (arg2 : StableHlo.TRef sig ⟨S_, .i32⟩) (φ : fn_dynamic_update_index_in_dim_7.Bufs) : List (HloOp τ sig (Elt F)) :=
  [ StableHlo.TRef.unary arg1 φ.v0 (broadcastInDim S1x1x4x128 ![1, 2, 3] bcast_S1x4x128_S1x1x4x128_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S64x1x4x128_S1x1x4x128) ]

theorem fn_dynamic_update_index_in_dim_7_sub (arg0 : StableHlo.TRef sig ⟨S64x1x4x128, .f32⟩) (arg1 : StableHlo.TRef sig ⟨S1x4x128, .f32⟩) (arg2 : StableHlo.TRef sig ⟨S_, .i32⟩) (φ : fn_dynamic_update_index_in_dim_7.Bufs) : (fn_dynamic_update_index_in_dim_7Ops arg0 arg1 arg2 φ : List (HloOp τ sig (Elt F))).Forall fun op => op.bufs ⊆ tcRefs τ sig :=
  ⟨unary_bufs_sub .., nullary_bufs_sub .., nullary_bufs_sub .., nullary_bufs_sub .., binaryIndexed_bufs_sub ..⟩

/-- The operations of one call of `fn_where_8`, in order. -/
abbrev fn_where_8Ops (arg0 : StableHlo.TRef sig ⟨S1x64x4x64x64, .i1⟩) (arg1 : StableHlo.TRef sig ⟨S1x64x4x64x64, .f32⟩) (φ : fn_where_8.Bufs) : List (HloOp τ sig (Elt F)) :=
  [ StableHlo.TRef.nullary φ.cst (constant S_ .f32 0x00000000#32),
    StableHlo.TRef.unary φ.cst φ.v0 (broadcastInDim S1x64x4x64x64 ![] bcast_S_S1x64x4x64x64),
    StableHlo.TRef.ternary arg0 φ.v0 arg1 φ.v1 select,
    StableHlo.TRef.ternary arg0 arg1 φ.v0 φ.v2 select ]

theorem fn_where_8_sub (arg0 : StableHlo.TRef sig ⟨S1x64x4x64x64, .i1⟩) (arg1 : StableHlo.TRef sig ⟨S1x64x4x64x64, .f32⟩) (φ : fn_where_8.Bufs) : (fn_where_8Ops arg0 arg1 φ : List (HloOp τ sig (Elt F))).Forall fun op => op.bufs ⊆ tcRefs τ sig :=
  ⟨nullary_bufs_sub .., unary_bufs_sub .., ternary_bufs_sub .., ternary_bufs_sub ..⟩

/-- Part 1 of the program: stretch 1. -/
abbrev mainA0 : List (HloOp τ sig (Elt F)) :=
  [ StableHlo.unary main_arg0 main_v0 ((extractStridedSlice S4096x512 ![0, 0] · slices_S4096x1024_S4096x512_0_0) : T F S4096x1024 .f32 → T F S4096x512 .f32),
    StableHlo.unary main_arg0 main_v1 ((extractStridedSlice S4096x512 ![0, 512] · slices_S4096x1024_S4096x512_0_512) : T F S4096x1024 .f32 → T F S4096x512 .f32),
    StableHlo.reshape main_v0 main_v2 (rfl : (.f32 : EltTy) = .f32) shapeCasts_S4096x512_S1x64x64x4x128,
    StableHlo.nullary main_cst (constant S_ .f32 0x3DB504F3#32),
    StableHlo.unary main_cst main_v3 (broadcastInDim S1x64x64x4x128 ![] bcast_S_S1x64x64x4x128 : T F S_ .f32 → T F S1x64x64x4x128 .f32),
    StableHlo.binary main_v2 main_v3 main_v4 (mulf : T F S1x64x64x4x128 .f32 → T F S1x64x64x4x128 .f32 → T F S1x64x64x4x128 .f32),
    StableHlo.reshape main_v1 main_v5 (rfl : (.f32 : EltTy) = .f32) shapeCasts_S4096x512_S1x64x64x4x128,
    StableHlo.reshape main_arg1 main_v6 (rfl : (.f32 : EltTy) = .f32) shapeCasts_S4096x1024_S1x64x64x4x256,
    StableHlo.reshape main_arg2 main_v7 (rfl : (.f32 : EltTy) = .f32) shapeCasts_S4096x512_S1x64x64x4x128,
    StableHlo.unary main_v7 main_v8 ((extractStridedSlice S1x64x1x4x128 ![0, 0, 63, 0, 0] · slices_S1x64x64x4x128_S1x64x1x4x128_0_0_63_0_0) : T F S1x64x64x4x128 .f32 → T F S1x64x1x4x128 .f32),
    StableHlo.unary main_v7 main_v9 (Host.exp : T F S1x64x64x4x128 .f32 → T F S1x64x64x4x128 .f32),
    StableHlo.unary main_v7 main_v10 (Host.negf : T F S1x64x64x4x128 .f32 → T F S1x64x64x4x128 .f32),
    StableHlo.unary main_v10 main_v11 (Host.exp : T F S1x64x64x4x128 .f32 → T F S1x64x64x4x128 .f32),
    StableHlo.binary main_v4 main_v9 main_v12 (mulf : T F S1x64x64x4x128 .f32 → T F S1x64x64x4x128 .f32 → T F S1x64x64x4x128 .f32),
    StableHlo.binary main_v5 main_v11 main_v13 (mulf : T F S1x64x64x4x128 .f32 → T F S1x64x64x4x128 .f32 → T F S1x64x64x4x128 .f32),
    StableHlo.binary main_v12 main_v13 main_v14 ((fun l r => Host.dotGeneral dot_S1x64x64x4x128_S1x64x64x4x128_S1x64x4x64x64_4_4_2_2_013_013 none l r) : T F S1x64x64x4x128 .f32 → T F S1x64x64x4x128 .f32 → T F S1x64x4x64x64 .f32),
    StableHlo.binary main_v4 main_v11 main_v15 (mulf : T F S1x64x64x4x128 .f32 → T F S1x64x64x4x128 .f32 → T F S1x64x64x4x128 .f32),
    StableHlo.binary main_v5 main_v9 main_v16 (mulf : T F S1x64x64x4x128 .f32 → T F S1x64x64x4x128 .f32 → T F S1x64x64x4x128 .f32),
    StableHlo.binary main_v15 main_v16 main_v17 ((fun l r => Host.dotGeneral dot_S1x64x64x4x128_S1x64x64x4x128_S1x64x4x64x64_4_4_2_2_013_013 none l r) : T F S1x64x64x4x128 .f32 → T F S1x64x64x4x128 .f32 → T F S1x64x4x64x64 .f32),
    StableHlo.nullary main_v18 (iotaInDim S64 32 0),
    StableHlo.unary main_v18 main_v19 (broadcastInDim S64x1 ![0] bcast_S64_S64x1_0 : T F S64 .i32 → T F S64x1 .i32),
    StableHlo.unary main_v18 main_v20 (broadcastInDim S1x64 ![1] bcast_S64_S1x64_1 : T F S64 .i32 → T F S1x64 .i32),
    StableHlo.unary main_v19 main_v21 (broadcastInDim S64x64 ![0, 1] bcast_S64x1_S64x64_0_1 : T F S64x1 .i32 → T F S64x64 .i32),
    StableHlo.unary main_v20 main_v22 (broadcastInDim S64x64 ![0, 1] bcast_S1x64_S64x64_0_1 : T F S1x64 .i32 → T F S64x64 .i32),
    StableHlo.binary main_v21 main_v22 main_v23 (cmpi .sge : T F S64x64 .i32 → T F S64x64 .i32 → T F S64x64 .i1) ]

theorem mainA0_sub : (mainA0 : List (HloOp τ sig (Elt F))).Forall fun op => op.bufs ⊆ tcRefs τ sig :=
  ⟨unary_bufs_sub .., unary_bufs_sub .., reshape_bufs_sub .., nullary_bufs_sub .., unary_bufs_sub .., binary_bufs_sub .., reshape_bufs_sub .., reshape_bufs_sub .., reshape_bufs_sub .., unary_bufs_sub .., unary_bufs_sub .., unary_bufs_sub .., unary_bufs_sub .., binary_bufs_sub .., binary_bufs_sub .., binary_bufs_sub .., binary_bufs_sub .., binary_bufs_sub .., binary_bufs_sub .., nullary_bufs_sub .., unary_bufs_sub .., unary_bufs_sub .., unary_bufs_sub .., unary_bufs_sub .., binary_bufs_sub ..⟩

/-- Part 1 of the program: stretch 2. -/
abbrev mainA1 : List (HloOp τ sig (Elt F)) :=
  [ StableHlo.binary main_v6 main_v24_0 main_v25 ((fun l r => Host.dotGeneral dot_S1x64x64x4x256_S1x64x4x64x64_S1x64x4x256x64_2_4_4_3_013_012 none l r) : T F S1x64x64x4x256 .f32 → T F S1x64x4x64x64 .f32 → T F S1x64x4x256x64 .f32),
    StableHlo.unary main_v25 main_v26 ((transpose S1x64x64x4x256 [0, 1, 4, 2, 3] · transposes_S1x64x4x256x64_S1x64x64x4x256_0_1_4_2_3) : T F S1x64x4x256x64 .f32 → T F S1x64x64x4x256 .f32),
    StableHlo.binary main_v4 main_v9 main_v27 (mulf : T F S1x64x64x4x128 .f32 → T F S1x64x64x4x128 .f32 → T F S1x64x64x4x128 .f32),
    StableHlo.unary main_v8 main_v28 (broadcastInDim S1x64x64x4x128 ![0, 1, 2, 3, 4] bcast_S1x64x1x4x128_S1x64x64x4x128_0_1_2_3_4 : T F S1x64x1x4x128 .f32 → T F S1x64x64x4x128 .f32),
    StableHlo.binary main_v28 main_v7 main_v29 (subf : T F S1x64x64x4x128 .f32 → T F S1x64x64x4x128 .f32 → T F S1x64x64x4x128 .f32),
    StableHlo.unary main_v29 main_v30 (Host.exp : T F S1x64x64x4x128 .f32 → T F S1x64x64x4x128 .f32),
    StableHlo.binary main_v5 main_v30 main_v31 (mulf : T F S1x64x64x4x128 .f32 → T F S1x64x64x4x128 .f32 → T F S1x64x64x4x128 .f32),
    StableHlo.reshape main_v8 main_v32 (rfl : (.f32 : EltTy) = .f32) shapeCasts_S1x64x1x4x128_S1x64x4x128,
    StableHlo.unary main_v32 main_v33 (Host.exp : T F S1x64x4x128 .f32 → T F S1x64x4x128 .f32),
    StableHlo.unary main_v27 main_v34 ((transpose S64x1x64x4x128 [1, 0, 2, 3, 4] · transposes_S1x64x64x4x128_S64x1x64x4x128_1_0_2_3_4) : T F S1x64x64x4x128 .f32 → T F S64x1x64x4x128 .f32),
    StableHlo.unary main_v31 main_v35 ((transpose S64x1x64x4x128 [1, 0, 2, 3, 4] · transposes_S1x64x64x4x128_S64x1x64x4x128_1_0_2_3_4) : T F S1x64x64x4x128 .f32 → T F S64x1x64x4x128 .f32),
    StableHlo.unary main_v6 main_v36 ((transpose S64x1x64x4x256 [1, 0, 2, 3, 4] · transposes_S1x64x64x4x256_S64x1x64x4x256_1_0_2_3_4) : T F S1x64x64x4x256 .f32 → T F S64x1x64x4x256 .f32),
    StableHlo.unary main_v33 main_v37 ((transpose S64x1x4x128 [1, 0, 2, 3] · transposes_S1x64x4x128_S64x1x4x128_1_0_2_3) : T F S1x64x4x128 .f32 → T F S64x1x4x128 .f32),
    StableHlo.nullary main_cst_0 (constant S_ .f32 0x00000000#32),
    StableHlo.unary main_cst_0 main_v38 (broadcastInDim S1x4x128x256 ![] bcast_S_S1x4x128x256 : T F S_ .f32 → T F S1x4x128x256 .f32),
    StableHlo.nullary main_cst_1 (constant S_ .f32 0x00000000#32),
    StableHlo.unary main_cst_1 main_v39 (broadcastInDim S64x1x64x4x256 ![] bcast_S_S64x1x64x4x256 : T F S_ .f32 → T F S64x1x64x4x256 .f32),
    StableHlo.nullary main_cst_2 (constant S_ .f32 0x00000000#32),
    StableHlo.unary main_cst_2 main_v40 (broadcastInDim S64x1x4x128x256 ![] bcast_S_S64x1x4x128x256 : T F S_ .f32 → T F S64x1x4x128x256 .f32),
    StableHlo.nullary main_cst_3 (constant S_ .f32 0x00000000#32),
    StableHlo.unary main_cst_3 main_v41 (broadcastInDim S64x1x4x128x1 ![] bcast_S_S64x1x4x128x1 : T F S_ .f32 → T F S64x1x4x128x1 .f32),
    StableHlo.nullary main_c (constantI S_ 32 0#32),
    StableHlo.unary main_v34 main_v42_0 id,
    StableHlo.unary main_v35 main_v42_1 id,
    StableHlo.unary main_v36 main_v42_2 id,
    StableHlo.unary main_v37 main_v42_3 id,
    StableHlo.unary main_c main_v42_4 id,
    StableHlo.unary main_v38 main_v42_5 id,
    StableHlo.unary main_v39 main_v42_6 id,
    StableHlo.unary main_v40 main_v42_7 id,
    StableHlo.unary main_v41 main_v42_8 id ]

theorem mainA1_sub : (mainA1 : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., reshape_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩

/-- Part 1 of the program: stretch 3. -/
abbrev mainA2 : List (HloOp τ sig (Elt F)) :=
  [ StableHlo.unary main_v42_6 main_v43 ((transpose S1x64x64x4x256 [1, 0, 2, 3, 4] · transposes_S64x1x64x4x256_S1x64x64x4x256_1_0_2_3_4) : T F S64x1x64x4x256 .f32 → T F S1x64x64x4x256 .f32),
    StableHlo.binary main_v26 main_v43 main_v44 (addf : T F S1x64x64x4x256 .f32 → T F S1x64x64x4x256 .f32 → T F S1x64x64x4x256 .f32) ]

theorem mainA2_sub : (mainA2 : List (HloOp τ sig (Elt F))).Forall fun op => op.bufs ⊆ tcRefs τ sig :=
  ⟨unary_bufs_sub .., binary_bufs_sub ..⟩

/-- Part 2 of the program: stretch 1. -/
abbrev mainB0 : List (HloOp τ sig (Elt F)) :=
  [ StableHlo.reshape main_v44 main_v45 (rfl : (.f32 : EltTy) = .f32) shapeCasts_S1x64x64x4x256_S4096x1024,
    StableHlo.nullary main_cst_4 (constant S_ .f32 0x00000000#32),
    StableHlo.unary main_cst_4 main_v46 (broadcastInDim S1x4x128x256 ![] bcast_S_S1x4x128x256 : T F S_ .f32 → T F S1x4x128x256 .f32),
    StableHlo.reshape main_arg3 main_v47 (rfl : (.f32 : EltTy) = .f32) shapeCasts_S4096x1024_S1x64x64x4x256,
    StableHlo.unary main_v47 main_v48 ((transpose S64x1x64x4x256 [1, 0, 2, 3, 4] · transposes_S1x64x64x4x256_S64x1x64x4x256_1_0_2_3_4) : T F S1x64x64x4x256 .f32 → T F S64x1x64x4x256 .f32),
    StableHlo.nullary main_cst_5 (constant S_ .f32 0x00000000#32),
    StableHlo.unary main_cst_5 main_v49 (broadcastInDim S1x4x128x256 ![] bcast_S_S1x4x128x256 : T F S_ .f32 → T F S1x4x128x256 .f32),
    StableHlo.nullary main_cst_6 (constant S_ .f32 0x00000000#32),
    StableHlo.unary main_cst_6 main_v50 (broadcastInDim S64x1x64x4x128 ![] bcast_S_S64x1x64x4x128 : T F S_ .f32 → T F S64x1x64x4x128 .f32),
    StableHlo.nullary main_cst_7 (constant S_ .f32 0x00000000#32),
    StableHlo.unary main_cst_7 main_v51 (broadcastInDim S64x1x64x4x128 ![] bcast_S_S64x1x64x4x128 : T F S_ .f32 → T F S64x1x64x4x128 .f32),
    StableHlo.nullary main_cst_8 (constant S_ .f32 0x00000000#32),
    StableHlo.unary main_cst_8 main_v52 (broadcastInDim S64x1x64x4x256 ![] bcast_S_S64x1x64x4x256 : T F S_ .f32 → T F S64x1x64x4x256 .f32),
    StableHlo.nullary main_cst_9 (constant S_ .f32 0x00000000#32),
    StableHlo.unary main_cst_9 main_v53 (broadcastInDim S64x1x4x128 ![] bcast_S_S64x1x4x128 : T F S_ .f32 → T F S64x1x4x128 .f32),
    StableHlo.nullary main_c_10 (constantI S_ 32 0#32),
    StableHlo.unary main_v48 main_v54_0 id,
    StableHlo.unary main_v34 main_v54_1 id,
    StableHlo.unary main_v42_7 main_v54_2 id,
    StableHlo.unary main_v42_8 main_v54_3 id,
    StableHlo.unary main_v36 main_v54_4 id,
    StableHlo.unary main_v35 main_v54_5 id,
    StableHlo.unary main_c_10 main_v54_6 id,
    StableHlo.unary main_v49 main_v54_7 id,
    StableHlo.unary main_v50 main_v54_8 id,
    StableHlo.unary main_v51 main_v54_9 id,
    StableHlo.unary main_v52 main_v54_10 id,
    StableHlo.unary main_v53 main_v54_11 id ]

theorem mainB0_sub : (mainB0 : List (HloOp τ sig (Elt F))).Forall fun op => op.bufs ⊆ tcRefs τ sig :=
  ⟨reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- Part 2 of the program: stretch 2. -/
abbrev mainB1 : List (HloOp τ sig (Elt F)) :=
  [ StableHlo.unary main_v54_11 main_v55 ((transpose S1x64x4x128 [1, 0, 2, 3] · transposes_S64x1x4x128_S1x64x4x128_1_0_2_3) : T F S64x1x4x128 .f32 → T F S1x64x4x128 .f32),
    StableHlo.unary main_v54_10 main_v56 ((transpose S1x64x64x4x256 [1, 0, 2, 3, 4] · transposes_S64x1x64x4x256_S1x64x64x4x256_1_0_2_3_4) : T F S64x1x64x4x256 .f32 → T F S1x64x64x4x256 .f32),
    StableHlo.unary main_v54_9 main_v57 ((transpose S1x64x64x4x128 [1, 0, 2, 3, 4] · transposes_S64x1x64x4x128_S1x64x64x4x128_1_0_2_3_4) : T F S64x1x64x4x128 .f32 → T F S1x64x64x4x128 .f32),
    StableHlo.unary main_v54_8 main_v58 ((transpose S1x64x64x4x128 [1, 0, 2, 3, 4] · transposes_S64x1x64x4x128_S1x64x64x4x128_1_0_2_3_4) : T F S64x1x64x4x128 .f32 → T F S1x64x64x4x128 .f32),
    StableHlo.binary main_v55 main_v33 main_v59 (mulf : T F S1x64x4x128 .f32 → T F S1x64x4x128 .f32 → T F S1x64x4x128 .f32),
    StableHlo.unary main_v59 main_v60 (broadcastInDim S1x64x1x4x128 ![0, 1, 3, 4] bcast_S1x64x4x128_S1x64x1x4x128_0_1_3_4 : T F S1x64x4x128 .f32 → T F S1x64x1x4x128 .f32),
    StableHlo.binary main_v5 main_v57 main_v61 (mulf : T F S1x64x64x4x128 .f32 → T F S1x64x64x4x128 .f32 → T F S1x64x64x4x128 .f32),
    StableHlo.binary main_v57 main_v30 main_v62 (mulf : T F S1x64x64x4x128 .f32 → T F S1x64x64x4x128 .f32 → T F S1x64x64x4x128 .f32),
    StableHlo.binary main_v61 main_v30 main_v63 (mulf : T F S1x64x64x4x128 .f32 → T F S1x64x64x4x128 .f32 → T F S1x64x64x4x128 .f32),
    StableHlo.nullary main_cst_11 (constant S_ .f32 0x00000000#32),
    StableHlo.binary main_v63 main_cst_11 main_v64 ((fun x v => Host.reduceAdd x v reducesTo_S1x64x64x4x128_S1x64x4x128_d2 h_S_) : T F S1x64x64x4x128 .f32 → T F S_ .f32 → T F S1x64x4x128 .f32),
    StableHlo.reshape main_v64 main_v65 (rfl : (.f32 : EltTy) = .f32) shapeCasts_S1x64x4x128_S1x64x1x4x128,
    StableHlo.unary main_v63 main_v66 (Host.negf : T F S1x64x64x4x128 .f32 → T F S1x64x64x4x128 .f32),
    StableHlo.binary main_v60 main_v65 main_v67 (addf : T F S1x64x1x4x128 .f32 → T F S1x64x1x4x128 .f32 → T F S1x64x1x4x128 .f32),
    StableHlo.binary main_v4 main_v58 main_v68 (mulf : T F S1x64x64x4x128 .f32 → T F S1x64x64x4x128 .f32 → T F S1x64x64x4x128 .f32),
    StableHlo.binary main_v58 main_v9 main_v69 (mulf : T F S1x64x64x4x128 .f32 → T F S1x64x64x4x128 .f32 → T F S1x64x64x4x128 .f32),
    StableHlo.unary main_v47 main_v70 ((transpose S1x64x4x256x64 [0, 1, 3, 4, 2] · transposes_S1x64x64x4x256_S1x64x4x256x64_0_1_3_4_2) : T F S1x64x64x4x256 .f32 → T F S1x64x4x256x64 .f32),
    StableHlo.binary main_v70 main_v6 main_v71 ((fun l r => Host.dotGeneral dot_S1x64x4x256x64_S1x64x64x4x256_S1x64x4x64x64_3_4_4_2_012_013 none l r) : T F S1x64x4x256x64 .f32 → T F S1x64x64x4x256 .f32 → T F S1x64x4x64x64 .f32),
    StableHlo.binary main_v70 main_v24_0 main_v72 ((fun l r => Host.dotGeneral dot_S1x64x4x256x64_S1x64x4x64x64_S1x64x4x256x64_4_3_3_4_012_012 none l r) : T F S1x64x4x256x64 .f32 → T F S1x64x4x64x64 .f32 → T F S1x64x4x256x64 .f32),
    StableHlo.unary main_v72 main_v73 ((transpose S1x64x64x4x256 [0, 1, 4, 2, 3] · transposes_S1x64x4x256x64_S1x64x64x4x256_0_1_4_2_3) : T F S1x64x4x256x64 .f32 → T F S1x64x64x4x256 .f32),
    StableHlo.binary main_v56 main_v73 main_v74 (addf : T F S1x64x64x4x256 .f32 → T F S1x64x64x4x256 .f32 → T F S1x64x64x4x256 .f32) ]

theorem mainB1_sub : (mainB1 : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., binary_bufs_sub .., binary_bufs_sub .., nullary_bufs_sub .., binary_bufs_sub .., reshape_bufs_sub .., unary_bufs_sub .., binary_bufs_sub .., binary_bufs_sub .., binary_bufs_sub .., unary_bufs_sub .., binary_bufs_sub .., binary_bufs_sub .., unary_bufs_sub .., binary_bufs_sub ..⟩

/-- Part 2 of the program: stretch 3. -/
abbrev mainB2 : List (HloOp τ sig (Elt F)) :=
  [ StableHlo.binary main_v75_1 main_v15 main_v76 ((fun l r => Host.dotGeneral dot_S1x64x4x64x64_S1x64x64x4x128_S1x64x4x64x128_3_2_4_4_012_013 none l r) : T F S1x64x4x64x64 .f32 → T F S1x64x64x4x128 .f32 → T F S1x64x4x64x128 .f32),
    StableHlo.unary main_v76 main_v77 ((transpose S1x64x64x4x128 [0, 1, 3, 2, 4] · transposes_S1x64x4x64x128_S1x64x64x4x128_0_1_3_2_4) : T F S1x64x4x64x128 .f32 → T F S1x64x64x4x128 .f32),
    StableHlo.binary main_v75_1 main_v16 main_v78 ((fun l r => Host.dotGeneral dot_S1x64x4x64x64_S1x64x64x4x128_S1x64x4x64x128_4_2_3_4_012_013 none l r) : T F S1x64x4x64x64 .f32 → T F S1x64x64x4x128 .f32 → T F S1x64x4x64x128 .f32),
    StableHlo.unary main_v78 main_v79 ((transpose S1x64x64x4x128 [0, 1, 3, 2, 4] · transposes_S1x64x4x64x128_S1x64x64x4x128_0_1_3_2_4) : T F S1x64x4x64x128 .f32 → T F S1x64x64x4x128 .f32),
    StableHlo.binary main_v5 main_v77 main_v80 (mulf : T F S1x64x64x4x128 .f32 → T F S1x64x64x4x128 .f32 → T F S1x64x64x4x128 .f32),
    StableHlo.binary main_v68 main_v80 main_v81 (addf : T F S1x64x64x4x128 .f32 → T F S1x64x64x4x128 .f32 → T F S1x64x64x4x128 .f32),
    StableHlo.binary main_v77 main_v9 main_v82 (mulf : T F S1x64x64x4x128 .f32 → T F S1x64x64x4x128 .f32 → T F S1x64x64x4x128 .f32),
    StableHlo.binary main_v62 main_v82 main_v83 (addf : T F S1x64x64x4x128 .f32 → T F S1x64x64x4x128 .f32 → T F S1x64x64x4x128 .f32),
    StableHlo.binary main_v4 main_v79 main_v84 (mulf : T F S1x64x64x4x128 .f32 → T F S1x64x64x4x128 .f32 → T F S1x64x64x4x128 .f32) ]

theorem mainB2_sub : (mainB2 : List (HloOp τ sig (Elt F))).Forall fun op => op.bufs ⊆ tcRefs τ sig :=
  ⟨binary_bufs_sub .., unary_bufs_sub .., binary_bufs_sub .., unary_bufs_sub .., binary_bufs_sub .., binary_bufs_sub .., binary_bufs_sub .., binary_bufs_sub .., binary_bufs_sub ..⟩

/-- Part 3 of the program: stretch 1. -/
abbrev mainC0 : List (HloOp τ sig (Elt F)) :=
  [ StableHlo.binary main_v79 main_v11 main_v85 (mulf : T F S1x64x64x4x128 .f32 → T F S1x64x64x4x128 .f32 → T F S1x64x64x4x128 .f32),
    StableHlo.binary main_v69 main_v85 main_v86 (addf : T F S1x64x64x4x128 .f32 → T F S1x64x64x4x128 .f32 → T F S1x64x64x4x128 .f32),
    StableHlo.binary main_v75_0 main_v12 main_v87 ((fun l r => Host.dotGeneral dot_S1x64x4x64x64_S1x64x64x4x128_S1x64x4x64x128_3_2_4_4_012_013 none l r) : T F S1x64x4x64x64 .f32 → T F S1x64x64x4x128 .f32 → T F S1x64x4x64x128 .f32),
    StableHlo.unary main_v87 main_v88 ((transpose S1x64x64x4x128 [0, 1, 3, 2, 4] · transposes_S1x64x4x64x128_S1x64x64x4x128_0_1_3_2_4) : T F S1x64x4x64x128 .f32 → T F S1x64x64x4x128 .f32),
    StableHlo.binary main_v75_0 main_v13 main_v89 ((fun l r => Host.dotGeneral dot_S1x64x4x64x64_S1x64x64x4x128_S1x64x4x64x128_4_2_3_4_012_013 none l r) : T F S1x64x4x64x64 .f32 → T F S1x64x64x4x128 .f32 → T F S1x64x4x64x128 .f32),
    StableHlo.unary main_v89 main_v90 ((transpose S1x64x64x4x128 [0, 1, 3, 2, 4] · transposes_S1x64x4x64x128_S1x64x64x4x128_0_1_3_2_4) : T F S1x64x4x64x128 .f32 → T F S1x64x64x4x128 .f32),
    StableHlo.binary main_v5 main_v88 main_v91 (mulf : T F S1x64x64x4x128 .f32 → T F S1x64x64x4x128 .f32 → T F S1x64x64x4x128 .f32),
    StableHlo.binary main_v84 main_v91 main_v92 (addf : T F S1x64x64x4x128 .f32 → T F S1x64x64x4x128 .f32 → T F S1x64x64x4x128 .f32),
    StableHlo.binary main_v88 main_v11 main_v93 (mulf : T F S1x64x64x4x128 .f32 → T F S1x64x64x4x128 .f32 → T F S1x64x64x4x128 .f32),
    StableHlo.binary main_v83 main_v93 main_v94 (addf : T F S1x64x64x4x128 .f32 → T F S1x64x64x4x128 .f32 → T F S1x64x64x4x128 .f32),
    StableHlo.binary main_v4 main_v90 main_v95 (mulf : T F S1x64x64x4x128 .f32 → T F S1x64x64x4x128 .f32 → T F S1x64x64x4x128 .f32),
    StableHlo.binary main_v81 main_v95 main_v96 (addf : T F S1x64x64x4x128 .f32 → T F S1x64x64x4x128 .f32 → T F S1x64x64x4x128 .f32),
    StableHlo.binary main_v90 main_v9 main_v97 (mulf : T F S1x64x64x4x128 .f32 → T F S1x64x64x4x128 .f32 → T F S1x64x64x4x128 .f32),
    StableHlo.binary main_v86 main_v97 main_v98 (addf : T F S1x64x64x4x128 .f32 → T F S1x64x64x4x128 .f32 → T F S1x64x64x4x128 .f32),
    StableHlo.binary main_v92 main_v11 main_v99 (mulf : T F S1x64x64x4x128 .f32 → T F S1x64x64x4x128 .f32 → T F S1x64x64x4x128 .f32),
    StableHlo.unary main_v99 main_v100 (Host.negf : T F S1x64x64x4x128 .f32 → T F S1x64x64x4x128 .f32),
    StableHlo.binary main_v66 main_v100 main_v101 (addf : T F S1x64x64x4x128 .f32 → T F S1x64x64x4x128 .f32 → T F S1x64x64x4x128 .f32),
    StableHlo.binary main_v96 main_v9 main_v102 (mulf : T F S1x64x64x4x128 .f32 → T F S1x64x64x4x128 .f32 → T F S1x64x64x4x128 .f32),
    StableHlo.binary main_v101 main_v102 main_v103 (addf : T F S1x64x64x4x128 .f32 → T F S1x64x64x4x128 .f32 → T F S1x64x64x4x128 .f32),
    StableHlo.nullary main_cst_12 (constant S_ .f32 0x00000000#32),
    StableHlo.binary main_v67 main_cst_12 main_v104 ((fun x v => pad S1x64x64x4x128 ![0, 0, 63, 0, 0] ![0, 0, 0, 0, 0] ![0, 0, 0, 0, 0] x v pads_S1x64x1x4x128_S1x64x64x4x128_000_000_6300_000_000 h_S_) : T F S1x64x1x4x128 .f32 → T F S_ .f32 → T F S1x64x64x4x128 .f32),
    StableHlo.binary main_v103 main_v104 main_v105 (addf : T F S1x64x64x4x128 .f32 → T F S1x64x64x4x128 .f32 → T F S1x64x64x4x128 .f32),
    StableHlo.reshape main_v105 main_v106 (rfl : (.f32 : EltTy) = .f32) shapeCasts_S1x64x64x4x128_S4096x512,
    StableHlo.reshape main_v74 main_v107 (rfl : (.f32 : EltTy) = .f32) shapeCasts_S1x64x64x4x256_S4096x1024,
    StableHlo.reshape main_v94 main_v108 (rfl : (.f32 : EltTy) = .f32) shapeCasts_S1x64x64x4x128_S4096x512,
    StableHlo.nullary main_cst_13 (constant S_ .f32 0x3DB504F3#32),
    StableHlo.unary main_cst_13 main_v109 (broadcastInDim S1x64x64x4x128 ![] bcast_S_S1x64x64x4x128 : T F S_ .f32 → T F S1x64x64x4x128 .f32),
    StableHlo.binary main_v98 main_v109 main_v110 (mulf : T F S1x64x64x4x128 .f32 → T F S1x64x64x4x128 .f32 → T F S1x64x64x4x128 .f32),
    StableHlo.reshape main_v110 main_v111 (rfl : (.f32 : EltTy) = .f32) shapeCasts_S1x64x64x4x128_S4096x512,
    StableHlo.unary main_v111 main_v112 ((truncf .bf16 · bitsLt_bf16_f32) : T F S4096x512 .f32 → T F S4096x512 .bf16),
    StableHlo.unary main_v108 main_v113 ((truncf .bf16 · bitsLt_bf16_f32) : T F S4096x512 .f32 → T F S4096x512 .bf16),
    StableHlo.unary main_v107 main_v114 ((truncf .bf16 · bitsLt_bf16_f32) : T F S4096x1024 .f32 → T F S4096x1024 .bf16) ]

theorem mainC0_sub : (mainC0 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., nullary_bufs_sub .., binary_bufs_sub .., binary_bufs_sub .., reshape_bufs_sub .., reshape_bufs_sub .., reshape_bufs_sub .., nullary_bufs_sub .., unary_bufs_sub .., binary_bufs_sub .., reshape_bufs_sub .., unary_bufs_sub .., unary_bufs_sub .., unary_bufs_sub ..⟩

/-- The body of loop 0: stretch 1. -/
abbrev loop00 : List (HloOp τ sig (Elt F)) :=
  [ StableHlo.binary main_v42_5 main_while0b_v115 main_while0b_v119 ((fun l r => Host.dotGeneral dot_S1x4x128x256_S1x64x4x128_S1x4x256x64_2_3_3_1_01_02 none l r) : T F S1x4x128x256 .f32 → T F S1x64x4x128 .f32 → T F S1x4x256x64 .f32),
    StableHlo.unary main_while0b_v119 main_while0b_v120 ((transpose S1x64x4x256 [0, 3, 1, 2] · transposes_S1x4x256x64_S1x64x4x256_0_3_1_2) : T F S1x4x256x64 .f32 → T F S1x64x4x256 .f32),
    StableHlo.unary main_while0b_v118 main_while0b_v121 (broadcastInDim S1x4x128x1 ![0, 1, 2] bcast_S1x4x128_S1x4x128x1_0_1_2 : T F S1x4x128 .f32 → T F S1x4x128x1 .f32),
    StableHlo.unary main_while0b_v121 main_while0b_v122 (broadcastInDim S1x4x128x256 ![0, 1, 2, 3] bcast_S1x4x128x1_S1x4x128x256_0_1_2_3 : T F S1x4x128x1 .f32 → T F S1x4x128x256 .f32),
    StableHlo.binary main_v42_5 main_while0b_v122 main_while0b_v123 (mulf : T F S1x4x128x256 .f32 → T F S1x4x128x256 .f32 → T F S1x4x128x256 .f32),
    StableHlo.binary main_while0b_v116 main_while0b_v117 main_while0b_v124 ((fun l r => Host.dotGeneral dot_S1x64x4x128_S1x64x4x256_S1x4x128x256_1_1_3_3_02_02 none l r) : T F S1x64x4x128 .f32 → T F S1x64x4x256 .f32 → T F S1x4x128x256 .f32),
    StableHlo.binary main_while0b_v123 main_while0b_v124 main_while0b_v125 (addf : T F S1x4x128x256 .f32 → T F S1x4x128x256 .f32 → T F S1x4x128x256 .f32) ]

theorem loop00_sub : (loop00 : List (HloOp τ sig (Elt F))).Forall fun op => op.bufs ⊆ tcRefs τ sig :=
  ⟨binary_bufs_sub .., unary_bufs_sub .., unary_bufs_sub .., unary_bufs_sub .., binary_bufs_sub .., binary_bufs_sub .., binary_bufs_sub ..⟩

/-- The body of loop 0: stretch 2. -/
abbrev loop01 : List (HloOp τ sig (Elt F)) :=
  [ StableHlo.nullary main_while0b_c_22 (constantI S_ 32 1#32),
    StableHlo.binary main_v42_4 main_while0b_c_22 main_while0b_v129 (addi : T F S_ .i32 → T F S_ .i32 → T F S_ .i32),
    StableHlo.unary main_while0b_v129 main_v42_4 id,
    StableHlo.unary main_while0b_v125 main_v42_5 id,
    StableHlo.unary main_while0b_v126 main_v42_6 id,
    StableHlo.unary main_while0b_v127 main_v42_7 id,
    StableHlo.unary main_while0b_v128 main_v42_8 id ]

theorem loop01_sub : (loop01 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

/-- The body of loop 1: stretch 1. -/
abbrev loop10 : List (HloOp τ sig (Elt F)) :=
  [ StableHlo.nullary main_while1b_c_25 (constantI S_ 32 64#32),
    StableHlo.binary main_while1b_c_25 main_v54_6 main_while1b_v115 (subi : T F S_ .i32 → T F S_ .i32 → T F S_ .i32),
    StableHlo.nullary main_while1b_c_26 (constantI S_ 32 1#32),
    StableHlo.binary main_while1b_v115 main_while1b_c_26 main_while1b_v116 (subi : T F S_ .i32 → T F S_ .i32 → T F S_ .i32) ]

theorem loop10_sub : (loop10 : List (HloOp τ sig (Elt F))).Forall fun op => op.bufs ⊆ tcRefs τ sig :=
  ⟨nullary_bufs_sub .., binary_bufs_sub .., nullary_bufs_sub .., binary_bufs_sub ..⟩

/-- The body of loop 1: stretch 2. -/
abbrev loop11 : List (HloOp τ sig (Elt F)) :=
  [ StableHlo.binary main_v54_7 main_while1b_v122 main_while1b_v123 ((fun l r => Host.dotGeneral dot_S1x4x128x256_S1x64x4x128_S1x4x256x64_2_3_3_1_01_02 none l r) : T F S1x4x128x256 .f32 → T F S1x64x4x128 .f32 → T F S1x4x256x64 .f32),
    StableHlo.unary main_while1b_v123 main_while1b_v124 ((transpose S1x64x4x256 [0, 3, 1, 2] · transposes_S1x4x256x64_S1x64x4x256_0_3_1_2) : T F S1x4x256x64 .f32 → T F S1x64x4x256 .f32),
    StableHlo.binary main_v54_7 main_while1b_v121 main_while1b_v125 ((fun l r => Host.dotGeneral dot_S1x4x128x256_S1x64x4x256_S1x4x128x64_3_3_2_1_01_02 none l r) : T F S1x4x128x256 .f32 → T F S1x64x4x256 .f32 → T F S1x4x128x64 .f32),
    StableHlo.unary main_while1b_v125 main_while1b_v126 ((transpose S1x64x4x128 [0, 3, 1, 2] · transposes_S1x4x128x64_S1x64x4x128_0_3_1_2) : T F S1x4x128x64 .f32 → T F S1x64x4x128 .f32),
    StableHlo.binary main_while1b_v119 main_v54_7 main_while1b_v127 (mulf : T F S1x4x128x256 .f32 → T F S1x4x128x256 .f32 → T F S1x4x128x256 .f32),
    StableHlo.nullary main_while1b_cst_27 (constant S_ .f32 0x00000000#32),
    StableHlo.binary main_while1b_v127 main_while1b_cst_27 main_while1b_v128 ((fun x v => Host.reduceAdd x v reducesTo_S1x4x128x256_S1x4x128_d3 h_S_) : T F S1x4x128x256 .f32 → T F S_ .f32 → T F S1x4x128 .f32),
    StableHlo.reshape main_while1b_v128 main_while1b_v129 (rfl : (.f32 : EltTy) = .f32) shapeCasts_S1x4x128_S1x4x128x1,
    StableHlo.unary main_while1b_v120 main_while1b_v130 (broadcastInDim S1x4x128x256 ![0, 1, 2, 3] bcast_S1x4x128x1_S1x4x128x256_0_1_2_3 : T F S1x4x128x1 .f32 → T F S1x4x128x256 .f32),
    StableHlo.binary main_v54_7 main_while1b_v130 main_while1b_v131 (mulf : T F S1x4x128x256 .f32 → T F S1x4x128x256 .f32 → T F S1x4x128x256 .f32),
    StableHlo.nullary main_while1b_cst_28 (constant S_ .f32 0x00000000#32),
    StableHlo.binary main_while1b_v129 main_while1b_cst_28 main_while1b_v132 ((fun x v => Host.reduceAdd x v reducesTo_S1x4x128x1_S4x128_d0_3 h_S_) : T F S1x4x128x1 .f32 → T F S_ .f32 → T F S4x128 .f32),
    StableHlo.unary main_while1b_v132 main_while1b_v133 (broadcastInDim S1x4x128 ![1, 2] bcast_S4x128_S1x4x128_1_2 : T F S4x128 .f32 → T F S1x4x128 .f32),
    StableHlo.unary main_while1b_v117 main_while1b_v134 ((transpose S1x4x256x64 [0, 2, 3, 1] · transposes_S1x64x4x256_S1x4x256x64_0_2_3_1) : T F S1x64x4x256 .f32 → T F S1x4x256x64 .f32),
    StableHlo.binary main_while1b_v134 main_while1b_v119 main_while1b_v135 ((fun l r => Host.dotGeneral dot_S1x4x256x64_S1x4x128x256_S1x4x64x128_2_3_3_2_01_01 none l r) : T F S1x4x256x64 .f32 → T F S1x4x128x256 .f32 → T F S1x4x64x128 .f32),
    StableHlo.unary main_while1b_v135 main_while1b_v136 ((transpose S1x64x4x128 [0, 2, 1, 3] · transposes_S1x4x64x128_S1x64x4x128_0_2_1_3) : T F S1x4x64x128 .f32 → T F S1x64x4x128 .f32),
    StableHlo.binary main_while1b_v134 main_while1b_v118 main_while1b_v137 ((fun l r => Host.dotGeneral dot_S1x4x256x64_S1x64x4x128_S1x4x256x128_3_1_2_3_01_02 none l r) : T F S1x4x256x64 .f32 → T F S1x64x4x128 .f32 → T F S1x4x256x128 .f32),
    StableHlo.unary main_while1b_v137 main_while1b_v138 ((transpose S1x4x128x256 [0, 1, 3, 2] · transposes_S1x4x256x128_S1x4x128x256_0_1_3_2) : T F S1x4x256x128 .f32 → T F S1x4x128x256 .f32),
    StableHlo.binary main_while1b_v131 main_while1b_v138 main_while1b_v139 (addf : T F S1x4x128x256 .f32 → T F S1x4x128x256 .f32 → T F S1x4x128x256 .f32) ]

theorem loop11_sub : (loop11 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., unary_bufs_sub .., unary_bufs_sub .., binary_bufs_sub .., unary_bufs_sub .., binary_bufs_sub .., unary_bufs_sub .., binary_bufs_sub ..⟩

/-- The body of loop 1: stretch 3. -/
abbrev loop12 : List (HloOp τ sig (Elt F)) :=
  [ StableHlo.nullary main_while1b_c_29 (constantI S_ 32 1#32),
    StableHlo.binary main_v54_6 main_while1b_c_29 main_while1b_v144 (addi : T F S_ .i32 → T F S_ .i32 → T F S_ .i32),
    StableHlo.unary main_while1b_v144 main_v54_6 id,
    StableHlo.unary main_while1b_v139 main_v54_7 id,
    StableHlo.unary main_while1b_v140 main_v54_8 id,
    StableHlo.unary main_while1b_v141 main_v54_9 id,
    StableHlo.unary main_while1b_v142 main_v54_10 id,
    StableHlo.unary main_while1b_v143 main_v54_11 id ]

theorem loop12_sub : (loop12 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩

end Cert.ReferenceIdeal.Own

end
-- ==== Proof.Reference.Run.lean ====
/-
  The reference's run: the stretches before the first scan, the first scan's 64 trips, the stretches between, the second
  scan's 64 trips, and the stretches after it. The two scans are counted loops, and the whole program is one chain of
  segments: it ends with every buffer at the fold of its operations.
-/
module

public import proofs.«01_k».proof.Proof.Reference.Ops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Own

open Cert.ReferenceIdeal Cert.ReferenceIdeal.Gen
open Idealize.ShloMosaic Idealize.ShloMosaic.TcCoe Idealize.ShloMosaic.StableHlo Idealize.ShloMosaic.Tactic
open Idealize.ShloMosaic.Pipeline (ucRefs sub_ucRefs CSeg Ticket)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The stretches -/

/-- The stretches before the first scan. -/
abbrev preI : List (List (HloOp τ sig (Elt F))) :=
  [mainA0, fn_whereOps (.of main_v23) (.of main_v14) (.of main_v17) main_call0, mainA1]
/-- The stretches between the scans. -/
abbrev midI : List (List (HloOp τ sig (Elt F))) := [mainA2, mainB0]
/-- The stretches after the second scan. -/
abbrev postI : List (List (HloOp τ sig (Elt F))) :=
  [mainB1, fn_where_8Ops (.of main_v24_1) (.of main_v71) main_call18, mainB2, mainC0]
/-- One trip of the first scan: the reads of chunk `n`, the step, the writes. -/
abbrev upI : List (List (HloOp τ sig (Elt F))) :=
  [fn_dynamic_index_in_dimOps (.of main_v42_0) (.of main_v42_4) main_while0b_call1,
   fn_dynamic_index_in_dimOps (.of main_v42_1) (.of main_v42_4) main_while0b_call2,
   fn_dynamic_index_in_dim_0Ops (.of main_v42_2) (.of main_v42_4) main_while0b_call3,
   fn_dynamic_index_in_dim_1Ops (.of main_v42_3) (.of main_v42_4) main_while0b_call4,
   loop00,
   fn_dynamic_update_index_in_dimOps (.of main_v42_6) (.of main_while0b_v120) (.of main_v42_4) main_while0b_call5,
   fn_dynamic_update_index_in_dim_2Ops (.of main_v42_7) (.of main_v42_5) (.of main_v42_4) main_while0b_call6,
   fn_dynamic_update_index_in_dim_3Ops (.of main_v42_8) (.of main_while0b_v121) (.of main_v42_4) main_while0b_call7,
   loop01]
/-- One trip of the second scan. -/
abbrev downI : List (List (HloOp τ sig (Elt F))) :=
  [loop10,
   fn_dynamic_index_in_dim_0Ops (.of main_v54_0) (.of main_while1b_v116) main_while1b_call8,
   fn_dynamic_index_in_dimOps (.of main_v54_1) (.of main_while1b_v116) main_while1b_call9,
   fn_dynamic_index_in_dim_4Ops (.of main_v54_2) (.of main_while1b_v116) main_while1b_call10,
   fn_dynamic_index_in_dim_5Ops (.of main_v54_3) (.of main_while1b_v116) main_while1b_call11,
   fn_dynamic_index_in_dim_0Ops (.of main_v54_4) (.of main_while1b_v116) main_while1b_call12,
   fn_dynamic_index_in_dimOps (.of main_v54_5) (.of main_while1b_v116) main_while1b_call13,
   loop11,
   fn_dynamic_update_index_in_dim_6Ops (.of main_v54_8) (.of main_while1b_v136) (.of main_while1b_v116) main_while1b_call14,
   fn_dynamic_update_index_in_dim_6Ops (.of main_v54_9) (.of main_while1b_v126) (.of main_while1b_v116) main_while1b_call15,
   fn_dynamic_update_index_in_dimOps (.of main_v54_10) (.of main_while1b_v124) (.of main_while1b_v116) main_while1b_call16,
   fn_dynamic_update_index_in_dim_7Ops (.of main_v54_11) (.of main_while1b_v133) (.of main_while1b_v116) main_while1b_call17,
   loop12]
/-- The first scan's condition. -/
abbrev upC : List (HloOp τ sig (Elt F)) :=
  [StableHlo.nullary main_while0c_c_22 (constantI S_ 32 64#32),
   StableHlo.binary main_v42_4 main_while0c_c_22 main_while0c_v115 (cmpi .slt)]
/-- The second scan's condition. -/
abbrev downC : List (HloOp τ sig (Elt F)) :=
  [StableHlo.nullary main_while1c_c_25 (constantI S_ 32 64#32),
   StableHlo.binary main_v54_6 main_while1c_c_25 main_while1c_v115 (cmpi .slt)]

/-- A stretch none of whose operations allocates, from the list of their empty fresh sets. -/
theorem plain_cons {ops : List (HloOp τ sig (Elt F))} {rest : List (List (HloOp τ sig (Elt F)))}
    (hs : ops.Forall fun op => op.bufs ⊆ tcRefs τ sig) (h : Plain rest)
    (hf : ops.map HloOp.fresh = ops.map fun _ => (∅ : Finset (DevRef τ sig))) : Plain (ops :: rest) :=
  .cons hs h (List.forall_iff_forall_mem.mp (forall_fresh_of_map hf))

theorem preI_plain : Plain (preI (F := F)) :=
  plain_cons mainA0_sub (plain_cons (fn_where_sub ..) (plain_cons mainA1_sub .nil rfl) rfl) rfl
theorem midI_plain : Plain (midI (F := F)) := plain_cons mainA2_sub (plain_cons mainB0_sub .nil rfl) rfl
theorem postI_plain : Plain (postI (F := F)) :=
  plain_cons mainB1_sub (plain_cons (fn_where_8_sub ..) (plain_cons mainB2_sub (plain_cons mainC0_sub .nil rfl) rfl) rfl) rfl
theorem upI_plain : Plain (upI (F := F)) :=
  plain_cons (fn_dynamic_index_in_dim_sub ..) (plain_cons (fn_dynamic_index_in_dim_sub ..)
    (plain_cons (fn_dynamic_index_in_dim_0_sub ..) (plain_cons (fn_dynamic_index_in_dim_1_sub ..) (plain_cons loop00_sub
      (plain_cons (fn_dynamic_update_index_in_dim_sub ..) (plain_cons (fn_dynamic_update_index_in_dim_2_sub ..)
        (plain_cons (fn_dynamic_update_index_in_dim_3_sub ..) (plain_cons loop01_sub .nil rfl) rfl) rfl) rfl) rfl) rfl) rfl) rfl) rfl
theorem downI_plain : Plain (downI (F := F)) :=
  plain_cons loop10_sub (plain_cons (fn_dynamic_index_in_dim_0_sub ..) (plain_cons (fn_dynamic_index_in_dim_sub ..)
    (plain_cons (fn_dynamic_index_in_dim_4_sub ..) (plain_cons (fn_dynamic_index_in_dim_5_sub ..)
      (plain_cons (fn_dynamic_index_in_dim_0_sub ..) (plain_cons (fn_dynamic_index_in_dim_sub ..) (plain_cons loop11_sub
        (plain_cons (fn_dynamic_update_index_in_dim_6_sub ..) (plain_cons (fn_dynamic_update_index_in_dim_6_sub ..)
          (plain_cons (fn_dynamic_update_index_in_dim_sub ..) (plain_cons (fn_dynamic_update_index_in_dim_7_sub ..)
            (plain_cons loop12_sub .nil rfl) rfl) rfl) rfl) rfl) rfl) rfl) rfl) rfl) rfl) rfl) rfl) rfl

/-! ## The program as a chain -/

/-- A program of the reference. -/
abbrev HProg (F : FTy → Type) [FloatOps F] : Type 1 :=
  Prog (TpuEff nD τ sig (Elt F) (HostLoop.Sig (Pipeline.Sig Λ₀ (Fin 0) fun p => (pcfgs (F := F) p).Adm) 2) .tc) PUnit

theorem partA_chain (c : Dev nD) : main_part0 (F := F) c = Pipeline.chainK
    [ seq mainA0, seq (fn_whereOps (.of main_v23) (.of main_v14) (.of main_v17) main_call0), seq mainA1, HostLoop.enter 0 ]
    (seq mainA2 : HProg F) := by
  rewrite [chainK_seq_cons, Pipeline.chainK_cons, chainK_seq_cons, Pipeline.chainK_cons]
  chain_rfl

theorem partB_chain (c : Dev nD) : main_part1 (F := F) c = Pipeline.chainK
    [ seq mainB0, HostLoop.enter 1, seq mainB1, seq (fn_where_8Ops (.of main_v24_1) (.of main_v71) main_call18) ]
    (seq mainB2 : HProg F) := by
  rewrite [chainK_seq_cons, Pipeline.chainK_cons, chainK_seq_cons, Pipeline.chainK_cons]
  chain_rfl

theorem partC_chain (c : Dev nD) : main_part2 (F := F) c = Pipeline.chain [ (seq mainC0 : HProg F) ] := by
  rewrite [chain_seq_cons]
  chain_rfl

/-- The program is the stretches and the two scans, in order. -/
theorem main_chain (c : Dev nD) : main (F := F) c = Pipeline.chain
    ((preI.map fun ops => (seq ops : HProg F)) ++ HostLoop.enter 0 ::
      ((midI.map fun ops => seq ops) ++ HostLoop.enter 1 :: postI.map fun ops => seq ops)) :=
  (Pipeline.chain_of_window (partA_chain (F := F) c) (Pipeline.chain_of_window (partB_chain (F := F) c) (partC_chain (F := F) c)) :)

theorem up_chain : main_while0_body (F := F) = Pipeline.chain (upI.map fun ops => (seq ops : HProg F)) := by
  simp only [List.map_cons, List.map_nil]
  rewrite [Pipeline.chain_cons, Pipeline.chain_cons, Pipeline.chain_cons, Pipeline.chain_cons, chain_seq_cons,
    Pipeline.chain_cons, Pipeline.chain_cons, Pipeline.chain_cons, chain_seq_cons]
  chain_rfl

theorem down_chain : main_while1_body (F := F) = Pipeline.chain (downI.map fun ops => (seq ops : HProg F)) := by
  simp only [List.map_cons, List.map_nil]
  rewrite [chain_seq_cons, Pipeline.chain_cons, Pipeline.chain_cons, Pipeline.chain_cons, Pipeline.chain_cons,
    Pipeline.chain_cons, Pipeline.chain_cons, chain_seq_cons,
    Pipeline.chain_cons, Pipeline.chain_cons, Pipeline.chain_cons, Pipeline.chain_cons, chain_seq_cons]
  chain_rfl

/-! ## The contents along the program -/

variable (m : (ℓ : Loc nD τ sig) → Buf (Elt F) ℓ) (ρ : Dev nD → PrngReg)

/-- The buffers where the first scan begins. -/
abbrev V₁ (c : Dev nD) : Valuation τ sig (Elt F) := afterL preI (launchContents m c)
/-- The buffers before the first scan's `k`-th test. -/
abbrev upAt (k : ℕ) (c : Dev nD) : Valuation τ sig (Elt F) := atTrip upC upI (V₁ m) k c
/-- The buffers where the first scan has ended. -/
abbrev V₂ (c : Dev nD) : Valuation τ sig (Elt F) := after upC (upAt m 64 c)
/-- The buffers where the second scan begins. -/
abbrev V₃ (c : Dev nD) : Valuation τ sig (Elt F) := afterL midI (V₂ m c)
/-- The buffers before the second scan's `k`-th test. -/
abbrev downAt (k : ℕ) (c : Dev nD) : Valuation τ sig (Elt F) := atTrip downC downI (V₃ m) k c
/-- The buffers where the second scan has ended. -/
abbrev V₄ (c : Dev nD) : Valuation τ sig (Elt F) := after downC (downAt m 64 c)
/-- The buffers at the program's end. -/
abbrev V₅ (c : Dev nD) : Valuation τ sig (Elt F) := afterL postI (V₄ m c)

/-! ## The scans' counters -/

/-- A trip of the first scan leaves its counter one step on. -/
theorem up_step (V : Valuation τ sig (Elt F)) : afterL upI (after upC V) (Proc.devRef .tc main_v42_4)
    = addi (V (Proc.devRef .tc main_v42_4)) (constantI S_ 32 1#32) := by
  simp only [afterL_cons, afterL_nil]
  after_reads_simp
  try rfl

/-- A trip of the second scan leaves its counter one step on. -/
theorem down_step (V : Valuation τ sig (Elt F)) : afterL downI (after downC V) (Proc.devRef .tc main_v54_6)
    = addi (V (Proc.devRef .tc main_v54_6)) (constantI S_ 32 1#32) := by
  simp only [afterL_cons, afterL_nil]
  after_reads_simp
  try rfl

theorem up_entry (c : Dev nD) : V₁ m c (Proc.devRef .tc main_v42_4) = fun _ => (0#32 : BitVec 32) := by
  simp only [afterL_cons, afterL_nil]
  after_reads_simp
  rfl

theorem down_entry (c : Dev nD) : V₃ m c (Proc.devRef .tc main_v54_6) = fun _ => (0#32 : BitVec 32) := by
  simp only [afterL_cons, afterL_nil]
  after_reads_simp
  rfl

theorem upAt_ctr (c : Dev nD) : ∀ k, upAt m k c (Proc.devRef .tc main_v42_4) = fun _ => Scf.iv 0#32 1#32 k
  | 0 => by rw [upAt, atTrip_zero, up_entry, Scf.iv_zero]
  | k + 1 => by
    rw [upAt, atTrip_succ, up_step, show atTrip upC upI (V₁ m) k c = upAt m k c from rfl, upAt_ctr c k, Scf.iv_succ]
    rfl

theorem downAt_ctr (c : Dev nD) : ∀ k, downAt m k c (Proc.devRef .tc main_v54_6) = fun _ => Scf.iv 0#32 1#32 k
  | 0 => by rw [downAt, atTrip_zero, down_entry, Scf.iv_zero]
  | k + 1 => by
    rw [downAt, atTrip_succ, down_step, show atTrip downC downI (V₃ m) k c = downAt m k c from rfl, downAt_ctr c k, Scf.iv_succ]
    rfl

/-! ## The scans' tests -/

/-- What rides along beside the buffers: what the core still owes. -/
abbrev Owed (c : Dev nD) : sProp (MT nD τ sig Unit (Elt F) ℕ (Option PUnit) ℕ) :=
  iprop(∃ W, owes (c : Thread nD τ) (0 : CellTallies nD τ sig Unit) W)

-- a rule stated for any thread is used at the TensorCore's: unification must unfold plain definitions in a type
set_option backward.isDefEq.respectTransparency.types false in
/-- The first scan goes on exactly while its counter is under 64. -/
theorem up_cond : LoopCond (pcfgs (F := F)) defs₀ Variants.none loops Owed main_while0_cond upC upI (V₁ m) 64 := by
  intro k hk c bd
  have hctr := upAt_ctr m c k
  unfold main_while0_cond
  rw [wp_bind]
  iintro ⟨Hb, Hh, HO⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (upAt m k c) main_v42_4 HostLoop.idx0) (HloOp.result _ (upAt m k c) main_while0c_c_22 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitr [HO]
  · rw [after_cons, after_cons, after_nil]; iexact Hh
  iexact HO

set_option backward.isDefEq.respectTransparency.types false in
/-- The second scan goes on exactly while its counter is under 64. -/
theorem down_cond : LoopCond (pcfgs (F := F)) defs₀ Variants.none loops Owed main_while1_cond downC downI (V₃ m) 64 := by
  intro k hk c bd
  have hctr := downAt_ctr m c k
  unfold main_while1_cond
  rw [wp_bind]
  iintro ⟨Hb, Hh, HO⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (downAt m k c) main_v54_6 HostLoop.idx0) (HloOp.result _ (downAt m k c) main_while1c_c_25 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitr [HO]
  · rw [after_cons, after_cons, after_nil]; iexact Hh
  iexact HO

/-! ## The run -/

abbrev adm : (p : Fin 0) → (pcfgs (F := F) p).Adm := fun p => p.elim0
abbrev noTicket : Fin 0 → Ticket (Ix := Unit) (Name := ℕ) (U := Option PUnit) (Lvl := ℕ) (nD := nD) (τ := τ) (pcfgs (F := F)) adm :=
  fun j => j.elim0
abbrev noIx : GSem nD τ sig → Finset Unit := fun _ => ∅
abbrev noLvl : GSem nD τ sig → Unit → ℕ := fun _ _ => 0

/-- A list of stretches from the contents `V`. -/
abbrev stretches (items : List (List (HloOp τ sig (Elt F)))) (h : Plain items) (V : Dev nD → Valuation τ sig (Elt F)) :
    List (CSeg (pcfgs (F := F)) adm defs₀ Variants.none noIx noLvl loops noTicket) :=
  segsOf _ _ _ _ _ _ _ _ Owed items h V

/-- The first scan as one segment. -/
abbrev upSeg : CSeg (pcfgs (F := F)) adm defs₀ Variants.none noIx noLvl loops noTicket :=
  loopSeg _ _ _ _ _ _ _ _ 0 main_while0_cond main_while0_body rfl upC upI upI_plain up_chain 64 (V₁ m) Owed (up_cond m)
/-- The second scan as one segment. -/
abbrev downSeg : CSeg (pcfgs (F := F)) adm defs₀ Variants.none noIx noLvl loops noTicket :=
  loopSeg _ _ _ _ _ _ _ _ 1 main_while1_cond main_while1_body rfl downC downI downI_plain down_chain 64 (V₃ m) Owed (down_cond m)

/-- The whole program's segments. -/
abbrev runSegs : List (CSeg (pcfgs (F := F)) adm defs₀ Variants.none noIx noLvl loops noTicket) :=
  stretches preI preI_plain (launchContents m) ++ upSeg m ::
    (stretches midI midI_plain (V₂ m) ++ downSeg m :: stretches postI postI_plain (V₄ m))

theorem runSegs_prog : (runSegs m).map CSeg.prog = (preI.map fun ops => (seq ops : HProg F)) ++ HostLoop.enter 0 ::
    ((midI.map fun ops => seq ops) ++ HostLoop.enter 1 :: postI.map fun ops => seq ops) := by
  rw [runSegs, List.map_append, List.map_cons, List.map_append, List.map_cons, segsOf_prog, segsOf_prog, segsOf_prog]
  rfl

theorem runSegs_chains : CSeg.Chains (fun c => iprop(held (c : Thread nD τ) (ucRefs τ sig) (launchContents m c) ∗ Owed c)) (runSegs m)
    (fun c => iprop(held (c : Thread nD τ) (ucRefs τ sig) (V₅ m c) ∗ Owed c)) :=
  CSeg.Chains.append (segsOf_chains _ _ _ _ _ _ _ _ Owed preI preI_plain _) ⟨fun _ => .rfl,
    CSeg.Chains.append (segsOf_chains _ _ _ _ _ _ _ _ Owed midI midI_plain _) ⟨fun _ => .rfl,
      segsOf_chains _ _ _ _ _ _ _ _ Owed postI postI_plain _⟩⟩

/-- From any memory with zero counters every weakly fair execution terminates with every buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = V₅ m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none noIx noLvl loops noTicket m ρ main (runSegs m)
    (fun c Q => by
      rw [main_chain c, ← runSegs_prog m]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed c))
    (Tₙ := fun c => iprop(held (c : Thread nD τ) (ucRefs τ sig) (V₅ m c)))
    (hch := runSegs_chains m)
    (hinit := by
      refine Pipeline.initEach noIx noLvl fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = V₅ m c b)
    (hfin := fun c s' => by
      unfold held
      iintro ⟨Hh, HSI⟩
      ihave Hr := (pointsTo_read_all (ucRefs τ sig) (fun b => ((c : Dev nD), b)) (fun b => V₅ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Own

end
-- ==== Proof.Reference.Writes.lean ====
/-
  Which buffers each part of the reference writes, one per operation and in order; from it, that a part leaves every other
  buffer alone, and that the arguments end as launched.
-/
module

public import proofs.«01_k».proof.Proof.Reference.Run

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The operations' write sets are the singletons of the buffers `W`, in order. -/
abbrev WritesAre (ops : List (HloOp τ sig (Elt F))) (W : List (Ref sig .tc)) : Prop :=
  ops.map HloOp.writes = W.map fun r => {Proc.devRef (τ := τ) .tc r}

/-- A list of stretches leaves a buffer that none of its operations writes alone. -/
theorem afterL_keep {items : List (List (HloOp τ sig (Elt F)))} {W : List (Ref sig .tc)} (hW : WritesAre items.flatten W)
    {r : Ref sig .tc} (hr : r ∉ W) (V : Valuation τ sig (Elt F)) :
    afterL items V (Proc.devRef .tc r) = V (Proc.devRef .tc r) := by
  rw [afterL_eq_after_flatten]
  exact after_of_writes_sub _ V (forall_writes_sub_of_map hW) hr

/-- The buffers that the operations before the first scan write. -/
abbrev preW : List (Ref sig .tc) :=
  [
   main_v0, main_v1, main_v2, main_cst, main_v3, main_v4, main_v5, main_v6, main_v7, main_v8, main_v9, main_v10, main_v11,
   main_v12, main_v13, main_v14, main_v15, main_v16, main_v17, main_v18, main_v19, main_v20, main_v21, main_v22, main_v23,
   main_v24_1, main_v24_0, main_v25, main_v26, main_v27, main_v28, main_v29, main_v30, main_v31, main_v32, main_v33,
   main_v34, main_v35, main_v36, main_v37, main_cst_0, main_v38, main_cst_1, main_v39, main_cst_2, main_v40, main_cst_3,
   main_v41, main_c, main_v42_0, main_v42_1, main_v42_2, main_v42_3, main_v42_4, main_v42_5, main_v42_6, main_v42_7,
   main_v42_8]
theorem preW_eq : WritesAre (preI (F := F)).flatten preW := rfl

/-- The buffers that the operations of one trip of the first scan write. -/
abbrev upW : List (Ref sig .tc) :=
  [
   main_while0b_call1_c, main_while0b_call1_c_0, main_while0b_call1_c_1, main_while0b_call1_c_2, main_while0b_call1_v0,
   main_while0b_v115, main_while0b_call2_c, main_while0b_call2_c_0, main_while0b_call2_c_1, main_while0b_call2_c_2,
   main_while0b_call2_v0, main_while0b_v116, main_while0b_call3_c, main_while0b_call3_c_0, main_while0b_call3_c_1,
   main_while0b_call3_c_2, main_while0b_call3_v0, main_while0b_v117, main_while0b_call4_c, main_while0b_call4_c_0,
   main_while0b_call4_c_1, main_while0b_call4_v0, main_while0b_v118, main_while0b_v119, main_while0b_v120,
   main_while0b_v121, main_while0b_v122, main_while0b_v123, main_while0b_v124, main_while0b_v125, main_while0b_call5_v0,
   main_while0b_call5_c, main_while0b_call5_c_0, main_while0b_call5_c_1, main_while0b_call5_c_2, main_while0b_v126,
   main_while0b_call6_v0, main_while0b_call6_c, main_while0b_call6_c_0, main_while0b_call6_c_1, main_while0b_call6_c_2,
   main_while0b_v127, main_while0b_call7_v0, main_while0b_call7_c, main_while0b_call7_c_0, main_while0b_call7_c_1,
   main_while0b_call7_c_2, main_while0b_v128, main_while0b_c_22, main_while0b_v129, main_v42_4, main_v42_5, main_v42_6,
   main_v42_7, main_v42_8]
theorem upW_eq : WritesAre (upI (F := F)).flatten upW := rfl

/-- The buffers that the operations between the scans write. -/
abbrev midW : List (Ref sig .tc) :=
  [
   main_v43, main_v44, main_v45, main_cst_4, main_v46, main_v47, main_v48, main_cst_5, main_v49, main_cst_6, main_v50,
   main_cst_7, main_v51, main_cst_8, main_v52, main_cst_9, main_v53, main_c_10, main_v54_0, main_v54_1, main_v54_2,
   main_v54_3, main_v54_4, main_v54_5, main_v54_6, main_v54_7, main_v54_8, main_v54_9, main_v54_10, main_v54_11]
theorem midW_eq : WritesAre (midI (F := F)).flatten midW := rfl

/-- The buffers that the operations of one trip of the second scan write. -/
abbrev downW : List (Ref sig .tc) :=
  [
   main_while1b_c_25, main_while1b_v115, main_while1b_c_26, main_while1b_v116, main_while1b_call8_c, main_while1b_call8_c_0,
   main_while1b_call8_c_1, main_while1b_call8_c_2, main_while1b_call8_v0, main_while1b_v117, main_while1b_call9_c,
   main_while1b_call9_c_0, main_while1b_call9_c_1, main_while1b_call9_c_2, main_while1b_call9_v0, main_while1b_v118,
   main_while1b_call10_c, main_while1b_call10_c_0, main_while1b_call10_c_1, main_while1b_call10_c_2, main_while1b_call10_v0,
   main_while1b_v119, main_while1b_call11_c, main_while1b_call11_c_0, main_while1b_call11_c_1, main_while1b_call11_c_2,
   main_while1b_call11_v0, main_while1b_v120, main_while1b_call12_c, main_while1b_call12_c_0, main_while1b_call12_c_1,
   main_while1b_call12_c_2, main_while1b_call12_v0, main_while1b_v121, main_while1b_call13_c, main_while1b_call13_c_0,
   main_while1b_call13_c_1, main_while1b_call13_c_2, main_while1b_call13_v0, main_while1b_v122, main_while1b_v123,
   main_while1b_v124, main_while1b_v125, main_while1b_v126, main_while1b_v127, main_while1b_cst_27, main_while1b_v128,
   main_while1b_v129, main_while1b_v130, main_while1b_v131, main_while1b_cst_28, main_while1b_v132, main_while1b_v133,
   main_while1b_v134, main_while1b_v135, main_while1b_v136, main_while1b_v137, main_while1b_v138, main_while1b_v139,
   main_while1b_call14_v0, main_while1b_call14_c, main_while1b_call14_c_0, main_while1b_call14_c_1, main_while1b_call14_c_2,
   main_while1b_v140, main_while1b_call15_v0, main_while1b_call15_c, main_while1b_call15_c_0, main_while1b_call15_c_1,
   main_while1b_call15_c_2, main_while1b_v141, main_while1b_call16_v0, main_while1b_call16_c, main_while1b_call16_c_0,
   main_while1b_call16_c_1, main_while1b_call16_c_2, main_while1b_v142, main_while1b_call17_v0, main_while1b_call17_c,
   main_while1b_call17_c_0, main_while1b_call17_c_1, main_while1b_v143, main_while1b_c_29, main_while1b_v144, main_v54_6,
   main_v54_7, main_v54_8, main_v54_9, main_v54_10, main_v54_11]
theorem downW_eq : WritesAre (downI (F := F)).flatten downW := rfl

/-- The buffers that the operations after the second scan write. -/
abbrev postW : List (Ref sig .tc) :=
  [
   main_v55, main_v56, main_v57, main_v58, main_v59, main_v60, main_v61, main_v62, main_v63, main_cst_11, main_v64,
   main_v65, main_v66, main_v67, main_v68, main_v69, main_v70, main_v71, main_v72, main_v73, main_v74, main_call18_cst,
   main_call18_v0, main_v75_1, main_v75_0, main_v76, main_v77, main_v78, main_v79, main_v80, main_v81, main_v82, main_v83,
   main_v84, main_v85, main_v86, main_v87, main_v88, main_v89, main_v90, main_v91, main_v92, main_v93, main_v94, main_v95,
   main_v96, main_v97, main_v98, main_v99, main_v100, main_v101, main_v102, main_v103, main_cst_12, main_v104, main_v105,
   main_v106, main_v107, main_v108, main_cst_13, main_v109, main_v110, main_v111, main_v112, main_v113, main_v114]
theorem postW_eq : WritesAre (postI (F := F)).flatten postW := rfl

theorem upC_eq : WritesAre (upC (F := F)) [main_while0c_c_22, main_while0c_v115] := rfl
theorem downC_eq : WritesAre (downC (F := F)) [main_while1c_c_25, main_while1c_v115] := rfl

variable (m : (ℓ : Loc nD τ sig) → Buf (Elt F) ℓ) (ρ : Dev nD → PrngReg) (c : Dev nD)

/-- A buffer that no trip of the first scan writes is as the scan found it, before each test. -/
theorem upAt_keep {r : Ref sig .tc} (h : r ∉ upW) (hc : r ∉ [main_while0c_c_22, main_while0c_v115]) :
    ∀ k, upAt m k c (Proc.devRef .tc r) = V₁ m c (Proc.devRef .tc r)
  | 0 => rfl
  | k + 1 => (afterL_keep upW_eq h _).trans
      ((after_of_writes_sub _ _ (forall_writes_sub_of_map upC_eq) hc).trans (upAt_keep h hc k))

/-- A buffer that no trip of the second scan writes is as the scan found it, before each test. -/
theorem downAt_keep {r : Ref sig .tc} (h : r ∉ downW) (hc : r ∉ [main_while1c_c_25, main_while1c_v115]) :
    ∀ k, downAt m k c (Proc.devRef .tc r) = V₃ m c (Proc.devRef .tc r)
  | 0 => rfl
  | k + 1 => (afterL_keep downW_eq h _).trans
      ((after_of_writes_sub _ _ (forall_writes_sub_of_map downC_eq) hc).trans (downAt_keep h hc k))

theorem upC_keep {r : Ref sig .tc} (hc : r ∉ [main_while0c_c_22, main_while0c_v115]) (V : Valuation τ sig (Elt F)) :
    after upC V (Proc.devRef .tc r) = V (Proc.devRef .tc r) :=
  after_of_writes_sub _ _ (forall_writes_sub_of_map upC_eq) hc

theorem downC_keep {r : Ref sig .tc} (hc : r ∉ [main_while1c_c_25, main_while1c_v115]) (V : Valuation τ sig (Elt F)) :
    after downC V (Proc.devRef .tc r) = V (Proc.devRef .tc r) :=
  after_of_writes_sub _ _ (forall_writes_sub_of_map downC_eq) hc

/-- What the stretches before the first scan leave is still there when it ends, if no trip writes it. -/
theorem V₂_keep {r : Ref sig .tc} (h : r ∉ upW) (hc : r ∉ [main_while0c_c_22, main_while0c_v115]) :
    V₂ m c (Proc.devRef .tc r) = V₁ m c (Proc.devRef .tc r) :=
  (upC_keep hc _).trans (upAt_keep m c h hc 64)

theorem V₃_keep {r : Ref sig .tc} (h : r ∉ midW) : V₃ m c (Proc.devRef .tc r) = V₂ m c (Proc.devRef .tc r) :=
  afterL_keep midW_eq h _

theorem V₄_keep {r : Ref sig .tc} (h : r ∉ downW) (hc : r ∉ [main_while1c_c_25, main_while1c_v115]) :
    V₄ m c (Proc.devRef .tc r) = V₃ m c (Proc.devRef .tc r) :=
  (downC_keep hc _).trans (downAt_keep m c h hc 64)

theorem V₅_keep {r : Ref sig .tc} (h : r ∉ postW) : V₅ m c (Proc.devRef .tc r) = V₄ m c (Proc.devRef .tc r) :=
  afterL_keep postW_eq h _

/-- A buffer that nothing writes ends as launched. -/
theorem V₅_launch {r : Ref sig .tc} (h : r ∉ preW ++ upW ++ midW ++ downW ++ postW)
    (hu : r ∉ [main_while0c_c_22, main_while0c_v115]) (hd : r ∉ [main_while1c_c_25, main_while1c_v115]) :
    V₅ m c (Proc.devRef .tc r) = m ((c.tc : Thread nD τ).loc r) := by
  simp only [List.mem_append, not_or] at h
  obtain ⟨⟨⟨⟨h1, h2⟩, h3⟩, h4⟩, h5⟩ := h
  exact (V₅_keep m c h5).trans ((V₄_keep m c h4 hd).trans ((V₃_keep m c h3).trans ((V₂_keep m c h2 hu).trans
    (afterL_keep preW_eq h1 _))))

/-- The run: every execution terminates with the results at the last fold, the arguments as launched and no semaphore raised. -/
theorem run : θ_run (defs (F := F)) (onTc (τ := τ) (main (F := F))) ⟨m, fun _ => 0, ρ⟩ (fun r =>
    (∀ (c : Dev nD) (b : Ref sig .tc), (Proc.devRef .tc b : DevRef τ sig).isScoped = false →
      r.2.mem ((c.tc : Thread nD τ).loc b) = V₅ m c (Proc.devRef .tc b))
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨h, fun c =>
    ⟨(h c main_arg0 rfl).trans (V₅_launch m c (by decide +kernel) (by decide +kernel) (by decide +kernel)),
     (h c main_arg1 rfl).trans (V₅_launch m c (by decide +kernel) (by decide +kernel) (by decide +kernel)),
     (h c main_arg2 rfl).trans (V₅_launch m c (by decide +kernel) (by decide +kernel) (by decide +kernel)),
     (h c main_arg3 rfl).trans (V₅_launch m c (by decide +kernel) (by decide +kernel) (by decide +kernel))⟩,
    sem_eq_zero_of_no_sems rfl _⟩) (run_fold m ρ)

end Cert.ReferenceIdeal.Own

end
-- ==== Proof.Frames.lean ====
/-
  The three frames. The printed program and its idealization are one text, so the run over any float type gives both.
-/
module

public import proofs.«01_k».proof.Defs
public import proofs.«01_k».proof.Proof.Gen.Kernel
public import proofs.«01_k».proof.Proof.Kernel.Run
public import proofs.«01_k».proof.Proof.Reference.Writes
public import Idealize.ShloMosaic.Lib.Tactic

@[expose] public section

set_option maxRecDepth 16384

noncomputable section

namespace Cert.Proof

open Idealize.ShloMosaic Idealize.SL.Sem

/-- The frame's statement of the idealization's text, at the bit-exact floats. -/
def bitsFrame : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0)

theorem bitsFrame_eq : quiescent_Kernel (hKernel := Kernel.Gen.facts) = bitsFrame := by sl_kernel_rfl

theorem kernel_frame : quiescent_Kernel (hKernel := Kernel.Gen.facts) := by
  rw [bitsFrame_eq]; exact fun m g _ => KernelIdeal.Own.frame m g

theorem ideal_frame : quiescent_KernelIdeal (hKernelIdeal := KernelIdeal.Gen.facts) := fun m g _ => KernelIdeal.Own.frame m g

theorem reference_frame : quiescent_ReferenceIdeal (hReferenceIdeal := ReferenceIdeal.Gen.facts) := fun m g _ =>
  (θ_run _ _ _).mono (fun _ h => h.2) (ReferenceIdeal.Own.run m g)

end Cert.Proof

end
-- ==== Proof.Chunk.lean ====
/-
  The mathematics of one chunk of one head over the extended reals: the chunked linear attention with its state, the
  gradients as the kernel groups them, and, for the gradients of the queries and of the running decay, the grouping that
  differentiating the forward formula gives. The two groupings agree where the chunk's entries are real.
-/
module

public import Idealize.ShloMosaic.PureOps.Ideal
public import Idealize.ShloMosaic.Lib.Pointwise

@[expose] public section

noncomputable section

namespace Cert.Chunk

open Idealize.ShloMosaic

/-! ## Real entries -/

/-- An extended real that is a real. -/
def IsReal (x : EReal) : Prop := ∃ r : ℝ, x = r

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.neg {x : EReal} (hx : IsReal x) : IsReal (-x) := by
  obtain ⟨a, rfl⟩ := hx; exact ⟨-a, by push_cast; rfl⟩
theorem IsReal.sub {x y : EReal} (hx : IsReal x) (hy : IsReal y) : IsReal (x - y) := by
  rw [sub_eq_add_neg]; exact hx.add hy.neg
theorem IsReal.exp {x : EReal} (hx : IsReal x) : IsReal (Ideal.exp x) := by
  obtain ⟨a, rfl⟩ := hx; exact ⟨Real.exp a, rfl⟩
theorem IsReal.sum {ι : Type} (s : Finset ι) (f : ι → EReal) (hf : ∀ i, IsReal (f i)) : IsReal (∑ i ∈ s, f i) := by
  classical
  induction s using Finset.induction_on with
  | empty => exact .zero
  | insert i s hi ih => rw [Finset.sum_insert hi]; exact (hf i).add ih
theorem IsReal.ite {p : Prop} [Decidable p] {x y : EReal} (hx : IsReal x) (hy : IsReal y) : IsReal (if p then x else y) := by
  split
  · exact hx
  · exact hy

/-! ## A chunk -/

/-- A head's state: values by keys. -/
abbrev State : Type := Fin 256 → Fin 128 → EReal

end Cert.Chunk

/-- One chunk of one head: its scaled queries, keys, decay sums, values and cotangent. -/
structure Cert.Chunk where
  q : Fin 64 → Fin 128 → EReal
  k : Fin 64 → Fin 128 → EReal
  c : Fin 64 → Fin 128 → EReal
  v : Fin 64 → Fin 256 → EReal
  g : Fin 64 → Fin 256 → EReal

namespace Cert.Chunk

open Idealize.ShloMosaic

variable (x : Chunk)

def ep (t : Fin 64) (k : Fin 128) : EReal := Ideal.exp (x.c t k)
def en (t : Fin 64) (k : Fin 128) : EReal := Ideal.exp (-x.c t k)
def ed (t : Fin 64) (k : Fin 128) : EReal := Ideal.exp (x.c 63 k - x.c t k)
def dec (k : Fin 128) : EReal := Ideal.exp (x.c 63 k)

/-- Growing queries, shrinking keys; shrinking queries, growing keys; keys decayed to the chunk's end. -/
def qa (t : Fin 64) (k : Fin 128) : EReal := x.q t k * x.ep t k
def kb (t : Fin 64) (k : Fin 128) : EReal := x.k t k * x.en t k
def qc (t : Fin 64) (k : Fin 128) : EReal := x.q t k * x.en t k
def kd (t : Fin 64) (k : Fin 128) : EReal := x.k t k * x.ep t k
def ke (t : Fin 64) (k : Fin 128) : EReal := x.k t k * x.ed t k

/-- The scores within the chunk. -/
def sc (t s : Fin 64) : EReal := if s ≤ t then ∑ k, x.qa t k * x.kb s k else ∑ k, x.qc t k * x.kd s k

/-- The output. -/
def out (S : State) (t : Fin 64) (e : Fin 256) : EReal := (∑ s, x.sc t s * x.v s e) + ∑ k, x.qa t k * S e k

/-- The state after the chunk. -/
def next (S : State) : State := fun e k => S e k * x.dec k + ∑ s, x.v s e * x.ke s k

/-- The scores' gradient, below the diagonal and above it. -/
def gs (t s : Fin 64) : EReal := ∑ e, x.g t e * x.v s e
def lo (t s : Fin 64) : EReal := if s ≤ t then x.gs t s else 0
def hi (t s : Fin 64) : EReal := if s ≤ t then 0 else x.gs t s

/-- The values' gradient. -/
def dv (D : State) (s : Fin 64) (e : Fin 256) : EReal := (∑ t, x.sc t s * x.g t e) + ∑ k, x.ke s k * D e k

def da (t : Fin 64) (k : Fin 128) : EReal := ∑ s, x.lo t s * x.kb s k
def ds (S : State) (t : Fin 64) (k : Fin 128) : EReal := ∑ e, x.g t e * S e k
def db (s : Fin 64) (k : Fin 128) : EReal := ∑ t, x.lo t s * x.qa t k
def dc (t : Fin 64) (k : Fin 128) : EReal := ∑ s, x.hi t s * x.kd s k
def dd (s : Fin 64) (k : Fin 128) : EReal := ∑ t, x.hi t s * x.qc t k
def de (D : State) (s : Fin 64) (k : Fin 128) : EReal := ∑ e, x.v s e * D e k

/-- The gradient of the chunk's whole decay. -/
def dw (S D : State) (k : Fin 128) : EReal := ∑ e, D e k * S e k

/-- The state's gradient before the chunk. -/
def prev (D : State) : State := fun e k => D e k * x.dec k + ∑ t, x.g t e * x.qa t k

def mm (D : State) (t : Fin 64) (k : Fin 128) : EReal := x.de D t k * x.k t k * x.ed t k

/-- The queries' gradient before the scale, as the kernel groups it and as differentiation does. -/
def dq (S : State) (t : Fin 64) (k : Fin 128) : EReal := (x.da t k + x.ds S t k) * x.ep t k + x.dc t k * x.en t k
def dq' (S : State) (t : Fin 64) (k : Fin 128) : EReal := (x.ds S t k * x.ep t k + x.dc t k * x.en t k) + x.da t k * x.ep t k

/-- The keys' gradient. -/
def dk (D : State) (s : Fin 64) (k : Fin 128) : EReal := x.db s k * x.en s k + x.dd s k * x.ep s k + x.de D s k * x.ed s k

/-- What a chunk's last row adds to the decay's gradient. -/
def dl (S D : State) (k : Fin 128) : EReal := (∑ t, x.mm D t k) + dw S D k * x.dec k

/-- The decay's gradient, as the kernel groups it and as differentiation does. -/
def dcum (S D : State) (t : Fin 64) (k : Fin 128) : EReal :=
  (((x.da t k + x.ds S t k) * x.q t k + x.dd t k * x.k t k) * x.ep t k - (x.db t k * x.k t k + x.dc t k * x.q t k) * x.en t k - x.mm D t k)
    + if t = 63 then x.dl S D k else 0
def dcum' (S D : State) (t : Fin 64) (k : Fin 128) : EReal :=
  ((-(x.mm D t k) + -((x.q t k * x.dc t k + x.k t k * x.db t k) * x.en t k))
      + ((x.q t k * x.ds S t k + x.k t k * x.dd t k) + x.q t k * x.da t k) * x.ep t k)
    + if t = 63 then x.dl S D k else 0

/-! ## Real chunks -/

/-- Every entry is real. -/
structure AllReal : Prop where
  q : ∀ t k, IsReal (x.q t k)
  k : ∀ t k, IsReal (x.k t k)
  c : ∀ t k, IsReal (x.c t k)
  v : ∀ t e, IsReal (x.v t e)
  g : ∀ t e, IsReal (x.g t e)

/-- A state of reals. -/
def RealState (S : State) : Prop := ∀ e k, IsReal (S e k)

variable {x}

section
variable (h : x.AllReal)
include h

theorem AllReal.ep (t k) : IsReal (x.ep t k) := (h.c t k).exp
theorem AllReal.en (t k) : IsReal (x.en t k) := (h.c t k).neg.exp
theorem AllReal.ed (t k) : IsReal (x.ed t k) := ((h.c 63 k).sub (h.c t k)).exp
theorem AllReal.dec (k) : IsReal (x.dec k) := (h.c 63 k).exp
theorem AllReal.qa (t k) : IsReal (x.qa t k) := (h.q t k).mul (h.ep t k)
theorem AllReal.kb (t k) : IsReal (x.kb t k) := (h.k t k).mul (h.en t k)
theorem AllReal.qc (t k) : IsReal (x.qc t k) := (h.q t k).mul (h.en t k)
theorem AllReal.kd (t k) : IsReal (x.kd t k) := (h.k t k).mul (h.ep t k)
theorem AllReal.ke (t k) : IsReal (x.ke t k) := (h.k t k).mul (h.ed t k)
theorem AllReal.gs (t s) : IsReal (x.gs t s) := .sum _ _ fun e => (h.g t e).mul (h.v s e)
theorem AllReal.lo (t s) : IsReal (x.lo t s) := .ite (h.gs t s) .zero
theorem AllReal.hi (t s) : IsReal (x.hi t s) := .ite .zero (h.gs t s)
theorem AllReal.da (t k) : IsReal (x.da t k) := .sum _ _ fun s => (h.lo t s).mul (h.kb s k)
theorem AllReal.db (s k) : IsReal (x.db s k) := .sum _ _ fun t => (h.lo t s).mul (h.qa t k)
theorem AllReal.dc (t k) : IsReal (x.dc t k) := .sum _ _ fun s => (h.hi t s).mul (h.kd s k)
theorem AllReal.dd (s k) : IsReal (x.dd s k) := .sum _ _ fun t => (h.hi t s).mul (h.qc t k)

/-- A real chunk takes a real state to a real state, forwards and backwards. -/
theorem AllReal.next {S : State} (hS : RealState S) : RealState (x.next S) := fun e k =>
  ((hS e k).mul (h.dec k)).add (.sum _ _ fun s => (h.v s e).mul (h.ke s k))
theorem AllReal.prev {D : State} (hD : RealState D) : RealState (x.prev D) := fun e k =>
  ((hD e k).mul (h.dec k)).add (.sum _ _ fun t => (h.g t e).mul (h.qa t k))

theorem AllReal.ds {S : State} (hS : RealState S) (t k) : IsReal (x.ds S t k) := .sum _ _ fun e => (h.g t e).mul (hS e k)
theorem AllReal.de {D : State} (hD : RealState D) (t k) : IsReal (x.de D t k) := .sum _ _ fun e => (h.v t e).mul (hD e k)
theorem AllReal.mm {D : State} (hD : RealState D) (t k) : IsReal (x.mm D t k) := ((h.de hD t k).mul (h.k t k)).mul (h.ed t k)

/-- The two groupings of the queries' gradient agree. -/
theorem dq_eq {S : State} (hS : RealState S) (t : Fin 64) (k : Fin 128) : x.dq S t k = x.dq' S t k := by
  unfold dq dq'
  obtain ⟨a, ha⟩ := h.da t k
  obtain ⟨b, hb⟩ := h.ds hS t k
  obtain ⟨p, hp⟩ := h.ep t k
  obtain ⟨d, hd⟩ := h.dc t k
  obtain ⟨n, hn⟩ := h.en t k
  rw [ha, hb, hp, hd, hn]
  norm_cast
  ring

/-- The two groupings of the decay's gradient agree. -/
theorem dcum_eq {S D : State} (hS : RealState S) (hD : RealState D) (t : Fin 64) (k : Fin 128) : x.dcum S D t k = x.dcum' S D t k := by
  unfold dcum dcum'
  refine congrArg (· + _) ?_
  obtain ⟨a, ha⟩ := h.da t k
  obtain ⟨b, hb⟩ := h.ds hS t k
  obtain ⟨p, hp⟩ := h.ep t k
  obtain ⟨d, hd⟩ := h.dc t k
  obtain ⟨n, hn⟩ := h.en t k
  obtain ⟨q, hq⟩ := h.q t k
  obtain ⟨l, hl⟩ := h.k t k
  obtain ⟨u, hu⟩ := h.dd t k
  obtain ⟨w, hw⟩ := h.db t k
  obtain ⟨m, hm⟩ := h.mm hD t k
  rw [ha, hb, hp, hd, hn, hq, hl, hu, hw, hm]
  norm_cast
  ring

end

/-! ## A sequence of chunks -/

/-- The state that chunk `n` finds. -/
def stateUp (x : ℕ → Chunk) : ℕ → State
  | 0 => fun _ _ => 0
  | n + 1 => (x n).next (stateUp x n)

/-- The state's gradient after `n` chunks, taken from the last. -/
def stateDown (x : ℕ → Chunk) : ℕ → State
  | 0 => fun _ _ => 0
  | n + 1 => (x (63 - n)).prev (stateDown x n)

theorem stateUp_real (x : ℕ → Chunk) (h : ∀ n, (x n).AllReal) : ∀ n, RealState (stateUp x n)
  | 0 => fun _ _ => .zero
  | n + 1 => (h n).next (stateUp_real x h n)
theorem stateDown_real (x : ℕ → Chunk) (h : ∀ n, (x n).AllReal) : ∀ n, RealState (stateDown x n)
  | 0 => fun _ _ => .zero
  | n + 1 => (h (63 - n)).prev (stateDown_real x h n)

/-! ## The chunks of whole arrays -/

/-- A matrix's entry at natural coordinates, zero outside. -/
def at2 {r c : ℕ} (y : (⟨2, ![r, c]⟩ : Shape).Idx → EReal) (i j : ℕ) : EReal :=
  if h : i < r ∧ j < c then y (ix2 ⟨i, h.1⟩ ⟨j, h.2⟩) else 0

theorem at2_eq {r c : ℕ} (y : (⟨2, ![r, c]⟩ : Shape).Idx → EReal) (i : Fin r) (j : Fin c) : at2 y i.val j.val = y (ix2 i j) :=
  dif_pos ⟨i.isLt, j.isLt⟩

theorem at2_of {r c : ℕ} (y : (⟨2, ![r, c]⟩ : Shape).Idx → EReal) {i j : ℕ} (hi : i < r) (hj : j < c) : at2 y i j = y (ix2 ⟨i, hi⟩ ⟨j, hj⟩) :=
  dif_pos ⟨hi, hj⟩

/-- Chunk `n` of head `h` of the arguments: queries and keys side by side, values, decay sums, cotangent. -/
def ofArrays (σ : EReal) (qk v : (⟨2, ![4096, 1024]⟩ : Shape).Idx → EReal) (cum : (⟨2, ![4096, 512]⟩ : Shape).Idx → EReal)
    (g : (⟨2, ![4096, 1024]⟩ : Shape).Idx → EReal) (h : Fin 4) (n : ℕ) : Chunk where
  q t k := at2 qk (64 * n + t.val) (128 * h.val + k.val) * σ
  k t k := at2 qk (64 * n + t.val) (512 + (128 * h.val + k.val))
  c t k := at2 cum (64 * n + t.val) (128 * h.val + k.val)
  v t e := at2 v (64 * n + t.val) (256 * h.val + e.val)
  g t e := at2 g (64 * n + t.val) (256 * h.val + e.val)

theorem at2_real {r c : ℕ} {y : (⟨2, ![r, c]⟩ : Shape).Idx → EReal} (h : ∀ i, IsReal (y i)) (i j : ℕ) : IsReal (at2 y i j) := by
  unfold at2; split
  · exact h _
  · exact .zero

theorem ofArrays_real {σ : EReal} (hσ : IsReal σ) {qk v : (⟨2, ![4096, 1024]⟩ : Shape).Idx → EReal} {cum : (⟨2, ![4096, 512]⟩ : Shape).Idx → EReal}
    {g : (⟨2, ![4096, 1024]⟩ : Shape).Idx → EReal} (h0 : ∀ i, IsReal (qk i)) (h1 : ∀ i, IsReal (v i)) (h2 : ∀ i, IsReal (cum i)) (h3 : ∀ i, IsReal (g i))
    (h : Fin 4) (n : ℕ) : (ofArrays σ qk v cum g h n).AllReal where
  q t k := (at2_real h0 _ _).mul hσ
  k t k := at2_real h0 _ _
  c t k := at2_real h2 _ _
  v t e := at2_real h1 _ _
  g t e := at2_real h3 _ _

end Cert.Chunk

end
-- ==== Proof.Finite.lean ====
/-
  What the precondition says: every entry of every argument is a real.
-/
module

public import proofs.«01_k».proof.Pre_finite
public import proofs.«01_k».proof.Proof.Chunk
public import Idealize.ShloMosaic.Lib.ReduceAll
public import Idealize.ShloMosaic.Lib.Pointwise

@[expose] public section

noncomputable section

namespace Cert.Pre_finite

open Idealize.ShloMosaic
open Cert.Chunk (IsReal)

theorem facts : Facts where
  bcast_S_S4096x1024 := by decide
  reducesTo_S4096x1024_S_d0_1 := by decide
  h_S_ := by decide
  bcast_S_S4096x512 := by decide
  reducesTo_S4096x512_S_d0_1 := by decide

theorem top_word : Ideal.ofBits .f32 0x7F800000#32 = ⊤ := by simp [Ideal.ofBits, Ideal.ieee]

/-- An entry whose absolute value is below infinity is a real. -/
theorem isReal_of_lt (x : EReal) (h : Ideal.cmp .olt (max x (-x)) (Ideal.ofBits .f32 0x7F800000#32) = 1#1) : IsReal x := by
  rw [top_word] at h
  have hx : max x (-x) < ⊤ := by
    by_contra hc
    simp [Ideal.cmp, hc] at h
  induction x with
  | bot => simp at hx
  | top => simp at hx
  | coe r => exact ⟨r, rfl⟩

variable [Facts]

instance : Subsingleton S_.Idx := ⟨fun _ _ => funext fun a => a.elim0⟩

theorem all_real {a0 a1 : S4096x1024.Idx → EReal} {a2 : S4096x512.Idx → EReal} {a3 : S4096x1024.Idx → EReal}
    (h : fn (F := Ideal) a0 a1 a2 a3 = fun _ => 1#1) :
    (∀ i, IsReal (a0 i)) ∧ (∀ i, IsReal (a1 i)) ∧ (∀ i, IsReal (a2 i)) ∧ ∀ i, IsReal (a3 i) := by
  obtain ⟨h012, h3⟩ := IntOp.andi_eq_one.1 (congrFun h ix0)
  obtain ⟨h01, h2⟩ := IntOp.andi_eq_one.1 h012
  obtain ⟨h0, h1⟩ := IntOp.andi_eq_one.1 h01
  exact ⟨fun i => isReal_of_lt _ (Host.reduce_andi_all _ _ _ _ _ h0 i), fun i => isReal_of_lt _ (Host.reduce_andi_all _ _ _ _ _ h1 i),
    fun i => isReal_of_lt _ (Host.reduce_andi_all _ _ _ _ _ h2 i), fun i => isReal_of_lt _ (Host.reduce_andi_all _ _ _ _ _ h3 i)⟩

end Cert.Pre_finite

end
-- ==== Proof.Kernel.Payloads.lean ====
/-
  A unit's values read at an index over the extended reals: the formulas of `Chunk.lean`.
-/
module

public import proofs.«01_k».proof.Proof.Chunk
public import proofs.«01_k».proof.Proof.Kernel.Units
public import Idealize.ShloMosaic.Lib.Pointwise
public import Idealize.ShloMosaic.Lib.KernelVsHost

@[expose] public section

set_option maxRecDepth 16384

noncomputable section

namespace Cert.KernelIdeal.Own

open Idealize.ShloMosaic Idealize.SL.Sem Cert.KernelIdeal Cert.KernelIdeal.Gen

/-- The head's scale. -/
abbrev scale : EReal := Ideal.ofBits .f32 0x3DB504F3#32

variable {x : Chunk} {q k cum : Vec Ideal S64x128 .f32} {v g : Vec Ideal S64x256 .bf16}

/-! ## What both calls take from a chunk -/

section
variable (hc : ∀ t l, cum (ix2 t l) = x.c t l)
include hc

theorem grow_at (t l) : grow cum (ix2 t l) = x.ep t l := by
  simp only [grow, pointwise, hc, Chunk.ep]

theorem shrink_at (t l) : shrink cum (ix2 t l) = x.en t l := by
  simp only [shrink, pointwise, hc, Chunk.en, zero_sub]

theorem lastRow_at (l) : lastRow cum (ix2 0 l) = x.c 63 l := by
  rw [← hc]; simp only [lastRow, pointwise, Matrix.cons_val_one, Matrix.cons_val_fin_one, zero_add, Fin.eta]

theorem whole_at (l) : whole cum (ix2 0 l) = x.dec l := by
  simp only [whole, pointwise, lastRow_at hc, Chunk.dec]

theorem toEnd_at (t l) : toEnd cum (ix2 t l) = x.ed t l := by
  simp only [toEnd, pointwise, hc, Chunk.ed, ↓reduceDIte, OfNat.ofNat_ne_one, Nat.reduceEqDiff, lastRow_at hc]

variable (hk : ∀ t l, k (ix2 t l) = x.k t l)
include hk

theorem kGrow_at (t l) : kGrow k cum (ix2 t l) = x.kd t l := by
  simp only [kGrow, rnd, pointwise, grow_at hc, hk, Chunk.kd]
theorem kShrink_at (t l) : kShrink k cum (ix2 t l) = x.kb t l := by
  simp only [kShrink, rnd, pointwise, shrink_at hc, hk, Chunk.kb]
theorem kEnd_at (t l) : kEnd k cum (ix2 t l) = x.ke t l := by
  simp only [kEnd, rnd, pointwise, toEnd_at hc, hk, Chunk.ke]
end

theorem scaled_at (hq : ∀ t l, q (ix2 t l) * scale = x.q t l) (t l) : scaled q (ix2 t l) = x.q t l := by
  rw [← hq]; simp only [scaled, pointwise]

theorem qGrow_at (hq : ∀ t l, q (ix2 t l) * scale = x.q t l) (hc : ∀ t l, cum (ix2 t l) = x.c t l) (t l) : qGrow q cum (ix2 t l) = x.qa t l := by
  simp only [qGrow, rnd, pointwise, grow_at hc, scaled_at hq, Chunk.qa]
theorem qShrink_at (hq : ∀ t l, q (ix2 t l) * scale = x.q t l) (hc : ∀ t l, cum (ix2 t l) = x.c t l) (t l) : qShrink q cum (ix2 t l) = x.qc t l := by
  simp only [qShrink, rnd, pointwise, shrink_at hc, scaled_at hq, Chunk.qc]

theorem mat_at (st : Vec Ideal S1x256x128 .f32) (e l) : mat st (ix2 e l) = st (ix3 0 e l) := by
  simp only [mat, pointwise]
theorem kept_at (st : Vec Ideal S1x1x256x128 .f32) (e l) : kept st (ix2 e l) = st (ix4 0 0 e l) := by
  simp only [kept, pointwise]
theorem same_at (w : Vec Ideal S64x256 .bf16) (t e) : same w (ix2 t e) = w (ix2 t e) := by
  simp only [same, pointwise]
theorem same64_at (w : Vec Ideal S64x64 .bf16) (t s) : same64 w (ix2 t s) = w (ix2 t s) := by
  simp only [same64, pointwise]

/-- The mask below the diagonal. -/
theorem lower_at (t s : Fin 64) : lower (ix2 t s) = if s ≤ t then 1#1 else 0#1 := by
  revert t s; decide +kernel

/-- The mask of the last row. -/
theorem isLast_at (t : Fin 64) (l : Fin 128) : isLast (ix2 t l) = if t = 63 then 1#1 else 0#1 := by
  revert t l; decide +kernel

/-! ## The forward unit -/

section
variable (hq : ∀ t l, q (ix2 t l) * scale = x.q t l) (hk : ∀ t l, k (ix2 t l) = x.k t l) (hc : ∀ t l, cum (ix2 t l) = x.c t l)

include hq hk hc in
theorem scoresOf_at (t s) : scoresOf q k cum (ix2 t s) = x.sc t s := by
  simp only [scoresOf, rnd, pointwise, lower_at, qGrow_at hq hc, qShrink_at hq hc, kGrow_at hc hk, kShrink_at hc hk, Chunk.sc, zero_add]
  split <;> rfl

include hq hk hc in
theorem outOf_at (hv : ∀ t e, v (ix2 t e) = x.v t e) {st : Vec Ideal S1x256x128 .f32} {S : Chunk.State} (hs : ∀ e l, st (ix3 0 e l) = S e l) (t e) :
    outOf q k cum v st (ix2 t e) = x.out S t e := by
  simp only [outOf, rnd, pointwise, scoresOf_at hq hk hc, qGrow_at hq hc, mat_at, same_at, hv, hs, Chunk.out, zero_add]

include hk hc in
theorem stateOf_at (hv : ∀ t e, v (ix2 t e) = x.v t e) {st : Vec Ideal S1x256x128 .f32} {S : Chunk.State} (hs : ∀ e l, st (ix3 0 e l) = S e l) (e l) :
    stateOf k cum v st (ix3 0 e l) = x.next S e l := by
  simp only [stateOf, rnd, pointwise, kEnd_at hc hk, whole_at hc, mat_at, same_at, hv, hs, Chunk.next, zero_add, ↓reduceDIte, OfNat.ofNat_ne_one, Nat.reduceEqDiff]

theorem keptOf_at (st : Vec Ideal S1x256x128 .f32) (e l) : keptOf st (ix4 0 0 e l) = st (ix3 0 e l) := by
  simp only [keptOf, pointwise, mat_at]

theorem start_at (h e l) : start (F := Ideal) (ix3 h e l) = 0 := by
  simp only [start, pointwise]
end

/-! ## The backward unit -/

section
variable (hq : ∀ t l, q (ix2 t l) * scale = x.q t l) (hk : ∀ t l, k (ix2 t l) = x.k t l) (hc : ∀ t l, cum (ix2 t l) = x.c t l)
  (hv : ∀ t e, v (ix2 t e) = x.v t e) (hg : ∀ t e, g (ix2 t e) = x.g t e)
  {st : Vec Ideal S1x1x256x128 .f32} {S : Chunk.State} (hs : ∀ e l, st (ix4 0 0 e l) = S e l)
  {d : Vec Ideal S1x256x128 .f32} {D : Chunk.State} (hd : ∀ e l, d (ix3 0 e l) = D e l)

include hv hg in
theorem gScores_at (t s) : gScores v g (ix2 t s) = x.gs t s := by
  simp only [gScores, pointwise, same_at, hv, hg, Chunk.gs, zero_add]

include hv hg in
theorem gLow_at (t s) : gLow v g (ix2 t s) = x.lo t s := by
  simp only [gLow, rnd, zero64, pointwise, lower_at, gScores_at hv hg, Chunk.lo]
  split <;> rfl

include hv hg in
theorem gHigh_at (t s) : gHigh v g (ix2 t s) = x.hi t s := by
  simp only [gHigh, rnd, zero64, pointwise, lower_at, gScores_at hv hg, Chunk.hi]
  split <;> rfl

include hk hc hg hd in
theorem gValues_at {w : Vec Ideal S64x64 .bf16} (hw : ∀ t s, w (ix2 t s) = x.sc t s) (s e) : gValues k cum g w d (ix2 s e) = x.dv D s e := by
  simp only [gValues, rnd, pointwise, same_at, same64_at, hw, hg, kEnd_at hc hk, mat_at, hd, Chunk.dv, zero_add]

include hk hc hv hg hs in
theorem gA_at (t l) : gA k cum v g st (ix2 t l) = x.da t l + x.ds S t l := by
  simp only [gA, rnd, pointwise, gLow_at hv hg, kShrink_at hc hk, same_at, kept_at, hg, hs, Chunk.da, Chunk.ds, zero_add]

include hq hc hv hg in
theorem gB_at (t l) : gB q cum v g (ix2 t l) = x.db t l := by
  simp only [gB, pointwise, gLow_at hv hg, qGrow_at hq hc, Chunk.db, zero_add]

include hk hc hv hg in
theorem gC_at (t l) : gC k cum v g (ix2 t l) = x.dc t l := by
  simp only [gC, pointwise, gHigh_at hv hg, kGrow_at hc hk, Chunk.dc, zero_add]

include hq hc hv hg in
theorem gD_at (t l) : gD q cum v g (ix2 t l) = x.dd t l := by
  simp only [gD, pointwise, gHigh_at hv hg, qShrink_at hq hc, Chunk.dd, zero_add]

include hv hd in
theorem gE_at (t l) : gE v d (ix2 t l) = x.de D t l := by
  simp only [gE, rnd, pointwise, same_at, mat_at, hv, hd, Chunk.de, zero_add]

include hs hd in
theorem gWhole_at (l) : gWhole st d (ix2 0 l) = Chunk.dw S D l := by
  simp only [gWhole, pointwise, mat_at, kept_at, hs, hd, Chunk.dw, zero_add]

include hq hc hg hd in
theorem gState_at (e l) : gState q cum g d (ix3 0 e l) = x.prev D e l := by
  simp only [gState, pointwise, same_at, mat_at, hd, hg, qGrow_at hq hc, whole_at hc, Chunk.prev, zero_add, ↓reduceDIte, OfNat.ofNat_ne_one, Nat.reduceEqDiff]

include hk hc hv hd in
theorem gEnd_at (t l) : gEnd k cum v d (ix2 t l) = x.mm D t l := by
  simp only [gEnd, pointwise, gE_at hv hd, hk, toEnd_at hc, Chunk.mm]

include hk hc hv hg hs in
theorem gQueries_at (t l) : gQueries k cum v g st (ix2 t l) = x.dq S t l * scale := by
  simp only [gQueries, rnd, pointwise, gA_at hk hc hv hg hs, gC_at hk hc hv hg, grow_at hc, shrink_at hc, Chunk.dq]

include hq hc hv hg hd in
theorem gKeys_at (t l) : gKeys q cum v g d (ix2 t l) = x.dk D t l := by
  simp only [gKeys, rnd, pointwise, gB_at hq hc hv hg, gD_at hq hc hv hg, gE_at hv hd, grow_at hc, shrink_at hc, toEnd_at hc, Chunk.dk]

include hk hc hv hs hd in
theorem gLast_at (l) : gLast k cum v st d (ix2 0 l) = x.dl S D l := by
  simp only [gLast, pointwise, gEnd_at hk hc hv hd, gWhole_at hs hd, whole_at hc, Chunk.dl, zero_add]

include hq hk hc hv hg hs hd in
theorem gCum_at (t l) : gCum q k cum v g st d (ix2 t l) = x.dcum S D t l := by
  simp only [gCum, gCumIn, pointwise, isLast_at, gA_at hk hc hv hg hs, gB_at hq hc hv hg, gC_at hk hc hv hg, gD_at hq hc hv hg,
    gEnd_at hk hc hv hd, scaled_at hq, hk, grow_at hc, shrink_at hc, gLast_at hk hc hv hs hd, Chunk.dcum, ↓reduceDIte, OfNat.ofNat_ne_one, Nat.reduceEqDiff]
  split <;> rfl

end

end Cert.KernelIdeal.Own

end
-- ==== Proof.Kernel.Blocks.lean ====
/-
  A grid point's block over the extended reals: what the eight chunks of it leave, in the formulas of `Chunk.lean`, from the
  entries of the input blocks and of the state that the point finds.
-/
module

public import proofs.«01_k».proof.Proof.Kernel.Payloads
public import proofs.«01_k».proof.Proof.Kernel.Fold

@[expose] public section

set_option maxRecDepth 16384

noncomputable section

namespace Cert.KernelIdeal.Own

open Idealize.ShloMosaic Idealize.SL.Sem Cert.KernelIdeal Cert.KernelIdeal.Gen
open Cert.Chunk (at2 at2_eq at2_of stateUp stateDown)

/-! ## A window's entries -/

theorem keyOf_at (x : Vec Ideal S512x512 .f32) (j h t l) : keyOf x j h (ix2 t l) = at2 x (64 * j.val + t.val) (128 * h.val + l.val) := by
  rw [at2_of x (by omega) (by omega)]
  refine congrArg x (funext fun a => Fin.ext ?_)
  fin_cases a
  · show 64 * j.val + 1 * t.val = 64 * j.val + t.val; omega
  · show 128 * h.val + 1 * l.val = 128 * h.val + l.val; omega

theorem valOf_at (x : Vec Ideal S512x1024 .bf16) (j h t e) : valOf x j h (ix2 t e) = at2 x (64 * j.val + t.val) (256 * h.val + e.val) := by
  rw [at2_of x (by omega) (by omega)]
  refine congrArg x (funext fun a => Fin.ext ?_)
  fin_cases a
  · show 64 * j.val + 1 * t.val = 64 * j.val + t.val; omega
  · show 256 * h.val + 1 * e.val = 256 * h.val + e.val; omega

theorem scoreOf_at (x : Vec Ideal S512x256 .bf16) (j h t s) : scoreOf x j h (ix2 t s) = at2 x (64 * j.val + t.val) (64 * h.val + s.val) := by
  rw [at2_of x (by omega) (by omega)]
  refine congrArg x (funext fun a => Fin.ext ?_)
  fin_cases a
  · show 64 * j.val + 1 * t.val = 64 * j.val + t.val; omega
  · show 64 * h.val + 1 * s.val = 64 * h.val + s.val; omega

theorem keptBlk_at (x : Vec Ideal S8x4x256x128 .f32) (j h e l) : keptBlk x j h (ix4 0 0 e l) = x (ix4 j h e l) := by
  refine congrArg x (funext fun a => Fin.ext ?_)
  fin_cases a
  · show j.val + 1 * 0 = j.val; omega
  · show h.val + 1 * 0 = h.val; omega
  · show 0 + 1 * e.val = e.val; omega
  · show 0 + 1 * l.val = l.val; omega

theorem stOf_at (x : Vec Ideal S4x256x128 .f32) (h e l) : stOf x h (ix3 0 e l) = x (ix3 h e l) := by
  refine congrArg x (funext fun a => Fin.ext ?_)
  fin_cases a
  · show h.val + 1 * 0 = h.val; omega
  · show 0 + 1 * e.val = e.val; omega
  · show 0 + 1 * l.val = l.val; omega

/-- The state that a grid point's units find: zeros at point 0. -/
theorem startAt_at (n : ℕ) (hn : n < 8) (x : Vec Ideal S4x256x128 .f32) (h e l) : startAt n x (ix3 h e l) = if n = 0 then 0 else x (ix3 h e l) := by
  have hc : ∀ k : Fin 8, (Scalar.cmpi .ne (Scalar.extui (Scalar.cmpi .eq (BitVec.ofNat 32 k.val) 0#32) : BitVec 32) 0#32 = 1#1) ↔ k.val = 0 := by decide
  unfold startAt
  by_cases h0 : n = 0
  · rw [if_pos ((hc ⟨n, hn⟩).mpr h0), if_pos h0, start_at]
  · rw [if_neg fun h => h0 ((hc ⟨n, hn⟩).mp h), if_neg h0]

/-! ## The forward block -/

/-- The input blocks hold the chunks from `8 T` on. -/
structure FwdIn.Holds (b : FwdIn Ideal) (X : Fin 4 → ℕ → Chunk) (T : ℕ) : Prop where
  q j h t l : keyOf b.q j h (ix2 t l) * scale = (X h (8 * T + j.val)).q t l
  k j h t l : keyOf b.k j h (ix2 t l) = (X h (8 * T + j.val)).k t l
  c j h t l : keyOf b.cum j h (ix2 t l) = (X h (8 * T + j.val)).c t l
  v j h t e : valOf b.v j h (ix2 t e) = (X h (8 * T + j.val)).v t e

section
variable {b : FwdIn Ideal} {X : Fin 4 → ℕ → Chunk} {T : ℕ} (hb : b.Holds X T) {x : Vec Ideal S4x256x128 .f32}
  (hx : ∀ h e l, x (ix3 h e l) = stateUp (X h) (8 * T) e l)
include hb hx

theorem upSt_at (h : Fin 4) : ∀ (n : ℕ) (_ : n ≤ 8) (e l), upSt b x h n (ix3 0 e l) = stateUp (X h) (8 * T + n) e l
  | 0, _, e, l => (stOf_at x h e l).trans (hx h e l)
  | n + 1, hn, e, l => by
    have ht : ∀ k : Fin 8, ([0, 1, 2, 3, 4, 5, 6, 7] : List (Fin 8)).take (k.val + 1) = [0, 1, 2, 3, 4, 5, 6, 7].take k.val ++ [k] := by decide
    have e1 : upSt b x h (n + 1) = upNext b h (upSt b x h n) ⟨n, hn⟩ := by
      unfold upSt; rw [ht ⟨n, hn⟩, List.foldl_append]; rfl
    rw [e1]
    exact stateOf_at (hb.k ⟨n, hn⟩ h) (hb.c ⟨n, hn⟩ h) (hb.v ⟨n, hn⟩ h) (upSt_at h n (by omega)) e l

theorem fwdEnd_st_at (h e l) : (fwdEnd b x).st (ix3 h e l) = stateUp (X h) (8 * (T + 1)) e l := by
  refine (stOf_at _ h e l).symm.trans ?_
  exact (congrFun (fwd_st_end b h (fwdBlank x)) _).trans (upSt_at hb hx h 8 le_rfl e l)

theorem fwdEnd_out_at (j : Fin 8) (h : Fin 4) (t e) :
    at2 (fwdEnd b x).out (64 * j.val + t.val) (256 * h.val + e.val) = (X h (8 * T + j.val)).out (stateUp (X h) (8 * T + j.val)) t e := by
  rw [← outOf_at (hb.q j h) (hb.k j h) (hb.c j h) (hb.v j h) (upSt_at hb hx h j.val (by omega)) t e]
  refine Eq.trans ?_ (congrFun (fwd_out b (fwdBlank x) (j, h)) (ix2 t e))
  rw [at2_of _ (by omega) (by omega)]
  refine congrArg (fwdEnd b x).out (funext fun a => Fin.ext ?_)
  fin_cases a
  · show 64 * j.val + t.val = 64 * j.val + 1 * t.val; omega
  · show 256 * h.val + e.val = 256 * h.val + 1 * e.val; omega

theorem fwdEnd_kept_at (j : Fin 8) (h : Fin 4) (e l) : (fwdEnd b x).kept (ix4 j h e l) = stateUp (X h) (8 * T + j.val) e l := by
  rw [← upSt_at hb hx h j.val (by omega) e l, ← keptOf_at (upSt b x h j.val)]
  refine Eq.trans ?_ (congrFun (fwd_kept b (fwdBlank x) (j, h)) (ix4 0 0 e l))
  refine congrArg (fwdEnd b x).kept (funext fun a => Fin.ext ?_)
  fin_cases a
  · show j.val = j.val + 1 * 0; omega
  · show h.val = h.val + 1 * 0; omega
  · show e.val = 0 + 1 * e.val; omega
  · show l.val = 0 + 1 * l.val; omega

omit hx in
theorem fwdEnd_scores_at (j : Fin 8) (h : Fin 4) (t s : Fin 64) :
    at2 (fwdEnd b x).scores (64 * j.val + t.val) (64 * h.val + s.val) = (X h (8 * T + j.val)).sc t s := by
  rw [← scoresOf_at (hb.q j h) (hb.k j h) (hb.c j h) t s]
  refine Eq.trans ?_ (congrFun (fwd_scores b (fwdBlank x) (j, h)) (ix2 t s))
  rw [at2_of _ (by omega) (by omega)]
  refine congrArg (fwdEnd b x).scores (funext fun a => Fin.ext ?_)
  fin_cases a
  · show 64 * j.val + t.val = 64 * j.val + 1 * t.val; omega
  · show 64 * h.val + s.val = 64 * h.val + 1 * s.val; omega
end

/-! ## The backward block -/

/-- The input blocks hold the chunks from `8 T` on, with the forward call's states and scores. -/
structure BwdIn.Holds (b : BwdIn Ideal) (X : Fin 4 → ℕ → Chunk) (T : ℕ) : Prop where
  q j h t l : keyOf b.q j h (ix2 t l) * scale = (X h (8 * T + j.val)).q t l
  k j h t l : keyOf b.k j h (ix2 t l) = (X h (8 * T + j.val)).k t l
  c j h t l : keyOf b.cum j h (ix2 t l) = (X h (8 * T + j.val)).c t l
  v j h t e : valOf b.v j h (ix2 t e) = (X h (8 * T + j.val)).v t e
  g j h t e : valOf b.g j h (ix2 t e) = (X h (8 * T + j.val)).g t e
  kept j h e l : keptBlk b.kept j h (ix4 0 0 e l) = stateUp (X h) (8 * T + j.val) e l
  scores j h t s : scoreOf b.scores j h (ix2 t s) = (X h (8 * T + j.val)).sc t s

section
variable {b : BwdIn Ideal} {X : Fin 4 → ℕ → Chunk} {T : ℕ} (hT : T < 8) (hb : b.Holds X T) {x : Vec Ideal S4x256x128 .f32}
  (hx : ∀ h e l, x (ix3 h e l) = stateDown (X h) (8 * (7 - T)) e l)
include hT hb hx

theorem downSt_at (h : Fin 4) : ∀ (n : ℕ) (_ : n ≤ 8) (e l), downSt b x h n (ix3 0 e l) = stateDown (X h) (8 * (7 - T) + n) e l
  | 0, _, e, l => (stOf_at x h e l).trans (hx h e l)
  | n + 1, hn, e, l => by
    have ht : ∀ k : Fin 8, ([7, 6, 5, 4, 3, 2, 1, 0] : List (Fin 8)).take (k.val + 1) = [7, 6, 5, 4, 3, 2, 1, 0].take k.val ++ [Fin.rev k] := by decide
    have e1 : downSt b x h (n + 1) = downNext b h (downSt b x h n) (Fin.rev ⟨n, hn⟩) := by
      unfold downSt; rw [ht ⟨n, hn⟩, List.foldl_append]; rfl
    have e2 : 63 - (8 * (7 - T) + n) = 8 * T + (Fin.rev (⟨n, hn⟩ : Fin 8)).val := by rw [Fin.val_rev]; show _ = 8 * T + (8 - (n + 1)); omega
    rw [e1, show 8 * (7 - T) + (n + 1) = (8 * (7 - T) + n) + 1 from rfl, stateDown, e2]
    exact gState_at (hb.q (Fin.rev ⟨n, hn⟩) h) (hb.c (Fin.rev ⟨n, hn⟩) h) (hb.g (Fin.rev ⟨n, hn⟩) h) (downSt_at h n (by omega)) e l

theorem bwdEnd_st_at (h e l) : (bwdEnd b x).st (ix3 h e l) = stateDown (X h) (8 * (7 - T + 1)) e l := by
  refine (stOf_at _ h e l).symm.trans ?_
  exact (congrFun (bwd_st_end b h (bwdBlank x)) _).trans (downSt_at hT hb hx h 8 le_rfl e l)

/-- The state's gradient that chunk `j` finds. -/
theorem down_at (j : Fin 8) (h : Fin 4) (e l) : downSt b x h (7 - j.val) (ix3 0 e l) = stateDown (X h) (63 - (8 * T + j.val)) e l := by
  rw [downSt_at hT hb hx h (7 - j.val) (by omega), show 8 * (7 - T) + (7 - j.val) = 63 - (8 * T + j.val) by omega]

omit hT hx in
theorem bwdEnd_dq_at (j : Fin 8) (h : Fin 4) (t l) :
    at2 (bwdEnd b x).dq (64 * j.val + t.val) (128 * h.val + l.val) = (X h (8 * T + j.val)).dq (stateUp (X h) (8 * T + j.val)) t l * scale := by
  rw [← gQueries_at (hb.k j h) (hb.c j h) (hb.v j h) (hb.g j h) (hb.kept j h) t l]
  refine Eq.trans ?_ (congrFun (bwd_dq b (bwdBlank x) (j, h)) (ix2 t l))
  rw [at2_of _ (by omega) (by omega)]
  refine congrArg (bwdEnd b x).dq (funext fun a => Fin.ext ?_)
  fin_cases a
  · show 64 * j.val + t.val = 64 * j.val + 1 * t.val; omega
  · show 128 * h.val + l.val = 128 * h.val + 1 * l.val; omega

theorem bwdEnd_dk_at (j : Fin 8) (h : Fin 4) (t l) :
    at2 (bwdEnd b x).dk (64 * j.val + t.val) (128 * h.val + l.val) = (X h (8 * T + j.val)).dk (stateDown (X h) (63 - (8 * T + j.val))) t l := by
  rw [← gKeys_at (hb.q j h) (hb.c j h) (hb.v j h) (hb.g j h) (down_at hT hb hx j h) t l]
  refine Eq.trans ?_ (congrFun (bwd_dk b (bwdBlank x) (j, h)) (ix2 t l))
  rw [at2_of _ (by omega) (by omega)]
  refine congrArg (bwdEnd b x).dk (funext fun a => Fin.ext ?_)
  fin_cases a
  · show 64 * j.val + t.val = 64 * j.val + 1 * t.val; omega
  · show 128 * h.val + l.val = 128 * h.val + 1 * l.val; omega

theorem bwdEnd_dv_at (j : Fin 8) (h : Fin 4) (t e) :
    at2 (bwdEnd b x).dv (64 * j.val + t.val) (256 * h.val + e.val) = (X h (8 * T + j.val)).dv (stateDown (X h) (63 - (8 * T + j.val))) t e := by
  rw [← gValues_at (hb.k j h) (hb.c j h) (hb.g j h) (down_at hT hb hx j h) (hb.scores j h) t e]
  refine Eq.trans ?_ (congrFun (bwd_dv b (bwdBlank x) (j, h)) (ix2 t e))
  rw [at2_of _ (by omega) (by omega)]
  refine congrArg (bwdEnd b x).dv (funext fun a => Fin.ext ?_)
  fin_cases a
  · show 64 * j.val + t.val = 64 * j.val + 1 * t.val; omega
  · show 256 * h.val + e.val = 256 * h.val + 1 * e.val; omega

theorem bwdEnd_dcum_at (j : Fin 8) (h : Fin 4) (t l) :
    at2 (bwdEnd b x).dcum (64 * j.val + t.val) (128 * h.val + l.val)
      = (X h (8 * T + j.val)).dcum (stateUp (X h) (8 * T + j.val)) (stateDown (X h) (63 - (8 * T + j.val))) t l := by
  rw [← gCum_at (hb.q j h) (hb.k j h) (hb.c j h) (hb.v j h) (hb.g j h) (hb.kept j h) (down_at hT hb hx j h) t l]
  refine Eq.trans ?_ (congrFun (bwd_dcum b (bwdBlank x) (j, h)) (ix2 t l))
  rw [at2_of _ (by omega) (by omega)]
  refine congrArg (bwdEnd b x).dcum (funext fun a => Fin.ext ?_)
  fin_cases a
  · show 64 * j.val + t.val = 64 * j.val + 1 * t.val; omega
  · show 128 * h.val + l.val = 128 * h.val + 1 * l.val; omega
end

end Cert.KernelIdeal.Own
-- ==== Proof.Kernel.Arrays.lean ====
/-
  The two calls' arrays over the extended reals: every chunk of every head of each result, in the formulas of `Chunk.lean`
  over the chunks of the arguments.
-/
module

public import proofs.«01_k».proof.Proof.Kernel.Blocks
public import proofs.«01_k».proof.Proof.Kernel.Run
public import Idealize.ShloMosaic.Lib.Pipeline.ValueKit

@[expose] public section

set_option maxRecDepth 16384

noncomputable section

namespace Cert.KernelIdeal.Own

open Idealize.ShloMosaic Idealize.ShloMosaic.TcCoe Idealize.SL.Sem Cert.KernelIdeal Cert.KernelIdeal.Gen
open Idealize.ShloMosaic.Pipeline (Dat Cfg Window)
open Cert.Chunk (at2 at2_eq at2_of stateUp stateDown ofArrays)

/-! ## Where a block lies -/

theorem pt0 (t : Fin cfg0.N) : t.val < 8 := Nat.lt_of_lt_of_eq t.isLt N_0
theorem pt1 (t : Fin cfg1.N) : t.val < 8 := Nat.lt_of_lt_of_eq t.isLt N_1

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 1] := (by decide +kernel : ∀ t : Fin grid0.N, win0_1.index t = ![t.val, 1])
theorem idx0_2 : ∀ t : Fin cfg0.N, win0_2.index t = ![t.val, 0] := (by decide +kernel : ∀ t : Fin grid0.N, win0_2.index t = ![t.val, 0])
theorem idx0_3 : ∀ t : Fin cfg0.N, win0_3.index t = ![t.val, 0] := (by decide +kernel : ∀ t : Fin grid0.N, win0_3.index t = ![t.val, 0])
theorem idx0_4 : ∀ t : Fin cfg0.N, win0_4.index t = ![t.val, 0] := (by decide +kernel : ∀ t : Fin grid0.N, win0_4.index t = ![t.val, 0])
theorem idx0_5 : ∀ t : Fin cfg0.N, win0_5.index t = ![t.val, 0, 0, 0] := (by decide +kernel : ∀ t : Fin grid0.N, win0_5.index t = ![t.val, 0, 0, 0])
theorem idx0_6 : ∀ t : Fin cfg0.N, win0_6.index t = ![t.val, 0] := (by decide +kernel : ∀ t : Fin grid0.N, win0_6.index t = ![t.val, 0])
theorem idx1_0 : ∀ t : Fin cfg1.N, win1_0.index t = ![7 - t.val, 0] := (by decide +kernel : ∀ t : Fin grid1.N, win1_0.index t = ![7 - t.val, 0])
theorem idx1_1 : ∀ t : Fin cfg1.N, win1_1.index t = ![7 - t.val, 1] := (by decide +kernel : ∀ t : Fin grid1.N, win1_1.index t = ![7 - t.val, 1])
theorem idx1_2 : ∀ t : Fin cfg1.N, win1_2.index t = ![7 - t.val, 0] := (by decide +kernel : ∀ t : Fin grid1.N, win1_2.index t = ![7 - t.val, 0])
theorem idx1_3 : ∀ t : Fin cfg1.N, win1_3.index t = ![7 - t.val, 0] := (by decide +kernel : ∀ t : Fin grid1.N, win1_3.index t = ![7 - t.val, 0])
theorem idx1_4 : ∀ t : Fin cfg1.N, win1_4.index t = ![7 - t.val, 0] := (by decide +kernel : ∀ t : Fin grid1.N, win1_4.index t = ![7 - t.val, 0])
theorem idx1_5 : ∀ t : Fin cfg1.N, win1_5.index t = ![7 - t.val, 0, 0, 0] := (by decide +kernel : ∀ t : Fin grid1.N, win1_5.index t = ![7 - t.val, 0, 0, 0])
theorem idx1_6 : ∀ t : Fin cfg1.N, win1_6.index t = ![7 - t.val, 0] := (by decide +kernel : ∀ t : Fin grid1.N, win1_6.index t = ![7 - t.val, 0])
theorem idx1_7 : ∀ t : Fin cfg1.N, win1_7.index t = ![7 - t.val, 0] := (by decide +kernel : ∀ t : Fin grid1.N, win1_7.index t = ![7 - t.val, 0])
theorem idx1_8 : ∀ t : Fin cfg1.N, win1_8.index t = ![7 - t.val, 0] := (by decide +kernel : ∀ t : Fin grid1.N, win1_8.index t = ![7 - t.val, 0])
theorem idx1_9 : ∀ t : Fin cfg1.N, win1_9.index t = ![7 - t.val, 0] := (by decide +kernel : ∀ t : Fin grid1.N, win1_9.index t = ![7 - t.val, 0])
theorem idx1_10 : ∀ t : Fin cfg1.N, win1_10.index t = ![7 - t.val, 0] := (by decide +kernel : ∀ t : Fin grid1.N, win1_10.index t = ![7 - t.val, 0])

variable (V : (c : Dev nD) → (b : Ref sig .tc) → Buf (Elt Ideal) ((c : Thread nD τ).loc b))

/-! ## The input blocks' entries -/

theorem iblk0_0_at (c : Dev nD) (t : Fin cfg0.N) {i j : ℕ} (hi : i < 512) (hj : j < 512) :
    at2 (r := 512) (c := 512) (iblk0 V c 0 t) i j = at2 (r := 4096) (c := 1024) (V c main_arg0) (512 * t.val + i) j := by
  have := pt0 t
  rw [at2_of _ hi hj, at2_of _ (by omega) (by omega)]
  blk_ext [iblk0, idx0_0]
theorem iblk0_1_at (c : Dev nD) (t : Fin cfg0.N) {i j : ℕ} (hi : i < 512) (hj : j < 512) :
    at2 (r := 512) (c := 512) (iblk0 V c 1 t) i j = at2 (r := 4096) (c := 1024) (V c main_arg0) (512 * t.val + i) (512 + j) := by
  have := pt0 t
  rw [at2_of _ hi hj, at2_of _ (by omega) (by omega)]
  blk_ext [iblk0, idx0_1]
theorem iblk0_2_at (c : Dev nD) (t : Fin cfg0.N) {i j : ℕ} (hi : i < 512) (hj : j < 1024) :
    at2 (r := 512) (c := 1024) (iblk0 V c 2 t) i j = at2 (r := 4096) (c := 1024) (V c main_v0) (512 * t.val + i) j := by
  have := pt0 t
  rw [at2_of _ hi hj, at2_of _ (by omega) (by omega)]
  blk_ext [iblk0, idx0_2]
theorem iblk0_3_at (c : Dev nD) (t : Fin cfg0.N) {i j : ℕ} (hi : i < 512) (hj : j < 512) :
    at2 (r := 512) (c := 512) (iblk0 V c 3 t) i j = at2 (r := 4096) (c := 512) (V c main_arg2) (512 * t.val + i) j := by
  have := pt0 t
  rw [at2_of _ hi hj, at2_of _ (by omega) (by omega)]
  blk_ext [iblk0, idx0_3]
theorem iblk1_0_at (c : Dev nD) (t : Fin cfg1.N) {i j : ℕ} (hi : i < 512) (hj : j < 512) :
    at2 (r := 512) (c := 512) (iblk1 V c 0 t) i j = at2 (r := 4096) (c := 1024) (V c main_arg0) (512 * (7 - t.val) + i) j := by
  have := pt1 t
  rw [at2_of _ hi hj, at2_of _ (by omega) (by omega)]
  blk_ext [iblk1, idx1_0]
theorem iblk1_1_at (c : Dev nD) (t : Fin cfg1.N) {i j : ℕ} (hi : i < 512) (hj : j < 512) :
    at2 (r := 512) (c := 512) (iblk1 V c 1 t) i j = at2 (r := 4096) (c := 1024) (V c main_arg0) (512 * (7 - t.val) + i) (512 + j) := by
  have := pt1 t
  rw [at2_of _ hi hj, at2_of _ (by omega) (by omega)]
  blk_ext [iblk1, idx1_1]
theorem iblk1_2_at (c : Dev nD) (t : Fin cfg1.N) {i j : ℕ} (hi : i < 512) (hj : j < 1024) :
    at2 (r := 512) (c := 1024) (iblk1 V c 2 t) i j = at2 (r := 4096) (c := 1024) (V c main_v0) (512 * (7 - t.val) + i) j := by
  have := pt1 t
  rw [at2_of _ hi hj, at2_of _ (by omega) (by omega)]
  blk_ext [iblk1, idx1_2]
theorem iblk1_3_at (c : Dev nD) (t : Fin cfg1.N) {i j : ℕ} (hi : i < 512) (hj : j < 512) :
    at2 (r := 512) (c := 512) (iblk1 V c 3 t) i j = at2 (r := 4096) (c := 512) (V c main_arg2) (512 * (7 - t.val) + i) j := by
  have := pt1 t
  rw [at2_of _ hi hj, at2_of _ (by omega) (by omega)]
  blk_ext [iblk1, idx1_3]
theorem iblk1_4_at (c : Dev nD) (t : Fin cfg1.N) {i j : ℕ} (hi : i < 512) (hj : j < 1024) :
    at2 (r := 512) (c := 1024) (iblk1 V c 4 t) i j = at2 (r := 4096) (c := 1024) (V c main_v1) (512 * (7 - t.val) + i) j := by
  have := pt1 t
  rw [at2_of _ hi hj, at2_of _ (by omega) (by omega)]
  blk_ext [iblk1, idx1_4]
theorem iblk1_6_at (c : Dev nD) (t : Fin cfg1.N) {i j : ℕ} (hi : i < 512) (hj : j < 256) :
    at2 (r := 512) (c := 256) (iblk1 V c 6 t) i j = at2 (r := 4096) (c := 256) (V c main_v2_2) (512 * (7 - t.val) + i) j := by
  have := pt1 t
  rw [at2_of _ hi hj, at2_of _ (by omega) (by omega)]
  blk_ext [iblk1, idx1_6]
theorem iblk1_5_at (c : Dev nD) (t : Fin cfg1.N) (j : Fin 8) (h : Fin 4) (e : Fin 256) (l : Fin 128) (n : Fin 64) (hn : n.val = 8 * (7 - t.val) + j.val) :
    (iblk1 V c 5 t : Vec Ideal S8x4x256x128 .f32) (ix4 j h e l) = (V c main_v2_1 : S64x4x256x128.Idx → EReal) (ix4 n h e l) := by
  have := pt1 t
  blk_ext [iblk1, idx1_5]

/-! ## The output arrays' entries: a flushed block's -/

theorem arr0_4_at (c : Dev nD) (t : Fin cfg0.N) {i j : ℕ} (hi : i < 512) (hj : j < 1024) :
    at2 (r := 4096) (c := 1024) ((dat0 V c).arrAt 4 cfg0.N) (512 * t.val + i) j = at2 (fwdAt V c t (fwdState V c t.val)).out i j := by
  have := pt0 t
  have h := (dat0 V c).arrAt_emb_eq_flushed 4 (win0_4.hdisj_of_index_inj (by decide +kernel)) t (flush0_4 t) (ix2 ⟨i, hi⟩ ⟨j, hj⟩)
  rw [at2_of _ hi hj, at2_of _ (by omega) (by omega)]
  rw [← after0_4]
  refine Eq.trans ?_ h
  blk_ext [idx0_4]
theorem arr0_6_at (c : Dev nD) (t : Fin cfg0.N) {i j : ℕ} (hi : i < 512) (hj : j < 256) :
    at2 (r := 4096) (c := 256) ((dat0 V c).arrAt 6 cfg0.N) (512 * t.val + i) j = at2 (fwdAt V c t (fwdState V c t.val)).scores i j := by
  have := pt0 t
  have h := (dat0 V c).arrAt_emb_eq_flushed 6 (win0_6.hdisj_of_index_inj (by decide +kernel)) t (flush0_6 t) (ix2 ⟨i, hi⟩ ⟨j, hj⟩)
  rw [at2_of _ hi hj, at2_of _ (by omega) (by omega)]
  rw [← after0_6]
  refine Eq.trans ?_ h
  blk_ext [idx0_6]
theorem arr1_7_at (c : Dev nD) (t : Fin cfg1.N) {i j : ℕ} (hi : i < 512) (hj : j < 512) :
    at2 (r := 4096) (c := 512) ((dat1 V c).arrAt 7 cfg1.N) (512 * (7 - t.val) + i) j = at2 (bwdAt V c t (bwdState V c t.val)).dq i j := by
  have := pt1 t
  have h := (dat1 V c).arrAt_emb_eq_flushed 7 (win1_7.hdisj_of_index_inj (by decide +kernel)) t (flush1_7 t) (ix2 ⟨i, hi⟩ ⟨j, hj⟩)
  rw [at2_of _ hi hj, at2_of _ (by omega) (by omega)]
  rw [← after1_7]
  refine Eq.trans ?_ h
  blk_ext [idx1_7]
theorem arr1_8_at (c : Dev nD) (t : Fin cfg1.N) {i j : ℕ} (hi : i < 512) (hj : j < 512) :
    at2 (r := 4096) (c := 512) ((dat1 V c).arrAt 8 cfg1.N) (512 * (7 - t.val) + i) j = at2 (bwdAt V c t (bwdState V c t.val)).dk i j := by
  have := pt1 t
  have h := (dat1 V c).arrAt_emb_eq_flushed 8 (win1_8.hdisj_of_index_inj (by decide +kernel)) t (flush1_8 t) (ix2 ⟨i, hi⟩ ⟨j, hj⟩)
  rw [at2_of _ hi hj, at2_of _ (by omega) (by omega)]
  rw [← after1_8]
  refine Eq.trans ?_ h
  blk_ext [idx1_8]
theorem arr1_9_at (c : Dev nD) (t : Fin cfg1.N) {i j : ℕ} (hi : i < 512) (hj : j < 1024) :
    at2 (r := 4096) (c := 1024) ((dat1 V c).arrAt 9 cfg1.N) (512 * (7 - t.val) + i) j = at2 (bwdAt V c t (bwdState V c t.val)).dv i j := by
  have := pt1 t
  have h := (dat1 V c).arrAt_emb_eq_flushed 9 (win1_9.hdisj_of_index_inj (by decide +kernel)) t (flush1_9 t) (ix2 ⟨i, hi⟩ ⟨j, hj⟩)
  rw [at2_of _ hi hj, at2_of _ (by omega) (by omega)]
  rw [← after1_9]
  refine Eq.trans ?_ h
  blk_ext [idx1_9]
theorem arr1_10_at (c : Dev nD) (t : Fin cfg1.N) {i j : ℕ} (hi : i < 512) (hj : j < 512) :
    at2 (r := 4096) (c := 512) ((dat1 V c).arrAt 10 cfg1.N) (512 * (7 - t.val) + i) j = at2 (bwdAt V c t (bwdState V c t.val)).dcum i j := by
  have := pt1 t
  have h := (dat1 V c).arrAt_emb_eq_flushed 10 (win1_10.hdisj_of_index_inj (by decide +kernel)) t (flush1_10 t) (ix2 ⟨i, hi⟩ ⟨j, hj⟩)
  rw [at2_of _ hi hj, at2_of _ (by omega) (by omega)]
  rw [← after1_10]
  refine Eq.trans ?_ h
  blk_ext [idx1_10]
theorem arr0_5_at (c : Dev nD) (t : Fin cfg0.N) (j : Fin 8) (h : Fin 4) (e : Fin 256) (l : Fin 128) (n : Fin 64) (hn : n.val = 8 * t.val + j.val) :
    ((dat0 V c).arrAt 5 cfg0.N : S64x4x256x128.Idx → EReal) (ix4 n h e l) = (fwdAt V c t (fwdState V c t.val)).kept (ix4 j h e l) := by
  have := pt0 t
  have h' := (dat0 V c).arrAt_emb_eq_flushed 5 (win0_5.hdisj_of_index_inj (by decide +kernel)) t (flush0_5 t) (ix4 j h e l)
  rw [← after0_5]
  refine Eq.trans ?_ h'
  blk_ext [idx0_5]

end Cert.KernelIdeal.Own
-- ==== Proof.Kernel.Results.lean ====
/-
  The five results of the two calls over the extended reals, chunk by chunk and head by head.
-/
module

public import proofs.«01_k».proof.Proof.Kernel.Arrays

@[expose] public section

set_option maxRecDepth 16384

noncomputable section

namespace Cert.KernelIdeal.Own

open Idealize.ShloMosaic Idealize.ShloMosaic.TcCoe Idealize.SL.Sem Cert.KernelIdeal Cert.KernelIdeal.Gen
open Idealize.ShloMosaic.Pipeline (Dat Cfg Window)
open Cert.Chunk (at2 at2_eq at2_of stateUp stateDown ofArrays)

variable (m : (ℓ : Loc nD τ sig) → Buf (Elt Ideal) ℓ) (c : Dev nD)

/-- The chunks of the arguments on a device. -/
def chunks (h : Fin 4) (n : ℕ) : Chunk :=
  ofArrays scale (m ((c : Thread nD τ).loc main_arg0)) (m ((c : Thread nD τ).loc main_arg1)) (m ((c : Thread nD τ).loc main_arg2)) (m ((c : Thread nD τ).loc main_arg3)) h n

/-! ## What the forward call is entered with -/

theorem U1_arg (a : Ref sig .tc) (ha : a ∈ argRefs) : U1 m c a = m ((c : Thread nD τ).loc a) := W1_of m c a (argsHost a ha)
theorem U1_v0 : (U1 m c main_v0 : S4096x1024.Idx → EReal) = m ((c : Thread nD τ).loc main_arg1) := rfl
theorem U1_v1 : (U1 m c main_v1 : S4096x1024.Idx → EReal) = m ((c : Thread nD τ).loc main_arg3) := rfl

theorem fwdIn_holds (t : Fin cfg0.N) : (fwdIn (U1 m) c t).Holds (chunks m c) t.val where
  q j h r l := by
    have e : 512 * t.val + (64 * j.val + r.val) = 64 * (8 * t.val + j.val) + r.val := by omega
    refine congrArg (· * scale) ((keyOf_at _ j h r l).trans ((iblk0_0_at (U1 m) c t (i := 64 * j.val + r.val) (j := 128 * h.val + l.val) (by omega) (by omega)).trans ?_))
    rw [e, U1_arg m c main_arg0 (by decide)]
  k j h r l := by
    have e : 512 * t.val + (64 * j.val + r.val) = 64 * (8 * t.val + j.val) + r.val := by omega
    refine (keyOf_at _ j h r l).trans ((iblk0_1_at (U1 m) c t (i := 64 * j.val + r.val) (j := 128 * h.val + l.val) (by omega) (by omega)).trans ?_)
    rw [e, U1_arg m c main_arg0 (by decide)]; rfl
  c j h r l := by
    have e : 512 * t.val + (64 * j.val + r.val) = 64 * (8 * t.val + j.val) + r.val := by omega
    refine (keyOf_at _ j h r l).trans ((iblk0_3_at (U1 m) c t (i := 64 * j.val + r.val) (j := 128 * h.val + l.val) (by omega) (by omega)).trans ?_)
    rw [e, U1_arg m c main_arg2 (by decide)]; rfl
  v j h r l := by
    have e : 512 * t.val + (64 * j.val + r.val) = 64 * (8 * t.val + j.val) + r.val := by omega
    refine (valOf_at _ j h r l).trans ((iblk0_2_at (U1 m) c t (i := 64 * j.val + r.val) (j := 256 * h.val + l.val) (by omega) (by omega)).trans ?_)
    rw [e, U1_v0]; rfl

/-! ## The forward call -/

theorem fwdStart_at (n : ℕ) (hn : n < 8) (x : Vec Ideal S4x256x128 .f32) (hx : ∀ h e l, x (ix3 h e l) = stateUp (chunks m c h) (8 * n) e l) (h e l) :
    startAt n x (ix3 h e l) = stateUp (chunks m c h) (8 * n) e l := by
  rw [startAt_at n hn]
  split
  · next h0 => subst h0; rfl
  · exact hx h e l

theorem fwdState_at : ∀ (n : ℕ) (_ : n ≤ 8) (h e l), fwdState (U1 m) c n (ix3 h e l) = stateUp (chunks m c h) (8 * n) e l
  | 0, _, h, e, l => start_at h e l
  | n + 1, hn, h, e, l => by
    have e1 := fwdState_succ (U1 m) c ⟨n, Nat.lt_of_lt_of_eq hn N_0.symm⟩
    rw [show fwdState (U1 m) c (n + 1) = _ from e1]
    unfold fwdAt
    rw [coord0]
    exact fwdEnd_st_at (fwdIn_holds m c ⟨n, _⟩) (fwdStart_at m c n hn _ (fwdState_at n (by omega))) h e l

/-- The state that the units of point `t` find. -/
theorem fwdFound_at (t : Fin cfg0.N) (h e l) :
    startAt (grid0.coords t 0).val (fwdState (U1 m) c t.val) (ix3 h e l) = stateUp (chunks m c h) (8 * t.val) e l := by
  rw [coord0]; exact fwdStart_at m c t.val (pt0 t) _ (fwdState_at m c t.val (Nat.le_of_lt (pt0 t))) h e l

theorem out_at (n : ℕ) (hn : n < 64) (h : Fin 4) (t : Fin 64) (e : Fin 256) :
    at2 (r := 4096) (c := 1024) ((dat0 (U1 m) c).arrAt 4 cfg0.N) (64 * n + t.val) (256 * h.val + e.val) = (chunks m c h n).out (stateUp (chunks m c h) n) t e := by
  have e0 : 64 * n + t.val = 512 * (n / 8) + (64 * (n % 8) + t.val) := by omega
  have e1 : 8 * (n / 8) + n % 8 = n := by omega
  have T : n / 8 < cfg0.N := Nat.lt_of_lt_of_eq (by omega) N_0.symm
  have h2 := fwdEnd_out_at (fwdIn_holds m c ⟨n / 8, T⟩) (fwdFound_at m c ⟨n / 8, T⟩) ⟨n % 8, by omega⟩ h t e
  rw [e0]
  refine (arr0_4_at (U1 m) c ⟨n / 8, T⟩ (by omega) (by omega)).trans (h2.trans ?_)
  show (chunks m c h (8 * (n / 8) + n % 8)).out (stateUp (chunks m c h) (8 * (n / 8) + n % 8)) t e = _
  rw [e1]

theorem scores_at (n : ℕ) (hn : n < 64) (h : Fin 4) (t s : Fin 64) :
    at2 (r := 4096) (c := 256) ((dat0 (U1 m) c).arrAt 6 cfg0.N) (64 * n + t.val) (64 * h.val + s.val) = (chunks m c h n).sc t s := by
  have e0 : 64 * n + t.val = 512 * (n / 8) + (64 * (n % 8) + t.val) := by omega
  have e1 : 8 * (n / 8) + n % 8 = n := by omega
  have T : n / 8 < cfg0.N := Nat.lt_of_lt_of_eq (by omega) N_0.symm
  have h2 := fwdEnd_scores_at (fwdIn_holds m c ⟨n / 8, T⟩) (x := startAt (grid0.coords ⟨n / 8, T⟩ 0).val (fwdState (U1 m) c (n / 8))) ⟨n % 8, by omega⟩ h t s
  rw [e0]
  refine (arr0_6_at (U1 m) c ⟨n / 8, T⟩ (by omega) (by omega)).trans (h2.trans ?_)
  show (chunks m c h (8 * (n / 8) + n % 8)).sc t s = _
  rw [e1]

theorem states_at (n : Fin 64) (h : Fin 4) (e : Fin 256) (l : Fin 128) :
    ((dat0 (U1 m) c).arrAt 5 cfg0.N : S64x4x256x128.Idx → EReal) (ix4 n h e l) = stateUp (chunks m c h) n.val e l := by
  have e1 : 8 * (n.val / 8) + n.val % 8 = n.val := by omega
  have T : n.val / 8 < cfg0.N := Nat.lt_of_lt_of_eq (by omega) N_0.symm
  have h2 := fwdEnd_kept_at (fwdIn_holds m c ⟨n.val / 8, T⟩) (fwdFound_at m c ⟨n.val / 8, T⟩) ⟨n.val % 8, by omega⟩ h e l
  refine (arr0_5_at (U1 m) c ⟨n.val / 8, T⟩ ⟨n.val % 8, by omega⟩ h e l n e1.symm).trans (h2.trans ?_)
  show stateUp (chunks m c h) (8 * (n.val / 8) + n.val % 8) e l = _
  rw [e1]

/-! ## What the backward call is entered with -/

theorem U2_arg (a : Ref sig .tc) (ha : a ∈ argRefs) : U2 m c a = m ((c : Thread nD τ).loc a) := (W2_of m c a (argsIn0 a ha)).trans (U1_arg m c a ha)
theorem U2_v0 : (U2 m c main_v0 : S4096x1024.Idx → EReal) = m ((c : Thread nD τ).loc main_arg1) :=
  (W2_of m c main_v0 (by decide +kernel)).trans (U1_v0 m c)
theorem U2_v1 : (U2 m c main_v1 : S4096x1024.Idx → EReal) = m ((c : Thread nD τ).loc main_arg3) :=
  (W2_of m c main_v1 (by decide +kernel)).trans (U1_v1 m c)
theorem U2_states : U2 m c main_v2_1 = (dat0 (U1 m) c).arrAt 5 cfg0.N := W2_arr m c 5
theorem U2_scores : U2 m c main_v2_2 = (dat0 (U1 m) c).arrAt 6 cfg0.N := W2_arr m c 6

theorem bwdIn_holds (t : Fin cfg1.N) : (bwdIn (U2 m) c t).Holds (chunks m c) (7 - t.val) where
  q j h r l := by
    have e : 512 * (7 - t.val) + (64 * j.val + r.val) = 64 * (8 * (7 - t.val) + j.val) + r.val := by omega
    refine congrArg (· * scale) ((keyOf_at _ j h r l).trans ((iblk1_0_at (U2 m) c t (i := 64 * j.val + r.val) (j := 128 * h.val + l.val) (by omega) (by omega)).trans ?_))
    rw [e, U2_arg m c main_arg0 (by decide)]
  k j h r l := by
    have e : 512 * (7 - t.val) + (64 * j.val + r.val) = 64 * (8 * (7 - t.val) + j.val) + r.val := by omega
    refine (keyOf_at _ j h r l).trans ((iblk1_1_at (U2 m) c t (i := 64 * j.val + r.val) (j := 128 * h.val + l.val) (by omega) (by omega)).trans ?_)
    rw [e, U2_arg m c main_arg0 (by decide)]; rfl
  c j h r l := by
    have e : 512 * (7 - t.val) + (64 * j.val + r.val) = 64 * (8 * (7 - t.val) + j.val) + r.val := by omega
    refine (keyOf_at _ j h r l).trans ((iblk1_3_at (U2 m) c t (i := 64 * j.val + r.val) (j := 128 * h.val + l.val) (by omega) (by omega)).trans ?_)
    rw [e, U2_arg m c main_arg2 (by decide)]; rfl
  v j h r l := by
    have e : 512 * (7 - t.val) + (64 * j.val + r.val) = 64 * (8 * (7 - t.val) + j.val) + r.val := by omega
    refine (valOf_at _ j h r l).trans ((iblk1_2_at (U2 m) c t (i := 64 * j.val + r.val) (j := 256 * h.val + l.val) (by omega) (by omega)).trans ?_)
    rw [e, U2_v0]; rfl
  g j h r l := by
    have e : 512 * (7 - t.val) + (64 * j.val + r.val) = 64 * (8 * (7 - t.val) + j.val) + r.val := by omega
    refine (valOf_at _ j h r l).trans ((iblk1_4_at (U2 m) c t (i := 64 * j.val + r.val) (j := 256 * h.val + l.val) (by omega) (by omega)).trans ?_)
    rw [e, U2_v1]; rfl
  kept j h e l := by
    refine (keptBlk_at _ j h e l).trans ((iblk1_5_at (U2 m) c t j h e l ⟨8 * (7 - t.val) + j.val, by omega⟩ rfl).trans ?_)
    rw [U2_states]; exact states_at m c ⟨8 * (7 - t.val) + j.val, by omega⟩ h e l
  scores j h r s := by
    have e : 512 * (7 - t.val) + (64 * j.val + r.val) = 64 * (8 * (7 - t.val) + j.val) + r.val := by omega
    refine (scoreOf_at _ j h r s).trans ((iblk1_6_at (U2 m) c t (i := 64 * j.val + r.val) (j := 64 * h.val + s.val) (by omega) (by omega)).trans ?_)
    rw [e, U2_scores]; exact scores_at m c (8 * (7 - t.val) + j.val) (by omega) h r s

/-! ## The backward call -/

theorem bwdStart_at (n : ℕ) (hn : n < 8) (x : Vec Ideal S4x256x128 .f32) (hx : ∀ h e l, x (ix3 h e l) = stateDown (chunks m c h) (8 * n) e l) (h e l) :
    startAt n x (ix3 h e l) = stateDown (chunks m c h) (8 * (7 - (7 - n))) e l := by
  rw [startAt_at n hn, show 7 - (7 - n) = n by omega]
  split
  · next h0 => subst h0; rfl
  · exact hx h e l

theorem bwdState_at : ∀ (n : ℕ) (_ : n ≤ 8) (h e l), bwdState (U2 m) c n (ix3 h e l) = stateDown (chunks m c h) (8 * n) e l
  | 0, _, h, e, l => start_at h e l
  | n + 1, hn, h, e, l => by
    have e1 := bwdState_succ (U2 m) c ⟨n, Nat.lt_of_lt_of_eq hn N_1.symm⟩
    rw [show bwdState (U2 m) c (n + 1) = _ from e1]
    unfold bwdAt
    rw [coord1]
    refine (bwdEnd_st_at (by show 7 - n < 8; omega) (bwdIn_holds m c ⟨n, _⟩) (bwdStart_at m c n hn _ (bwdState_at n (by omega))) h e l).trans ?_
    show stateDown (chunks m c h) (8 * (7 - (7 - n) + 1)) e l = _
    rw [show 7 - (7 - n) = n by omega]

/-- The state's gradient that the units of point `t` find. -/
theorem bwdFound_at (t : Fin cfg1.N) (h e l) :
    startAt (grid1.coords t 0).val (bwdState (U2 m) c t.val) (ix3 h e l) = stateDown (chunks m c h) (8 * (7 - (7 - t.val))) e l := by
  rw [coord1]; exact bwdStart_at m c t.val (pt1 t) _ (bwdState_at m c t.val (Nat.le_of_lt (pt1 t))) h e l

/-- The point that handles chunk `n`. -/
def ptOf (n : ℕ) : Fin cfg1.N := ⟨7 - n / 8, Nat.lt_of_lt_of_eq (by omega) N_1.symm⟩

theorem ptOf_val (n : ℕ) (hn : n < 64) : 7 - (ptOf n).val = n / 8 := by show 7 - (7 - n / 8) = _; omega

theorem dq_at (n : ℕ) (hn : n < 64) (h : Fin 4) (t : Fin 64) (l : Fin 128) :
    at2 (r := 4096) (c := 512) ((dat1 (U2 m) c).arrAt 7 cfg1.N) (64 * n + t.val) (128 * h.val + l.val) = (chunks m c h n).dq (stateUp (chunks m c h) n) t l * scale := by
  have e0 : 64 * n + t.val = 512 * (7 - (ptOf n).val) + (64 * (n % 8) + t.val) := by rw [ptOf_val n hn]; omega
  have e1 : 8 * (7 - (ptOf n).val) + n % 8 = n := by rw [ptOf_val n hn]; omega
  have h2 := bwdEnd_dq_at (bwdIn_holds m c (ptOf n)) (x := startAt (grid1.coords (ptOf n) 0).val (bwdState (U2 m) c (ptOf n).val)) ⟨n % 8, by omega⟩ h t l
  rw [e0]
  refine (arr1_7_at (U2 m) c (ptOf n) (by omega) (by omega)).trans (h2.trans ?_)
  rw [show 8 * (7 - (ptOf n).val) + (⟨n % 8, by omega⟩ : Fin 8).val = n from e1]

theorem dk_at (n : ℕ) (hn : n < 64) (h : Fin 4) (t : Fin 64) (l : Fin 128) :
    at2 (r := 4096) (c := 512) ((dat1 (U2 m) c).arrAt 8 cfg1.N) (64 * n + t.val) (128 * h.val + l.val) = (chunks m c h n).dk (stateDown (chunks m c h) (63 - n)) t l := by
  have e0 : 64 * n + t.val = 512 * (7 - (ptOf n).val) + (64 * (n % 8) + t.val) := by rw [ptOf_val n hn]; omega
  have e1 : 8 * (7 - (ptOf n).val) + n % 8 = n := by rw [ptOf_val n hn]; omega
  have h2 := bwdEnd_dk_at (by omega) (bwdIn_holds m c (ptOf n)) (bwdFound_at m c (ptOf n)) ⟨n % 8, by omega⟩ h t l
  rw [e0]
  refine (arr1_8_at (U2 m) c (ptOf n) (by omega) (by omega)).trans (h2.trans ?_)
  rw [show 8 * (7 - (ptOf n).val) + (⟨n % 8, by omega⟩ : Fin 8).val = n from e1]

theorem dv_at (n : ℕ) (hn : n < 64) (h : Fin 4) (t : Fin 64) (e : Fin 256) :
    at2 (r := 4096) (c := 1024) ((dat1 (U2 m) c).arrAt 9 cfg1.N) (64 * n + t.val) (256 * h.val + e.val) = (chunks m c h n).dv (stateDown (chunks m c h) (63 - n)) t e := by
  have e0 : 64 * n + t.val = 512 * (7 - (ptOf n).val) + (64 * (n % 8) + t.val) := by rw [ptOf_val n hn]; omega
  have e1 : 8 * (7 - (ptOf n).val) + n % 8 = n := by rw [ptOf_val n hn]; omega
  have h2 := bwdEnd_dv_at (by omega) (bwdIn_holds m c (ptOf n)) (bwdFound_at m c (ptOf n)) ⟨n % 8, by omega⟩ h t e
  rw [e0]
  refine (arr1_9_at (U2 m) c (ptOf n) (by omega) (by omega)).trans (h2.trans ?_)
  rw [show 8 * (7 - (ptOf n).val) + (⟨n % 8, by omega⟩ : Fin 8).val = n from e1]

theorem dcum_at (n : ℕ) (hn : n < 64) (h : Fin 4) (t : Fin 64) (l : Fin 128) :
    at2 (r := 4096) (c := 512) ((dat1 (U2 m) c).arrAt 10 cfg1.N) (64 * n + t.val) (128 * h.val + l.val)
      = (chunks m c h n).dcum (stateUp (chunks m c h) n) (stateDown (chunks m c h) (63 - n)) t l := by
  have e0 : 64 * n + t.val = 512 * (7 - (ptOf n).val) + (64 * (n % 8) + t.val) := by rw [ptOf_val n hn]; omega
  have e1 : 8 * (7 - (ptOf n).val) + n % 8 = n := by rw [ptOf_val n hn]; omega
  have h2 := bwdEnd_dcum_at (by omega) (bwdIn_holds m c (ptOf n)) (bwdFound_at m c (ptOf n)) ⟨n % 8, by omega⟩ h t l
  rw [e0]
  refine (arr1_10_at (U2 m) c (ptOf n) (by omega) (by omega)).trans (h2.trans ?_)
  rw [show 8 * (7 - (ptOf n).val) + (⟨n % 8, by omega⟩ : Fin 8).val = n from e1]

end Cert.KernelIdeal.Own
-- ==== Proof.Reference.Reads.lean ====
/-
  Reading the reference's buffers: what an operation of a straight-line part leaves in its own buffer, in terms of what its
  operands hold at the end, for a part that writes every buffer once.
-/
module

public import proofs.«01_k».proof.Proof.Reference.Writes
public import Idealize.ShloMosaic.Lib.StableHlo.RunRead

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The part `ops`, entered at `V`, writes the buffers `W` in order; `R` agrees with its end except at the buffers `L`, which
    it doesn't read or which are written again later. -/
structure Part (ops : List (HloOp τ sig (Elt F))) (W : List (Ref sig .tc)) (V : Valuation τ sig (Elt F)) (L : List (Ref sig .tc))
    (R : (r : Ref sig .tc) → r.ty.Contents (Elt F)) : Prop where
  writes : WritesAre ops W
  agree : ∀ r, r ∉ L → R r = after ops V (Proc.devRef .tc r)

section
variable {ops : List (HloOp τ sig (Elt F))} {W L : List (Ref sig .tc)} {V : Valuation τ sig (Elt F)} {R : (r : Ref sig .tc) → r.ty.Contents (Elt F)} (p : Part ops W V L R)
include p

/-- What an operand holds when operation `i` reads it is what it holds at the end. -/
theorem Part.operand (i : ℕ) {r : Ref sig .tc} (h : r ∉ W.drop i ++ L) : upto ops V i (Proc.devRef .tc r) = R r := by
  rw [List.mem_append, not_or] at h
  have e : after ops V = after (ops.drop i) (after (ops.take i) V) := by
    conv_lhs => rw [← List.take_append_drop i ops]
    exact after_append _ _ V
  rw [p.agree r h.2, e]
  have hW : WritesAre (ops.drop i) (W.drop i) := by
    show (ops.drop i).map HloOp.writes = _
    rw [List.map_drop, p.writes, List.map_drop]
  exact (after_of_writes_sub _ _ (forall_writes_sub_of_map hW) h.1).symm

/-- Operation `i` leaves its result in its buffer. -/
theorem Part.result (i : ℕ) {op : HloOp τ sig (Elt F)} (hop : ops.drop i = op :: ops.drop (i + 1)) {r : Ref sig .tc} (h : r ∉ W.drop (i + 1) ++ L) :
    R r = op.result (upto ops V i) (Proc.devRef .tc r) := by
  rw [List.mem_append, not_or] at h
  rw [p.agree r h.2]
  have hW : WritesAre (ops.drop (i + 1)) (W.drop (i + 1)) := by
    show (ops.drop (i + 1)).map HloOp.writes = _
    rw [List.map_drop, p.writes, List.map_drop]
  exact after_last_write _ hop hW h.1 V

variable {a b e y : Ref sig .tc}

theorem Part.nullary (i : ℕ) {v : y.ty.Contents (Elt F)} {hy} (hop : ops.drop i = StableHlo.nullary y v hy :: ops.drop (i + 1))
    (h : y ∉ W.drop (i + 1) ++ L := by decide +kernel) : R y = v := by
  rw [p.result i hop h, nullary_result']

theorem Part.unary (i : ℕ) {f : a.ty.Contents (Elt F) → y.ty.Contents (Elt F)} {ha hy} (hop : ops.drop i = StableHlo.unary a y f ha hy :: ops.drop (i + 1))
    (h : y ∉ W.drop (i + 1) ++ L := by decide +kernel) (h1 : a ∉ W.drop i ++ L := by decide +kernel) : R y = f (R a) := by
  rw [p.result i hop h, unary_result', p.operand i h1]

theorem Part.binary (i : ℕ) {f : a.ty.Contents (Elt F) → b.ty.Contents (Elt F) → y.ty.Contents (Elt F)} {ha hb hy}
    (hop : ops.drop i = StableHlo.binary a b y f ha hb hy :: ops.drop (i + 1))
    (h : y ∉ W.drop (i + 1) ++ L := by decide +kernel) (h1 : a ∉ W.drop i ++ L := by decide +kernel) (h2 : b ∉ W.drop i ++ L := by decide +kernel) :
    R y = f (R a) (R b) := by
  rw [p.result i hop h, binary_result', p.operand i h1, p.operand i h2]

theorem Part.ternary (i : ℕ) {f : a.ty.Contents (Elt F) → b.ty.Contents (Elt F) → e.ty.Contents (Elt F) → y.ty.Contents (Elt F)} {ha hb he hy}
    (hop : ops.drop i = StableHlo.ternary a b e y f ha hb he hy :: ops.drop (i + 1))
    (h : y ∉ W.drop (i + 1) ++ L := by decide +kernel) (h1 : a ∉ W.drop i ++ L := by decide +kernel) (h2 : b ∉ W.drop i ++ L := by decide +kernel) (h3 : e ∉ W.drop i ++ L := by decide +kernel) :
    R y = f (R a) (R b) (R e) := by
  rw [p.result i hop h, ternary_result', p.operand i h1, p.operand i h2, p.operand i h3]

theorem Part.reshape (i : ℕ) {he hn ha hy} (hop : ops.drop i = StableHlo.reshape a y he hn ha hy :: ops.drop (i + 1))
    (h : y ∉ W.drop (i + 1) ++ L := by decide +kernel) (h1 : a ∉ W.drop i ++ L := by decide +kernel) : R y = fun j => he ▸ shapeCast y.ty.shape (R a) hn j := by
  rw [p.result i hop h, reshape_result', p.operand i h1]

theorem Part.unaryIndexed (i : ℕ) {n : ℕ} {ix : Fin n → Ref sig .tc} {T : BufTy} {f : a.ty.Contents (Elt F) → (Fin n → T.Contents (Elt F)) → y.ty.Contents (Elt F)}
    {hT ha hix hy} (hop : ops.drop i = StableHlo.unaryIndexed a ix T y f hT ha hix hy :: ops.drop (i + 1))
    (h : y ∉ W.drop (i + 1) ++ L := by decide +kernel) (h1 : a ∉ W.drop i ++ L := by decide +kernel) (hk : ∀ k, ix k ∉ W.drop i ++ L := by decide +kernel) :
    R y = f (R a) (fun k => cast (congrArg (fun U : BufTy => U.Contents (Elt F)) (hT k)) (R (ix k))) := by
  rw [p.result i hop h, unaryIndexed_result', p.operand i h1]
  congr 1; funext k; rw [p.operand i (hk k)]

theorem Part.binaryIndexed (i : ℕ) {n : ℕ} {ix : Fin n → Ref sig .tc} {T : BufTy}
    {f : a.ty.Contents (Elt F) → b.ty.Contents (Elt F) → (Fin n → T.Contents (Elt F)) → y.ty.Contents (Elt F)}
    {hT ha hb hix hy} (hop : ops.drop i = StableHlo.binaryIndexed a b ix T y f hT ha hb hix hy :: ops.drop (i + 1))
    (h : y ∉ W.drop (i + 1) ++ L := by decide +kernel) (h1 : a ∉ W.drop i ++ L := by decide +kernel) (h2 : b ∉ W.drop i ++ L := by decide +kernel) (hk : ∀ k, ix k ∉ W.drop i ++ L := by decide +kernel) :
    R y = f (R a) (R b) (fun k => cast (congrArg (fun U : BufTy => U.Contents (Elt F)) (hT k)) (R (ix k))) := by
  rw [p.result i hop h, binaryIndexed_result', p.operand i h1, p.operand i h2]
  congr 1; funext k; rw [p.operand i (hk k)]

end

end Cert.ReferenceIdeal.Own
-- ==== Proof.Reference.Slabs.lean ====
/-
  One slab of a stacked array, read or replaced at a computed position: an index of the result in terms of the operands'.
-/
module

public import Idealize.ShloMosaic.Lib.Pointwise
public import Idealize.ShloMosaic.Lib.KernelVsHost
public import Idealize.ShloMosaic.Lib.DynamicIndex
public import Idealize.ShloMosaic.Lib.WordCmp

@[expose] public section

noncomputable section

namespace Cert.ReferenceIdeal.Own

open Idealize.ShloMosaic

variable {N a b c d : ℕ}

/-- The slab at `n` of a stack of rank 4 arrays. -/
theorem pick5 (x : (⟨5, ![N, a, b, c, d]⟩ : Shape).Idx → EReal) (start : Fin 5 → ℤ) (hf) (n : Fin N)
    (h0 : start 0 = n.val) (h1 : start 1 = 0) (h2 : start 2 = 0) (h3 : start 3 = 0) (h4 : start 4 = 0)
    (i : Fin a) (j : Fin b) (k : Fin c) (l : Fin d) :
    Host.dynamicSlice (⟨5, ![1, a, b, c, d]⟩ : Shape) x start hf (ix5 0 i j k l) = x (ix5 n i j k l) := by
  have hs : ∀ ax, start ax = ((![n.val, 0, 0, 0, 0] : Fin 5 → ℕ) ax : ℤ) := by
    intro ax; fin_cases ax <;> assumption
  have ho : (⟨5, ![N, a, b, c, d]⟩ : Shape).Slices ![n.val, 0, 0, 0, 0] (⟨5, ![1, a, b, c, d]⟩ : Shape) :=
    ⟨rfl, fun ax => by have := n.isLt; fin_cases ax <;> simp [Shape.size] <;> omega⟩
  rw [Host.dynamicSlice_eq_extractStridedSlice _ x start _ hf ho hs]
  refine congrArg x (funext fun ax => Fin.ext ?_)
  fin_cases ax <;> simp [extractStridedSlice, ix5]

/-- The slab at `n` of a stack of rank 3 arrays. -/
theorem pick4 (x : (⟨4, ![N, a, b, c]⟩ : Shape).Idx → EReal) (start : Fin 4 → ℤ) (hf) (n : Fin N)
    (h0 : start 0 = n.val) (h1 : start 1 = 0) (h2 : start 2 = 0) (h3 : start 3 = 0)
    (i : Fin a) (j : Fin b) (k : Fin c) :
    Host.dynamicSlice (⟨4, ![1, a, b, c]⟩ : Shape) x start hf (ix4 0 i j k) = x (ix4 n i j k) := by
  have hs : ∀ ax, start ax = ((![n.val, 0, 0, 0] : Fin 4 → ℕ) ax : ℤ) := by
    intro ax; fin_cases ax <;> assumption
  have ho : (⟨4, ![N, a, b, c]⟩ : Shape).Slices ![n.val, 0, 0, 0] (⟨4, ![1, a, b, c]⟩ : Shape) :=
    ⟨rfl, fun ax => by have := n.isLt; fin_cases ax <;> simp [Shape.size] <;> omega⟩
  rw [Host.dynamicSlice_eq_extractStridedSlice _ x start _ hf ho hs]
  refine congrArg x (funext fun ax => Fin.ext ?_)
  fin_cases ax <;> simp [extractStridedSlice, ix4]

/-- A stack of rank 4 arrays with the slab at `n` replaced. -/
theorem put5 (x : (⟨5, ![N, a, b, c, d]⟩ : Shape).Idx → EReal) (u : (⟨5, ![1, a, b, c, d]⟩ : Shape).Idx → EReal) (start : Fin 5 → ℤ) (hf) (n : Fin N)
    (h0 : start 0 = n.val) (h1 : start 1 = 0) (h2 : start 2 = 0) (h3 : start 3 = 0) (h4 : start 4 = 0)
    (r : Fin N) (i : Fin a) (j : Fin b) (k : Fin c) (l : Fin d) :
    Host.dynamicUpdateSlice x u start hf (ix5 r i j k l) = if r = n then u (ix5 0 i j k l) else x (ix5 r i j k l) := by
  have hs : ∀ ax, start ax = ((![n.val, 0, 0, 0, 0] : Fin 5 → ℕ) ax : ℤ) := by
    intro ax; fin_cases ax <;> assumption
  have ho : (⟨5, ![N, a, b, c, d]⟩ : Shape).Slices ![n.val, 0, 0, 0, 0] (⟨5, ![1, a, b, c, d]⟩ : Shape) :=
    ⟨rfl, fun ax => by have := n.isLt; fin_cases ax <;> simp [Shape.size] <;> omega⟩
  rw [WordCmp.dynamicUpdateSlice_eq_update x u start hf _ ho hs, updateSlice_apply]
  have hc : (∀ ax : Fin 5, (![n.val, 0, 0, 0, 0] : Fin 5 → ℕ) ax ≤ (ix5 r i j k l ax).val
      ∧ (ix5 r i j k l ax).val < (![n.val, 0, 0, 0, 0] : Fin 5 → ℕ) ax + (⟨5, ![1, a, b, c, d]⟩ : Shape).size (ax.cast rfl)) ↔ r = n := by
    constructor
    · intro h; have := h 0; simp [ix5] at this; omega
    · rintro rfl ax; fin_cases ax <;> simp [ix5, Shape.size]
  by_cases hr : r = n
  · rw [dif_pos (hc.2 hr), if_pos hr]
    subst hr
    refine congrArg u ((Shape.Idx.norm_def _).trans (funext fun ax => Fin.ext ?_))
    fin_cases ax <;> simp [ix5]
  · rw [dif_neg (fun h => hr (hc.1 h)), if_neg hr]

/-- A stack of rank 3 arrays with the slab at `n` replaced. -/
theorem put4 (x : (⟨4, ![N, a, b, c]⟩ : Shape).Idx → EReal) (u : (⟨4, ![1, a, b, c]⟩ : Shape).Idx → EReal) (start : Fin 4 → ℤ) (hf) (n : Fin N)
    (h0 : start 0 = n.val) (h1 : start 1 = 0) (h2 : start 2 = 0) (h3 : start 3 = 0)
    (r : Fin N) (i : Fin a) (j : Fin b) (k : Fin c) :
    Host.dynamicUpdateSlice x u start hf (ix4 r i j k) = if r = n then u (ix4 0 i j k) else x (ix4 r i j k) := by
  have hs : ∀ ax, start ax = ((![n.val, 0, 0, 0] : Fin 4 → ℕ) ax : ℤ) := by
    intro ax; fin_cases ax <;> assumption
  have ho : (⟨4, ![N, a, b, c]⟩ : Shape).Slices ![n.val, 0, 0, 0] (⟨4, ![1, a, b, c]⟩ : Shape) :=
    ⟨rfl, fun ax => by have := n.isLt; fin_cases ax <;> simp [Shape.size] <;> omega⟩
  rw [WordCmp.dynamicUpdateSlice_eq_update x u start hf _ ho hs, updateSlice_apply]
  have hc : (∀ ax : Fin 4, (![n.val, 0, 0, 0] : Fin 4 → ℕ) ax ≤ (ix4 r i j k ax).val
      ∧ (ix4 r i j k ax).val < (![n.val, 0, 0, 0] : Fin 4 → ℕ) ax + (⟨4, ![1, a, b, c]⟩ : Shape).size (ax.cast rfl)) ↔ r = n := by
    constructor
    · intro h; have := h 0; simp [ix4] at this; omega
    · rintro rfl ax; fin_cases ax <;> simp [ix4, Shape.size]
  by_cases hr : r = n
  · rw [dif_pos (hc.2 hr), if_pos hr]
    subst hr
    refine congrArg u ((Shape.Idx.norm_def _).trans (funext fun ax => Fin.ext ?_))
    fin_cases ax <;> simp [ix4]
  · rw [dif_neg (fun h => hr (hc.1 h)), if_neg hr]

end Cert.ReferenceIdeal.Own
end
-- ==== Proof.Reference.Before.lean ====
/-
  What the reference computes before the first scan, read at an index over the extended reals: the formulas of `Chunk.lean`.
-/
module

public import proofs.«01_k».proof.Proof.Chunk
public import proofs.«01_k».proof.Proof.Reference.Reads
public import proofs.«01_k».proof.Proof.Reference.Slabs

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem
open Cert.Chunk (at2 at2_eq at2_of ofArrays)

variable (m : (ℓ : Loc nD τ sig) → Buf (Elt Ideal) ℓ) (c : Dev nD)

/-- What a buffer holds at the end. -/
@[irreducible] def last (r : Ref sig .tc) : r.ty.Contents (Elt Ideal) := V₅ m c (Proc.devRef .tc r)

/-- The buffers that the scans' tests write. -/
abbrev upCW : List (Ref sig .tc) := [main_while0c_c_22, main_while0c_v115]
abbrev downCW : List (Ref sig .tc) := [main_while1c_c_25, main_while1c_v115]

theorem before : Part preI.flatten preW (launchContents m c) (upW ++ midW ++ downW ++ postW ++ upCW ++ downCW) (last m c) where
  writes := preW_eq
  agree r h := by
    simp only [List.mem_append, not_or] at h
    obtain ⟨⟨⟨⟨⟨h2, h3⟩, h4⟩, h5⟩, h6⟩, h7⟩ := h
    rw [last, V₅_keep m c h5, V₄_keep m c h4 h7, V₃_keep m c h3, V₂_keep m c h2 h6, ← afterL_eq_after_flatten]

/-- The head's scale. -/
abbrev scale : EReal := Ideal.ofBits .f32 0x3DB504F3#32

/-- The chunks of the arguments on a device. -/
def chunks (h : Fin 4) (n : ℕ) : Chunk :=
  ofArrays scale (m ((c : Thread nD τ).loc main_arg0)) (m ((c : Thread nD τ).loc main_arg1)) (m ((c : Thread nD τ).loc main_arg2)) (m ((c : Thread nD τ).loc main_arg3)) h n

theorem arg0_end : last m c main_arg0 = m ((c : Thread nD τ).loc main_arg0) := by rw [last]; exact V₅_launch m c (by decide +kernel) (by decide +kernel) (by decide +kernel)
theorem arg1_end : last m c main_arg1 = m ((c : Thread nD τ).loc main_arg1) := by rw [last]; exact V₅_launch m c (by decide +kernel) (by decide +kernel) (by decide +kernel)
theorem arg2_end : last m c main_arg2 = m ((c : Thread nD τ).loc main_arg2) := by rw [last]; exact V₅_launch m c (by decide +kernel) (by decide +kernel) (by decide +kernel)
theorem arg3_end : last m c main_arg3 = m ((c : Thread nD τ).loc main_arg3) := by rw [last]; exact V₅_launch m c (by decide +kernel) (by decide +kernel) (by decide +kernel)

variable (n t s : Fin 64) (h : Fin 4) (k : Fin 128) (e : Fin 256)

theorem at2_ix {r c : ℕ} (y : (⟨2, ![r, c]⟩ : Shape).Idx → EReal) (i : Fin r) (j : Fin c) {i' j' : ℕ} (hi : i.val = i') (hj : j.val = j') :
    y (ix2 i j) = at2 y i' j' := by
  subst hi hj; exact (at2_eq y i j).symm

theorem v5_at : last m c main_v5 (ix5 0 n t h k) = (chunks m c h n).k t k := by
  rw [(before m c).reshape 6 rfl, (before m c).unary 1 rfl, arg0_end]
  pointwise
  exact at2_ix (r := 4096) (c := 1024) _ _ _ (by simp only []; omega) (by simp only []; omega)

theorem v4_at : last m c main_v4 (ix5 0 n t h k) = (chunks m c h n).q t k := by
  rw [(before m c).binary 5 rfl, (before m c).unary 4 rfl, (before m c).nullary 3 rfl, (before m c).reshape 2 rfl, (before m c).unary 0 rfl, arg0_end]
  pointwise
  exact congrArg (· * scale) (at2_ix (r := 4096) (c := 1024) _ _ _ (by simp only []; omega) (by simp only []; omega))

theorem v6_at : last m c main_v6 (ix5 0 n t h e) = (chunks m c h n).v t e := by
  rw [(before m c).reshape 7 rfl, arg1_end]
  pointwise
  exact at2_ix (r := 4096) (c := 1024) _ _ _ (by simp only []; omega) (by simp only []; omega)

theorem v7_at : last m c main_v7 (ix5 0 n t h k) = (chunks m c h n).c t k := by
  rw [(before m c).reshape 8 rfl, arg2_end]
  pointwise
  exact at2_ix (r := 4096) (c := 512) _ _ _ (by simp only []; omega) (by simp only []; omega)

theorem v8_at : last m c main_v8 (ix5 0 n 0 h k) = (chunks m c h n).c 63 k := by
  rw [(before m c).unary 9 rfl]; pointwise [v7_at]

theorem v9_at : last m c main_v9 (ix5 0 n t h k) = (chunks m c h n).ep t k := by
  rw [(before m c).unary 10 rfl]; pointwise [v7_at, Chunk.ep]
theorem v11_at : last m c main_v11 (ix5 0 n t h k) = (chunks m c h n).en t k := by
  rw [(before m c).unary 12 rfl, (before m c).unary 11 rfl]; pointwise [v7_at, Chunk.en]
theorem v12_at : last m c main_v12 (ix5 0 n t h k) = (chunks m c h n).qa t k := by
  rw [(before m c).binary 13 rfl]; pointwise [v4_at, v9_at, Chunk.qa]
theorem v13_at : last m c main_v13 (ix5 0 n t h k) = (chunks m c h n).kb t k := by
  rw [(before m c).binary 14 rfl]; pointwise [v5_at, v11_at, Chunk.kb]
theorem v14_at : last m c main_v14 (ix5 0 n h t s) = ∑ k, (chunks m c h n).qa t k * (chunks m c h n).kb s k := by
  rw [(before m c).binary 15 rfl]; pointwise [v12_at, v13_at]
theorem v15_at : last m c main_v15 (ix5 0 n t h k) = (chunks m c h n).qc t k := by
  rw [(before m c).binary 16 rfl]; pointwise [v4_at, v11_at, Chunk.qc]
theorem v16_at : last m c main_v16 (ix5 0 n t h k) = (chunks m c h n).kd t k := by
  rw [(before m c).binary 17 rfl]; pointwise [v5_at, v9_at, Chunk.kd]
theorem v17_at : last m c main_v17 (ix5 0 n h t s) = ∑ k, (chunks m c h n).qc t k * (chunks m c h n).kd s k := by
  rw [(before m c).binary 18 rfl]; pointwise [v15_at, v16_at]

theorem v23_at : last m c main_v23 (ix2 t s) = if s ≤ t then 1#1 else 0#1 := by
  rw [(before m c).binary 24 rfl, (before m c).unary 22 rfl, (before m c).unary 20 rfl, (before m c).unary 23 rfl, (before m c).unary 21 rfl, (before m c).nullary 19 rfl]
  pointwise
  simp only [IntOp.cmpi, BitVec.sle, toInt_ofNat_of_lt (show t.val < 2 ^ 31 by omega), toInt_ofNat_of_lt (show s.val < 2 ^ 31 by omega), Nat.cast_le, Fin.le_def]
  by_cases hts : s.val ≤ t.val
  · rw [if_pos hts, decide_eq_true (by exact_mod_cast hts)]; rfl
  · rw [if_neg hts, decide_eq_false (by exact_mod_cast hts)]; rfl
theorem v24_1_at : last m c main_v24_1 (ix5 0 n h t s) = if s ≤ t then 1#1 else 0#1 := by
  rw [(before m c).unary (a := main_v23) (y := main_v24_1) (f := broadcastInDim S1x64x4x64x64 ![3, 4] bcast_S64x64_S1x64x4x64x64_3_4) 25 rfl]; pointwise [v23_at]
theorem v24_at : last m c main_v24_0 (ix5 0 n h t s) = (chunks m c h n).sc t s := by
  rw [(before m c).ternary (a := main_v24_1) (b := main_v14) (e := main_v17) (y := main_v24_0) (f := select) 26 rfl]; pointwise [v24_1_at, v14_at, v17_at, Chunk.sc]; split <;> rfl

theorem v25_at : last m c main_v25 (ix5 0 n h e t) = ∑ s, (chunks m c h n).v s e * (chunks m c h n).sc t s := by
  rw [(before m c).binary 27 rfl]; pointwise [v6_at, v24_at]
theorem v26_at : last m c main_v26 (ix5 0 n t h e) = ∑ s, (chunks m c h n).sc t s * (chunks m c h n).v s e := by
  rw [(before m c).unary 28 rfl]; pointwise [v25_at, mul_comm]
theorem v27_at : last m c main_v27 (ix5 0 n t h k) = (chunks m c h n).qa t k := by
  rw [(before m c).binary 29 rfl]; pointwise [v4_at, v9_at, Chunk.qa]
theorem v30_at : last m c main_v30 (ix5 0 n t h k) = (chunks m c h n).ed t k := by
  rw [(before m c).unary 32 rfl, (before m c).binary 31 rfl, (before m c).unary 30 rfl]; pointwise [v7_at, v8_at, Chunk.ed]
theorem v31_at : last m c main_v31 (ix5 0 n t h k) = (chunks m c h n).ke t k := by
  rw [(before m c).binary 33 rfl]; pointwise [v5_at, v30_at, Chunk.ke]
theorem v33_at : last m c main_v33 (ix4 0 n h k) = (chunks m c h n).dec k := by
  rw [(before m c).unary 35 rfl, (before m c).reshape 34 rfl]; pointwise [v8_at, Chunk.dec]
theorem v34_at : last m c main_v34 (ix5 n 0 t h k) = (chunks m c h n).qa t k := by
  rw [(before m c).unary 36 rfl]; pointwise [v27_at]
theorem v35_at : last m c main_v35 (ix5 n 0 t h k) = (chunks m c h n).ke t k := by
  rw [(before m c).unary 37 rfl]; pointwise [v31_at]
theorem v36_at : last m c main_v36 (ix5 n 0 t h e) = (chunks m c h n).v t e := by
  rw [(before m c).unary 38 rfl]; pointwise [v6_at]
theorem v37_at : last m c main_v37 (ix4 n 0 h k) = (chunks m c h n).dec k := by
  rw [(before m c).unary 39 rfl]; pointwise [v33_at]

end Cert.ReferenceIdeal.Own
end
-- ==== Proof.Reference.Up.lean ====
/-
  The reference's first scan over the extended reals: the state before each chunk, and the rows that the trips leave.
-/
module

public import proofs.«01_k».proof.Proof.Reference.Before

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem
open Cert.Chunk (stateUp)

variable (m : (ℓ : Loc nD τ sig) → Buf (Elt Ideal) ℓ) (c : Dev nD)

/-! ## A trip: its entry, its middle, its end -/

/-- What a buffer holds before the test of trip `i`. -/
@[irreducible] def upEnd (i : ℕ) (r : Ref sig .tc) : r.ty.Contents (Elt Ideal) := upAt m i c (Proc.devRef .tc r)
/-- What a buffer holds when trip `i` has computed its results and not yet copied them over what it carries. -/
@[irreducible] def upMid (i : ℕ) (r : Ref sig .tc) : r.ty.Contents (Elt Ideal) := after (upI.flatten.take 50) (after upC (upAt m i c)) (Proc.devRef .tc r)

theorem upFirst : Part preI.flatten preW (launchContents m c) [] (upEnd m c 0) where
  writes := preW_eq
  agree r _ := by rw [upEnd, upAt, atTrip_zero, ← afterL_eq_after_flatten]

theorem upTrip (i : ℕ) : Part (upI.flatten.take 50) (upW.take 50) (after upC (upAt m i c)) [] (upMid m c i) where
  writes := rfl
  agree r _ := by rw [upMid]

theorem upNext (i : ℕ) : Part upI.flatten upW (after upC (upAt m i c)) [] (upEnd m c (i + 1)) where
  writes := upW_eq
  agree r _ := by rw [upEnd, upAt, atTrip_succ, ← afterL_eq_after_flatten]

/-- What a trip doesn't write before its copies is as the trip found it. -/
theorem upMid_of (i : ℕ) (r : Ref sig .tc) (h : r ∉ upW.take 50 := by decide +kernel) (hc : r ∉ upCW := by decide +kernel) : upMid m c i r = upEnd m c i r := by
  rw [upMid, upEnd]; exact (after_of_writes_sub _ _ (forall_writes_sub_of_map (upTrip m c i).writes) h).trans (upC_keep hc _)

/-- What no trip writes is as the operations before the scan left it. -/
theorem upEnd_of (i : ℕ) (r : Ref sig .tc) (h : r ∉ upW ++ midW ++ downW ++ postW ++ upCW ++ downCW := by decide +kernel) : upEnd m c i r = last m c r := by
  rw [(before m c).agree r h, ← afterL_eq_after_flatten]
  simp only [List.mem_append, not_or] at h
  rw [upEnd]; exact upAt_keep m c h.1.1.1.1.1 h.1.2 i

/-- A carried buffer is, before the next test, what the trip computed for it. -/
theorem upEnd_copy (i : ℕ) (j : ℕ) {a y : Ref sig .tc} {f : a.ty.Contents (Elt Ideal) → y.ty.Contents (Elt Ideal)} {ha hy}
    (hop : (upI (F := Ideal)).flatten.drop j = StableHlo.unary a y f ha hy :: (upI (F := Ideal)).flatten.drop (j + 1))
    (h : y ∉ upW.drop (j + 1) := by decide +kernel) (h1 : a ∉ upW.drop 50 := by decide +kernel) (h2 : a ∉ upW.drop j := by decide +kernel) :
    upEnd m c (i + 1) y = f (upMid m c i a) := by
  rw [(upNext m c i).unary j hop (by simpa using h) (by simpa using h2), ← (upNext m c i).operand 50 (by simpa using h1), upMid]; rfl

/-! ## The slabs of a chunk -/

variable (n t : Fin 64) (h : Fin 4) (k : Fin 128) (e : Fin 256)

/-- The counter at trip `n`. -/
theorem upCtr (j : S_.Idx) : BitVec.toInt (upMid m c n main_v42_4 j) = n.val := by
  rw [upMid_of m c n main_v42_4, upEnd, upAt_ctr]
  show (Scf.iv 0#32 1#32 n.val).toInt = _
  rw [show Scf.iv 0#32 1#32 n.val = BitVec.ofNat 32 n.val by simp [Scf.iv]]
  exact toInt_ofNat_of_lt (by omega)

theorem up_q : upMid m c n main_while0b_v115 (ix4 0 t h k) = (chunks m c h n).qa t k := by
  rw [(upTrip m c n).reshape 5 rfl, (upTrip m c n).unaryIndexed 4 rfl]
  pointwise
  refine (pick5 (upMid m c n main_v42_0) _ sliceFits_S64x1x64x4x128_S1x1x64x4x128 n (upCtr m c n _) (congrArg BitVec.toInt (congrFun ((upTrip m c n).nullary 0 rfl) _))
    (congrArg BitVec.toInt (congrFun ((upTrip m c n).nullary 1 rfl) _)) (congrArg BitVec.toInt (congrFun ((upTrip m c n).nullary 2 rfl) _))
    (congrArg BitVec.toInt (congrFun ((upTrip m c n).nullary 3 rfl) _)) 0 t h k).trans ?_
  rw [upMid_of m c n main_v42_0, upEnd_of m c n main_v42_0, (before m c).unary 49 rfl]
  exact v34_at m c n t h k

theorem up_k : upMid m c n main_while0b_v116 (ix4 0 t h k) = (chunks m c h n).ke t k := by
  rw [(upTrip m c n).reshape 11 rfl, (upTrip m c n).unaryIndexed 10 rfl]
  pointwise
  refine (pick5 (upMid m c n main_v42_1) _ sliceFits_S64x1x64x4x128_S1x1x64x4x128 n (upCtr m c n _) (congrArg BitVec.toInt (congrFun ((upTrip m c n).nullary 6 rfl) _))
    (congrArg BitVec.toInt (congrFun ((upTrip m c n).nullary 7 rfl) _)) (congrArg BitVec.toInt (congrFun ((upTrip m c n).nullary 8 rfl) _))
    (congrArg BitVec.toInt (congrFun ((upTrip m c n).nullary 9 rfl) _)) 0 t h k).trans ?_
  rw [upMid_of m c n main_v42_1, upEnd_of m c n main_v42_1, (before m c).unary 50 rfl]
  exact v35_at m c n t h k

theorem up_v : upMid m c n main_while0b_v117 (ix4 0 t h e) = (chunks m c h n).v t e := by
  rw [(upTrip m c n).reshape 17 rfl, (upTrip m c n).unaryIndexed 16 rfl]
  pointwise
  refine (pick5 (upMid m c n main_v42_2) _ sliceFits_S64x1x64x4x256_S1x1x64x4x256 n (upCtr m c n _) (congrArg BitVec.toInt (congrFun ((upTrip m c n).nullary 12 rfl) _))
    (congrArg BitVec.toInt (congrFun ((upTrip m c n).nullary 13 rfl) _)) (congrArg BitVec.toInt (congrFun ((upTrip m c n).nullary 14 rfl) _))
    (congrArg BitVec.toInt (congrFun ((upTrip m c n).nullary 15 rfl) _)) 0 t h e).trans ?_
  rw [upMid_of m c n main_v42_2, upEnd_of m c n main_v42_2, (before m c).unary 51 rfl]
  exact v36_at m c n t h e

theorem up_w : upMid m c n main_while0b_v118 (ix3 0 h k) = (chunks m c h n).dec k := by
  rw [(upTrip m c n).reshape 22 rfl, (upTrip m c n).unaryIndexed 21 rfl]
  pointwise
  refine (pick4 (upMid m c n main_v42_3) _ sliceFits_S64x1x4x128_S1x1x4x128 n (upCtr m c n _) (congrArg BitVec.toInt (congrFun ((upTrip m c n).nullary 18 rfl) _))
    (congrArg BitVec.toInt (congrFun ((upTrip m c n).nullary 19 rfl) _)) (congrArg BitVec.toInt (congrFun ((upTrip m c n).nullary 20 rfl) _))
    0 h k).trans ?_
  rw [upMid_of m c n main_v42_3, upEnd_of m c n main_v42_3, (before m c).unary 52 rfl]
  exact v37_at m c n h k

/-! ## The step -/

/-- The state before the test of trip `i`. -/
def upS (i : ℕ) (h : Fin 4) : Chunk.State := fun e k => upEnd m c i main_v42_5 (ix4 0 h k e)

theorem up_w4 : upMid m c n main_while0b_v122 (ix4 0 h k e) = (chunks m c h n).dec k := by
  rw [(upTrip m c n).unary 26 rfl, (upTrip m c n).unary 25 rfl]; pointwise [up_w]

theorem up_out : upMid m c n main_while0b_v120 (ix4 0 t h e) = ∑ k, upS m c n h e k * (chunks m c h n).qa t k := by
  rw [(upTrip m c n).unary 24 rfl, (upTrip m c n).binary 23 rfl]; pointwise [up_q, upMid_of m c n main_v42_5, upS]

theorem up_next : upMid m c n main_while0b_v125 (ix4 0 h k e)
    = upS m c n h e k * (chunks m c h n).dec k + ∑ s, (chunks m c h n).v s e * (chunks m c h n).ke s k := by
  rw [(upTrip m c n).binary 29 rfl, (upTrip m c n).binary 27 rfl, (upTrip m c n).binary 28 rfl]
  pointwise [up_w4, up_k, up_v, upMid_of m c n main_v42_5, upS, mul_comm ((chunks m c h n).v _ _)]

theorem up_row_out (r : Fin 64) : upMid m c n main_while0b_v126 (ix5 r 0 t h e) = if r = n then upMid m c n main_while0b_v120 (ix4 0 t h e) else upEnd m c n main_v42_6 (ix5 r 0 t h e) := by
  rw [(upTrip m c n).binaryIndexed 35 rfl, (upTrip m c n).unary 30 rfl, ← upMid_of m c n main_v42_6]
  refine (put5 (upMid m c n main_v42_6) _ _ updateFits_S64x1x64x4x256_S1x1x64x4x256 n (upCtr m c n _) (congrArg BitVec.toInt (congrFun ((upTrip m c n).nullary 31 rfl) _))
    (congrArg BitVec.toInt (congrFun ((upTrip m c n).nullary 32 rfl) _)) (congrArg BitVec.toInt (congrFun ((upTrip m c n).nullary 33 rfl) _))
    (congrArg BitVec.toInt (congrFun ((upTrip m c n).nullary 34 rfl) _)) r 0 t h e).trans ?_
  refine if_congr Iff.rfl ?_ rfl
  show broadcastInDim S1x1x64x4x256 ![1, 2, 3, 4] bcast_S1x64x4x256_S1x1x64x4x256_1_2_3_4 (upMid m c n main_while0b_v120) _ = _
  pointwise

theorem up_row_state (r : Fin 64) : upMid m c n main_while0b_v127 (ix5 r 0 h k e) = if r = n then upMid m c n main_v42_5 (ix4 0 h k e) else upEnd m c n main_v42_7 (ix5 r 0 h k e) := by
  rw [(upTrip m c n).binaryIndexed 41 rfl, (upTrip m c n).unary 36 rfl, ← upMid_of m c n main_v42_7]
  refine (put5 (upMid m c n main_v42_7) _ _ updateFits_S64x1x4x128x256_S1x1x4x128x256 n (upCtr m c n _) (congrArg BitVec.toInt (congrFun ((upTrip m c n).nullary 37 rfl) _))
    (congrArg BitVec.toInt (congrFun ((upTrip m c n).nullary 38 rfl) _)) (congrArg BitVec.toInt (congrFun ((upTrip m c n).nullary 39 rfl) _))
    (congrArg BitVec.toInt (congrFun ((upTrip m c n).nullary 40 rfl) _)) r 0 h k e).trans ?_
  refine if_congr Iff.rfl ?_ rfl
  show broadcastInDim S1x1x4x128x256 ![1, 2, 3, 4] bcast_S1x4x128x256_S1x1x4x128x256_1_2_3_4 (upMid m c n main_v42_5) _ = _
  pointwise

theorem up_row_dec (r : Fin 64) : upMid m c n main_while0b_v128 (ix5 r 0 h k 0) = if r = n then upMid m c n main_while0b_v121 (ix4 0 h k 0) else upEnd m c n main_v42_8 (ix5 r 0 h k 0) := by
  rw [(upTrip m c n).binaryIndexed 47 rfl, (upTrip m c n).unary 42 rfl, ← upMid_of m c n main_v42_8]
  refine (put5 (upMid m c n main_v42_8) _ _ updateFits_S64x1x4x128x1_S1x1x4x128x1 n (upCtr m c n _) (congrArg BitVec.toInt (congrFun ((upTrip m c n).nullary 43 rfl) _))
    (congrArg BitVec.toInt (congrFun ((upTrip m c n).nullary 44 rfl) _)) (congrArg BitVec.toInt (congrFun ((upTrip m c n).nullary 45 rfl) _))
    (congrArg BitVec.toInt (congrFun ((upTrip m c n).nullary 46 rfl) _)) r 0 h k 0).trans ?_
  refine if_congr Iff.rfl ?_ rfl
  show broadcastInDim S1x1x4x128x1 ![1, 2, 3, 4] bcast_S1x4x128x1_S1x1x4x128x1_1_2_3_4 (upMid m c n main_while0b_v121) _ = _
  pointwise

/-! ## All trips -/

/-- The state before trip `i`. -/
theorem up_state (h k e) : ∀ i ≤ 64, upS m c i h e k = stateUp (chunks m c h) i e k
  | 0, _ => by
    rw [upS, (upFirst m c).unary 54 rfl, id, (upFirst m c).unary 41 rfl, (upFirst m c).nullary 40 rfl]
    pointwise
    rfl
  | i + 1, hi => by
    rw [upS, upEnd_copy m c i 51 rfl]
    refine (up_next m c ⟨i, hi⟩ h k e).trans ?_
    rw [up_state h k e i (by omega)]
    rfl

/-- The rows that the trips before `i` left. -/
theorem up_rows : ∀ i ≤ 64, ∀ n : Fin 64, n.val < i →
    (∀ t h e, upEnd m c i main_v42_6 (ix5 n 0 t h e) = ∑ k, (chunks m c h n).qa t k * stateUp (chunks m c h) n e k)
    ∧ (∀ h k e, upEnd m c i main_v42_7 (ix5 n 0 h k e) = stateUp (chunks m c h) n e k)
    ∧ (∀ h k, upEnd m c i main_v42_8 (ix5 n 0 h k 0) = (chunks m c h n).dec k)
  | 0, _, n, hn => absurd hn (Nat.not_lt_zero _)
  | i + 1, hi, n, hn => by
    rw [upEnd_copy m c i 52 rfl, upEnd_copy m c i 53 rfl, upEnd_copy m c i 54 rfl]
    refine ⟨fun t h e => (up_row_out m c ⟨i, hi⟩ t h e n).trans ?_, fun h k e => (up_row_state m c ⟨i, hi⟩ h k e n).trans ?_,
      fun h k => (up_row_dec m c ⟨i, hi⟩ h k n).trans ?_⟩
    all_goals split
    · rename_i hr; subst hr
      refine (up_out m c ⟨i, hi⟩ t h e).trans (Finset.sum_congr rfl fun k _ => ?_ : (_ : EReal) = _)
      rw [up_state m c h k e i (by omega)]; exact mul_comm _ _
    · rename_i hr
      exact (up_rows i (by omega) n (lt_of_le_of_ne (by omega) fun h => hr (Fin.ext h))).1 t h e
    · rename_i hr; subst hr
      rw [upMid_of m c _ main_v42_5]
      exact up_state m c h k e i (by omega)
    · rename_i hr
      exact (up_rows i (by omega) n (lt_of_le_of_ne (by omega) fun h => hr (Fin.ext h))).2.1 h k e
    · rename_i hr; subst hr
      rw [(upTrip m c _).unary 25 rfl]; pointwise; exact up_w m c ⟨i, hi⟩ h k
    · rename_i hr
      exact (up_rows i (by omega) n (lt_of_le_of_ne (by omega) fun h => hr (Fin.ext h))).2.2 h k

/-- What the last test leaves is there at the end. -/
theorem last_up (r : Ref sig .tc) (h : r ∉ midW ++ downW ++ postW ++ upCW ++ downCW := by decide +kernel) : last m c r = upEnd m c 64 r := by
  simp only [List.mem_append, not_or] at h
  rw [last, upEnd, V₅_keep m c h.1.1.2, V₄_keep m c h.1.1.1.2 h.2, V₃_keep m c h.1.1.1.1, V₂, upC_keep h.1.2]

end Cert.ReferenceIdeal.Own
end
-- ==== Proof.Reference.Down.lean ====
/-
  The reference's second scan over the extended reals: the gradient of the state after each chunk, and the rows that the
  trips leave. Trip `i` works on chunk `63 - i`.
-/
module

public import proofs.«01_k».proof.Proof.Reference.Up

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem
open Cert.Chunk (stateUp stateDown)

variable (m : (ℓ : Loc nD τ sig) → Buf (Elt Ideal) ℓ) (c : Dev nD)

/-! ## Between the scans -/

theorem between : Part midI.flatten midW (V₂ m c) (downW ++ postW ++ downCW) (last m c) where
  writes := midW_eq
  agree r h := by
    simp only [List.mem_append, not_or] at h
    rw [last, V₅_keep m c h.1.2, V₄_keep m c h.1.1 h.2, ← afterL_eq_after_flatten]

section
variable (n t : Fin 64) (h : Fin 4) (k : Fin 128) (e : Fin 256)

theorem v47_at : last m c main_v47 (ix5 0 n t h e) = (chunks m c h n).g t e := by
  rw [(between m c).reshape 5 rfl, arg3_end]
  pointwise
  exact at2_ix (r := 4096) (c := 1024) _ _ _ (by simp only []; omega) (by simp only []; omega)

theorem v48_at : last m c main_v48 (ix5 n 0 t h e) = (chunks m c h n).g t e := by
  rw [(between m c).unary 6 rfl]; pointwise [v47_at]

/-- The first result, by chunk and head. -/
theorem v44_at : last m c main_v44 (ix5 0 n t h e) = (chunks m c h n).out (stateUp (chunks m c h) n) t e := by
  rw [(between m c).binary 1 rfl, (between m c).unary 0 rfl]
  pointwise [v26_at, Chunk.out, last_up m c main_v42_6, (up_rows m c 64 le_rfl n n.isLt).1]
end

/-! ## A trip: its entry, its middle, its end -/

/-- What a buffer holds before the test of trip `i`. -/
@[irreducible] def downEnd (i : ℕ) (r : Ref sig .tc) : r.ty.Contents (Elt Ideal) := downAt m i c (Proc.devRef .tc r)
/-- What a buffer holds when trip `i` has computed its results and not yet copied them over what it carries. -/
@[irreducible] def downMid (i : ℕ) (r : Ref sig .tc) : r.ty.Contents (Elt Ideal) := after (downI.flatten.take 84) (after downC (downAt m i c)) (Proc.devRef .tc r)

theorem downFirst : Part midI.flatten midW (V₂ m c) [] (downEnd m c 0) where
  writes := midW_eq
  agree r _ := by rw [downEnd, downAt, atTrip_zero, ← afterL_eq_after_flatten]

theorem downTrip (i : ℕ) : Part (downI.flatten.take 84) (downW.take 84) (after downC (downAt m i c)) [] (downMid m c i) where
  writes := rfl
  agree r _ := by rw [downMid]

theorem downNext (i : ℕ) : Part downI.flatten downW (after downC (downAt m i c)) [] (downEnd m c (i + 1)) where
  writes := downW_eq
  agree r _ := by rw [downEnd, downAt, atTrip_succ, ← afterL_eq_after_flatten]

/-- What a trip doesn't write before its copies is as the trip found it. -/
theorem downMid_of (i : ℕ) (r : Ref sig .tc) (h : r ∉ downW.take 84 := by decide +kernel) (hc : r ∉ downCW := by decide +kernel) :
    downMid m c i r = downEnd m c i r := by
  rw [downMid, downEnd]; exact (after_of_writes_sub _ _ (forall_writes_sub_of_map (downTrip m c i).writes) h).trans (downC_keep hc _)

/-- What no trip writes is as the operations before the scan left it. -/
theorem downEnd_of (i : ℕ) (r : Ref sig .tc) (h : r ∉ downW ++ postW ++ downCW := by decide +kernel) : downEnd m c i r = last m c r := by
  rw [(between m c).agree r h, ← afterL_eq_after_flatten]
  simp only [List.mem_append, not_or] at h
  rw [downEnd]; exact downAt_keep m c h.1.1 h.2 i

/-- A carried buffer is, before the next test, what the trip computed for it. -/
theorem downEnd_copy (i : ℕ) (j : ℕ) {a y : Ref sig .tc} {f : a.ty.Contents (Elt Ideal) → y.ty.Contents (Elt Ideal)} {ha hy}
    (hop : (downI (F := Ideal)).flatten.drop j = StableHlo.unary a y f ha hy :: (downI (F := Ideal)).flatten.drop (j + 1))
    (h : y ∉ downW.drop (j + 1) := by decide +kernel) (h1 : a ∉ downW.drop 84 := by decide +kernel) (h2 : a ∉ downW.drop j := by decide +kernel) :
    downEnd m c (i + 1) y = f (downMid m c i a) := by
  rw [(downNext m c i).unary j hop (by simpa using h) (by simpa using h2), ← (downNext m c i).operand 84 (by simpa using h1), downMid]; rfl

/-! ## The slabs of a chunk -/

variable (i t : Fin 64) (h : Fin 4) (k : Fin 128) (e : Fin 256)

theorem row_word : ∀ i : Fin 64, ((64#32 - Scf.iv 0#32 1#32 i.val) - 1#32).toInt = (i.rev.val : ℤ) := by decide +kernel

/-- The chunk of trip `i`. -/
theorem downRow (j : S_.Idx) : BitVec.toInt (downMid m c i main_while1b_v116 j) = i.rev.val := by
  rw [(downTrip m c i).binary 3 rfl, (downTrip m c i).nullary 2 rfl, (downTrip m c i).binary 1 rfl, (downTrip m c i).nullary 0 rfl,
    downMid_of m c i main_v54_6, downEnd, downAt_ctr]
  exact row_word i

theorem down_g : downMid m c i main_while1b_v117 (ix4 0 t h e) = (chunks m c h i.rev).g t e := by
  rw [(downTrip m c i).reshape 9 rfl, (downTrip m c i).unaryIndexed 8 rfl]
  pointwise
  refine (pick5 (downMid m c i main_v54_0) _ sliceFits_S64x1x64x4x256_S1x1x64x4x256 i.rev (downRow m c i _) (congrArg BitVec.toInt (congrFun ((downTrip m c i).nullary 4 rfl) _))
    (congrArg BitVec.toInt (congrFun ((downTrip m c i).nullary 5 rfl) _)) (congrArg BitVec.toInt (congrFun ((downTrip m c i).nullary 6 rfl) _))
    (congrArg BitVec.toInt (congrFun ((downTrip m c i).nullary 7 rfl) _)) 0 t h e).trans ?_
  rw [downMid_of m c i main_v54_0, downEnd_of m c i main_v54_0, (between m c).unary 18 rfl]
  exact v48_at m c i.rev t h e

theorem down_q : downMid m c i main_while1b_v118 (ix4 0 t h k) = (chunks m c h i.rev).qa t k := by
  rw [(downTrip m c i).reshape 15 rfl, (downTrip m c i).unaryIndexed 14 rfl]
  pointwise
  refine (pick5 (downMid m c i main_v54_1) _ sliceFits_S64x1x64x4x128_S1x1x64x4x128 i.rev (downRow m c i _) (congrArg BitVec.toInt (congrFun ((downTrip m c i).nullary 10 rfl) _))
    (congrArg BitVec.toInt (congrFun ((downTrip m c i).nullary 11 rfl) _)) (congrArg BitVec.toInt (congrFun ((downTrip m c i).nullary 12 rfl) _))
    (congrArg BitVec.toInt (congrFun ((downTrip m c i).nullary 13 rfl) _)) 0 t h k).trans ?_
  rw [downMid_of m c i main_v54_1, downEnd_of m c i main_v54_1, (between m c).unary 19 rfl]
  exact v34_at m c i.rev t h k

theorem down_s : downMid m c i main_while1b_v119 (ix4 0 h k e) = stateUp (chunks m c h) i.rev e k := by
  rw [(downTrip m c i).reshape 21 rfl, (downTrip m c i).unaryIndexed 20 rfl]
  pointwise
  refine (pick5 (downMid m c i main_v54_2) _ sliceFits_S64x1x4x128x256_S1x1x4x128x256 i.rev (downRow m c i _) (congrArg BitVec.toInt (congrFun ((downTrip m c i).nullary 16 rfl) _))
    (congrArg BitVec.toInt (congrFun ((downTrip m c i).nullary 17 rfl) _)) (congrArg BitVec.toInt (congrFun ((downTrip m c i).nullary 18 rfl) _))
    (congrArg BitVec.toInt (congrFun ((downTrip m c i).nullary 19 rfl) _)) 0 h k e).trans ?_
  rw [downMid_of m c i main_v54_2, downEnd_of m c i main_v54_2, (between m c).unary 20 rfl]
  rw [last_up m c main_v42_7]
  exact (up_rows m c 64 le_rfl i.rev i.rev.isLt).2.1 h k e

theorem down_w : downMid m c i main_while1b_v120 (ix4 0 h k 0) = (chunks m c h i.rev).dec k := by
  rw [(downTrip m c i).reshape 27 rfl, (downTrip m c i).unaryIndexed 26 rfl]
  pointwise
  refine (pick5 (downMid m c i main_v54_3) _ sliceFits_S64x1x4x128x1_S1x1x4x128x1 i.rev (downRow m c i _) (congrArg BitVec.toInt (congrFun ((downTrip m c i).nullary 22 rfl) _))
    (congrArg BitVec.toInt (congrFun ((downTrip m c i).nullary 23 rfl) _)) (congrArg BitVec.toInt (congrFun ((downTrip m c i).nullary 24 rfl) _))
    (congrArg BitVec.toInt (congrFun ((downTrip m c i).nullary 25 rfl) _)) 0 h k 0).trans ?_
  rw [downMid_of m c i main_v54_3, downEnd_of m c i main_v54_3, (between m c).unary 21 rfl]
  rw [last_up m c main_v42_8]
  exact (up_rows m c 64 le_rfl i.rev i.rev.isLt).2.2 h k

theorem down_v : downMid m c i main_while1b_v121 (ix4 0 t h e) = (chunks m c h i.rev).v t e := by
  rw [(downTrip m c i).reshape 33 rfl, (downTrip m c i).unaryIndexed 32 rfl]
  pointwise
  refine (pick5 (downMid m c i main_v54_4) _ sliceFits_S64x1x64x4x256_S1x1x64x4x256 i.rev (downRow m c i _) (congrArg BitVec.toInt (congrFun ((downTrip m c i).nullary 28 rfl) _))
    (congrArg BitVec.toInt (congrFun ((downTrip m c i).nullary 29 rfl) _)) (congrArg BitVec.toInt (congrFun ((downTrip m c i).nullary 30 rfl) _))
    (congrArg BitVec.toInt (congrFun ((downTrip m c i).nullary 31 rfl) _)) 0 t h e).trans ?_
  rw [downMid_of m c i main_v54_4, downEnd_of m c i main_v54_4, (between m c).unary 22 rfl]
  exact v36_at m c i.rev t h e

theorem down_k : downMid m c i main_while1b_v122 (ix4 0 t h k) = (chunks m c h i.rev).ke t k := by
  rw [(downTrip m c i).reshape 39 rfl, (downTrip m c i).unaryIndexed 38 rfl]
  pointwise
  refine (pick5 (downMid m c i main_v54_5) _ sliceFits_S64x1x64x4x128_S1x1x64x4x128 i.rev (downRow m c i _) (congrArg BitVec.toInt (congrFun ((downTrip m c i).nullary 34 rfl) _))
    (congrArg BitVec.toInt (congrFun ((downTrip m c i).nullary 35 rfl) _)) (congrArg BitVec.toInt (congrFun ((downTrip m c i).nullary 36 rfl) _))
    (congrArg BitVec.toInt (congrFun ((downTrip m c i).nullary 37 rfl) _)) 0 t h k).trans ?_
  rw [downMid_of m c i main_v54_5, downEnd_of m c i main_v54_5, (between m c).unary 23 rfl]
  exact v35_at m c i.rev t h k

/-! ## The step -/

/-- The state's gradient before the test of trip `i`. -/
def downS (i : ℕ) (h : Fin 4) : Chunk.State := fun e k => downEnd m c i main_v54_7 (ix4 0 h k e)

theorem down_dv : downMid m c i main_while1b_v124 (ix4 0 t h e) = ∑ k, (chunks m c h i.rev).ke t k * downS m c i h e k := by
  rw [(downTrip m c i).unary 41 rfl, (downTrip m c i).binary 40 rfl]
  pointwise [down_k, downMid_of m c i main_v54_7, downS, mul_comm ((chunks m c h i.rev).ke _ _)]

theorem down_de : downMid m c i main_while1b_v126 (ix4 0 t h k) = (chunks m c h i.rev).de (downS m c i h) t k := by
  rw [(downTrip m c i).unary 43 rfl, (downTrip m c i).binary 42 rfl]
  pointwise [down_v, downMid_of m c i main_v54_7, downS, Chunk.de, mul_comm ((chunks m c h i.rev).v _ _)]

/-- A sum over two axes of one coordinate each. -/
theorem reduce_ends (w : S1x4x128x1.ReducesTo [0, 3] S4x128) (x : S1x4x128x1.Idx → EReal) (a : EReal) :
    Ideal.hostReduceAdd w x a (ix2 h k) = a + x (ix4 0 h k 0) := by
  have hf : (Finset.univ.filter fun i => w.drop i = ix2 h k) = {ix4 0 h k 0} := by
    ext i
    simp only [Finset.mem_filter, Finset.mem_univ, true_and, Finset.mem_singleton]
    constructor
    · intro hi
      have h1 := w.drop_apply_val_of_eq i 0 1
      have h2 := w.drop_apply_val_of_eq i 1 2
      rw [hi] at h1 h2
      funext b
      fin_cases b
      · exact Fin.ext (by have := (i 0).isLt; show (i 0).val = 0; exact Nat.lt_one_iff.mp this)
      · exact Fin.ext h1.symm
      · exact Fin.ext h2.symm
      · exact Fin.ext (by have := (i 3).isLt; show (i 3).val = 0; exact Nat.lt_one_iff.mp this)
    · rintro rfl
      funext b
      fin_cases b
      · exact Fin.ext (w.drop_apply_val_of_eq _ 0 1)
      · exact Fin.ext (w.drop_apply_val_of_eq _ 1 2)
  rw [Ideal.hostReduceAdd, hf, Finset.sum_singleton]

theorem down_dw : downMid m c i main_while1b_v133 (ix3 0 h k) = Chunk.dw (stateUp (chunks m c h) i.rev) (downS m c i h) k := by
  rw [(downTrip m c i).unary 52 rfl, (downTrip m c i).binary 51 rfl, (downTrip m c i).nullary 50 rfl, (downTrip m c i).reshape 47 rfl,
    (downTrip m c i).binary 46 rfl, (downTrip m c i).nullary 45 rfl, (downTrip m c i).binary 44 rfl]
  pointwise [reduce_ends, down_s, downMid_of m c i main_v54_7, downS, Chunk.dw, mul_comm (stateUp _ _ _ _)]

theorem down_ds : downMid m c i main_while1b_v136 (ix4 0 t h k) = (chunks m c h i.rev).ds (stateUp (chunks m c h) i.rev) t k := by
  rw [(downTrip m c i).unary 55 rfl, (downTrip m c i).binary 54 rfl, (downTrip m c i).unary 53 rfl]
  pointwise [down_g, down_s, Chunk.ds]

theorem down_next : downMid m c i main_while1b_v139 (ix4 0 h k e) = (chunks m c h i.rev).prev (downS m c i h) e k := by
  rw [(downTrip m c i).binary 58 rfl, (downTrip m c i).binary 49 rfl, (downTrip m c i).unary 48 rfl, (downTrip m c i).unary 57 rfl,
    (downTrip m c i).binary 56 rfl, (downTrip m c i).unary 53 rfl]
  pointwise [down_w, down_g, down_q, downMid_of m c i main_v54_7, downS, Chunk.prev]

theorem down_row_ds (r : Fin 64) : downMid m c i main_while1b_v140 (ix5 r 0 t h k) = if r = i.rev then downMid m c i main_while1b_v136 (ix4 0 t h k) else downEnd m c i main_v54_8 (ix5 r 0 t h k) := by
  rw [(downTrip m c i).binaryIndexed 64 rfl, (downTrip m c i).unary 59 rfl, ← downMid_of m c i main_v54_8]
  refine (put5 (downMid m c i main_v54_8) _ _ updateFits_S64x1x64x4x128_S1x1x64x4x128 i.rev (downRow m c i _) (congrArg BitVec.toInt (congrFun ((downTrip m c i).nullary 60 rfl) _))
    (congrArg BitVec.toInt (congrFun ((downTrip m c i).nullary 61 rfl) _)) (congrArg BitVec.toInt (congrFun ((downTrip m c i).nullary 62 rfl) _))
    (congrArg BitVec.toInt (congrFun ((downTrip m c i).nullary 63 rfl) _)) r 0 t h k).trans ?_
  refine if_congr Iff.rfl ?_ rfl
  show broadcastInDim S1x1x64x4x128 ![1, 2, 3, 4] bcast_S1x64x4x128_S1x1x64x4x128_1_2_3_4 (downMid m c i main_while1b_v136) _ = _
  pointwise

theorem down_row_de (r : Fin 64) : downMid m c i main_while1b_v141 (ix5 r 0 t h k) = if r = i.rev then downMid m c i main_while1b_v126 (ix4 0 t h k) else downEnd m c i main_v54_9 (ix5 r 0 t h k) := by
  rw [(downTrip m c i).binaryIndexed 70 rfl, (downTrip m c i).unary 65 rfl, ← downMid_of m c i main_v54_9]
  refine (put5 (downMid m c i main_v54_9) _ _ updateFits_S64x1x64x4x128_S1x1x64x4x128 i.rev (downRow m c i _) (congrArg BitVec.toInt (congrFun ((downTrip m c i).nullary 66 rfl) _))
    (congrArg BitVec.toInt (congrFun ((downTrip m c i).nullary 67 rfl) _)) (congrArg BitVec.toInt (congrFun ((downTrip m c i).nullary 68 rfl) _))
    (congrArg BitVec.toInt (congrFun ((downTrip m c i).nullary 69 rfl) _)) r 0 t h k).trans ?_
  refine if_congr Iff.rfl ?_ rfl
  show broadcastInDim S1x1x64x4x128 ![1, 2, 3, 4] bcast_S1x64x4x128_S1x1x64x4x128_1_2_3_4 (downMid m c i main_while1b_v126) _ = _
  pointwise

theorem down_row_dv (r : Fin 64) : downMid m c i main_while1b_v142 (ix5 r 0 t h e) = if r = i.rev then downMid m c i main_while1b_v124 (ix4 0 t h e) else downEnd m c i main_v54_10 (ix5 r 0 t h e) := by
  rw [(downTrip m c i).binaryIndexed 76 rfl, (downTrip m c i).unary 71 rfl, ← downMid_of m c i main_v54_10]
  refine (put5 (downMid m c i main_v54_10) _ _ updateFits_S64x1x64x4x256_S1x1x64x4x256 i.rev (downRow m c i _) (congrArg BitVec.toInt (congrFun ((downTrip m c i).nullary 72 rfl) _))
    (congrArg BitVec.toInt (congrFun ((downTrip m c i).nullary 73 rfl) _)) (congrArg BitVec.toInt (congrFun ((downTrip m c i).nullary 74 rfl) _))
    (congrArg BitVec.toInt (congrFun ((downTrip m c i).nullary 75 rfl) _)) r 0 t h e).trans ?_
  refine if_congr Iff.rfl ?_ rfl
  show broadcastInDim S1x1x64x4x256 ![1, 2, 3, 4] bcast_S1x64x4x256_S1x1x64x4x256_1_2_3_4 (downMid m c i main_while1b_v124) _ = _
  pointwise

theorem down_row_dw (r : Fin 64) : downMid m c i main_while1b_v143 (ix4 r 0 h k) = if r = i.rev then downMid m c i main_while1b_v133 (ix3 0 h k) else downEnd m c i main_v54_11 (ix4 r 0 h k) := by
  rw [(downTrip m c i).binaryIndexed 81 rfl, (downTrip m c i).unary 77 rfl, ← downMid_of m c i main_v54_11]
  refine (put4 (downMid m c i main_v54_11) _ _ updateFits_S64x1x4x128_S1x1x4x128 i.rev (downRow m c i _) (congrArg BitVec.toInt (congrFun ((downTrip m c i).nullary 78 rfl) _))
    (congrArg BitVec.toInt (congrFun ((downTrip m c i).nullary 79 rfl) _)) (congrArg BitVec.toInt (congrFun ((downTrip m c i).nullary 80 rfl) _))
    r 0 h k).trans ?_
  refine if_congr Iff.rfl ?_ rfl
  show broadcastInDim S1x1x4x128 ![1, 2, 3] bcast_S1x4x128_S1x1x4x128_1_2_3 (downMid m c i main_while1b_v133) _ = _
  pointwise

/-! ## All trips -/

/-- The state's gradient before trip `j`. -/
theorem down_state (h) : ∀ j ≤ 64, downS m c j h = stateDown (chunks m c h) j
  | 0, _ => by
    funext e k
    rw [downS, (downFirst m c).unary 25 rfl, id, (downFirst m c).unary 8 rfl, (downFirst m c).nullary 7 rfl]
    pointwise
    rfl
  | j + 1, hj => by
    funext e k
    rw [downS, downEnd_copy m c j 85 rfl]
    refine (down_next m c ⟨j, hj⟩ h k e).trans ?_
    rw [down_state h j (by omega), stateDown]
    refine congrArg (fun n => Chunk.prev (chunks m c h n) _ e k) ?_
    rw [Fin.val_rev]; show 64 - (j + 1) = 63 - j; omega

/-- The rows that the trips before `j` left. -/
theorem down_rows : ∀ j ≤ 64, ∀ n : Fin 64, 63 - n.val < j →
    (∀ t h k, downEnd m c j main_v54_8 (ix5 n 0 t h k) = (chunks m c h n).ds (stateUp (chunks m c h) n) t k)
    ∧ (∀ t h k, downEnd m c j main_v54_9 (ix5 n 0 t h k) = (chunks m c h n).de (stateDown (chunks m c h) (63 - n)) t k)
    ∧ (∀ t h e, downEnd m c j main_v54_10 (ix5 n 0 t h e) = ∑ k, (chunks m c h n).ke t k * stateDown (chunks m c h) (63 - n) e k)
    ∧ (∀ h k, downEnd m c j main_v54_11 (ix4 n 0 h k) = Chunk.dw (stateUp (chunks m c h) n) (stateDown (chunks m c h) (63 - n)) k)
  | 0, _, n, hn => absurd hn (Nat.not_lt_zero _)
  | j + 1, hj, n, hn => by
    rw [downEnd_copy m c j 86 rfl, downEnd_copy m c j 87 rfl, downEnd_copy m c j 88 rfl, downEnd_copy m c j 89 rfl]
    by_cases hr : n = Fin.rev ⟨j, hj⟩
    · have hjn : 63 - n.val = j := by rw [hr, Fin.val_rev]; show 63 - (64 - (j + 1)) = j; omega
      rw [hjn]
      have hs := fun h => down_state m c h j (by omega)
      refine ⟨fun t h k => (down_row_ds m c ⟨j, hj⟩ t h k n).trans ?_, fun t h k => (down_row_de m c ⟨j, hj⟩ t h k n).trans ?_,
        fun t h e => (down_row_dv m c ⟨j, hj⟩ t h e n).trans ?_, fun h k => (down_row_dw m c ⟨j, hj⟩ h k n).trans ?_⟩
      all_goals rw [if_pos hr, hr]
      · exact down_ds m c ⟨j, hj⟩ t h k
      · refine (down_de m c ⟨j, hj⟩ t h k).trans ?_; rw [hs h]
      · refine (down_dv m c ⟨j, hj⟩ t h e).trans ?_; rw [hs h]
      · refine (down_dw m c ⟨j, hj⟩ h k).trans ?_; rw [hs h]
    · have hlt : 63 - n.val < j := by
        refine lt_of_le_of_ne (by omega) fun h => hr (Fin.ext ?_)
        rw [Fin.val_rev]; show n.val = 64 - (j + 1); omega
      obtain ⟨h1, h2, h3, h4⟩ := down_rows j (by omega) n hlt
      exact ⟨fun t h k => (down_row_ds m c ⟨j, hj⟩ t h k n).trans ((if_neg hr).trans (h1 t h k)),
        fun t h k => (down_row_de m c ⟨j, hj⟩ t h k n).trans ((if_neg hr).trans (h2 t h k)),
        fun t h e => (down_row_dv m c ⟨j, hj⟩ t h e n).trans ((if_neg hr).trans (h3 t h e)),
        fun h k => (down_row_dw m c ⟨j, hj⟩ h k n).trans ((if_neg hr).trans (h4 h k))⟩

/-- What the last test leaves is there at the end. -/
theorem last_down (r : Ref sig .tc) (h : r ∉ postW ++ downCW := by decide +kernel) : last m c r = downEnd m c 64 r := by
  simp only [List.mem_append, not_or] at h
  rw [last, downEnd, V₅_keep m c h.1, V₄, downC_keep h.2]

end Cert.ReferenceIdeal.Own
end
-- ==== Proof.Reference.After.lean ====
/-
  The reference after its second scan over the extended reals: the gradients, chunk by chunk and head by head, and the five results.
-/
module

public import proofs.«01_k».proof.Proof.Reference.Down

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem
open Cert.Chunk (stateUp stateDown at2 at2_of)

variable (m : (ℓ : Loc nD τ sig) → Buf (Elt Ideal) ℓ) (c : Dev nD)

theorem finish : Part postI.flatten postW (V₄ m c) [] (last m c) where
  writes := postW_eq
  agree r _ := by rw [last, V₅, ← afterL_eq_after_flatten]

/-- The state before a chunk. -/
abbrev stateAt (h : Fin 4) (n : Fin 64) : Chunk.State := stateUp (chunks m c h) n
/-- The gradient of the state after a chunk. -/
abbrev gradAt (h : Fin 4) (n : Fin 64) : Chunk.State := stateDown (chunks m c h) (63 - n)

variable (n t s : Fin 64) (h : Fin 4) (k : Fin 128) (e : Fin 256)

theorem rows : (∀ t h k, last m c main_v54_8 (ix5 n 0 t h k) = (chunks m c h n).ds (stateAt m c h n) t k)
    ∧ (∀ t h k, last m c main_v54_9 (ix5 n 0 t h k) = (chunks m c h n).de (gradAt m c h n) t k)
    ∧ (∀ t h e, last m c main_v54_10 (ix5 n 0 t h e) = ∑ k, (chunks m c h n).ke t k * gradAt m c h n e k)
    ∧ (∀ h k, last m c main_v54_11 (ix4 n 0 h k) = Chunk.dw (stateAt m c h n) (gradAt m c h n) k) := by
  rw [last_down m c main_v54_8, last_down m c main_v54_9, last_down m c main_v54_10, last_down m c main_v54_11]
  exact down_rows m c 64 le_rfl n (by omega)

/-! ## Through the states -/

theorem v55_at : last m c main_v55 (ix4 0 n h k) = Chunk.dw (stateAt m c h n) (gradAt m c h n) k := by
  rw [(finish m c).unary 0 rfl]
  pointwise [(rows m c n).2.2.2]
theorem v56_at : last m c main_v56 (ix5 0 n t h e) = ∑ k, (chunks m c h n).ke t k * gradAt m c h n e k := by
  rw [(finish m c).unary 1 rfl]
  pointwise [(rows m c n).2.2.1]
theorem v57_at : last m c main_v57 (ix5 0 n t h k) = (chunks m c h n).de (gradAt m c h n) t k := by
  rw [(finish m c).unary 2 rfl]
  pointwise [(rows m c n).2.1]
theorem v58_at : last m c main_v58 (ix5 0 n t h k) = (chunks m c h n).ds (stateAt m c h n) t k := by
  rw [(finish m c).unary 3 rfl]
  pointwise [(rows m c n).1]
theorem v60_at : last m c main_v60 (ix5 0 n 0 h k) = Chunk.dw (stateAt m c h n) (gradAt m c h n) k * (chunks m c h n).dec k := by
  rw [(finish m c).unary 5 rfl, (finish m c).binary 4 rfl]
  pointwise [v55_at, v33_at]
theorem v62_at : last m c main_v62 (ix5 0 n t h k) = (chunks m c h n).de (gradAt m c h n) t k * (chunks m c h n).ed t k := by
  rw [(finish m c).binary 7 rfl]
  pointwise [v57_at, v30_at]
theorem v63_at : last m c main_v63 (ix5 0 n t h k) = (chunks m c h n).mm (gradAt m c h n) t k := by
  rw [(finish m c).binary 8 rfl, (finish m c).binary 6 rfl]
  pointwise [v57_at, v30_at, v5_at, Chunk.mm, mul_comm (Chunk.k _ _ _)]
theorem v65_at : last m c main_v65 (ix5 0 n 0 h k) = ∑ t, (chunks m c h n).mm (gradAt m c h n) t k := by
  rw [(finish m c).reshape 11 rfl, (finish m c).binary 10 rfl, (finish m c).nullary 9 rfl]
  pointwise [v63_at]
theorem v66_at : last m c main_v66 (ix5 0 n t h k) = -(chunks m c h n).mm (gradAt m c h n) t k := by
  rw [(finish m c).unary 12 rfl]
  pointwise [v63_at]
theorem v67_at : last m c main_v67 (ix5 0 n 0 h k) = (chunks m c h n).dl (stateAt m c h n) (gradAt m c h n) k := by
  rw [(finish m c).binary 13 rfl]
  pointwise [v60_at, v65_at, Chunk.dl]
  exact add_comm (G := EReal) _ _
theorem v68_at : last m c main_v68 (ix5 0 n t h k) = (chunks m c h n).q t k * (chunks m c h n).ds (stateAt m c h n) t k := by
  rw [(finish m c).binary 14 rfl]
  pointwise [v4_at, v58_at]
theorem v69_at : last m c main_v69 (ix5 0 n t h k) = (chunks m c h n).ds (stateAt m c h n) t k * (chunks m c h n).ep t k := by
  rw [(finish m c).binary 15 rfl]
  pointwise [v9_at, v58_at]

/-! ## Through the scores -/

theorem v70_at : last m c main_v70 (ix5 0 n h e t) = (chunks m c h n).g t e := by
  rw [(finish m c).unary 16 rfl]
  pointwise [v47_at]
theorem v71_at : last m c main_v71 (ix5 0 n h t s) = (chunks m c h n).gs t s := by
  rw [(finish m c).binary 17 rfl]
  pointwise [v70_at, v6_at, Chunk.gs]
theorem v73_at : last m c main_v73 (ix5 0 n s h e) = ∑ t, (chunks m c h n).sc t s * (chunks m c h n).g t e := by
  rw [(finish m c).unary 19 rfl, (finish m c).binary 18 rfl]
  pointwise [v70_at, v24_at, mul_comm (Chunk.g _ _ _)]
theorem v74_at : last m c main_v74 (ix5 0 n s h e) = (chunks m c h n).dv (gradAt m c h n) s e := by
  rw [(finish m c).binary 20 rfl]
  pointwise [v56_at, v73_at, Chunk.dv]
  exact add_comm (G := EReal) _ _
theorem zeros_at (i) : last m c main_call18_v0 i = (0 : EReal) := by
  rw [(finish m c).unary (a := main_call18_cst) (y := main_call18_v0) (f := broadcastInDim S1x64x4x64x64 ![] bcast_S_S1x64x4x64x64) 22 rfl]; pointwise
  rw [(finish m c).nullary (y := main_call18_cst) 21 rfl]
  exact Ideal.ofBits_zero_f32
theorem v75_1_at : last m c main_v75_1 (ix5 0 n h t s) = (chunks m c h n).hi t s := by
  rw [(finish m c).ternary (a := main_v24_1) (b := main_call18_v0) (e := main_v71) (y := main_v75_1) (f := select) 23 rfl]; pointwise [v24_1_at, zeros_at, v71_at, Chunk.hi]; split <;> rfl
theorem v75_0_at : last m c main_v75_0 (ix5 0 n h t s) = (chunks m c h n).lo t s := by
  rw [(finish m c).ternary (a := main_v24_1) (b := main_v71) (e := main_call18_v0) (y := main_v75_0) (f := select) 24 rfl]; pointwise [v24_1_at, zeros_at, v71_at, Chunk.lo]; split <;> rfl
theorem v77_at : last m c main_v77 (ix5 0 n s h k) = (chunks m c h n).dd s k := by
  rw [(finish m c).unary 26 rfl, (finish m c).binary 25 rfl]
  pointwise [v75_1_at, v15_at, Chunk.dd]
theorem v79_at : last m c main_v79 (ix5 0 n t h k) = (chunks m c h n).dc t k := by
  rw [(finish m c).unary 28 rfl, (finish m c).binary 27 rfl]
  pointwise [v75_1_at, v16_at, Chunk.dc]
theorem v88_at : last m c main_v88 (ix5 0 n s h k) = (chunks m c h n).db s k := by
  rw [(finish m c).unary 37 rfl, (finish m c).binary 36 rfl]
  pointwise [v75_0_at, v12_at, Chunk.db]
theorem v90_at : last m c main_v90 (ix5 0 n t h k) = (chunks m c h n).da t k := by
  rw [(finish m c).unary 39 rfl, (finish m c).binary 38 rfl]
  pointwise [v75_0_at, v13_at, Chunk.da]

/-! ## The gradients -/

theorem v96_at : last m c main_v96 (ix5 0 n t h k) = ((chunks m c h n).q t k * (chunks m c h n).ds (stateAt m c h n) t k + (chunks m c h n).k t k * (chunks m c h n).dd t k) + (chunks m c h n).q t k * (chunks m c h n).da t k := by
  rw [(finish m c).binary 45 rfl, (finish m c).binary 30 rfl, (finish m c).binary 29 rfl, (finish m c).binary 44 rfl]
  pointwise [v68_at, v5_at, v77_at, v4_at, v90_at]
theorem v92_at : last m c main_v92 (ix5 0 n t h k) = (chunks m c h n).q t k * (chunks m c h n).dc t k + (chunks m c h n).k t k * (chunks m c h n).db t k := by
  rw [(finish m c).binary 41 rfl, (finish m c).binary 33 rfl, (finish m c).binary 40 rfl]
  pointwise [v4_at, v79_at, v5_at, v88_at]
theorem v94_at : last m c main_v94 (ix5 0 n s h k) = (chunks m c h n).dk (gradAt m c h n) s k := by
  rw [(finish m c).binary 43 rfl, (finish m c).binary 32 rfl, (finish m c).binary 31 rfl, (finish m c).binary 42 rfl]
  pointwise [v62_at, v77_at, v9_at, v88_at, v11_at, Chunk.dk]
  exact (add_comm (G := EReal) _ _).trans ((congrArg (fun a : EReal => _ + a) (add_comm (G := EReal) _ _)).trans (add_assoc (G := EReal) _ _ _).symm)
theorem v98_at : last m c main_v98 (ix5 0 n t h k) = (chunks m c h n).dq' (stateAt m c h n) t k := by
  rw [(finish m c).binary 47 rfl, (finish m c).binary 35 rfl, (finish m c).binary 34 rfl, (finish m c).binary 46 rfl]
  pointwise [v69_at, v79_at, v11_at, v90_at, v9_at, Chunk.dq']
theorem v103_at : last m c main_v103 (ix5 0 n t h k) = (-(chunks m c h n).mm (gradAt m c h n) t k + -(((chunks m c h n).q t k * (chunks m c h n).dc t k + (chunks m c h n).k t k * (chunks m c h n).db t k) * (chunks m c h n).en t k)) + (((chunks m c h n).q t k * (chunks m c h n).ds (stateAt m c h n) t k + (chunks m c h n).k t k * (chunks m c h n).dd t k) + (chunks m c h n).q t k * (chunks m c h n).da t k) * (chunks m c h n).ep t k := by
  rw [(finish m c).binary 52 rfl, (finish m c).binary 50 rfl, (finish m c).unary 49 rfl, (finish m c).binary 48 rfl, (finish m c).binary 51 rfl]
  pointwise [v66_at, v92_at, v11_at, v96_at, v9_at]
theorem v104_at : last m c main_v104 (ix5 0 n t h k) = if t = 63 then (chunks m c h n).dl (stateAt m c h n) (gradAt m c h n) k else 0 := by
  rw [(finish m c).binary 54 rfl, (finish m c).nullary 53 rfl]
  pointwise
  by_cases ht : t = 63
  · subst ht; exact v67_at m c n h k
  · rw [if_neg ht, dif_neg fun w => ht (Fin.ext (by have := t.isLt; show t.val = 63; omega))]
theorem v105_at : last m c main_v105 (ix5 0 n t h k) = (chunks m c h n).dcum' (stateAt m c h n) (gradAt m c h n) t k := by
  rw [(finish m c).binary 55 rfl]
  pointwise [v103_at, v104_at, Chunk.dcum']
theorem v110_at : last m c main_v110 (ix5 0 n t h k) = (chunks m c h n).dq' (stateAt m c h n) t k * scale := by
  rw [(finish m c).binary 61 rfl, (finish m c).unary 60 rfl, (finish m c).nullary 59 rfl]
  pointwise [v98_at, scale]

/-! ## The results -/

theorem ix5_of {a b : ℕ} {n n' : Fin a} {t t' : Fin a} {h h' : Fin 4} {k k' : Fin b} {z : Fin 1} (h1 : n.val = n'.val) (h2 : t.val = t'.val) (h3 : h.val = h'.val)
    (h4 : k.val = k'.val) : ix5 z n t h k = ix5 0 n' t' h' k' := by
  rw [Fin.ext h1, Fin.ext h2, Fin.ext h3, Fin.ext h4, Subsingleton.elim z 0]

theorem out_at : at2 (r := 4096) (c := 1024) (last m c main_v45) (64 * n + t) (256 * h + e) = (chunks m c h n).out (stateAt m c h n) t e := by
  rw [at2_of _ (by omega) (by omega), (between m c).reshape 2 rfl]
  pointwise
  rw [← v44_at]

theorem dq_at : at2 (r := 4096) (c := 512) (last m c main_v112) (64 * n + t) (128 * h + k) = (chunks m c h n).dq' (stateAt m c h n) t k * scale := by
  rw [at2_of _ (by omega) (by omega), (finish m c).unary 63 rfl, (finish m c).reshape 62 rfl]
  pointwise
  rw [← v110_at]
  exact congrArg (last m c main_v110) (ix5_of (by simp only []; omega) (by simp only []; omega) (by simp only []; omega) (by simp only []; omega))

theorem dk_at : at2 (r := 4096) (c := 512) (last m c main_v113) (64 * n + t) (128 * h + k) = (chunks m c h n).dk (gradAt m c h n) t k := by
  rw [at2_of _ (by omega) (by omega), (finish m c).unary 64 rfl, (finish m c).reshape 58 rfl]
  pointwise
  rw [← v94_at]
  exact congrArg (last m c main_v94) (ix5_of (by simp only []; omega) (by simp only []; omega) (by simp only []; omega) (by simp only []; omega))

theorem dv_at : at2 (r := 4096) (c := 1024) (last m c main_v114) (64 * n + t) (256 * h + e) = (chunks m c h n).dv (gradAt m c h n) t e := by
  rw [at2_of _ (by omega) (by omega), (finish m c).unary 65 rfl, (finish m c).reshape 57 rfl]
  pointwise
  rw [← v74_at]
  exact congrArg (last m c main_v74) (ix5_of (by simp only []; omega) (by simp only []; omega) (by simp only []; omega) (by simp only []; omega))

theorem dcum_at : at2 (r := 4096) (c := 512) (last m c main_v106) (64 * n + t) (128 * h + k) = (chunks m c h n).dcum' (stateAt m c h n) (gradAt m c h n) t k := by
  rw [at2_of _ (by omega) (by omega), (finish m c).reshape 56 rfl]
  pointwise
  rw [← v105_at]

end Cert.ReferenceIdeal.Own
end
-- ==== Proof.Value.lean ====
/-
  The value claim: at finite arguments the two ideal programs end with the same five results.
-/
module

public import proofs.«01_k».proof.Defs
public import proofs.«01_k».proof.Proof.Finite
public import proofs.«01_k».proof.Proof.Kernel.Results
public import proofs.«01_k».proof.Proof.Kernel.Run
public import proofs.«01_k».proof.Proof.Reference.After
public import proofs.«01_k».proof.Proof.Reference.Writes

@[expose] public section

set_option maxRecDepth 16384

noncomputable section

namespace Cert.Proof

open Idealize.ShloMosaic Idealize.SL.Sem
open Cert.Chunk

/-- Two arrays of head columns that agree chunk by chunk and head by head are equal. -/
theorem keys_ext {y z : (⟨2, ![4096, 512]⟩ : Shape).Idx → EReal}
    (h : ∀ (n t : Fin 64) (h : Fin 4) (k : Fin 128), at2 y (64 * n + t) (128 * h + k) = at2 z (64 * n + t) (128 * h + k)) : y = z := by
  funext i
  have e0 : (i 0).val < 4096 := (i 0).isLt
  have e1 : (i 1).val < 512 := (i 1).isLt
  have w := h ⟨(i 0).val / 64, by omega⟩ ⟨(i 0).val % 64, by omega⟩ ⟨(i 1).val / 128, by omega⟩ ⟨(i 1).val % 128, by omega⟩
  have d0 : 64 * ((i 0).val / 64) + (i 0).val % 64 = (i 0).val := by omega
  have d1 : 128 * ((i 1).val / 128) + (i 1).val % 128 = (i 1).val := by omega
  simp only [d0, d1] at w
  rw [at2_of y e0 e1, at2_of z e0 e1] at w
  rw [eq_ix2 i]; exact w

theorem values_ext {y z : (⟨2, ![4096, 1024]⟩ : Shape).Idx → EReal}
    (h : ∀ (n t : Fin 64) (h : Fin 4) (e : Fin 256), at2 y (64 * n + t) (256 * h + e) = at2 z (64 * n + t) (256 * h + e)) : y = z := by
  funext i
  have e0 : (i 0).val < 4096 := (i 0).isLt
  have e1 : (i 1).val < 1024 := (i 1).isLt
  have w := h ⟨(i 0).val / 64, by omega⟩ ⟨(i 0).val % 64, by omega⟩ ⟨(i 1).val / 256, by omega⟩ ⟨(i 1).val % 256, by omega⟩
  have d0 : 64 * ((i 0).val / 64) + (i 0).val % 64 = (i 0).val := by omega
  have d1 : 256 * ((i 1).val / 256) + (i 1).val % 256 = (i 1).val := by omega
  simp only [d0, d1] at w
  rw [at2_of y e0 e1, at2_of z e0 e1] at w
  rw [eq_ix2 i]; exact w

theorem scale_real : IsReal (Ideal.ofBits .f32 0x3DB504F3#32) := ⟨_, by simp [Ideal.ofBits, Ideal.ieee, -EReal.coe_mul]; rfl⟩

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The arguments agree on a device. -/
abbrev Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

theorem chunks_eq (h : Same m m' c) (i : Fin 4) (n : ℕ) : ReferenceIdeal.Own.chunks m' c i n = KernelIdeal.Own.chunks m c i n := by
  rw [ReferenceIdeal.Own.chunks, KernelIdeal.Own.chunks]
  rw [h.1, h.2.1, h.2.2.1, h.2.2.2]

theorem chunks_same (h : Same m m' c) (i : Fin 4) : ReferenceIdeal.Own.chunks m' c i = KernelIdeal.Own.chunks m c i := funext (chunks_eq m m' c h i)

/-- Every entry of the arguments is a real, on a device. -/
abbrev Finite : Prop := ∀ (i : Fin 4) (n : ℕ), (KernelIdeal.Own.chunks m c i n).AllReal

theorem finite_of_pre [Cert.Pre_finite.Facts] (h : Pre_KernelIdeal_finite m) : Finite m c := fun i n => by
  obtain ⟨h0, h1, h2, h3⟩ := Pre_finite.all_real (h c)
  exact ofArrays_real scale_real h0 h1 h2 h3 i n

section
open KernelIdeal.Own (dat0 dat1 U1 U2)

theorem out_eq (h : Same m m' c) : ReferenceIdeal.Own.last m' c ReferenceIdeal.main_v45 = (dat0 (U1 m) c).arrAt 4 KernelIdeal.cfg0.N :=
  values_ext fun n t i e => (ReferenceIdeal.Own.out_at m' c n t i e).trans
    (.trans (by rw [ReferenceIdeal.Own.stateAt, chunks_same m m' c h]) (KernelIdeal.Own.out_at m c n n.isLt i t e).symm)

theorem dq_arr (h : Same m m' c) (hf : Finite m c) : ReferenceIdeal.Own.last m' c ReferenceIdeal.main_v112 = (dat1 (U2 m) c).arrAt 7 KernelIdeal.cfg1.N :=
  keys_ext fun n t i k => (ReferenceIdeal.Own.dq_at m' c n t i k).trans
    (.trans (by rw [ReferenceIdeal.Own.stateAt, chunks_same m m' c h, ← dq_eq (hf i n) (stateUp_real _ (hf i) n)]) (KernelIdeal.Own.dq_at m c n n.isLt i t k).symm)

theorem dk_arr (h : Same m m' c) : ReferenceIdeal.Own.last m' c ReferenceIdeal.main_v113 = (dat1 (U2 m) c).arrAt 8 KernelIdeal.cfg1.N :=
  keys_ext fun n t i k => (ReferenceIdeal.Own.dk_at m' c n t i k).trans
    (.trans (by rw [ReferenceIdeal.Own.gradAt, chunks_same m m' c h]) (KernelIdeal.Own.dk_at m c n n.isLt i t k).symm)

theorem dv_arr (h : Same m m' c) : ReferenceIdeal.Own.last m' c ReferenceIdeal.main_v114 = (dat1 (U2 m) c).arrAt 9 KernelIdeal.cfg1.N :=
  values_ext fun n t i e => (ReferenceIdeal.Own.dv_at m' c n t i e).trans
    (.trans (by rw [ReferenceIdeal.Own.gradAt, chunks_same m m' c h]) (KernelIdeal.Own.dv_at m c n n.isLt i t e).symm)

theorem dcum_arr (h : Same m m' c) (hf : Finite m c) : ReferenceIdeal.Own.last m' c ReferenceIdeal.main_v106 = (dat1 (U2 m) c).arrAt 10 KernelIdeal.cfg1.N :=
  keys_ext fun n t i k => (ReferenceIdeal.Own.dcum_at m' c n t i k).trans
    (.trans (by rw [ReferenceIdeal.Own.stateAt, ReferenceIdeal.Own.gradAt, chunks_same m m' c h, ← dcum_eq (hf i n) (stateUp_real _ (hf i) n) (stateDown_real _ (hf i) _)])
      (KernelIdeal.Own.dcum_at m c n n.isLt i t k).symm)
end

/-- The five results of the kernel. -/
theorem kernel_ends : KernelIdeal.Own.W3 m c (Proc.devRef .tc KernelIdeal.main_v2_0) = (KernelIdeal.Own.dat0 (KernelIdeal.Own.U1 m) c).arrAt 4 KernelIdeal.cfg0.N :=
  (KernelIdeal.Own.W3_of m c KernelIdeal.main_v2_0 (by decide +kernel)).trans (KernelIdeal.Own.W2_arr m c 4)

theorem value [hp : Cert.Pre_finite.Facts] : algebraic_KernelIdeal_ReferenceIdeal_pre_finite (hKernelIdeal := KernelIdeal.Gen.facts) (hReferenceIdeal := ReferenceIdeal.Gen.facts) := by
  intro m g m' g' hpre hsame
  refine ⟨fun c => KernelIdeal.Own.W3 m c (Proc.devRef .tc KernelIdeal.main_v2_0), fun c => KernelIdeal.Own.W3 m c (Proc.devRef .tc KernelIdeal.main_v3_0),
    fun c => KernelIdeal.Own.W3 m c (Proc.devRef .tc KernelIdeal.main_v3_1), fun c => KernelIdeal.Own.W3 m c (Proc.devRef .tc KernelIdeal.main_v3_2),
    fun c => KernelIdeal.Own.W3 m c (Proc.devRef .tc KernelIdeal.main_v3_3),
    (θ_run _ _ _).mono (fun r h c => ?_) (KernelIdeal.Own.run m g), (θ_run _ _ _).mono (fun r h c => ?_) (ReferenceIdeal.Own.run m' g')⟩
  · refine ⟨h.1 c _ (KernelIdeal.Own.mem_uc KernelIdeal.main_v2_0 (by decide)), h.1 c _ (KernelIdeal.Own.mem_uc KernelIdeal.main_v3_0 (by decide)),
      h.1 c _ (KernelIdeal.Own.mem_uc KernelIdeal.main_v3_1 (by decide)), h.1 c _ (KernelIdeal.Own.mem_uc KernelIdeal.main_v3_2 (by decide)),
      h.1 c _ (KernelIdeal.Own.mem_uc KernelIdeal.main_v3_3 (by decide)), ?_, ?_, ?_, ?_⟩
    · exact (h.1 c _ (KernelIdeal.Own.mem_uc KernelIdeal.main_arg0 (by decide))).trans (KernelIdeal.Own.W3_args m c _ (by decide))
    · exact (h.1 c _ (KernelIdeal.Own.mem_uc KernelIdeal.main_arg1 (by decide))).trans (KernelIdeal.Own.W3_args m c _ (by decide))
    · exact (h.1 c _ (KernelIdeal.Own.mem_uc KernelIdeal.main_arg2 (by decide))).trans (KernelIdeal.Own.W3_args m c _ (by decide))
    · exact (h.1 c _ (KernelIdeal.Own.mem_uc KernelIdeal.main_arg3 (by decide))).trans (KernelIdeal.Own.W3_args m c _ (by decide))
  · have ends : ∀ b : Ref ReferenceIdeal.sig .tc, (Proc.devRef .tc b : DevRef ReferenceIdeal.τ ReferenceIdeal.sig).isScoped = false →
        r.2.mem ((c.tc : Thread ReferenceIdeal.nD ReferenceIdeal.τ).loc b) = ReferenceIdeal.Own.last m' c b := fun b hb => by
      rw [ReferenceIdeal.Own.last]; exact h.1 c b hb
    have hf := finite_of_pre m c hpre
    exact ⟨(ends _ rfl).trans ((out_eq m m' c (hsame c)).trans (kernel_ends m c).symm),
      (ends _ rfl).trans ((dq_arr m m' c (hsame c) hf).trans (KernelIdeal.Own.W3_arr m c 7).symm),
      (ends _ rfl).trans ((dk_arr m m' c (hsame c)).trans (KernelIdeal.Own.W3_arr m c 8).symm),
      (ends _ rfl).trans ((dv_arr m m' c (hsame c)).trans (KernelIdeal.Own.W3_arr m c 9).symm),
      (ends _ rfl).trans ((dcum_arr m m' c (hsame c) hf).trans (KernelIdeal.Own.W3_arr m c 10).symm), h.2.1 c⟩

end Cert.Proof

end
-- ==== Proof.Head.Terms.lean ====
/-
  What the call that computes the loss and its gradients makes of the blocks it reads at one grid point, and the blocks it
  leaves.
-/
module

public import proofs.«01_k».proof.Proof.Gen.Kernel2Ideal.Skeleton
public import Idealize.ShloMosaic.Lib.VecWindow

@[expose] public section

set_option maxRecDepth 16384

noncomputable section

namespace Cert.Kernel2Ideal.Own

open Idealize.ShloMosaic Idealize.SL.Sem Cert.Kernel2Ideal Cert.Kernel2Ideal.Gen

variable {F : FTy → Type} [FloatOps F]

/-- The blocks that the body reads at one grid point. -/
structure HeadIn (F : FTy → Type) where
  o : Vec F S512x1024 .f32
  gate : Vec F S512x1024 .f32
  h1 : Vec F S512x1024 .f32
  target : Vec F S512x1024 .f32
  hw : Vec F S1x1024 .f32
  wgo : Vec F S1024x1024 .bf16
  wf : Vec F S1x1024 .f32

/-- The blocks that it writes. -/
structure HeadSt (F : FTy → Type) where
  dh2 : Vec F S512x1024 .f32
  dO : Vec F S512x1024 .bf16
  dgate : Vec F S512x1024 .bf16
  ggo : Vec F S1024x1024 .f32
  small : Vec F S8x1024 .f32

/-- A load of a whole block. -/
abbrev wholeRows {e : EltTy} (x : Vec F S512x1024 e) : Vec F S512x1024 e := VecWindow.window x ![0, 0] S512x1024.size inb_S512x1024_S512x1024_0_0
abbrev wholeRow (x : Vec F S1x1024 .f32) : Vec F S1x1024 .f32 := VecWindow.window x ![0, 0] S1x1024.size inb_S1x1024_S1x1024_0_0
abbrev wholeSquare {e : EltTy} (x : Vec F S1024x1024 e) : Vec F S1024x1024 e := VecWindow.window x ![0, 0] S1024x1024.size inb_S1024x1024_S1024x1024_0_0

/-- The blocks as the body loads them. -/
def HeadIn.seen (b : HeadIn F) : HeadIn F :=
  ⟨b.o, wholeRows b.gate, wholeRows b.h1, wholeRows b.target, wholeRow b.hw, wholeSquare b.wgo, wholeRow b.wf⟩

/-- A head's columns. -/
def col0 (x : Vec F S512x1024 .f32) : Vec F S512x256 .f32 := VecWindow.window x ![0, 0] S512x256.size inb_S512x1024_S512x256_0_0
def col1 (x : Vec F S512x1024 .f32) : Vec F S512x256 .f32 := VecWindow.window x ![0, 256] S512x256.size inb_S512x1024_S512x256_0_256
def col2 (x : Vec F S512x1024 .f32) : Vec F S512x256 .f32 := VecWindow.window x ![0, 512] S512x256.size inb_S512x1024_S512x256_0_512
def col3 (x : Vec F S512x1024 .f32) : Vec F S512x256 .f32 := VecWindow.window x ![0, 768] S512x256.size inb_S512x1024_S512x256_0_768

variable (b : HeadIn F)

/-- The gate's logistic and the gate. -/
def sgOf : FVec F S512x1024 .f32 := k0_pay4 b.gate
def siluOf : FVec F S512x1024 .f32 := k0_pay5 b.gate

/-- The heads' reciprocal root mean squares. -/
def ro0 : FVec F S512x1 .f32 := k0_pay6 (col0 b.o)
def ro1 : FVec F S512x1 .f32 := k0_pay8 (col1 b.o)
def ro2 : FVec F S512x1 .f32 := k0_pay11 (k0_pay10 (col2 b.o))
def ro3 : FVec F S512x1 .f32 := k0_pay12 (col3 b.o)

/-- The normalised heads, with the head norm's weight, and gated. -/
def ohatOf : FVec F S512x1024 .f32 := k0_pay13 (k0_pay7 (col0 b.o)) (k0_pay9 (col1 b.o)) (col2 b.o) (k0_pay10 (col2 b.o)) (col3 b.o)
def onOf : FVec F S512x1024 .f32 := k0_pay14 b.hw (k0_pay7 (col0 b.o)) (k0_pay9 (col1 b.o)) (col2 b.o) (k0_pay10 (col2 b.o)) (col3 b.o)
def y2Of : FVec F S512x1024 .bf16 := k0_pay15 b.hw (siluOf b) (k0_pay7 (col0 b.o)) (k0_pay9 (col1 b.o)) (col2 b.o) (k0_pay10 (col2 b.o)) (col3 b.o)

/-- The final norm's reciprocal root mean square, the normalised rows and the norm's weight. -/
def rfOf : FVec F S512x1 .f32 :=
  k0_pay17 b.hw (siluOf b) (k0_pay7 (col0 b.o)) (k0_pay9 (col1 b.o)) (col2 b.o) (k0_pay10 (col2 b.o)) (col3 b.o) b.h1 b.wgo
def h2hatOf : FVec F S512x1024 .f32 :=
  k0_pay18 b.hw (siluOf b) (k0_pay7 (col0 b.o)) (k0_pay9 (col1 b.o)) (col2 b.o) (k0_pay10 (col2 b.o)) (col3 b.o) b.h1 b.wgo
def wfOf : FVec F S1x1024 .f32 := k0_pay19 b.wf

/-- The gradients: of the rows before the final norm, of the gated heads times the gate, of the normalised heads. -/
def dh2Of : FVec F S512x1024 .f32 := k0_pay24 (rfOf b) (h2hatOf b) (wfOf b) b.target
def donOf : FVec F S512x1024 .f32 := k0_pay28 (siluOf b) (dh2Of b) b.wgo
def dohatOf : FVec F S512x1024 .f32 := k0_pay31 b.hw (donOf b)
def dgateOf : FVec F S512x1024 .bf16 := k0_pay29 b.gate (sgOf b) (onOf b) (dh2Of b) b.wgo

/-- The attention's gradient, head by head over what the block held. -/
def doOf (x : Vec F S512x1024 .bf16) : Vec F S512x1024 .bf16 :=
  VecWindow.put (VecWindow.put (VecWindow.put (VecWindow.put x
    ![0, 0] S512x256.size (k0_pay32 b.hw (ro0 b) (ohatOf b) (donOf b)))
    ![0, 256] S512x256.size (k0_pay33 b.hw (ro1 b) (ohatOf b) (donOf b)))
    ![0, 512] S512x256.size (k0_pay34 b.hw (ro2 b) (ohatOf b) (donOf b)))
    ![0, 768] S512x256.size (k0_pay1 (ro3 b) (dohatOf b) (k0_pay35 (ohatOf b)))

/-- The projection's gradient added to what the point before left. -/
def ggoOf (x : Vec F S1024x1024 .f32) : Vec F S1024x1024 .f32 := k0_pay26 (y2Of b) (dh2Of b) (wholeSquare x)

/-- The three rows of small results added to what the point before left. -/
def lossRow (x : Vec F S8x1024 .f32) : FVec F S1x1024 .f32 :=
  k0_pay21 (h2hatOf b) (wfOf b) b.target (VecWindow.window x ![2, 0] S1x1024.size inb_S8x1024_S1x1024_2_0)
def finalRow (x : Vec F S8x1024 .f32) : FVec F S1x1024 .f32 :=
  k0_pay23 (h2hatOf b) (wfOf b) b.target (VecWindow.window x ![0, 0] S1x1024.size inb_S8x1024_S1x1024_0_0)
def headRow (x : Vec F S8x1024 .f32) : FVec F S1x256 .f32 :=
  k0_pay30 (siluOf b) (ohatOf b) (dh2Of b) b.wgo (VecWindow.window x ![1, 0] S1x256.size inb_S8x1024_S1x256_1_0)

def smallOf (x : Vec F S8x1024 .f32) : Vec F S8x1024 .f32 :=
  VecWindow.put (VecWindow.put (VecWindow.put x ![2, 0] S1x1024.size (lossRow b x)) ![0, 0] S1x1024.size (finalRow b x)) ![1, 0] S1x256.size (headRow b x)

/-- What the body leaves at a point that clears nothing. -/
def headStep (s : HeadSt F) : HeadSt F :=
  ⟨dh2Of b.seen, doOf b.seen s.dO, dgateOf b.seen, ggoOf b.seen s.ggo, smallOf b.seen s.small⟩

end Cert.Kernel2Ideal.Own
-- ==== Proof.Head.Body.lean ====
/-
  The body of the call that computes the loss and its gradients, run once at any grid point.
-/
module

public import proofs.«01_k».proof.Proof.Head.Terms
public import Idealize.ShloMosaic.Lib.Tactic
public import Idealize.ShloMosaic.Lib.Pipeline.Frame

@[expose] public section

set_option maxRecDepth 65536

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- Whether the body clears the two arrays that it adds to. -/
abbrev first (n : ℕ) : Prop := Scalar.cmpi .ne (Scalar.extui (Scalar.cmpi .eq (BitVec.ofNat 32 n) 0#32) : BitVec 32) 0#32 = 1#1

/-- The two arrays that the body adds to, cleared at the grid's first point. -/
def clear (n : ℕ) (arg11 : Memref sig .tc .vmem S1024x1024 .f32) (arg12 : Memref sig .tc .vmem S8x1024 .f32) : Prog (TpuEff nD τ sig (Elt F) Λ₀ .tc) PUnit :=
  if _h : first n then do
    let _ : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) (k0_pay2 (F := F)) Finset.univ (View.stores_vmem_bits_univ h_S1024x1024 rfl) (.inl rfl))
    let _ : Vec F S8x1024 .f32 ← Prog.lift (.load arg12 (Rect.unit (s := S8x1024) ![0, 0] S8x1024.size inb_S8x1024_S8x1024_0_0).toLoadRect (View.loadsAt_vmem h_S8x1024))
    Prog.lift (.store arg12 (Rect.unit (s := S8x1024) ![0, 0] S8x1024.size inb_S8x1024_S8x1024_0_0) (k0_pay3 (F := F)) Finset.univ (View.stores_vmem_bits_univ h_S8x1024 rfl) (.inl rfl))
    pure ⟨⟩
  else pure ⟨⟩

/-- A buffer holds what it reads. -/
theorem owns_self (c : Dev nD) {sp : Space} {s : Shape} {e : EltTy} (m : Memref sig .tc sp s e) (f : m.view.ty.Contents (Elt F)) :
    (m.view.loc (c : Thread nD τ) ↦[m.view.set]{fullShare} f : sProp 𝕄)
      ⊢ iprop(∃ f', ⌜m.view.read (Elt F) f' = m.view.read (Elt F) f⌝ ∗ (m.view.loc (c : Thread nD τ) ↦[m.view.set]{fullShare} f')) := by
  iintro H
  iexists f
  isplitr
  · ipureintro; exact rfl
  iexact H

/-- A buffer after some stores holds what they make of it. -/
theorem owns_writes (c : Dev nD) {sp : Space} {s : Shape} {e : EltTy} (m : Memref sig .tc sp s e) (f : m.view.ty.Contents (Elt F))
    (L : List (View.Piece (Elt F) s e)) (X : s.Idx → Elt F e) (hX : m.view.read (Elt F) (m.view.writes (Elt F) f L) = X) :
    (m.view.loc (c : Thread nD τ) ↦[m.view.set]{fullShare} m.view.writes (Elt F) f L : sProp 𝕄)
      ⊢ iprop(∃ f, ⌜m.view.read (Elt F) f = X⌝ ∗ (m.view.loc (c : Thread nD τ) ↦[m.view.set]{fullShare} f)) := by
  iintro H
  iexists _
  isplitr
  · ipureintro; exact hX
  iexact H

/-- The heads' columns, stored one after another. -/
theorem read_columns {sp : Space} (m : Memref sig .tc sp S512x1024 .bf16) (f : m.view.ty.Contents (Elt F)) (w0 w1 w2 w3 : Vec F S512x256 .bf16) :
    m.view.read (Elt F) (m.view.writes (Elt F) f
      [⟨Rect.unit ![0, 768] S512x256.size inb_S512x1024_S512x256_0_768, w3⟩, ⟨Rect.unit ![0, 512] S512x256.size inb_S512x1024_S512x256_0_512, w2⟩,
        ⟨Rect.unit ![0, 256] S512x256.size inb_S512x1024_S512x256_0_256, w1⟩, ⟨Rect.unit ![0, 0] S512x256.size inb_S512x1024_S512x256_0_0, w0⟩])
    = VecWindow.put (VecWindow.put (VecWindow.put (VecWindow.put (m.view.read (Elt F) f) ![0, 0] S512x256.size w0) ![0, 256] S512x256.size w1)
        ![0, 512] S512x256.size w2) ![0, 768] S512x256.size w3 := by
  rw [View.read_writes_cons_put _ _ _ _ _ rfl, View.read_writes_cons_put _ _ _ _ _ rfl, View.read_writes_cons_put _ _ _ _ _ rfl,
    View.read_writes_cons_put _ _ _ _ _ rfl]
  rfl

/-- The rows of small results, stored one after another. -/
theorem read_rows {sp : Space} (m : Memref sig .tc sp S8x1024 .f32) (f : m.view.ty.Contents (Elt F)) (w2 w0 : Vec F S1x1024 .f32) (w1 : Vec F S1x256 .f32) :
    m.view.read (Elt F) (m.view.writes (Elt F) f
      [⟨Rect.unit ![1, 0] S1x256.size inb_S8x1024_S1x256_1_0, w1⟩, ⟨Rect.unit ![0, 0] S1x1024.size inb_S8x1024_S1x1024_0_0, w0⟩,
        ⟨Rect.unit ![2, 0] S1x1024.size inb_S8x1024_S1x1024_2_0, w2⟩])
    = VecWindow.put (VecWindow.put (VecWindow.put (m.view.read (Elt F) f) ![2, 0] S1x1024.size w2) ![0, 0] S1x1024.size w0) ![1, 0] S1x256.size w1 := by
  rw [View.read_writes_cons_put _ _ _ _ _ rfl, View.read_writes_cons_put _ _ _ _ _ rfl, View.read_writes_cons_put _ _ _ _ _ rfl]
  rfl

section Run

variable (c : Dev nD) (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S1024x1024 .bf16) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S512x1024 .bf16) (harg10 : arg10.IsWhole)
  (arg11 : Memref sig .tc .vmem S1024x1024 .f32) (harg11 : arg11.IsWhole) (arg12 : Memref sig .tc .vmem S8x1024 .f32) (harg12 : arg12.IsWhole)

/-- The body at a point is the clearing and then the body at a point that clears nothing. -/
theorem head_eq (i i' : grid0.Coords) (h' : ¬ first (i' 0).val) :
    cc0_head_and_loss (F := F) i arg1 harg1 arg2 harg2 arg3 harg3 arg4 harg4 arg5 harg5 arg6 harg6 arg7 harg7 arg8 harg8 arg9 harg9 arg10 harg10 arg11 harg11 arg12 harg12
      = clear (i 0).val arg11 arg12 >>= fun _ =>
        cc0_head_and_loss (F := F) i' arg1 harg1 arg2 harg2 arg3 harg3 arg4 harg4 arg5 harg5 arg6 harg6 arg7 harg7 arg8 harg8 arg9 harg9 arg10 harg10 arg11 harg11 arg12 harg12 := by
  rw [cc0_head_and_loss_eq_skeleton]
  unfold cc0_head_and_loss_skel
  rw [k0_part1_eq_skeleton]
  unfold k0_part1_skel clear
  by_cases hc : first (i 0).val
  · rw [dif_pos hc, dif_pos hc, dif_neg h']; chain_rfl
  · rw [dif_neg hc, dif_neg hc, dif_neg h']; chain_rfl

/-- The body's buffers: the inputs at their blocks, the outputs at the state's contents. -/
def headOwn (b : HeadIn F) (s : HeadSt F) : sProp 𝕄 :=
  iprop(owns (c : Thread nD τ) arg1 fullShare b.o ∗ owns (c : Thread nD τ) arg2 fullShare b.gate ∗ owns (c : Thread nD τ) arg3 fullShare b.h1
    ∗ owns (c : Thread nD τ) arg4 fullShare b.target ∗ owns (c : Thread nD τ) arg5 fullShare b.hw ∗ owns (c : Thread nD τ) arg6 fullShare b.wgo
    ∗ owns (c : Thread nD τ) arg7 fullShare b.wf ∗ owns (c : Thread nD τ) arg8 fullShare s.dh2 ∗ owns (c : Thread nD τ) arg9 fullShare s.dO
    ∗ owns (c : Thread nD τ) arg10 fullShare s.dgate ∗ owns (c : Thread nD τ) arg11 fullShare s.ggo ∗ owns (c : Thread nD τ) arg12 fullShare s.small)

set_option maxHeartbeats 2000000 in
/-- The body at a point that clears nothing. -/
theorem headRest_run (i : grid0.Coords) (h : ¬ first (i 0).val) (b : HeadIn F) (s : HeadSt F) (E : Set ℕ) (K : PUnit → sProp 𝕄) :
    iprop(headOwn c arg1 arg2 arg3 arg4 arg5 arg6 arg7 arg8 arg9 arg10 arg11 arg12 b s ∗ (headOwn c arg1 arg2 arg3 arg4 arg5 arg6 arg7 arg8 arg9 arg10 arg11 arg12 b (headStep b s) -∗ K ⟨⟩))
      ⊢ wp frame (wpE (defs₀ (F := F)) Variants.none c none) E
        (cc0_head_and_loss (F := F) i arg1 harg1 arg2 harg2 arg3 harg3 arg4 harg4 arg5 harg5 arg6 harg6 arg7 harg7 arg8 harg8 arg9 harg9 arg10 harg10 arg11 harg11 arg12 harg12) K := by
  obtain ⟨o, gate, h1, target, hw, wgo, wf⟩ := b
  obtain ⟨dh2, dO, dgate, ggo, small⟩ := s
  simp only [cc0_head_and_loss_eq_skeleton]; unfold cc0_head_and_loss_skel
  simp only [k0_part1_eq_skeleton, k0_part2_eq_skeleton, k0_part3_eq_skeleton, k0_part4_eq_skeleton, k0_part5_eq_skeleton]
  unfold headOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  subst hf0; subst hf1; subst hf2; subst hf3; subst hf4; subst hf5; subst hf6; subst hf7; subst hf8; subst hf9; subst hf10; subst hf11
  sl_exec (disch := first | sl_exact h)
  sl_step
  iapply Hk
  isplitl [H0]; · iapply (owns_self c arg1 f0); iexact H0
  isplitl [H1]; · iapply (owns_self c arg2 f1); iexact H1
  isplitl [H2]; · iapply (owns_self c arg3 f2); iexact H2
  isplitl [H3]; · iapply (owns_self c arg4 f3); iexact H3
  isplitl [H4]; · iapply (owns_self c arg5 f4); iexact H4
  isplitl [H5]; · iapply (owns_self c arg6 f5); iexact H5
  isplitl [H6]; · iapply (owns_self c arg7 f6); iexact H6
  isplitl [H7]; · iapply (owns_writes c arg8 f7 _ _ (View.read_writes_full arg8.view f7 inb_S512x1024_S512x1024_0_0 _ [])); iexact H7
  isplitl [H8]
  · iapply (owns_writes c arg9 f8 _ _ (read_columns arg9 f8 _ _ _ _))
    iexact H8
  isplitl [H9]; · iapply (owns_writes c arg10 f9 _ _ (View.read_writes_full arg10.view f9 inb_S512x1024_S512x1024_0_0 _ [])); iexact H9
  isplitl [H10]; · iapply (owns_writes c arg11 f10 _ _ (View.read_writes_full arg11.view f10 inb_S1024x1024_S1024x1024_0_0 _ [])); iexact H10
  iapply (owns_writes c arg12 f11 _ _ (read_rows arg12 f11 _ _ _))
  iexact H11

/-- What the body finds in the arrays that it adds to. -/
def startSt (n : ℕ) (s : HeadSt F) : HeadSt F := if first n then { s with ggo := k0_pay2, small := k0_pay3 } else s

theorem clear_run (n : ℕ) (s : HeadSt F) (E : Set ℕ) (K : PUnit → sProp 𝕄) :
    iprop(owns (c : Thread nD τ) arg11 fullShare s.ggo ∗ owns (c : Thread nD τ) arg12 fullShare s.small
        ∗ (owns (c : Thread nD τ) arg11 fullShare (startSt n s).ggo ∗ owns (c : Thread nD τ) arg12 fullShare (startSt n s).small -∗ K ⟨⟩))
      ⊢ wp frame (wpE (defs₀ (F := F)) Variants.none c none) E (clear (F := F) n arg11 arg12) K := by
  by_cases hc : first n
  · unfold clear startSt
    rw [dif_pos hc, if_pos hc]
    unfold owns
    iintro ⟨⟨%f, %hf, H⟩, ⟨%f', %hf', H'⟩, Hk⟩
    sl_exec
    sl_step
    iapply Hk
    isplitl [H]
    · iapply (owns_writes c arg11 f _ _ (View.read_writes_full arg11.view f inb_S1024x1024_S1024x1024_0_0 _ []))
      iexact H
    iapply (owns_writes c arg12 f' _ _ (View.read_writes_full arg12.view f' inb_S8x1024_S8x1024_0_0 _ []))
    iexact H'
  · unfold clear startSt
    rw [dif_neg hc, if_neg hc]
    iintro ⟨H, H', Hk⟩
    sl_step
    iapply Hk
    isplitl [H]; · iexact H
    iexact H'

/-- A point that clears nothing. -/
def later : grid0.Coords := Fin.cons (⟨1, by decide⟩ : Fin 8) fun a => a.elim0

theorem later_clears : ¬ first (later 0).val := by decide +kernel

/-- The body at any point. -/
theorem head_run (i : grid0.Coords) (b : HeadIn F) (s : HeadSt F) (E : Set ℕ) (K : PUnit → sProp 𝕄) :
    iprop(headOwn c arg1 arg2 arg3 arg4 arg5 arg6 arg7 arg8 arg9 arg10 arg11 arg12 b s
        ∗ (headOwn c arg1 arg2 arg3 arg4 arg5 arg6 arg7 arg8 arg9 arg10 arg11 arg12 b (headStep b (startSt (i 0).val s)) -∗ K ⟨⟩))
      ⊢ wp frame (wpE (defs₀ (F := F)) Variants.none c none) E
        (cc0_head_and_loss (F := F) i arg1 harg1 arg2 harg2 arg3 harg3 arg4 harg4 arg5 harg5 arg6 harg6 arg7 harg7 arg8 harg8 arg9 harg9 arg10 harg10 arg11 harg11 arg12 harg12) K := by
  rw [head_eq arg1 harg1 arg2 harg2 arg3 harg3 arg4 harg4 arg5 harg5 arg6 harg6 arg7 harg7 arg8 harg8 arg9 harg9 arg10 harg10 arg11 harg11 arg12 harg12 i later later_clears, wp_bind]
  refine BI.BIBase.Entails.trans ?_ (clear_run c arg11 arg12 (i 0).val s E _)
  unfold headOwn
  iintro ⟨⟨H1, H2, H3, H4, H5, H6, H7, H8, H9, H10, H11, H12⟩, Hk⟩
  isplitl [H11]; · iexact H11
  isplitl [H12]; · iexact H12
  iintro ⟨H11, H12⟩
  iapply (headRest_run c arg1 harg1 arg2 harg2 arg3 harg3 arg4 harg4 arg5 harg5 arg6 harg6 arg7 harg7 arg8 harg8 arg9 harg9 arg10 harg10 arg11 harg11 arg12 harg12 later later_clears b (startSt (i 0).val s))
  unfold headOwn
  have e8 : (startSt (i 0).val s).dh2 = s.dh2 := by unfold startSt; split <;> rfl
  have e9 : (startSt (i 0).val s).dO = s.dO := by unfold startSt; split <;> rfl
  have e10 : (startSt (i 0).val s).dgate = s.dgate := by unfold startSt; split <;> rfl
  rw [e8, e9, e10]
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hk

end Run

end Cert.Kernel2Ideal.Own
-- ==== Proof.Head.Region.lean ====
/-
  The pipeline of the call that computes the loss and its gradients: what its windows hold after each grid point, the two
  arrays that the body adds to from point to point, the run of the whole program and its frame.
-/
module

public import proofs.«01_k».proof.Proof.Head.Body
public import proofs.«01_k».proof.Proof.Gen.Kernel2Ideal.Frame
public import Idealize.ShloMosaic.Lib.Pipeline.FrameBody

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points' values -/

/-- The heads' columns are all of the block: what it held before doesn't matter. -/
theorem doOf_congr (b : HeadIn F) (x y : Vec F S512x1024 .bf16) : doOf b x = doOf b y := by
  funext i
  unfold doOf VecWindow.put
  by_cases h3 : ∀ a, (![0, 768] : Fin 2 → ℕ) a ≤ (i a).val ∧ (i a).val < (![0, 768] : Fin 2 → ℕ) a + S512x256.size a
  · rw [dif_pos h3, dif_pos h3]
  rw [dif_neg h3, dif_neg h3]
  by_cases h2 : ∀ a, (![0, 512] : Fin 2 → ℕ) a ≤ (i a).val ∧ (i a).val < (![0, 512] : Fin 2 → ℕ) a + S512x256.size a
  · rw [dif_pos h2, dif_pos h2]
  rw [dif_neg h2, dif_neg h2]
  by_cases h1 : ∀ a, (![0, 256] : Fin 2 → ℕ) a ≤ (i a).val ∧ (i a).val < (![0, 256] : Fin 2 → ℕ) a + S512x256.size a
  · rw [dif_pos h1, dif_pos h1]
  rw [dif_neg h1, dif_neg h1]
  have hr : (i 0).val < 512 := (i 0).isLt
  have hc : (i 1).val < 1024 := (i 1).isLt
  have h0 : ∀ a, (![0, 0] : Fin 2 → ℕ) a ≤ (i a).val ∧ (i a).val < (![0, 0] : Fin 2 → ℕ) a + S512x256.size a := by
    simp only [Fin.forall_fin_two, Matrix.cons_val_zero, Matrix.cons_val_one] at h1 h2 h3 ⊢
    change ¬((0 ≤ (i 0).val ∧ (i 0).val < 0 + 512) ∧ 256 ≤ (i 1).val ∧ (i 1).val < 256 + 256) at h1
    change ¬((0 ≤ (i 0).val ∧ (i 0).val < 0 + 512) ∧ 512 ≤ (i 1).val ∧ (i 1).val < 512 + 256) at h2
    change ¬((0 ≤ (i 0).val ∧ (i 0).val < 0 + 512) ∧ 768 ≤ (i 1).val ∧ (i 1).val < 768 + 256) at h3
    change (0 ≤ (i 0).val ∧ (i 0).val < 0 + 512) ∧ 0 ≤ (i 1).val ∧ (i 1).val < 0 + 256
    omega
  rw [dif_pos h0, dif_pos h0]

/-- The blocks that the body reads at a point. -/
def headIn (c : Dev nD) (t : Fin cfg0.N) : HeadIn F :=
  ⟨iblk m c 0 t, iblk m c 1 t, iblk m c 2 t, iblk m c 3 t, iblk m c 4 t, iblk m c 5 t, iblk m c 6 t⟩

/-- The two arrays that the body adds to. -/
structure HeadAcc (F : FTy → Type) where
  ggo : Vec F S1024x1024 .f32
  small : Vec F S8x1024 .f32

/-- What the body leaves at a point, from the arrays `a` that it adds to. -/
def headAt (c : Dev nD) (t : Fin cfg0.N) (a : HeadAcc F) : HeadSt F :=
  headStep (headIn m c t) (startSt (grid0.coords t 0).val ⟨dh2Of (headIn m c t).seen, dgateOf (headIn m c t).seen, dgateOf (headIn m c t).seen, a.ggo, a.small⟩)

/-- The arrays that the body adds to, after `n` points. -/
def headAcc (c : Dev nD) : ℕ → HeadAcc F
  | 0 => ⟨k0_pay2, k0_pay3⟩
  | n + 1 => if h : n < cfg0.N then ⟨(headAt m c ⟨n, h⟩ (headAcc c n)).ggo, (headAt m c ⟨n, h⟩ (headAcc c n)).small⟩ else headAcc c n

theorem headAcc_succ (c : Dev nD) (t : Fin cfg0.N) :
    headAcc m c (t.val + 1) = ⟨(headAt m c t (headAcc m c t.val)).ggo, (headAt m c t (headAcc m c t.val)).small⟩ := by
  show (if h : t.val < cfg0.N then _ else _) = _
  rw [dif_pos t.isLt]

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- Whatever the body finds in the blocks that it overwrites, and at point 0 in the arrays that it adds to. -/
theorem headAt_of (c : Dev nD) (t : Fin cfg0.N) (s : HeadSt F) (h : t.val ≠ 0 → (⟨s.ggo, s.small⟩ : HeadAcc F) = headAcc m c t.val) :
    headStep (headIn m c t) (startSt (grid0.coords t 0).val s) = headAt m c t (headAcc m c t.val) := by
  unfold headAt
  by_cases h0 : t.val = 0
  · have hc : first (grid0.coords t 0).val := by rw [coord, h0]; decide +kernel
    unfold startSt headStep
    rw [if_pos hc, if_pos hc]
    simp only [HeadSt.mk.injEq]
    exact ⟨trivial, doOf_congr _ _ _, trivial, trivial, trivial⟩
  · rw [← h h0]
    unfold startSt headStep
    split
    all_goals
      simp only [HeadSt.mk.injEq]
      exact ⟨trivial, doOf_congr _ _ _, trivial, trivial, trivial⟩

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S512x1024 .f32 := win0_2.stage (cfg0.slots t 2)
abbrev ms3 (t : Fin cfg0.N) : Memref sig .tc .vmem S512x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S1024x1024 .bf16 := win0_5.stage (cfg0.slots t 5)
abbrev ms6 (t : Fin cfg0.N) : Memref sig .tc .vmem S1x1024 .f32 := win0_6.stage (cfg0.slots t 6)
abbrev ms7 (t : Fin cfg0.N) : Memref sig .tc .vmem S512x1024 .f32 := win0_7.stage (cfg0.slots t 7)
abbrev ms8 (t : Fin cfg0.N) : Memref sig .tc .vmem S512x1024 .bf16 := win0_8.stage (cfg0.slots t 8)
abbrev ms9 (t : Fin cfg0.N) : Memref sig .tc .vmem S512x1024 .bf16 := win0_9.stage (cfg0.slots t 9)
abbrev ms10 (t : Fin cfg0.N) : Memref sig .tc .vmem S1024x1024 .f32 := win0_10.stage (cfg0.slots t 10)
abbrev ms11 (t : Fin cfg0.N) : Memref sig .tc .vmem S8x1024 .f32 := win0_11.stage (cfg0.slots t 11)

/-- The pipeline's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (headAt m c t (headAcc m c t.val)).dh2
    | ⟨8, _⟩ => (headAt m c t (headAcc m c t.val)).dO
    | ⟨9, _⟩ => (headAt m c t (headAcc m c t.val)).dgate
    | ⟨10, _⟩ => (headAt m c t (headAcc m c t.val)).ggo
    | ⟨11, _⟩ => (headAt m c t (headAcc m c t.val)).small
  Φ _ := Pipeline.ΦA spec0 c
  q _ := fullShare
  owed _ := 0

theorem A_eq (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = (headAt m c t (headAcc m c t.val)).dh2 := by dsimp only [dat]
theorem after_8 (c : Dev nD) (t : Fin cfg0.N) : (dat m c).after 8 t = (headAt m c t (headAcc m c t.val)).dO := by dsimp only [dat]
theorem after_9 (c : Dev nD) (t : Fin cfg0.N) : (dat m c).after 9 t = (headAt m c t (headAcc m c t.val)).dgate := by dsimp only [dat]
theorem after_10 (c : Dev nD) (t : Fin cfg0.N) : (dat m c).after 10 t = (headAt m c t (headAcc m c t.val)).ggo := by dsimp only [dat]
theorem after_11 (c : Dev nD) (t : Fin cfg0.N) : (dat m c).after 11 t = (headAt m c t (headAcc m c t.val)).small := by dsimp only [dat]

/-! An input window's staging buffer holds its block at every point; the two arrays that the body adds to hold what the point
before left. -/

theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d
theorem before_4 (c : Dev nD) (t : Fin cfg0.N) (d) : (dat m c).before 4 t d = iblk m c 4 t := before0_4_of m (dat m c) (A_eq m c 4) (after_4 m c) t d
theorem before_5 (c : Dev nD) (t : Fin cfg0.N) (d) : (dat m c).before 5 t d = iblk m c 5 t := before0_5_of m (dat m c) (A_eq m c 5) (after_5 m c) t d
theorem before_6 (c : Dev nD) (t : Fin cfg0.N) (d) : (dat m c).before 6 t d = iblk m c 6 t := before0_6_of m (dat m c) (A_eq m c 6) (after_6 m c) t d

theorem not_flush_10 (t : Fin cfg0.N) (ht : t.val ≠ 0) :
    (cfg0.win 10).flush ⟨t.val - 1, Nat.lt_of_le_of_lt (Nat.sub_le _ _) t.isLt⟩ = false := by
  have h8 : t.val < 8 := Nat.lt_of_lt_of_eq t.isLt N_0
  refine Bool.eq_false_iff.mpr fun h => ?_
  have := (flush0_10 _).mp h
  dsimp only at this
  omega

theorem not_flush_11 (t : Fin cfg0.N) (ht : t.val ≠ 0) :
    (cfg0.win 11).flush ⟨t.val - 1, Nat.lt_of_le_of_lt (Nat.sub_le _ _) t.isLt⟩ = false := by
  have h8 : t.val < 8 := Nat.lt_of_lt_of_eq t.isLt N_0
  refine Bool.eq_false_iff.mpr fun h => ?_
  have := (flush0_11 _).mp h
  dsimp only at this
  omega

theorem acc_pred (c : Dev nD) (t : Fin cfg0.N) (ht : t.val ≠ 0) :
    headAcc m c t.val = ⟨(headAt m c ⟨t.val - 1, Nat.lt_of_le_of_lt (Nat.sub_le _ _) t.isLt⟩ (headAcc m c (t.val - 1))).ggo,
      (headAt m c ⟨t.val - 1, Nat.lt_of_le_of_lt (Nat.sub_le _ _) t.isLt⟩ (headAcc m c (t.val - 1))).small⟩ := by
  have h := headAcc_succ m c ⟨t.val - 1, Nat.lt_of_le_of_lt (Nat.sub_le _ _) t.isLt⟩
  rwa [show t.val - 1 + 1 = t.val by omega] at h

theorem before_10 (c : Dev nD) (t : Fin cfg0.N) (ht : t.val ≠ 0) (d) : (dat m c).before 10 t d = (headAcc m c t.val).ggo := by
  rw [(dat m c).before_out_kept 10 rfl t ht (not_flush_10 t ht) (fun _ => rfl) (fun _ _ => rfl) d, after_10, acc_pred m c t ht]

theorem before_11 (c : Dev nD) (t : Fin cfg0.N) (ht : t.val ≠ 0) (d) : (dat m c).before 11 t d = (headAcc m c t.val).small := by
  rw [(dat m c).before_out_kept 11 rfl t ht (not_flush_11 t ht) (fun _ => rfl) (fun _ _ => rfl) d, after_11, acc_pred m c t ht]

/-- What the body is called with at a point, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t)
    ∗ owns (c : Thread nD τ) (ms6 t) fullShare ((dat m c).after 6 t)
    ∗ owns (c : Thread nD τ) (ms7 t) fullShare ((dat m c).after 7 t)
    ∗ owns (c : Thread nD τ) (ms8 t) fullShare ((dat m c).after 8 t)
    ∗ owns (c : Thread nD τ) (ms9 t) fullShare ((dat m c).after 9 t)
    ∗ owns (c : Thread nD τ) (ms10 t) fullShare ((dat m c).after 10 t)
    ∗ owns (c : Thread nD τ) (ms11 t) fullShare ((dat m c).after 11 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dat m c).owesAt () t.succ = (dat m c).owesAt () t.castSucc from rfl, show (dat m c).Φ t.succ = (dat m c).Φ t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (head_run c (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (grid0.coords t) (headIn m c t)
    ⟨(dat m c).before 7 t d7, (dat m c).before 8 t d8, (dat m c).before 9 t d9, (dat m c).before 10 t d10, (dat m c).before 11 t d11⟩)
  unfold headOwn
  isplitr [HΦ Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [headAt_of m c t _ fun h => by rw [before_10 m c t h, before_11 m c t h]]
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

def dats : (p : Fin 1) → (c : Dev nD) → Dat τ (Elt F) Unit ℕ (UR sig nD τ) ℕ (cfgs p) c
  | 0 => dat m

set_option backward.isDefEq.respectTransparency.types false in
/-- The program ends with every array at what the points leave in it, and with every counter at zero. -/
theorem run : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments are unchanged at the run's end. -/
theorem args_end {r} (h : Pipeline.FramePost cfgs (dats m) 0 (V m) r) (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).1 3).trans (((dats m 0 c).arrAt_in 3 rfl _).trans ((A_eq m c 3).trans (V_main_arg3 m c))),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

/-- The frame: the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ (h : _ ∧ _) => ⟨fun c => args_end m h.1 c, h.2⟩) (run m ρ)

end Cert.Kernel2Ideal.Own

end
-- ==== Proof.Head.Frames.lean ====
/-
  The three frames of the call that computes the loss and its gradients. The printed program and its idealization are one
  text, so the run over any float type gives both.
-/
module

public import proofs.«01_k».proof.Defs
public import proofs.«01_k».proof.Proof.Gen.Kernel2
public import proofs.«01_k».proof.Proof.Gen.Reference2Ideal.Run
public import proofs.«01_k».proof.Proof.Head.Region
public import Idealize.ShloMosaic.Lib.Tactic

@[expose] public section

set_option maxRecDepth 16384

noncomputable section

namespace Cert.Proof.Head

open Idealize.ShloMosaic Idealize.SL.Sem

/-- The frame's statement of the idealization's text, at the bit-exact floats. -/
def bitsFrame : Prop :=
  ∀ (m : (ℓ : Loc Kernel2Ideal.nD Kernel2Ideal.τ Kernel2Ideal.sig) → Buf (Elt Bits) ℓ) (g : Dev Kernel2Ideal.nD → PrngReg), True →
    θ_run (Kernel2Ideal.defs (F := Bits)) (onTc (τ := Kernel2Ideal.τ) (Kernel2Ideal.main (F := Bits))) ⟨m, fun _ => 0, g⟩ (fun r =>
      (∀ c : Dev Kernel2Ideal.nD,
        r.2.mem ((c.tc : Thread Kernel2Ideal.nD Kernel2Ideal.τ).loc Kernel2Ideal.main_arg0) = m ((c.tc : Thread Kernel2Ideal.nD Kernel2Ideal.τ).loc Kernel2Ideal.main_arg0)
        ∧ r.2.mem ((c.tc : Thread Kernel2Ideal.nD Kernel2Ideal.τ).loc Kernel2Ideal.main_arg1) = m ((c.tc : Thread Kernel2Ideal.nD Kernel2Ideal.τ).loc Kernel2Ideal.main_arg1)
        ∧ r.2.mem ((c.tc : Thread Kernel2Ideal.nD Kernel2Ideal.τ).loc Kernel2Ideal.main_arg2) = m ((c.tc : Thread Kernel2Ideal.nD Kernel2Ideal.τ).loc Kernel2Ideal.main_arg2)
        ∧ r.2.mem ((c.tc : Thread Kernel2Ideal.nD Kernel2Ideal.τ).loc Kernel2Ideal.main_arg3) = m ((c.tc : Thread Kernel2Ideal.nD Kernel2Ideal.τ).loc Kernel2Ideal.main_arg3)
        ∧ r.2.mem ((c.tc : Thread Kernel2Ideal.nD Kernel2Ideal.τ).loc Kernel2Ideal.main_arg4) = m ((c.tc : Thread Kernel2Ideal.nD Kernel2Ideal.τ).loc Kernel2Ideal.main_arg4)
        ∧ r.2.mem ((c.tc : Thread Kernel2Ideal.nD Kernel2Ideal.τ).loc Kernel2Ideal.main_arg5) = m ((c.tc : Thread Kernel2Ideal.nD Kernel2Ideal.τ).loc Kernel2Ideal.main_arg5)
        ∧ r.2.mem ((c.tc : Thread Kernel2Ideal.nD Kernel2Ideal.τ).loc Kernel2Ideal.main_arg6) = m ((c.tc : Thread Kernel2Ideal.nD Kernel2Ideal.τ).loc Kernel2Ideal.main_arg6))
      ∧ r.2.sem = fun _ => 0)

theorem bitsFrame_eq : quiescent_Kernel2 (hKernel2 := Kernel2.Gen.facts) = bitsFrame := by sl_kernel_rfl

theorem kernel_frame : quiescent_Kernel2 (hKernel2 := Kernel2.Gen.facts) := by
  rw [bitsFrame_eq]; exact fun m g _ => Kernel2Ideal.Own.frame m g

theorem ideal_frame : quiescent_Kernel2Ideal (hKernel2Ideal := Kernel2Ideal.Gen.facts) := fun m g _ => Kernel2Ideal.Own.frame m g

theorem reference_frame : quiescent_Reference2Ideal (hReference2Ideal := Reference2Ideal.Gen.facts) := fun m g _ =>
  (θ_run _ _ _).mono (fun _ h => ⟨fun c => (h c).2.2.2.2.2, sem_eq_zero_of_no_sems rfl _⟩) (Reference2Ideal.Value.run m g)

end Cert.Proof.Head

end
-- ==== Proof.Head.Row.lean ====
/-
  The mathematics of one row of the call that computes the loss and its gradients, over the extended reals: the two norms, the
  gate, the loss and the gradients as the kernel groups them, and the groupings that differentiating gives. The groupings agree
  where the target and the final norm's weight are real, whatever the other arguments hold.
-/
module

public import proofs.«01_k».proof.Proof.Chunk
public import Idealize.ShloMosaic.Lib.Pointwise

@[expose] public section

noncomputable section

namespace Cert.Head

open Idealize.ShloMosaic
open Cert.Chunk (IsReal)

/-! ## Reals among the extended reals -/

/-- The norms' small constant. -/
def eps : ℝ := 8796093 / 2 ^ 43

theorem eps_pos : 0 < eps := by unfold eps; positivity

theorem word_eps : Ideal.ofBits .f32 0x358637BD#32 = (eps : EReal) := by
  simp [Ideal.ofBits, Ideal.ieee, eps, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num

theorem div_real (a : ℝ) {b : ℝ} (hb : b ≠ 0) : Ideal.div (a : EReal) (b : EReal) = ((a / b : ℝ) : EReal) := by
  rw [Ideal.div_coe hb, ← EReal.coe_mul, mul_one_div]
theorem div_256 (a : ℝ) : Ideal.div (a : EReal) ((256 : ℝ) : EReal) = ((a / 256 : ℝ) : EReal) := div_real a (by norm_num)
theorem div_1024 (a : ℝ) : Ideal.div (a : EReal) ((1024 : ℝ) : EReal) = ((a / 1024 : ℝ) : EReal) := div_real a (by norm_num)
theorem div_grown (a b : ℝ) : Ideal.div (a : EReal) ((1 + Real.exp b : ℝ) : EReal) = ((a / (1 + Real.exp b) : ℝ) : EReal) :=
  div_real a (by positivity)

theorem exp_real (a : ℝ) : Ideal.exp (a : EReal) = ((Real.exp a : ℝ) : EReal) := Ideal.exp_coe a

theorem rsqrt_real {a : ℝ} (h : 0 < a) : Ideal.rsqrt (a : EReal) = (((Real.sqrt a)⁻¹ : ℝ) : EReal) := by
  rw [Ideal.rsqrt_coe, if_neg h.le.not_gt, if_neg h.ne']

theorem sum_real {ι : Type} (s : Finset ι) (f : ι → ℝ) : ∑ i ∈ s, ((f i : ℝ) : EReal) = ((∑ i ∈ s, f i : ℝ) : EReal) := by
  classical
  induction s using Finset.induction_on with
  | empty => rfl
  | insert i s hi ih => rw [Finset.sum_insert hi, Finset.sum_insert hi, ih, EReal.coe_add]

/-! ## Columns -/

/-- A column's head, its place in the head, and the column back. -/
def part (j : Fin 1024) : Fin 4 := ⟨j.val / 256, by omega⟩
def place (j : Fin 1024) : Fin 256 := ⟨j.val % 256, by omega⟩
def col (p : Fin 4) (e : Fin 256) : Fin 1024 := ⟨256 * p.val + e.val, by omega⟩

@[simp] theorem part_col (p : Fin 4) (e : Fin 256) : part (col p e) = p := Fin.ext (by show (256 * p.val + e.val) / 256 = p.val; omega)
@[simp] theorem place_col (p : Fin 4) (e : Fin 256) : place (col p e) = e := Fin.ext (by show (256 * p.val + e.val) % 256 = e.val; omega)
@[simp] theorem col_part_place (j : Fin 1024) : col (part j) (place j) = j := Fin.ext (by show 256 * (j.val / 256) + j.val % 256 = j.val; omega)

/-! ## Infinite entries -/

theorem infinite {a : EReal} (h : ¬ IsReal a) : a = ⊤ ∨ a = ⊥ := by
  induction a with
  | bot => exact .inr rfl
  | top => exact .inl rfl
  | coe a => exact absurd ⟨a, rfl⟩ h

theorem square_nonneg (a : EReal) : 0 ≤ a * a := by
  induction a with
  | bot => simp
  | top => simp
  | coe a => rw [← EReal.coe_mul]; exact EReal.coe_nonneg.2 (mul_self_nonneg a)

/-- A sum of squares with an infinite one is infinite. -/
theorem squares {n : ℕ} (f : Fin n → EReal) : (∀ k, IsReal (f k)) ∨ ∑ k, f k * f k = ⊤ := by
  by_cases h : ∀ k, IsReal (f k)
  · exact .inl h
  · right
    obtain ⟨k, hk⟩ := not_forall.1 h
    have e : f k * f k = ⊤ := by rcases infinite hk with h | h <;> simp [h]
    rw [← Finset.add_sum_erase _ _ (Finset.mem_univ k), e]
    exact EReal.top_add_of_ne_bot (ne_of_gt (lt_of_lt_of_le EReal.bot_lt_zero (Finset.sum_nonneg fun _ _ => square_nonneg _)))

/-- The terms of a real sum are real. -/
theorem real_of_add {a b : EReal} (h : IsReal (a + b)) : IsReal a ∧ IsReal b := by
  obtain ⟨c, h⟩ := h
  induction a with
  | bot => simp at h
  | top => induction b with
    | bot => simp at h
    | top => simp at h
    | coe b => simp at h
  | coe a => induction b with
    | bot => simp at h
    | top => simp at h
    | coe b => exact ⟨⟨a, rfl⟩, ⟨b, rfl⟩⟩

theorem real_of_sum {ι : Type} (s : Finset ι) (f : ι → EReal) (h : IsReal (∑ i ∈ s, f i)) : ∀ i ∈ s, IsReal (f i) := by
  classical
  intro i hi
  rw [← Finset.add_sum_erase _ _ hi] at h
  exact (real_of_add h).1

/-- The second factor of a real product is real, or the first is zero. -/
theorem real_of_mul {a b : EReal} (h : IsReal (a * b)) (ha : a ≠ 0) : IsReal b := by
  by_contra hb
  obtain ⟨c, h⟩ := h
  rcases infinite hb with rfl | rfl
  · rcases lt_or_gt_of_ne ha with h0 | h0
    · rw [EReal.mul_top_of_neg h0] at h; exact EReal.bot_ne_coe _ h
    · rw [EReal.mul_top_of_pos h0] at h; exact EReal.top_ne_coe _ h
  · rcases lt_or_gt_of_ne ha with h0 | h0
    · rw [EReal.mul_bot_of_neg h0] at h; exact EReal.top_ne_coe _ h
    · rw [EReal.mul_bot_of_pos h0] at h; exact EReal.bot_ne_coe _ h
theorem real_of_mul' {a b : EReal} (h : IsReal (a * b)) (hb : b ≠ 0) : IsReal a := real_of_mul (mul_comm a b ▸ h) hb

/-! ## A norm -/

/-- A row's mean square: the row is real and the mean square is positive, or the mean square is infinite. -/
theorem norm_cases {n : ℕ} (f : Fin n → EReal) {c : ℝ} (hc : 0 < c) :
    (∃ (g : Fin n → ℝ) (m : ℝ), 0 < m ∧ (∀ k, f k = g k) ∧ Ideal.div (∑ k, f k * f k) (c : EReal) + (eps : EReal) = m)
    ∨ Ideal.div (∑ k, f k * f k) (c : EReal) + (eps : EReal) = ⊤ := by
  rcases squares f with h | h
  · choose g hg using h
    refine .inl ⟨g, (∑ k, g k * g k) / c + eps, ?_, hg, ?_⟩
    · have h : 0 ≤ ∑ k, g k * g k := Finset.sum_nonneg fun e _ => mul_self_nonneg _
      have := eps_pos
      positivity
    · simp only [hg, ← EReal.coe_mul, sum_real, div_real _ hc.ne', ← EReal.coe_add]
  · right
    rw [h, Ideal.div_coe hc.ne', EReal.top_mul_coe_of_pos (by positivity), EReal.top_add_coe]

/-- What a norm's statistic passes back, for a real row `y` of cotangent `g`, mean square `m` and `r = 1/√m`. -/
theorem norm_back_real {n : ℕ} (y g : Fin n → ℝ) {m r c : ℝ} (hm : 0 < m) (hr : r = (Real.sqrt m)⁻¹) (j : Fin n) :
    g j * r + y j * ((∑ k, y k * g k) * (-(1 / 2) * (r / m)) / c) + ((∑ k, y k * g k) * (-(1 / 2) * (r / m)) / c) * y j
      = r * (g j - y j * r * ((∑ k, g k * (y k * r)) / c)) := by
  have hq : r / m = r * (r * r) := by
    have : Real.sqrt m * Real.sqrt m = m := Real.mul_self_sqrt hm.le
    rw [hr, ← mul_inv, this, div_eq_mul_inv]
  have hs : ∑ k, g k * (y k * r) = (∑ k, y k * g k) * r := by
    rw [Finset.sum_mul]; exact Finset.sum_congr rfl fun k _ => by ring
  rw [hq, hs]; ring

/-- What a norm's statistic passes back, `y` a row, `g` its cotangent, `m` the mean square and `r` the reciprocal root. -/
def back {n : ℕ} (y g : Fin n → EReal) (m r : EReal) (c : ℝ) : EReal :=
  Ideal.div ((∑ k, y k * g k) * (((-(1 / 2) : ℝ) : EReal) * Ideal.div r m)) (c : EReal)

/-- The norm's gradient, where the cotangent is real at every entry that the norm doesn't send to zero. -/
theorem norm_back {n : ℕ} (y g : Fin n → EReal) {m r : EReal} {c : ℝ} (hc : 0 < c)
    (hm : m = Ideal.div (∑ k, y k * y k) (c : EReal) + (eps : EReal)) (hr : r = Ideal.rsqrt m)
    (hg : ∀ k, IsReal (g k) ∨ y k * r = 0) (j : Fin n) :
    g j * r + y j * back y g m r c + back y g m r c * y j = r * (g j - y j * r * Ideal.div (∑ k, g k * (y k * r)) (c : EReal)) := by
  rcases norm_cases y hc with ⟨y', m', hm', hy, e⟩ | e
  · obtain rfl := hm.trans e
    rw [rsqrt_real hm'] at hr
    have hr0 : ((Real.sqrt m')⁻¹) ≠ 0 := inv_ne_zero (Real.sqrt_pos.2 hm').ne'
    have hg' : ∀ k, IsReal (g k) ∨ y' k = 0 := fun k => (hg k).imp id fun h => by
      rw [hy k, hr, ← EReal.coe_mul] at h
      exact (mul_eq_zero.1 (EReal.coe_eq_zero.1 h)).resolve_right hr0
    obtain ⟨g', e1⟩ : ∃ g' : Fin n → ℝ, ∀ k, g k = g' k ∨ y' k = 0 := by
      refine ⟨fun k => (g k).toReal, fun k => (hg' k).imp ?_ id⟩
      rintro ⟨a, ha⟩
      show g k = ((g k).toReal : EReal)
      rw [ha, EReal.toReal_coe]
    have s1 : ∑ k, y k * g k = ((∑ k, y' k * g' k : ℝ) : EReal) := by
      rw [← sum_real]
      refine Finset.sum_congr rfl fun k _ => ?_
      rcases e1 k with h | h
      · rw [hy k, h, EReal.coe_mul]
      · rw [hy k, h, zero_mul, EReal.coe_zero, zero_mul]
    have s2 : ∑ k, g k * (y k * r) = ((∑ k, g' k * (y' k * (Real.sqrt m')⁻¹) : ℝ) : EReal) := by
      rw [← sum_real]
      refine Finset.sum_congr rfl fun k _ => ?_
      rcases e1 k with h | h
      · rw [hy k, h, hr, EReal.coe_mul, EReal.coe_mul]
      · rw [hy k, h, zero_mul, mul_zero, EReal.coe_zero, zero_mul, mul_zero]
    unfold back
    rw [s1, s2]
    rcases e1 j with h | h
    · rw [h, hy j, hr]
      simp only [← EReal.coe_mul, div_real _ hm'.ne', div_real _ hc.ne', ← EReal.coe_add, ← EReal.coe_sub]
      exact congrArg _ (norm_back_real y' g' hm' rfl j)
    · rw [hy j, h, EReal.coe_zero]
      simp only [zero_mul, mul_zero, add_zero, sub_zero]
      exact mul_comm _ _
  · obtain rfl := hm.trans e
    rw [Ideal.rsqrt_top] at hr
    have hb : back y g ⊤ r c = 0 := by
      have h0 : Ideal.div 0 ⊤ = 0 := by simp [Ideal.div]
      unfold back
      rw [hr, h0, mul_zero, mul_zero, Ideal.div_coe hc.ne', zero_mul]
    rw [hb, hr]
    simp only [zero_mul, mul_zero, add_zero]

/-- The normalised entries are real. -/
theorem norm_real {n : ℕ} (y : Fin n → EReal) {c : ℝ} (hc : 0 < c) (j : Fin n) :
    IsReal (y j * Ideal.rsqrt (Ideal.div (∑ k, y k * y k) (c : EReal) + (eps : EReal))) := by
  rcases norm_cases y hc with ⟨y', m', hm', hy, e⟩ | e
  · rw [e, hy j, rsqrt_real hm', ← EReal.coe_mul]; exact .coe _
  · rw [e, Ideal.rsqrt_top, mul_zero]; exact .zero

/-- The reciprocal root is real. -/
theorem root_real {n : ℕ} (y : Fin n → EReal) {c : ℝ} (hc : 0 < c) :
    IsReal (Ideal.rsqrt (Ideal.div (∑ k, y k * y k) (c : EReal) + (eps : EReal))) := by
  rcases norm_cases y hc with ⟨y', m', hm', hy, e⟩ | e
  · rw [e, rsqrt_real hm']; exact .coe _
  · rw [e, Ideal.rsqrt_top]; exact .zero

end Cert.Head

/-- The weights: the head norm's, the output projection and the final norm's. -/
structure Cert.Head.Weights where
  hw : Fin 256 → EReal
  wgo : Fin 1024 → Fin 1024 → EReal
  wf : Fin 1024 → EReal

/-- One row: the attention's output, the gate, the residual and the target. -/
structure Cert.Head.Row where
  o : Fin 1024 → EReal
  gate : Fin 1024 → EReal
  h1 : Fin 1024 → EReal
  target : Fin 1024 → EReal

namespace Cert.Head

open Idealize.ShloMosaic
open Cert.Chunk (IsReal)

/-- The arguments' arrays hold these weights and rows. -/
structure Data (o gate h1 target : (⟨2, ![4096, 1024]⟩ : Shape).Idx → EReal) (hw : (⟨2, ![1, 256]⟩ : Shape).Idx → EReal)
    (wgo : (⟨2, ![1024, 1024]⟩ : Shape).Idx → EReal) (wf : (⟨1, ![1024]⟩ : Shape).Idx → EReal) (w : Weights) (x : Fin 4096 → Row) : Prop where
  o i j : o (ix2 i j) = (x i).o j
  gate i j : gate (ix2 i j) = (x i).gate j
  h1 i j : h1 (ix2 i j) = (x i).h1 j
  target i j : target (ix2 i j) = (x i).target j
  hw e : hw (ix2 0 e) = w.hw e
  wgo k j : wgo (ix2 k j) = w.wgo k j
  wf j : wf (ix1 j) = w.wf j

end Cert.Head

namespace Cert.Head.Row

open Idealize.ShloMosaic
open Cert.Chunk (IsReal)

variable (w : Weights) (x : Row)

/-- The gate's logistic and the gate. -/
def sg (j : Fin 1024) : EReal := Ideal.div ((1 : ℝ) : EReal) (((1 : ℝ) : EReal) + Ideal.exp (-x.gate j))
def silu (j : Fin 1024) : EReal := x.gate j * x.sg j

/-- A head's mean square, its reciprocal root, the normalised entries, with the weight, and gated. -/
def mo (p : Fin 4) : EReal := Ideal.div (∑ e, x.o (col p e) * x.o (col p e)) ((256 : ℝ) : EReal) + (eps : EReal)
def ro (p : Fin 4) : EReal := Ideal.rsqrt (x.mo p)
def ohat (j : Fin 1024) : EReal := x.o j * x.ro (part j)
def on (j : Fin 1024) : EReal := x.ohat j * w.hw (place j)
def y2 (j : Fin 1024) : EReal := x.on w j * x.silu j

/-- The row before the final norm, its mean square, the reciprocal root and the normalised row. -/
def h2 (j : Fin 1024) : EReal := x.h1 j + ∑ k, x.y2 w k * w.wgo k j
def mf : EReal := Ideal.div (∑ j, x.h2 w j * x.h2 w j) ((1024 : ℝ) : EReal) + (eps : EReal)
def rf : EReal := Ideal.rsqrt (x.mf w)
def h2hat (j : Fin 1024) : EReal := x.h2 w j * x.rf w

/-- The error, and the loss's gradients. -/
def diff (j : Fin 1024) : EReal := x.h2hat w j * w.wf j - x.target j
def dout (j : Fin 1024) : EReal := Ideal.div (x.diff w j) ((1024 : ℝ) : EReal)
def dxh (j : Fin 1024) : EReal := x.dout w j * w.wf j
def dh2 (j : Fin 1024) : EReal := x.rf w * (x.dxh w j - x.h2hat w j * Ideal.div (∑ k, x.dxh w k * x.h2hat w k) ((1024 : ℝ) : EReal))
def dy2 (k : Fin 1024) : EReal := ∑ j, x.dh2 w j * w.wgo k j
def don (j : Fin 1024) : EReal := x.dy2 w j * x.silu j
def dgate (j : Fin 1024) : EReal := x.dy2 w j * x.on w j * (x.sg j * (((1 : ℝ) : EReal) + x.gate j * (((1 : ℝ) : EReal) - x.sg j)))
def dohat (j : Fin 1024) : EReal := x.don w j * w.hw (place j)
def dO (j : Fin 1024) : EReal :=
  x.ro (part j) * (x.dohat w j - x.ohat j * Ideal.div (∑ e, x.dohat w (col (part j) e) * x.ohat (col (part j) e)) ((256 : ℝ) : EReal))

/-- The row's loss. -/
def loss : EReal := Ideal.div (((1 / 2 : ℝ) : EReal) * ∑ j, x.diff w j * x.diff w j) ((1024 : ℝ) : EReal)

/-- The row's share of the small results: row 0 the final norm's weight, row 1 the head norm's, row 2 the loss. -/
def small (r : Fin 8) (j : Fin 1024) : EReal :=
  if r = 0 then x.dout w j * x.h2hat w j
  else if r = 1 then (if h : j.val < 256 then ∑ p, x.don w (col p ⟨j.val, h⟩) * x.ohat (col p ⟨j.val, h⟩) else 0)
  else if r = 2 then x.loss w else 0

/-! ## Where the target and the final norm's weight are real -/

/-- The target and the final norm's weight are real. -/
structure Tame : Prop where
  wf j : IsReal (w.wf j)
  target j : IsReal (x.target j)

theorem ohat_real (j : Fin 1024) : IsReal (x.ohat j) := by
  have h := norm_real (fun e => x.o (col (part j) e)) (c := 256) (by norm_num) (place j)
  simp only [col_part_place] at h
  exact h
theorem h2hat_real (j : Fin 1024) : IsReal (x.h2hat w j) := norm_real (x.h2 w) (c := 1024) (by norm_num) j

variable {w x} (ht : Tame w x)
include ht

theorem diff_real (j : Fin 1024) : IsReal (x.diff w j) := ((x.h2hat_real w j).mul (ht.wf j)).sub (ht.target j)

omit ht in
/-- The loss of rows of real errors, halved and divided after the rows' sum, and divided before it. -/
theorem loss_sum {n : ℕ} {x : Fin n → Row} (ht : ∀ i, Tame w (x i)) :
    Ideal.div (((1 / 2 : ℝ) : EReal) * ∑ i, ∑ j, (x i).diff w j * (x i).diff w j) ((1024 : ℝ) : EReal) = ∑ i, (x i).loss w
    ∧ ((1 / 2 : ℝ) : EReal) * ∑ i, Ideal.div (∑ j, (x i).diff w j * (x i).diff w j) ((1024 : ℝ) : EReal) = ∑ i, (x i).loss w := by
  choose d hd using fun i j => diff_real (ht i) j
  simp only [loss, hd, ← EReal.coe_mul, sum_real, div_1024]
  exact ⟨congrArg _ (by rw [Finset.mul_sum, Finset.sum_div]),
    congrArg _ (by rw [Finset.mul_sum]; exact Finset.sum_congr rfl fun i _ => (mul_div_assoc _ _ _).symm)⟩

theorem dout_real (j : Fin 1024) : IsReal (x.dout w j) := by
  obtain ⟨d, h⟩ := diff_real ht j
  rw [dout, h, div_1024]; exact .coe _
theorem dxh_real (j : Fin 1024) : IsReal (x.dxh w j) := (dout_real ht j).mul (ht.wf j)
theorem dh2_real (j : Fin 1024) : IsReal (x.dh2 w j) := by
  have h1 : IsReal (∑ k, x.dxh w k * x.h2hat w k) := IsReal.sum _ _ fun k => (dxh_real ht k).mul (x.h2hat_real w k)
  have h2 : IsReal (Ideal.div (∑ k, x.dxh w k * x.h2hat w k) ((1024 : ℝ) : EReal)) := by
    obtain ⟨d, h⟩ := h1
    rw [h, div_1024]; exact .coe _
  exact (root_real (x.h2 w) (c := 1024) (by norm_num)).mul ((dxh_real ht j).sub ((x.h2hat_real w j).mul h2))

/-- The final norm's gradient. -/
theorem final_back (j : Fin 1024) :
    x.dxh w j * x.rf w + x.h2 w j * back (x.h2 w) (x.dxh w) (x.mf w) (x.rf w) 1024 + back (x.h2 w) (x.dxh w) (x.mf w) (x.rf w) 1024 * x.h2 w j = x.dh2 w j :=
  norm_back (x.h2 w) (x.dxh w) (by norm_num) rfl rfl (fun k => .inl (dxh_real ht k)) j

/-- Where a gated entry isn't zero its cotangent is real, and zero where the entry is infinite: a row with an infinite entry
before the final norm passes nothing back, and in a real row every term of the projection is real. -/
theorem dy2_cases (k : Fin 1024) (hk : x.y2 w k ≠ 0) : IsReal (x.dy2 w k) ∧ (¬ IsReal (x.y2 w k) → x.dy2 w k = 0) := by
  rcases norm_cases (x.h2 w) (c := 1024) (by norm_num) with ⟨g, m, hm, hg, e⟩ | e
  · have hw : ∀ j, IsReal (x.y2 w k * w.wgo k j) := fun j =>
      real_of_sum _ _ (real_of_add ⟨g j, hg j⟩).2 k (Finset.mem_univ k)
    have hr : ∀ j, IsReal (w.wgo k j) := fun j => real_of_mul (hw j) hk
    refine ⟨IsReal.sum _ _ fun j => (dh2_real ht j).mul (hr j), fun hy => Finset.sum_eq_zero fun j _ => ?_⟩
    have h0 : w.wgo k j = 0 := by
      by_contra h
      exact hy (real_of_mul' (hw j) h)
    rw [h0, mul_zero]
  · have h0 : x.rf w = 0 := by
      unfold rf mf
      rw [e, Ideal.rsqrt_top]
    have h1 : x.dy2 w k = 0 := Finset.sum_eq_zero fun j _ => by rw [dh2, h0, zero_mul, zero_mul]
    rw [h1]
    exact ⟨.zero, fun _ => rfl⟩

/-- The gate's gradient. -/
theorem gate_back (j : Fin 1024) :
    x.on w j * x.dy2 w j * x.sg j + x.gate j * (x.on w j * x.dy2 w j) * (x.sg j * (((1 : ℝ) : EReal) - x.sg j)) = x.dgate w j := by
  have hc := dy2_cases ht j
  unfold dgate
  rw [mul_comm (x.dy2 w j) (x.on w j)]
  unfold y2 silu at hc
  by_cases hg : IsReal (x.gate j)
  · obtain ⟨g, hg⟩ := hg
    have hp : 0 < 1 + Real.exp (-g) := by positivity
    have hs : x.sg j = ((1 / (1 + Real.exp (-g)) : ℝ) : EReal) := by
      rw [sg, hg, ← EReal.coe_neg, exp_real, ← EReal.coe_add, div_grown]
    have hs0 : 1 / (1 + Real.exp (-g)) ≠ 0 := (by positivity : (0 : ℝ) < 1 / (1 + Real.exp (-g))).ne'
    generalize 1 / (1 + Real.exp (-g)) = s at hs hs0
    rw [hg, hs] at hc ⊢
    by_cases hz : g = 0
    · rw [hz, EReal.coe_zero, zero_mul, zero_mul, zero_mul, add_zero, add_zero, EReal.coe_one, mul_one]
    have hsilu : (g : EReal) * (s : EReal) ≠ 0 := by
      rw [← EReal.coe_mul]; exact EReal.coe_ne_zero.2 (mul_ne_zero hz hs0)
    have hu : IsReal (x.on w j * x.dy2 w j) := by
      by_cases hn : x.on w j = 0
      · rw [hn, zero_mul]; exact .zero
      obtain ⟨h1, h2⟩ := hc (mul_ne_zero hn hsilu)
      by_cases hr : IsReal (x.on w j)
      · exact hr.mul h1
      · rw [h2 fun h => hr (real_of_mul' h hsilu), mul_zero]; exact .zero
    obtain ⟨u, hu⟩ := hu
    rw [hu]
    simp only [← EReal.coe_mul, ← EReal.coe_sub, ← EReal.coe_add]
    exact congrArg _ (by ring)
  · have h0 : Ideal.div ((1 : ℝ) : EReal) ⊤ = 0 := by simp [Ideal.div]
    rcases infinite hg with h | h
    · have hs : x.sg j = ((1 : ℝ) : EReal) := by
        rw [sg, h, EReal.neg_top, Ideal.exp_bot, add_zero, div_real _ one_ne_zero, div_one]
      rw [hs, ← EReal.coe_sub, sub_self, EReal.coe_zero, mul_zero, mul_zero, mul_zero, add_zero, add_zero, EReal.coe_one, mul_one, mul_one, mul_one]
    · have hs : x.sg j = 0 := by
        rw [sg, h, EReal.neg_bot, Ideal.exp_top, EReal.coe_add_top, h0]
      rw [hs, zero_mul, zero_mul, mul_zero, mul_zero, add_zero]

/-- The heads' cotangent is real at every entry that the head norm doesn't send to zero. -/
theorem dohat_cases (j : Fin 1024) : IsReal (x.dohat w j) ∨ x.ohat j = 0 := by
  by_cases ho : x.ohat j = 0
  · exact .inr ho
  left
  unfold dohat don
  by_cases hd : x.dy2 w j = 0
  · rw [hd, zero_mul, zero_mul]; exact .zero
  by_cases hs : x.silu j = 0
  · rw [hs, mul_zero, zero_mul]; exact .zero
  by_cases hw : w.hw (place j) = 0
  · rw [hw, mul_zero]; exact .zero
  have hn : x.on w j ≠ 0 := mul_ne_zero ho hw
  obtain ⟨h1, h2⟩ := dy2_cases ht j (mul_ne_zero hn hs)
  have hy : IsReal (x.y2 w j) := by
    by_contra h
    exact hd (h2 h)
  exact (h1.mul (real_of_mul hy hn)).mul (real_of_mul (real_of_mul' hy hs) ho)

/-- The head norms' gradient. -/
theorem head_back (j : Fin 1024) :
    x.dohat w j * x.ro (part j)
      + x.o j * back (fun e => x.o (col (part j) e)) (fun e => x.dohat w (col (part j) e)) (x.mo (part j)) (x.ro (part j)) 256
      + back (fun e => x.o (col (part j) e)) (fun e => x.dohat w (col (part j) e)) (x.mo (part j)) (x.ro (part j)) 256 * x.o j = x.dO w j := by
  have h := norm_back (fun e => x.o (col (part j) e)) (fun e => x.dohat w (col (part j) e)) (c := 256) (by norm_num) rfl rfl
    (fun e => by have := dohat_cases ht (col (part j) e); rwa [ohat, part_col] at this) (place j)
  simp only [col_part_place] at h
  refine h.trans ?_
  simp only [dO, ohat, part_col]
  rfl

end Cert.Head.Row
-- ==== Proof.Head.Payloads.lean ====
/-
  What the call that computes the loss and its gradients makes of its blocks, read at an index over the extended reals: the
  formulas of `Row.lean` at the rows and the weights that the blocks hold.
-/
module

public import proofs.«01_k».proof.Proof.Head.Row
public import proofs.«01_k».proof.Proof.Head.Terms
public import Idealize.ShloMosaic.Lib.Pointwise
public import Idealize.ShloMosaic.Lib.KernelVsHost

@[expose] public section

set_option maxRecDepth 16384

noncomputable section

namespace Cert.Kernel2Ideal.Own

open Idealize.ShloMosaic Idealize.SL.Sem Cert.Kernel2Ideal Cert.Kernel2Ideal.Gen
open Cert.Head

/-- The blocks hold these weights and rows. -/
structure HeadIn.Holds (b : HeadIn Ideal) (w : Weights) (x : Fin 512 → Row) : Prop where
  o i j : b.o (ix2 i j) = (x i).o j
  gate i j : b.gate (ix2 i j) = (x i).gate j
  h1 i j : b.h1 (ix2 i j) = (x i).h1 j
  target i j : b.target (ix2 i j) = (x i).target j
  hw j : b.hw (ix2 0 j) = w.hw (place j)
  wgo k j : b.wgo (ix2 k j) = w.wgo k j
  wf j : b.wf (ix2 0 j) = w.wf j

theorem col0_at (x : Vec Ideal S512x1024 .f32) (i : Fin 512) (e : Fin 256) : col0 x (ix2 i e) = x (ix2 i (col 0 e)) := by
  refine congrArg x (funext fun a => Fin.ext ?_)
  fin_cases a
  · show 0 + 1 * i.val = i.val; omega
  · show 0 + 1 * e.val = 256 * 0 + e.val; omega
theorem col1_at (x : Vec Ideal S512x1024 .f32) (i : Fin 512) (e : Fin 256) : col1 x (ix2 i e) = x (ix2 i (col 1 e)) := by
  refine congrArg x (funext fun a => Fin.ext ?_)
  fin_cases a
  · show 0 + 1 * i.val = i.val; omega
  · show 256 + 1 * e.val = 256 * 1 + e.val; omega
theorem col2_at (x : Vec Ideal S512x1024 .f32) (i : Fin 512) (e : Fin 256) : col2 x (ix2 i e) = x (ix2 i (col 2 e)) := by
  refine congrArg x (funext fun a => Fin.ext ?_)
  fin_cases a
  · show 0 + 1 * i.val = i.val; omega
  · show 512 + 1 * e.val = 256 * 2 + e.val; omega
theorem col3_at (x : Vec Ideal S512x1024 .f32) (i : Fin 512) (e : Fin 256) : col3 x (ix2 i e) = x (ix2 i (col 3 e)) := by
  refine congrArg x (funext fun a => Fin.ext ?_)
  fin_cases a
  · show 0 + 1 * i.val = i.val; omega
  · show 768 + 1 * e.val = 256 * 3 + e.val; omega

/-- Four heads side by side. -/
theorem join_at (p q r s : FVec Ideal S512x256 .f32) (i : Fin 512) (j : Fin 1024) (f : Fin 1024 → EReal) (h0 : ∀ e, p (ix2 i e) = f (col 0 e))
    (h1 : ∀ e, q (ix2 i e) = f (col 1 e)) (h2 : ∀ e, r (ix2 i e) = f (col 2 e)) (h3 : ∀ e, s (ix2 i e) = f (col 3 e)) :
    concatenate S512x1024 1 [⟨S512x256, p⟩, ⟨S512x256, q⟩, ⟨S512x256, r⟩, ⟨S512x256, s⟩] concatenates_S512x256_S512x256_S512x256_S512x256_S512x1024_d1
      (ix2 i j) = f j := by
  pointwise [h0, h1, h2, h3]
  split_ifs <;> exact congrArg f (Fin.ext (by simp only [col]; omega))

/-- The columns of the heads, as slices name them. -/
theorem in0 (e : Fin 256) (h : e.val < 1024) : (⟨e.val, h⟩ : Fin 1024) = col 0 e := Fin.ext (by simp [col])
theorem in1 (e : Fin 256) (h : 256 + e.val < 1024) : (⟨256 + e.val, h⟩ : Fin 1024) = col 1 e := Fin.ext (by simp [col])
theorem in2 (e : Fin 256) (h : 512 + e.val < 1024) : (⟨512 + e.val, h⟩ : Fin 1024) = col 2 e := Fin.ext (by simp [col])
theorem in3 (e : Fin 256) (h : 768 + e.val < 1024) : (⟨768 + e.val, h⟩ : Fin 1024) = col 3 e := Fin.ext (by simp [col])

theorem in_col0 (j : Fin 1024) (h : j.val < 256) : col 0 ⟨j.val, h⟩ = j := Fin.ext (by simp [col])

/-- A row put into the small results, and a row's first head. -/
theorem put_row (s : Vec Ideal S8x1024 .f32) (c : Fin 8) (w : FVec Ideal S1x1024 .f32) (r : Fin 8) (j : Fin 1024) :
    VecWindow.put s ![c.val, 0] S1x1024.size w (ix2 r j) = if r = c then w (ix2 0 j) else s (ix2 r j) := by
  split_ifs with h
  · subst h
    refine (dif_pos fun a => ?_).trans (congrArg w ?_)
    · fin_cases a
      · exact ⟨le_rfl, Nat.lt_succ_self r.val⟩
      · exact ⟨Nat.zero_le _, by show j.val < 0 + 1024; omega⟩
    · funext a; fin_cases a
      · exact Fin.ext (Nat.sub_self r.val)
      · rfl
  · refine dif_neg fun hall => h (Fin.ext ?_)
    have h0 : c.val ≤ r.val ∧ r.val < c.val + 1 := hall 0
    omega
theorem put_part (s : Vec Ideal S8x1024 .f32) (w : FVec Ideal S1x256 .f32) (r : Fin 8) (j : Fin 1024) :
    VecWindow.put s ![1, 0] S1x256.size w (ix2 r j) = if h : r = 1 ∧ j.val < 256 then w (ix2 0 ⟨j.val, h.2⟩) else s (ix2 r j) := by
  split_ifs with h
  · obtain ⟨rfl, hj⟩ := h
    refine (dif_pos fun a => ?_).trans (congrArg w ?_)
    · fin_cases a
      · exact ⟨le_rfl, Nat.lt_succ_self 1⟩
      · exact ⟨Nat.zero_le _, by show j.val < 0 + 256; omega⟩
    · funext a; fin_cases a <;> rfl
  · refine dif_neg fun hall => h ⟨Fin.ext ?_, ?_⟩
    · have h0 : 1 ≤ r.val ∧ r.val < 1 + 1 := hall 0
      show r.val = 1; omega
    · have h0 : 0 ≤ j.val ∧ j.val < 0 + 256 := hall 1
      omega

section
variable {b : HeadIn Ideal} {w : Weights} {x : Fin 512 → Row} (hb : b.Holds w x)
include hb

theorem sgOf_at (i j) : sgOf b (ix2 i j) = (x i).sg j := by
  simp only [sgOf, k0_pay4, pointwise, hb.gate, zero_sub, word_one, Row.sg]

theorem siluOf_at (i j) : siluOf b (ix2 i j) = (x i).silu j := by
  have h := sgOf_at hb i j
  simp only [sgOf] at h
  simp only [siluOf, k0_pay5, pointwise, h, hb.gate, Row.silu]

theorem ro0_at (i) : ro0 b (ix2 i 0) = (x i).ro 0 := by
  simp only [ro0, k0_pay6, pointwise, col0_at, hb.o, zero_add, word_256, word_eps]
  rfl
theorem ro1_at (i) : ro1 b (ix2 i 0) = (x i).ro 1 := by
  simp only [ro1, k0_pay8, pointwise, col1_at, hb.o, zero_add, word_256, word_eps]
  rfl
theorem ro2_at (i) : ro2 b (ix2 i 0) = (x i).ro 2 := by
  simp only [ro2, k0_pay10, k0_pay11, pointwise, col2_at, hb.o, zero_add, word_256, word_eps]
  rfl
theorem ro3_at (i) : ro3 b (ix2 i 0) = (x i).ro 3 := by
  simp only [ro3, k0_pay12, pointwise, col3_at, hb.o, zero_add, word_256, word_eps]
  rfl

theorem ohatOf_at (i j) : ohatOf b (ix2 i j) = (x i).ohat j := by
  have h0 := ro0_at hb i
  have h1 := ro1_at hb i
  have h2 := ro2_at hb i
  have h3 := ro3_at hb i
  simp only [ro0] at h0
  simp only [ro1] at h1
  simp only [ro2] at h2
  simp only [ro3] at h3
  simp only [ohatOf, k0_pay13]
  refine join_at _ _ _ _ i j (fun j => (x i).ohat j) (fun e => ?_) (fun e => ?_) (fun e => ?_) (fun e => ?_)
  all_goals simp only [k0_pay7, k0_pay9, pointwise, ↓reduceDIte, OfNat.ofNat_ne_one, Nat.reduceEqDiff, col0_at, col1_at, col2_at, col3_at, h0, h1, h2, h3, hb.o, Row.ohat, part_col]

theorem onOf_at (i j) : onOf b (ix2 i j) = (x i).on w j := by
  have h := ohatOf_at hb
  simp only [ohatOf] at h
  simp only [onOf, k0_pay14, pointwise, ↓reduceDIte, OfNat.ofNat_ne_one, Nat.reduceEqDiff, h, hb.hw, Row.on]

theorem y2Of_at (i j) : y2Of b (ix2 i j) = (x i).y2 w j := by
  have h := onOf_at hb
  simp only [onOf] at h
  simp only [y2Of, k0_pay15, pointwise, h, siluOf_at hb, Row.y2]

theorem h2_at (i j) : k0_pay16 b.hw (siluOf b) (k0_pay7 (col0 b.o)) (k0_pay9 (col1 b.o)) (col2 b.o) (k0_pay10 (col2 b.o)) (col3 b.o) b.h1 b.wgo (ix2 i j)
    = (x i).h2 w j := by
  have h := y2Of_at hb
  simp only [y2Of] at h
  simp only [k0_pay16, pointwise, h, hb.h1, hb.wgo, zero_add, Row.h2]

theorem rfOf_at (i) : rfOf b (ix2 i 0) = (x i).rf w := by
  simp only [rfOf, k0_pay17, pointwise, h2_at hb, zero_add, word_1024, word_eps]
  rfl

theorem h2hatOf_at (i j) : h2hatOf b (ix2 i j) = (x i).h2hat w j := by
  have h := rfOf_at hb
  simp only [rfOf] at h
  simp only [h2hatOf, k0_pay18, pointwise, ↓reduceDIte, OfNat.ofNat_ne_one, Nat.reduceEqDiff, h, h2_at hb, Row.h2hat]

theorem wfOf_at (j) : wfOf b (ix2 0 j) = w.wf j := by
  simp only [wfOf, k0_pay19, pointwise, hb.wf]

theorem diff_at (i j) : k0_pay20 (h2hatOf b) (wfOf b) b.target (ix2 i j) = (x i).diff w j := by
  simp only [k0_pay20, pointwise, ↓reduceDIte, OfNat.ofNat_ne_one, Nat.reduceEqDiff, h2hatOf_at hb, wfOf_at hb, hb.target, Row.diff]

theorem dout_at (i j) : k0_pay22 (h2hatOf b) (wfOf b) b.target (ix2 i j) = (x i).dout w j := by
  simp only [k0_pay22, pointwise, diff_at hb, word_1024, Row.dout]

theorem dh2Of_at (i j) : dh2Of b (ix2 i j) = (x i).dh2 w j := by
  simp only [dh2Of, k0_pay24, pointwise, ↓reduceDIte, OfNat.ofNat_ne_one, Nat.reduceEqDiff, dout_at hb, h2hatOf_at hb, wfOf_at hb, rfOf_at hb, zero_add,
    word_1024, Row.dh2, Row.dxh]

theorem dy2_at (i k) : k0_pay27 (dh2Of b) b.wgo (ix2 i k) = (x i).dy2 w k := by
  simp only [k0_pay27, k0_pay25, pointwise, dh2Of_at hb, hb.wgo, zero_add, Row.dy2]

theorem donOf_at (i j) : donOf b (ix2 i j) = (x i).don w j := by
  simp only [donOf, k0_pay28, pointwise, dy2_at hb, siluOf_at hb, Row.don]

theorem dgateOf_at (i j) : dgateOf b (ix2 i j) = (x i).dgate w j := by
  simp only [dgateOf, k0_pay29, pointwise, dy2_at hb, onOf_at hb, sgOf_at hb, hb.gate, word_one, Row.dgate]

theorem dohatOf_at (i j) : dohatOf b (ix2 i j) = (x i).dohat w j := by
  simp only [dohatOf, k0_pay31, pointwise, ↓reduceDIte, OfNat.ofNat_ne_one, Nat.reduceEqDiff, donOf_at hb, hb.hw, Row.dohat]

theorem do0_at (i e) : k0_pay32 b.hw (ro0 b) (ohatOf b) (donOf b) (ix2 i e) = (x i).dO w (col 0 e) := by
  have h := dohatOf_at hb
  simp only [dohatOf] at h
  pointwise [k0_pay32, h, ohatOf_at hb, ro0_at hb, word_256]
  simp only [in0, Row.dO, part_col]

theorem do1_at (i e) : k0_pay33 b.hw (ro1 b) (ohatOf b) (donOf b) (ix2 i e) = (x i).dO w (col 1 e) := by
  have h := dohatOf_at hb
  simp only [dohatOf] at h
  pointwise [k0_pay33, h, ohatOf_at hb, ro1_at hb, word_256]
  simp only [in1, Row.dO, part_col]

theorem do2_at (i e) : k0_pay34 b.hw (ro2 b) (ohatOf b) (donOf b) (ix2 i e) = (x i).dO w (col 2 e) := by
  have h := dohatOf_at hb
  simp only [dohatOf] at h
  pointwise [k0_pay34, h, ohatOf_at hb, ro2_at hb, word_256]
  simp only [in2, Row.dO, part_col]

theorem do3_at (i e) : k0_pay1 (ro3 b) (dohatOf b) (k0_pay35 (ohatOf b)) (ix2 i e) = (x i).dO w (col 3 e) := by
  pointwise [k0_pay1, k0_pay35, dohatOf_at hb, ohatOf_at hb, ro3_at hb, word_256]
  simp only [in3, Row.dO, part_col]

theorem doOf_at (s : Vec Ideal S512x1024 .bf16) (i j) : doOf b s (ix2 i j) = (x i).dO w j := by
  have key : ∀ (p : Fin 4) (e : Fin 256), doOf b s (ix2 i (col p e)) = (x i).dO w (col p e) := by
    intro p e
    have hi : ∀ (q : Fin 4) (inb), doOf b s (ix2 i (col q e)) = VecWindow.window (doOf b s) ![0, 256 * q.val] S512x256.size inb (ix2 i e) := by
      intro q inb
      refine congrArg (doOf b s) (funext fun a => Fin.ext ?_)
      fin_cases a
      · show i.val = 0 + 1 * i.val; omega
      · show 256 * q.val + e.val = 256 * q.val + 1 * e.val; omega
    fin_cases p
    · refine (hi 0 inb_S512x1024_S512x256_0_0).trans ((congrFun ?_ (ix2 i e)).trans (do0_at hb i e))
      refine (VecWindow.window_put_of_disjoint _ _ _ _ _ _ _ 1 (by decide)).trans ?_
      refine (VecWindow.window_put_of_disjoint _ _ _ _ _ _ _ 1 (by decide)).trans ?_
      exact (VecWindow.window_put_of_disjoint _ _ _ _ _ _ _ 1 (by decide)).trans (VecWindow.window_put_same _ _ _ _ _)
    · refine (hi 1 inb_S512x1024_S512x256_0_256).trans ((congrFun ?_ (ix2 i e)).trans (do1_at hb i e))
      refine (VecWindow.window_put_of_disjoint _ _ _ _ _ _ _ 1 (by decide)).trans ?_
      exact (VecWindow.window_put_of_disjoint _ _ _ _ _ _ _ 1 (by decide)).trans (VecWindow.window_put_same _ _ _ _ _)
    · refine (hi 2 inb_S512x1024_S512x256_0_512).trans ((congrFun ?_ (ix2 i e)).trans (do2_at hb i e))
      exact (VecWindow.window_put_of_disjoint _ _ _ _ _ _ _ 1 (by decide)).trans (VecWindow.window_put_same _ _ _ _ _)
    · refine (hi 3 inb_S512x1024_S512x256_0_768).trans ((congrFun ?_ (ix2 i e)).trans (do3_at hb i e))
      exact VecWindow.window_put_same _ _ _ _ _
  rw [← col_part_place j]; exact key _ _

theorem ggoOf_at (s : Vec Ideal S1024x1024 .f32) (k j) : ggoOf b s (ix2 k j) = s (ix2 k j) + ∑ i, (x i).y2 w k * (x i).dh2 w j := by
  have hs : wholeSquare s (ix2 k j) = s (ix2 k j) := congrArg s (Rect.emb_unit_full _ _)
  simp only [ggoOf, k0_pay26, k0_pay25, pointwise, hs, y2Of_at hb, dh2Of_at hb, zero_add]

theorem lossRow_at (ht : ∀ i, Row.Tame w (x i)) (s : Vec Ideal S8x1024 .f32) (j) : lossRow b s (ix2 0 j) = s (ix2 2 j) + ∑ i, (x i).loss w := by
  have hs : VecWindow.window s ![2, 0] S1x1024.size inb_S8x1024_S1x1024_2_0 (ix2 0 j) = s (ix2 2 j) := by
    refine congrArg s (funext fun a => Fin.ext ?_)
    fin_cases a
    · rfl
    · show 0 + 1 * j.val = j.val; omega
  simp only [lossRow, k0_pay21, pointwise, hs, diff_at hb, word_half, word_1024, zero_add]
  exact congrArg _ (Row.loss_sum ht).1

theorem finalRow_at (s : Vec Ideal S8x1024 .f32) (j) : finalRow b s (ix2 0 j) = s (ix2 0 j) + ∑ i, (x i).dout w j * (x i).h2hat w j := by
  have hs : VecWindow.window s ![0, 0] S1x1024.size inb_S8x1024_S1x1024_0_0 (ix2 0 j) = s (ix2 0 j) := by
    refine congrArg s (funext fun a => Fin.ext ?_)
    fin_cases a
    · rfl
    · show 0 + 1 * j.val = j.val; omega
  simp only [finalRow, k0_pay23, pointwise, hs, dout_at hb, h2hatOf_at hb, zero_add]

theorem headRow_at (s : Vec Ideal S8x1024 .f32) (e : Fin 256) :
    headRow b s (ix2 0 e) = s (ix2 1 (col 0 e)) + ∑ i, ∑ p, (x i).don w (col p e) * (x i).ohat (col p e) := by
  have hs : VecWindow.window s ![1, 0] S1x256.size inb_S8x1024_S1x256_1_0 (ix2 0 e) = s (ix2 1 (col 0 e)) := by
    refine congrArg s (funext fun a => Fin.ext ?_)
    fin_cases a
    · rfl
    · show 0 + 1 * e.val = 256 * 0 + e.val; omega
  have h := donOf_at hb
  simp only [donOf] at h
  pointwise [headRow, k0_pay30, hs, h, ohatOf_at hb]
  simp only [in0, in1, in2, in3]
  rw [Finset.sum_comm, Fin.sum_univ_four]

theorem smallOf_at (ht : ∀ i, Row.Tame w (x i)) (s : Vec Ideal S8x1024 .f32) (r j) : smallOf b s (ix2 r j) = s (ix2 r j) + ∑ i, (x i).small w r j := by
  unfold smallOf
  rw [put_part]
  split_ifs with h1
  · obtain ⟨rfl, hj⟩ := h1
    rw [headRow_at hb, in_col0]
    simp only [Row.small, if_neg (show ¬ (1 : Fin 8) = 0 by decide), if_true, dif_pos hj]
  · have hz : r = 1 → ¬ j.val < 256 := fun e hj => h1 ⟨e, hj⟩
    have e2 : VecWindow.put s ![2, 0] S1x1024.size (lossRow b s) (ix2 r j) = if r = 2 then lossRow b s (ix2 0 j) else s (ix2 r j) := put_row s 2 _ r j
    refine (put_row _ 0 _ r j).trans ?_
    rw [e2]
    by_cases h0 : r = 0
    · subst h0; rw [if_pos rfl, finalRow_at hb]; simp only [Row.small, if_true]
    · rw [if_neg h0]
      by_cases h2 : r = 2
      · subst h2; rw [if_pos rfl, lossRow_at hb ht]
        simp only [Row.small, if_neg (show ¬ (2 : Fin 8) = 0 by decide), if_neg (show ¬ (2 : Fin 8) = 1 by decide), if_true]
      · have e : ∀ i, (x i).small w r j = 0 := fun i => by
          unfold Row.small
          rw [if_neg h0, if_neg h2]
          split_ifs with h1 hj
          · exact absurd hj (hz h1)
          · rfl
          · rfl
        simp only [if_neg h2, e, Finset.sum_const_zero, add_zero]

end

end Cert.Kernel2Ideal.Own
-- ==== Proof.Head.Arrays.lean ====
/-
  The result arrays of the call that computes the loss and its gradients, over the extended reals: the formulas of `Row.lean`
  at the rows of the arguments, where the target and the final norm's weight are real.
-/
module

public import proofs.«01_k».proof.Proof.Head.Payloads
public import proofs.«01_k».proof.Proof.Head.Region
public import Idealize.ShloMosaic.Lib.Pipeline.ValueKit

@[expose] public section

set_option maxRecDepth 16384

noncomputable section

namespace Cert.Kernel2Ideal.Own

open Idealize.ShloMosaic Idealize.ShloMosaic.TcCoe Idealize.SL.Sem Cert.Kernel2Ideal Cert.Kernel2Ideal.Gen
open Idealize.ShloMosaic.Pipeline (Dat Cfg Window)
open Cert.Head

/-! ## Where a block lies -/

theorem pt (t : Fin cfg0.N) : t.val < 8 := Nat.lt_of_lt_of_eq t.isLt N_0

theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![0, 0] := (by decide +kernel : ∀ t : Fin grid0.N, win0_6.index t = ![0, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val, 0] := (by decide +kernel : ∀ t : Fin grid0.N, win0_8.index t = ![t.val, 0])
theorem idx_9 : ∀ t : Fin cfg0.N, win0_9.index t = ![t.val, 0] := (by decide +kernel : ∀ t : Fin grid0.N, win0_9.index t = ![t.val, 0])
theorem idx_10 : ∀ t : Fin cfg0.N, win0_10.index t = ![0, 0] := (by decide +kernel : ∀ t : Fin grid0.N, win0_10.index t = ![0, 0])
theorem idx_11 : ∀ t : Fin cfg0.N, win0_11.index t = ![0, 0] := (by decide +kernel : ∀ t : Fin grid0.N, win0_11.index t = ![0, 0])

/-- The rows of a point's blocks. -/
def inTile (t : Fin cfg0.N) (i : Fin 512) : Fin 4096 := ⟨512 * t.val + i.val, by have := pt t; omega⟩

/-- The point whose blocks hold a row. -/
def tileOf (i : Fin 4096) : Fin cfg0.N := ⟨i.val / 512, Nat.lt_of_lt_of_eq (by omega) N_0.symm⟩
theorem inTile_tileOf (i : Fin 4096) : inTile (tileOf i) ⟨i.val % 512, by omega⟩ = i := Fin.ext (by show 512 * (i.val / 512) + i.val % 512 = i.val; omega)

/-- A point's share of a sum over the rows, and the sum. -/
def tileSum (f : Row → EReal) (x : Fin 4096 → Row) (T : ℕ) : EReal := if h : T < 8 then ∑ i : Fin 512, f (x ⟨512 * T + i.val, by omega⟩) else 0

theorem tileSum_all (f : Row → EReal) (x : Fin 4096 → Row) : ∑ T ∈ Finset.range 8, tileSum f x T = ∑ i, f (x i) := by
  rw [Fin.sum_univ_tiles 8 512 rfl, Finset.sum_range]
  exact Finset.sum_congr rfl fun T _ => (dif_pos T.isLt).trans (Finset.sum_congr rfl fun i _ => congrArg (fun k => f (x k)) (Fin.ext (by simp [mul_comm])))

/-- A load of a whole block is the block. -/
theorem seen_eq (b : HeadIn Ideal) : b.seen = b := by
  have h0 : ∀ y : Vec Ideal S512x1024 .f32, wholeRows y = y := fun y => funext fun z => congrArg y (funext fun a => Fin.ext (by
    fin_cases a
    · show 0 + 1 * (z 0).val = (z 0).val; omega
    · show 0 + 1 * (z 1).val = (z 1).val; omega))
  have h1 : ∀ y : Vec Ideal S1x1024 .f32, wholeRow y = y := fun y => funext fun z => congrArg y (funext fun a => Fin.ext (by
    fin_cases a
    · show 0 + 1 * (z 0).val = (z 0).val; omega
    · show 0 + 1 * (z 1).val = (z 1).val; omega))
  have h2 : ∀ y : Vec Ideal S1024x1024 .bf16, wholeSquare y = y := fun y => funext fun z => congrArg y (funext fun a => Fin.ext (by
    fin_cases a
    · show 0 + 1 * (z 0).val = (z 0).val; omega
    · show 0 + 1 * (z 1).val = (z 1).val; omega))
  unfold HeadIn.seen
  rw [h0, h0, h0, h1, h2, h1]

variable (m : (ℓ : Loc nD τ sig) → Buf (Elt Ideal) ℓ) (c : Dev nD)

/-- The arguments on a device hold these weights and rows. -/
abbrev Holds (w : Weights) (x : Fin 4096 → Row) : Prop :=
  Data (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) w x

theorem iblk_0_at (t : Fin cfg0.N) (i : Fin 512) (j : Fin 1024) : (iblk m c 0 t : Vec Ideal S512x1024 .f32) (ix2 i j) = (V m c main_arg0 : S4096x1024.Idx → EReal) (ix2 (inTile t i) j) := by
  have := pt t
  unfold inTile
  blk_ext [iblk, idx_0]
theorem iblk_1_at (t : Fin cfg0.N) (i : Fin 512) (j : Fin 1024) : (iblk m c 1 t : Vec Ideal S512x1024 .f32) (ix2 i j) = (V m c main_arg1 : S4096x1024.Idx → EReal) (ix2 (inTile t i) j) := by
  have := pt t
  unfold inTile
  blk_ext [iblk, idx_1]
theorem iblk_2_at (t : Fin cfg0.N) (i : Fin 512) (j : Fin 1024) : (iblk m c 2 t : Vec Ideal S512x1024 .f32) (ix2 i j) = (V m c main_arg2 : S4096x1024.Idx → EReal) (ix2 (inTile t i) j) := by
  have := pt t
  unfold inTile
  blk_ext [iblk, idx_2]
theorem iblk_3_at (t : Fin cfg0.N) (i : Fin 512) (j : Fin 1024) : (iblk m c 3 t : Vec Ideal S512x1024 .f32) (ix2 i j) = (V m c main_arg3 : S4096x1024.Idx → EReal) (ix2 (inTile t i) j) := by
  have := pt t
  unfold inTile
  blk_ext [iblk, idx_3]
theorem iblk_4_at (t : Fin cfg0.N) (j : Fin 1024) : (iblk m c 4 t : Vec Ideal S1x1024 .f32) (ix2 0 j) = (V m c main_v2 : S1x1024.Idx → EReal) (ix2 0 j) := by
  blk_ext [iblk, idx_4]
theorem iblk_5_at (t : Fin cfg0.N) (k j : Fin 1024) : (iblk m c 5 t : Vec Ideal S1024x1024 .bf16) (ix2 k j) = (V m c main_v3 : S1024x1024.Idx → EReal) (ix2 k j) := by
  blk_ext [iblk, idx_5]
theorem iblk_6_at (t : Fin cfg0.N) (j : Fin 1024) : (iblk m c 6 t : Vec Ideal S1x1024 .f32) (ix2 0 j) = (V m c main_v4 : S1x1024.Idx → EReal) (ix2 0 j) := by
  blk_ext [iblk, idx_6]

/-! ## What the host's lines before the call make of the weights -/

theorem v2_eq : (V m c main_v2 : S1x1024.Idx → EReal) = shapeCast S1x1024 (broadcastInDim S1x1x4x256 ![0, 1, 2, 3] bcast_S1x1x1x256_S1x1x4x256_0_1_2_3
    (shapeCast S1x1x1x256 (m ((c : Thread nD τ).loc main_arg4) : S1x256.Idx → EReal) shapeCasts_S1x256_S1x1x1x256)) shapeCasts_S1x1x4x256_S1x1024 := rfl
theorem v3_eq : (V m c main_v3 : S1024x1024.Idx → EReal) = m ((c : Thread nD τ).loc main_arg5) := rfl
theorem v4_eq : (V m c main_v4 : S1x1024.Idx → EReal) = shapeCast S1x1024 (m ((c : Thread nD τ).loc main_arg6) : S1024.Idx → EReal) shapeCasts_S1024_S1x1024 := rfl

theorem v2_at (j : Fin 1024) : (V m c main_v2 : S1x1024.Idx → EReal) (ix2 0 j) = (m ((c : Thread nD τ).loc main_arg4) : S1x256.Idx → EReal) (ix2 0 (place j)) := by
  rw [v2_eq]; pointwise; rfl
theorem v4_at (j : Fin 1024) : (V m c main_v4 : S1x1024.Idx → EReal) (ix2 0 j) = (m ((c : Thread nD τ).loc main_arg6) : S1024.Idx → EReal) (ix1 j) := by
  rw [v4_eq]; pointwise

variable {m c} {w : Weights} {x : Fin 4096 → Row} (hx : Holds m c w x) (ht : ∀ i, Row.Tame w (x i))
include hx

theorem headIn_holds (t : Fin cfg0.N) : (headIn m c t).Holds w (fun i => x (inTile t i)) where
  o i j := (iblk_0_at m c t i j).trans ((congrFun (V_main_arg0 m c) _).trans (hx.o _ j))
  gate i j := (iblk_1_at m c t i j).trans ((congrFun (V_main_arg1 m c) _).trans (hx.gate _ j))
  h1 i j := (iblk_2_at m c t i j).trans ((congrFun (V_main_arg2 m c) _).trans (hx.h1 _ j))
  target i j := (iblk_3_at m c t i j).trans ((congrFun (V_main_arg3 m c) _).trans (hx.target _ j))
  hw j := (iblk_4_at m c t j).trans ((v2_at m c j).trans (hx.hw _))
  wgo k j := (iblk_5_at m c t k j).trans ((congrFun (v3_eq m c) _).trans (hx.wgo k j))
  wf j := (iblk_6_at m c t j).trans ((v4_at m c j).trans (hx.wf j))

/-! ## The two arrays added to -/

omit hx in
theorem start_same (t : Fin cfg0.N) (d1 : Vec Ideal S512x1024 .f32) (d2 d3 : Vec Ideal S512x1024 .bf16) :
    (startSt (grid0.coords t 0).val (⟨d1, d2, d3, (headAcc m c t.val).ggo, (headAcc m c t.val).small⟩ : HeadSt Ideal)).ggo = (headAcc m c t.val).ggo
    ∧ (startSt (grid0.coords t 0).val (⟨d1, d2, d3, (headAcc m c t.val).ggo, (headAcc m c t.val).small⟩ : HeadSt Ideal)).small = (headAcc m c t.val).small := by
  unfold startSt
  split
  · next h =>
    have h0 : t.val = 0 := by
      rw [coord] at h
      have key : ∀ n : Fin 8, first n.val → n.val = 0 := by decide +kernel
      exact key ⟨t.val, pt t⟩ h
    rw [h0]; exact ⟨rfl, rfl⟩
  · exact ⟨rfl, rfl⟩

theorem headAt_ggo (t : Fin cfg0.N) (k j : Fin 1024) :
    (headAt m c t (headAcc m c t.val)).ggo (ix2 k j) = (headAcc m c t.val).ggo (ix2 k j) + tileSum (fun r => r.y2 w k * r.dh2 w j) x t.val := by
  unfold headAt headStep
  rw [seen_eq]
  refine (ggoOf_at (headIn_holds hx t) _ k j).trans ?_
  rw [(start_same t _ _ _).1, tileSum, dif_pos (pt t)]; rfl

include ht in
theorem headAt_small (t : Fin cfg0.N) (r : Fin 8) (j : Fin 1024) :
    (headAt m c t (headAcc m c t.val)).small (ix2 r j) = (headAcc m c t.val).small (ix2 r j) + tileSum (fun y => y.small w r j) x t.val := by
  unfold headAt headStep
  rw [seen_eq]
  refine (smallOf_at (headIn_holds hx t) (fun i => ht (inTile t i)) _ r j).trans ?_
  rw [(start_same t _ _ _).2, tileSum, dif_pos (pt t)]; rfl

include ht in
theorem headAcc_at : ∀ (n : ℕ) (_ : n ≤ 8),
    (∀ k j : Fin 1024, (headAcc m c n).ggo (ix2 k j) = ∑ T ∈ Finset.range n, tileSum (fun r => r.y2 w k * r.dh2 w j) x T)
    ∧ ∀ (r : Fin 8) (j : Fin 1024), (headAcc m c n).small (ix2 r j) = ∑ T ∈ Finset.range n, tileSum (fun y => y.small w r j) x T
  | 0, _ => by
    refine ⟨fun k j => ?_, fun r j => ?_⟩
    · show k0_pay2 (F := Ideal) (ix2 k j) = _
      simp only [k0_pay2, pointwise, Finset.range_zero, Finset.sum_empty]
    · show k0_pay3 (F := Ideal) (ix2 r j) = _
      simp only [k0_pay3, pointwise, Finset.range_zero, Finset.sum_empty]
  | n + 1, hn => by
    obtain ⟨hg, hs⟩ := headAcc_at n (by omega)
    have e := headAcc_succ m c ⟨n, Nat.lt_of_lt_of_eq hn N_0.symm⟩
    rw [show headAcc m c (n + 1) = _ from e]
    refine ⟨fun k j => ?_, fun r j => ?_⟩
    · rw [Finset.sum_range_succ, ← hg k j]; exact headAt_ggo hx ⟨n, _⟩ k j
    · rw [Finset.sum_range_succ, ← hs r j]; exact headAt_small hx ht ⟨n, _⟩ r j

/-! ## The result arrays -/

theorem dh2_at (i : Fin 4096) (j : Fin 1024) : (Dat.arrAt (dat m c) 7 cfg0.N : S4096x1024.Idx → EReal) (ix2 i j) = (x i).dh2 w j := by
  have h := (dat m c).arrAt_emb_eq_flushed 7 (win0_7.hdisj_of_index_inj (by decide +kernel)) (tileOf i) (flush0_7 _) (ix2 ⟨i.val % 512, by omega⟩ j)
  have e : (dat m c).after 7 (tileOf i) (ix2 ⟨i.val % 512, by omega⟩ j) = (x i).dh2 w j := by
    rw [after_7]; unfold headAt headStep; rw [seen_eq]
    exact (dh2Of_at (headIn_holds hx (tileOf i)) _ j).trans (by rw [inTile_tileOf])
  refine Eq.trans ?_ (h.trans e)
  have := pt (tileOf i)
  have ht : (tileOf i).val = i.val / 512 := rfl
  blk_ext [idx_7, ht]

theorem do_at (i : Fin 4096) (j : Fin 1024) : (Dat.arrAt (dat m c) 8 cfg0.N : S4096x1024.Idx → EReal) (ix2 i j) = (x i).dO w j := by
  have h := (dat m c).arrAt_emb_eq_flushed 8 (win0_8.hdisj_of_index_inj (by decide +kernel)) (tileOf i) (flush0_8 _) (ix2 ⟨i.val % 512, by omega⟩ j)
  have e : (dat m c).after 8 (tileOf i) (ix2 ⟨i.val % 512, by omega⟩ j) = (x i).dO w j := by
    rw [after_8]; unfold headAt headStep; rw [seen_eq]
    exact (doOf_at (headIn_holds hx (tileOf i)) _ _ j).trans (by rw [inTile_tileOf])
  refine Eq.trans ?_ (h.trans e)
  have := pt (tileOf i)
  have ht : (tileOf i).val = i.val / 512 := rfl
  blk_ext [idx_8, ht]

theorem dgate_at (i : Fin 4096) (j : Fin 1024) : (Dat.arrAt (dat m c) 9 cfg0.N : S4096x1024.Idx → EReal) (ix2 i j) = (x i).dgate w j := by
  have h := (dat m c).arrAt_emb_eq_flushed 9 (win0_9.hdisj_of_index_inj (by decide +kernel)) (tileOf i) (flush0_9 _) (ix2 ⟨i.val % 512, by omega⟩ j)
  have e : (dat m c).after 9 (tileOf i) (ix2 ⟨i.val % 512, by omega⟩ j) = (x i).dgate w j := by
    rw [after_9]; unfold headAt headStep; rw [seen_eq]
    exact (dgateOf_at (headIn_holds hx (tileOf i)) _ j).trans (by rw [inTile_tileOf])
  refine Eq.trans ?_ (h.trans e)
  have := pt (tileOf i)
  have ht : (tileOf i).val = i.val / 512 := rfl
  blk_ext [idx_9, ht]

/-! The two arrays added to are written back once, whole, after the last point. -/

omit hx in
theorem acc_8 : headAcc m c 8 = ⟨(headAt m c t0_7 (headAcc m c t0_7.val)).ggo, (headAt m c t0_7 (headAcc m c t0_7.val)).small⟩ := headAcc_succ m c t0_7

include ht in
theorem ggo_at (k j : Fin 1024) : (Dat.arrAt (dat m c) 10 cfg0.N : S1024x1024.Idx → EReal) (ix2 k j) = ∑ i, (x i).y2 w k * (x i).dh2 w j := by
  refine ((dat m c).arrAt_emb_eq_after_last 10 t0_7 (by decide +kernel) (ix2 k j)).trans ?_
  have e : (headAt m c t0_7 (headAcc m c t0_7.val)).ggo (ix2 k j) = ∑ i, (x i).y2 w k * (x i).dh2 w j := by
    have h := (headAcc_at hx ht 8 le_rfl).1 k j
    rw [acc_8, tileSum_all] at h; exact h
  have h := congrFun (after_10 m c t0_7) (ix2 k j)
  exact h.trans e

include ht in
theorem small_at (r : Fin 8) (j : Fin 1024) : (Dat.arrAt (dat m c) 11 cfg0.N : S8x1024.Idx → EReal) (ix2 r j) = ∑ i, (x i).small w r j := by
  refine ((dat m c).arrAt_emb_eq_after_last 11 t0_7 (by decide +kernel) (ix2 r j)).trans ?_
  have e : (headAt m c t0_7 (headAcc m c t0_7.val)).small (ix2 r j) = ∑ i, (x i).small w r j := by
    have h := (headAcc_at hx ht 8 le_rfl).2 r j
    rw [acc_8, tileSum_all] at h; exact h
  have h := congrFun (after_11 m c t0_7) (ix2 r j)
  exact h.trans e

end Cert.Kernel2Ideal.Own
-- ==== Proof.Head.Reference.lean ====
/-
  The reference of the call that computes the loss and its gradients, over the extended reals: its five results at an index are
  the formulas of `Row.lean`, where the target and the final norm's weight are real.
-/
module

public import proofs.«01_k».proof.Proof.Gen.Reference2Ideal.Run
public import proofs.«01_k».proof.Proof.Head.Row
public import Idealize.ShloMosaic.Lib.Pointwise
public import Idealize.ShloMosaic.Lib.KernelVsHost

@[expose] public section

set_option maxRecDepth 16384

noncomputable section

namespace Cert.Reference2Ideal.Own

open Idealize.ShloMosaic Idealize.SL.Sem Cert.Reference2Ideal Cert.Reference2Ideal.Gen Cert.Reference2Ideal.Value
open Cert.Head

/-- A column, as the reshapes to and from heads name it. -/
theorem flat (p : Fin 4) (e : Fin 256) (h : p.val * 256 + e.val < 1024) : (⟨p.val * 256 + e.val, h⟩ : Fin 1024) = col p e := Fin.ext (by simp only [col]; omega)
theorem part_ix (j : Fin 1024) (h : j.val / 256 < 4) : (⟨j.val / 256, h⟩ : Fin 4) = part j := rfl
theorem place_ix (j : Fin 1024) (h : j.val % 256 < 256) : (⟨j.val % 256, h⟩ : Fin 256) = place j := rfl

/-- The arguments hold these weights and rows. -/
abbrev Holds (V : Valuation τ sig (Elt Ideal)) (w : Weights) (x : Fin 4096 → Row) : Prop :=
  Data (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) w x

variable {V : Valuation τ sig (Elt Ideal)} {w : Weights} {x : Fin 4096 → Row} (hx : Holds V w x) (ht : ∀ i, Row.Tame w (x i))
include hx

variable (i : Fin 4096) (p : Fin 4) (e : Fin 256) (j : Fin 1024)

theorem v1_at : (res_main_v1 V : S4096x4x256.Idx → EReal) (ix3 i p e) = (x i).o (col p e) := by
  unfold res_main_v1; pointwise; rw [flat]; exact hx.o i _

theorem v8_at : (res_main_v8 V : S4096x4x1.Idx → EReal) (ix3 i p 0) = (x i).mo p := by
  unfold res_main_v8
  pointwise [v1_at hx, word_256, word_eps, Row.mo]

theorem v9_at : (res_main_v9 V : S4096x4x1.Idx → EReal) (ix3 i p 0) = (x i).ro p := by
  unfold res_main_v9
  pointwise [v8_at hx]; rfl

theorem v14_at : (res_main_v14 V : S4096x4x256.Idx → EReal) (ix3 i p e) = (x i).ohat (col p e) := by
  unfold res_main_v14
  pointwise [v1_at hx, v9_at hx, Row.ohat, part_col]

theorem v15_at : (res_main_v15 V : S1x1x256.Idx → EReal) (ix3 0 0 e) = w.hw e := by
  unfold res_main_v15
  pointwise; exact hx.hw e

theorem v18_at : (res_main_v18 V : S4096x1024.Idx → EReal) (ix2 i j) = (x i).on w j := by
  unfold res_main_v18
  pointwise
  rw [part_ix, place_ix]
  pointwise [v14_at hx, v15_at hx, Row.on, col_part_place]

theorem v19_2_at : (res_main_v19_2 V : S4096x1024.Idx → EReal) (ix2 i j) = (x i).sg j := by
  unfold res_main_v19_2
  pointwise [hx.gate i j, word_one, Row.sg]

theorem v19_0_at : (res_main_v19_0 V : S4096x1024.Idx → EReal) (ix2 i j) = (x i).silu j := by
  unfold res_main_v19_0
  pointwise [hx.gate i j, v19_2_at hx, Row.silu]

theorem v20_at : (res_main_v20 V : S4096x1024.Idx → EReal) (ix2 i j) = (x i).y2 w j := by
  unfold res_main_v20
  pointwise [v18_at hx, v19_0_at hx, Row.y2]

theorem v22_at : (res_main_v22 V : S4096x1024.Idx → EReal) (ix2 i j) = (x i).h2 w j := by
  unfold res_main_v22
  pointwise [hx.h1 i j, hx.wgo, v20_at hx, Row.h2]

theorem v29_at : (res_main_v29 V : S4096x1.Idx → EReal) (ix2 i 0) = (x i).mf w := by
  unfold res_main_v29
  pointwise [v22_at hx, word_1024, word_eps, Row.mf]

theorem v30_at : (res_main_v30 V : S4096x1.Idx → EReal) (ix2 i 0) = (x i).rf w := by
  unfold res_main_v30
  pointwise [v29_at hx]; rfl

theorem v35_at : (res_main_v35 V : S4096x1024.Idx → EReal) (ix2 i j) = (x i).h2hat w j := by
  unfold res_main_v35
  pointwise [v22_at hx, v30_at hx, Row.h2hat]

theorem v36_at : (res_main_v36 V : S1x1024.Idx → EReal) (ix2 0 j) = w.wf j := by
  unfold res_main_v36
  pointwise; exact hx.wf j

theorem v39_at : (res_main_v39 V : S4096x1024.Idx → EReal) (ix2 i j) = (x i).diff w j := by
  unfold res_main_v39
  pointwise [v35_at hx, v36_at hx, hx.target i j, Row.diff]

include ht in
theorem v53_at : (res_main_v53 V : S4096x1024.Idx → EReal) (ix2 i j) = (x i).dout w j := by
  unfold res_main_v53
  pointwise [v39_at hx, word_half, word_one, word_two, word_1024, Row.dout]
  obtain ⟨d, hd⟩ := Row.diff_real (ht i) j
  simp only [hd, ← EReal.coe_mul, div_1024]
  congr 1; ring

include ht in
theorem v58_at : (res_main_v58 V : S4096x1024.Idx → EReal) (ix2 i j) = (x i).dxh w j := by
  unfold res_main_v58
  pointwise [v53_at hx ht, v36_at hx, Row.dxh]

include ht in
/-- What the final norm's statistic passes back. -/
theorem v69_at : (res_main_v69 V : S4096x1024.Idx → EReal) (ix2 i j)
    = back ((x i).h2 w) ((x i).dxh w) ((x i).mf w) ((x i).rf w) 1024 := by
  unfold res_main_v69
  pointwise
  rw [Fin.sum_univ_one]
  pointwise [v22_at hx, v58_at hx ht, v29_at hx, v30_at hx, word_neg_half, word_1024]
  rfl

include ht in
/-- The first result. -/
theorem v73_at : (res_main_v73 V : S4096x1024.Idx → EReal) (ix2 i j) = (x i).dh2 w j := by
  unfold res_main_v73
  pointwise [v58_at hx ht, v30_at hx, v22_at hx, v69_at hx ht]
  exact Row.final_back (ht i) j

include ht in
theorem v76_at : (res_main_v76 V : S4096x1024.Idx → EReal) (ix2 i j) = (x i).dy2 w j := by
  unfold res_main_v76
  pointwise [v73_at hx ht, hx.wgo, Row.dy2]

include ht in
theorem v77_at : (res_main_v77 V : S4096x1024.Idx → EReal) (ix2 i j) = (x i).on w j * (x i).dy2 w j := by
  unfold res_main_v77
  pointwise [v18_at hx, v76_at hx ht]

include ht in
theorem v80_at : (res_main_v80 V : S4096x4x256.Idx → EReal) (ix3 i p e) = (x i).don w (col p e) := by
  unfold res_main_v80
  pointwise
  rw [flat]
  pointwise [v76_at hx ht, v19_0_at hx, Row.don]

include ht in
theorem v85_at : (res_main_v85 V : S4096x4x256.Idx → EReal) (ix3 i p e) = (x i).dohat w (col p e) := by
  unfold res_main_v85
  pointwise [v80_at hx ht, v15_at hx, Row.dohat, place_col]

include ht in
/-- What a head norm's statistic passes back. -/
theorem v96_at : (res_main_v96 V : S4096x4x256.Idx → EReal) (ix3 i p e)
    = back (fun e => (x i).o (col p e)) (fun e => (x i).dohat w (col p e)) ((x i).mo p) ((x i).ro p) 256 := by
  unfold res_main_v96
  pointwise
  rw [Fin.sum_univ_one]
  pointwise [v1_at hx, v85_at hx ht, v8_at hx, v9_at hx, word_neg_half, word_256]
  rfl

include ht in
/-- The second result. -/
theorem v108_at : (truncf .bf16 (shapeCast _ (addf (addf (mulf (res_main_v85 V) (broadcastInDim S4096x4x256 ![0, 1, 2] bcast_S4096x4x1_S4096x4x256_0_1_2 (res_main_v9 V)))
      (mulf (res_main_v1 V) (res_main_v96 V))) (mulf (res_main_v96 V) (res_main_v1 V))) shapeCasts_S4096x4x256_S4096x1024) bitsLt_bf16_f32 : S4096x1024.Idx → EReal) (ix2 i j)
    = (x i).dO w j := by
  pointwise
  rw [part_ix, place_ix]
  pointwise [v85_at hx ht, v9_at hx, v1_at hx, v96_at hx ht, col_part_place]
  exact Row.head_back (ht i) j

include ht in
/-- The third result. -/
theorem v109_at : (truncf .bf16 (addf (mulf (res_main_v77 V) (res_main_v19_2 V)) (mulf (mulf (V (Proc.devRef .tc main_arg1)) (res_main_v77 V)) (mulf (res_main_v19_2 V)
      (subf (broadcastInDim S4096x1024 ![] bcast_S_S4096x1024 (constant S_ .f32 0x3F800000#32)) (res_main_v19_2 V))))) bitsLt_bf16_f32 : S4096x1024.Idx → EReal) (ix2 i j)
    = (x i).dgate w j := by
  pointwise [v77_at hx ht, v19_2_at hx, hx.gate i j, word_one]
  exact Row.gate_back (ht i) j

include ht in
/-- The fourth result. -/
theorem v75_at (k : Fin 1024) : (transpose S1024x1024 [1, 0] (Host.dotGeneral (φ₂ := .f32) dot_S4096x1024_S4096x1024_S1024x1024_0_0_1_1_n_n none (res_main_v73 V) (res_main_v20 V))
      transposes_S1024x1024_S1024x1024_1_0 : S1024x1024.Idx → EReal) (ix2 k j) = ∑ i, (x i).y2 w k * (x i).dh2 w j := by
  pointwise [v73_at hx ht, v20_at hx]
  exact Finset.sum_congr rfl fun i _ => mul_comm _ _

/-! ## The small results -/

omit hx in
/-- A sum over the rows and the heads. -/
theorem reduce_heads {n h : ℕ} (k : (⟨3, ![n, h, 256]⟩ : Shape).ReducesTo [0, 1] S256) (y : (⟨3, ![n, h, 256]⟩ : Shape).Idx → EReal) (a : EReal) :
    Ideal.hostReduceAdd k y a (ix1 e) = a + ∑ i, ∑ p, y (ix3 i p e) := by
  rw [Ideal.hostReduceAdd, Finset.sum_filter_eq_sum_of_fiber (κ := Fin n × Fin h) _ (fun q => ix3 q.1 q.2 e) ?_ ?_ y, Fintype.sum_prod_type]
  · intro q q' h
    exact Prod.ext (congrFun h 0) (congrFun h 1)
  · intro q
    constructor
    · intro hq
      have h2 := k.drop_apply_val_of_eq q 0 2 Nat.one_pos rfl
      rw [hq] at h2
      refine ⟨(q 0, q 1), funext fun b => ?_⟩
      fin_cases b
      · rfl
      · rfl
      · exact Fin.ext h2
    · rintro ⟨q, rfl⟩
      funext b
      fin_cases b
      exact Fin.ext (k.drop_apply_val_of_eq _ 0 2 Nat.one_pos rfl)

/-- The rows of the fifth result: the final norm's weight, the head norm's, the loss. -/
def normRow (V : Valuation τ sig (Elt Ideal)) : S1x1024.Idx → EReal :=
  broadcastInDim S1x1024 ![1] bcast_S1024_S1x1024_1 (Host.reduceAdd (F := Ideal) (φ := .f32) (shapeCast _ (Host.reduceAdd (F := Ideal) (φ := .f32) (mulf (res_main_v35 V) (res_main_v53 V))
    (constant S_ .f32 0x00000000#32) reducesTo_S4096x1024_S1024_d0 h_S_) shapeCasts_S1024_S1x1024) (constant S_ .f32 0x00000000#32) reducesTo_S1x1024_S1024_d0 h_S_)
def headRow (V : Valuation τ sig (Elt Ideal)) : S1x1024.Idx → EReal :=
  pad S1x1024 ![0, 0] ![0, 768] ![0, 0] (broadcastInDim S1x256 ![1] bcast_S256_S1x256_1 (Host.reduceAdd (F := Ideal) (φ := .f32) (shapeCast _ (Host.reduceAdd (F := Ideal) (φ := .f32)
    (mulf (res_main_v14 V) (res_main_v80 V)) (constant S_ .f32 0x00000000#32) reducesTo_S4096x4x256_S256_d0_1 h_S_) shapeCasts_S256_S1x1x256)
    (constant S_ .f32 0x00000000#32) reducesTo_S1x1x256_S256_d0_1 h_S_)) (sitofp (F := Ideal) .f32 (constantI S_ 32 0#32)) pads_S1x256_S1x1024_000_07680 h_S_
def lossRow (V : Valuation τ sig (Elt Ideal)) : S1x1024.Idx → EReal :=
  broadcastInDim S1x1024 ![] bcast_S_S1x1024 (mulf (F := Ideal) (φ := .f32) (constant S_ .f32 0x3F000000#32) (Host.reduceAdd (F := Ideal) (φ := .f32) (Host.divf (Host.reduceAdd (F := Ideal) (φ := .f32)
    (mulf (res_main_v39 V) (res_main_v39 V)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

include ht in
theorem normRow_at : normRow V (ix2 0 j) = ∑ i, (x i).dout w j * (x i).h2hat w j := by
  unfold normRow
  pointwise
  rw [Fin.sum_univ_one]
  pointwise [v35_at hx, v53_at hx ht]
  exact Finset.sum_congr rfl fun i _ => mul_comm _ _

include ht in
theorem headRow_at : headRow V (ix2 0 j) = ∑ i, (if h : j.val < 256 then ∑ p, (x i).don w (col p ⟨j.val, h⟩) * (x i).ohat (col p ⟨j.val, h⟩) else 0) := by
  unfold headRow
  pointwise
  split_ifs with h
  · rw [reduce_heads, Fin.sum_univ_one, Fin.sum_univ_one]
    pointwise
    rw [reduce_heads]
    pointwise [v14_at hx, v80_at hx ht]
    exact Finset.sum_congr rfl fun i _ => Finset.sum_congr rfl fun p _ => mul_comm _ _
  · rw [Finset.sum_const_zero]
    show ((((0#32 : BitVec 32).toInt : ℤ) : ℝ) : EReal) = _
    simp

include ht in
theorem lossRow_at : lossRow V (ix2 0 j) = ∑ i, (x i).loss w := by
  unfold lossRow
  pointwise [v39_at hx, word_half, word_1024]
  exact (Row.loss_sum ht).2

include ht in
/-- The fifth result. -/
theorem v107_at (r : Fin 8) : (concatenate S8x1024 0 [⟨S1x1024, normRow V⟩, ⟨S1x1024, headRow V⟩, ⟨S1x1024, lossRow V⟩,
      ⟨S5x1024, (broadcastInDim S5x1024 ![] bcast_S_S5x1024 (constant (F := Ideal) S_ .f32 0x00000000#32) : S5x1024.Idx → EReal)⟩]
      concatenates_S1x1024_S1x1024_S1x1024_S5x1024_S8x1024_d0 : S8x1024.Idx → EReal) (ix2 r j) = ∑ i, (x i).small w r j := by
  pointwise
  fin_cases r
  · exact normRow_at hx ht j
  · exact headRow_at hx ht j
  · exact lossRow_at hx ht j
  all_goals exact Finset.sum_const_zero.symm

end Cert.Reference2Ideal.Own

end
-- ==== Proof.Head.Finite.lean ====
/-
  What the precondition of the call that computes the loss and its gradients says: the target
  and the final norm's weight hold reals.
-/
module

public import proofs.«01_k».proof.Pre_finite2
public import proofs.«01_k».proof.Proof.Finite
public import proofs.«01_k».proof.Proof.Head.Row

@[expose] public section

noncomputable section

namespace Cert.Pre_finite2

open Idealize.ShloMosaic
open Cert.Chunk (IsReal)
open Cert.Pre_finite (isReal_of_lt)
open Cert.Head

theorem facts : Facts where
  bcast_S_S4096x1024 := by decide
  reducesTo_S4096x1024_S_d0_1 := by decide
  h_S_ := by decide
  bcast_S_S1024 := by decide
  reducesTo_S1024_S_d0 := by decide

variable [Facts]

instance : Subsingleton S_.Idx := ⟨fun _ _ => funext fun a => a.elim0⟩

theorem holds {o gate res target : S4096x1024.Idx → EReal} {hw : S1x256.Idx → EReal} {wgo : S1024x1024.Idx → EReal} {wf : S1024.Idx → EReal}
    (h : fn (F := Ideal) o gate res target hw wgo wf = fun _ => 1#1) :
    ∃ w x, Data o gate res target hw wgo wf w x ∧ ∀ i, Row.Tame w (x i) := by
  obtain ⟨h0, h1⟩ := IntOp.andi_eq_one.1 (congrFun h ix0)
  exact ⟨⟨fun e => hw (ix2 0 e), fun k j => wgo (ix2 k j), fun j => wf (ix1 j)⟩,
    fun i => ⟨fun j => o (ix2 i j), fun j => gate (ix2 i j), fun j => res (ix2 i j), fun j => target (ix2 i j)⟩,
    ⟨fun _ _ => rfl, fun _ _ => rfl, fun _ _ => rfl, fun _ _ => rfl, fun _ => rfl, fun _ _ => rfl, fun _ => rfl⟩,
    fun _ => ⟨fun _ => isReal_of_lt _ (Host.reduce_andi_all _ _ _ _ _ h1 _), fun _ => isReal_of_lt _ (Host.reduce_andi_all _ _ _ _ _ h0 _)⟩⟩

end Cert.Pre_finite2

end
-- ==== Proof.Head.Value.lean ====
/-
  The value claim of the call that computes the loss and its gradients: at a finite target and final norm's weight the two
  ideal programs end with the same five results.
-/
module

public import proofs.«01_k».proof.Defs
public import proofs.«01_k».proof.Proof.Head.Arrays
public import proofs.«01_k».proof.Proof.Head.Reference
public import proofs.«01_k».proof.Proof.Head.Finite
public import proofs.«01_k».proof.Proof.Head.Frames

@[expose] public section

set_option maxRecDepth 16384

noncomputable section

namespace Cert.Proof.Head

open Idealize.ShloMosaic Idealize.ShloMosaic.StableHlo Idealize.SL.Sem
open Cert.Head
open Kernel2Ideal.Own (dat)

/-- Arrays of rows that agree index by index are equal. -/
theorem ext2 {a b : ℕ} {y z : (⟨2, ![a, b]⟩ : Shape).Idx → EReal} (h : ∀ i j, y (ix2 i j) = z (ix2 i j)) : y = z :=
  funext fun i => by rw [eq_ix2 i]; exact h _ _

theorem value [hp : Cert.Pre_finite2.Facts] :
    algebraic_Kernel2Ideal_Reference2Ideal_pre_finite2 (hKernel2Ideal := Kernel2Ideal.Gen.facts) (hReference2Ideal := Reference2Ideal.Gen.facts) := by
  intro m g m' g' hpre hsame
  refine ⟨fun c => (dat m c).arrAt 7 Kernel2Ideal.cfg0.N, fun c => (dat m c).arrAt 8 Kernel2Ideal.cfg0.N, fun c => (dat m c).arrAt 9 Kernel2Ideal.cfg0.N,
    fun c => (dat m c).arrAt 10 Kernel2Ideal.cfg0.N, fun c => (dat m c).arrAt 11 Kernel2Ideal.cfg0.N,
    (θ_run _ _ _).mono (fun r h c => ?_) (Kernel2Ideal.Own.run m g), (θ_run _ _ _).mono (fun r h c => ?_) (Reference2Ideal.Value.run m' g')⟩
  · exact ⟨(h.1 c).1 7, (h.1 c).1 8, (h.1 c).1 9, (h.1 c).1 10, (h.1 c).1 11, Kernel2Ideal.Own.args_end m h.1 c⟩
  · obtain ⟨w, x, hx, ht⟩ := Pre_finite2.holds (hpre c)
    obtain ⟨h0, h1, h2, h3, h4, hargs⟩ := h c
    have hk : Kernel2Ideal.Own.Holds m c w x := hx
    have hy : Reference2Ideal.Own.Holds (launchContents m' c) w x := by
      obtain ⟨e0, e1, e2, e3, e4, e5, e6⟩ := hsame c
      rw [← e0, ← e1, ← e2, ← e3, ← e4, ← e5, ← e6] at hx
      exact hx
    exact ⟨h0.trans (ext2 fun i j => (Reference2Ideal.Own.v73_at hy ht i j).trans (Kernel2Ideal.Own.dh2_at hk i j).symm),
      h1.trans (ext2 fun i j => (Reference2Ideal.Own.v108_at hy ht i j).trans (Kernel2Ideal.Own.do_at hk i j).symm),
      h2.trans (ext2 fun i j => (Reference2Ideal.Own.v109_at hy ht i j).trans (Kernel2Ideal.Own.dgate_at hk i j).symm),
      h3.trans (ext2 fun i j => (Reference2Ideal.Own.v75_at hy ht j i).trans (Kernel2Ideal.Own.ggo_at hk ht i j).symm),
      h4.trans (ext2 fun i j => (Reference2Ideal.Own.v107_at hy ht j i).trans (Kernel2Ideal.Own.small_at hk ht i j).symm), hargs⟩

end Cert.Proof.Head

end
-- ==== Proof.Project.Terms.lean ====
/-
  What the projections' backward call makes of the blocks it reads at one grid point, and the blocks it leaves.
-/
module

public import proofs.«01_k».proof.Proof.Gen.Kernel3Ideal.Skeleton
public import Idealize.ShloMosaic.Lib.VecWindow

@[expose] public section

set_option maxRecDepth 16384

noncomputable section

namespace Cert.Kernel3Ideal.Own

open Idealize.ShloMosaic Idealize.SL.Sem Cert.Kernel3Ideal Cert.Kernel3Ideal.Gen

variable {F : FTy → Type} [FloatOps F]

/-- The blocks that the body reads at one grid point. -/
structure ProjIn (F : FTy → Type) where
  dq : Vec F S512x512 .bf16
  dk : Vec F S512x512 .bf16
  dv : Vec F S512x1024 .bf16
  dgate : Vec F S512x1024 .bf16
  dcum : Vec F S512x512 .f32
  low : Vec F S512x128 .bf16
  h1 : Vec F S512x1024 .f32
  dh2 : Vec F S512x1024 .f32
  nw : Vec F S1x1024 .f32
  wq : Vec F S4x1024x772 .bf16
  wgk : Vec F S128x512 .bf16
  bias : Vec F S1x512 .f32

/-- The blocks that it writes, and the scratch that it assembles the weights in. -/
structure ProjSt (F : FTy → Type) where
  dh1 : Vec F S512x1024 .f32
  dproj : Vec F S512x3200 .bf16
  gk : Vec F S128x512 .f32
  small : Vec F S8x1024 .f32
  wgi : Vec F S1024x3200 .bf16

/-- A load of a whole block. -/
abbrev wholeKeys (x : Vec F S512x512 .bf16) : Vec F S512x512 .bf16 := VecWindow.window x ![0, 0] S512x512.size inb_S512x512_S512x512_0_0
abbrev wholeRows {e : EltTy} (x : Vec F S512x1024 e) : Vec F S512x1024 e := VecWindow.window x ![0, 0] S512x1024.size inb_S512x1024_S512x1024_0_0
abbrev wholeLow (x : Vec F S512x128 .bf16) : Vec F S512x128 .bf16 := VecWindow.window x ![0, 0] S512x128.size inb_S512x128_S512x128_0_0
abbrev wholeRank {e : EltTy} (x : Vec F S128x512 e) : Vec F S128x512 e := VecWindow.window x ![0, 0] S128x512.size inb_S128x512_S128x512_0_0
abbrev wholeRow (x : Vec F S1x1024 .f32) : Vec F S1x1024 .f32 := VecWindow.window x ![0, 0] S1x1024.size inb_S1x1024_S1x1024_0_0
abbrev wholeBias (x : Vec F S1x512 .f32) : Vec F S1x512 .f32 := VecWindow.window x ![0, 0] S1x512.size inb_S1x512_S1x512_0_0

/-- The blocks as the body loads them. -/
def ProjIn.seen (b : ProjIn F) : ProjIn F :=
  ⟨wholeKeys b.dq, wholeKeys b.dk, wholeRows b.dv, wholeRows b.dgate, b.dcum, wholeLow b.low, wholeRows b.h1, wholeRows b.dh2, wholeRow b.nw, b.wq,
    wholeRank b.wgk, wholeBias b.bias⟩

/-- A chunk's rows of the cumulative gate's gradient. -/
def chunk0 (x : Vec F S512x512 .f32) : Vec F S64x512 .f32 := VecWindow.window x ![0, 0] S64x512.size inb_S512x512_S64x512_0_0
def chunk1 (x : Vec F S512x512 .f32) : Vec F S64x512 .f32 := VecWindow.window x ![64, 0] S64x512.size inb_S512x512_S64x512_64_0
def chunk2 (x : Vec F S512x512 .f32) : Vec F S64x512 .f32 := VecWindow.window x ![128, 0] S64x512.size inb_S512x512_S64x512_128_0
def chunk3 (x : Vec F S512x512 .f32) : Vec F S64x512 .f32 := VecWindow.window x ![192, 0] S64x512.size inb_S512x512_S64x512_192_0
def chunk4 (x : Vec F S512x512 .f32) : Vec F S64x512 .f32 := VecWindow.window x ![256, 0] S64x512.size inb_S512x512_S64x512_256_0
def chunk5 (x : Vec F S512x512 .f32) : Vec F S64x512 .f32 := VecWindow.window x ![320, 0] S64x512.size inb_S512x512_S64x512_320_0
def chunk6 (x : Vec F S512x512 .f32) : Vec F S64x512 .f32 := VecWindow.window x ![384, 0] S64x512.size inb_S512x512_S64x512_384_0
def chunk7 (x : Vec F S512x512 .f32) : Vec F S64x512 .f32 := VecWindow.window x ![448, 0] S64x512.size inb_S512x512_S64x512_448_0

/-- A row block of a quarter of the weights. -/
def quarter (q r : ℕ) (h : ∀ a, (![q, r, 0] : Fin 3 → ℕ) a + S1x256x772.size a ≤ S4x1024x772.size a) (x : Vec F S4x1024x772 .bf16) : Vec F S1x256x772 .bf16 :=
  VecWindow.window x ![q, r, 0] S1x256x772.size h

/-- The weights, assembled in four row blocks over what the scratch held. -/
def assemble (q : Vec F S4x1024x772 .bf16) (x : Vec F S1024x3200 .bf16) : Vec F S1024x3200 .bf16 :=
  VecWindow.put (VecWindow.put (VecWindow.put (VecWindow.put x
    ![0, 0] S256x3200.size (k0_pay9 (quarter 0 0 inb_S4x1024x772_S1x256x772_0_0_0 q) (quarter 1 0 inb_S4x1024x772_S1x256x772_1_0_0 q) (quarter 2 0 inb_S4x1024x772_S1x256x772_2_0_0 q) (quarter 3 0 inb_S4x1024x772_S1x256x772_3_0_0 q)))
    ![256, 0] S256x3200.size (k0_pay13 k0_pay8 (k0_pay10 (quarter 0 256 inb_S4x1024x772_S1x256x772_0_256_0 q)) (k0_pay11 (quarter 1 256 inb_S4x1024x772_S1x256x772_1_256_0 q)) (k0_pay12 (quarter 2 256 inb_S4x1024x772_S1x256x772_2_256_0 q)) (quarter 3 256 inb_S4x1024x772_S1x256x772_3_256_0 q)))
    ![512, 0] S256x3200.size (k0_pay14 k0_pay8 (quarter 0 512 inb_S4x1024x772_S1x256x772_0_512_0 q) (quarter 1 512 inb_S4x1024x772_S1x256x772_1_512_0 q) (quarter 2 512 inb_S4x1024x772_S1x256x772_2_512_0 q) (quarter 3 512 inb_S4x1024x772_S1x256x772_3_512_0 q)))
    ![768, 0] S256x3200.size (k0_pay16 (k0_pay15 k0_pay8 (quarter 0 768 inb_S4x1024x772_S1x256x772_0_768_0 q) (quarter 1 768 inb_S4x1024x772_S1x256x772_1_768_0 q) (quarter 2 768 inb_S4x1024x772_S1x256x772_2_768_0 q) (quarter 3 768 inb_S4x1024x772_S1x256x772_3_768_0 q)))

variable (b : ProjIn F)

/-- The gate's pre-activation, and its gradient. -/
def zOf : FVec F S512x512 .f32 := k0_pay18 b.low b.wgk b.bias
def dzOf : FVec F S512x512 .f32 :=
  k0_pay26 (zOf b) k0_pay19 (k0_pay20 (chunk0 b.dcum)) (k0_pay21 (chunk1 b.dcum)) (k0_pay22 (chunk2 b.dcum)) (k0_pay23 (chunk3 b.dcum)) (k0_pay24 (chunk4 b.dcum)) (k0_pay25 (chunk5 b.dcum)) (chunk6 b.dcum) (chunk7 b.dcum)

/-- The low-rank weight's gradient added to what the point before left. -/
def gkOf (x : Vec F S128x512 .f32) : Vec F S128x512 .f32 :=
  k0_pay28 (k0_pay17 b.low) (zOf b) k0_pay19 (k0_pay20 (chunk0 b.dcum)) (k0_pay21 (chunk1 b.dcum)) (k0_pay22 (chunk2 b.dcum)) (k0_pay23 (chunk3 b.dcum)) (k0_pay24 (chunk4 b.dcum)) (k0_pay25 (chunk5 b.dcum)) (chunk6 b.dcum) (chunk7 b.dcum) (wholeRank x)

/-- The bias's gradient added to what the point before left. -/
def biasRow (x : Vec F S8x1024 .f32) : FVec F S1x512 .f32 :=
  k0_pay29 (zOf b) k0_pay19 (k0_pay20 (chunk0 b.dcum)) (k0_pay21 (chunk1 b.dcum)) (k0_pay22 (chunk2 b.dcum)) (k0_pay23 (chunk3 b.dcum)) (k0_pay24 (chunk4 b.dcum)) (k0_pay25 (chunk5 b.dcum)) (chunk6 b.dcum) (chunk7 b.dcum)
    (VecWindow.window x ![1, 0] S1x512.size inb_S8x1024_S1x512_1_0)

/-- The gradient of the low-rank columns. -/
def dlowOf : FVec F S512x128 .bf16 :=
  k0_pay30 (zOf b) k0_pay19 (k0_pay20 (chunk0 b.dcum)) (k0_pay21 (chunk1 b.dcum)) (k0_pay22 (chunk2 b.dcum)) (k0_pay23 (chunk3 b.dcum)) (k0_pay24 (chunk4 b.dcum)) (k0_pay25 (chunk5 b.dcum)) (chunk6 b.dcum) (chunk7 b.dcum) b.wgk

/-- The projections' gradient, piece by piece over what the block held. -/
def dprojOf (x : Vec F S512x3200 .bf16) : Vec F S512x3200 .bf16 :=
  VecWindow.put (VecWindow.put (VecWindow.put (VecWindow.put (VecWindow.put x
    ![0, 3072] S512x128.size (dlowOf b))
    ![0, 0] S512x512.size (k0_pay31 b.dq))
    ![0, 512] S512x512.size (k0_pay32 b.dk))
    ![0, 1024] S512x1024.size (k0_pay33 b.dv))
    ![0, 2048] S512x1024.size (k0_pay35 b.dgate)

/-- The gradient of the normalised rows, from the assembled weights: the gate's part and the others. -/
def dnFour (w : Vec F S1024x3200 .bf16) : FVec F S512x1024 .f32 :=
  k0_pay34 (dlowOf b) (VecWindow.window w ![0, 3072] S1024x128.size inb_S1024x3200_S1024x128_0_3072) b.dq
    (VecWindow.window w ![0, 0] S1024x512.size inb_S1024x3200_S1024x512_0_0) b.dk (VecWindow.window w ![0, 512] S1024x512.size inb_S1024x3200_S1024x512_0_512)
    b.dv (VecWindow.window w ![0, 1024] S1024x1024.size inb_S1024x3200_S1024x1024_0_1024)
def dnGate (w : Vec F S1024x3200 .bf16) : FVec F S512x1024 .f32 :=
  k0_pay36 b.dgate (VecWindow.window w ![0, 2048] S1024x1024.size inb_S1024x3200_S1024x1024_0_2048)

/-- The norm weight's gradient added to what the point before left. -/
def normRow (w : Vec F S1024x3200 .bf16) (x : Vec F S8x1024 .f32) : FVec F S1x1024 .f32 :=
  k0_pay4 (dnFour b w) (dnGate b w) b.h1 (VecWindow.window x ![0, 0] S1x1024.size inb_S8x1024_S1x1024_0_0)

def smallOf (w : Vec F S1024x3200 .bf16) (x : Vec F S8x1024 .f32) : Vec F S8x1024 .f32 :=
  VecWindow.put (VecWindow.put x ![1, 0] S1x512.size (biasRow b x)) ![0, 0] S1x1024.size (normRow b w x)

/-- The gradient of the rows before the norm, with the one that goes past it. -/
def dh1Of (w : Vec F S1024x3200 .bf16) : FVec F S512x1024 .f32 := k0_pay5 (dnFour b w) (dnGate b w) b.h1 b.nw b.dh2

/-- What the body leaves at a point that clears nothing. -/
def projStep (s : ProjSt F) : ProjSt F :=
  ⟨dh1Of b.seen s.wgi, dprojOf b.seen s.dproj, gkOf b.seen s.gk, smallOf b.seen s.wgi s.small, s.wgi⟩

end Cert.Kernel3Ideal.Own
-- ==== Proof.Project.Body.lean ====
/-
  The body of the projections' backward call, run once at any grid point.
-/
module

public import proofs.«01_k».proof.Proof.Project.Terms
public import Idealize.ShloMosaic.Lib.Tactic
public import Idealize.ShloMosaic.Lib.Pipeline.Frame

@[expose] public section

set_option maxRecDepth 65536

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- Whether the body clears the two arrays that it adds to, and assembles the weights. -/
abbrev first (n : ℕ) : Prop := Scalar.cmpi .ne (Scalar.extui (Scalar.cmpi .eq (BitVec.ofNat 32 n) 0#32) : BitVec 32) 0#32 = 1#1

/-- A buffer holds what it reads. -/
theorem owns_self (c : Dev nD) {sp : Space} {s : Shape} {e : EltTy} (m : Memref sig .tc sp s e) (f : m.view.ty.Contents (Elt F)) :
    (m.view.loc (c : Thread nD τ) ↦[m.view.set]{fullShare} f : sProp 𝕄)
      ⊢ iprop(∃ f', ⌜m.view.read (Elt F) f' = m.view.read (Elt F) f⌝ ∗ (m.view.loc (c : Thread nD τ) ↦[m.view.set]{fullShare} f')) := by
  iintro H
  iexists f
  isplitr
  · ipureintro; exact rfl
  iexact H

/-- A buffer after some stores holds what they make of it. -/
theorem owns_writes (c : Dev nD) {sp : Space} {s : Shape} {e : EltTy} (m : Memref sig .tc sp s e) (f : m.view.ty.Contents (Elt F))
    (L : List (View.Piece (Elt F) s e)) (X : s.Idx → Elt F e) (hX : m.view.read (Elt F) (m.view.writes (Elt F) f L) = X) :
    (m.view.loc (c : Thread nD τ) ↦[m.view.set]{fullShare} m.view.writes (Elt F) f L : sProp 𝕄)
      ⊢ iprop(∃ f, ⌜m.view.read (Elt F) f = X⌝ ∗ (m.view.loc (c : Thread nD τ) ↦[m.view.set]{fullShare} f)) := by
  iintro H
  iexists _
  isplitr
  · ipureintro; exact hX
  iexact H

/-- The pieces of the projections' gradient, stored one after another. -/
theorem read_pieces {sp : Space} (m : Memref sig .tc sp S512x3200 .bf16) (f : m.view.ty.Contents (Elt F)) (w0 : Vec F S512x128 .bf16) (w1 w2 : Vec F S512x512 .bf16) (w3 w4 : Vec F S512x1024 .bf16) :
    m.view.read (Elt F) (m.view.writes (Elt F) f
      [⟨Rect.unit ![0, 2048] S512x1024.size inb_S512x3200_S512x1024_0_2048, w4⟩, ⟨Rect.unit ![0, 1024] S512x1024.size inb_S512x3200_S512x1024_0_1024, w3⟩,
        ⟨Rect.unit ![0, 512] S512x512.size inb_S512x3200_S512x512_0_512, w2⟩, ⟨Rect.unit ![0, 0] S512x512.size inb_S512x3200_S512x512_0_0, w1⟩,
        ⟨Rect.unit ![0, 3072] S512x128.size inb_S512x3200_S512x128_0_3072, w0⟩])
    = VecWindow.put (VecWindow.put (VecWindow.put (VecWindow.put (VecWindow.put (m.view.read (Elt F) f) ![0, 3072] S512x128.size w0) ![0, 0] S512x512.size w1)
        ![0, 512] S512x512.size w2) ![0, 1024] S512x1024.size w3) ![0, 2048] S512x1024.size w4 := by
  rw [View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl]
  rfl

/-- The weights' row blocks, stored one after another. -/
theorem read_blocks {sp : Space} (m : Memref sig .tc sp S1024x3200 .bf16) (f : m.view.ty.Contents (Elt F)) (w0 w1 w2 w3 : Vec F S256x3200 .bf16) :
    m.view.read (Elt F) (m.view.writes (Elt F) f
      [⟨Rect.unit ![768, 0] S256x3200.size inb_S1024x3200_S256x3200_768_0, w3⟩, ⟨Rect.unit ![512, 0] S256x3200.size inb_S1024x3200_S256x3200_512_0, w2⟩,
        ⟨Rect.unit ![256, 0] S256x3200.size inb_S1024x3200_S256x3200_256_0, w1⟩, ⟨Rect.unit ![0, 0] S256x3200.size inb_S1024x3200_S256x3200_0_0, w0⟩])
    = VecWindow.put (VecWindow.put (VecWindow.put (VecWindow.put (m.view.read (Elt F) f) ![0, 0] S256x3200.size w0) ![256, 0] S256x3200.size w1)
        ![512, 0] S256x3200.size w2) ![768, 0] S256x3200.size w3 := by
  rw [View.read_writes_cons_put _ _ _ _ _ rfl, View.read_writes_cons_put _ _ _ _ _ rfl, View.read_writes_cons_put _ _ _ _ _ rfl,
    View.read_writes_cons_put _ _ _ _ _ rfl]
  rfl

/-- The rows of small results, stored one after another. -/
theorem read_rows {sp : Space} (m : Memref sig .tc sp S8x1024 .f32) (f : m.view.ty.Contents (Elt F)) (w1 : Vec F S1x512 .f32) (w0 : Vec F S1x1024 .f32) :
    m.view.read (Elt F) (m.view.writes (Elt F) f
      [⟨Rect.unit ![0, 0] S1x1024.size inb_S8x1024_S1x1024_0_0, w0⟩, ⟨Rect.unit ![1, 0] S1x512.size inb_S8x1024_S1x512_1_0, w1⟩])
    = VecWindow.put (VecWindow.put (m.view.read (Elt F) f) ![1, 0] S1x512.size w1) ![0, 0] S1x1024.size w0 := by
  rw [View.read_writes_cons_put _ _ _ _ _ rfl, View.read_writes_cons_put _ _ _ _ _ rfl]
  rfl

section Run

variable (c : Dev nD) (arg1 : Memref sig .tc .vmem S512x512 .bf16) (harg1 : arg1.IsWhole) (arg2 : Memref sig .tc .vmem S512x512 .bf16) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x512 .f32) (harg5 : arg5.IsWhole) (arg6 : Memref sig .tc .vmem S512x128 .bf16) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S1x1024 .f32) (harg9 : arg9.IsWhole) (arg10 : Memref sig .tc .vmem S4x1024x772 .bf16) (harg10 : arg10.IsWhole)
  (arg11 : Memref sig .tc .vmem S128x512 .bf16) (harg11 : arg11.IsWhole) (arg12 : Memref sig .tc .vmem S1x512 .f32) (harg12 : arg12.IsWhole)
  (arg13 : Memref sig .tc .vmem S512x1024 .f32) (harg13 : arg13.IsWhole) (arg14 : Memref sig .tc .vmem S512x3200 .bf16) (harg14 : arg14.IsWhole)
  (arg15 : Memref sig .tc .vmem S128x512 .f32) (harg15 : arg15.IsWhole) (arg16 : Memref sig .tc .vmem S8x1024 .f32) (harg16 : arg16.IsWhole)
  (arg17 : Memref sig .tc .vmem S1024x3200 .bf16) (harg17 : arg17.IsWhole)

/-- The opening of the body at the grid's first point. -/
def opening (i : grid0.Coords) : Prog (TpuEff nD τ sig (Elt F) Λ₀ .tc) PUnit :=
  if _h : first (i 0).val then do
    let ⟨v126, v140, v142, v144, v145⟩ : Σ' (v126 : FVec F S256x112 .bf16) (v140 : FVec F S256x772 .bf16) (v142 : FVec F S256x772 .bf16) (v144 : FVec F S256x772 .bf16), Vec F S1x256x772 .bf16 ←
      k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    let v171 : FVec F S256x3200 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v126 v140 v142 v144 v145
    Prog.lift (.store arg17 (Rect.unit (s := S1024x3200) ![768, 0] S256x3200.size inb_S1024x3200_S256x3200_768_0) (k0_pay16 v171) Finset.univ (View.stores_vmem h_S256x3200 (harg17.storeExact_slice rfl _ packedbf16_S1024x3200_S256x3200_768_0) (fun _ => rfl)) (.inl rfl))
    pure ⟨⟩
  else pure ⟨⟩

/-- The body at a point is the opening and then the body at a point that has none. -/
theorem proj_eq (i i' : grid0.Coords) (h' : ¬ first (i' 0).val) :
    cc0_gla_project_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = opening arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 i >>= fun _ =>
        cc0_gla_project_backward (F := F) i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0_gla_project_backward_eq_skeleton]
  unfold cc0_gla_project_backward_skel
  rw [k0_part3_eq_skeleton]
  unfold k0_part3_skel opening
  by_cases hc : first (i 0).val
  · rw [dif_pos hc, dif_pos hc, dif_neg h']; chain_rfl
  · rw [dif_neg hc, dif_neg hc, dif_neg h']; chain_rfl

/-- The body's buffers: the inputs at their blocks, the outputs and the scratch at the state's contents. -/
def projOwn (b : ProjIn F) (s : ProjSt F) : sProp 𝕄 :=
  iprop(owns (c : Thread nD τ) arg1 fullShare b.dq
    ∗ owns (c : Thread nD τ) arg2 fullShare b.dk
    ∗ owns (c : Thread nD τ) arg3 fullShare b.dv
    ∗ owns (c : Thread nD τ) arg4 fullShare b.dgate
    ∗ owns (c : Thread nD τ) arg5 fullShare b.dcum
    ∗ owns (c : Thread nD τ) arg6 fullShare b.low
    ∗ owns (c : Thread nD τ) arg7 fullShare b.h1
    ∗ owns (c : Thread nD τ) arg8 fullShare b.dh2
    ∗ owns (c : Thread nD τ) arg9 fullShare b.nw
    ∗ owns (c : Thread nD τ) arg10 fullShare b.wq
    ∗ owns (c : Thread nD τ) arg11 fullShare b.wgk
    ∗ owns (c : Thread nD τ) arg12 fullShare b.bias
    ∗ owns (c : Thread nD τ) arg13 fullShare s.dh1
    ∗ owns (c : Thread nD τ) arg14 fullShare s.dproj
    ∗ owns (c : Thread nD τ) arg15 fullShare s.gk
    ∗ owns (c : Thread nD τ) arg16 fullShare s.small
    ∗ owns (c : Thread nD τ) arg17 fullShare s.wgi)

set_option maxHeartbeats 2000000 in
/-- The body at a point without the opening. -/
theorem projRest_run (i : grid0.Coords) (h : ¬ first (i 0).val) (b : ProjIn F) (s : ProjSt F) (E : Set ℕ) (K : PUnit → sProp 𝕄) :
    iprop(projOwn c arg1 arg2 arg3 arg4 arg5 arg6 arg7 arg8 arg9 arg10 arg11 arg12 arg13 arg14 arg15 arg16 arg17 b s ∗ (projOwn c arg1 arg2 arg3 arg4 arg5 arg6 arg7 arg8 arg9 arg10 arg11 arg12 arg13 arg14 arg15 arg16 arg17 b (projStep b s) -∗ K ⟨⟩))
      ⊢ wp frame (wpE (defs₀ (F := F)) Variants.none c none) E
        (cc0_gla_project_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨dq, dk, dv, dgate, dcum, low, h1, dh2, nw, wq, wgk, bias⟩ := b
  obtain ⟨dh1, dproj, gk, small, wgi⟩ := s
  simp only [cc0_gla_project_backward_eq_skeleton]; unfold cc0_gla_project_backward_skel
  simp only [k0_part3_eq_skeleton, k0_part4_eq_skeleton, k0_part5_eq_skeleton]
  unfold projOwn owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  subst hf0; subst hf1; subst hf2; subst hf3; subst hf4; subst hf5; subst hf6; subst hf7; subst hf8; subst hf9; subst hf10; subst hf11; subst hf12; subst hf13; subst hf14; subst hf15; subst hf16
  sl_exec (disch := first | sl_exact h)
  sl_step
  iapply Hk
  isplitl [H0]; · iapply (owns_self c arg1 f0); iexact H0
  isplitl [H1]; · iapply (owns_self c arg2 f1); iexact H1
  isplitl [H2]; · iapply (owns_self c arg3 f2); iexact H2
  isplitl [H3]; · iapply (owns_self c arg4 f3); iexact H3
  isplitl [H4]; · iapply (owns_self c arg5 f4); iexact H4
  isplitl [H5]; · iapply (owns_self c arg6 f5); iexact H5
  isplitl [H6]; · iapply (owns_self c arg7 f6); iexact H6
  isplitl [H7]; · iapply (owns_self c arg8 f7); iexact H7
  isplitl [H8]; · iapply (owns_self c arg9 f8); iexact H8
  isplitl [H9]; · iapply (owns_self c arg10 f9); iexact H9
  isplitl [H10]; · iapply (owns_self c arg11 f10); iexact H10
  isplitl [H11]; · iapply (owns_self c arg12 f11); iexact H11
  isplitl [H12]; · iapply (owns_writes c arg13 f12 _ _ (View.read_writes_full arg13.view f12 inb_S512x1024_S512x1024_0_0 _ [])); iexact H12
  isplitl [H13]; · iapply (owns_writes c arg14 f13 _ _ (read_pieces arg14 f13 _ _ _ _ _)); iexact H13
  isplitl [H14]; · iapply (owns_writes c arg15 f14 _ _ (View.read_writes_full arg15.view f14 inb_S128x512_S128x512_0_0 _ [])); iexact H14
  isplitl [H15]; · iapply (owns_writes c arg16 f15 _ _ (read_rows arg16 f15 _ _)); iexact H15
  iapply (owns_self c arg17 f16); iexact H16

/-- What the body finds in the arrays that it adds to, and in the scratch. -/
def startSt (n : ℕ) (q : Vec F S4x1024x772 .bf16) (s : ProjSt F) : ProjSt F :=
  if first n then { s with gk := k0_pay6, small := k0_pay7, wgi := assemble q s.wgi } else s

set_option maxHeartbeats 2000000 in
theorem opening_run (i : grid0.Coords) (q : Vec F S4x1024x772 .bf16) (s : ProjSt F) (E : Set ℕ) (K : PUnit → sProp 𝕄) :
    iprop(owns (c : Thread nD τ) arg10 fullShare q ∗ owns (c : Thread nD τ) arg15 fullShare s.gk ∗ owns (c : Thread nD τ) arg16 fullShare s.small ∗ owns (c : Thread nD τ) arg17 fullShare s.wgi
        ∗ (owns (c : Thread nD τ) arg10 fullShare q ∗ owns (c : Thread nD τ) arg15 fullShare (startSt (i 0).val q s).gk ∗ owns (c : Thread nD τ) arg16 fullShare (startSt (i 0).val q s).small
            ∗ owns (c : Thread nD τ) arg17 fullShare (startSt (i 0).val q s).wgi -∗ K ⟨⟩))
      ⊢ wp frame (wpE (defs₀ (F := F)) Variants.none c none) E (opening (F := F) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 i) K := by
  by_cases hc : first (i 0).val
  · unfold opening startSt
    rw [dif_pos hc, if_pos hc]
    simp only [k0_part1_eq_skeleton, k0_part2_eq_skeleton]
    unfold owns
    iintro ⟨⟨%f, %hf, H⟩, ⟨%f1, %hf1, H1⟩, ⟨%f2, %hf2, H2⟩, ⟨%f3, %hf3, H3⟩, Hk⟩
    obtain ⟨dh1, dproj, gk, small, wgi⟩ := s
    dsimp only at hf1 hf2 hf3 ⊢
    subst hf; subst hf3
    sl_exec
    sl_step
    iapply Hk
    isplitl [H]; · iapply (owns_self c arg10 f); iexact H
    isplitl [H1]
    · iapply (owns_writes c arg15 f1 _ _ (View.read_writes_full arg15.view f1 inb_S128x512_S128x512_0_0 _ []))
      iexact H1
    isplitl [H2]
    · iapply (owns_writes c arg16 f2 _ _ (View.read_writes_full arg16.view f2 inb_S8x1024_S8x1024_0_0 _ []))
      iexact H2
    iapply (owns_writes c arg17 f3 _ _ (read_blocks arg17 f3 _ _ _ _))
    iexact H3
  · unfold opening startSt
    rw [dif_neg hc, if_neg hc]
    iintro ⟨H, H1, H2, H3, Hk⟩
    sl_step
    iapply Hk
    isplitl [H]; · iexact H
    isplitl [H1]; · iexact H1
    isplitl [H2]; · iexact H2
    iexact H3

/-- A point without the opening. -/
def later : grid0.Coords := Fin.cons (⟨1, by decide⟩ : Fin 8) fun a => a.elim0

theorem later_opens : ¬ first (later 0).val := by decide +kernel

/-- The body at any point. -/
theorem proj_run (i : grid0.Coords) (b : ProjIn F) (s : ProjSt F) (E : Set ℕ) (K : PUnit → sProp 𝕄) :
    iprop(projOwn c arg1 arg2 arg3 arg4 arg5 arg6 arg7 arg8 arg9 arg10 arg11 arg12 arg13 arg14 arg15 arg16 arg17 b s
        ∗ (projOwn c arg1 arg2 arg3 arg4 arg5 arg6 arg7 arg8 arg9 arg10 arg11 arg12 arg13 arg14 arg15 arg16 arg17 b (projStep b (startSt (i 0).val b.wq s)) -∗ K ⟨⟩))
      ⊢ wp frame (wpE (defs₀ (F := F)) Variants.none c none) E
        (cc0_gla_project_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [proj_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 i later later_opens, wp_bind]
  refine BI.BIBase.Entails.trans ?_ (opening_run c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 i b.wq s E _)
  unfold projOwn
  iintro ⟨⟨H1, H2, H3, H4, H5, H6, H7, H8, H9, H10, H11, H12, H13, H14, H15, H16, H17⟩, Hk⟩
  isplitl [H10]; · iexact H10
  isplitl [H15]; · iexact H15
  isplitl [H16]; · iexact H16
  isplitl [H17]; · iexact H17
  iintro ⟨H10, H15, H16, H17⟩
  iapply (projRest_run c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 later later_opens b (startSt (i 0).val b.wq s))
  unfold projOwn
  have e13 : (startSt (i 0).val b.wq s).dh1 = s.dh1 := by unfold startSt; split <;> rfl
  have e14 : (startSt (i 0).val b.wq s).dproj = s.dproj := by unfold startSt; split <;> rfl
  rw [e13, e14]
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hk

end Run

end Cert.Kernel3Ideal.Own
-- ==== Proof.Project.Region.lean ====
/-
  The pipeline of the projections' backward call: what its windows hold after each grid point, the arrays that the body adds
  to and the scratch it keeps from point to point, the run of the whole program and its frame.
-/
module

public import proofs.«01_k».proof.Proof.Project.Body
public import proofs.«01_k».proof.Proof.Gen.Kernel3Ideal.Frame
public import Idealize.ShloMosaic.Lib.Pipeline.FrameBody

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points' values -/

/-- Under a put, what was there before matters outside the put window only. -/
theorem put_congr {s : Shape} {e : EltTy} (x y : Vec F s e) (off size : Fin s.rank → ℕ) (w : (Shape.mk s.rank size).Idx → Elt F e) (i : s.Idx)
    (h : (¬ ∀ a, off a ≤ (i a).val ∧ (i a).val < off a + size a) → x i = y i) : VecWindow.put x off size w i = VecWindow.put y off size w i := by
  unfold VecWindow.put
  by_cases hi : ∀ a, off a ≤ (i a).val ∧ (i a).val < off a + size a
  · rw [dif_pos hi, dif_pos hi]
  · rw [dif_neg hi, dif_neg hi, h hi]

/-- The pieces are all of the block: what it held before doesn't matter. -/
theorem dprojOf_congr (b : ProjIn F) (x y : Vec F S512x3200 .bf16) : dprojOf b x = dprojOf b y := by
  funext i
  refine put_congr _ _ _ _ _ i fun h4 => put_congr _ _ _ _ _ i fun h3 => put_congr _ _ _ _ _ i fun h2 => put_congr _ _ _ _ _ i fun h1 =>
    put_congr _ _ _ _ _ i fun h0 => ?_
  have hr : (i 0).val < 512 := (i 0).isLt
  have hc : (i 1).val < 3200 := (i 1).isLt
  rw [Fin.forall_fin_two] at h0 h1 h2 h3 h4
  change ¬((0 ≤ (i 0).val ∧ (i 0).val < 0 + 512) ∧ 3072 ≤ (i 1).val ∧ (i 1).val < 3072 + 128) at h0
  change ¬((0 ≤ (i 0).val ∧ (i 0).val < 0 + 512) ∧ 0 ≤ (i 1).val ∧ (i 1).val < 0 + 512) at h1
  change ¬((0 ≤ (i 0).val ∧ (i 0).val < 0 + 512) ∧ 512 ≤ (i 1).val ∧ (i 1).val < 512 + 512) at h2
  change ¬((0 ≤ (i 0).val ∧ (i 0).val < 0 + 512) ∧ 1024 ≤ (i 1).val ∧ (i 1).val < 1024 + 1024) at h3
  change ¬((0 ≤ (i 0).val ∧ (i 0).val < 0 + 512) ∧ 2048 ≤ (i 1).val ∧ (i 1).val < 2048 + 1024) at h4
  omega

/-- The row blocks are all of the weights. -/
theorem assemble_congr (q : Vec F S4x1024x772 .bf16) (x y : Vec F S1024x3200 .bf16) : assemble q x = assemble q y := by
  funext i
  refine put_congr _ _ _ _ _ i fun h3 => put_congr _ _ _ _ _ i fun h2 => put_congr _ _ _ _ _ i fun h1 => put_congr _ _ _ _ _ i fun h0 => ?_
  have hr : (i 0).val < 1024 := (i 0).isLt
  have hc : (i 1).val < 3200 := (i 1).isLt
  rw [Fin.forall_fin_two] at h0 h1 h2 h3
  change ¬((0 ≤ (i 0).val ∧ (i 0).val < 0 + 256) ∧ 0 ≤ (i 1).val ∧ (i 1).val < 0 + 3200) at h0
  change ¬((256 ≤ (i 0).val ∧ (i 0).val < 256 + 256) ∧ 0 ≤ (i 1).val ∧ (i 1).val < 0 + 3200) at h1
  change ¬((512 ≤ (i 0).val ∧ (i 0).val < 512 + 256) ∧ 0 ≤ (i 1).val ∧ (i 1).val < 0 + 3200) at h2
  change ¬((768 ≤ (i 0).val ∧ (i 0).val < 768 + 256) ∧ 0 ≤ (i 1).val ∧ (i 1).val < 0 + 3200) at h3
  omega

/-- The blocks that the body reads at a point. -/
def projIn (c : Dev nD) (t : Fin cfg0.N) : ProjIn F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- The arrays that the body adds to, and the weights that it keeps. -/
structure ProjAcc (F : FTy → Type) where
  gk : Vec F S128x512 .f32
  small : Vec F S8x1024 .f32
  wgi : Vec F S1024x3200 .bf16

/-- What the body leaves at a point, from what the point before left in `a`. -/
def projAt (c : Dev nD) (t : Fin cfg0.N) (a : ProjAcc F) : ProjSt F :=
  projStep (projIn m c t) (startSt (grid0.coords t 0).val (projIn m c t).wq
    ⟨dh1Of (projIn m c t).seen a.wgi, dprojOf (projIn m c t).seen fun _ => FloatOps.ofBits .bf16 0#16, a.gk, a.small, a.wgi⟩)

/-- What the body keeps, after `n` points. -/
def projAcc (c : Dev nD) : ℕ → ProjAcc F
  | 0 => ⟨k0_pay6, k0_pay7, fun _ => FloatOps.ofBits .bf16 0#16⟩
  | n + 1 => if h : n < cfg0.N then ⟨(projAt m c ⟨n, h⟩ (projAcc c n)).gk, (projAt m c ⟨n, h⟩ (projAcc c n)).small, (projAt m c ⟨n, h⟩ (projAcc c n)).wgi⟩ else projAcc c n

theorem projAcc_succ (c : Dev nD) (t : Fin cfg0.N) :
    projAcc m c (t.val + 1) = ⟨(projAt m c t (projAcc m c t.val)).gk, (projAt m c t (projAcc m c t.val)).small, (projAt m c t (projAcc m c t.val)).wgi⟩ := by
  show (if h : t.val < cfg0.N then _ else _) = _
  rw [dif_pos t.isLt]

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- Whatever the body finds in the blocks that it overwrites, and at point 0 in what it keeps. -/
theorem projAt_of (c : Dev nD) (t : Fin cfg0.N) (s : ProjSt F) (h : t.val ≠ 0 → (⟨s.gk, s.small, s.wgi⟩ : ProjAcc F) = projAcc m c t.val) :
    projStep (projIn m c t) (startSt (grid0.coords t 0).val (projIn m c t).wq s) = (projAt m c t (projAcc m c t.val)) := by
  unfold projAt
  by_cases h0 : t.val = 0
  · have hc : first (grid0.coords t 0).val := by rw [coord, h0]; decide +kernel
    unfold startSt projStep
    rw [if_pos hc, if_pos hc]
    simp only [assemble_congr (projIn m c t).wq s.wgi (projAcc m c t.val).wgi]
    rw [ProjSt.mk.injEq]
    exact ⟨rfl, dprojOf_congr _ _ _, rfl, rfl, rfl⟩
  · rw [← h h0]
    unfold startSt projStep
    split
    all_goals
      rw [ProjSt.mk.injEq]
      exact ⟨rfl, dprojOf_congr _ _ _, rfl, rfl, rfl⟩

abbrev ms0 (t : Fin cfg0.N) : Memref sig .tc .vmem S512x512 .bf16 := win0_0.stage (cfg0.slots t 0)
abbrev ms1 (t : Fin cfg0.N) : Memref sig .tc .vmem S512x512 .bf16 := win0_1.stage (cfg0.slots t 1)
abbrev ms2 (t : Fin cfg0.N) : Memref sig .tc .vmem S512x1024 .bf16 := win0_2.stage (cfg0.slots t 2)
abbrev ms3 (t : Fin cfg0.N) : Memref sig .tc .vmem S512x1024 .bf16 := win0_3.stage (cfg0.slots t 3)
abbrev ms4 (t : Fin cfg0.N) : Memref sig .tc .vmem S512x512 .f32 := win0_4.stage (cfg0.slots t 4)
abbrev ms5 (t : Fin cfg0.N) : Memref sig .tc .vmem S512x128 .bf16 := win0_5.stage (cfg0.slots t 5)
abbrev ms6 (t : Fin cfg0.N) : Memref sig .tc .vmem S512x1024 .f32 := win0_6.stage (cfg0.slots t 6)
abbrev ms7 (t : Fin cfg0.N) : Memref sig .tc .vmem S512x1024 .f32 := win0_7.stage (cfg0.slots t 7)
abbrev ms8 (t : Fin cfg0.N) : Memref sig .tc .vmem S1x1024 .f32 := win0_8.stage (cfg0.slots t 8)
abbrev ms9 (t : Fin cfg0.N) : Memref sig .tc .vmem S4x1024x772 .bf16 := win0_9.stage (cfg0.slots t 9)
abbrev ms10 (t : Fin cfg0.N) : Memref sig .tc .vmem S128x512 .bf16 := win0_10.stage (cfg0.slots t 10)
abbrev ms11 (t : Fin cfg0.N) : Memref sig .tc .vmem S1x512 .f32 := win0_11.stage (cfg0.slots t 11)
abbrev ms12 (t : Fin cfg0.N) : Memref sig .tc .vmem S512x1024 .f32 := win0_12.stage (cfg0.slots t 12)
abbrev ms13 (t : Fin cfg0.N) : Memref sig .tc .vmem S512x3200 .bf16 := win0_13.stage (cfg0.slots t 13)
abbrev ms14 (t : Fin cfg0.N) : Memref sig .tc .vmem S128x512 .f32 := win0_14.stage (cfg0.slots t 14)
abbrev ms15 (t : Fin cfg0.N) : Memref sig .tc .vmem S8x1024 .f32 := win0_15.stage (cfg0.slots t 15)
abbrev sc : Memref sig .tc .vmem S1024x3200 .bf16 := Memref.whole cc0_scratch0

/-- The scoped buffers that are neither the call's staging buffers nor its scratch. -/
def others (c : Dev nD) : sProp 𝕄 := Pipeline.scopedRestBut (Ix := Unit) (Name := ℕ) (U := UR sig nD τ) (Lvl := ℕ) (Val := Elt F) spec0 c [cc0_scratch0]

theorem scoped_eq (c : Dev nD) : (Pipeline.ΦA spec0 c : sProp 𝕄) = iprop(((∃ d, owns (c : Thread nD τ) sc fullShare d) ∗ others (F := F) c) ∗ ∃ r, prngReg c r) := by
  unfold Pipeline.ΦA others
  rw [Pipeline.scopedRest_split_of_list spec0 c [cc0_scratch0] (by decide) (by decide)]
  simp only [sc, owns_whole]
  rfl

/-- The invariant before point `n`: the scratch at what the points before left, anything before the first. -/
def inv (c : Dev nD) (n : ℕ) : sProp 𝕄 :=
  iprop(((∃ d, ⌜n ≠ 0 → d = (projAcc m c n).wgi⌝ ∗ owns (c : Thread nD τ) sc fullShare d) ∗ others (F := F) c) ∗ ∃ r, prngReg c r)

/-- The pipeline's proof data. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (projAt m c t (projAcc m c t.val)).dh1
    | ⟨13, _⟩ => (projAt m c t (projAcc m c t.val)).dproj
    | ⟨14, _⟩ => (projAt m c t (projAcc m c t.val)).gk
    | ⟨15, _⟩ => (projAt m c t (projAcc m c t.val)).small
    | ⟨n + 16, h⟩ => absurd (show n + 16 < 16 from h) (by omega)
  Φ t := inv m c t.val
  q _ := fullShare
  owed _ := 0

theorem A_eq (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem after_12 (c : Dev nD) (t : Fin cfg0.N) : (dat m c).after 12 t = (projAt m c t (projAcc m c t.val)).dh1 := by dsimp only [dat]
theorem after_13 (c : Dev nD) (t : Fin cfg0.N) : (dat m c).after 13 t = (projAt m c t (projAcc m c t.val)).dproj := by dsimp only [dat]
theorem after_14 (c : Dev nD) (t : Fin cfg0.N) : (dat m c).after 14 t = (projAt m c t (projAcc m c t.val)).gk := by dsimp only [dat]
theorem after_15 (c : Dev nD) (t : Fin cfg0.N) : (dat m c).after 15 t = (projAt m c t (projAcc m c t.val)).small := by dsimp only [dat]

/-! An input window's staging buffer holds its block at every point; the two arrays that the body adds to hold what the point
before left. -/

theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d
theorem before_4 (c : Dev nD) (t : Fin cfg0.N) (d) : (dat m c).before 4 t d = iblk m c 4 t := before0_4_of m (dat m c) (A_eq m c 4) (after_4 m c) t d
theorem before_5 (c : Dev nD) (t : Fin cfg0.N) (d) : (dat m c).before 5 t d = iblk m c 5 t := before0_5_of m (dat m c) (A_eq m c 5) (after_5 m c) t d
theorem before_6 (c : Dev nD) (t : Fin cfg0.N) (d) : (dat m c).before 6 t d = iblk m c 6 t := before0_6_of m (dat m c) (A_eq m c 6) (after_6 m c) t d
theorem before_7 (c : Dev nD) (t : Fin cfg0.N) (d) : (dat m c).before 7 t d = iblk m c 7 t := before0_7_of m (dat m c) (A_eq m c 7) (after_7 m c) t d
theorem before_8 (c : Dev nD) (t : Fin cfg0.N) (d) : (dat m c).before 8 t d = iblk m c 8 t := before0_8_of m (dat m c) (A_eq m c 8) (after_8 m c) t d
theorem before_9 (c : Dev nD) (t : Fin cfg0.N) (d) : (dat m c).before 9 t d = iblk m c 9 t := before0_9_of m (dat m c) (A_eq m c 9) (after_9 m c) t d
theorem before_10 (c : Dev nD) (t : Fin cfg0.N) (d) : (dat m c).before 10 t d = iblk m c 10 t := before0_10_of m (dat m c) (A_eq m c 10) (after_10 m c) t d
theorem before_11 (c : Dev nD) (t : Fin cfg0.N) (d) : (dat m c).before 11 t d = iblk m c 11 t := before0_11_of m (dat m c) (A_eq m c 11) (after_11 m c) t d

theorem not_flush_14 (t : Fin cfg0.N) (ht : t.val ≠ 0) :
    (cfg0.win 14).flush ⟨t.val - 1, Nat.lt_of_le_of_lt (Nat.sub_le _ _) t.isLt⟩ = false := by
  have h8 : t.val < 8 := Nat.lt_of_lt_of_eq t.isLt N_0
  refine Bool.eq_false_iff.mpr fun h => ?_
  have := (flush0_14 _).mp h
  dsimp only at this
  omega

theorem not_flush_15 (t : Fin cfg0.N) (ht : t.val ≠ 0) :
    (cfg0.win 15).flush ⟨t.val - 1, Nat.lt_of_le_of_lt (Nat.sub_le _ _) t.isLt⟩ = false := by
  have h8 : t.val < 8 := Nat.lt_of_lt_of_eq t.isLt N_0
  refine Bool.eq_false_iff.mpr fun h => ?_
  have := (flush0_15 _).mp h
  dsimp only at this
  omega

theorem acc_pred (c : Dev nD) (t : Fin cfg0.N) (ht : t.val ≠ 0) :
    (projAt m c ⟨t.val - 1, Nat.lt_of_le_of_lt (Nat.sub_le _ _) t.isLt⟩ (projAcc m c (t.val - 1))).gk = (projAcc m c t.val).gk
    ∧ (projAt m c ⟨t.val - 1, Nat.lt_of_le_of_lt (Nat.sub_le _ _) t.isLt⟩ (projAcc m c (t.val - 1))).small = (projAcc m c t.val).small := by
  have h := projAcc_succ m c ⟨t.val - 1, Nat.lt_of_le_of_lt (Nat.sub_le _ _) t.isLt⟩
  rw [show t.val - 1 + 1 = t.val by omega] at h
  rw [h]
  exact ⟨rfl, rfl⟩

theorem before_14 (c : Dev nD) (t : Fin cfg0.N) (ht : t.val ≠ 0) (d) : (dat m c).before 14 t d = (projAcc m c t.val).gk := by
  rw [(dat m c).before_out_kept 14 rfl t ht (not_flush_14 t ht) (fun _ => rfl) (fun _ _ => rfl) d, after_14, (acc_pred m c t ht).1]

theorem before_15 (c : Dev nD) (t : Fin cfg0.N) (ht : t.val ≠ 0) (d) : (dat m c).before 15 t d = (projAcc m c t.val).small := by
  rw [(dat m c).before_out_kept 15 rfl t ht (not_flush_15 t ht) (fun _ => rfl) (fun _ _ => rfl) d, after_15, (acc_pred m c t ht).2]

/-- What the body is called with at a point, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d))
    ∗ (∃ d, owns (c : Thread nD τ) (ms12 t) fullShare ((dat m c).before 12 t d))
    ∗ (∃ d, owns (c : Thread nD τ) (ms13 t) fullShare ((dat m c).before 13 t d))
    ∗ (∃ d, owns (c : Thread nD τ) (ms14 t) fullShare ((dat m c).before 14 t d))
    ∗ (∃ d, owns (c : Thread nD τ) (ms15 t) fullShare ((dat m c).before 15 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t)
    ∗ owns (c : Thread nD τ) (ms6 t) fullShare ((dat m c).after 6 t)
    ∗ owns (c : Thread nD τ) (ms7 t) fullShare ((dat m c).after 7 t)
    ∗ owns (c : Thread nD τ) (ms8 t) fullShare ((dat m c).after 8 t)
    ∗ owns (c : Thread nD τ) (ms9 t) fullShare ((dat m c).after 9 t)
    ∗ owns (c : Thread nD τ) (ms10 t) fullShare ((dat m c).after 10 t)
    ∗ owns (c : Thread nD τ) (ms11 t) fullShare ((dat m c).after 11 t)
    ∗ owns (c : Thread nD τ) (ms12 t) fullShare ((dat m c).after 12 t)
    ∗ owns (c : Thread nD τ) (ms13 t) fullShare ((dat m c).after 13 t)
    ∗ owns (c : Thread nD τ) (ms14 t) fullShare ((dat m c).after 14 t)
    ∗ owns (c : Thread nD τ) (ms15 t) fullShare ((dat m c).after 15 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dat m c).owesAt () t.succ = (dat m c).owesAt () t.castSucc from rfl, show (dat m c).Φ t.castSucc = inv m c t.val from rfl,
    show (dat m c).Φ t.succ = inv m c (t.val + 1) from rfl,
    after_0, after_1, after_2, after_3, after_4, after_5, after_6, after_7, after_8, after_9, after_10, after_11, after_12, after_13, after_14, after_15]
  unfold inv
  iintro ⟨⟨⟨⟨%d, %hd, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (proj_run c (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) sc (Memref.isWhole_whole _) (grid0.coords t) (projIn m c t)
    ⟨(dat m c).before 12 t d12, (dat m c).before 13 t d13, (dat m c).before 14 t d14, (dat m c).before 15 t d15, d⟩)
  unfold projOwn
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HS
  rw [projAt_of m c t _ fun h => by rw [before_14 m c t h, before_15 m c t h, hd h]]
  iintro ⟨H0, H1, H2, H3, H4, H5, H6, H7, H8, H9, H10, H11, H12, H13, H14, H15, HS⟩
  isplitl [HS Hr Hg]
  · isplitl [HS Hr]
    · isplitl [HS]
      · iexists _
        isplitr
        · ipureintro; exact fun _ => (congrArg ProjAcc.wgi (projAcc_succ m c t)).symm
        iexact HS
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the call is handed is the invariant before the first point. -/
theorem enter (c : Dev nD) : Pipeline.ΦA spec0 c ⊢ (dat m c).Φ 0 := by
  rw [show (dat m c).Φ 0 = inv m c 0 from rfl, scoped_eq]
  unfold inv
  iintro ⟨⟨⟨%d, HS⟩, Hr⟩, Hg⟩
  isplitr [Hg]
  · isplitl [HS]
    · iexists d
      isplitr
      · ipureintro; exact fun h => absurd rfl h
      iexact HS
    iexact Hr
  iexact Hg

/-- The invariant after the last point gives back what the call was handed. -/
theorem leave (c : Dev nD) : (dat m c).Φ (Fin.last cfg0.N) ⊢ Pipeline.ΦA spec0 c := by
  rw [show (dat m c).Φ (Fin.last cfg0.N) = inv m c cfg0.N from rfl, scoped_eq]
  unfold inv
  iintro ⟨⟨⟨%d, %hd, HS⟩, Hr⟩, Hg⟩
  isplitr [Hg]
  · isplitl [HS]
    · iexists _; iexact HS
    iexact Hr
  iexact Hg

/-! ## The run -/

def dats : (p : Fin 1) → (c : Dev nD) → Dat τ (Elt F) Unit ℕ (UR sig nD τ) ℕ (cfgs p) c
  | 0 => dat m

set_option backward.isDefEq.respectTransparency.types false in
/-- The program ends with every array at what the points leave in it, and with every counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arguments are unchanged at the run's end. -/
theorem args_end {r} (h : Pipeline.FramePost cfgs (dats m) 0 (V m) r) (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).1 4).trans (((dats m 0 c).arrAt_in 4 rfl _).trans ((A_eq m c 4).trans (V_main_arg4 m c))),
   ((h c).1 6).trans (((dats m 0 c).arrAt_in 6 rfl _).trans ((A_eq m c 6).trans (V_main_arg5 m c))),
   ((h c).1 7).trans (((dats m 0 c).arrAt_in 7 rfl _).trans ((A_eq m c 7).trans (V_main_arg6 m c))),
   ((h c).1 8).trans (((dats m 0 c).arrAt_in 8 rfl _).trans ((A_eq m c 8).trans (V_main_arg7 m c))),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).1 11).trans (((dats m 0 c).arrAt_in 11 rfl _).trans ((A_eq m c 11).trans (V_main_arg10 m c)))⟩

/-- The frame: the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ (h : _ ∧ _) => ⟨fun c => args_end m h.1 c, h.2⟩) (run m ρ)

end Cert.Kernel3Ideal.Own

end
-- ==== Proof.Project.Frames.lean ====
/-
  The three frames of the projections' backward call. The printed program and its idealization are one text, so the run over
  any float type gives both.
-/
module

public import proofs.«01_k».proof.Defs
public import proofs.«01_k».proof.Proof.Gen.Kernel3
public import proofs.«01_k».proof.Proof.Gen.Reference3Ideal.Run
public import proofs.«01_k».proof.Proof.Project.Region
public import Idealize.ShloMosaic.Lib.Tactic

@[expose] public section

set_option maxRecDepth 16384

noncomputable section

namespace Cert.Proof.Project

open Idealize.ShloMosaic Idealize.SL.Sem

/-- The frame's statement of the idealization's text, at the bit-exact floats. -/
def bitsFrame : Prop :=
  ∀ (m : (ℓ : Loc Kernel3Ideal.nD Kernel3Ideal.τ Kernel3Ideal.sig) → Buf (Elt Bits) ℓ) (g : Dev Kernel3Ideal.nD → PrngReg), True →
    θ_run (Kernel3Ideal.defs (F := Bits)) (onTc (τ := Kernel3Ideal.τ) (Kernel3Ideal.main (F := Bits))) ⟨m, fun _ => 0, g⟩ (fun r =>
      (∀ c : Dev Kernel3Ideal.nD,
        r.2.mem ((c.tc : Thread Kernel3Ideal.nD Kernel3Ideal.τ).loc Kernel3Ideal.main_arg0) = m ((c.tc : Thread Kernel3Ideal.nD Kernel3Ideal.τ).loc Kernel3Ideal.main_arg0)
        ∧ r.2.mem ((c.tc : Thread Kernel3Ideal.nD Kernel3Ideal.τ).loc Kernel3Ideal.main_arg1) = m ((c.tc : Thread Kernel3Ideal.nD Kernel3Ideal.τ).loc Kernel3Ideal.main_arg1)
        ∧ r.2.mem ((c.tc : Thread Kernel3Ideal.nD Kernel3Ideal.τ).loc Kernel3Ideal.main_arg2) = m ((c.tc : Thread Kernel3Ideal.nD Kernel3Ideal.τ).loc Kernel3Ideal.main_arg2)
        ∧ r.2.mem ((c.tc : Thread Kernel3Ideal.nD Kernel3Ideal.τ).loc Kernel3Ideal.main_arg3) = m ((c.tc : Thread Kernel3Ideal.nD Kernel3Ideal.τ).loc Kernel3Ideal.main_arg3)
        ∧ r.2.mem ((c.tc : Thread Kernel3Ideal.nD Kernel3Ideal.τ).loc Kernel3Ideal.main_arg4) = m ((c.tc : Thread Kernel3Ideal.nD Kernel3Ideal.τ).loc Kernel3Ideal.main_arg4)
        ∧ r.2.mem ((c.tc : Thread Kernel3Ideal.nD Kernel3Ideal.τ).loc Kernel3Ideal.main_arg5) = m ((c.tc : Thread Kernel3Ideal.nD Kernel3Ideal.τ).loc Kernel3Ideal.main_arg5)
        ∧ r.2.mem ((c.tc : Thread Kernel3Ideal.nD Kernel3Ideal.τ).loc Kernel3Ideal.main_arg6) = m ((c.tc : Thread Kernel3Ideal.nD Kernel3Ideal.τ).loc Kernel3Ideal.main_arg6)
        ∧ r.2.mem ((c.tc : Thread Kernel3Ideal.nD Kernel3Ideal.τ).loc Kernel3Ideal.main_arg7) = m ((c.tc : Thread Kernel3Ideal.nD Kernel3Ideal.τ).loc Kernel3Ideal.main_arg7)
        ∧ r.2.mem ((c.tc : Thread Kernel3Ideal.nD Kernel3Ideal.τ).loc Kernel3Ideal.main_arg8) = m ((c.tc : Thread Kernel3Ideal.nD Kernel3Ideal.τ).loc Kernel3Ideal.main_arg8)
        ∧ r.2.mem ((c.tc : Thread Kernel3Ideal.nD Kernel3Ideal.τ).loc Kernel3Ideal.main_arg9) = m ((c.tc : Thread Kernel3Ideal.nD Kernel3Ideal.τ).loc Kernel3Ideal.main_arg9)
        ∧ r.2.mem ((c.tc : Thread Kernel3Ideal.nD Kernel3Ideal.τ).loc Kernel3Ideal.main_arg10) = m ((c.tc : Thread Kernel3Ideal.nD Kernel3Ideal.τ).loc Kernel3Ideal.main_arg10))
      ∧ r.2.sem = fun _ => 0)

theorem bitsFrame_eq : quiescent_Kernel3 (hKernel3 := Kernel3.Gen.facts) = bitsFrame := by sl_kernel_rfl

theorem kernel_frame : quiescent_Kernel3 (hKernel3 := Kernel3.Gen.facts) := by
  rw [bitsFrame_eq]; exact fun m g _ => Kernel3Ideal.Own.frame m g

theorem ideal_frame : quiescent_Kernel3Ideal (hKernel3Ideal := Kernel3Ideal.Gen.facts) := fun m g _ => Kernel3Ideal.Own.frame m g

theorem reference_frame : quiescent_Reference3Ideal (hReference3Ideal := Reference3Ideal.Gen.facts) := fun m g _ =>
  (θ_run _ _ _).mono (fun _ h => ⟨fun c => (h c).2.2.2.2, sem_eq_zero_of_no_sems rfl _⟩) (Reference3Ideal.Value.run m g)

end Cert.Proof.Project

end
-- ==== Proof.Project.Row.lean ====
/-
  The mathematics of one row of the projections' backward call, over the extended reals: the norm, the forget gate's
  log-sigmoid and sums along a chunk, and their gradients as the kernel groups them, with the groupings that differentiating
  gives. The groupings agree whatever the arguments hold.
-/
module

public import proofs.«01_k».proof.Proof.Head.Row

@[expose] public section

noncomputable section

namespace Cert.Project

open Idealize.ShloMosaic
open Cert.Head

/-! ## A norm of any cotangent -/

/-- A positive real factor goes into a sum. -/
theorem sum_mul_pos {ι : Type} (s : Finset ι) (f : ι → EReal) {ρ : ℝ} (h : 0 < ρ) : ∑ i ∈ s, f i * (ρ : EReal) = (∑ i ∈ s, f i) * (ρ : EReal) := by
  classical
  induction s using Finset.induction_on with
  | empty => rw [Finset.sum_empty, Finset.sum_empty, zero_mul]
  | insert i s hi ih =>
    rw [Finset.sum_insert hi, Finset.sum_insert hi, ih, EReal.right_distrib_of_nonneg_of_ne_top (EReal.coe_nonneg.2 h.le) (EReal.coe_ne_top ρ)]

/-- A real multiple added to itself. -/
theorem add_self_mul (t : EReal) (u : ℝ) : t * (u : EReal) + t * (u : EReal) = t * ((2 * u : ℝ) : EReal) := by
  rcases lt_trichotomy u 0 with h | h | h
  · have h2 : 2 * u < 0 := by linarith
    induction t with
    | bot => rw [EReal.bot_mul_coe_of_neg h, EReal.bot_mul_coe_of_neg h2]; rfl
    | top => rw [EReal.top_mul_coe_of_neg h, EReal.top_mul_coe_of_neg h2]; rfl
    | coe t => rw [← EReal.coe_mul, ← EReal.coe_mul, ← EReal.coe_add]; exact congrArg _ (by ring)
  · rw [h, mul_zero, EReal.coe_zero, mul_zero, add_zero]
  · have h2 : 0 < 2 * u := by linarith
    induction t with
    | bot => rw [EReal.bot_mul_coe_of_pos h, EReal.bot_mul_coe_of_pos h2]; rfl
    | top => rw [EReal.top_mul_coe_of_pos h, EReal.top_mul_coe_of_pos h2]; rfl
    | coe t => rw [← EReal.coe_mul, ← EReal.coe_mul, ← EReal.coe_add]; exact congrArg _ (by ring)

/-- The norm's gradient, whatever the cotangent holds: in a real row the statistic's part is a real multiple of one sum, and a
row with an infinite entry passes nothing back. -/
theorem norm_back_any {n : ℕ} (y g : Fin n → EReal) {m r : EReal} {c : ℝ} (hc : 0 < c)
    (hm : m = Ideal.div (∑ k, y k * y k) (c : EReal) + (eps : EReal)) (hr : r = Ideal.rsqrt m) (j : Fin n) :
    g j * r + (y j * back y g m r c + back y g m r c * y j) = r * (g j - y j * r * Ideal.div (∑ k, g k * (y k * r)) (c : EReal)) := by
  rcases norm_cases y hc with ⟨y', m', hm', hy, e⟩ | e
  · obtain rfl := hm.trans e
    rw [rsqrt_real hm'] at hr
    have hs : 0 < Real.sqrt m' := Real.sqrt_pos.2 hm'
    have hq : (Real.sqrt m')⁻¹ / m' = (Real.sqrt m')⁻¹ * ((Real.sqrt m')⁻¹ * (Real.sqrt m')⁻¹) := by
      rw [← mul_inv, Real.mul_self_sqrt hm'.le, div_eq_mul_inv]
    have hρ : 0 < (Real.sqrt m')⁻¹ := inv_pos.2 hs
    unfold back
    rw [hr, div_real _ hm'.ne', hq]
    generalize (Real.sqrt m')⁻¹ = ρ at hρ
    rw [Finset.sum_congr rfl fun k _ => show g k * (y k * (ρ : EReal)) = y k * g k * (ρ : EReal) by rw [← mul_assoc, mul_comm (g k)],
      sum_mul_pos _ _ hρ, Ideal.div_coe hc.ne', Ideal.div_coe hc.ne', ← EReal.coe_mul]
    generalize ∑ k, y k * g k = T
    rw [EReal.mul_sub_of_nonneg_of_ne_top (EReal.coe_nonneg.2 hρ.le) (EReal.coe_ne_top ρ), sub_eq_add_neg, mul_comm (g j) (ρ : EReal), hy j]
    refine congrArg _ ?_
    rw [mul_assoc T, ← EReal.coe_mul, mul_comm (y' j : EReal), mul_assoc T, ← EReal.coe_mul, add_self_mul, ← EReal.coe_mul]
    rw [show (ρ : EReal) * (((y' j * ρ : ℝ) : EReal) * (T * (ρ : EReal) * ((1 / c : ℝ) : EReal))) = T * ((ρ * (y' j * ρ) * ρ * (1 / c) : ℝ) : EReal) by
      simp only [EReal.coe_mul]; ac_rfl, ← mul_neg, ← EReal.coe_neg]
    exact congrArg (T * ·) (congrArg _ (by ring))
  · obtain rfl := hm.trans e
    rw [Ideal.rsqrt_top] at hr
    have hb : back y g ⊤ r c = 0 := by
      have h0 : Ideal.div 0 ⊤ = 0 := by simp [Ideal.div]
      unfold back
      rw [hr, h0, mul_zero, mul_zero, Ideal.div_coe hc.ne', zero_mul]
    rw [hb, hr]
    simp only [zero_mul, mul_zero, add_zero]

/-! ## The log-sigmoid -/

theorem word_top : Ideal.ofBits .f32 0x7F800000#32 = ⊤ := by simp [Ideal.ofBits, Ideal.ieee]
theorem word_16 : Ideal.ofBits .f32 0x41800000#32 = ((16 : ℝ) : EReal) := by
  simp [Ideal.ofBits, Ideal.ieee, -EReal.coe_mul]; norm_num
theorem word_sixteenth : Ideal.ofBits .f32 0x3D800000#32 = ((1 / 16 : ℝ) : EReal) := by
  simp [Ideal.ofBits, Ideal.ieee, -EReal.coe_mul]; norm_num

/-- The log-sigmoid's slope. -/
def slope (z : EReal) : EReal := Ideal.div ((1 : ℝ) : EReal) (((1 : ℝ) : EReal) + Ideal.exp z)

/-- The softplus. -/
def softplus (x : EReal) : EReal := max x 0 + Ideal.log1p (Ideal.exp (-(max x (-x))))

theorem softplus_coe (x : ℝ) : softplus (x : EReal) = ((Real.log (1 + Real.exp x) : ℝ) : EReal) := by
  have hp : ∀ u : ℝ, ¬ 1 + Real.exp u ≤ 0 := fun u => not_le.2 (by positivity)
  have h1 : ∀ u : ℝ, Ideal.log1p (Ideal.exp (u : EReal)) = ((Real.log (1 + Real.exp u) : ℝ) : EReal) := fun u => by
    rw [exp_real, Ideal.log1p, ← EReal.coe_one, ← EReal.coe_add]
    show (if 1 + Real.exp u ≤ 0 then (⊥ : EReal) else _) = _
    rw [if_neg (hp u)]
  have hmax : ∀ a b : ℝ, max (a : EReal) (b : EReal) = ((max a b : ℝ) : EReal) := fun a b => (EReal.coe_strictMono.monotone.map_max).symm
  unfold softplus
  rw [← EReal.coe_neg, hmax, ← EReal.coe_neg, h1, ← EReal.coe_zero, hmax, ← EReal.coe_add]
  refine congrArg _ ?_
  rcases le_total 0 x with h | h
  · rw [max_eq_left h, max_eq_left (by linarith), ← Real.log_exp x, ← Real.log_mul (Real.exp_pos _).ne' (by positivity), Real.log_exp]
    refine congrArg _ ?_
    rw [mul_add, mul_one, ← Real.exp_add, add_neg_cancel, Real.exp_zero, add_comm]
  · rw [max_eq_right h, max_eq_right (by linarith), neg_neg, zero_add]

/-- The slope that differentiating the softplus gives, with its cases of infinite values. -/
theorem slope_eq (z : EReal) : Ideal.exp ((if -z = ⊤ then 0 else -z) - (if softplus (-z) = ⊤ then 0 else softplus (-z))) = slope z := by
  unfold slope
  have h1 : Ideal.log1p (Ideal.exp ⊥) = 0 := by
    rw [Ideal.exp_bot, Ideal.log1p, add_zero, ← EReal.coe_one]
    show (if (1 : ℝ) ≤ 0 then (⊥ : EReal) else ((Real.log 1 : ℝ) : EReal)) = _
    rw [if_neg (by norm_num), Real.log_one, EReal.coe_zero]
  induction z with
  | bot =>
    have h : softplus ⊤ = ⊤ := by
      unfold softplus
      rw [EReal.neg_top, max_eq_left bot_le, EReal.neg_top, h1, add_zero, max_eq_left le_top]
    rw [EReal.neg_bot, h, if_pos rfl, sub_zero, Ideal.exp_bot, add_zero, div_real _ one_ne_zero, div_one, ← EReal.coe_zero, exp_real, Real.exp_zero]
  | top =>
    have h : softplus ⊥ = 0 := by
      unfold softplus
      rw [EReal.neg_bot, max_eq_right bot_le, max_eq_right bot_le, EReal.neg_top, h1, add_zero]
    have h0 : Ideal.div ((1 : ℝ) : EReal) ⊤ = 0 := by simp [Ideal.div]
    rw [EReal.neg_top, h, if_neg bot_ne_top, if_neg EReal.zero_ne_top, sub_zero, Ideal.exp_bot, Ideal.exp_top, EReal.coe_add_top, h0]
  | coe z =>
    rw [← EReal.coe_neg, softplus_coe, if_neg (EReal.coe_ne_top _), if_neg (EReal.coe_ne_top _), ← EReal.coe_sub, exp_real, exp_real, ← EReal.coe_add, div_grown]
    refine congrArg _ ?_
    rw [Real.exp_sub, Real.exp_log (by positivity), Real.exp_neg]
    field_simp
    exact add_comm _ _

/-- The gate's cotangent: the printed forms divide by 16 and negate twice. -/
theorem gate_back (a s : EReal) : -(-(Ideal.div a ((16 : ℝ) : EReal)) * s) = a * ((1 / 16 : ℝ) : EReal) * s := by
  rw [Ideal.div_coe (by norm_num), neg_mul, neg_neg]

/-! ## The sums along a chunk -/

/-- A window of all later entries, summed. -/
theorem later_sums (x : (⟨3, ![64, 64, 512]⟩ : Shape).Idx → EReal)
    (h : (⟨3, ![64, 64, 512]⟩ : Shape).ReduceWindows ![1, 64, 1] ![1, 1, 1] ![0, 0, 0] ![0, 63, 0] ⟨3, ![64, 64, 512]⟩) (n r : Fin 64) (j : Fin 512) :
    Ideal.hostReduceWindowAdd ![1, 64, 1] ![1, 1, 1] ![0, 0, 0] ![0, 63, 0] h x 0 (ix3 n r j) = ∑ s : Fin 64, if r ≤ s then x (ix3 n s j) else 0 := by
  unfold Ideal.hostReduceWindowAdd Host.reduceWindow
  dsimp only
  have fold : ∀ (M : ℕ) (g : Fin M → EReal), (List.finRange M).foldl (fun r k => r + g k) 0 = ∑ k, g k := fun M g => by
    rw [← List.foldl_map (f := g) (g := fun a b => a + b), ← List.sum_eq_foldl, ← List.ofFn_eq_map, List.sum_ofFn]
  rw [fold]
  generalize hG : (fun i : (⟨3, ![1, 64, 1]⟩ : Shape).Idx => (if hin : ∀ a : Fin 3, ![0, 0, 0] a ≤ (ix3 n r j (a.cast h.1.symm)).val * ![1, 1, 1] a + (i a).val
      ∧ (ix3 n r j (a.cast h.1.symm)).val * ![1, 1, 1] a + (i a).val - ![0, 0, 0] a < (⟨3, ![64, 64, 512]⟩ : Shape).size a
    then x (fun a => ⟨(ix3 n r j (a.cast h.1.symm)).val * ![1, 1, 1] a + (i a).val - ![0, 0, 0] a, (hin a).2⟩) else 0)) = G
  have e1 : ∑ k, G ((⟨3, ![1, 64, 1]⟩ : Shape).rowMajor.symm k) = ∑ i, G i := Equiv.sum_comp _ G
  have e2 : ∑ k : Fin 64, G (ix3 0 k 0) = ∑ i, G i := by
    refine Fintype.sum_bijective (fun k : Fin 64 => (ix3 0 k 0 : (⟨3, ![1, 64, 1]⟩ : Shape).Idx)) ⟨fun a b hab => congrFun hab 1, fun i => ⟨i 1, ?_⟩⟩ _ _ fun _ => rfl
    rw [eq_ix3 i]
    funext a
    fin_cases a
    · exact Subsingleton.elim (α := Fin 1) _ _
    · rfl
    · exact Subsingleton.elim (α := Fin 1) _ _
  have e3 : ∀ k : Fin 64, G (ix3 0 k 0) = if hk : r.val + k.val < 64 then x (ix3 n ⟨r.val + k.val, hk⟩ j) else 0 := fun k => by
    rw [← hG]
    dsimp only
    by_cases hk : r.val + k.val < 64
    · rw [dif_pos hk, dif_pos]
      · refine congrArg x (funext fun a => Fin.ext ?_)
        fin_cases a
        · show n.val * 1 + 0 - 0 = n.val; omega
        · show r.val * 1 + k.val - 0 = r.val + k.val; omega
        · show j.val * 1 + 0 - 0 = j.val; omega
      · intro a
        fin_cases a
        · show 0 ≤ n.val * 1 + 0 ∧ n.val * 1 + 0 - 0 < 64; omega
        · show 0 ≤ r.val * 1 + k.val ∧ r.val * 1 + k.val - 0 < 64; omega
        · show 0 ≤ j.val * 1 + 0 ∧ j.val * 1 + 0 - 0 < 512; omega
    · rw [dif_neg hk, dif_neg]
      intro hin
      have h1 : 0 ≤ r.val * 1 + k.val ∧ r.val * 1 + k.val - 0 < 64 := hin 1
      omega
  refine (Finset.sum_congr rfl fun k _ => (?_ : _ = G ((⟨3, ![1, 64, 1]⟩ : Shape).rowMajor.symm k))).trans ((e1.trans e2.symm).trans ?_)
  · rw [← hG]; congr!
  simp only [e3]
  generalize hX : (fun s : ℕ => if hs : s < 64 then x (ix3 n ⟨s, hs⟩ j) else 0) = X
  have hr : r.val < 64 := r.isLt
  have f1 : ∀ k : Fin 64, (if hk : r.val + k.val < 64 then x (ix3 n ⟨r.val + k.val, hk⟩ j) else 0) = X (r.val + k.val) := fun k => by rw [← hX]
  have f2 : ∀ s : Fin 64, (if r ≤ s then x (ix3 n s j) else 0) = if r.val ≤ s.val then X s.val else 0 := fun s => by
    rw [← hX]
    dsimp only
    rw [dif_pos s.isLt]
    rfl
  simp only [f1, f2]
  rw [Fin.sum_univ_eq_sum_range (fun k => X (r.val + k)) 64, Fin.sum_univ_eq_sum_range (fun s => if r.val ≤ s then X s else 0) 64,
    ← Finset.sum_filter, ← Finset.sum_subset (Finset.range_mono (Nat.sub_le 64 r.val)) (f := fun k => X (r.val + k)), ← Finset.sum_Ico_eq_sum_range]
  · refine Finset.sum_congr (Finset.ext fun s => ?_) fun _ _ => rfl
    simp only [Finset.mem_Ico, Finset.mem_filter, Finset.mem_range]
    omega
  · intro k _ hk
    rw [← hX]
    dsimp only
    rw [dif_neg]
    rw [Finset.mem_range] at hk
    omega

end Cert.Project

/-- The weights: the norm's, the input projection, the forget gate's matrix and its bias. -/
structure Cert.Project.Weights where
  nw : Fin 1024 → EReal
  inw : Fin 1024 → Fin 3088 → EReal
  gk : Fin 16 → Fin 512 → EReal
  gb : Fin 512 → EReal

/-- One row: the cotangents of the queries, keys, values, gate and in-chunk decay sums, the residual and its cotangent. -/
structure Cert.Project.Row where
  dq : Fin 512 → EReal
  dk : Fin 512 → EReal
  dv : Fin 1024 → EReal
  dgate : Fin 1024 → EReal
  dcum : Fin 512 → EReal
  h1 : Fin 1024 → EReal
  dh2 : Fin 1024 → EReal

namespace Cert.Project

open Idealize.ShloMosaic
open Cert.Head (eps back)

/-- The arguments' arrays hold these weights and rows. -/
structure Data (dq dk : (⟨2, ![4096, 512]⟩ : Shape).Idx → EReal) (dv dgate : (⟨2, ![4096, 1024]⟩ : Shape).Idx → EReal) (dcum : (⟨2, ![4096, 512]⟩ : Shape).Idx → EReal)
    (h1 dh2 : (⟨2, ![4096, 1024]⟩ : Shape).Idx → EReal) (nw : (⟨2, ![1, 1024]⟩ : Shape).Idx → EReal) (inw : (⟨2, ![1024, 3088]⟩ : Shape).Idx → EReal)
    (gk : (⟨2, ![16, 512]⟩ : Shape).Idx → EReal) (gb : (⟨2, ![1, 512]⟩ : Shape).Idx → EReal) (w : Weights) (x : Fin 4096 → Row) : Prop where
  dq i j : dq (ix2 i j) = (x i).dq j
  dk i j : dk (ix2 i j) = (x i).dk j
  dv i j : dv (ix2 i j) = (x i).dv j
  dgate i j : dgate (ix2 i j) = (x i).dgate j
  dcum i j : dcum (ix2 i j) = (x i).dcum j
  h1 i j : h1 (ix2 i j) = (x i).h1 j
  dh2 i j : dh2 (ix2 i j) = (x i).dh2 j
  nw j : nw (ix2 0 j) = w.nw j
  inw k j : inw (ix2 k j) = w.inw k j
  gk p j : gk (ix2 p j) = w.gk p j
  gb j : gb (ix2 0 j) = w.gb j

/-- Arrays hold their own entries. -/
theorem Data.own (dq dk : (⟨2, ![4096, 512]⟩ : Shape).Idx → EReal) (dv dgate : (⟨2, ![4096, 1024]⟩ : Shape).Idx → EReal) (dcum : (⟨2, ![4096, 512]⟩ : Shape).Idx → EReal)
    (h1 dh2 : (⟨2, ![4096, 1024]⟩ : Shape).Idx → EReal) (nw : (⟨2, ![1, 1024]⟩ : Shape).Idx → EReal) (inw : (⟨2, ![1024, 3088]⟩ : Shape).Idx → EReal)
    (gk : (⟨2, ![16, 512]⟩ : Shape).Idx → EReal) (gb : (⟨2, ![1, 512]⟩ : Shape).Idx → EReal) : ∃ w x, Data dq dk dv dgate dcum h1 dh2 nw inw gk gb w x :=
  ⟨⟨fun j => nw (ix2 0 j), fun k j => inw (ix2 k j), fun p j => gk (ix2 p j), fun j => gb (ix2 0 j)⟩,
   fun i => ⟨fun j => dq (ix2 i j), fun j => dk (ix2 i j), fun j => dv (ix2 i j), fun j => dgate (ix2 i j), fun j => dcum (ix2 i j), fun j => h1 (ix2 i j),
     fun j => dh2 (ix2 i j)⟩,
   ⟨fun _ _ => rfl, fun _ _ => rfl, fun _ _ => rfl, fun _ _ => rfl, fun _ _ => rfl, fun _ _ => rfl, fun _ _ => rfl, fun _ => rfl, fun _ _ => rfl, fun _ _ => rfl,
     fun _ => rfl⟩⟩

/-- A row's chunk mate. -/
def mate (i : Fin 4096) (s : Fin 64) : Fin 4096 := ⟨64 * (i.val / 64) + s.val, by omega⟩

variable (w : Weights) (x : Fin 4096 → Row) (i : Fin 4096)

/-- The norm's mean square, the reciprocal root, the normalised row, and with the weight. -/
def ms : EReal := Ideal.div (∑ j, (x i).h1 j * (x i).h1 j) ((1024 : ℝ) : EReal) + (eps : EReal)
def root : EReal := Ideal.rsqrt (ms x i)
def hat (j : Fin 1024) : EReal := (x i).h1 j * root x i
def n1 (j : Fin 1024) : EReal := hat x i j * w.nw j

/-- The forget gate's low-rank input, and what its log-sigmoid takes. -/
def low (p : Fin 16) : EReal := ∑ k, n1 w x i k * w.inw k ⟨3072 + p.val, by omega⟩
def pre (j : Fin 512) : EReal := (∑ p, low w x i p * w.gk p j) + w.gb j

/-- The cotangents of the log decays, of what the log-sigmoid takes, of the low-rank input, and of the projection's columns. -/
def after (j : Fin 512) : EReal := ∑ s : Fin 64, if i.val % 64 ≤ s.val then (x (mate i s)).dcum j else 0
def dpre (j : Fin 512) : EReal := after x i j * ((1 / 16 : ℝ) : EReal) * slope (pre w x i j)
def dlow (p : Fin 16) : EReal := ∑ j, dpre w x i j * w.gk p j
def dproj (j : Fin 3088) : EReal :=
  if h : j.val < 512 then (x i).dq ⟨j.val, h⟩
  else if h : j.val < 1024 then (x i).dk ⟨j.val - 512, by omega⟩
  else if h : j.val < 2048 then (x i).dv ⟨j.val - 1024, by omega⟩
  else if h : j.val < 3072 then (x i).dgate ⟨j.val - 2048, by omega⟩
  else dlow w x i ⟨j.val - 3072, by omega⟩

/-- The cotangents of the normalised row with its weight, and of the residual. -/
def dn (k : Fin 1024) : EReal := ∑ j, dproj w x i j * w.inw k j
def dh1 (j : Fin 1024) : EReal :=
  (x i).dh2 j + root x i * (dn w x i j * w.nw j - hat x i j * Ideal.div (∑ k, dn w x i k * w.nw k * hat x i k) ((1024 : ℝ) : EReal))

/-- The row's share of the gradient of the forget gate's matrix, and of the small results: row 0 the norm's weight, row 1 the
gate's bias. -/
def gkPart (p : Fin 128) (j : Fin 512) : EReal := if h : p.val < 16 then low w x i ⟨p.val, h⟩ * dpre w x i j else 0
def small (r : Fin 8) (j : Fin 1024) : EReal :=
  if r = 0 then dn w x i j * hat x i j else if r = 1 then (if h : j.val < 512 then dpre w x i ⟨j.val, h⟩ else 0) else 0

/-- The norm's gradient, as differentiating groups it. -/
theorem norm_grad (j : Fin 1024) :
    (x i).dh2 j + dn w x i j * w.nw j * root x i
      + (x i).h1 j * back (x i).h1 (fun k => dn w x i k * w.nw k) (ms x i) (root x i) 1024
      + back (x i).h1 (fun k => dn w x i k * w.nw k) (ms x i) (root x i) 1024 * (x i).h1 j = dh1 w x i j := by
  have h := norm_back_any (x i).h1 (fun k => dn w x i k * w.nw k) (m := ms x i) (r := root x i) (c := 1024) (by norm_num) rfl rfl j
  unfold dh1 hat
  rw [← h, add_assoc, add_assoc]

/-- The sum over the projection's columns, piece by piece. -/
theorem dn_pieces (k : Fin 1024) : dn w x i k
    = (((∑ p : Fin 16, dlow w x i p * w.inw k ⟨3072 + p.val, by omega⟩) + ∑ j : Fin 512, (x i).dq j * w.inw k ⟨j.val, by omega⟩)
        + (∑ j : Fin 512, (x i).dk j * w.inw k ⟨512 + j.val, by omega⟩) + ∑ j : Fin 1024, (x i).dv j * w.inw k ⟨1024 + j.val, by omega⟩)
      + ∑ j : Fin 1024, (x i).dgate j * w.inw k ⟨2048 + j.val, by omega⟩ := by
  unfold dn
  rw [show (∑ j, dproj w x i j * w.inw k j) = ∑ j : Fin (512 + 512 + 1024 + 1024 + 16), dproj w x i (j.cast (by norm_num)) * w.inw k (j.cast (by norm_num)) from rfl]
  rw [Fin.sum_univ_add, Fin.sum_univ_add, Fin.sum_univ_add, Fin.sum_univ_add]
  have e : ∀ (j : Fin 3088) (d : EReal) (j' : Fin 3088), j = j' → dproj w x i j = d → dproj w x i j * w.inw k j = d * w.inw k j' := fun _ _ _ h h' => by rw [h', h]
  have a1 : ∀ j : Fin 512, dproj w x i ⟨j.val, by omega⟩ = (x i).dq j := fun j => by unfold dproj; rw [dif_pos j.isLt]
  have a2 : ∀ j : Fin 512, dproj w x i ⟨512 + j.val, by omega⟩ = (x i).dk j := fun j => by
    unfold dproj
    rw [dif_neg (by dsimp only; omega), dif_pos (by dsimp only; omega)]
    exact congrArg _ (Fin.ext (by dsimp only; omega))
  have a3 : ∀ j : Fin 1024, dproj w x i ⟨1024 + j.val, by omega⟩ = (x i).dv j := fun j => by
    unfold dproj
    rw [dif_neg (by dsimp only; omega), dif_neg (by dsimp only; omega), dif_pos (by dsimp only; omega)]
    exact congrArg _ (Fin.ext (by dsimp only; omega))
  have a4 : ∀ j : Fin 1024, dproj w x i ⟨2048 + j.val, by omega⟩ = (x i).dgate j := fun j => by
    unfold dproj
    rw [dif_neg (by dsimp only; omega), dif_neg (by dsimp only; omega), dif_neg (by dsimp only; omega), dif_pos (by dsimp only; omega)]
    exact congrArg _ (Fin.ext (by dsimp only; omega))
  have a5 : ∀ p : Fin 16, dproj w x i ⟨3072 + p.val, by omega⟩ = dlow w x i p := fun p => by
    unfold dproj
    rw [dif_neg (by dsimp only; omega), dif_neg (by dsimp only; omega), dif_neg (by dsimp only; omega), dif_neg (by dsimp only; omega)]
    exact congrArg _ (Fin.ext (by dsimp only; omega))
  simp only [← a1, ← a2, ← a3, ← a4, ← a5]
  rw [add_comm, ← add_assoc, ← add_assoc, ← add_assoc]
  rfl

end Cert.Project

end
-- ==== Proof.Project.Payloads.lean ====
/-
  What the projections' backward call makes of its blocks, read at an index over the extended reals: the formulas of
  `Row.lean` at the rows and the weights that the blocks hold.
-/
module

public import proofs.«01_k».proof.Proof.Project.Row
public import proofs.«01_k».proof.Proof.Project.Terms
public import Idealize.ShloMosaic.Lib.Pointwise
public import Idealize.ShloMosaic.Lib.KernelVsHost

@[expose] public section

set_option maxRecDepth 16384

noncomputable section

namespace Cert.Kernel3Ideal.Own

open Idealize.ShloMosaic Idealize.SL.Sem Cert.Kernel3Ideal Cert.Kernel3Ideal.Gen
open Cert.Project
open Cert.Head (word_one word_1024 word_eps)

/-- A row of a block of 512 rows. -/
def tileRow (T : Fin 8) (i : Fin 512) : Fin 4096 := ⟨512 * T.val + i.val, by omega⟩

/-- An entry of an array that is padded with zeros along an axis. -/
def grown {n N : ℕ} (f : Fin n → EReal) (p : Fin N) : EReal := if h : p.val < n then f ⟨p.val, h⟩ else 0

theorem grown_of {n N : ℕ} (f : Fin n → EReal) (p : Fin N) (k : Fin n) (h : p.val = k.val) : grown f p = f k :=
  (dif_pos (h.trans_lt k.isLt)).trans (congrArg f (Fin.ext h))

theorem sum_grown (g : Fin 16 → EReal → EReal) (f : Fin 16 → EReal) (h : Fin 128 → EReal) (h0 : ∀ p : Fin 16, h ⟨p.val, by omega⟩ = g p (f p))
    (h1 : ∀ p : Fin 128, 16 ≤ p.val → h p = 0) : ∑ p, h p = ∑ p, g p (f p) := by
  rw [show ∑ p, h p = ∑ p : Fin (16 + 112), h p from rfl, Fin.sum_univ_add]
  rw [Finset.sum_eq_zero (fun (p : Fin 112) _ => h1 (Fin.natAdd 16 p) (Nat.le_add_right 16 p.val)), add_zero]
  exact Finset.sum_congr rfl fun p _ => h0 p

/-- The blocks hold these weights and rows. -/
structure ProjIn.Holds (b : ProjIn Ideal) (w : Weights) (x : Fin 4096 → Row) (T : Fin 8) : Prop where
  dq i j : b.dq (ix2 i j) = (x (tileRow T i)).dq j
  dk i j : b.dk (ix2 i j) = (x (tileRow T i)).dk j
  dv i j : b.dv (ix2 i j) = (x (tileRow T i)).dv j
  dgate i j : b.dgate (ix2 i j) = (x (tileRow T i)).dgate j
  dcum i j : b.dcum (ix2 i j) = (x (tileRow T i)).dcum j
  low i p : b.low (ix2 i p) = grown (Cert.Project.low w x (tileRow T i)) p
  h1 i j : b.h1 (ix2 i j) = (x (tileRow T i)).h1 j
  dh2 i j : b.dh2 (ix2 i j) = (x (tileRow T i)).dh2 j
  nw j : b.nw (ix2 0 j) = w.nw j
  wq q k e : b.wq (ix3 q k e) = w.inw k ⟨772 * q.val + e.val, by omega⟩
  wgk p j : b.wgk (ix2 p j) = grown (fun p => w.gk p j) p
  bias j : b.bias (ix2 0 j) = w.gb j

/-- A window of an array of two axes, and a put into one. -/
theorem window2 {a b a' b' : ℕ} {e : EltTy} (x : Vec Ideal ⟨2, ![a, b]⟩ e) (o p : ℕ) (h : ∀ k, (![o, p] : Fin 2 → ℕ) k + (![a', b'] : Fin 2 → ℕ) k ≤ (⟨2, ![a, b]⟩ : Shape).size k)
    (i : Fin a') (j : Fin b') : VecWindow.window x ![o, p] ![a', b'] h (ix2 i j)
      = x (ix2 ⟨o + i.val, Nat.lt_of_lt_of_le (Nat.add_lt_add_left i.isLt o) (h 0)⟩ ⟨p + j.val, Nat.lt_of_lt_of_le (Nat.add_lt_add_left j.isLt p) (h 1)⟩) := by
  refine congrArg x (funext fun k => Fin.ext ?_)
  fin_cases k
  · show o + 1 * i.val = o + i.val; omega
  · show p + 1 * j.val = p + j.val; omega

theorem put2 {a b a' b' : ℕ} {e : EltTy} (s : Vec Ideal ⟨2, ![a, b]⟩ e) (o p : ℕ) (y : Vec Ideal ⟨2, ![a', b']⟩ e) (i : Fin a) (j : Fin b) :
    VecWindow.put s ![o, p] ![a', b'] y (ix2 i j) = if h : (o ≤ i.val ∧ i.val < o + a') ∧ p ≤ j.val ∧ j.val < p + b'
      then y (ix2 ⟨i.val - o, by omega⟩ ⟨j.val - p, by omega⟩) else s (ix2 i j) := by
  split_ifs with h
  · refine (dif_pos fun k => ?_).trans (congrArg y ?_)
    · fin_cases k
      · exact h.1
      · exact h.2
    · funext k; fin_cases k <;> rfl
  · exact dif_neg fun hall => h ⟨hall 0, hall 1⟩

/-! ## The assembled weights -/

/-- A row block of the weights: four quarters and zeros side by side. -/
theorem block_at (q0 q1 q2 q3 : Vec Ideal S256x772 .bf16) (z : FVec Ideal S256x112 .bf16) (r : Fin 256) (c : Fin 3200) (f : Fin 3088 → EReal)
    (h0 : ∀ e : Fin 772, q0 (ix2 r e) = f ⟨772 * 0 + e.val, by omega⟩) (h1 : ∀ e : Fin 772, q1 (ix2 r e) = f ⟨772 * 1 + e.val, by omega⟩)
    (h2 : ∀ e : Fin 772, q2 (ix2 r e) = f ⟨772 * 2 + e.val, by omega⟩) (h3 : ∀ e : Fin 772, q3 (ix2 r e) = f ⟨772 * 3 + e.val, by omega⟩)
    (hz : ∀ e : Fin 112, z (ix2 r e) = 0) :
    concatenate S256x3200 1 [⟨S256x772, q0⟩, ⟨S256x772, q1⟩, ⟨S256x772, q2⟩, ⟨S256x772, q3⟩, ⟨S256x112, z⟩]
      concatenates_S256x772_S256x772_S256x772_S256x772_S256x112_S256x3200_d1 (ix2 r c) = grown f c := by
  pointwise [h0, h1, h2, h3, hz]
  by_cases hc : c.val < 3088
  · rw [grown_of f c ⟨c.val, hc⟩ rfl]
    split_ifs <;> first | omega | exact congrArg f (Fin.ext (by dsimp only <;> omega))
  · rw [grown, dif_neg hc]
    split_ifs <;> first | rfl | omega

theorem pay8_at (r : Fin 256) (e : Fin 112) : k0_pay8 (F := Ideal) (ix2 r e) = 0 := by
  simp only [k0_pay8, pointwise]

theorem quarter_at (q : Vec Ideal S4x1024x772 .bf16) (n o : ℕ) (h) (r : Fin 256) (e : Fin 772) (hn : n < 4) (ho : o + 256 ≤ 1024) :
    quarter n o h q (ix3 0 r e) = q (ix3 ⟨n, hn⟩ ⟨o + r.val, by omega⟩ e) := by
  refine congrArg q (funext fun k => Fin.ext ?_)
  fin_cases k
  · show n + 1 * 0 = n; omega
  · show o + 1 * r.val = o + r.val; omega
  · show 0 + 1 * e.val = e.val; omega

theorem assemble_at (q : Vec Ideal S4x1024x772 .bf16) (x : Vec Ideal S1024x3200 .bf16) (w : Weights) (hq : ∀ n k e, q (ix3 n k e) = w.inw k ⟨772 * n.val + e.val, by omega⟩)
    (k : Fin 1024) (c : Fin 3200) : assemble q x (ix2 k c) = grown (w.inw k) c := by
  have cast : ∀ (y : Vec Ideal S1x256x772 .bf16) (r : Fin 256) (e : Fin 772), shapeCast S256x772 y shapeCasts_S1x256x772_S256x772 (ix2 r e) = y (ix3 0 r e) := fun y r e => by
    pointwise
  have blk : ∀ (o : ℕ) (h0 h1 h2 h3) (ho : o + 256 ≤ 1024) (r : Fin 256), concatenate S256x3200 1
      [⟨S256x772, shapeCast S256x772 (quarter 0 o h0 q) shapeCasts_S1x256x772_S256x772⟩, ⟨S256x772, shapeCast S256x772 (quarter 1 o h1 q) shapeCasts_S1x256x772_S256x772⟩,
        ⟨S256x772, shapeCast S256x772 (quarter 2 o h2 q) shapeCasts_S1x256x772_S256x772⟩, ⟨S256x772, shapeCast S256x772 (quarter 3 o h3 q) shapeCasts_S1x256x772_S256x772⟩,
        ⟨S256x112, k0_pay8 (F := Ideal)⟩] concatenates_S256x772_S256x772_S256x772_S256x772_S256x112_S256x3200_d1 (ix2 r c) = grown (w.inw ⟨o + r.val, by omega⟩) c :=
    fun o h0 h1 h2 h3 ho r => block_at _ _ _ _ _ r c _ (fun e => by rw [cast, quarter_at q 0 o h0 r e (by omega) ho, hq]) (fun e => by rw [cast, quarter_at q 1 o h1 r e (by omega) ho, hq])
      (fun e => by rw [cast, quarter_at q 2 o h2 r e (by omega) ho, hq]) (fun e => by rw [cast, quarter_at q 3 o h3 r e (by omega) ho, hq]) (fun e => pay8_at r e)
  have same : ∀ (y : FVec Ideal S256x3200 .bf16) (r : Fin 256), shapeCast S256x3200 y shapeCasts_S256x3200_S256x3200 (ix2 r c) = y (ix2 r c) := fun y r => by
    pointwise
  have hk : k.val < 1024 := k.isLt
  have hc : c.val < 3200 := c.isLt
  unfold assemble
  refine (put2 _ 768 0 _ k c).trans ?_
  split_ifs with h3
  · refine ((same _ _).trans (blk 768 _ _ _ _ (by omega) _)).trans (congrArg (fun k => grown (w.inw k) c) (Fin.ext (by dsimp only; omega)))
  refine (put2 _ 512 0 _ k c).trans ?_
  split_ifs with h2
  · refine ((same _ _).trans (blk 512 _ _ _ _ (by omega) _)).trans (congrArg (fun k => grown (w.inw k) c) (Fin.ext (by dsimp only; omega)))
  refine (put2 _ 256 0 _ k c).trans ?_
  split_ifs with h1
  · refine ((same _ _).trans (blk 256 _ _ _ _ (by omega) _)).trans (congrArg (fun k => grown (w.inw k) c) (Fin.ext (by dsimp only; omega)))
  refine (put2 _ 0 0 _ k c).trans ?_
  rw [dif_pos (by omega)]
  exact ((same _ _).trans (blk 0 _ _ _ _ (by omega) _)).trans (congrArg (fun k => grown (w.inw k) c) (Fin.ext (by dsimp only; omega)))

/-! ## The forget gate -/

/-- Ones where the row is not after the column. -/
theorem mask_at (r s : Fin 64) : k0_pay19 (F := Ideal) (ix2 r s) = if r ≤ s then 1 else 0 := by
  simp only [k0_pay19, pointwise]
  have h : ∀ a c : Fin 64, BitVec.setWidth 32 (IntOp.cmpi CmpIPredicate.sle (BitVec.ofNat 32 (0 * 64 + a.val)) (BitVec.ofNat 32 (0 * 64 + c.val))) = if a ≤ c then 1#32 else 0#32 := by
    decide +kernel
  refine (congrArg (FloatOps.sitofp (F := Ideal) .f32) (h r s)).trans ?_
  show ((((if r ≤ s then 1#32 else 0#32 : BitVec 32).toInt : ℤ) : ℝ) : EReal) = _
  split_ifs <;> simp

/-- Eight chunks, one below the other. -/
theorem stack_at (p0 p1 p2 p3 p4 p5 p6 p7 : FVec Ideal S64x512 .f32) (i : Fin 512) (j : Fin 512) (f : Fin 512 → EReal)
    (h0 : ∀ r : Fin 64, p0 (ix2 r j) = f ⟨64 * 0 + r.val, by omega⟩) (h1 : ∀ r : Fin 64, p1 (ix2 r j) = f ⟨64 * 1 + r.val, by omega⟩)
    (h2 : ∀ r : Fin 64, p2 (ix2 r j) = f ⟨64 * 2 + r.val, by omega⟩) (h3 : ∀ r : Fin 64, p3 (ix2 r j) = f ⟨64 * 3 + r.val, by omega⟩)
    (h4 : ∀ r : Fin 64, p4 (ix2 r j) = f ⟨64 * 4 + r.val, by omega⟩) (h5 : ∀ r : Fin 64, p5 (ix2 r j) = f ⟨64 * 5 + r.val, by omega⟩)
    (h6 : ∀ r : Fin 64, p6 (ix2 r j) = f ⟨64 * 6 + r.val, by omega⟩) (h7 : ∀ r : Fin 64, p7 (ix2 r j) = f ⟨64 * 7 + r.val, by omega⟩) :
    concatenate S512x512 0 [⟨S64x512, p0⟩, ⟨S64x512, p1⟩, ⟨S64x512, p2⟩, ⟨S64x512, p3⟩, ⟨S64x512, p4⟩, ⟨S64x512, p5⟩, ⟨S64x512, p6⟩, ⟨S64x512, p7⟩]
      concatenates_S64x512_S64x512_S64x512_S64x512_S64x512_S64x512_S64x512_S64x512_S512x512_d0 (ix2 i j) = f i := by
  pointwise [h0, h1, h2, h3, h4, h5, h6, h7]
  have hi : i.val < 512 := i.isLt
  split_ifs <;> exact congrArg f (Fin.ext (by dsimp only <;> omega))

/-- What stands after the sums along the chunks. -/
theorem scaled (y z : FVec Ideal S512x512 .f32) (i j : Fin 512) :
    mulf (mulf y (broadcast S512x512 (Scalar.ofBits .f32 0x3D800000#32))) (divf (broadcast S512x512 (Scalar.ofBits .f32 0x3F800000#32))
      (addf (broadcast S512x512 (Scalar.ofBits .f32 0x3F800000#32)) (exp (subf (broadcast S512x512 (Scalar.ofBits .f32 0x00000000#32))
        (subf (broadcast S512x512 (Scalar.ofBits .f32 0x00000000#32)) z))))) (ix2 i j) = y (ix2 i j) * ((1 / 16 : ℝ) : EReal) * Cert.Project.slope (z (ix2 i j)) := by
  simp only [pointwise, zero_sub, neg_neg, word_one, word_sixteenth, Cert.Project.slope]

section
variable {b : ProjIn Ideal} {w : Weights} {x : Fin 4096 → Row} {T : Fin 8} (hb : b.Holds w x T)
include hb

theorem masked (y : Vec Ideal S64x512 .f32) (c : Fin 8) (hy : ∀ (s : Fin 64) j, y (ix2 s j) = b.dcum (ix2 ⟨64 * c.val + s.val, by omega⟩ j)) (r : Fin 64) (j : Fin 512) :
    matmul (F := Ideal) (φ₁ := .f32) (φ₂ := .f32) dot_S64x64_S64x512_S64x512_1_0_0_1_n_n (some .fp32) (k0_pay19 (F := Ideal)) y (constant S64x512 .f32 0x00000000#32) (ix2 r j)
      = after x (tileRow T ⟨64 * c.val + r.val, by omega⟩) j := by
  pointwise [mask_at, hy, hb.dcum, zero_add]
  unfold after
  refine Finset.sum_congr rfl fun s _ => ?_
  have e : (tileRow T ⟨64 * c.val + r.val, by omega⟩).val = 512 * T.val + (64 * c.val + r.val) := rfl
  have hm : mate (tileRow T ⟨64 * c.val + r.val, by omega⟩) s = tileRow T ⟨64 * c.val + s.val, by omega⟩ := Fin.ext (by
    show 64 * ((512 * T.val + (64 * c.val + r.val)) / 64) + s.val = 512 * T.val + (64 * c.val + s.val); omega)
  rw [hm, e, show (512 * T.val + (64 * c.val + r.val)) % 64 = r.val by omega]
  by_cases h : r ≤ s
  · rw [if_pos h, if_pos (show r.val ≤ s.val from h), one_mul]
  · rw [if_neg h, if_neg (show ¬ r.val ≤ s.val from h), zero_mul]

theorem zOf_at (i j) : zOf b (ix2 i j) = pre w x (tileRow T i) j := by
  simp only [zOf, k0_pay18, k0_pay17, pointwise, ↓reduceDIte, OfNat.ofNat_ne_one, Nat.reduceEqDiff, hb.low, hb.wgk, hb.bias, zero_add, pre]
  refine congrArg (· + w.gb j) ?_
  refine sum_grown (fun p l => l * w.gk p j) (fun p => Cert.Project.low w x (tileRow T i) p) _ (fun p => ?_) fun p hp => ?_
  · rw [grown_of _ (⟨p.val, by omega⟩ : Fin 128) p rfl, grown_of _ (⟨p.val, by omega⟩ : Fin 128) p rfl]
  · rw [grown, dif_neg (by omega), zero_mul]

theorem dzOf_at (i j) : dzOf b (ix2 i j) = dpre w x (tileRow T i) j := by
  have hc : ∀ (o : ℕ) (h) (c : Fin 8), o = 64 * c.val → ∀ (s : Fin 64) (j : Fin 512), (VecWindow.window b.dcum ![o, 0] S64x512.size h : Vec Ideal S64x512 .f32) (ix2 s j)
      = b.dcum (ix2 ⟨64 * c.val + s.val, by omega⟩ j) := fun o h c ho s j => by
    subst ho
    refine (window2 b.dcum _ 0 h s j).trans (congrArg b.dcum ?_)
    rw [show (⟨0 + j.val, _⟩ : Fin 512) = j from Fin.ext (Nat.zero_add _)]
  have hst := stack_at (k0_pay20 (chunk0 b.dcum)) (k0_pay21 (chunk1 b.dcum)) (k0_pay22 (chunk2 b.dcum)) (k0_pay23 (chunk3 b.dcum)) (k0_pay24 (chunk4 b.dcum))
    (k0_pay25 (chunk5 b.dcum)) (matmul (F := Ideal) (φ₁ := .f32) (φ₂ := .f32) dot_S64x64_S64x512_S64x512_1_0_0_1_n_n (some .fp32) (k0_pay19 (F := Ideal)) (chunk6 b.dcum) (constant S64x512 .f32 0x00000000#32))
    (matmul (F := Ideal) (φ₁ := .f32) (φ₂ := .f32) dot_S64x64_S64x512_S64x512_1_0_0_1_n_n (some .fp32) (k0_pay19 (F := Ideal)) (chunk7 b.dcum) (constant S64x512 .f32 0x00000000#32)) i j
    (fun i => after x (tileRow T i) j) (masked hb _ 0 (hc 0 _ 0 rfl) · j) (masked hb _ 1 (hc 64 _ 1 rfl) · j) (masked hb _ 2 (hc 128 _ 2 rfl) · j)
    (masked hb _ 3 (hc 192 _ 3 rfl) · j) (masked hb _ 4 (hc 256 _ 4 rfl) · j) (masked hb _ 5 (hc 320 _ 5 rfl) · j) (masked hb _ 6 (hc 384 _ 6 rfl) · j) (masked hb _ 7 (hc 448 _ 7 rfl) · j)
  refine (scaled _ _ i j).trans ?_
  rw [zOf_at hb]
  exact congrArg (fun a => a * _ * _) hst

theorem gkOf_at (y : Vec Ideal S128x512 .f32) (p : Fin 128) (j : Fin 512) : gkOf b y (ix2 p j) = y (ix2 p j) + ∑ i, gkPart w x (tileRow T i) p j := by
  have h := dzOf_at hb
  simp only [dzOf] at h
  have hw : wholeRank y (ix2 p j) = y (ix2 p j) := by
    refine (window2 y 0 0 _ p j).trans (congrArg y ?_)
    congr 1 <;> exact Fin.ext (Nat.zero_add _)
  simp only [gkOf, k0_pay28, k0_pay27, k0_pay17, pointwise, h, hb.low, hw, zero_add]
  refine congrArg (_ + ·) (Finset.sum_congr rfl fun i _ => ?_)
  unfold gkPart grown
  split_ifs
  · rfl
  · exact zero_mul _

theorem biasRow_at (y : Vec Ideal S8x1024 .f32) (j : Fin 512) : biasRow b y (ix2 0 j) = y (ix2 1 ⟨j.val, by omega⟩) + ∑ i, dpre w x (tileRow T i) j := by
  have h := dzOf_at hb
  simp only [dzOf] at h
  have hw : (VecWindow.window y ![1, 0] S1x512.size inb_S8x1024_S1x512_1_0 : Vec Ideal S1x512 .f32) (ix2 0 j) = y (ix2 1 ⟨j.val, by omega⟩) := by
    refine (window2 y 1 0 _ 0 j).trans (congrArg y ?_)
    congr 1; exact Fin.ext (Nat.zero_add _)
  simp only [biasRow, k0_pay29, pointwise, h, hw, zero_add]

theorem dlowOf_at (i) (p : Fin 128) : dlowOf b (ix2 i p) = grown (Cert.Project.dlow w x (tileRow T i)) p := by
  have h := dzOf_at hb
  simp only [dzOf] at h
  simp only [dlowOf, k0_pay30, k0_pay27, pointwise, h, hb.wgk, zero_add]
  unfold grown dlow
  split_ifs
  · rfl
  · simp only [mul_zero, Finset.sum_const_zero]

theorem dprojOf_at (y : Vec Ideal S512x3200 .bf16) (i) (c : Fin 3200) : dprojOf b y (ix2 i c) = grown (dproj w x (tileRow T i)) c := by
  have hc : c.val < 3200 := c.isLt
  have hi : i.val < 512 := i.isLt
  unfold dprojOf
  refine (put2 _ 0 2048 _ i c).trans ?_
  split_ifs with h4
  · simp only [k0_pay35, pointwise, hb.dgate]
    rw [grown_of _ c (⟨c.val, by omega⟩ : Fin 3088) rfl, dproj, dif_neg (by dsimp only; omega), dif_neg (by dsimp only; omega), dif_neg (by dsimp only; omega), dif_pos (by dsimp only; omega)]
    rfl
  refine (put2 _ 0 1024 _ i c).trans ?_
  split_ifs with h3
  · simp only [k0_pay33, pointwise, hb.dv]
    rw [grown_of _ c (⟨c.val, by omega⟩ : Fin 3088) rfl, dproj, dif_neg (by dsimp only; omega), dif_neg (by dsimp only; omega), dif_pos (by dsimp only; omega)]
    rfl
  refine (put2 _ 0 512 _ i c).trans ?_
  split_ifs with h2
  · simp only [k0_pay32, pointwise, hb.dk]
    rw [grown_of _ c (⟨c.val, by omega⟩ : Fin 3088) rfl, dproj, dif_neg (by dsimp only; omega), dif_pos (by dsimp only; omega)]
    rfl
  refine (put2 _ 0 0 _ i c).trans ?_
  split_ifs with h1
  · simp only [k0_pay31, pointwise, hb.dq]
    rw [grown_of _ c (⟨c.val, by omega⟩ : Fin 3088) rfl, dproj, dif_pos (by dsimp only; omega)]
    rfl
  refine (put2 _ 0 3072 _ i c).trans ?_
  rw [dif_pos (by omega)]
  refine (dlowOf_at hb _ _).trans ?_
  unfold grown
  by_cases h0 : c.val < 3088
  · rw [dif_pos h0, dif_pos (by dsimp only; omega), dproj, dif_neg (by dsimp only; omega), dif_neg (by dsimp only; omega), dif_neg (by dsimp only; omega), dif_neg (by dsimp only; omega)]
    rfl
  · rw [dif_neg h0, dif_neg (by dsimp only; omega)]

variable {W : Vec Ideal S1024x3200 .bf16} (hW : ∀ k c, W (ix2 k c) = grown (w.inw k) c)
include hW

theorem dn_at (i) (k : Fin 1024) : k0_pay1 (dnFour b W) (dnGate b W) (ix2 i k) = dn w x (tileRow T i) k := by
  have hl := dlowOf_at hb
  have hw : ∀ {n : ℕ} (o : ℕ) (h) (k : Fin 1024) (j : Fin n) (c : Fin 3088), o + j.val = c.val → (VecWindow.window W ![0, o] ![1024, n] h : Vec Ideal ⟨2, ![1024, n]⟩ .bf16) (ix2 k j)
      = w.inw k c := fun o h k j c hc => by
    refine (window2 W 0 o h k j).trans ((hW _ _).trans ((grown_of _ _ c hc).trans ?_))
    rw [show (⟨0 + k.val, _⟩ : Fin 1024) = k from Fin.ext (Nat.zero_add _)]
  rw [dn_pieces]
  simp only [k0_pay1, dnFour, dnGate, k0_pay34, k0_pay36, k0_pay31, k0_pay32, k0_pay33, k0_pay35, pointwise, hl, hb.dq, hb.dk, hb.dv, hb.dgate, zero_add]
  congr 1
  · congr 1
    · congr 1
      · congr 1
        · refine sum_grown (fun p d => d * w.inw k ⟨3072 + p.val, by omega⟩) (fun p => Cert.Project.dlow w x (tileRow T i) p) _ (fun p => ?_) fun p hp => ?_
          · rw [grown_of _ (⟨p.val, by omega⟩ : Fin 128) p rfl]
            exact congrArg (_ * ·) (hw 3072 _ k _ _ rfl)
          · rw [grown, dif_neg (by omega), zero_mul]
        · exact Finset.sum_congr rfl fun j _ => congrArg (_ * ·) (hw 0 _ k j _ (Nat.zero_add _))
      · exact Finset.sum_congr rfl fun j _ => congrArg (_ * ·) (hw 512 _ k j _ rfl)
    · exact Finset.sum_congr rfl fun j _ => congrArg (_ * ·) (hw 1024 _ k j _ rfl)
  · exact Finset.sum_congr rfl fun j _ => congrArg (_ * ·) (hw 2048 _ k j _ rfl)

omit hW in
theorem root_at (i) : k0_pay2 b.h1 (ix2 i 0) = root x (tileRow T i) := by
  simp only [k0_pay2, pointwise, hb.h1, zero_add, word_1024, word_eps]
  rfl

omit hW in
theorem hat_at (i j) : k0_pay3 b.h1 (ix2 i j) = hat x (tileRow T i) j := by
  simp only [k0_pay3, pointwise, ↓reduceDIte, OfNat.ofNat_ne_one, Nat.reduceEqDiff, hb.h1, root_at hb, hat]

theorem normRow_at (y : Vec Ideal S8x1024 .f32) (j : Fin 1024) : normRow b W y (ix2 0 j) = y (ix2 0 j) + ∑ i, dn w x (tileRow T i) j * hat x (tileRow T i) j := by
  have hw : (VecWindow.window y ![0, 0] S1x1024.size inb_S8x1024_S1x1024_0_0 : Vec Ideal S1x1024 .f32) (ix2 0 j) = y (ix2 0 j) := by
    refine (window2 y 0 0 _ 0 j).trans (congrArg y ?_)
    congr 1; exact Fin.ext (Nat.zero_add _)
  simp only [normRow, k0_pay4, pointwise, dn_at hb hW, hat_at hb, hw, zero_add]

theorem smallOf_at (y : Vec Ideal S8x1024 .f32) (r : Fin 8) (j : Fin 1024) : smallOf b W y (ix2 r j) = y (ix2 r j) + ∑ i, small w x (tileRow T i) r j := by
  have hj : j.val < 1024 := j.isLt
  unfold smallOf small
  by_cases h0 : r = 0
  · subst h0
    refine ((put2 _ 0 0 _ 0 j).trans (dif_pos ⟨⟨le_rfl, by decide⟩, Nat.zero_le _, by omega⟩)).trans ?_
    simp only [↓reduceIte]
    exact normRow_at hb hW y j
  have h0' : ¬ r.val = 0 := fun h => h0 (Fin.ext h)
  refine ((put2 _ 0 0 _ r j).trans (dif_neg (by omega))).trans ?_
  simp only [if_neg h0]
  by_cases h1 : r = 1
  · subst h1
    simp only [↓reduceIte]
    by_cases h2 : j.val < 512
    · refine ((put2 _ 1 0 _ 1 j).trans (dif_pos ⟨⟨le_rfl, by decide⟩, Nat.zero_le _, by omega⟩)).trans ?_
      simp only [dif_pos h2]
      exact biasRow_at hb y ⟨j.val, h2⟩
    · refine ((put2 _ 1 0 _ 1 j).trans (dif_neg (by omega))).trans ?_
      simp only [dif_neg h2, Finset.sum_const_zero, add_zero]
  · have h1' : ¬ r.val = 1 := fun h => h1 (Fin.ext h)
    refine ((put2 _ 1 0 _ r j).trans (dif_neg (by omega))).trans ?_
    simp only [if_neg h1, Finset.sum_const_zero, add_zero]

theorem dh1Of_at (i j) : dh1Of b W (ix2 i j) = dh1 w x (tileRow T i) j := by
  simp only [dh1Of, k0_pay5, pointwise, ↓reduceDIte, OfNat.ofNat_ne_one, Nat.reduceEqDiff, dn_at hb hW, hat_at hb, root_at hb, hb.nw, hb.dh2, zero_add, word_1024, dh1]

end

end Cert.Kernel3Ideal.Own

end
-- ==== Proof.Project.Arrays.lean ====
/-
  The result arrays of the projections' backward call over the extended reals: the formulas of `Row.lean` at the rows of the
  arguments.
-/
module

public import proofs.«01_k».proof.Proof.Project.Payloads
public import proofs.«01_k».proof.Proof.Project.Region
public import Idealize.ShloMosaic.Lib.Pipeline.ValueKit

@[expose] public section

set_option maxRecDepth 16384

noncomputable section

namespace Cert.Kernel3Ideal.Own

open Idealize.ShloMosaic Idealize.ShloMosaic.TcCoe Idealize.SL.Sem Cert.Kernel3Ideal Cert.Kernel3Ideal.Gen
open Idealize.ShloMosaic.Pipeline (Dat Cfg Window)
open Cert.Project
open Cert.Head (word_1024 word_eps)

/-! ## Where a block lies -/

theorem pt (t : Fin cfg0.N) : t.val < 8 := Nat.lt_of_lt_of_eq t.isLt N_0
def tile (t : Fin cfg0.N) : Fin 8 := ⟨t.val, pt t⟩

theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![0, 0] := (by decide +kernel : ∀ t : Fin grid0.N, win0_8.index t = ![0, 0])
theorem idx_9 : ∀ t : Fin cfg0.N, win0_9.index t = ![0, 0, 0] := (by decide +kernel : ∀ t : Fin grid0.N, win0_9.index t = ![0, 0, 0])
theorem idx_10 : ∀ t : Fin cfg0.N, win0_10.index t = ![0, 0] := (by decide +kernel : ∀ t : Fin grid0.N, win0_10.index t = ![0, 0])
theorem idx_11 : ∀ t : Fin cfg0.N, win0_11.index t = ![0, 0] := (by decide +kernel : ∀ t : Fin grid0.N, win0_11.index t = ![0, 0])
theorem idx_12 : ∀ t : Fin cfg0.N, win0_12.index t = ![t.val, 0] := (by decide +kernel : ∀ t : Fin grid0.N, win0_12.index t = ![t.val, 0])
theorem idx_13 : ∀ t : Fin cfg0.N, win0_13.index t = ![t.val, 0] := (by decide +kernel : ∀ t : Fin grid0.N, win0_13.index t = ![t.val, 0])
theorem idx_14 : ∀ t : Fin cfg0.N, win0_14.index t = ![0, 0] := (by decide +kernel : ∀ t : Fin grid0.N, win0_14.index t = ![0, 0])
theorem idx_15 : ∀ t : Fin cfg0.N, win0_15.index t = ![0, 0] := (by decide +kernel : ∀ t : Fin grid0.N, win0_15.index t = ![0, 0])

/-- The point whose blocks hold a row. -/
def tileOf (i : Fin 4096) : Fin cfg0.N := ⟨i.val / 512, Nat.lt_of_lt_of_eq (by omega) N_0.symm⟩
theorem tileRow_tileOf (i : Fin 4096) : tileRow (tile (tileOf i)) ⟨i.val % 512, by omega⟩ = i := Fin.ext (by show 512 * (i.val / 512) + i.val % 512 = i.val; omega)

/-- A point's share of a sum over the rows, and the sum. -/
def tileSum (f : Fin 4096 → EReal) (T : ℕ) : EReal := if h : T < 8 then ∑ i : Fin 512, f (tileRow ⟨T, h⟩ i) else 0

theorem tileSum_all (f : Fin 4096 → EReal) : ∑ T ∈ Finset.range 8, tileSum f T = ∑ i, f i := by
  rw [Fin.sum_univ_tiles 8 512 rfl, Finset.sum_range]
  exact Finset.sum_congr rfl fun T _ => (dif_pos T.isLt).trans (Finset.sum_congr rfl fun i _ => congrArg f (Fin.ext (by simp [tileRow, mul_comm])))

/-- A load of a whole block is the block. -/
theorem whole {a b : ℕ} {e : EltTy} (y : Vec Ideal ⟨2, ![a, b]⟩ e) (h) : VecWindow.window y ![0, 0] ![a, b] h = y := funext fun z => by
  rw [eq_ix2 z]
  refine (window2 y 0 0 h _ _).trans (congrArg y ?_)
  congr 1 <;> exact Fin.ext (Nat.zero_add _)

theorem seen_eq (b : ProjIn Ideal) : b.seen = b := by
  have e0 := whole b.dq inb_S512x512_S512x512_0_0
  have e1 := whole b.dk inb_S512x512_S512x512_0_0
  have e2 := whole b.dv inb_S512x1024_S512x1024_0_0
  have e3 := whole b.dgate inb_S512x1024_S512x1024_0_0
  have e5 := whole b.low inb_S512x128_S512x128_0_0
  have e6 := whole b.h1 inb_S512x1024_S512x1024_0_0
  have e7 := whole b.dh2 inb_S512x1024_S512x1024_0_0
  have e8 := whole b.nw inb_S1x1024_S1x1024_0_0
  have e10 := whole b.wgk inb_S128x512_S128x512_0_0
  have e11 := whole b.bias inb_S1x512_S1x512_0_0
  obtain ⟨dq, dk, dv, dgate, dcum, low, h1, dh2, nw, wq, wgk, bias⟩ := b
  unfold ProjIn.seen
  rw [ProjIn.mk.injEq]
  exact ⟨e0, e1, e2, e3, rfl, e5, e6, e7, e8, rfl, e10, e11⟩

variable (m : (ℓ : Loc nD τ sig) → Buf (Elt Ideal) ℓ) (c : Dev nD)

/-- The arguments on a device hold these weights and rows. -/
abbrev Holds (w : Weights) (x : Fin 4096 → Row) : Prop :=
  Data (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) w x

theorem iblk_0_at (t : Fin cfg0.N) (i : Fin 512) (j : Fin 512) : (iblk m c 0 t : Vec Ideal S512x512 .bf16) (ix2 i j) = (V m c main_v23 : S4096x512.Idx → EReal) (ix2 (tileRow (tile t) i) j) := by
  have := pt t
  unfold tileRow tile
  blk_ext [iblk, idx_0]
theorem iblk_1_at (t : Fin cfg0.N) (i : Fin 512) (j : Fin 512) : (iblk m c 1 t : Vec Ideal S512x512 .bf16) (ix2 i j) = (V m c main_v24 : S4096x512.Idx → EReal) (ix2 (tileRow (tile t) i) j) := by
  have := pt t
  unfold tileRow tile
  blk_ext [iblk, idx_1]
theorem iblk_2_at (t : Fin cfg0.N) (i : Fin 512) (j : Fin 1024) : (iblk m c 2 t : Vec Ideal S512x1024 .bf16) (ix2 i j) = (V m c main_v25 : S4096x1024.Idx → EReal) (ix2 (tileRow (tile t) i) j) := by
  have := pt t
  unfold tileRow tile
  blk_ext [iblk, idx_2]
theorem iblk_3_at (t : Fin cfg0.N) (i : Fin 512) (j : Fin 1024) : (iblk m c 3 t : Vec Ideal S512x1024 .bf16) (ix2 i j) = (V m c main_v26 : S4096x1024.Idx → EReal) (ix2 (tileRow (tile t) i) j) := by
  have := pt t
  unfold tileRow tile
  blk_ext [iblk, idx_3]
theorem iblk_4_at (t : Fin cfg0.N) (i : Fin 512) (j : Fin 512) : (iblk m c 4 t : Vec Ideal S512x512 .f32) (ix2 i j) = (V m c main_arg4 : S4096x512.Idx → EReal) (ix2 (tileRow (tile t) i) j) := by
  have := pt t
  unfold tileRow tile
  blk_ext [iblk, idx_4]
theorem iblk_5_at (t : Fin cfg0.N) (i : Fin 512) (j : Fin 128) : (iblk m c 5 t : Vec Ideal S512x128 .bf16) (ix2 i j) = (V m c main_v22 : S4096x128.Idx → EReal) (ix2 (tileRow (tile t) i) j) := by
  have := pt t
  unfold tileRow tile
  blk_ext [iblk, idx_5]
theorem iblk_6_at (t : Fin cfg0.N) (i : Fin 512) (j : Fin 1024) : (iblk m c 6 t : Vec Ideal S512x1024 .f32) (ix2 i j) = (V m c main_arg5 : S4096x1024.Idx → EReal) (ix2 (tileRow (tile t) i) j) := by
  have := pt t
  unfold tileRow tile
  blk_ext [iblk, idx_6]
theorem iblk_7_at (t : Fin cfg0.N) (i : Fin 512) (j : Fin 1024) : (iblk m c 7 t : Vec Ideal S512x1024 .f32) (ix2 i j) = (V m c main_arg6 : S4096x1024.Idx → EReal) (ix2 (tileRow (tile t) i) j) := by
  have := pt t
  unfold tileRow tile
  blk_ext [iblk, idx_7]
theorem iblk_8_at (t : Fin cfg0.N) (j : Fin 1024) : (iblk m c 8 t : Vec Ideal S1x1024 .f32) (ix2 0 j) = (V m c main_arg7 : S1x1024.Idx → EReal) (ix2 0 j) := by
  blk_ext [iblk, idx_8]
theorem iblk_9_at (t : Fin cfg0.N) (q : Fin 4) (k : Fin 1024) (e : Fin 772) : (iblk m c 9 t : Vec Ideal S4x1024x772 .bf16) (ix3 q k e) = (V m c main_v2 : S4x1024x772.Idx → EReal) (ix3 q k e) := by
  blk_ext [iblk, idx_9]
theorem iblk_10_at (t : Fin cfg0.N) (p : Fin 128) (j : Fin 512) : (iblk m c 10 t : Vec Ideal S128x512 .bf16) (ix2 p j) = (V m c main_v4 : S128x512.Idx → EReal) (ix2 p j) := by
  blk_ext [iblk, idx_10]
theorem iblk_11_at (t : Fin cfg0.N) (j : Fin 512) : (iblk m c 11 t : Vec Ideal S1x512 .f32) (ix2 0 j) = (V m c main_arg10 : S1x512.Idx → EReal) (ix2 0 j) := by
  blk_ext [iblk, idx_11]

/-! ## What the host's lines before the call make of the arguments -/

theorem v23_eq : (V m c main_v23 : S4096x512.Idx → EReal) = m ((c : Thread nD τ).loc main_arg0) := rfl
theorem v24_eq : (V m c main_v24 : S4096x512.Idx → EReal) = m ((c : Thread nD τ).loc main_arg1) := rfl
theorem v25_eq : (V m c main_v25 : S4096x1024.Idx → EReal) = m ((c : Thread nD τ).loc main_arg2) := rfl
theorem v26_eq : (V m c main_v26 : S4096x1024.Idx → EReal) = m ((c : Thread nD τ).loc main_arg3) := rfl

theorem v2_eq : (V m c main_v2 : S4x1024x772.Idx → EReal) = transpose S4x1024x772 [1, 0, 2]
    (shapeCast S1024x4x772 (m ((c : Thread nD τ).loc main_arg8) : S1024x3088.Idx → EReal) shapeCasts_S1024x3088_S1024x4x772) transposes_S1024x4x772_S4x1024x772_1_0_2 := rfl
theorem v4_eq : (V m c main_v4 : S128x512.Idx → EReal) = pad S128x512 ![0, 0] ![112, 0] ![0, 0] (m ((c : Thread nD τ).loc main_arg9) : S16x512.Idx → EReal)
    (sitofp (F := Ideal) .f32 (constantI S_ 32 0#32)) pads_S16x512_S128x512_01120_000 h_S_ := rfl

/-- The host's reciprocal roots, normalised rows and low-rank weights. -/
def hostRoot : S4096x1.Idx → EReal :=
  Host.rsqrt (F := Ideal) (φ := .f32) (addf (Host.divf (broadcastInDim S4096x1 ![0] bcast_S4096_S4096x1_0 (Host.reduceAdd (F := Ideal) (φ := .f32)
    (mulf (F := Ideal) (φ := .f32) (m ((c : Thread nD τ).loc main_arg5)) (m ((c : Thread nD τ).loc main_arg5))) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))
def hostRows : S4096x1024.Idx → EReal :=
  mulf (F := Ideal) (φ := .f32) (mulf (F := Ideal) (φ := .f32) (m ((c : Thread nD τ).loc main_arg5)) (broadcastInDim S4096x1024 ![0, 1] bcast_S4096x1_S4096x1024_0_1 (hostRoot m c)))
    (broadcastInDim S4096x1024 ![0, 1] bcast_S1x1024_S4096x1024_0_1 (m ((c : Thread nD τ).loc main_arg7) : S1x1024.Idx → EReal))
def hostLow : S1024x128.Idx → EReal :=
  pad S1024x128 ![0, 0] ![0, 112] ![0, 0] (extractStridedSlice S1024x16 ![0, 3072] (m ((c : Thread nD τ).loc main_arg8) : S1024x3088.Idx → EReal) slices_S1024x3088_S1024x16_0_3072)
    (sitofp (F := Ideal) .f32 (constantI S_ 32 0#32)) pads_S1024x16_S1024x128_000_01120 h_S_

theorem v22_eq : (V m c main_v22 : S4096x128.Idx → EReal) = Host.dotGeneral (F := Ideal) (φ₁ := .bf16) (φ₂ := .bf16)
    dot_S4096x1024_S1024x128_S4096x128_1_0_0_1_n_n none (hostRows m c) (hostLow m c) := rfl

variable {m c} {w : Weights} {x : Fin 4096 → Row} (hx : Holds m c w x)
include hx

omit hx in
theorem zero_word : (sitofp (F := Ideal) .f32 (constantI S_ 32 0#32) : S_.Idx → EReal) = fun _ => 0 := by
  funext i
  show ((((0#32 : BitVec 32).toInt : ℤ) : ℝ) : EReal) = _
  simp

theorem v2_at (q : Fin 4) (k : Fin 1024) (e : Fin 772) : (V m c main_v2 : S4x1024x772.Idx → EReal) (ix3 q k e) = w.inw k ⟨772 * q.val + e.val, by omega⟩ := by
  rw [v2_eq]
  pointwise [hx.inw]
  exact congrArg (w.inw k) (Fin.ext (by dsimp only; omega))

omit hx in
theorem pad_rows (y : S16x512.Idx → EReal) (p : Fin 128) (j : Fin 512) :
    pad S128x512 ![0, 0] ![112, 0] ![0, 0] y (fun _ => 0) pads_S16x512_S128x512_01120_000 h_S_ (ix2 p j) = grown (fun p => y (ix2 p j)) p := by
  pointwise
  rfl

theorem v4_at (p : Fin 128) (j : Fin 512) : (V m c main_v4 : S128x512.Idx → EReal) (ix2 p j) = grown (fun p => w.gk p j) p := by
  rw [v4_eq, zero_word, pad_rows]
  exact congrArg (fun f : Fin 16 → EReal => grown f p) (funext fun p => hx.gk p j)

theorem hostRoot_at (i : Fin 4096) : hostRoot m c (ix2 i 0) = root x i := by
  unfold hostRoot
  pointwise [hx.h1, word_1024, word_eps]
  rfl

theorem hostRows_at (i : Fin 4096) (j : Fin 1024) : hostRows m c (ix2 i j) = n1 w x i j := by
  unfold hostRows
  pointwise [hx.h1, hx.nw, hostRoot_at hx, n1, hat]

theorem hostLow_at (k : Fin 1024) (p : Fin 128) : hostLow m c (ix2 k p) = grown (fun p : Fin 16 => w.inw k ⟨3072 + p.val, by omega⟩) p := by
  unfold hostLow
  rw [zero_word]
  pointwise [hx.inw]
  rfl

theorem v22_at (i : Fin 4096) (p : Fin 128) : (V m c main_v22 : S4096x128.Idx → EReal) (ix2 i p) = grown (low w x i) p := by
  rw [v22_eq]
  pointwise [hostRows_at hx, hostLow_at hx]
  unfold grown low
  split_ifs
  · rfl
  · simp only [mul_zero, Finset.sum_const_zero]

set_option maxHeartbeats 1000000 in
theorem projIn_holds (t : Fin cfg0.N) : (projIn m c t).Holds w x (tile t) where
  dq i j := (iblk_0_at m c t i j).trans ((congrFun (v23_eq m c) _).trans (hx.dq _ j))
  dk i j := (iblk_1_at m c t i j).trans ((congrFun (v24_eq m c) _).trans (hx.dk _ j))
  dv i j := (iblk_2_at m c t i j).trans ((congrFun (v25_eq m c) _).trans (hx.dv _ j))
  dgate i j := (iblk_3_at m c t i j).trans ((congrFun (v26_eq m c) _).trans (hx.dgate _ j))
  dcum i j := (iblk_4_at m c t i j).trans ((congrFun (V_main_arg4 m c) _).trans (hx.dcum _ j))
  low i p := (iblk_5_at m c t i p).trans (v22_at hx _ p)
  h1 i j := (iblk_6_at m c t i j).trans ((congrFun (V_main_arg5 m c) _).trans (hx.h1 _ j))
  dh2 i j := (iblk_7_at m c t i j).trans ((congrFun (V_main_arg6 m c) _).trans (hx.dh2 _ j))
  nw j := (iblk_8_at m c t j).trans ((congrFun (V_main_arg7 m c) _).trans (hx.nw j))
  wq q k e := (iblk_9_at m c t q k e).trans (v2_at hx q k e)
  wgk p j := (iblk_10_at m c t p j).trans (v4_at hx p j)
  bias j := (iblk_11_at m c t j).trans ((congrFun (V_main_arg10 m c) _).trans (hx.gb j))

/-! ## The arrays added to, and the assembled weights -/

/-- The weights as the body keeps them. -/
def Kept (w : Weights) (W : Vec Ideal S1024x3200 .bf16) : Prop := ∀ k e, W (ix2 k e) = grown (w.inw k) e

theorem start_at (t : Fin cfg0.N) (hk : t.val ≠ 0 → Kept w (projAcc m c t.val).wgi) (d1 : Vec Ideal S512x1024 .f32) (d2 : Vec Ideal S512x3200 .bf16) :
    (startSt (grid0.coords t 0).val (projIn m c t).wq (⟨d1, d2, (projAcc m c t.val).gk, (projAcc m c t.val).small, (projAcc m c t.val).wgi⟩ : ProjSt Ideal)).gk = (projAcc m c t.val).gk
    ∧ (startSt (grid0.coords t 0).val (projIn m c t).wq (⟨d1, d2, (projAcc m c t.val).gk, (projAcc m c t.val).small, (projAcc m c t.val).wgi⟩ : ProjSt Ideal)).small = (projAcc m c t.val).small
    ∧ Kept w (startSt (grid0.coords t 0).val (projIn m c t).wq (⟨d1, d2, (projAcc m c t.val).gk, (projAcc m c t.val).small, (projAcc m c t.val).wgi⟩ : ProjSt Ideal)).wgi := by
  have key : ∀ n : Fin 8, first n.val ↔ n.val = 0 := by decide +kernel
  have h0 : first (grid0.coords t 0).val ↔ t.val = 0 := by rw [coord]; exact key ⟨t.val, pt t⟩
  unfold startSt
  split
  · next h =>
    have e := h0.mp h
    refine ⟨?_, ?_, fun k e => assemble_at _ _ w (projIn_holds hx t).wq k e⟩
    · rw [e]; rfl
    · rw [e]; rfl
  · next h => exact ⟨rfl, rfl, hk fun e => h (h0.mpr e)⟩

theorem projAt_wgi (t : Fin cfg0.N) (hk : t.val ≠ 0 → Kept w (projAcc m c t.val).wgi) : Kept w (projAt m c t (projAcc m c t.val)).wgi := by
  unfold projAt projStep
  exact (start_at hx t hk _ _).2.2

theorem projAt_gk (t : Fin cfg0.N) (hk : t.val ≠ 0 → Kept w (projAcc m c t.val).wgi) (p : Fin 128) (j : Fin 512) :
    (projAt m c t (projAcc m c t.val)).gk (ix2 p j) = (projAcc m c t.val).gk (ix2 p j) + tileSum (fun i => gkPart w x i p j) t.val := by
  unfold projAt projStep
  rw [seen_eq]
  refine (gkOf_at (projIn_holds hx t) _ p j).trans ?_
  rw [(start_at hx t hk _ _).1, tileSum, dif_pos (pt t)]; rfl

theorem projAt_small (t : Fin cfg0.N) (hk : t.val ≠ 0 → Kept w (projAcc m c t.val).wgi) (r : Fin 8) (j : Fin 1024) :
    (projAt m c t (projAcc m c t.val)).small (ix2 r j) = (projAcc m c t.val).small (ix2 r j) + tileSum (fun i => small w x i r j) t.val := by
  unfold projAt projStep
  rw [seen_eq]
  refine (smallOf_at (projIn_holds hx t) (start_at hx t hk _ _).2.2 _ r j).trans ?_
  rw [(start_at hx t hk _ _).2.1, tileSum, dif_pos (pt t)]; rfl

theorem projAcc_at : ∀ (n : ℕ) (_ : n ≤ 8),
    (∀ (p : Fin 128) (j : Fin 512), (projAcc m c n).gk (ix2 p j) = ∑ T ∈ Finset.range n, tileSum (fun i => gkPart w x i p j) T)
    ∧ (∀ (r : Fin 8) (j : Fin 1024), (projAcc m c n).small (ix2 r j) = ∑ T ∈ Finset.range n, tileSum (fun i => small w x i r j) T)
    ∧ (n ≠ 0 → Kept w (projAcc m c n).wgi)
  | 0, _ => by
    refine ⟨fun p j => ?_, fun r j => ?_, fun h => absurd rfl h⟩
    · show k0_pay6 (F := Ideal) (ix2 p j) = _
      simp only [k0_pay6, pointwise, Finset.range_zero, Finset.sum_empty]
    · show k0_pay7 (F := Ideal) (ix2 r j) = _
      simp only [k0_pay7, pointwise, Finset.range_zero, Finset.sum_empty]
  | n + 1, hn => by
    obtain ⟨hg, hs, hk⟩ := projAcc_at n (by omega)
    have e := projAcc_succ m c ⟨n, Nat.lt_of_lt_of_eq hn N_0.symm⟩
    rw [show projAcc m c (n + 1) = _ from e]
    refine ⟨fun p j => ?_, fun r j => ?_, fun _ => ?_⟩
    · rw [Finset.sum_range_succ, ← hg p j]; exact projAt_gk hx ⟨n, _⟩ hk p j
    · rw [Finset.sum_range_succ, ← hs r j]; exact projAt_small hx ⟨n, _⟩ hk r j
    · exact projAt_wgi hx ⟨n, _⟩ hk

theorem kept (t : Fin cfg0.N) (h : t.val ≠ 0) : Kept w (projAcc m c t.val).wgi := (projAcc_at hx t.val (pt t).le).2.2 h

/-! ## The result arrays -/

theorem dh1_at (i : Fin 4096) (j : Fin 1024) : (Dat.arrAt (dat m c) 12 cfg0.N : S4096x1024.Idx → EReal) (ix2 i j) = dh1 w x i j := by
  have h := (dat m c).arrAt_emb_eq_flushed 12 (win0_12.hdisj_of_index_inj (by decide +kernel)) (tileOf i) (flush0_12 _) (ix2 ⟨i.val % 512, by omega⟩ j)
  have e : (dat m c).after 12 (tileOf i) (ix2 ⟨i.val % 512, by omega⟩ j) = dh1 w x i j := by
    rw [after_12]; unfold projAt projStep; rw [seen_eq]
    exact (dh1Of_at (projIn_holds hx (tileOf i)) (start_at hx (tileOf i) (kept hx _) _ _).2.2 _ j).trans (by rw [tileRow_tileOf])
  refine Eq.trans ?_ (h.trans e)
  have := pt (tileOf i)
  have ht : (tileOf i).val = i.val / 512 := rfl
  blk_ext [idx_12, ht]

theorem dproj_at (i : Fin 4096) (j : Fin 3200) : (Dat.arrAt (dat m c) 13 cfg0.N : S4096x3200.Idx → EReal) (ix2 i j) = grown (dproj w x i) j := by
  have h := (dat m c).arrAt_emb_eq_flushed 13 (win0_13.hdisj_of_index_inj (by decide +kernel)) (tileOf i) (flush0_13 _) (ix2 ⟨i.val % 512, by omega⟩ j)
  have e : (dat m c).after 13 (tileOf i) (ix2 ⟨i.val % 512, by omega⟩ j) = grown (dproj w x i) j := by
    rw [after_13]; unfold projAt projStep; rw [seen_eq]
    exact (dprojOf_at (projIn_holds hx (tileOf i)) _ _ j).trans (by rw [tileRow_tileOf])
  refine Eq.trans ?_ (h.trans e)
  have := pt (tileOf i)
  have ht : (tileOf i).val = i.val / 512 := rfl
  blk_ext [idx_13, ht]

/-! The two arrays added to are written back once, whole, after the last point. -/

omit hx in
theorem acc_8 : projAcc m c 8 = ⟨(projAt m c t0_7 (projAcc m c t0_7.val)).gk, (projAt m c t0_7 (projAcc m c t0_7.val)).small, (projAt m c t0_7 (projAcc m c t0_7.val)).wgi⟩ :=
  projAcc_succ m c t0_7

theorem gk_at (p : Fin 128) (j : Fin 512) : (Dat.arrAt (dat m c) 14 cfg0.N : S128x512.Idx → EReal) (ix2 p j) = ∑ i, gkPart w x i p j := by
  refine ((dat m c).arrAt_emb_eq_after_last 14 t0_7 (by decide +kernel) (ix2 p j)).trans ?_
  have e : (projAt m c t0_7 (projAcc m c t0_7.val)).gk (ix2 p j) = ∑ i, gkPart w x i p j := by
    have h := (projAcc_at hx 8 le_rfl).1 p j
    rw [acc_8, tileSum_all] at h; exact h
  have h := congrFun (after_14 m c t0_7) (ix2 p j)
  exact h.trans e

theorem small_at (r : Fin 8) (j : Fin 1024) : (Dat.arrAt (dat m c) 15 cfg0.N : S8x1024.Idx → EReal) (ix2 r j) = ∑ i, small w x i r j := by
  refine ((dat m c).arrAt_emb_eq_after_last 15 t0_7 (by decide +kernel) (ix2 r j)).trans ?_
  have e : (projAt m c t0_7 (projAcc m c t0_7.val)).small (ix2 r j) = ∑ i, small w x i r j := by
    have h := (projAcc_at hx 8 le_rfl).2.1 r j
    rw [acc_8, tileSum_all] at h; exact h
  have h := congrFun (after_15 m c t0_7) (ix2 r j)
  exact h.trans e

end Cert.Kernel3Ideal.Own

end
-- ==== Proof.Project.Reference.lean ====
/-
  The reference of the projections' backward call, over the extended reals: its four results at an index are the formulas of
  `Row.lean`.
-/
module

public import proofs.«01_k».proof.Proof.Gen.Reference3Ideal.Run
public import proofs.«01_k».proof.Proof.Project.Row
public import Idealize.ShloMosaic.Lib.Pointwise
public import Idealize.ShloMosaic.Lib.KernelVsHost

@[expose] public section

set_option maxRecDepth 16384

noncomputable section

namespace Cert.Reference3Ideal.Own

open Idealize.ShloMosaic Idealize.SL.Sem Cert.Reference3Ideal Cert.Reference3Ideal.Gen Cert.Reference3Ideal.Value
open Cert.Project
open Cert.Head (word_one word_1024 word_eps word_neg_half back)

/-! ## The reference's values, one by one -/

section
variable (dq dk : FVec Ideal S4096x512 .f32) (dv dgate : FVec Ideal S4096x1024 .f32) (dcum : FVec Ideal S4096x512 .f32) (h1 dh2 : FVec Ideal S4096x1024 .f32)
  (nw : FVec Ideal S1x1024 .f32) (inw : FVec Ideal S1024x3088 .f32) (gk : FVec Ideal S16x512 .f32) (gb : FVec Ideal S1x512 .f32)

/-- A word at every index. -/
abbrev all (b : BitVec 32) : FVec Ideal S4096x512 .f32 := broadcastInDim S4096x512 ![] bcast_S_S4096x512 (constant S_ .f32 b)

/-- The norm's mean squares, reciprocal roots, rows, and the rows with the weight. -/
def hostMs : FVec Ideal S4096x1 .f32 :=
  addf (Host.divf (broadcastInDim S4096x1 ![0] bcast_S4096_S4096x1_0 (Host.reduceAdd (mulf h1 h1) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def hostRoot : FVec Ideal S4096x1 .f32 := Host.rsqrt (hostMs h1)
def hostHat : FVec Ideal S4096x1024 .f32 := mulf h1 (broadcastInDim S4096x1024 ![0, 1] bcast_S4096x1_S4096x1024_0_1 (hostRoot h1))
def hostWeight : FVec Ideal S4096x1024 .f32 :=
  broadcastInDim S4096x1024 ![0, 1] bcast_S1x1024_S4096x1024_0_1 (broadcastInDim S1x1024 ![1] bcast_S1024_S1x1024_1 (shapeCast S1024 nw shapeCasts_S1x1024_S1024))
def hostRows : FVec Ideal S4096x1024 .f32 := mulf (hostHat h1) (hostWeight nw)

/-- The forget gate's low-rank input, what its log-sigmoid takes with the sign turned, and the slope. -/
def hostLow : FVec Ideal S4096x16 .f32 :=
  extractStridedSlice S4096x16 ![0, 3072] (Host.dotGeneral (φ₂ := .f32) dot_S4096x1024_S1024x3088_S4096x3088_1_0_0_1_n_n none (hostRows h1 nw) inw) slices_S4096x3088_S4096x16_0_3072
def hostTurned : FVec Ideal S4096x512 .f32 :=
  Host.negf (addf (Host.dotGeneral (φ₂ := .f32) dot_S4096x16_S16x512_S4096x512_1_0_0_1_n_n none (hostLow h1 nw inw) gk)
    (broadcastInDim S4096x512 ![0, 1] bcast_S1x512_S4096x512_0_1 (broadcastInDim S1x512 ![1] bcast_S512_S1x512_1 (shapeCast S512 gb shapeCasts_S1x512_S512))))
def hostSoft (x : FVec Ideal S4096x512 .f32) : FVec Ideal S4096x512 .f32 :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))
def hostSlope (x : FVec Ideal S4096x512 .f32) : FVec Ideal S4096x512 .f32 :=
  Host.exp (subf (select (cmpf .oeq x (all 0x7F800000#32)) (all 0x00000000#32) x)
    (select (cmpf .oeq (hostSoft x) (all 0x7F800000#32)) (all 0x00000000#32) (hostSoft x)))

/-- The cotangents of the log decays, and of what the log-sigmoid takes. -/
def hostAfter : FVec Ideal S4096x512 .f32 :=
  shapeCast S4096x512 (Host.reduceWindowAdd ![1, 64, 1] ![1, 1, 1] ![0, 0, 0] ![0, 63, 0] (shapeCast S64x64x512 dcum shapeCasts_S4096x512_S64x64x512)
    (broadcastInDim S_ ![] bcast_S_S_ (constant S_ .f32 0x00000000#32)) reduceWindows_S64x64x512_S64x64x512_w1s1p0_0_w64s1p0_63_w1s1p0_0 h_S_) shapeCasts_S64x64x512_S4096x512
def hostDpre : FVec Ideal S4096x512 .f32 :=
  Host.negf (mulf (Host.negf (Host.divf (hostAfter dcum) (all 0x41800000#32))) (hostSlope (hostTurned h1 nw inw gk gb)))

/-- The cotangents of the projection's columns, of the normalised rows, and of the rows before the weight. -/
def hostDlow : FVec Ideal S4096x16 .f32 := Host.dotGeneral (φ₂ := .f32) dot_S4096x512_S16x512_S4096x16_1_1_0_0_n_n none (hostDpre dcum h1 nw inw gk gb) gk
def hostDproj : FVec Ideal S4096x3088 .f32 :=
  concatenate S4096x3088 1 [⟨S4096x512, dq⟩, ⟨S4096x512, dk⟩, ⟨S4096x1024, dv⟩, ⟨S4096x1024, dgate⟩, ⟨S4096x16, hostDlow dcum h1 nw inw gk gb⟩]
    concatenates_S4096x512_S4096x512_S4096x1024_S4096x1024_S4096x16_S4096x3088_d1
def hostDn : FVec Ideal S4096x1024 .f32 :=
  Host.dotGeneral (φ₂ := .f32) dot_S4096x3088_S1024x3088_S4096x1024_1_1_0_0_n_n none (hostDproj dq dk dv dgate dcum h1 nw inw gk gb) inw
def hostG : FVec Ideal S4096x1024 .f32 := mulf (hostDn dq dk dv dgate dcum h1 nw inw gk gb) (hostWeight nw)

/-- What the norm's statistic passes back. -/
def hostBack : FVec Ideal S4096x1024 .f32 :=
  broadcastInDim S4096x1024 ![0] bcast_S4096_S4096x1024_0 (Host.reduceAdd (Host.divf (mulf (shapeCast S4096x1 (Host.reduceAdd (mulf h1 (hostG dq dk dv dgate dcum h1 nw inw gk gb))
    (constant S_ .f32 0x00000000#32) reducesTo_S4096x1024_S4096_d1 h_S_) shapeCasts_S4096_S4096x1) (mulf (broadcastInDim S4096x1 ![] bcast_S_S4096x1 (constant S_ .f32 0xBF000000#32))
    (Host.divf (hostRoot h1) (hostMs h1)))) (broadcastInDim S4096x1 ![] bcast_S_S4096x1 (constant S_ .f32 0x44800000#32))) (constant S_ .f32 0x00000000#32) reducesTo_S4096x1_S4096_d1 h_S_)

/-- The results. -/
def hostDh1 : FVec Ideal S4096x1024 .f32 :=
  addf (addf (addf dh2 (mulf (hostG dq dk dv dgate dcum h1 nw inw gk gb) (broadcastInDim S4096x1024 ![0, 1] bcast_S4096x1_S4096x1024_0_1 (hostRoot h1))))
    (mulf h1 (hostBack dq dk dv dgate dcum h1 nw inw gk gb))) (mulf (hostBack dq dk dv dgate dcum h1 nw inw gk gb) h1)
def hostGrown : FVec Ideal S4096x3200 .f32 :=
  pad S4096x3200 ![0, 0] ![0, 112] ![0, 0] (hostDproj dq dk dv dgate dcum h1 nw inw gk gb) (sitofp .f32 (constantI S_ 32 0#32)) pads_S4096x3088_S4096x3200_000_01120 h_S_
def hostGk : FVec Ideal S128x512 .f32 :=
  pad S128x512 ![0, 0] ![112, 0] ![0, 0] (transpose S16x512 [1, 0] (Host.dotGeneral (φ₂ := .f32) dot_S4096x512_S4096x16_S512x16_0_0_1_1_n_n none (hostDpre dcum h1 nw inw gk gb) (hostLow h1 nw inw))
    transposes_S512x16_S16x512_1_0) (sitofp .f32 (constantI S_ 32 0#32)) pads_S16x512_S128x512_01120_000 h_S_
def normRow : FVec Ideal S1x1024 .f32 :=
  broadcastInDim S1x1024 ![1] bcast_S1024_S1x1024_1 (Host.reduceAdd (shapeCast S1x1024 (Host.reduceAdd (mulf (hostHat h1) (hostDn dq dk dv dgate dcum h1 nw inw gk gb))
    (constant S_ .f32 0x00000000#32) reducesTo_S4096x1024_S1024_d0 h_S_) shapeCasts_S1024_S1x1024) (constant S_ .f32 0x00000000#32) reducesTo_S1x1024_S1024_d0 h_S_)
def biasRow : FVec Ideal S1x1024 .f32 :=
  pad S1x1024 ![0, 0] ![0, 512] ![0, 0] (broadcastInDim S1x512 ![1] bcast_S512_S1x512_1 (Host.reduceAdd (shapeCast S1x512 (Host.reduceAdd (hostDpre dcum h1 nw inw gk gb)
    (constant S_ .f32 0x00000000#32) reducesTo_S4096x512_S512_d0 h_S_) shapeCasts_S512_S1x512) (constant S_ .f32 0x00000000#32) reducesTo_S1x512_S512_d0 h_S_))
    (sitofp .f32 (constantI S_ 32 0#32)) pads_S1x512_S1x1024_000_05120 h_S_
def hostSmall : FVec Ideal S8x1024 .f32 :=
  concatenate S8x1024 0 [⟨S1x1024, normRow dq dk dv dgate dcum h1 nw inw gk gb⟩, ⟨S1x1024, biasRow dcum h1 nw inw gk gb⟩,
    ⟨S6x1024, broadcastInDim S6x1024 ![] bcast_S_S6x1024 (constant (F := Ideal) S_ .f32 0x00000000#32)⟩] concatenates_S1x1024_S1x1024_S6x1024_S8x1024_d0

end

/-! ## The run's results are these -/

section
variable (m : (ℓ : Loc nD τ sig) → Buf (Elt Ideal) ℓ) (c : Dev nD)

/-- An argument on a device. -/
abbrev arg0 : FVec Ideal S4096x512 .f32 := m ((c.tc : Thread nD τ).loc main_arg0)
abbrev arg1 : FVec Ideal S4096x512 .f32 := m ((c.tc : Thread nD τ).loc main_arg1)
abbrev arg2 : FVec Ideal S4096x1024 .f32 := m ((c.tc : Thread nD τ).loc main_arg2)
abbrev arg3 : FVec Ideal S4096x1024 .f32 := m ((c.tc : Thread nD τ).loc main_arg3)
abbrev arg4 : FVec Ideal S4096x512 .f32 := m ((c.tc : Thread nD τ).loc main_arg4)
abbrev arg5 : FVec Ideal S4096x1024 .f32 := m ((c.tc : Thread nD τ).loc main_arg5)
abbrev arg6 : FVec Ideal S4096x1024 .f32 := m ((c.tc : Thread nD τ).loc main_arg6)
abbrev arg7 : FVec Ideal S1x1024 .f32 := m ((c.tc : Thread nD τ).loc main_arg7)
abbrev arg8 : FVec Ideal S1024x3088 .f32 := m ((c.tc : Thread nD τ).loc main_arg8)
abbrev arg9 : FVec Ideal S16x512 .f32 := m ((c.tc : Thread nD τ).loc main_arg9)
abbrev arg10 : FVec Ideal S1x512 .f32 := m ((c.tc : Thread nD τ).loc main_arg10)

theorem v68_eq : (res_main_v68 m c : S4096x1024.Idx → EReal)
    = hostDh1 (arg0 m c) (arg1 m c) (arg2 m c) (arg3 m c) (arg4 m c) (arg5 m c) (arg6 m c) (arg7 m c) (arg8 m c) (arg9 m c) (arg10 m c) := rfl
theorem v75_eq : (res_main_v75 m c : S4096x3200.Idx → EReal)
    = hostGrown (arg0 m c) (arg1 m c) (arg2 m c) (arg3 m c) (arg4 m c) (arg5 m c) (arg7 m c) (arg8 m c) (arg9 m c) (arg10 m c) := rfl
theorem v76_eq : (res_main_v76 m c : S128x512.Idx → EReal) = hostGk (arg4 m c) (arg5 m c) (arg7 m c) (arg8 m c) (arg9 m c) (arg10 m c) := rfl
theorem v73_eq : (res_main_v73 m c : S8x1024.Idx → EReal)
    = hostSmall (arg0 m c) (arg1 m c) (arg2 m c) (arg3 m c) (arg4 m c) (arg5 m c) (arg7 m c) (arg8 m c) (arg9 m c) (arg10 m c) := rfl
end

/-! ## At an index -/

theorem zero_word : (sitofp (F := Ideal) .f32 (constantI S_ 32 0#32) : S_.Idx → EReal) = fun _ => 0 := by
  funext i
  show ((((0#32 : BitVec 32).toInt : ℤ) : ℝ) : EReal) = _
  simp

theorem hostSoft_at (x : FVec Ideal S4096x512 .f32) (i : Fin 4096) (j : Fin 512) : hostSoft x (ix2 i j) = softplus (x (ix2 i j)) := by
  unfold hostSoft softplus
  pointwise
  rw [if_neg (not_not.2 rfl)]
  rfl

theorem hostSlope_at (x : FVec Ideal S4096x512 .f32) (i : Fin 4096) (j : Fin 512) (z : EReal) (h : x (ix2 i j) = -z) : hostSlope x (ix2 i j) = slope z := by
  rw [← slope_eq]
  unfold hostSlope
  pointwise [hostSoft_at, h, word_top]

section
variable {dq dk : FVec Ideal S4096x512 .f32} {dv dgate : FVec Ideal S4096x1024 .f32} {dcum : FVec Ideal S4096x512 .f32} {h1 dh2 : FVec Ideal S4096x1024 .f32}
  {nw : FVec Ideal S1x1024 .f32} {inw : FVec Ideal S1024x3088 .f32} {gk : FVec Ideal S16x512 .f32} {gb : FVec Ideal S1x512 .f32}
  {w : Weights} {x : Fin 4096 → Row} (hx : Data dq dk dv dgate dcum h1 dh2 nw inw gk gb w x)
include hx

variable (i : Fin 4096)

theorem hostMs_at : hostMs h1 (ix2 i 0) = ms x i := by
  unfold hostMs
  pointwise [hx.h1, word_1024, word_eps]
  rfl

theorem hostRoot_at : hostRoot h1 (ix2 i 0) = root x i := by
  unfold hostRoot
  pointwise [hostMs_at hx]
  rfl

theorem hostHat_at (j : Fin 1024) : hostHat h1 (ix2 i j) = hat x i j := by
  unfold hostHat
  pointwise [hostRoot_at hx, hx.h1, hat]

theorem hostWeight_at (j : Fin 1024) : hostWeight nw (ix2 i j) = w.nw j := by
  unfold hostWeight
  pointwise [hx.nw]

theorem hostRows_at (j : Fin 1024) : hostRows h1 nw (ix2 i j) = n1 w x i j := by
  unfold hostRows
  pointwise [hostHat_at hx, hostWeight_at hx, n1]

theorem hostLow_at (p : Fin 16) : hostLow h1 nw inw (ix2 i p) = low w x i p := by
  unfold hostLow
  pointwise [hostRows_at hx, hx.inw, low]

theorem hostTurned_at (j : Fin 512) : hostTurned h1 nw inw gk gb (ix2 i j) = -pre w x i j := by
  unfold hostTurned
  pointwise [hostLow_at hx, hx.gk, hx.gb, pre]

theorem hostAfter_at (j : Fin 512) : hostAfter dcum (ix2 i j) = after x i j := by
  unfold hostAfter
  pointwise
  have hz : (broadcastInDim S_ ![] bcast_S_S_ (constant (F := Ideal) S_ .f32 0x00000000#32) : S_.Idx → EReal) = fun _ => 0 := funext fun _ => by
    simp only [pointwise]
  rw [hz]
  refine (later_sums (shapeCast S64x64x512 dcum shapeCasts_S4096x512_S64x64x512) reduceWindows_S64x64x512_S64x64x512_w1s1p0_0_w64s1p0_63_w1s1p0_0
    ⟨i.val / 64, by omega⟩ ⟨i.val % 64, by omega⟩ j).trans ?_
  unfold after
  refine Finset.sum_congr rfl fun s _ => ?_
  have e : shapeCast S64x64x512 dcum shapeCasts_S4096x512_S64x64x512 (ix3 ⟨i.val / 64, by omega⟩ s j) = (x (mate i s)).dcum j := by
    pointwise [hx.dcum]
    exact congrArg (fun k => (x k).dcum j) (Fin.ext (by show _ = 64 * (i.val / 64) + s.val; dsimp only; omega))
  rw [e]
  rfl

theorem hostDpre_at (j : Fin 512) : hostDpre dcum h1 nw inw gk gb (ix2 i j) = dpre w x i j := by
  unfold hostDpre
  pointwise [hostAfter_at hx, hostSlope_at _ _ _ _ (hostTurned_at hx i j), word_16]
  exact gate_back _ _

theorem hostDlow_at (p : Fin 16) : hostDlow dcum h1 nw inw gk gb (ix2 i p) = dlow w x i p := by
  unfold hostDlow
  pointwise [hostDpre_at hx, hx.gk, dlow]

theorem hostDproj_at (j : Fin 3088) : hostDproj dq dk dv dgate dcum h1 nw inw gk gb (ix2 i j) = dproj w x i j := by
  unfold hostDproj dproj
  pointwise [hostDlow_at hx, hx.dq, hx.dk, hx.dv, hx.dgate]
  have hj : j.val < 3088 := j.isLt
  rcases lt_or_ge j.val 512 with a | a
  · rw [dif_pos a, dif_pos a]
  rw [dif_neg (show ¬j.val < 512 by omega), dif_neg (show ¬j.val < 512 by omega)]
  rcases lt_or_ge j.val 1024 with a | a
  · rw [dif_pos (show j.val - 512 < 512 by omega), dif_pos (show j.val < 1024 by omega)]
  rw [dif_neg (show ¬j.val - 512 < 512 by omega), dif_neg (show ¬j.val < 1024 by omega)]
  rcases lt_or_ge j.val 2048 with a | a
  · rw [dif_pos (show j.val - 512 - 512 < 1024 by omega), dif_pos (show j.val < 2048 by omega)]
    exact congrArg (x i).dv (Fin.ext (by dsimp only; omega))
  rw [dif_neg (show ¬j.val - 512 - 512 < 1024 by omega), dif_neg (show ¬j.val < 2048 by omega)]
  rcases lt_or_ge j.val 3072 with a | a
  · rw [dif_pos (show j.val - 512 - 512 - 1024 < 1024 by omega), dif_pos (show j.val < 3072 by omega)]
    exact congrArg (x i).dgate (Fin.ext (by dsimp only; omega))
  rw [dif_neg (show ¬j.val - 512 - 512 - 1024 < 1024 by omega), dif_neg (show ¬j.val < 3072 by omega)]
  exact congrArg (dlow w x i) (Fin.ext (by dsimp only; omega))

theorem hostDn_at (j : Fin 1024) : hostDn dq dk dv dgate dcum h1 nw inw gk gb (ix2 i j) = dn w x i j := by
  unfold hostDn
  pointwise [hostDproj_at hx, hx.inw, dn]

theorem hostG_at (j : Fin 1024) : hostG dq dk dv dgate dcum h1 nw inw gk gb (ix2 i j) = dn w x i j * w.nw j := by
  unfold hostG
  pointwise [hostDn_at hx, hostWeight_at hx]

theorem hostBack_at (j : Fin 1024) : hostBack dq dk dv dgate dcum h1 nw inw gk gb (ix2 i j)
    = back (x i).h1 (fun k => dn w x i k * w.nw k) (ms x i) (root x i) 1024 := by
  unfold hostBack
  pointwise
  rw [Fin.sum_univ_one]
  pointwise [hx.h1, hostG_at hx, hostRoot_at hx, hostMs_at hx, word_neg_half, word_1024]
  rfl

/-- The first result. -/
theorem hostDh1_at (j : Fin 1024) : hostDh1 dq dk dv dgate dcum h1 dh2 nw inw gk gb (ix2 i j) = dh1 w x i j := by
  unfold hostDh1
  pointwise [hx.dh2, hx.h1, hostG_at hx, hostRoot_at hx, hostBack_at hx]
  exact norm_grad w x i j

/-- The second result. -/
theorem hostGrown_at (j : Fin 3200) : hostGrown dq dk dv dgate dcum h1 nw inw gk gb (ix2 i j) = if h : j.val < 3088 then dproj w x i ⟨j.val, h⟩ else 0 := by
  unfold hostGrown
  rw [zero_word]
  pointwise [hostDproj_at hx]

/-- The third result. -/
theorem hostGk_at (p : Fin 128) (j : Fin 512) : hostGk dcum h1 nw inw gk gb (ix2 p j) = ∑ i, gkPart w x i p j := by
  unfold hostGk gkPart
  rw [zero_word]
  pointwise [hostDpre_at hx, hostLow_at hx]
  split_ifs
  · exact Finset.sum_congr rfl fun i _ => mul_comm _ _
  · exact Finset.sum_const_zero.symm

theorem normRow_at (j : Fin 1024) : normRow dq dk dv dgate dcum h1 nw inw gk gb (ix2 0 j) = ∑ i, dn w x i j * hat x i j := by
  unfold normRow
  pointwise
  rw [Fin.sum_univ_one]
  pointwise [hostHat_at hx, hostDn_at hx]
  exact Finset.sum_congr rfl fun i _ => mul_comm _ _

theorem biasRow_at (j : Fin 1024) : biasRow dcum h1 nw inw gk gb (ix2 0 j) = ∑ i, (if h : j.val < 512 then dpre w x i ⟨j.val, h⟩ else 0) := by
  unfold biasRow
  rw [zero_word]
  pointwise
  split_ifs with h
  · rw [Fin.sum_univ_one]
    pointwise [hostDpre_at hx]
  · exact Finset.sum_const_zero.symm

/-- The fourth result. -/
theorem hostSmall_at (r : Fin 8) (j : Fin 1024) : hostSmall dq dk dv dgate dcum h1 nw inw gk gb (ix2 r j) = ∑ i, small w x i r j := by
  unfold hostSmall
  pointwise
  fin_cases r
  · exact normRow_at hx j
  · exact biasRow_at hx j
  all_goals exact Finset.sum_const_zero.symm

end

end Cert.Reference3Ideal.Own

end
-- ==== Proof.Project.Value.lean ====
/-
  The value claim of the projections' backward call: whatever the arguments are, the two ideal programs end with the same four
  results.
-/
module

public import proofs.«01_k».proof.Defs
public import proofs.«01_k».proof.Proof.Project.Arrays
public import proofs.«01_k».proof.Proof.Project.Reference
public import proofs.«01_k».proof.Proof.Project.Frames

@[expose] public section

set_option maxRecDepth 16384

noncomputable section

namespace Cert.Proof.Project

open Idealize.ShloMosaic Idealize.ShloMosaic.StableHlo Idealize.SL.Sem
open Cert.Project
open Kernel3Ideal.Own (dat)

/-- Arrays of rows that agree index by index are equal. -/
theorem ext2 {a b : ℕ} {y z : (⟨2, ![a, b]⟩ : Shape).Idx → EReal} (h : ∀ i j, y (ix2 i j) = z (ix2 i j)) : y = z :=
  funext fun i => by rw [eq_ix2 i]; exact h _ _

theorem value :
    algebraic_Kernel3Ideal_Reference3Ideal (hKernel3Ideal := Kernel3Ideal.Gen.facts) (hReference3Ideal := Reference3Ideal.Gen.facts) := by
  intro m g m' g' _ hsame
  refine ⟨fun c => (dat m c).arrAt 12 Kernel3Ideal.cfg0.N, fun c => (dat m c).arrAt 13 Kernel3Ideal.cfg0.N, fun c => (dat m c).arrAt 14 Kernel3Ideal.cfg0.N,
    fun c => (dat m c).arrAt 15 Kernel3Ideal.cfg0.N,
    (θ_run _ _ _).mono (fun r h c => ?_) (Kernel3Ideal.Own.run m g), (θ_run _ _ _).mono (fun r h c => ?_) (Reference3Ideal.Value.run m' g')⟩
  · exact ⟨(h.1 c).1 12, (h.1 c).1 13, (h.1 c).1 14, (h.1 c).1 15, Kernel3Ideal.Own.args_end m h.1 c⟩
  · obtain ⟨h0, h1, h2, h3, hargs⟩ := h c
    obtain ⟨w, x, hy⟩ := Data.own (Reference3Ideal.Own.arg0 m' c) (Reference3Ideal.Own.arg1 m' c) (Reference3Ideal.Own.arg2 m' c) (Reference3Ideal.Own.arg3 m' c)
      (Reference3Ideal.Own.arg4 m' c) (Reference3Ideal.Own.arg5 m' c) (Reference3Ideal.Own.arg6 m' c) (Reference3Ideal.Own.arg7 m' c)
      (Reference3Ideal.Own.arg8 m' c) (Reference3Ideal.Own.arg9 m' c) (Reference3Ideal.Own.arg10 m' c)
    have hk : Kernel3Ideal.Own.Holds m c w x := by
      obtain ⟨e0, e1, e2, e3, e4, e5, e6, e7, e8, e9, e10⟩ := hsame c
      have hx := hy
      unfold Reference3Ideal.Own.arg0 Reference3Ideal.Own.arg1 Reference3Ideal.Own.arg2 Reference3Ideal.Own.arg3 Reference3Ideal.Own.arg4 Reference3Ideal.Own.arg5
        Reference3Ideal.Own.arg6 Reference3Ideal.Own.arg7 Reference3Ideal.Own.arg8 Reference3Ideal.Own.arg9 Reference3Ideal.Own.arg10 at hx
      rw [e0, e1, e2, e3, e4, e5, e6, e7, e8, e9, e10] at hx
      exact hx
    exact ⟨h0.trans (ext2 fun i j => (congrFun (Reference3Ideal.Own.v68_eq m' c) _).trans ((Reference3Ideal.Own.hostDh1_at hy i j).trans (Kernel3Ideal.Own.dh1_at hk i j).symm)),
      h1.trans (ext2 fun i j => (congrFun (Reference3Ideal.Own.v75_eq m' c) _).trans ((Reference3Ideal.Own.hostGrown_at hy i j).trans (Kernel3Ideal.Own.dproj_at hk i j).symm)),
      h2.trans (ext2 fun i j => (congrFun (Reference3Ideal.Own.v76_eq m' c) _).trans ((Reference3Ideal.Own.hostGk_at hy i j).trans (Kernel3Ideal.Own.gk_at hk i j).symm)),
      h3.trans (ext2 fun i j => (congrFun (Reference3Ideal.Own.v73_eq m' c) _).trans ((Reference3Ideal.Own.hostSmall_at hy i j).trans (Kernel3Ideal.Own.small_at hk i j).symm)), hargs⟩

end Cert.Proof.Project

end
-- ==== Proof.Pool.Frames.lean ====
/-
  The three frames of the pooling mixer's backward call, without its exchange.
-/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

namespace Cert.Proof.Pool

open Idealize.ShloMosaic Idealize.SL.Sem

theorem kernel_frame : quiescent_Kernel4 (hKernel4 := Kernel4.Gen.facts) := fun m g _ => Kernel4.Gen.frame m g

theorem ideal_frame : quiescent_Kernel4Ideal (hKernel4Ideal := Kernel4Ideal.Gen.facts) := fun m g _ => Kernel4Ideal.Gen.frame m g

theorem reference_frame : quiescent_Reference4Ideal (hReference4Ideal := Reference4Ideal.Gen.facts) := fun m g _ =>
  (θ_run _ _ _).mono (fun _ h => ⟨fun c => (h c).2.2.2.2.2, sem_eq_zero_of_no_sems rfl _⟩) (Reference4Ideal.Value.run m g)

end Cert.Proof.Pool

end
-- ==== Proof.Pool.Sums.lean ====
/-
  Sums along a sequence for the pooling mixer's backward call, over the extended reals: a trailing or leading window summed by
  doubling its span, and the same windows as differences of running sums, which agree where the entries are real numbers.
-/
module

public import proofs.«01_k».proof.Proof.Project.Row

@[expose] public section

noncomputable section

namespace Cert.Pool

open Idealize.ShloMosaic
open Cert.Chunk (IsReal)

/-- A column past its last row is zero. -/
def grow (f : Fin 4096 → EReal) (t : ℕ) : EReal := if h : t < 4096 then f ⟨t, h⟩ else 0

theorem grow_val (f : Fin 4096 → EReal) (t : Fin 4096) : grow f t.val = f t := dif_pos t.isLt
theorem grow_real {f : Fin 4096 → EReal} (hf : ∀ t, IsReal (f t)) (t : ℕ) : IsReal (grow f t) := by
  unfold grow
  split_ifs
  · exact hf _
  · exact .zero

/-- The last `n` entries up to `t`, and the first `n` from `t` on. -/
def trail (f : ℕ → EReal) (n t : ℕ) : EReal := ∑ k ∈ Finset.range n, if k ≤ t then f (t - k) else 0
def lead (f : ℕ → EReal) (n t : ℕ) : EReal := ∑ k ∈ Finset.range n, f (t + k)

theorem trail_one (f : ℕ → EReal) (t : ℕ) : trail f 1 t = f t := by
  unfold trail
  rw [Finset.sum_range_one, if_pos (Nat.zero_le t), Nat.sub_zero]

theorem lead_one (f : ℕ → EReal) (t : ℕ) : lead f 1 t = f t := by
  unfold lead
  rw [Finset.sum_range_one, Nat.add_zero]

theorem lead_double (f : ℕ → EReal) (s t : ℕ) : lead f s t + lead f s (t + s) = lead f (s + s) t := by
  unfold lead
  rw [Finset.sum_range_add]
  exact congrArg _ (Finset.sum_congr rfl fun k _ => congrArg f (by omega))

theorem trail_double (f : ℕ → EReal) (s t : ℕ) : trail f s t + (if s ≤ t then trail f s (t - s) else 0) = trail f (s + s) t := by
  unfold trail
  rw [Finset.sum_range_add]
  refine congrArg _ ?_
  split_ifs with h
  · refine Finset.sum_congr rfl fun k _ => ?_
    by_cases hk : k ≤ t - s
    · rw [if_pos hk, if_pos (show s + k ≤ t by omega)]
      exact congrArg f (by omega)
    · rw [if_neg hk, if_neg (show ¬ s + k ≤ t by omega)]
  · exact (Finset.sum_eq_zero fun k _ => if_neg (by omega)).symm

/-- The running sum splits into the window and the running sum before it. -/
def upto (f : ℕ → EReal) (t : ℕ) : EReal := ∑ k ∈ Finset.range (t + 1), f k

theorem upto_split (f : ℕ → EReal) (t : ℕ) : ∀ n : ℕ, upto f t = trail f n t + if n ≤ t then upto f (t - n) else 0
  | 0 => by
    rw [if_pos (Nat.zero_le t), Nat.sub_zero]
    unfold trail
    rw [Finset.sum_range_zero, zero_add]
  | n + 1 => by
    rw [upto_split f t n]
    unfold trail
    rw [Finset.sum_range_succ, add_assoc]
    refine congrArg _ ?_
    by_cases h : n ≤ t
    · rw [if_pos h, if_pos h]
      unfold upto
      rw [Finset.sum_range_succ, add_comm]
      refine congrArg _ ?_
      by_cases h' : n + 1 ≤ t
      · rw [if_pos h', show t - n = t - (n + 1) + 1 by omega]
      · rw [if_neg h', show t - n = 0 by omega, Finset.sum_range_zero]
    · rw [if_neg h, if_neg h, if_neg (by omega), add_zero]

theorem upto_real {f : ℕ → EReal} (hf : ∀ t, IsReal (f t)) (t : ℕ) : IsReal (upto f t) := .sum _ _ hf

/-- Real numbers taken away after they were added. -/
theorem add_sub_real {a b : EReal} (hb : IsReal b) : a + b - b = a := by
  obtain ⟨b, rfl⟩ := hb
  exact EReal.add_sub_cancel_right

theorem upto_sub {f : ℕ → EReal} (hf : ∀ t, IsReal (f t)) (n t : ℕ) : upto f t - (if n ≤ t then upto f (t - n) else 0) = trail f n t := by
  conv_lhs => rw [upto_split f t n]
  exact add_sub_real (.ite (upto_real hf _) .zero)

/-- The sums to the end of a sequence less what lies a window on are the leading windows. -/
theorem lead_add (f : ℕ → EReal) (h0 : ∀ t, 4096 ≤ t → f t = 0) (t : ℕ) (ht : t ≤ 4096) : ∀ n : ℕ,
    lead f n t + ∑ s ∈ Finset.Ico t 4096, f (s + n) = ∑ s ∈ Finset.Ico t 4096, f s
  | 0 => by
    unfold lead
    rw [Finset.sum_range_zero, zero_add]
    rfl
  | n + 1 => by
    rw [← lead_add f h0 t ht n]
    unfold lead
    rw [Finset.sum_range_succ, add_assoc]
    refine congrArg _ ?_
    have e1 : ∑ s ∈ Finset.Ico t 4096, f (s + (n + 1)) = ∑ s ∈ Finset.Ico (t + 1) (4096 + 1), f (s + n) := by
      rw [← Finset.sum_Ico_add' (fun s => f (s + n)) t 4096 1]
      exact Finset.sum_congr rfl fun s _ => congrArg f (by omega)
    rw [e1, ← Finset.sum_eq_sum_Ico_succ_bot (f := fun s => f (s + n)) (show t < 4096 + 1 by omega), Finset.sum_Ico_succ_top ht, h0 (4096 + n) (by omega), add_zero]

theorem lead_back {f : ℕ → EReal} (hf : ∀ t, IsReal (f t)) (h0 : ∀ t, 4096 ≤ t → f t = 0) (n t : ℕ) (ht : t ≤ 4096) :
    ∑ s ∈ Finset.Ico t 4096, (f s + if s + n < 4096 then -f (s + n) else 0) = lead f n t := by
  choose g hg using hf
  have e : ∀ s, (f s + if s + n < 4096 then -f (s + n) else 0) = ((g s - g (s + n) : ℝ) : EReal) := fun s => by
    split_ifs with h
    · rw [hg s, hg (s + n), ← EReal.coe_neg, ← EReal.coe_add, sub_eq_add_neg]
    · have := h0 (s + n) (by omega)
      rw [hg (s + n)] at this
      rw [EReal.coe_eq_zero.mp this, sub_zero, add_zero, hg s]
  rw [Finset.sum_congr rfl fun s _ => e s, Cert.Head.sum_real, Finset.sum_sub_distrib, EReal.coe_sub, ← Cert.Head.sum_real, ← Cert.Head.sum_real]
  simp only [← hg]
  rw [← lead_add f h0 t ht n]
  exact add_sub_real (.sum _ _ fun s => ⟨_, hg _⟩)

/-! ## The reference's running sums -/

/-- A window of 4096 rows, laid from `L` rows before each row on. -/
theorem window_sums (x : (⟨2, ![4096, 256]⟩ : Shape).Idx → EReal) (L H : ℕ)
    (h : (⟨2, ![4096, 256]⟩ : Shape).ReduceWindows ![4096, 1] ![1, 1] ![L, 0] ![H, 0] ⟨2, ![4096, 256]⟩) (t : Fin 4096) (j : Fin 256) :
    Ideal.hostReduceWindowAdd ![4096, 1] ![1, 1] ![L, 0] ![H, 0] h x 0 (ix2 t j)
      = ∑ k ∈ Finset.range 4096, if L ≤ t.val + k then grow (fun s => x (ix2 s j)) (t.val + k - L) else 0 := by
  unfold Ideal.hostReduceWindowAdd Host.reduceWindow
  dsimp only
  have fold : ∀ (M : ℕ) (g : Fin M → EReal), (List.finRange M).foldl (fun r k => r + g k) 0 = ∑ k, g k := fun M g => by
    rw [← List.foldl_map (f := g) (g := fun a b => a + b), ← List.sum_eq_foldl, ← List.ofFn_eq_map, List.sum_ofFn]
  rw [fold]
  generalize hG : (fun i : (⟨2, ![4096, 1]⟩ : Shape).Idx => (if hin : ∀ a : Fin 2, ![L, 0] a ≤ (ix2 t j (a.cast h.1.symm)).val * ![1, 1] a + (i a).val
      ∧ (ix2 t j (a.cast h.1.symm)).val * ![1, 1] a + (i a).val - ![L, 0] a < (⟨2, ![4096, 256]⟩ : Shape).size a
    then x (fun a => ⟨(ix2 t j (a.cast h.1.symm)).val * ![1, 1] a + (i a).val - ![L, 0] a, (hin a).2⟩) else 0)) = G
  have e1 : ∑ k, G ((⟨2, ![4096, 1]⟩ : Shape).rowMajor.symm k) = ∑ i, G i := Equiv.sum_comp _ G
  have e2 : ∑ k : Fin 4096, G (ix2 k 0) = ∑ i, G i := by
    refine Fintype.sum_bijective (fun k : Fin 4096 => (ix2 k 0 : (⟨2, ![4096, 1]⟩ : Shape).Idx)) ⟨fun a b hab => congrFun hab 0, fun i => ⟨i 0, ?_⟩⟩ _ _ fun _ => rfl
    rw [eq_ix2 i]
    funext a
    fin_cases a
    · rfl
    · exact Subsingleton.elim (α := Fin 1) _ _
  have e3 : ∀ k : Fin 4096, G (ix2 k 0) = if L ≤ t.val + k.val then grow (fun s => x (ix2 s j)) (t.val + k.val - L) else 0 := fun k => by
    rw [← hG]
    unfold grow
    dsimp only
    by_cases hL : L ≤ t.val + k.val
    · rw [if_pos hL]
      by_cases hk : t.val + k.val - L < 4096
      · rw [dif_pos hk, dif_pos]
        · refine congrArg x (funext fun a => Fin.ext ?_)
          fin_cases a
          · show t.val * 1 + k.val - L = t.val + k.val - L; omega
          · show j.val * 1 + 0 - 0 = j.val; omega
        · intro a
          fin_cases a
          · show L ≤ t.val * 1 + k.val ∧ t.val * 1 + k.val - L < 4096; omega
          · show 0 ≤ j.val * 1 + 0 ∧ j.val * 1 + 0 - 0 < 256; omega
      · rw [dif_neg hk, dif_neg]
        intro hin
        have h1 : L ≤ t.val * 1 + k.val ∧ t.val * 1 + k.val - L < 4096 := hin 0
        omega
    · rw [if_neg hL, dif_neg]
      intro hin
      have h1 : L ≤ t.val * 1 + k.val ∧ t.val * 1 + k.val - L < 4096 := hin 0
      omega
  refine (Finset.sum_congr rfl fun k _ => (?_ : _ = G ((⟨2, ![4096, 1]⟩ : Shape).rowMajor.symm k))).trans ((e1.trans e2.symm).trans ?_)
  · rw [← hG]; congr!
  simp only [e3]
  exact Fin.sum_univ_eq_sum_range (fun k => if L ≤ t.val + k then grow (fun s => x (ix2 s j)) (t.val + k - L) else 0) 4096

theorem before_sums (x : (⟨2, ![4096, 256]⟩ : Shape).Idx → EReal)
    (h : (⟨2, ![4096, 256]⟩ : Shape).ReduceWindows ![4096, 1] ![1, 1] ![4095, 0] ![0, 0] ⟨2, ![4096, 256]⟩) (t : Fin 4096) (j : Fin 256) :
    Ideal.hostReduceWindowAdd ![4096, 1] ![1, 1] ![4095, 0] ![0, 0] h x 0 (ix2 t j) = upto (grow fun s => x (ix2 s j)) t.val := by
  have ht := t.isLt
  rw [window_sums, congrArg Finset.range (show (4096 : ℕ) = (4095 - t.val) + (t.val + 1) by omega), Finset.sum_range_add, Finset.sum_eq_zero, zero_add]
  · refine Finset.sum_congr rfl fun k _ => ?_
    rw [if_pos (by omega)]
    exact congrArg _ (by omega)
  · intro k hk
    rw [Finset.mem_range] at hk
    exact if_neg (by omega)

theorem after_sums (x : (⟨2, ![4096, 256]⟩ : Shape).Idx → EReal)
    (h : (⟨2, ![4096, 256]⟩ : Shape).ReduceWindows ![4096, 1] ![1, 1] ![0, 0] ![4095, 0] ⟨2, ![4096, 256]⟩) (t : Fin 4096) (j : Fin 256) :
    Ideal.hostReduceWindowAdd ![4096, 1] ![1, 1] ![0, 0] ![4095, 0] h x 0 (ix2 t j) = ∑ s ∈ Finset.Ico t.val 4096, grow (fun s => x (ix2 s j)) s := by
  have ht := t.isLt
  rw [window_sums, Finset.sum_Ico_eq_sum_range]
  refine Eq.trans (Finset.sum_congr rfl fun k _ => (if_pos (Nat.zero_le _)).trans (congrArg _ (Nat.sub_zero _))) (Finset.sum_subset (Finset.range_mono (Nat.sub_le _ _)) fun k _ hk => ?_).symm
  rw [Finset.mem_range] at hk
  exact dif_neg (by omega)

end Cert.Pool

end
-- ==== Proof.Pool.Row.lean ====
/-
  The mathematics of the pooling mixer's backward call, row by row, over the extended reals: the norm, the trailing means, the
  groups' matrices and the gate, and their gradients as the kernel groups them. With every argument but the residual a real
  number, everything after the norm is one, and the groupings that differentiating gives agree with these.
-/
module

public import proofs.«01_k».proof.Proof.Pool.Sums

@[expose] public section

noncomputable section

/-- The weights: the norm's, the input projection, the groups' matrices and biases, the scale and the output projection. -/
structure Cert.Pool.Weights where
  nw : Fin 1024 → EReal
  inw : Fin 1024 → Fin 2048 → EReal
  gw : Fin 4 → Fin 256 → Fin 256 → EReal
  gb : Fin 4 → Fin 256 → EReal
  sc : Fin 1024 → EReal
  ow : Fin 1024 → Fin 1024 → EReal

/-- One row: the residual and the cotangent. -/
structure Cert.Pool.Row where
  x : Fin 1024 → EReal
  dh : Fin 1024 → EReal

namespace Cert.Pool

open Idealize.ShloMosaic
open Cert.Head (eps back part place col)
open Cert.Project (slope)
open Cert.Chunk (IsReal)

/-- The arguments' arrays hold these weights and rows. -/
structure Data (x dh : (⟨2, ![4096, 1024]⟩ : Shape).Idx → EReal) (nw : (⟨2, ![1, 1024]⟩ : Shape).Idx → EReal) (inw : (⟨2, ![1024, 2048]⟩ : Shape).Idx → EReal)
    (gw : (⟨3, ![4, 256, 256]⟩ : Shape).Idx → EReal) (gb : (⟨2, ![4, 256]⟩ : Shape).Idx → EReal) (sc : (⟨2, ![1, 1024]⟩ : Shape).Idx → EReal)
    (ow : (⟨2, ![1024, 1024]⟩ : Shape).Idx → EReal) (w : Weights) (y : Fin 4096 → Row) : Prop where
  x i j : x (ix2 i j) = (y i).x j
  dh i j : dh (ix2 i j) = (y i).dh j
  nw j : nw (ix2 0 j) = w.nw j
  inw k j : inw (ix2 k j) = w.inw k j
  gw g a b : gw (ix3 g a b) = w.gw g a b
  gb g b : gb (ix2 g b) = w.gb g b
  sc j : sc (ix2 0 j) = w.sc j
  ow k j : ow (ix2 k j) = w.ow k j

/-- The norm's weight and the input projection are real numbers. -/
structure Mild (w : Weights) : Prop where
  nw j : IsReal (w.nw j)
  inw k j : IsReal (w.inw k j)

/-- Every argument but the residual is a real number. -/
structure Tame (w : Weights) (y : Fin 4096 → Row) : Prop extends Mild w where
  dh i j : IsReal ((y i).dh j)
  gw g a b : IsReal (w.gw g a b)
  gb g b : IsReal (w.gb g b)
  sc j : IsReal (w.sc j)
  ow k j : IsReal (w.ow k j)

/-- A group's window, and how many rows of it there are at a row. -/
def win (g : Fin 4) : ℕ := ![2, 4, 8, 16] g
def count (g : Fin 4) (t : ℕ) : ℝ := (min (t + 1) (win g) : ℕ)

theorem count_pos (g : Fin 4) (t : ℕ) : 0 < count g t := by
  unfold count win
  fin_cases g <;> exact Nat.cast_pos.mpr (by simp)

section
variable (w : Weights) (y : Fin 4096 → Row) (i : Fin 4096)

/-- The norm's mean square, the reciprocal root, the normalised row, and with the weight; the projection's two halves. -/
def ms : EReal := Ideal.div (∑ j, (y i).x j * (y i).x j) ((1024 : ℝ) : EReal) + (eps : EReal)
def root : EReal := Ideal.rsqrt (ms y i)
def hat (j : Fin 1024) : EReal := (y i).x j * root y i
def proj (e : Fin 2048) : EReal := ∑ k, hat y i k * w.nw k * w.inw k e
def u (j : Fin 1024) : EReal := proj w y i ⟨j.val, by omega⟩
def gate (j : Fin 1024) : EReal := proj w y i ⟨1024 + j.val, by omega⟩

/-- The trailing means less the rows, and through the groups' matrices. -/
def inv (g : Fin 4) (t : ℕ) : EReal := Ideal.div ((1 : ℝ) : EReal) (count g t : EReal)
def pooled (j : Fin 1024) : EReal := trail (grow fun s => u w y s j) (win (part j)) i.val * inv (part j) i.val - u w y i j
def mixed (j : Fin 1024) : EReal := (∑ a, pooled w y i (col (part j) a) * w.gw (part j) a (place j)) + w.gb (part j) (place j)

/-- The gate. -/
def sg (j : Fin 1024) : EReal := slope (-gate w y i j)
def silu (j : Fin 1024) : EReal := gate w y i j * sg w y i j

/-- The cotangents of the mixer's rows, of the mixed rows, of the gate, of the pooled rows and of the projection's columns. -/
def dy (k : Fin 1024) : EReal := ∑ j, (y i).dh j * w.ow k j
def dmixed (j : Fin 1024) : EReal := dy w y i j * w.sc j * silu w y i j
def dgate (j : Fin 1024) : EReal :=
  dy w y i j * mixed w y i j * w.sc j * (sg w y i j * (((1 : ℝ) : EReal) + gate w y i j * (((1 : ℝ) : EReal) - sg w y i j)))
def dpool (j : Fin 1024) : EReal := ∑ b, dmixed w y i (col (part j) b) * w.gw (part j) (place j) b
def share (j : Fin 1024) : ℕ → EReal := grow fun s => dpool w y s j * inv (part j) s.val
def du (j : Fin 1024) : EReal := lead (share w y j) (win (part j)) i.val - dpool w y i j
def dproj (e : Fin 2048) : EReal := if h : e.val < 1024 then du w y i ⟨e.val, h⟩ else dgate w y i ⟨e.val - 1024, by omega⟩

/-- The cotangents of the normalised row with its weight, and of the residual. -/
def dn (k : Fin 1024) : EReal := ∑ e, dproj w y i e * w.inw k e
def dx (j : Fin 1024) : EReal :=
  (y i).dh j + root y i * (dn w y i j * w.nw j - hat y i j * Ideal.div (∑ k, dn w y i k * w.nw k * hat y i k) ((1024 : ℝ) : EReal))

/-- The row's share of the gradients of the output projection, of the groups' matrices kept by quarters of their rows, and of
the small results: row 0 the norm's weight, row 1 the scale, row 2 the groups' biases. -/
def owPart (k j : Fin 1024) : EReal := mixed w y i k * w.sc k * silu w y i k * (y i).dh j
def gwPart (q : Fin 4) (r d : Fin 256) : EReal :=
  pooled w y i (col ⟨r.val / 64, by omega⟩ ⟨64 * q.val + r.val % 64, by omega⟩) * dmixed w y i (col ⟨r.val / 64, by omega⟩ d)
def small (r : Fin 8) (j : Fin 1024) : EReal :=
  if r = 0 then dn w y i j * hat y i j else if r = 1 then dy w y i j * mixed w y i j * silu w y i j else if r = 2 then dmixed w y i j else 0

/-- The norm's gradient, as differentiating groups it. -/
theorem norm_grad (j : Fin 1024) :
    (y i).dh j + dn w y i j * w.nw j * root y i
      + (y i).x j * back (y i).x (fun k => dn w y i k * w.nw k) (ms y i) (root y i) 1024
      + back (y i).x (fun k => dn w y i k * w.nw k) (ms y i) (root y i) 1024 * (y i).x j = dx w y i j := by
  have h := Cert.Project.norm_back_any (y i).x (fun k => dn w y i k * w.nw k) (m := ms y i) (r := root y i) (c := 1024) (by norm_num) rfl rfl j
  unfold dx hat
  rw [← h, add_assoc, add_assoc]

/-- The four halves of the projection's columns. -/
theorem dn_halves (k : Fin 1024) :
    (∑ e : Fin 512, du w y i ⟨e.val, by omega⟩ * w.inw k ⟨e.val, by omega⟩) + (∑ e : Fin 512, du w y i ⟨512 + e.val, by omega⟩ * w.inw k ⟨512 + e.val, by omega⟩)
      + (∑ e : Fin 512, dgate w y i ⟨e.val, by omega⟩ * w.inw k ⟨1024 + e.val, by omega⟩)
      + (∑ e : Fin 512, dgate w y i ⟨512 + e.val, by omega⟩ * w.inw k ⟨1536 + e.val, by omega⟩) = dn w y i k := by
  have lo : ∀ (e : Fin 1024), dproj w y i ⟨e.val, by omega⟩ = du w y i e := fun e => dif_pos e.isLt
  have hi : ∀ (e : Fin 1024), dproj w y i ⟨1024 + e.val, by omega⟩ = dgate w y i e := fun e => by
    unfold dproj
    rw [dif_neg (by dsimp only; omega)]
    exact congrArg _ (Fin.ext (by dsimp only; omega))
  have at_ : ∀ (a b : Fin 2048) (d : EReal), b = a → dproj w y i a = d → dproj w y i b * w.inw k b = d * w.inw k a := fun _ _ _ hab h => by rw [hab, h]
  unfold dn
  rw [Fin.sum_univ_tiles 4 512 rfl, Fin.sum_univ_four]
  refine (congrArg₂ (· + ·) (congrArg₂ (· + ·) (congrArg₂ (· + ·) (Finset.sum_congr rfl fun e _ => at_ ⟨e.val, by omega⟩ _ _ (Fin.ext ?_) (lo ⟨e.val, by omega⟩))
    (Finset.sum_congr rfl fun e _ => at_ ⟨512 + e.val, by omega⟩ _ _ (Fin.ext ?_) (lo ⟨512 + e.val, by omega⟩)))
    (Finset.sum_congr rfl fun e _ => at_ ⟨1024 + e.val, by omega⟩ _ _ (Fin.ext ?_) (hi ⟨e.val, by omega⟩)))
    (Finset.sum_congr rfl fun e _ => at_ ⟨1536 + e.val, by omega⟩ _ _ (Fin.ext ?_) ?_)).symm
  · show 0 * 512 + e.val = e.val; omega
  · show 1 * 512 + e.val = 512 + e.val; omega
  · show 2 * 512 + e.val = 1024 + e.val; omega
  · show 3 * 512 + e.val = 1536 + e.val; omega
  · refine (congrArg _ (Fin.ext ?_)).trans (hi ⟨512 + e.val, by omega⟩)
    show 1536 + e.val = 1024 + (512 + e.val); omega
end

/-! ## What is real -/

theorem div_count {a : EReal} (ha : IsReal a) (g : Fin 4) (t : ℕ) : Ideal.div a (count g t : EReal) = a * inv g t := by
  obtain ⟨a, rfl⟩ := ha
  unfold inv
  rw [Cert.Head.div_real a (count_pos g t).ne', Cert.Head.div_real 1 (count_pos g t).ne', ← EReal.coe_mul, mul_one_div]

theorem inv_real (g : Fin 4) (t : ℕ) : IsReal (inv g t) := by
  unfold inv
  rw [Cert.Head.div_real 1 (count_pos g t).ne']
  exact .coe _

theorem slope_real {z : EReal} (hz : IsReal z) : IsReal (slope z) := by
  obtain ⟨z, rfl⟩ := hz
  unfold Cert.Project.slope
  rw [Cert.Head.exp_real, ← EReal.coe_add, Cert.Head.div_grown]
  exact .coe _

/-- The gate's derivative, as differentiating groups it. -/
theorem silu_back {a s z : EReal} (ha : IsReal a) (hs : IsReal s) (hz : IsReal z) :
    a * s + z * a * (s * (((1 : ℝ) : EReal) - s)) = a * (s * (((1 : ℝ) : EReal) + z * (((1 : ℝ) : EReal) - s))) := by
  obtain ⟨a, rfl⟩ := ha
  obtain ⟨s, rfl⟩ := hs
  obtain ⟨z, rfl⟩ := hz
  norm_cast
  ring

section
variable {w : Weights} {y : Fin 4096 → Row} (h : Mild w) (i : Fin 4096)
include h

theorem proj_real (e : Fin 2048) : IsReal (proj w y i e) :=
  .sum _ _ fun k => ((Cert.Head.norm_real (y i).x (c := 1024) (by norm_num) k).mul (h.nw k)).mul (h.inw k e)
theorem u_real (j : Fin 1024) : IsReal (u w y i j) := proj_real h i _
theorem gate_real (j : Fin 1024) : IsReal (gate w y i j) := proj_real h i _
theorem trail_real (j : Fin 1024) (n t : ℕ) : IsReal (trail (grow fun s => u w y s j) n t) :=
  .sum _ _ fun k => .ite (grow_real (fun s => u_real h s j) _) .zero
theorem pooled_real (j : Fin 1024) : IsReal (pooled w y i j) := ((trail_real h j _ _).mul (inv_real _ _)).sub (u_real h i j)
/-- The trailing means as a difference of running sums over the count. -/
theorem pooled_back (j : Fin 1024) :
    Ideal.div (upto (grow fun s => u w y s j) i.val - (if win (part j) ≤ i.val then upto (grow fun s => u w y s j) (i.val - win (part j)) else 0))
      (count (part j) i.val : EReal) - u w y i j = pooled w y i j := by
  rw [upto_sub (fun t => grow_real (fun s => u_real h s j) t), div_count (trail_real h j _ _)]
  rfl

end

section
variable {w : Weights} {y : Fin 4096 → Row} (h : Tame w y) (i : Fin 4096)
include h

theorem mixed_real (j : Fin 1024) : IsReal (mixed w y i j) := (IsReal.sum _ _ fun a => (pooled_real h.toMild i _).mul (h.gw _ a _)).add (h.gb _ _)
theorem sg_real (j : Fin 1024) : IsReal (sg w y i j) := slope_real (gate_real h.toMild i j).neg
theorem silu_real (j : Fin 1024) : IsReal (silu w y i j) := (gate_real h.toMild i j).mul (sg_real h i j)
theorem dy_real (j : Fin 1024) : IsReal (dy w y i j) := .sum _ _ fun k => (h.dh i k).mul (h.ow j k)
theorem dmixed_real (j : Fin 1024) : IsReal (dmixed w y i j) := ((dy_real h i j).mul (h.sc j)).mul (silu_real h i j)
theorem dpool_real (j : Fin 1024) : IsReal (dpool w y i j) := .sum _ _ fun b => (dmixed_real h i _).mul (h.gw _ _ b)
theorem share_real (j : Fin 1024) (t : ℕ) : IsReal (share w y j t) := grow_real (fun s => (dpool_real h s j).mul (inv_real _ _)) t

theorem dgate_back (j : Fin 1024) :
    mixed w y i j * w.sc j * dy w y i j * sg w y i j
      + gate w y i j * (mixed w y i j * w.sc j * dy w y i j) * (sg w y i j * (((1 : ℝ) : EReal) - sg w y i j)) = dgate w y i j := by
  rw [silu_back (((mixed_real h i j).mul (h.sc j)).mul (dy_real h i j)) (sg_real h i j) (gate_real h.toMild i j)]
  unfold dgate
  rw [show mixed w y i j * w.sc j * dy w y i j = dy w y i j * mixed w y i j * w.sc j by rw [mul_comm, mul_assoc]]

theorem du_back (j : Fin 1024) :
    -dpool w y i j + ∑ s ∈ Finset.Ico i.val 4096, (share w y j s + if s + win (part j) < 4096 then -share w y j (s + win (part j)) else 0) = du w y i j := by
  rw [lead_back (share_real h j) (fun t ht => dif_neg (by omega)) _ _ i.isLt.le, add_comm]
  rfl
end

end Cert.Pool

end
-- ==== Proof.Pool.Pieces.lean ====
/-
  Reading what a body's stores have left, at an index, for two and three axes: the last store that covers the index gives its
  entry, and a load gives the entries from its offsets on.
-/
module

public import proofs.«01_k».proof.Proof.Gen.Kernel4Ideal.Value
public import Idealize.ShloMosaic.Lib.VecWindow
public import Idealize.ShloMosaic.Lib.Pointwise
public import Idealize.ShloMosaic.Lib.KernelVsHost

@[expose] public section

noncomputable section

namespace Cert.Pool

open Idealize.ShloMosaic Idealize.SL.Sem

variable {a b a' b' n n' : ℕ} {e : EltTy}

theorem emb2 (o p : ℕ) (inb) (i : Fin a) (j : Fin b) (hi : o ≤ i.val ∧ i.val < o + a') (hj : p ≤ j.val ∧ j.val < p + b') :
    (Rect.unit (s := ⟨2, ![a, b]⟩) ![o, p] ![a', b'] inb).emb (ix2 ⟨i.val - o, by omega⟩ ⟨j.val - p, by omega⟩) = ix2 i j := by
  funext k
  refine Fin.ext ?_
  fin_cases k
  · show o + 1 * (i.val - o) = i.val; omega
  · show p + 1 * (j.val - p) = j.val; omega

theorem emb3 (m o p : ℕ) (inb) (q : Fin n) (i : Fin a) (j : Fin b) (hq : m ≤ q.val ∧ q.val < m + n') (hi : o ≤ i.val ∧ i.val < o + a') (hj : p ≤ j.val ∧ j.val < p + b') :
    (Rect.unit (s := ⟨3, ![n, a, b]⟩) ![m, o, p] ![n', a', b'] inb).emb (ix3 ⟨q.val - m, by omega⟩ ⟨i.val - o, by omega⟩ ⟨j.val - p, by omega⟩) = ix3 q i j := by
  funext k
  refine Fin.ext ?_
  fin_cases k
  · show m + 1 * (q.val - m) = q.val; omega
  · show o + 1 * (i.val - o) = i.val; omega
  · show p + 1 * (j.val - p) = j.val; omega

/-- A store on top: inside it its entries, outside it what was there. -/
theorem top2 (o p : ℕ) (inb) (v : Vec Ideal ⟨2, ![a', b']⟩ e) (L : List (View.Piece (Elt Ideal) ⟨2, ![a, b]⟩ e)) (i : Fin a) (j : Fin b) {z : Elt Ideal e}
    (hv : ∀ (hi : o ≤ i.val ∧ i.val < o + a') (hj : p ≤ j.val ∧ j.val < p + b'), v (ix2 ⟨i.val - o, by omega⟩ ⟨j.val - p, by omega⟩) = z)
    (hL : ¬((o ≤ i.val ∧ i.val < o + a') ∧ p ≤ j.val ∧ j.val < p + b') → View.canon L (ix2 i j) = z) :
    View.canon (⟨Rect.unit ![o, p] ![a', b'] inb, v⟩ :: L) (ix2 i j) = z := by
  by_cases h : (o ≤ i.val ∧ i.val < o + a') ∧ p ≤ j.val ∧ j.val < p + b'
  · rw [← hv h.1 h.2, ← emb2 o p inb i j h.1 h.2]
    exact View.canon_cons_emb _ _ _ _
  · rw [← hL h]
    refine View.canon_cons_of_not_mem _ _ fun hm => h ?_
    have := (Rect.mem_set_unit (s := ⟨2, ![a, b]⟩) (inb := inb)).mp hm
    exact ⟨this 0, this 1⟩

theorem top3 (m o p : ℕ) (inb) (v : Vec Ideal ⟨3, ![n', a', b']⟩ e) (L : List (View.Piece (Elt Ideal) ⟨3, ![n, a, b]⟩ e)) (q : Fin n) (i : Fin a) (j : Fin b) {z : Elt Ideal e}
    (hv : ∀ (hq : m ≤ q.val ∧ q.val < m + n') (hi : o ≤ i.val ∧ i.val < o + a') (hj : p ≤ j.val ∧ j.val < p + b'),
      v (ix3 ⟨q.val - m, by omega⟩ ⟨i.val - o, by omega⟩ ⟨j.val - p, by omega⟩) = z)
    (hL : ¬((m ≤ q.val ∧ q.val < m + n') ∧ (o ≤ i.val ∧ i.val < o + a') ∧ p ≤ j.val ∧ j.val < p + b') → View.canon L (ix3 q i j) = z) :
    View.canon (⟨Rect.unit ![m, o, p] ![n', a', b'] inb, v⟩ :: L) (ix3 q i j) = z := by
  by_cases h : (m ≤ q.val ∧ q.val < m + n') ∧ (o ≤ i.val ∧ i.val < o + a') ∧ p ≤ j.val ∧ j.val < p + b'
  · rw [← hv h.1 h.2.1 h.2.2, ← emb3 m o p inb q i j h.1 h.2.1 h.2.2]
    exact View.canon_cons_emb _ _ _ _
  · rw [← hL h]
    refine View.canon_cons_of_not_mem _ _ fun hm => h ?_
    have := (Rect.mem_set_unit (s := ⟨3, ![n, a, b]⟩) (inb := inb)).mp hm
    exact ⟨this 0, this 1, this 2⟩

variable {sig : RefSig} {κ : Kind} {sp : Space}

/-- A store on top of whatever was there. -/
theorem over2 (M : View sig κ sp ⟨2, ![a, b]⟩ e) (f : M.ty.Contents (Elt Ideal)) (o p : ℕ) (inb) (v : Vec Ideal ⟨2, ![a', b']⟩ e) (L : List (View.Piece (Elt Ideal) ⟨2, ![a, b]⟩ e)) (i : Fin a) (j : Fin b)
    {z : Elt Ideal e} (hv : ∀ (hi : o ≤ i.val ∧ i.val < o + a') (hj : p ≤ j.val ∧ j.val < p + b'), v (ix2 ⟨i.val - o, by omega⟩ ⟨j.val - p, by omega⟩) = z)
    (hL : ¬((o ≤ i.val ∧ i.val < o + a') ∧ p ≤ j.val ∧ j.val < p + b') → M.read (Elt Ideal) (M.writes (Elt Ideal) f L) (ix2 i j) = z) :
    M.read (Elt Ideal) (M.writes (Elt Ideal) f (⟨Rect.unit (s := ⟨2, ![a, b]⟩) ![o, p] ![a', b'] inb, v⟩ :: L)) (ix2 i j) = z := by
  rw [View.read_writes_cons_put M f inb v L rfl]
  by_cases h : (o ≤ i.val ∧ i.val < o + a') ∧ p ≤ j.val ∧ j.val < p + b'
  · refine (dif_pos fun k => ?_).trans (Eq.trans (congrArg v ?_) (hv h.1 h.2))
    · fin_cases k
      · exact h.1
      · exact h.2
    · funext k; fin_cases k <;> rfl
  · exact (dif_neg fun hall => h ⟨hall 0, hall 1⟩).trans (hL h)

/-- A load of what the stores left. -/
theorem left2 (v : View sig κ sp ⟨2, ![a, b]⟩ e) (L : List (View.Piece (Elt Ideal) ⟨2, ![a, b]⟩ e)) (o p : ℕ) (inb : ∀ k, (![o, p] : Fin 2 → ℕ) k + (![a', b'] : Fin 2 → ℕ) k ≤ (⟨2, ![a, b]⟩ : Shape).size k)
    (i : Fin a') (j : Fin b') : v.readCov L (Rect.unit (s := ⟨2, ![a, b]⟩) ![o, p] ![a', b'] inb).toLoadRect (ix2 i j)
      = View.canon L (ix2 ⟨o + i.val, Nat.lt_of_lt_of_le (Nat.add_lt_add_left i.isLt o) (inb 0)⟩ ⟨p + j.val, Nat.lt_of_lt_of_le (Nat.add_lt_add_left j.isLt p) (inb 1)⟩) := by
  rw [View.readCov_eq_canon']
  refine congrArg (View.canon L) (funext fun k => Fin.ext ?_)
  fin_cases k
  · show o + 1 * i.val = o + i.val; omega
  · show p + 1 * j.val = p + j.val; omega

theorem left3 (v : View sig κ sp ⟨3, ![n, a, b]⟩ e) (L : List (View.Piece (Elt Ideal) ⟨3, ![n, a, b]⟩ e)) (m o p : ℕ)
    (inb : ∀ k, (![m, o, p] : Fin 3 → ℕ) k + (![n', a', b'] : Fin 3 → ℕ) k ≤ (⟨3, ![n, a, b]⟩ : Shape).size k) (q : Fin n') (i : Fin a') (j : Fin b') :
    v.readCov L (Rect.unit (s := ⟨3, ![n, a, b]⟩) ![m, o, p] ![n', a', b'] inb).toLoadRect (ix3 q i j)
      = View.canon L (ix3 ⟨m + q.val, Nat.lt_of_lt_of_le (Nat.add_lt_add_left q.isLt m) (inb 0)⟩ ⟨o + i.val, Nat.lt_of_lt_of_le (Nat.add_lt_add_left i.isLt o) (inb 1)⟩
          ⟨p + j.val, Nat.lt_of_lt_of_le (Nat.add_lt_add_left j.isLt p) (inb 2)⟩) := by
  rw [View.readCov_eq_canon']
  refine congrArg (View.canon L) (funext fun k => Fin.ext ?_)
  fin_cases k
  · show m + 1 * q.val = m + q.val; omega
  · show o + 1 * i.val = o + i.val; omega
  · show p + 1 * j.val = p + j.val; omega

/-- A load of a block the body was given. -/
theorem given2 {M : Memref sig κ sp ⟨2, ![a, b]⟩ e} (h : M.IsWhole) (x : Vec Ideal ⟨2, ![a, b]⟩ e) (o p : ℕ) (inb : ∀ k, (![o, p] : Fin 2 → ℕ) k + (![a', b'] : Fin 2 → ℕ) k ≤ (⟨2, ![a, b]⟩ : Shape).size k)
    (i : Fin a') (j : Fin b') : View.readAt (Elt Ideal) M.view (Rect.unit (s := ⟨2, ![a, b]⟩) ![o, p] ![a', b'] inb).toLoadRect (h.unread x) (ix2 i j)
      = x (ix2 ⟨o + i.val, Nat.lt_of_lt_of_le (Nat.add_lt_add_left i.isLt o) (inb 0)⟩ ⟨p + j.val, Nat.lt_of_lt_of_le (Nat.add_lt_add_left j.isLt p) (inb 1)⟩) := by
  rw [View.readAt_unit _ _ inb rfl inb, h.read_unread]
  refine congrArg x (funext fun k => Fin.ext ?_)
  fin_cases k
  · show o + 1 * i.val = o + i.val; omega
  · show p + 1 * j.val = p + j.val; omega

theorem given3 {M : Memref sig κ sp ⟨3, ![n, a, b]⟩ e} (h : M.IsWhole) (x : Vec Ideal ⟨3, ![n, a, b]⟩ e) (m o p : ℕ)
    (inb : ∀ k, (![m, o, p] : Fin 3 → ℕ) k + (![n', a', b'] : Fin 3 → ℕ) k ≤ (⟨3, ![n, a, b]⟩ : Shape).size k) (q : Fin n') (i : Fin a') (j : Fin b') :
    View.readAt (Elt Ideal) M.view (Rect.unit (s := ⟨3, ![n, a, b]⟩) ![m, o, p] ![n', a', b'] inb).toLoadRect (h.unread x) (ix3 q i j)
      = x (ix3 ⟨m + q.val, Nat.lt_of_lt_of_le (Nat.add_lt_add_left q.isLt m) (inb 0)⟩ ⟨o + i.val, Nat.lt_of_lt_of_le (Nat.add_lt_add_left i.isLt o) (inb 1)⟩
          ⟨p + j.val, Nat.lt_of_lt_of_le (Nat.add_lt_add_left j.isLt p) (inb 2)⟩) := by
  rw [View.readAt_unit _ _ inb rfl inb, h.read_unread]
  refine congrArg x (funext fun k => Fin.ext ?_)
  fin_cases k
  · show m + 1 * q.val = m + q.val; omega
  · show o + 1 * i.val = o + i.val; omega
  · show p + 1 * j.val = p + j.val; omega

end Cert.Pool

end
-- ==== Proof.Pool.Payloads.lean ====
/-
  What the pooling mixer's backward call makes of the blocks it loads, read at an index over the extended reals: the formulas
  of `Row.lean` at the rows and the weights that the blocks hold. The windows of later rows, which it keeps between the tiles,
  are in `Ahead.lean`.
-/
module

public import proofs.«01_k».proof.Proof.Pool.Row
public import proofs.«01_k».proof.Proof.Pool.Pieces

@[expose] public section

set_option maxRecDepth 16384

noncomputable section

namespace Cert.Kernel4Ideal.Own

open Idealize.ShloMosaic Idealize.SL.Sem Cert.Kernel4Ideal Cert.Kernel4Ideal.Gen
open Cert.Pool
open Cert.Head (word_one word_1024 word_eps part place col part_col place_col col_part_place)
open Cert.Project (slope)

/-- What a point loads: its number, its rows' residual, cotangent, gate and pooled groups, and the weights; the groups'
matrices and the projection by quarters. -/
structure Loads where
  i : BitVec 32
  x : FVec Ideal S512x1024 .f32
  dh : FVec Ideal S512x1024 .f32
  gt : FVec Ideal S512x1024 .f32
  p : Fin 4 → FVec Ideal S512x256 .bf16
  nw : FVec Ideal S1x1024 .f32
  wq : Fin 4 → FVec Ideal S1x1024x512 .bf16
  g : Fin 4 → Fin 4 → FVec Ideal S1x64x256 .bf16
  gb : FVec Ideal S1x1024 .f32
  sc : FVec Ideal S1x1024 .f32
  ow : FVec Ideal S1024x1024 .bf16

/-- A row of a block of 512 rows. -/
def tileRow (T : Fin 8) (i : Fin 512) : Fin 4096 := ⟨512 * T.val + i.val, by omega⟩

/-- The loads hold these weights and rows. -/
structure Loads.Holds (b : Loads) (w : Weights) (y : Fin 4096 → Row) (T : Fin 8) : Prop where
  i : b.i = BitVec.ofNat 32 (7 - T.val)
  x i j : b.x (ix2 i j) = (y (tileRow T i)).x j
  dh i j : b.dh (ix2 i j) = (y (tileRow T i)).dh j
  gt i j : b.gt (ix2 i j) = gate w y (tileRow T i) j
  p g i e : b.p g (ix2 i e) = pooled w y (tileRow T i) (col g e)
  nw j : b.nw (ix2 0 j) = w.nw j
  wq q k e : b.wq q (ix3 0 k e) = w.inw k ⟨512 * q.val + e.val, by omega⟩
  g g q r e : b.g g q (ix3 0 r e) = w.gw g ⟨64 * q.val + r.val, by omega⟩ e
  gb j : b.gb (ix2 0 j) = w.gb (part j) (place j)
  sc j : b.sc (ix2 0 j) = w.sc j
  ow k j : b.ow (ix2 k j) = w.ow k j

/-! ## The groups' matrices from their quarters -/

/-- A matrix by its entries. -/
def mat (M : Fin 256 → Fin 256 → EReal) : FVec Ideal S256x256 .bf16 := fun k => M (k 0) (k 1)

theorem mat_at (M : Fin 256 → Fin 256 → EReal) (a e : Fin 256) : mat M (ix2 a e) = M a e := rfl

theorem flat_at (g : FVec Ideal S1x64x256 .bf16) (r : Fin 64) (e : Fin 256) : shapeCast S64x256 g shapeCasts_S1x64x256_S64x256 (ix2 r e) = g (ix3 0 r e) := by
  pointwise

theorem ext2 {a b : ℕ} {f g : (⟨2, ![a, b]⟩ : Shape).Idx → EReal} (h : ∀ i j, f (ix2 i j) = g (ix2 i j)) : f = g := by
  funext k
  rw [show k = ix2 (k 0) (k 1) from by funext a; fin_cases a <;> rfl]
  exact h _ _

theorem stack_eq (q0 q1 q2 q3 : FVec Ideal S64x256 .bf16) (M : Fin 256 → Fin 256 → EReal)
    (h0 : ∀ r e, q0 (ix2 r e) = M ⟨64 * 0 + r.val, by omega⟩ e) (h1 : ∀ r e, q1 (ix2 r e) = M ⟨64 * 1 + r.val, by omega⟩ e)
    (h2 : ∀ r e, q2 (ix2 r e) = M ⟨64 * 2 + r.val, by omega⟩ e) (h3 : ∀ r e, q3 (ix2 r e) = M ⟨64 * 3 + r.val, by omega⟩ e) :
    concatenate S256x256 0 [⟨S64x256, q0⟩, ⟨S64x256, q1⟩, ⟨S64x256, q2⟩, ⟨S64x256, q3⟩] concatenates_S64x256_S64x256_S64x256_S64x256_S256x256_d0 = mat M := by
  refine ext2 fun a e => ?_
  rw [mat_at]
  pointwise [h0, h1, h2, h3]
  split_ifs <;> first | omega | exact congrArg (M · e) (Fin.ext (by dsimp only <;> omega))

theorem beside_at (m0 m1 m2 m3 : FVec Ideal S512x256 .f32) (i : Fin 512) (f : Fin 1024 → EReal) (h0 : ∀ e, m0 (ix2 i e) = f (col 0 e)) (h1 : ∀ e, m1 (ix2 i e) = f (col 1 e))
    (h2 : ∀ e, m2 (ix2 i e) = f (col 2 e)) (h3 : ∀ e, m3 (ix2 i e) = f (col 3 e)) (j : Fin 1024) :
    concatenate S512x1024 1 [⟨S512x256, m0⟩, ⟨S512x256, m1⟩, ⟨S512x256, m2⟩, ⟨S512x256, m3⟩] concatenates_S512x256_S512x256_S512x256_S512x256_S512x1024_d1 (ix2 i j) = f j := by
  pointwise [h0, h1, h2, h3]
  split_ifs <;> first | omega | exact congrArg f (Fin.ext (by simp [col] <;> omega))

section
variable (p : FVec Ideal S512x256 .bf16) (g0 g1 g2 g3 : FVec Ideal S1x64x256 .bf16) (M : Fin 256 → Fin 256 → EReal)
  (h0 : ∀ r e, g0 (ix3 0 r e) = M ⟨64 * 0 + r.val, by omega⟩ e) (h1 : ∀ r e, g1 (ix3 0 r e) = M ⟨64 * 1 + r.val, by omega⟩ e)
  (h2 : ∀ r e, g2 (ix3 0 r e) = M ⟨64 * 2 + r.val, by omega⟩ e) (h3 : ∀ r e, g3 (ix3 0 r e) = M ⟨64 * 3 + r.val, by omega⟩ e)
  (i : Fin 512) (e : Fin 256)
include h0 h1 h2 h3

theorem flat_stack : concatenate S256x256 0 [⟨S64x256, shapeCast S64x256 g0 shapeCasts_S1x64x256_S64x256⟩, ⟨S64x256, shapeCast S64x256 g1 shapeCasts_S1x64x256_S64x256⟩,
    ⟨S64x256, shapeCast S64x256 g2 shapeCasts_S1x64x256_S64x256⟩, ⟨S64x256, shapeCast S64x256 g3 shapeCasts_S1x64x256_S64x256⟩]
    concatenates_S64x256_S64x256_S64x256_S64x256_S256x256_d0 = mat M :=
  stack_eq _ _ _ _ M (fun r e => (flat_at g0 r e).trans (h0 r e)) (fun r e => (flat_at g1 r e).trans (h1 r e)) (fun r e => (flat_at g2 r e).trans (h2 r e))
    (fun r e => (flat_at g3 r e).trans (h3 r e))

theorem pay13_at : k0_pay13 (F := Ideal) p g0 g1 g2 g3 (ix2 i e) = ∑ a, p (ix2 i a) * M a e := by
  unfold k0_pay13 k0_pay12
  dsimp only
  rw [flat_stack g0 g1 g2 g3 M h0 h1 h2 h3]
  pointwise [mat_at]

theorem pay18_at : k0_pay18 (F := Ideal) p g0 g1 g2 g3 (ix2 i e) = ∑ a, p (ix2 i a) * M a e := pay13_at p g0 g1 g2 g3 M h0 h1 h2 h3 i e

theorem pay16_at : k0_pay16 (F := Ideal) (k0_pay14 p) (k0_pay15 g0) g1 g2 g3 (ix2 i e) = ∑ a, p (ix2 i a) * M a e := pay13_at p g0 g1 g2 g3 M h0 h1 h2 h3 i e

theorem pay44_at : k0_pay44 (F := Ideal) p g0 g1 g2 g3 (ix2 i e) = ∑ b, p (ix2 i b) * M e b := by
  unfold k0_pay44
  rw [flat_stack g0 g1 g2 g3 M h0 h1 h2 h3]
  pointwise [mat_at]

theorem pay52_at : k0_pay52 (F := Ideal) p g0 g1 g2 g3 (ix2 i e) = ∑ b, p (ix2 i b) * M e b := pay44_at p g0 g1 g2 g3 M h0 h1 h2 h3 i e
theorem pay60_at : k0_pay60 (F := Ideal) p g0 g1 g2 g3 (ix2 i e) = ∑ b, p (ix2 i b) * M e b := pay44_at p g0 g1 g2 g3 M h0 h1 h2 h3 i e
theorem pay68_at : k0_pay68 (F := Ideal) p g0 g1 g2 g3 (ix2 i e) = ∑ b, p (ix2 i b) * M e b := pay44_at p g0 g1 g2 g3 M h0 h1 h2 h3 i e
end

/-! ## The forward pass again -/

namespace Loads
variable (b : Loads)

def dy : FVec Ideal S512x1024 .f32 := k0_pay11 b.dh b.ow
def m0 : FVec Ideal S512x256 .f32 := k0_pay13 (b.p 0) (b.g 0 0) (b.g 0 1) (b.g 0 2) (b.g 0 3)
def m1 : FVec Ideal S512x256 .f32 := k0_pay16 (k0_pay14 (b.p 1)) (k0_pay15 (b.g 1 0)) (b.g 1 1) (b.g 1 2) (b.g 1 3)
def m2 : FVec Ideal S512x256 .f32 := k0_pay18 (b.p 2) (b.g 2 0) (b.g 2 1) (b.g 2 2) (b.g 2 3)
def mixed : FVec Ideal S512x1024 .f32 :=
  k0_pay22 b.m0 b.m1 b.m2 (k0_pay19 (b.p 3)) (k0_pay20 (b.g 3 0)) (k0_pay21 (b.g 3 1)) (b.g 3 2) (b.g 3 3) b.gb
def silu : FVec Ideal S512x1024 .f32 := k0_pay24 (k0_pay10 b.gt)
def dmixed : FVec Ideal S512x1024 .f32 := k0_pay26 (k0_pay10 b.gt) b.sc b.dy
def dgate : FVec Ideal S512x1024 .f32 := k0_pay27 (k0_pay10 b.gt) b.sc b.dy b.m0 b.m1 b.m2 (k0_pay19 (b.p 3)) (k0_pay20 (b.g 3 0)) (k0_pay21 (b.g 3 1)) (b.g 3 2) (b.g 3 3) b.gb
def owNew (acc : FVec Ideal S1024x1024 .f32) : FVec Ideal S1024x1024 .f32 :=
  k0_pay25 (k0_pay9 b.dh) (k0_pay10 b.gt) b.sc b.m0 b.m1 b.m2 (k0_pay19 (b.p 3)) (k0_pay20 (b.g 3 0)) (k0_pay21 (b.g 3 1)) (b.g 3 2) (b.g 3 3) b.gb acc
def biasNew (acc : FVec Ideal S1x1024 .f32) : FVec Ideal S1x1024 .f32 := k0_pay30 b.dmixed acc
def scaleNew (acc : FVec Ideal S1x1024 .f32) : FVec Ideal S1x1024 .f32 := k0_pay29 b.dy b.mixed b.silu acc
end Loads

section
variable {b : Loads} {w : Weights} {y : Fin 4096 → Row} {T : Fin 8} (H : b.Holds w y T)
include H

theorem dy_at (i : Fin 512) (k : Fin 1024) : b.dy (ix2 i k) = dy w y (tileRow T i) k := by
  unfold Loads.dy dy k0_pay11 k0_pay9
  dsimp only
  pointwise [H.dh, H.ow]

theorem mixed_at (i : Fin 512) (j : Fin 1024) : b.mixed (ix2 i j) = mixed w y (tileRow T i) j := by
  have hg : ∀ (g : Fin 4) (e : Fin 256), ∑ a, b.p g (ix2 i a) * w.gw g a e = ∑ a, pooled w y (tileRow T i) (col (part (col g e)) a) * w.gw (part (col g e)) a (place (col g e)) := fun g e => by
    rw [part_col, place_col]
    simp only [H.p]
  have e0 : ∀ e, b.m0 (ix2 i e) = ∑ a, b.p 0 (ix2 i a) * w.gw 0 a e := fun e => pay13_at _ _ _ _ _ (w.gw 0) (H.g 0 0) (H.g 0 1) (H.g 0 2) (H.g 0 3) i e
  have e1 : ∀ e, b.m1 (ix2 i e) = ∑ a, b.p 1 (ix2 i a) * w.gw 1 a e := fun e => pay16_at _ _ _ _ _ (w.gw 1) (H.g 1 0) (H.g 1 1) (H.g 1 2) (H.g 1 3) i e
  have e2 : ∀ e, b.m2 (ix2 i e) = ∑ a, b.p 2 (ix2 i a) * w.gw 2 a e := fun e => pay18_at _ _ _ _ _ (w.gw 2) (H.g 2 0) (H.g 2 1) (H.g 2 2) (H.g 2 3) i e
  have e3 : ∀ e, k0_pay13 (F := Ideal) (b.p 3) (b.g 3 0) (b.g 3 1) (b.g 3 2) (b.g 3 3) (ix2 i e) = ∑ a, b.p 3 (ix2 i a) * w.gw 3 a e := fun e =>
    pay13_at _ _ _ _ _ (w.gw 3) (H.g 3 0) (H.g 3 1) (H.g 3 2) (H.g 3 3) i e
  have hu : b.mixed = addf (concatenate S512x1024 1 [⟨S512x256, b.m0⟩, ⟨S512x256, b.m1⟩, ⟨S512x256, b.m2⟩, ⟨S512x256, k0_pay13 (b.p 3) (b.g 3 0) (b.g 3 1) (b.g 3 2) (b.g 3 3)⟩]
      concatenates_S512x256_S512x256_S512x256_S512x256_S512x1024_d1) (broadcastTo S512x1024 (shapeCast S1x1024 b.gb shapeCasts_S1x1024_S1x1024) broadcasts_S1x1024_S512x1024) := rfl
  rw [hu, addf_apply, beside_at _ _ _ _ i (fun j => ∑ a, pooled w y (tileRow T i) (col (part j) a) * w.gw (part j) a (place j)) (fun e => ?_) (fun e => ?_) (fun e => ?_) (fun e => ?_) j]
  · pointwise [H.gb]
    rfl
  · exact (e0 e).trans (hg 0 e)
  · exact (e1 e).trans (hg 1 e)
  · exact (e2 e).trans (hg 2 e)
  · exact (e3 e).trans (hg 3 e)

theorem sg_at (i : Fin 512) (j : Fin 1024) : k0_pay23 (F := Ideal) (k0_pay10 b.gt) (ix2 i j) = sg w y (tileRow T i) j := by
  unfold k0_pay23 k0_pay10 sg Cert.Project.slope
  dsimp only
  pointwise [H.gt, word_one]
  rw [zero_sub]

theorem silu_at (i : Fin 512) (j : Fin 1024) : b.silu (ix2 i j) = silu w y (tileRow T i) j := by
  unfold Loads.silu k0_pay24 silu
  rw [mulf_apply, sg_at H, show k0_pay10 (F := Ideal) b.gt (ix2 i j) = gate w y (tileRow T i) j from by unfold k0_pay10; pointwise [H.gt]]
  rfl

theorem dmixed_at (i : Fin 512) (j : Fin 1024) : b.dmixed (ix2 i j) = dmixed w y (tileRow T i) j := by
  have hs := silu_at H i j
  unfold Loads.silu at hs
  unfold Loads.dmixed k0_pay26 dmixed
  pointwise [hs, dy_at H, H.sc]

theorem dgate_at (i : Fin 512) (j : Fin 1024) : b.dgate (ix2 i j) = dgate w y (tileRow T i) j := by
  have hm := mixed_at H i j
  unfold Loads.mixed at hm
  have hg := sg_at H i j
  have h0 : k0_pay10 (F := Ideal) b.gt (ix2 i j) = gate w y (tileRow T i) j := by unfold k0_pay10; pointwise [H.gt]
  unfold Loads.dgate k0_pay27 dgate
  pointwise [hm, hg, h0, dy_at H, H.sc, word_one]

theorem owNew_at (acc : FVec Ideal S1024x1024 .f32) (k j : Fin 1024) : b.owNew acc (ix2 k j) = acc (ix2 k j) + ∑ i, owPart w y (tileRow T i) k j := by
  have hm := mixed_at H
  unfold Loads.mixed at hm
  have hs := silu_at H
  unfold Loads.silu at hs
  unfold Loads.owNew k0_pay25 owPart
  pointwise [hm, hs, H.sc, show ∀ i j, k0_pay9 (F := Ideal) b.dh (ix2 i j) = (y (tileRow T i)).dh j from H.dh]

theorem biasNew_at (acc : FVec Ideal S1x1024 .f32) (j : Fin 1024) : b.biasNew acc (ix2 0 j) = acc (ix2 0 j) + ∑ i, dmixed w y (tileRow T i) j := by
  unfold Loads.biasNew k0_pay30
  dsimp only
  pointwise [dmixed_at H]

theorem scaleNew_at (acc : FVec Ideal S1x1024 .f32) (j : Fin 1024) :
    b.scaleNew acc (ix2 0 j) = acc (ix2 0 j) + ∑ i, dy w y (tileRow T i) j * mixed w y (tileRow T i) j * silu w y (tileRow T i) j := by
  unfold Loads.scaleNew k0_pay29
  dsimp only
  pointwise [dy_at H, mixed_at H, silu_at H]
end

end Cert.Kernel4Ideal.Own

end
-- ==== Proof.Pool.Words.lean ====
/-
  The counts of the rows that a trailing mean takes, as words.
-/
module

public import proofs.«01_k».proof.Proof.Pool.Row

@[expose] public section

noncomputable section

namespace Cert.Pool

open Idealize.ShloMosaic

theorem min_word (n k : ℕ) (hn : n < 4097) (hk : k < 4097) : (IntOp.minsi (BitVec.ofNat 32 n) (BitVec.ofNat 32 k)).toInt = ((min n k : ℕ) : ℤ) := by
  have e : ∀ n : ℕ, n < 4097 → (BitVec.ofNat 32 n).toInt = (n : ℤ) := fun n hn => by
    have h : (BitVec.ofNat 32 n).toNat = n := by rw [BitVec.toNat_ofNat]; omega
    rw [BitVec.toInt_eq_toNat_of_lt (by omega), h]
  unfold IntOp.minsi
  by_cases hs : (BitVec.ofNat 32 n).slt (BitVec.ofNat 32 k) = true
  · rw [if_pos hs, e _ hn]
    rw [BitVec.slt_iff_toInt_lt, e _ hn, e _ hk] at hs
    omega
  · rw [if_neg hs, e _ hk]
    rw [BitVec.slt_iff_toInt_lt, e _ hn, e _ hk] at hs
    omega

theorem win_lt (g : Fin 4) : win g < 4097 := by
  fin_cases g <;> simp [win]

/-- A row's index and one, at most the window. -/
theorem count_word (t : Fin 4096) (g : Fin 4) :
    FloatOps.sitofp (F := Ideal) .f32 (IntOp.minsi (BitVec.ofNat 32 t.val + 1#32) (BitVec.ofNat 32 (win g))) = ((count g t.val : ℝ) : EReal) := by
  have h : BitVec.ofNat 32 t.val + 1#32 = BitVec.ofNat 32 (t.val + 1) := by
    refine BitVec.eq_of_toNat_eq ?_
    simp only [BitVec.toNat_add, BitVec.toNat_ofNat]
    omega
  show ((((IntOp.minsi _ _).toInt : ℤ) : ℝ) : EReal) = _
  rw [h, min_word _ _ (by omega) (win_lt g)]
  rfl

/-- The word 0 as an array's entry. -/
theorem zero_entries : (sitofp (F := Ideal) .f32 (constantI ⟨0, ![]⟩ 32 0#32) : (⟨0, ![]⟩ : Shape).Idx → EReal) = fun _ => 0 := by
  funext i
  show ((((0#32 : BitVec 32).toInt : ℤ) : ℝ) : EReal) = _
  simp

end Cert.Pool

end
-- ==== Proof.Pool.Ahead.lean ====
/-
  The windows of later rows in the pooling mixer's backward call. A tile keeps its own rows' shares and, after them, the first
  shares of the tile that was done before, which are the next rows; the sums over 2, 4, 8 and 16 rows are doubled from these.
-/
module

public import proofs.«01_k».proof.Proof.Pool.Payloads
public import proofs.«01_k».proof.Proof.Pool.Words

@[expose] public section

set_option maxRecDepth 16384

noncomputable section

namespace Cert.Kernel4Ideal.Own

open Idealize.ShloMosaic Idealize.SL.Sem Cert.Kernel4Ideal Cert.Kernel4Ideal.Gen
open Cert.Pool
open Cert.Head (word_one word_1024 word_eps part place col part_col place_col col_part_place)

/-! ## The windows' lengths -/

theorem words (T : Fin 8) (r : Fin 512) (k : ℕ) (hk : k = 2 ∨ k = 4 ∨ k = 8 ∨ k = 16) :
    (IntOp.minsi ((7#32 - BitVec.ofNat 32 (7 - T.val)) * 512#32 + BitVec.ofNat 32 r.val + 1#32) (BitVec.ofNat 32 k)).toInt = ((min (512 * T.val + r.val + 1) k : ℕ) : ℤ) := by
  have h : ∀ (T : Fin 8) (r : Fin 512), ((7#32 - BitVec.ofNat 32 (7 - T.val)) * 512#32 + BitVec.ofNat 32 r.val + 1#32) = BitVec.ofNat 32 (512 * T.val + r.val + 1) := fun T r => by
    refine BitVec.eq_of_toNat_eq ?_
    simp only [BitVec.toNat_add, BitVec.toNat_mul, BitVec.toNat_sub, BitVec.toNat_ofNat]
    have := r.isLt
    have := T.isLt
    omega
  rw [h]
  exact min_word _ _ (by omega) (by omega)

theorem inv_words (T : Fin 8) (r : Fin 512) (g : Fin 4) :
    Ideal.div ((1 : ℝ) : EReal) (FloatOps.sitofp (F := Ideal) .f32 (IntOp.minsi ((7#32 - BitVec.ofNat 32 (7 - T.val)) * 512#32 + BitVec.ofNat 32 r.val + 1#32) (BitVec.ofNat 32 (win g))))
      = Cert.Pool.inv g (tileRow T r).val := by
  unfold Cert.Pool.inv
  refine congrArg _ ?_
  show ((((IntOp.minsi _ _).toInt : ℤ) : ℝ) : EReal) = _
  rw [words T r (win g) (by fin_cases g <;> simp [win])]
  rfl

section
variable {b : Loads} {w : Weights} {y : Fin 4096 → Row} {T : Fin 8} (H : b.Holds w y T)
include H

theorem pay32_at (r : Fin 512) : k0_pay32 (F := Ideal) b.i (ix2 r 0) = Cert.Pool.inv 0 (tileRow T r).val := by
  rw [← inv_words, H.i]
  unfold k0_pay32 k0_pay31
  pointwise [word_one]
  rfl

theorem pay33_at (r : Fin 512) : k0_pay33 (F := Ideal) b.i (ix2 r 0) = Cert.Pool.inv 1 (tileRow T r).val := by
  rw [← inv_words, H.i]
  unfold k0_pay33 k0_pay31
  pointwise [word_one]
  rfl

theorem pay35_at (r : Fin 512) : k0_pay35 (F := Ideal) (k0_pay31 b.i) k0_pay34 (ix2 r 0) = Cert.Pool.inv 2 (tileRow T r).val := by
  rw [← inv_words, H.i]
  unfold k0_pay35 k0_pay34 k0_pay31
  pointwise [word_one]
  rfl

theorem pay36_at (r : Fin 512) : k0_pay36 (F := Ideal) (k0_pay31 b.i) (ix2 r 0) = Cert.Pool.inv 3 (tileRow T r).val := by
  rw [← inv_words, H.i]
  unfold k0_pay36 k0_pay31
  pointwise [word_one]
  rfl
end

/-! ## The rows' shares -/

theorem pay38_at (v : FVec Ideal S512x1024 .f32) (i : Fin 512) (e : Fin 256) : k0_pay38 v (ix2 i e) = v (ix2 i (col 0 e)) := by
  unfold k0_pay38
  pointwise
  exact congrArg (fun j => v (ix2 i j)) (Fin.ext (by simp [col]))

theorem pay46_at (v : FVec Ideal S512x1024 .f32) (i : Fin 512) (e : Fin 256) : k0_pay46 v (ix2 i e) = v (ix2 i (col 1 e)) := by
  unfold k0_pay46
  pointwise
  exact congrArg (fun j => v (ix2 i j)) (Fin.ext (by simp [col]))

theorem pay54_at (v : FVec Ideal S512x1024 .f32) (i : Fin 512) (e : Fin 256) : k0_pay54 v (ix2 i e) = v (ix2 i (col 2 e)) := by
  unfold k0_pay54
  pointwise
  exact congrArg (fun j => v (ix2 i j)) (Fin.ext (by simp [col]))

theorem pay62_at (v : FVec Ideal S512x1024 .f32) (i : Fin 512) (e : Fin 256) : k0_pay62 v (ix2 i e) = v (ix2 i (col 3 e)) := by
  unfold k0_pay62
  pointwise
  exact congrArg (fun j => v (ix2 i j)) (Fin.ext (by simp [col]))

namespace Loads
variable (b : Loads)

def dp0 : FVec Ideal S512x256 .f32 := k0_pay44 (k0_pay38 b.dmixed) (b.g 0 0) (b.g 0 1) (b.g 0 2) (b.g 0 3)
def dp1 : FVec Ideal S512x256 .f32 := k0_pay52 (k0_pay46 b.dmixed) (b.g 1 0) (b.g 1 1) (b.g 1 2) (b.g 1 3)
def dp2 : FVec Ideal S512x256 .f32 := k0_pay60 (k0_pay54 b.dmixed) (b.g 2 0) (b.g 2 1) (b.g 2 2) (b.g 2 3)
def dp3 : FVec Ideal S512x256 .f32 := k0_pay68 (k0_pay62 b.dmixed) (b.g 3 0) (b.g 3 1) (b.g 3 2) (b.g 3 3)
def s0 : FVec Ideal S512x256 .f32 := k0_pay45 (k0_pay32 b.i) (k0_pay38 b.dmixed) (b.g 0 0) (b.g 0 1) (b.g 0 2) (b.g 0 3)
def s1 : FVec Ideal S512x256 .f32 := k0_pay53 (k0_pay33 b.i) (k0_pay46 b.dmixed) (b.g 1 0) (b.g 1 1) (b.g 1 2) (b.g 1 3)
def s2 : FVec Ideal S512x256 .f32 := k0_pay61 (k0_pay35 (k0_pay31 b.i) k0_pay34) (k0_pay54 b.dmixed) (b.g 2 0) (b.g 2 1) (b.g 2 2) (b.g 2 3)
def s3 : FVec Ideal S512x256 .f32 := k0_pay69 (k0_pay36 (k0_pay31 b.i)) (k0_pay62 b.dmixed) (b.g 3 0) (b.g 3 1) (b.g 3 2) (b.g 3 3)
end Loads

section
variable {b : Loads} {w : Weights} {y : Fin 4096 → Row} {T : Fin 8} (H : b.Holds w y T) (i : Fin 512) (e : Fin 256)
include H

theorem dpool_col (g : Fin 4) : ∑ a, b.dmixed (ix2 i (col g a)) * w.gw g e a = dpool w y (tileRow T i) (col g e) := by
  unfold dpool
  rw [part_col, place_col]
  simp only [dmixed_at H]

theorem dp0_at : b.dp0 (ix2 i e) = dpool w y (tileRow T i) (col 0 e) :=
  (pay44_at _ _ _ _ _ (w.gw 0) (H.g 0 0) (H.g 0 1) (H.g 0 2) (H.g 0 3) i e).trans (by simp only [pay38_at]; exact dpool_col H i e 0)
theorem dp1_at : b.dp1 (ix2 i e) = dpool w y (tileRow T i) (col 1 e) :=
  (pay52_at _ _ _ _ _ (w.gw 1) (H.g 1 0) (H.g 1 1) (H.g 1 2) (H.g 1 3) i e).trans (by simp only [pay46_at]; exact dpool_col H i e 1)
theorem dp2_at : b.dp2 (ix2 i e) = dpool w y (tileRow T i) (col 2 e) :=
  (pay60_at _ _ _ _ _ (w.gw 2) (H.g 2 0) (H.g 2 1) (H.g 2 2) (H.g 2 3) i e).trans (by simp only [pay54_at]; exact dpool_col H i e 2)
theorem dp3_at : b.dp3 (ix2 i e) = dpool w y (tileRow T i) (col 3 e) :=
  (pay68_at _ _ _ _ _ (w.gw 3) (H.g 3 0) (H.g 3 1) (H.g 3 2) (H.g 3 3) i e).trans (by simp only [pay62_at]; exact dpool_col H i e 3)

omit H in
theorem share_col (g : Fin 4) : dpool w y (tileRow T i) (col g e) * Cert.Pool.inv g (tileRow T i).val = share w y (col g e) (512 * T.val + i.val) := by
  unfold share
  rw [show 512 * T.val + i.val = (tileRow T i).val from rfl, grow_val, part_col]

theorem s0_at : b.s0 (ix2 i e) = share w y (col 0 e) (512 * T.val + i.val) := by
  have h := dp0_at H i e
  unfold Loads.dp0 at h
  unfold Loads.s0 k0_pay45
  pointwise [h, pay32_at H]
  exact share_col i e 0
theorem s1_at : b.s1 (ix2 i e) = share w y (col 1 e) (512 * T.val + i.val) := by
  have h := dp1_at H i e
  unfold Loads.dp1 at h
  unfold Loads.s1 k0_pay53
  pointwise [h, pay33_at H]
  exact share_col i e 1
theorem s2_at : b.s2 (ix2 i e) = share w y (col 2 e) (512 * T.val + i.val) := by
  have h := dp2_at H i e
  unfold Loads.dp2 at h
  unfold Loads.s2 k0_pay61
  pointwise [h, pay35_at H]
  exact share_col i e 2
theorem s3_at : b.s3 (ix2 i e) = share w y (col 3 e) (512 * T.val + i.val) := by
  have h := dp3_at H i e
  unfold Loads.dp3 at h
  unfold Loads.s3 k0_pay69
  pointwise [h, pay36_at H]
  exact share_col i e 3
end

/-! ## What is kept, and its sums -/

abbrev Kept : Type := List (View.Piece (Elt Ideal) S544x1024 .f32)

/-- The first `R` rows of a group's columns are sums over `k` rows. -/
def Sums (w : Weights) (y : Fin 4096 → Row) (T : Fin 8) (L : Kept) (R p k : ℕ) : Prop :=
  ∀ (r : Fin 544) (c : Fin 1024), r.val < R → p ≤ c.val → c.val < p + 256 → View.canon L (ix2 r c) = lead (share w y c) k (512 * T.val + r.val)

section
variable {w : Weights} {y : Fin 4096 → Row} {T : Fin 8} {L L' : Kept} {R p k : ℕ}

/-- Other columns are left alone. -/
theorem Sums.past (h : Sums w y T L R p k) {n o q : ℕ} {h0} (v : FVec Ideal ⟨2, ![n, 256]⟩ .f32) (hq : q + 256 ≤ p ∨ p + 256 ≤ q) :
    Sums w y T (⟨Rect.unit ![o, q] ![n, 256] h0, v⟩ :: L) R p k := fun r c hr hc hc' =>
  top2 o q h0 v L r c (fun _ hj => by omega) fun _ => h r c hr hc hc'

/-- A doubling. -/
theorem Sums.double (h : Sums w y T L R p k) {σ : RefSig} {κ : Kind} {sp : Space} (m : View σ κ sp S544x1024 .f32) {n : ℕ} (hn : n + k ≤ R) {h0 h1 h2}
    (v : FVec Ideal ⟨2, ![n, 256]⟩ .f32)
    (hv : ∀ (i : Fin n) (e : Fin 256), v (ix2 i e) = m.readCov L (Rect.unit (s := S544x1024) ![0, p] ![n, 256] h1).toLoadRect (ix2 i e)
      + m.readCov L (Rect.unit (s := S544x1024) ![k, p] ![n, 256] h2).toLoadRect (ix2 i e)) :
    Sums w y T (⟨Rect.unit ![0, p] ![n, 256] h0, v⟩ :: L') n p (k + k) := fun r c hr hc hc' =>
  top2 0 p h0 v L' r c (fun hi hj => by
    rw [hv, left2, left2, h _ _ (by dsimp only; omega) (by dsimp only; omega) (by dsimp only; omega), h _ _ (by dsimp only; omega) (by dsimp only; omega) (by dsimp only; omega)]
    rw [← lead_double]
    have hc : (⟨p + (c.val - p), by omega⟩ : Fin 1024) = c := Fin.ext (by dsimp only; omega)
    rw [hc]
    refine congrArg₂ (fun a b => lead (share w y c) k a + lead (share w y c) k b) ?_ ?_ <;> dsimp only <;> omega) fun hno => absurd ⟨⟨Nat.zero_le _, by omega⟩, hc, hc'⟩ hno

/-- A load of a group's sums. -/
theorem Sums.load (h : Sums w y T L R p k) {σ : RefSig} {κ : Kind} {sp : Space} (m : View σ κ sp S544x1024 .f32) (hn : 512 ≤ R) {h1} (i : Fin 512) (e : Fin 256) (j : Fin 1024)
    (hj : p + e.val = j.val) : m.readCov L (Rect.unit (s := S544x1024) ![0, p] ![512, 256] h1).toLoadRect (ix2 i e) = lead (share w y j) k (512 * T.val + i.val) := by
  rw [left2, h _ _ (by dsimp only; omega) (by dsimp only; omega) (by dsimp only; omega)]
  have hc : (⟨p + e.val, by omega⟩ : Fin 1024) = j := Fin.ext hj
  rw [hc]
  exact congrArg _ (by dsimp only; omega)
end

namespace Loads
variable (b : Loads) (A : FVec Ideal S32x1024 .f32) {σ : RefSig} {κ κ' : Kind} {sp sp' : Space} (mE : View σ κ sp S544x1024 .f32) (mT : View σ κ' sp' S544x1024 .f32)

/-- The two buffers, store by store. -/
def e5 : Kept := [⟨Rect.unit (s := S544x1024) ![0, 768] S512x256.size inb_S544x1024_S512x256_0_768, b.s3⟩, ⟨Rect.unit (s := S544x1024) ![0, 512] S512x256.size inb_S544x1024_S512x256_0_512, b.s2⟩,
  ⟨Rect.unit (s := S544x1024) ![0, 256] S512x256.size inb_S544x1024_S512x256_0_256, b.s1⟩, ⟨Rect.unit (s := S544x1024) ![0, 0] S512x256.size inb_S544x1024_S512x256_0_0, b.s0⟩,
  ⟨Rect.unit (s := S544x1024) ![512, 0] S32x1024.size inb_S544x1024_S32x1024_512_0, k0_pay37 (F := Ideal) A⟩]
def t1 : Kept := [⟨Rect.unit (s := S544x1024) ![0, 0] S536x256.size inb_S544x1024_S536x256_0_0,
  k0_pay71 (F := Ideal) (mE.readCov (b.e5 A) (Rect.unit (s := S544x1024) ![0, 0] S536x256.size inb_S544x1024_S536x256_0_0).toLoadRect) (mE.readCov (b.e5 A) (Rect.unit (s := S544x1024) ![1, 0] S536x256.size inb_S544x1024_S536x256_1_0).toLoadRect)⟩]
def t2 : Kept := ⟨Rect.unit (s := S544x1024) ![0, 256] S536x256.size inb_S544x1024_S536x256_0_256,
  k0_pay73 (F := Ideal) (mE.readCov (b.e5 A) (Rect.unit (s := S544x1024) ![0, 256] S536x256.size inb_S544x1024_S536x256_0_256).toLoadRect) (mE.readCov (b.e5 A) (Rect.unit (s := S544x1024) ![1, 256] S536x256.size inb_S544x1024_S536x256_1_256).toLoadRect)⟩ :: b.t1 A mE
def e6 : Kept := ⟨Rect.unit (s := S544x1024) ![0, 256] S528x256.size inb_S544x1024_S528x256_0_256,
  k0_pay74 (F := Ideal) (mT.readCov (b.t2 A mE) (Rect.unit (s := S544x1024) ![0, 256] S528x256.size inb_S544x1024_S528x256_0_256).toLoadRect) (mT.readCov (b.t2 A mE) (Rect.unit (s := S544x1024) ![2, 256] S528x256.size inb_S544x1024_S528x256_2_256).toLoadRect)⟩ :: b.e5 A
def t3 : Kept := ⟨Rect.unit (s := S544x1024) ![0, 512] S536x256.size inb_S544x1024_S536x256_0_512,
  k0_pay76 (F := Ideal) (mE.readCov (b.e6 A mE mT) (Rect.unit (s := S544x1024) ![0, 512] S536x256.size inb_S544x1024_S536x256_0_512).toLoadRect) (mE.readCov (b.e6 A mE mT) (Rect.unit (s := S544x1024) ![1, 512] S536x256.size inb_S544x1024_S536x256_1_512).toLoadRect)⟩ :: b.t2 A mE
def e7 : Kept := ⟨Rect.unit (s := S544x1024) ![0, 512] S528x256.size inb_S544x1024_S528x256_0_512,
  k0_pay77 (F := Ideal) (mT.readCov (b.t3 A mE mT) (Rect.unit (s := S544x1024) ![0, 512] S528x256.size inb_S544x1024_S528x256_0_512).toLoadRect) (mT.readCov (b.t3 A mE mT) (Rect.unit (s := S544x1024) ![2, 512] S528x256.size inb_S544x1024_S528x256_2_512).toLoadRect)⟩ :: b.e6 A mE mT
def t4 : Kept := ⟨Rect.unit (s := S544x1024) ![0, 512] S520x256.size inb_S544x1024_S520x256_0_512,
  k0_pay79 (F := Ideal) (k0_pay78 (F := Ideal) (mE.readCov (b.e7 A mE mT) (Rect.unit (s := S544x1024) ![0, 512] S520x256.size inb_S544x1024_S520x256_0_512).toLoadRect) (mE.readCov (b.e7 A mE mT) (Rect.unit (s := S544x1024) ![4, 512] S520x256.size inb_S544x1024_S520x256_4_512).toLoadRect))⟩ :: b.t3 A mE mT
def t5 : Kept := ⟨Rect.unit (s := S544x1024) ![0, 768] S536x256.size inb_S544x1024_S536x256_0_768,
  k0_pay81 (F := Ideal) (mE.readCov (b.e7 A mE mT) (Rect.unit (s := S544x1024) ![0, 768] S536x256.size inb_S544x1024_S536x256_0_768).toLoadRect) (mE.readCov (b.e7 A mE mT) (Rect.unit (s := S544x1024) ![1, 768] S536x256.size inb_S544x1024_S536x256_1_768).toLoadRect)⟩ :: b.t4 A mE mT
def e8 : Kept := ⟨Rect.unit (s := S544x1024) ![0, 768] S528x256.size inb_S544x1024_S528x256_0_768,
  k0_pay82 (F := Ideal) (mT.readCov (b.t5 A mE mT) (Rect.unit (s := S544x1024) ![0, 768] S528x256.size inb_S544x1024_S528x256_0_768).toLoadRect) (mT.readCov (b.t5 A mE mT) (Rect.unit (s := S544x1024) ![2, 768] S528x256.size inb_S544x1024_S528x256_2_768).toLoadRect)⟩ :: b.e7 A mE mT
def t6 : Kept := ⟨Rect.unit (s := S544x1024) ![0, 768] S520x256.size inb_S544x1024_S520x256_0_768,
  k0_pay83 (F := Ideal) (mE.readCov (b.e8 A mE mT) (Rect.unit (s := S544x1024) ![0, 768] S520x256.size inb_S544x1024_S520x256_0_768).toLoadRect) (mE.readCov (b.e8 A mE mT) (Rect.unit (s := S544x1024) ![4, 768] S520x256.size inb_S544x1024_S520x256_4_768).toLoadRect)⟩ :: b.t5 A mE mT
def e9 : Kept := ⟨Rect.unit (s := S544x1024) ![0, 768] S512x256.size inb_S544x1024_S512x256_0_768,
  k0_pay85 (F := Ideal) (k0_pay84 (F := Ideal) (mT.readCov (b.t6 A mE mT) (Rect.unit (s := S544x1024) ![0, 768] S512x256.size inb_S544x1024_S512x256_0_768).toLoadRect) (mT.readCov (b.t6 A mE mT) (Rect.unit (s := S544x1024) ![8, 768] S512x256.size inb_S544x1024_S512x256_8_768).toLoadRect))⟩ :: b.e8 A mE mT
end Loads

theorem cast_sum {n : ℕ} (a b : FVec Ideal ⟨2, ![n, 256]⟩ .f32) (h) (i : Fin n) (e : Fin 256) : shapeCast ⟨2, ![n, 256]⟩ (addf a b) h (ix2 i e) = a (ix2 i e) + b (ix2 i e) := by
  pointwise

section
variable {b : Loads} {w : Weights} {y : Fin 4096 → Row} {T : Fin 8} (H : b.Holds w y T) {A : FVec Ideal S32x1024 .f32}
  (HA : ∀ r j, A (ix2 r j) = share w y j (512 * T.val + 512 + r.val))
  {σ : RefSig} {κ κ' : Kind} {sp sp' : Space} (mE : View σ κ sp S544x1024 .f32) (mT : View σ κ' sp' S544x1024 .f32)
include H HA

theorem e5_at (r : Fin 544) (c : Fin 1024) : View.canon (b.e5 A) (ix2 r c) = share w y c (512 * T.val + r.val) := by
  unfold Loads.e5
  refine top2 0 768 _ _ _ r c (fun hi hj => (s3_at H _ _).trans (congrArg₂ (share w y) (Fin.ext (by simp [col]; omega)) (by dsimp only; omega))) fun h3 => ?_
  refine top2 0 512 _ _ _ r c (fun hi hj => (s2_at H _ _).trans (congrArg₂ (share w y) (Fin.ext (by simp [col]; omega)) (by dsimp only; omega))) fun h2 => ?_
  refine top2 0 256 _ _ _ r c (fun hi hj => (s1_at H _ _).trans (congrArg₂ (share w y) (Fin.ext (by simp [col]; omega)) (by dsimp only; omega))) fun h1 => ?_
  refine top2 0 0 _ _ _ r c (fun hi hj => (s0_at H _ _).trans (congrArg₂ (share w y) (Fin.ext (by simp [col])) (by dsimp only; omega))) fun h0 => ?_
  refine top2 512 0 _ _ _ r c (fun hi hj => ?_) fun h => absurd (by omega) h
  refine Eq.trans (b := A (ix2 ⟨r.val - 512, by omega⟩ ⟨c.val - 0, by omega⟩)) (by unfold k0_pay37; pointwise) ?_
  exact (HA _ _).trans (congrArg (share w y c) (by dsimp only; omega))

theorem e5_sums (p : ℕ) : Sums w y T (b.e5 A) 544 p 1 := fun r c _ _ _ => (e5_at H HA r c).trans (lead_one _ _).symm

theorem t1_sums : Sums w y T (b.t1 A mE) 536 0 2 := (e5_sums H HA 0).double mE (by omega) _ fun i e => cast_sum _ _ _ i e
theorem t2_sums : Sums w y T (b.t2 A mE) 536 256 2 := (e5_sums H HA 256).double mE (by omega) _ fun i e => cast_sum _ _ _ i e
theorem e6_sums : Sums w y T (b.e6 A mE mT) 528 256 4 := (t2_sums H HA mE).double mT (by omega) _ fun i e => cast_sum _ _ _ i e
theorem t3_sums : Sums w y T (b.t3 A mE mT) 536 512 2 := ((e5_sums H HA 512).past _ (by omega)).double mE (by omega) _ fun i e => cast_sum _ _ _ i e
theorem e7_sums : Sums w y T (b.e7 A mE mT) 528 512 4 := (t3_sums H HA mE mT).double mT (by omega) _ fun i e => cast_sum _ _ _ i e
theorem t4_sums : Sums w y T (b.t4 A mE mT) 520 512 8 := (e7_sums H HA mE mT).double mE (by omega) _ fun i e => cast_sum _ _ _ i e
theorem t5_sums : Sums w y T (b.t5 A mE mT) 536 768 2 := (((e5_sums H HA 768).past _ (by omega)).past _ (by omega)).double mE (by omega) _ fun i e => cast_sum _ _ _ i e
theorem e8_sums : Sums w y T (b.e8 A mE mT) 528 768 4 := (t5_sums H HA mE mT).double mT (by omega) _ fun i e => cast_sum _ _ _ i e
theorem t6_sums : Sums w y T (b.t6 A mE mT) 520 768 8 := (e8_sums H HA mE mT).double mE (by omega) _ fun i e => cast_sum _ _ _ i e
theorem e9_sums : Sums w y T (b.e9 A mE mT) 512 768 16 := (t6_sums H HA mE mT).double mT (by omega) _ fun i e => cast_sum _ _ _ i e
end

end Cert.Kernel4Ideal.Own

end
-- ==== Proof.Pool.Outs.lean ====
/-
  What a tile of the pooling mixer's backward call stores, read at an index: the cotangents of the projection's columns and of
  the residual, and what it adds to the gradients of the weights.
-/
module

public import proofs.«01_k».proof.Proof.Pool.Ahead

@[expose] public section

set_option maxRecDepth 16384

noncomputable section

namespace Cert.Kernel4Ideal.Own

open Idealize.ShloMosaic Idealize.SL.Sem Cert.Kernel4Ideal Cert.Kernel4Ideal.Gen
open Cert.Pool
open Cert.Head (word_one word_1024 word_eps part place col part_col place_col col_part_place)

namespace Loads
variable (b : Loads) (A : FVec Ideal S32x1024 .f32) {σ : RefSig} {κ κ' : Kind} {sp sp' : Space} (mE : View σ κ sp S544x1024 .f32) (mT : View σ κ' sp' S544x1024 .f32)

def du0 : FVec Ideal S512x256 .f32 := k0_pay72 (F := Ideal) b.dp0 (mT.readCov (b.t1 A mE) (Rect.unit (s := S544x1024) ![0, 0] S512x256.size inb_S544x1024_S512x256_0_0).toLoadRect)
def du1 : FVec Ideal S512x256 .f32 := k0_pay75 (F := Ideal) b.dp1 (mE.readCov (b.e6 A mE mT) (Rect.unit (s := S544x1024) ![0, 256] S512x256.size inb_S544x1024_S512x256_0_256).toLoadRect)
def du2 : FVec Ideal S512x256 .f32 := k0_pay80 (F := Ideal) b.dp2 (mT.readCov (b.t4 A mE mT) (Rect.unit (s := S544x1024) ![0, 512] S512x256.size inb_S544x1024_S512x256_0_512).toLoadRect)
def w3 : FVec Ideal S512x256 .f32 := mE.readCov (b.e9 A mE mT) (Rect.unit (s := S544x1024) ![0, 768] S512x256.size inb_S544x1024_S512x256_0_768).toLoadRect
def duAll : FVec Ideal S512x1024 .bf16 := k0_pay86 (F := Ideal) b.dp3 (b.du0 A mE mT) (b.du1 A mE mT) (b.du2 A mE mT) (b.w3 A mE mT)
def dn : FVec Ideal S512x1024 .f32 :=
  k0_pay87 (F := Ideal) b.dgate b.dp3 (b.du0 A mE mT) (b.du1 A mE mT) (b.du2 A mE mT) (b.w3 A mE mT) (b.wq 0) (b.wq 1) (b.wq 2) (b.wq 3)
def dx : FVec Ideal S512x1024 .f32 := k0_pay4 (F := Ideal) b.dh (b.dn A mE mT) b.x (k0_pay88 b.x) k0_pay89 b.nw
def normNew (acc : FVec Ideal S1x1024 .f32) : FVec Ideal S1x1024 .f32 := k0_pay3 (F := Ideal) (b.dn A mE mT) b.x (k0_pay88 b.x) k0_pay89 acc
def kept : FVec Ideal S32x1024 .f32 := k0_pay70 (F := Ideal) (mE.readCov (b.e5 A) (Rect.unit (s := S544x1024) ![0, 0] S32x1024.size inb_S544x1024_S32x1024_0_0).toLoadRect)

/-- The products of the pooled rows and the mixed rows' cotangents, group by group. -/
def prod : Fin 4 → FVec Ideal S256x256 .f32
  | 0 => k0_pay39 (F := Ideal) (k0_pay12 (b.p 0)) b.dmixed
  | 1 => k0_pay47 (F := Ideal) (k0_pay14 (b.p 1)) (k0_pay46 b.dmixed)
  | 2 => k0_pay55 (F := Ideal) (k0_pay17 (b.p 2)) b.dmixed
  | 3 => k0_pay63 (F := Ideal) (k0_pay19 (b.p 3)) b.dmixed
end Loads

/-- A quarter of a product's rows, added to what was there. -/
def rowsNew (o : ℕ) (h : S256x256.Slices ![o, 0] S64x256) (P : FVec Ideal S256x256 .f32) (old : FVec Ideal S1x64x256 .f32) : FVec Ideal S1x64x256 .f32 :=
  shapeCast S1x64x256 (addf (shapeCast S64x256 old shapeCasts_S1x64x256_S64x256) (extractStridedSlice S64x256 ![o, 0] P h)) shapeCasts_S64x256_S1x64x256

theorem rowsNew_at (o : ℕ) (h) (P : FVec Ideal S256x256 .f32) (old : FVec Ideal S1x64x256 .f32) (r : Fin 64) (e : Fin 256) (ho : o + 64 ≤ 256) :
    rowsNew o h P old (ix3 0 r e) = old (ix3 0 r e) + P (ix2 ⟨o + r.val, by omega⟩ e) := by
  unfold rowsNew
  pointwise

theorem cast_diff (a b : FVec Ideal S512x256 .f32) (i : Fin 512) (e : Fin 256) : subf a b (ix2 i e) = a (ix2 i e) - b (ix2 i e) := by
  pointwise

section
variable {b : Loads} {w : Weights} {y : Fin 4096 → Row} {T : Fin 8} (H : b.Holds w y T) {A : FVec Ideal S32x1024 .f32}
include H

theorem prod_at (g : Fin 4) (a e : Fin 256) : b.prod g (ix2 a e) = ∑ i, pooled w y (tileRow T i) (col g a) * dmixed w y (tileRow T i) (col g e) := by
  fin_cases g
  · show k0_pay39 (F := Ideal) (k0_pay12 (b.p 0)) b.dmixed (ix2 a e) = _
    unfold k0_pay39 k0_pay12
    pointwise [pay38_at, dmixed_at H, H.p]
  · show k0_pay47 (F := Ideal) (k0_pay14 (b.p 1)) (k0_pay46 b.dmixed) (ix2 a e) = _
    unfold k0_pay47 k0_pay14
    pointwise [pay46_at, dmixed_at H, H.p]
  · show k0_pay55 (F := Ideal) (k0_pay17 (b.p 2)) b.dmixed (ix2 a e) = _
    unfold k0_pay55 k0_pay17
    pointwise [pay54_at, dmixed_at H, H.p]
  · show k0_pay63 (F := Ideal) (k0_pay19 (b.p 3)) b.dmixed (ix2 a e) = _
    unfold k0_pay63 k0_pay19
    pointwise [pay62_at, dmixed_at H, H.p]

theorem root_at (i : Fin 512) : k0_pay1 (F := Ideal) (k0_pay88 b.x) k0_pay89 (ix2 i 0) = root y (tileRow T i) := by
  unfold k0_pay1 k0_pay88 k0_pay89 root ms
  pointwise [H.x, word_1024, word_eps]

theorem hat_at (i : Fin 512) (j : Fin 1024) : k0_pay2 (F := Ideal) b.x (k0_pay88 b.x) k0_pay89 (ix2 i j) = hat y (tileRow T i) j := by
  unfold k0_pay2 hat
  pointwise [root_at H, H.x]

variable (HA : ∀ r j, A (ix2 r j) = share w y j (512 * T.val + 512 + r.val))
  {σ : RefSig} {κ κ' : Kind} {sp sp' : Space} (mE : View σ κ sp S544x1024 .f32) (mT : View σ κ' sp' S544x1024 .f32)
include HA

theorem du_of (i : Fin 512) (e : Fin 256) (g : Fin 4) : lead (share w y (col g e)) (win g) (512 * T.val + i.val) - dpool w y (tileRow T i) (col g e) = du w y (tileRow T i) (col g e) := by
  unfold du
  rw [part_col]
  rfl

theorem du0_at (i : Fin 512) (e : Fin 256) : b.du0 A mE mT (ix2 i e) = du w y (tileRow T i) (col 0 e) :=
  (cast_diff _ _ i e).trans ((congrArg₂ (· - ·) ((t1_sums H HA mE).load mT (by omega) i e (col 0 e) (by simp [col])) (dp0_at H i e)).trans (du_of H HA i e 0))
theorem du1_at (i : Fin 512) (e : Fin 256) : b.du1 A mE mT (ix2 i e) = du w y (tileRow T i) (col 1 e) :=
  (cast_diff _ _ i e).trans ((congrArg₂ (· - ·) ((e6_sums H HA mE mT).load mE (by omega) i e (col 1 e) (by simp [col])) (dp1_at H i e)).trans (du_of H HA i e 1))
theorem du2_at (i : Fin 512) (e : Fin 256) : b.du2 A mE mT (ix2 i e) = du w y (tileRow T i) (col 2 e) :=
  (cast_diff _ _ i e).trans ((congrArg₂ (· - ·) ((t4_sums H HA mE mT).load mT (by omega) i e (col 2 e) (by simp [col])) (dp2_at H i e)).trans (du_of H HA i e 2))
theorem du3_at (i : Fin 512) (e : Fin 256) : subf (b.w3 A mE mT) b.dp3 (ix2 i e) = du w y (tileRow T i) (col 3 e) :=
  (cast_diff _ _ i e).trans ((congrArg₂ (· - ·) ((e9_sums H HA mE mT).load mE (by omega) i e (col 3 e) (by simp [col])) (dp3_at H i e)).trans (du_of H HA i e 3))

theorem duAll_at (i : Fin 512) (j : Fin 1024) : b.duAll A mE mT (ix2 i j) = du w y (tileRow T i) j :=
  beside_at _ _ _ _ i (fun j => du w y (tileRow T i) j) (du0_at H HA mE mT i) (du1_at H HA mE mT i) (du2_at H HA mE mT i) (du3_at H HA mE mT i) j

theorem dn_at (i : Fin 512) (k : Fin 1024) : b.dn A mE mT (ix2 i k) = dn w y (tileRow T i) k := by
  have hu := duAll_at H HA mE mT
  unfold Loads.duAll at hu
  rw [← dn_halves]
  unfold Loads.dn k0_pay87
  pointwise [hu, dgate_at H, H.wq]

theorem dx_at (i : Fin 512) (j : Fin 1024) : b.dx A mE mT (ix2 i j) = dx w y (tileRow T i) j := by
  unfold Loads.dx k0_pay4 dx
  pointwise [hat_at H, root_at H, dn_at H HA mE mT, H.dh, H.nw, word_1024]

theorem normNew_at (acc : FVec Ideal S1x1024 .f32) (j : Fin 1024) :
    b.normNew A mE mT acc (ix2 0 j) = acc (ix2 0 j) + ∑ i, dn w y (tileRow T i) j * hat y (tileRow T i) j := by
  unfold Loads.normNew k0_pay3
  pointwise [hat_at H, dn_at H HA mE mT]

theorem kept_at (r : Fin 32) (j : Fin 1024) : b.kept A mE (ix2 r j) = share w y j (512 * T.val + r.val) := by
  unfold Loads.kept k0_pay70
  pointwise
  rw [left2, e5_at H HA]
  refine congrArg₂ (share w y) (Fin.ext ?_) ?_ <;> simp

/-- The cotangents of the projection's columns, half by half. -/
theorem dproj_at (i : Fin 512) (e : Fin 2048) :
    View.canon [(⟨Rect.unit (s := S512x2048) ![0, 0] S512x1024.size inb_S512x2048_S512x1024_0_0, b.duAll A mE mT⟩ : View.Piece (Elt Ideal) S512x2048 .bf16),
      ⟨Rect.unit (s := S512x2048) ![0, 1024] S512x1024.size inb_S512x2048_S512x1024_0_1024, k0_pay28 (F := Ideal) b.dgate⟩] (ix2 i e) = dproj w y (tileRow T i) e := by
  unfold dproj
  refine top2 0 0 _ _ _ i e (fun hi hj => ?_) fun h => ?_
  · rw [dif_pos (by omega)]
    exact (duAll_at H HA mE mT _ _).trans (congrArg₂ (fun i e => du w y (tileRow T i) e) (Fin.ext (by dsimp only; omega)) (Fin.ext (by dsimp only; omega)))
  · rw [dif_neg (by omega)]
    refine top2 0 1024 _ _ _ i e (fun hi hj => ?_) fun h => absurd (by omega) h
    exact (dgate_at H _ _).trans (congrArg (fun i => dgate w y (tileRow T i) _) (Fin.ext (by dsimp only; omega)))
end

/-! ## The groups' gradients, quarter by quarter -/

theorem gw_inb (n : ℕ) (hn : n < 16) : ∀ k, (![n % 4, 64 * (n / 4), 0] : Fin 3 → ℕ) k + S1x64x256.size k ≤ S4x256x256.size k := by
  intro k
  fin_cases k
  · show n % 4 + 1 ≤ 4; omega
  · show 64 * (n / 4) + 64 ≤ 256; omega
  · show 0 + 256 ≤ 256; omega

theorem gw_slices (n : ℕ) : S256x256.Slices ![64 * (n % 4), 0] S64x256 := by
  refine ⟨rfl, fun k => ?_⟩
  fin_cases k
  · show 64 * (n % 4) + 64 ≤ 256; omega
  · show 0 + 256 ≤ 256; omega

namespace Loads
variable (b : Loads)

/-- One store: a quarter of a group's rows. -/
def gwPiece (n : ℕ) (hn : n < 16) (old : FVec Ideal S1x64x256 .f32) : View.Piece (Elt Ideal) S4x256x256 .f32 :=
  ⟨Rect.unit ![n % 4, 64 * (n / 4), 0] S1x64x256.size (gw_inb n hn), rowsNew (64 * (n % 4)) (gw_slices n) (b.prod ⟨n / 4, by omega⟩) old⟩

/-- The stores of the first point, over zeros, and of a later point, over what there was. -/
def gwFirst {σ : RefSig} {κ : Kind} {sp : Space} (M : View σ κ sp S4x256x256 .f32) : (n : ℕ) → n ≤ 16 → List (View.Piece (Elt Ideal) S4x256x256 .f32)
  | 0, _ => [⟨Rect.unit ![0, 0, 0] S4x256x256.size inb_S4x256x256_S4x256x256_0_0_0, k0_pay6 (F := Ideal)⟩]
  | n + 1, h => b.gwPiece n (by omega) (M.readCov (gwFirst M n (by omega)) (Rect.unit (s := S4x256x256) ![n % 4, 64 * (n / 4), 0] S1x64x256.size (gw_inb n (by omega))).toLoadRect) :: gwFirst M n (by omega)
def gwLater (old : (n : ℕ) → n < 16 → FVec Ideal S1x64x256 .f32) : (n : ℕ) → n ≤ 16 → List (View.Piece (Elt Ideal) S4x256x256 .f32)
  | 0, _ => []
  | n + 1, h => b.gwPiece n (by omega) (old n (by omega)) :: gwLater old n (by omega)
end Loads

section
variable {b : Loads} {w : Weights} {y : Fin 4096 → Row} {T : Fin 8} (H : b.Holds w y T)
include H

theorem gwPiece_at (n : ℕ) (hn : n < 16) (old : FVec Ideal S1x64x256 .f32) (L : List (View.Piece (Elt Ideal) S4x256x256 .f32)) (q : Fin 4) (r d : Fin 256) {base : EReal}
    (hq : q.val = n % 4) (hr : 64 * (n / 4) ≤ r.val ∧ r.val < 64 * (n / 4) + 64) (ho : old (ix3 0 ⟨r.val - 64 * (n / 4), by omega⟩ d) = base) :
    View.canon (b.gwPiece n hn old :: L) (ix3 q r d) = base + ∑ i, gwPart w y (tileRow T i) q r d := by
  unfold Loads.gwPiece
  refine top3 (n % 4) (64 * (n / 4)) 0 _ _ _ q r d (fun h0 h1 h2 => ?_) fun h => absurd ⟨by omega, hr, by omega⟩ h
  have e : ∀ (hq : q.val - n % 4 < 1) (hr : r.val - 64 * (n / 4) < 64) (hd : d.val - 0 < 256),
      (ix3 ⟨q.val - n % 4, hq⟩ ⟨r.val - 64 * (n / 4), hr⟩ ⟨d.val - 0, hd⟩ : S1x64x256.Idx) = ix3 0 ⟨r.val - 64 * (n / 4), hr⟩ d := fun hq' hr' hd => by
    have : (⟨q.val - n % 4, hq'⟩ : Fin 1) = 0 := Fin.ext (by show q.val - n % 4 = 0; omega)
    rw [this]
    rfl
  refine (congrArg (rowsNew _ _ _ _) (e _ _ _)).trans ?_
  rw [rowsNew_at _ _ _ _ _ _ (by omega), ho, prod_at H]
  refine congrArg (_ + ·) (Finset.sum_congr rfl fun i _ => ?_)
  unfold gwPart
  refine congrArg₂ (· * ·) (congrArg₂ (fun g a => pooled w y (tileRow T i) (col g a)) (Fin.ext ?_) (Fin.ext ?_)) (congrArg (fun g => dmixed w y (tileRow T i) (col g d)) (Fin.ext ?_)) <;>
    dsimp only <;> omega

omit H in
theorem gwPiece_past (n : ℕ) (hn : n < 16) (old : FVec Ideal S1x64x256 .f32) (L : List (View.Piece (Elt Ideal) S4x256x256 .f32)) (q : Fin 4) (r d : Fin 256)
    (h : ¬(q.val = n % 4 ∧ 64 * (n / 4) ≤ r.val ∧ r.val < 64 * (n / 4) + 64)) : View.canon (b.gwPiece n hn old :: L) (ix3 q r d) = View.canon L (ix3 q r d) := by
  unfold Loads.gwPiece
  exact top3 (n % 4) (64 * (n / 4)) 0 _ _ _ q r d (fun h0 h1 h2 => absurd ⟨by omega, h1⟩ h) fun _ => rfl

theorem gwFirst_at {σ : RefSig} {κ : Kind} {sp : Space} (M : View σ κ sp S4x256x256 .f32) (q : Fin 4) (r d : Fin 256) : ∀ (n : ℕ) (hn : n ≤ 16),
    View.canon (b.gwFirst M n hn) (ix3 q r d) = if 4 * (r.val / 64) + q.val < n then 0 + ∑ i, gwPart w y (tileRow T i) q r d else 0 := by
  intro n
  induction n with
  | zero =>
    intro hn
    rw [if_neg (by omega)]
    refine top3 0 0 0 _ _ _ q r d (fun h0 h1 h2 => ?_) fun h => absurd ⟨by omega, by omega, by omega⟩ h
    unfold k0_pay6
    pointwise
  | succ n ih =>
    intro hn
    by_cases h : q.val = n % 4 ∧ 64 * (n / 4) ≤ r.val ∧ r.val < 64 * (n / 4) + 64
    · rw [if_pos (by omega)]
      refine gwPiece_at H n (by omega) _ _ q r d h.1 h.2 ?_
      rw [left3]
      refine Eq.trans (congrArg (View.canon _) ?_) ((ih (by omega)).trans (if_neg (by omega)))
      funext k
      refine Fin.ext ?_
      fin_cases k
      · show n % 4 + 0 = q.val; omega
      · show 64 * (n / 4) + (r.val - 64 * (n / 4)) = r.val; omega
      · show 0 + d.val = d.val; omega
    · refine (gwPiece_past n (by omega) _ _ q r d h).trans ((ih (by omega)).trans ?_)
      by_cases h' : 4 * (r.val / 64) + q.val < n
      · rw [if_pos h', if_pos (by omega)]
      · rw [if_neg h', if_neg (by omega)]

theorem gwLater_at (old : (n : ℕ) → n < 16 → FVec Ideal S1x64x256 .f32) (X : S4x256x256.Idx → EReal)
    (ho : ∀ (n : ℕ) (hn : n < 16) (r : Fin 64) (d : Fin 256), old n hn (ix3 0 r d) = X (ix3 ⟨n % 4, by omega⟩ ⟨64 * (n / 4) + r.val, by omega⟩ d)) (q : Fin 4) (r d : Fin 256) :
    ∀ (n : ℕ) (hn : n ≤ 16), 4 * (r.val / 64) + q.val < n → View.canon (b.gwLater old n hn) (ix3 q r d) = X (ix3 q r d) + ∑ i, gwPart w y (tileRow T i) q r d := by
  intro n
  induction n with
  | zero => exact fun _ h => absurd h (by omega)
  | succ n ih =>
    intro hn hlt
    by_cases h : q.val = n % 4 ∧ 64 * (n / 4) ≤ r.val ∧ r.val < 64 * (n / 4) + 64
    · refine gwPiece_at H n (by omega) _ _ q r d h.1 h.2 ?_
      rw [ho]
      refine congrArg₂ (fun a c => X (ix3 a c d)) (Fin.ext ?_) (Fin.ext ?_)
      · exact h.1.symm
      · show 64 * (n / 4) + (r.val - 64 * (n / 4)) = r.val; omega
    · exact (gwPiece_past n (by omega) _ _ q r d h).trans (ih (by omega) (by omega))
end

end Cert.Kernel4Ideal.Own

end
-- ==== Proof.Pool.Points.lean ====
/-
  What each point of the pooling mixer's backward call leaves, from its blocks and, after the first point, from what the point
  before has left.
-/
module

public import proofs.«01_k».proof.Proof.Pool.Outs

@[expose] public section

set_option maxRecDepth 65536

noncomputable section

namespace Cert.Kernel4Ideal.Own

open Idealize.ShloMosaic Idealize.ShloMosaic.TcCoe Idealize.SL.Sem Cert.Kernel4Ideal Cert.Kernel4Ideal.Gen
open Cert.Pool
open Cert.Head (word_one word_1024 word_eps part place col part_col place_col col_part_place)

variable (m : (ℓ : Loc nD τ sig) → Buf (Elt Ideal) ℓ) (c : Dev nD) (t : Fin cfg0.N)

/-- The loads of a point. -/
def loads : Loads where
  i := BitVec.ofNat 32 (grid0.coords t 0).val
  x := View.readAt (Elt Ideal) (ms0_0 t).view (Rect.unit (s := S512x1024) ![0, 0] S512x1024.size inb_S512x1024_S512x1024_0_0).toLoadRect ((hs0_0 t).unread (iblk m c 0 t))
  dh := View.readAt (Elt Ideal) (ms0_1 t).view (Rect.unit (s := S512x1024) ![0, 0] S512x1024.size inb_S512x1024_S512x1024_0_0).toLoadRect ((hs0_1 t).unread (iblk m c 1 t))
  gt := View.readAt (Elt Ideal) (ms0_3 t).view (Rect.unit (s := S512x1024) ![0, 0] S512x1024.size inb_S512x1024_S512x1024_0_0).toLoadRect ((hs0_3 t).unread (iblk m c 3 t))
  p
    | 0 => View.readAt (Elt Ideal) (ms0_2 t).view (Rect.unit (s := S512x1024) ![0, 0] S512x256.size inb_S512x1024_S512x256_0_0).toLoadRect ((hs0_2 t).unread (iblk m c 2 t))
    | 1 => View.readAt (Elt Ideal) (ms0_2 t).view (Rect.unit (s := S512x1024) ![0, 256] S512x256.size inb_S512x1024_S512x256_0_256).toLoadRect ((hs0_2 t).unread (iblk m c 2 t))
    | 2 => View.readAt (Elt Ideal) (ms0_2 t).view (Rect.unit (s := S512x1024) ![0, 512] S512x256.size inb_S512x1024_S512x256_0_512).toLoadRect ((hs0_2 t).unread (iblk m c 2 t))
    | 3 => View.readAt (Elt Ideal) (ms0_2 t).view (Rect.unit (s := S512x1024) ![0, 768] S512x256.size inb_S512x1024_S512x256_0_768).toLoadRect ((hs0_2 t).unread (iblk m c 2 t))
  nw := View.readAt (Elt Ideal) (ms0_4 t).view (Rect.unit (s := S1x1024) ![0, 0] S1x1024.size inb_S1x1024_S1x1024_0_0).toLoadRect ((hs0_4 t).unread (iblk m c 4 t))
  wq q := View.readAt (Elt Ideal) (ms0_5 t).view (Rect.unit (s := S4x1024x512) ![q.val, 0, 0] S1x1024x512.size (by fin_cases q <;> decide)).toLoadRect ((hs0_5 t).unread (iblk m c 5 t))
  g g q := View.readAt (Elt Ideal) (ms0_6 t).view (Rect.unit (s := S4x256x256) ![q.val, 64 * g.val, 0] S1x64x256.size (by fin_cases q <;> fin_cases g <;> decide)).toLoadRect ((hs0_6 t).unread (iblk m c 6 t))
  gb := View.readAt (Elt Ideal) (ms0_7 t).view (Rect.unit (s := S1x1024) ![0, 0] S1x1024.size inb_S1x1024_S1x1024_0_0).toLoadRect ((hs0_7 t).unread (iblk m c 7 t))
  sc := View.readAt (Elt Ideal) (ms0_8 t).view (Rect.unit (s := S1x1024) ![0, 0] S1x1024.size inb_S1x1024_S1x1024_0_0).toLoadRect ((hs0_8 t).unread (iblk m c 8 t))
  ow := View.readAt (Elt Ideal) (ms0_9 t).view (Rect.unit (s := S1024x1024) ![0, 0] S1024x1024.size inb_S1024x1024_S1024x1024_0_0).toLoadRect ((hs0_9 t).unread (iblk m c 9 t))

/-- The rows ahead of the last tile. -/
abbrev keptBase : List (View.Piece (Elt Ideal) S32x1024 .f32) := [⟨Rect.unit (s := S32x1024) ![0, 0] S32x1024.size inb_S32x1024_S32x1024_0_0, k0_pay8 (F := Ideal)⟩]
/-- What the first point loads back of the rows ahead, and a later point of the point before. -/
def aheadA : FVec Ideal S32x1024 .f32 :=
  scM0_2.view.readCov keptBase (Rect.unit (s := S32x1024) ![0, 0] S32x1024.size inb_S32x1024_S32x1024_0_0).toLoadRect
def aheadB (A : Vec Ideal S32x1024 .f32) : FVec Ideal S32x1024 .f32 :=
  View.readAt (Elt Ideal) scM0_2.view (Rect.unit (s := S32x1024) ![0, 0] S32x1024.size inb_S32x1024_S32x1024_0_0).toLoadRect ((Memref.isWhole_whole _).unread A)

theorem aheadA_at (r : Fin 32) (j : Fin 1024) : aheadA (ix2 r j) = 0 := by
  unfold aheadA
  rw [left2]
  refine top2 0 0 _ _ _ _ _ (fun hi hj => ?_) fun h => absurd ⟨⟨Nat.zero_le _, by have := r.isLt; dsimp only; omega⟩, Nat.zero_le _, by have := j.isLt; dsimp only; omega⟩ h
  unfold k0_pay8
  pointwise

theorem aheadB_at (A : Vec Ideal S32x1024 .f32) (r : Fin 32) (j : Fin 1024) : aheadB A (ix2 r j) = A (ix2 r j) :=
  (given2 _ A 0 0 _ r j).trans (congrArg₂ (fun a c => A (ix2 a c)) (Fin.ext (Nat.zero_add _)) (Fin.ext (Nat.zero_add _)))

/-- What the point before has left. -/
abbrev prior := outsAt0 m c (t.val - 1) (Nat.lt_of_le_of_lt (Nat.sub_le _ _) t.isLt)

/-- The stores of a point. -/
abbrev dxL (b : Loads) (A : FVec Ideal S32x1024 .f32) : List (View.Piece (Elt Ideal) S512x1024 .f32) :=
  [⟨Rect.unit (s := S512x1024) ![0, 0] S512x1024.size inb_S512x1024_S512x1024_0_0, b.dx A scM0_0.view scM0_1.view⟩]
abbrev dprojL (b : Loads) (A : FVec Ideal S32x1024 .f32) : List (View.Piece (Elt Ideal) S512x2048 .bf16) :=
  [⟨Rect.unit (s := S512x2048) ![0, 0] S512x1024.size inb_S512x2048_S512x1024_0_0, b.duAll A scM0_0.view scM0_1.view⟩,
    ⟨Rect.unit (s := S512x2048) ![0, 1024] S512x1024.size inb_S512x2048_S512x1024_0_1024, k0_pay28 (F := Ideal) b.dgate⟩]
abbrev owBase : List (View.Piece (Elt Ideal) S1024x1024 .f32) := [⟨Rect.unit (s := S1024x1024) ![0, 0] S1024x1024.size inb_S1024x1024_S1024x1024_0_0, k0_pay5 (F := Ideal)⟩]
abbrev owL (b : Loads) (acc : FVec Ideal S1024x1024 .f32) (L : List (View.Piece (Elt Ideal) S1024x1024 .f32)) : List (View.Piece (Elt Ideal) S1024x1024 .f32) :=
  ⟨Rect.unit (s := S1024x1024) ![0, 0] S1024x1024.size inb_S1024x1024_S1024x1024_0_0, b.owNew acc⟩ :: L
abbrev rowRect (r : ℕ) (h : ∀ k, (![r, 0] : Fin 2 → ℕ) k + S1x1024.size k ≤ S8x1024.size k) : Rect S8x1024 := Rect.unit (s := S8x1024) ![r, 0] S1x1024.size h
abbrev small0 : List (View.Piece (Elt Ideal) S8x1024 .f32) := [⟨Rect.unit (s := S8x1024) ![0, 0] S8x1024.size inb_S8x1024_S8x1024_0_0, k0_pay7 (F := Ideal)⟩]
abbrev small1 (b : Loads) (acc : FVec Ideal S1x1024 .f32) (L : List (View.Piece (Elt Ideal) S8x1024 .f32)) : List (View.Piece (Elt Ideal) S8x1024 .f32) :=
  ⟨rowRect 1 inb_S8x1024_S1x1024_1_0, b.scaleNew acc⟩ :: L
abbrev small2 (b : Loads) (acc : FVec Ideal S1x1024 .f32) (L : List (View.Piece (Elt Ideal) S8x1024 .f32)) : List (View.Piece (Elt Ideal) S8x1024 .f32) :=
  ⟨rowRect 2 inb_S8x1024_S1x1024_2_0, b.biasNew acc⟩ :: L
abbrev small3 (b : Loads) (A : FVec Ideal S32x1024 .f32) (acc : FVec Ideal S1x1024 .f32) (L : List (View.Piece (Elt Ideal) S8x1024 .f32)) : List (View.Piece (Elt Ideal) S8x1024 .f32) :=
  ⟨rowRect 0 inb_S8x1024_S1x1024_0_0, b.normNew A scM0_0.view scM0_1.view acc⟩ :: L
abbrev keptL (b : Loads) (A : FVec Ideal S32x1024 .f32) (L : List (View.Piece (Elt Ideal) S32x1024 .f32)) : List (View.Piece (Elt Ideal) S32x1024 .f32) :=
  ⟨Rect.unit (s := S32x1024) ![0, 0] S32x1024.size inb_S32x1024_S32x1024_0_0, b.kept A scM0_0.view⟩ :: L

end Cert.Kernel4Ideal.Own

end
-- ==== Proof.Pool.First.lean ====
/-
  The stores of the first point of the pooling mixer's backward call, over its blocks.
-/
module

public import proofs.«01_k».proof.Proof.Pool.Points

@[expose] public section

set_option maxRecDepth 65536

noncomputable section

namespace Cert.Kernel4Ideal.Own

open Idealize.ShloMosaic Idealize.ShloMosaic.TcCoe Idealize.SL.Sem Cert.Kernel4Ideal Cert.Kernel4Ideal.Gen
open Cert.Pool
open Cert.Head (word_one word_1024 word_eps part place col part_col place_col col_part_place)

variable (m : (ℓ : Loc nD τ sig) → Buf (Elt Ideal) ℓ) (c : Dev nD) (t : Fin cfg0.N)

section
variable (h0 : t.val % 8 = 0)
include h0

theorem dxA : (outsAt0 m c t.val t.isLt).1 = View.canon (dxL (loads m c t) aheadA) := by
  rw [outsAt0_A m c t h0]
  dsimp only
  unfold out0_A_10
  rw [View.read_writes_junk_eq_canon]
  sl_kernel_rfl

theorem dprojA : (outsAt0 m c t.val t.isLt).2.1 = View.canon (dprojL (loads m c t) aheadA) := by
  rw [outsAt0_A m c t h0]
  dsimp only
  unfold out0_A_11
  rw [View.read_writes_junk_eq_canon]
  sl_kernel_rfl

theorem owA : (outsAt0 m c t.val t.isLt).2.2.1 = View.canon (owL (loads m c t)
    ((ms0_12 t).view.readCov owBase (Rect.unit (s := S1024x1024) ![0, 0] S1024x1024.size inb_S1024x1024_S1024x1024_0_0).toLoadRect) owBase) := by
  rw [outsAt0_A m c t h0]
  dsimp only
  unfold out0_A_12
  rw [View.read_writes_junk_eq_canon]
  sl_kernel_rfl

theorem gwA : (outsAt0 m c t.val t.isLt).2.2.2.1 = View.canon ((loads m c t).gwFirst (ms0_13 t).view 16 le_rfl) := by
  rw [outsAt0_A m c t h0]
  dsimp only
  unfold out0_A_13
  rw [View.read_writes_junk_eq_canon]
  sl_kernel_rfl

abbrev smallA2 : List (View.Piece (Elt Ideal) S8x1024 .f32) := small1 (loads m c t) ((ms0_14 t).view.readCov small0 (rowRect 1 inb_S8x1024_S1x1024_1_0).toLoadRect) small0
abbrev smallA3 : List (View.Piece (Elt Ideal) S8x1024 .f32) :=
  small2 (loads m c t) ((ms0_14 t).view.readCov (smallA2 m c t) (rowRect 2 inb_S8x1024_S1x1024_2_0).toLoadRect) (smallA2 m c t)

theorem smallA : (outsAt0 m c t.val t.isLt).2.2.2.2.1 = View.canon (small3 (loads m c t) aheadA
    ((ms0_14 t).view.readCov (smallA3 m c t) (rowRect 0 inb_S8x1024_S1x1024_0_0).toLoadRect) (smallA3 m c t)) := by
  rw [outsAt0_A m c t h0]
  dsimp only
  unfold out0_A_14
  rw [View.read_writes_junk_eq_canon]
  sl_kernel_rfl

theorem keptA : (outsAt0 m c t.val t.isLt).2.2.2.2.2 = View.canon (keptL (loads m c t) aheadA keptBase) := by
  rw [outsAt0_A m c t h0]
  dsimp only
  unfold sout0_A_2
  rw [View.read_writes_junk_eq_canon]
  sl_kernel_rfl
end

end Cert.Kernel4Ideal.Own

end
-- ==== Proof.Pool.Later.lean ====
/-
  The stores of a later point of the pooling mixer's backward call, over its blocks and what the point before has left.
-/
module

public import proofs.«01_k».proof.Proof.Pool.Points

@[expose] public section

set_option maxRecDepth 65536

noncomputable section

namespace Cert.Kernel4Ideal.Own

open Idealize.ShloMosaic Idealize.ShloMosaic.TcCoe Idealize.SL.Sem Cert.Kernel4Ideal Cert.Kernel4Ideal.Gen
open Cert.Pool
open Cert.Head (word_one word_1024 word_eps part place col part_col place_col col_part_place)

variable (m : (ℓ : Loc nD τ sig) → Buf (Elt Ideal) ℓ) (c : Dev nD) (t : Fin cfg0.N)

section
variable (h0 : ¬t.val % 8 = 0)
include h0

theorem dxB : (outsAt0 m c t.val t.isLt).1 = View.canon (dxL (loads m c t) (aheadB (prior m c t).2.2.2.2.2)) := by
  rw [outsAt0_B m c t h0]
  dsimp only
  unfold out0_B_10
  rw [View.read_writes_junk_eq_canon]
  sl_kernel_rfl

theorem dprojB : (outsAt0 m c t.val t.isLt).2.1 = View.canon (dprojL (loads m c t) (aheadB (prior m c t).2.2.2.2.2)) := by
  rw [outsAt0_B m c t h0]
  dsimp only
  unfold out0_B_11
  rw [View.read_writes_junk_eq_canon]
  sl_kernel_rfl

theorem owB : (outsAt0 m c t.val t.isLt).2.2.1 = View.canon (owL (loads m c t)
    (View.readAt (Elt Ideal) (ms0_12 t).view (Rect.unit (s := S1024x1024) ![0, 0] S1024x1024.size inb_S1024x1024_S1024x1024_0_0).toLoadRect ((hs0_12 t).unread (prior m c t).2.2.1)) []) := by
  rw [outsAt0_B m c t h0]
  dsimp only
  unfold out0_B_12
  rw [View.read_writes_junk_eq_canon]
  sl_kernel_rfl

theorem gwB : (outsAt0 m c t.val t.isLt).2.2.2.1 = View.canon ((loads m c t).gwLater (fun n hn =>
    View.readAt (Elt Ideal) (ms0_13 t).view (Rect.unit (s := S4x256x256) ![n % 4, 64 * (n / 4), 0] S1x64x256.size (gw_inb n hn)).toLoadRect ((hs0_13 t).unread (prior m c t).2.2.2.1)) 16 le_rfl) := by
  rw [outsAt0_B m c t h0]
  dsimp only
  unfold out0_B_13
  rw [View.read_writes_junk_eq_canon]
  sl_kernel_rfl

/-- A row of what the point before has left. -/
abbrev rowB (r : ℕ) (h : ∀ k, (![r, 0] : Fin 2 → ℕ) k + S1x1024.size k ≤ S8x1024.size k) : FVec Ideal S1x1024 .f32 :=
  View.readAt (Elt Ideal) (ms0_14 t).view (rowRect r h).toLoadRect ((hs0_14 t).unread (prior m c t).2.2.2.2.1)

theorem smallB : (outsAt0 m c t.val t.isLt).2.2.2.2.1 = (ms0_14 t).view.read (Elt Ideal) ((ms0_14 t).view.writes (Elt Ideal) ((hs0_14 t).unread (prior m c t).2.2.2.2.1)
    (small3 (loads m c t) (aheadB (prior m c t).2.2.2.2.2) (rowB m c t 0 inb_S8x1024_S1x1024_0_0) (small2 (loads m c t) (rowB m c t 2 inb_S8x1024_S1x1024_2_0)
      (small1 (loads m c t) (rowB m c t 1 inb_S8x1024_S1x1024_1_0) [])))) := by
  rw [outsAt0_B m c t h0]
  dsimp only
  unfold out0_B_14
  sl_kernel_rfl

theorem keptB : (outsAt0 m c t.val t.isLt).2.2.2.2.2 = View.canon (keptL (loads m c t) (aheadB (prior m c t).2.2.2.2.2) []) := by
  rw [outsAt0_B m c t h0]
  dsimp only
  unfold sout0_B_2
  rw [View.read_writes_junk_eq_canon]
  sl_kernel_rfl
end

end Cert.Kernel4Ideal.Own

end
-- ==== Proof.Pool.Steps.lean ====
/-
  What each point of the pooling mixer's backward call leaves, as entries: its tile's rows of the two arrays written by tiles, its
  tile's share on top of what the point before has left of the three added to, and the rows it keeps for the point after.
-/
module

public import proofs.«01_k».proof.Proof.Pool.First
public import proofs.«01_k».proof.Proof.Pool.Later

@[expose] public section

set_option maxRecDepth 65536

noncomputable section

namespace Cert.Kernel4Ideal.Own

open Idealize.ShloMosaic Idealize.ShloMosaic.TcCoe Idealize.SL.Sem Cert.Kernel4Ideal Cert.Kernel4Ideal.Gen
open Cert.Pool

/-! ## Whole stores, and rows of the small results -/

section
variable {σ : RefSig} {κ : Kind} {sp : Space} {e : EltTy} {a b : ℕ}

theorem whole_top (inb) (v : Vec Ideal ⟨2, ![a, b]⟩ e) (L : List (View.Piece (Elt Ideal) ⟨2, ![a, b]⟩ e)) (i : Fin a) (j : Fin b) :
    View.canon (⟨Rect.unit (s := ⟨2, ![a, b]⟩) ![0, 0] ![a, b] inb, v⟩ :: L) (ix2 i j) = v (ix2 i j) :=
  top2 0 0 inb v L i j (fun _ _ => rfl) fun h => absurd ⟨⟨Nat.zero_le _, by omega⟩, Nat.zero_le _, by omega⟩ h

theorem whole_left (v : View σ κ sp ⟨2, ![a, b]⟩ e) (L : List (View.Piece (Elt Ideal) ⟨2, ![a, b]⟩ e)) (inb) (i : Fin a) (j : Fin b) :
    v.readCov L (Rect.unit (s := ⟨2, ![a, b]⟩) ![0, 0] ![a, b] inb).toLoadRect (ix2 i j) = View.canon L (ix2 i j) :=
  (left2 v L 0 0 inb i j).trans (congrArg₂ (fun p q => View.canon L (ix2 p q)) (Fin.ext (Nat.zero_add _)) (Fin.ext (Nat.zero_add _)))

theorem whole_given {M : Memref σ κ sp ⟨2, ![a, b]⟩ e} (h : M.IsWhole) (x : Vec Ideal ⟨2, ![a, b]⟩ e) (inb) (i : Fin a) (j : Fin b) :
    View.readAt (Elt Ideal) M.view (Rect.unit (s := ⟨2, ![a, b]⟩) ![0, 0] ![a, b] inb).toLoadRect (h.unread x) (ix2 i j) = x (ix2 i j) :=
  (given2 h x 0 0 inb i j).trans (congrArg₂ (fun p q => x (ix2 p q)) (Fin.ext (Nat.zero_add _)) (Fin.ext (Nat.zero_add _)))

variable (n : ℕ) (hn : ∀ k, (![n, 0] : Fin 2 → ℕ) k + S1x1024.size k ≤ S8x1024.size k) (v : FVec Ideal S1x1024 .f32)
  (L : List (View.Piece (Elt Ideal) S8x1024 .f32)) (r : Fin 8) (j : Fin 1024)

theorem row_top {z : EReal} (hr : r.val = n) (hv : v (ix2 0 j) = z) : View.canon (⟨rowRect n hn, v⟩ :: L) (ix2 r j) = z :=
  top2 (a := 8) (b := 1024) (a' := 1) (b' := 1024) (e := .f32) n 0 hn v L r j (fun _ _ => (congrArg₂ (fun p q => v (ix2 p q)) (Fin.ext (by show r.val - n = 0; omega)) rfl).trans hv)
    fun h => absurd ⟨⟨by omega, by omega⟩, Nat.zero_le _, by omega⟩ h

theorem row_past (hr : r.val ≠ n) : View.canon (⟨rowRect n hn, v⟩ :: L) (ix2 r j) = View.canon L (ix2 r j) :=
  top2 (a := 8) (b := 1024) (a' := 1) (b' := 1024) (e := .f32) n 0 hn v L r j (fun h _ => absurd (by omega) hr) fun _ => rfl

theorem row_left (M : View σ κ sp S8x1024 .f32) (hr : r.val = n) : M.readCov L (rowRect n hn).toLoadRect (ix2 0 j) = View.canon L (ix2 r j) :=
  (left2 M L n 0 hn 0 j).trans (congrArg₂ (fun p q => View.canon L (ix2 p q)) (Fin.ext (by show n + 0 = r.val; omega)) (Fin.ext (Nat.zero_add _)))

theorem row_given {M : Memref σ κ sp S8x1024 .f32} (h : M.IsWhole) (x : Vec Ideal S8x1024 .f32) (hr : r.val = n) :
    View.readAt (Elt Ideal) M.view (rowRect n hn).toLoadRect (h.unread x) (ix2 0 j) = x (ix2 r j) :=
  (given2 h x n 0 hn 0 j).trans (congrArg₂ (fun p q => x (ix2 p q)) (Fin.ext (by show n + 0 = r.val; omega)) (Fin.ext (Nat.zero_add _)))

theorem row_over_top (M : View σ κ sp S8x1024 .f32) (f : M.ty.Contents (Elt Ideal)) {z : EReal} (hr : r.val = n) (hv : v (ix2 0 j) = z) :
    M.read (Elt Ideal) (M.writes (Elt Ideal) f (⟨rowRect n hn, v⟩ :: L)) (ix2 r j) = z :=
  over2 M f n 0 hn v L r j (fun _ _ => (congrArg₂ (fun p q => v (ix2 p q)) (Fin.ext (by show r.val - n = 0; omega)) rfl).trans hv)
    fun h => absurd ⟨⟨by omega, by omega⟩, Nat.zero_le _, by omega⟩ h

theorem row_over_past (M : View σ κ sp S8x1024 .f32) (f : M.ty.Contents (Elt Ideal)) (hr : r.val ≠ n) :
    M.read (Elt Ideal) (M.writes (Elt Ideal) f (⟨rowRect n hn, v⟩ :: L)) (ix2 r j) = M.read (Elt Ideal) (M.writes (Elt Ideal) f L) (ix2 r j) :=
  over2 M f n 0 hn v L r j (fun h _ => absurd (by omega) hr) fun _ => rfl
end

section
variable (w : Weights) (y : Fin 4096 → Row) (i : Fin 4096) (j : Fin 1024)
theorem small_0 : small w y i 0 j = dn w y i j * hat y i j := if_pos rfl
theorem small_1 : small w y i 1 j = dy w y i j * mixed w y i j * silu w y i j := (if_neg (by decide)).trans (if_pos rfl)
theorem small_2 : small w y i 2 j = dmixed w y i j := (if_neg (by decide)).trans ((if_neg (by decide)).trans (if_pos rfl))
theorem small_past (r : Fin 8) (h0 : r.val ≠ 0) (h1 : r.val ≠ 1) (h2 : r.val ≠ 2) : small w y i r j = 0 :=
  (if_neg fun h => h0 (congrArg Fin.val h)).trans ((if_neg fun h => h1 (congrArg Fin.val h)).trans (if_neg fun h => h2 (congrArg Fin.val h)))
end

theorem pay5_at (k j : Fin 1024) : k0_pay5 (F := Ideal) (ix2 k j) = 0 := by
  unfold k0_pay5
  pointwise
theorem pay7_at (r : Fin 8) (j : Fin 1024) : k0_pay7 (F := Ideal) (ix2 r j) = 0 := by
  unfold k0_pay7
  pointwise

variable {m : (ℓ : Loc nD τ sig) → Buf (Elt Ideal) ℓ} {c : Dev nD} {t : Fin cfg0.N}
variable {w : Weights} {y : Fin 4096 → Row} {T : Fin 8} (H : (loads m c t).Holds w y T)
include H

/-! ## The first point, of the last tile -/

section
variable (h0 : t.val % 8 = 0) (hT : T.val = 7)
include h0 hT

omit h0 in
theorem ahead_first (r : Fin 32) (j : Fin 1024) : aheadA (ix2 r j) = share w y j (512 * T.val + 512 + r.val) := by
  rw [aheadA_at]
  unfold share grow
  rw [dif_neg (show ¬512 * T.val + 512 + r.val < 4096 by omega)]

theorem dx_first (i : Fin 512) (j : Fin 1024) : (outsAt0 m c t.val t.isLt).1 (ix2 i j) = dx w y (tileRow T i) j :=
  (congrFun (dxA m c t h0) _).trans ((whole_top _ _ _ i j).trans (dx_at H (ahead_first H hT) _ _ i j))

theorem dproj_first (i : Fin 512) (e : Fin 2048) : (outsAt0 m c t.val t.isLt).2.1 (ix2 i e) = dproj w y (tileRow T i) e :=
  (congrFun (dprojA m c t h0) _).trans (dproj_at H (ahead_first H hT) _ _ i e)

theorem kept_first (r : Fin 32) (j : Fin 1024) : (outsAt0 m c t.val t.isLt).2.2.2.2.2 (ix2 r j) = share w y j (512 * T.val + r.val) :=
  (congrFun (keptA m c t h0) _).trans ((whole_top _ _ _ r j).trans (kept_at H (ahead_first H hT) _ r j))

omit hT in
theorem ow_first (k j : Fin 1024) : (outsAt0 m c t.val t.isLt).2.2.1 (ix2 k j) = 0 + ∑ i, owPart w y (tileRow T i) k j :=
  (congrFun (owA m c t h0) _).trans ((whole_top _ _ _ k j).trans ((owNew_at H _ k j).trans
    (congrArg (· + _) ((whole_left _ _ _ k j).trans ((whole_top _ _ _ k j).trans (pay5_at k j))))))

omit hT in
theorem gw_first (q : Fin 4) (r d : Fin 256) : (outsAt0 m c t.val t.isLt).2.2.2.1 (ix3 q r d) = 0 + ∑ i, gwPart w y (tileRow T i) q r d :=
  (congrFun (gwA m c t h0) _).trans ((gwFirst_at H _ q r d 16 le_rfl).trans (if_pos (by omega)))

theorem small_first (r : Fin 8) (j : Fin 1024) : (outsAt0 m c t.val t.isLt).2.2.2.2.1 (ix2 r j) = 0 + ∑ i, small w y (tileRow T i) r j := by
  rw [smallA m c t h0]
  have base : ∀ r : Fin 8, View.canon small0 (ix2 r j) = 0 := fun r => (whole_top _ _ _ r j).trans (pay7_at r j)
  have one : ∀ r : Fin 8, r.val ≠ 1 → View.canon (smallA2 m c t) (ix2 r j) = 0 := fun r h => (row_past 1 _ _ _ r j h).trans (base r)
  have two : ∀ r : Fin 8, r.val ≠ 1 → r.val ≠ 2 → View.canon (smallA3 m c t) (ix2 r j) = 0 := fun r h h' => (row_past 2 _ _ _ r j h').trans (one r h)
  by_cases e0 : r.val = 0
  · obtain rfl : r = 0 := Fin.ext e0
    simp only [small_0]
    exact row_top 0 _ _ _ 0 j rfl ((normNew_at H (ahead_first H hT) _ _ _ j).trans (congrArg (· + _) ((row_left 0 _ _ 0 j _ rfl).trans (two 0 (by decide) (by decide)))))
  refine (row_past 0 _ _ _ r j e0).trans ?_
  by_cases e2 : r.val = 2
  · obtain rfl : r = 2 := Fin.ext e2
    simp only [small_2]
    exact row_top 2 _ _ _ 2 j rfl ((biasNew_at H _ j).trans (congrArg (· + _) ((row_left 2 _ _ 2 j _ rfl).trans (one 2 (by decide)))))
  refine (row_past 2 _ _ _ r j e2).trans ?_
  by_cases e1 : r.val = 1
  · obtain rfl : r = 1 := Fin.ext e1
    simp only [small_1]
    exact row_top 1 _ _ _ 1 j rfl ((scaleNew_at H _ j).trans (congrArg (· + _) ((row_left 1 _ _ 1 j _ rfl).trans (base 1))))
  refine (row_past 1 _ _ _ r j e1).trans ((base r).trans ?_)
  simp only [small_past w y _ j r e0 e1 e2, Finset.sum_const_zero, add_zero]
end

/-! ## A later point -/

section
variable (h0 : ¬t.val % 8 = 0) (hA : ∀ (r : Fin 32) (j : Fin 1024), (prior m c t).2.2.2.2.2 (ix2 r j) = share w y j (512 * T.val + 512 + r.val))
include h0 hA

omit h0 H in
theorem ahead_later (r : Fin 32) (j : Fin 1024) : aheadB (prior m c t).2.2.2.2.2 (ix2 r j) = share w y j (512 * T.val + 512 + r.val) :=
  (aheadB_at _ r j).trans (hA r j)

theorem dx_later (i : Fin 512) (j : Fin 1024) : (outsAt0 m c t.val t.isLt).1 (ix2 i j) = dx w y (tileRow T i) j :=
  (congrFun (dxB m c t h0) _).trans ((whole_top _ _ _ i j).trans (dx_at H (ahead_later hA) _ _ i j))

theorem dproj_later (i : Fin 512) (e : Fin 2048) : (outsAt0 m c t.val t.isLt).2.1 (ix2 i e) = dproj w y (tileRow T i) e :=
  (congrFun (dprojB m c t h0) _).trans (dproj_at H (ahead_later hA) _ _ i e)

theorem kept_later (r : Fin 32) (j : Fin 1024) : (outsAt0 m c t.val t.isLt).2.2.2.2.2 (ix2 r j) = share w y j (512 * T.val + r.val) :=
  (congrFun (keptB m c t h0) _).trans ((whole_top _ _ _ r j).trans (kept_at H (ahead_later hA) _ r j))

omit hA in
theorem ow_later (k j : Fin 1024) : (outsAt0 m c t.val t.isLt).2.2.1 (ix2 k j) = (prior m c t).2.2.1 (ix2 k j) + ∑ i, owPart w y (tileRow T i) k j :=
  (congrFun (owB m c t h0) _).trans ((whole_top _ _ _ k j).trans ((owNew_at H _ k j).trans (congrArg (· + _) (whole_given _ _ _ k j))))

omit hA in
theorem gw_later (q : Fin 4) (r d : Fin 256) :
    (outsAt0 m c t.val t.isLt).2.2.2.1 (ix3 q r d) = (prior m c t).2.2.2.1 (ix3 q r d) + ∑ i, gwPart w y (tileRow T i) q r d := by
  rw [gwB m c t h0]
  refine gwLater_at H _ (prior m c t).2.2.2.1 (fun n hn r d => (given3 _ _ _ _ _ _ 0 r d).trans (congrArg _ ?_)) q r d 16 le_rfl (by omega)
  funext k
  refine Fin.ext ?_
  fin_cases k
  · show n % 4 + 0 = n % 4; omega
  · rfl
  · show 0 + d.val = d.val; omega

theorem small_later (r : Fin 8) (j : Fin 1024) : (outsAt0 m c t.val t.isLt).2.2.2.2.1 (ix2 r j) = (prior m c t).2.2.2.2.1 (ix2 r j) + ∑ i, small w y (tileRow T i) r j := by
  rw [smallB m c t h0]
  by_cases e0 : r.val = 0
  · obtain rfl : r = 0 := Fin.ext e0
    simp only [small_0]
    exact row_over_top 0 _ _ _ 0 j _ _ rfl ((normNew_at H (ahead_later hA) _ _ _ j).trans (congrArg (· + _) (row_given 0 _ 0 j _ _ rfl)))
  refine (row_over_past 0 _ _ _ r j _ _ e0).trans ?_
  by_cases e2 : r.val = 2
  · obtain rfl : r = 2 := Fin.ext e2
    simp only [small_2]
    exact row_over_top 2 _ _ _ 2 j _ _ rfl ((biasNew_at H _ j).trans (congrArg (· + _) (row_given 2 _ 2 j _ _ rfl)))
  refine (row_over_past 2 _ _ _ r j _ _ e2).trans ?_
  by_cases e1 : r.val = 1
  · obtain rfl : r = 1 := Fin.ext e1
    simp only [small_1]
    exact row_over_top 1 _ _ _ 1 j _ _ rfl ((scaleNew_at H _ j).trans (congrArg (· + _) (row_given 1 _ 1 j _ _ rfl)))
  refine (row_over_past 1 _ _ _ r j _ _ e1).trans ?_
  simp only [small_past w y _ j r e0 e1 e2, Finset.sum_const_zero, add_zero]
  exact congrFun (Memref.IsWhole.read_unread _ _) _
end

end Cert.Kernel4Ideal.Own

end
-- ==== Proof.Pool.Shifts.lean ====
/-
  Rows shifted down or up by a padding and a slice, with zeros where none comes, and matrices regrouped by quarters of their rows.
-/
module

public import proofs.«01_k».proof.Proof.Pool.Words

@[expose] public section

noncomputable section

namespace Cert.Pool

open Idealize.ShloMosaic

theorem shift_down {n s b : ℕ} (y : (⟨2, ![4096, b]⟩ : Shape).Idx → EReal) (hp : (⟨2, ![4096, b]⟩ : Shape).Pads ![s, 0] ![0, 0] ![0, 0] ⟨2, ![n, b]⟩) {u : Shape} (hu : 0 < u.numel)
    (hs : (⟨2, ![n, b]⟩ : Shape).Slices ![0, 0] ⟨2, ![4096, b]⟩) (t : Fin 4096) (e : Fin b) :
    extractStridedSlice ⟨2, ![4096, b]⟩ ![0, 0] (pad ⟨2, ![n, b]⟩ ![s, 0] ![0, 0] ![0, 0] y (fun _ : u.Idx => 0) hp hu) hs (ix2 t e)
      = if s ≤ t.val then y (ix2 ⟨t.val - s, by omega⟩ e) else 0 := by
  rw [Pointwise.extractStridedSlice_apply, pad_apply]
  by_cases h : s ≤ t.val
  · rw [dif_pos, if_pos h]
    · refine congrArg y ?_
      funext k
      refine Fin.ext ?_
      fin_cases k
      · show (0 + t.val - s) / (0 + 1) = t.val - s; omega
      · show (0 + e.val - 0) / (0 + 1) = e.val; omega
    · intro a
      fin_cases a
      · show s ≤ 0 + t.val ∧ (0 + t.val - s) % (0 + 1) = 0 ∧ (0 + t.val - s) / (0 + 1) < 4096
        omega
      · show 0 ≤ 0 + e.val ∧ (0 + e.val - 0) % (0 + 1) = 0 ∧ (0 + e.val - 0) / (0 + 1) < b
        have := e.isLt
        omega
  · rw [dif_neg, if_neg h]
    intro hk
    have h0 : s ≤ 0 + t.val := (hk 0).1
    omega

theorem shift_up {n s b : ℕ} (y : (⟨2, ![4096, b]⟩ : Shape).Idx → EReal) (hs : (⟨2, ![4096, b]⟩ : Shape).Slices ![s, 0] ⟨2, ![n, b]⟩)
    (hp : (⟨2, ![n, b]⟩ : Shape).Pads ![0, 0] ![s, 0] ![0, 0] ⟨2, ![4096, b]⟩) {u : Shape} (hu : 0 < u.numel) (hn : n + s = 4096) (t : Fin 4096) (e : Fin b) :
    pad ⟨2, ![4096, b]⟩ ![0, 0] ![s, 0] ![0, 0] (extractStridedSlice ⟨2, ![n, b]⟩ ![s, 0] y hs) (fun _ : u.Idx => 0) hp hu (ix2 t e)
      = if h : t.val + s < 4096 then y (ix2 ⟨t.val + s, h⟩ e) else 0 := by
  rw [pad_apply]
  by_cases h : t.val + s < 4096
  · rw [dif_pos, dif_pos h, Pointwise.extractStridedSlice_apply]
    · refine congrArg y ?_
      funext k
      refine Fin.ext ?_
      fin_cases k
      · show s + (t.val - 0) / (0 + 1) = t.val + s; omega
      · show 0 + (e.val - 0) / (0 + 1) = e.val; omega
    · intro a
      fin_cases a
      · show 0 ≤ t.val ∧ (t.val - 0) % (0 + 1) = 0 ∧ (t.val - 0) / (0 + 1) < n
        omega
      · show 0 ≤ e.val ∧ (e.val - 0) % (0 + 1) = 0 ∧ (e.val - 0) / (0 + 1) < b
        have := e.isLt
        omega
  · rw [dif_neg, dif_neg h]
    intro hk
    have h0 : (t.val - 0) / (0 + 1) < n := (hk 0).2.2
    omega

/-- Four matrices by quarters of their rows. -/
theorem quarters_at (z : (⟨3, ![4, 256, 256]⟩ : Shape).Idx → EReal) (h : (⟨3, ![4, 256, 256]⟩ : Shape).ShapeCasts ⟨4, ![4, 4, 64, 256]⟩)
    (ht : (⟨4, ![4, 4, 64, 256]⟩ : Shape).Transposes [1, 0, 2, 3] ⟨4, ![4, 4, 64, 256]⟩) (h' : (⟨4, ![4, 4, 64, 256]⟩ : Shape).ShapeCasts ⟨3, ![4, 256, 256]⟩)
    (q g : Fin 4) (r : Fin 64) (e : Fin 256) :
    shapeCast ⟨3, ![4, 256, 256]⟩ (transpose ⟨4, ![4, 4, 64, 256]⟩ [1, 0, 2, 3] (shapeCast ⟨4, ![4, 4, 64, 256]⟩ z h) ht) h' (ix3 q ⟨64 * g.val + r.val, by omega⟩ e)
      = z (ix3 g ⟨64 * q.val + r.val, by omega⟩ e) := by
  refine (shapeCast_apply _ _ _ (ix4 q g r e) ?_).trans ?_
  · rw [Shape.rowMajor_val_three, Shape.rowMajor_val_four]
    show ((q.val * 4 + g.val) * 64 + r.val) * 256 + e.val = (q.val * 256 + (64 * g.val + r.val)) * 256 + e.val
    ring
  · have ht' : ∀ a : (⟨4, ![4, 4, 64, 256]⟩ : Shape).Idx → EReal, transpose ⟨4, ![4, 4, 64, 256]⟩ [1, 0, 2, 3] a ht (ix4 q g r e) = a (ix4 g q r e) := fun a => by pointwise
    refine (ht' _).trans (shapeCast_apply _ _ _ _ ?_)
    rw [Shape.rowMajor_val_three, Shape.rowMajor_val_four]
    show (g.val * 256 + (64 * q.val + r.val)) * 256 + e.val = ((g.val * 4 + q.val) * 64 + r.val) * 256 + e.val
    ring

end Cert.Pool

end
-- ==== Proof.Pool.Host.lean ====
/-
  What the lines before the pooling mixer's backward call make of the arguments: the pooled rows by doubled shifts, the gate, and
  the weights by quarters.
-/
module

public import proofs.«01_k».proof.Proof.Pool.Steps
public import proofs.«01_k».proof.Proof.Pool.Shifts
public import proofs.«01_k».proof.Proof.Gen.Kernel4Ideal.Value
public import Idealize.ShloMosaic.Lib.Pipeline.ValueKit

@[expose] public section

set_option maxRecDepth 16384

noncomputable section

namespace Cert.Kernel4Ideal.Own

open Idealize.ShloMosaic Idealize.ShloMosaic.TcCoe Idealize.SL.Sem Cert.Kernel4Ideal Cert.Kernel4Ideal.Gen
open Cert.Pool
open Cert.Head (word_one word_1024 word_eps part place col part_col place_col col_part_place)

variable (m : (ℓ : Loc nD τ sig) → Buf (Elt Ideal) ℓ) (c : Dev nD)

/-- The arguments on a device hold these weights and rows. -/
abbrev Args (w : Weights) (y : Fin 4096 → Row) : Prop :=
  Data (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) w y

/-! ## The projection and the pooled rows -/

def hostRoot : S4096x1.Idx → EReal :=
  Host.rsqrt (F := Ideal) (φ := .f32) (addf (Host.divf (broadcastInDim S4096x1 ![0] bcast_S4096_S4096x1_0 (Host.reduceAdd (F := Ideal) (φ := .f32)
    (mulf (F := Ideal) (φ := .f32) (m ((c : Thread nD τ).loc main_arg0)) (m ((c : Thread nD τ).loc main_arg0))) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))
def hostRows : S4096x1024.Idx → EReal :=
  mulf (F := Ideal) (φ := .f32) (mulf (F := Ideal) (φ := .f32) (m ((c : Thread nD τ).loc main_arg0)) (broadcastInDim S4096x1024 ![0, 1] bcast_S4096x1_S4096x1024_0_1 (hostRoot m c)))
    (broadcastInDim S4096x1024 ![0, 1] bcast_S1x1024_S4096x1024_0_1 (m ((c : Thread nD τ).loc main_arg2) : S1x1024.Idx → EReal))
def hostProj : S4096x2048.Idx → EReal := Host.dotGeneral (F := Ideal) (φ₁ := .bf16) (φ₂ := .bf16) dot_S4096x1024_S1024x2048_S4096x2048_1_0_0_1_n_n none
  (hostRows m c) (m ((c : Thread nD τ).loc main_arg3) : S1024x2048.Idx → EReal)

/-- A group's columns of the projection. -/
def hostGroup (o : ℕ) (h : S4096x1024.Slices ![0, o] S4096x256) : S4096x256.Idx → EReal :=
  extractStridedSlice S4096x256 ![0, o] (extractStridedSlice S4096x1024 ![0, 0] (hostProj m c) slices_S4096x2048_S4096x1024_0_0) h

/-- The zero that the shifted rows are padded with. -/
def hostZero : S_.Idx → EReal := sitofp (F := Ideal) .f32 (constantI S_ 32 0#32)

/-- The rows added to themselves 1, 2, 4 and 8 rows on. -/
def plus1 (z : S4096x256.Idx → EReal) : S4096x256.Idx → EReal := addf (F := Ideal) (φ := .f32) z
  (extractStridedSlice S4096x256 ![0, 0] (pad S4097x256 ![1, 0] ![0, 0] ![0, 0] z hostZero pads_S4096x256_S4097x256_100_000 h_S_) slices_S4097x256_S4096x256_0_0)
def plus2 (z : S4096x256.Idx → EReal) : S4096x256.Idx → EReal := addf (F := Ideal) (φ := .f32) z
  (extractStridedSlice S4096x256 ![0, 0] (pad S4098x256 ![2, 0] ![0, 0] ![0, 0] z hostZero pads_S4096x256_S4098x256_200_000 h_S_) slices_S4098x256_S4096x256_0_0)
def plus4 (z : S4096x256.Idx → EReal) : S4096x256.Idx → EReal := addf (F := Ideal) (φ := .f32) z
  (extractStridedSlice S4096x256 ![0, 0] (pad S4100x256 ![4, 0] ![0, 0] ![0, 0] z hostZero pads_S4096x256_S4100x256_400_000 h_S_) slices_S4100x256_S4096x256_0_0)
def plus8 (z : S4096x256.Idx → EReal) : S4096x256.Idx → EReal := addf (F := Ideal) (φ := .f32) z
  (extractStridedSlice S4096x256 ![0, 0] (pad S4104x256 ![8, 0] ![0, 0] ![0, 0] z hostZero pads_S4096x256_S4104x256_800_000 h_S_) slices_S4104x256_S4096x256_0_0)

/-- The reciprocal counts for a window, and the trailing means less the rows. -/
def hostInv (n : BitVec 32) : S4096x1.Idx → EReal :=
  Host.divf (F := Ideal) (φ := .f32) (broadcastInDim S4096x1 ![] bcast_S_S4096x1 (constant S_ .f32 0x3F800000#32)) (sitofp (F := Ideal) .f32
    (minsi (addi (broadcastInDim S4096x1 ![0] bcast_S4096_S4096x1_0 (iotaInDim S4096 32 0)) (broadcastInDim S4096x1 ![] bcast_S_S4096x1 (constantI S_ 32 1#32)))
      (broadcastInDim S4096x1 ![] bcast_S_S4096x1 (constantI S_ 32 n))))
def hostMean (n : BitVec 32) (z u : S4096x256.Idx → EReal) : S4096x256.Idx → EReal :=
  subf (F := Ideal) (φ := .f32) (mulf (F := Ideal) (φ := .f32) z (broadcastInDim S4096x256 ![0, 1] bcast_S4096x1_S4096x256_0_1 (hostInv n))) u

theorem v101_eq : (V m c main_v101 : S4096x1024.Idx → EReal) = concatenate S4096x1024 1
    [⟨S4096x256, hostMean 2#32 (plus1 (hostGroup m c 0 slices_S4096x1024_S4096x256_0_0)) (hostGroup m c 0 slices_S4096x1024_S4096x256_0_0)⟩,
     ⟨S4096x256, hostMean 4#32 (plus2 (plus1 (hostGroup m c 256 slices_S4096x1024_S4096x256_0_256))) (hostGroup m c 256 slices_S4096x1024_S4096x256_0_256)⟩,
     ⟨S4096x256, hostMean 8#32 (plus4 (plus2 (plus1 (hostGroup m c 512 slices_S4096x1024_S4096x256_0_512)))) (hostGroup m c 512 slices_S4096x1024_S4096x256_0_512)⟩,
     ⟨S4096x256, hostMean 16#32 (plus8 (plus4 (plus2 (plus1 (hostGroup m c 768 slices_S4096x1024_S4096x256_0_768))))) (hostGroup m c 768 slices_S4096x1024_S4096x256_0_768)⟩]
    concatenates_S4096x256_S4096x256_S4096x256_S4096x256_S4096x1024_d1 := by
  sl_kernel_rfl
theorem v23_eq : (V m c main_v23 : S4096x1024.Idx → EReal) = extractStridedSlice S4096x1024 ![0, 1024] (hostProj m c) slices_S4096x2048_S4096x1024_0_1024 := rfl
theorem v2_eq : (V m c main_v2 : S4x1024x512.Idx → EReal) = transpose S4x1024x512 [1, 0, 2]
    (shapeCast S1024x4x512 (m ((c : Thread nD τ).loc main_arg3) : S1024x2048.Idx → EReal) shapeCasts_S1024x2048_S1024x4x512) transposes_S1024x4x512_S4x1024x512_1_0_2 := rfl
theorem v6_eq : (V m c main_v6 : S4x256x256.Idx → EReal) = shapeCast S4x256x256 (transpose S4x4x64x256 [1, 0, 2, 3]
    (shapeCast S4x4x64x256 (m ((c : Thread nD τ).loc main_arg4) : S4x256x256.Idx → EReal) shapeCasts_S4x256x256_S4x4x64x256) transposes_S4x4x64x256_S4x4x64x256_1_0_2_3)
    shapeCasts_S4x4x64x256_S4x256x256 := rfl
theorem v102_eq : (V m c main_v102 : S1x1024.Idx → EReal) = shapeCast S1x1024 (m ((c : Thread nD τ).loc main_arg5) : S4x256.Idx → EReal) shapeCasts_S4x256_S1x1024 := rfl
theorem v103_eq : (V m c main_v103 : S1024x1024.Idx → EReal) = m ((c : Thread nD τ).loc main_arg7) := rfl

theorem hostZero_eq : hostZero = fun _ => 0 := zero_entries

/-- Adding the rows s rows on doubles the trailing sum. -/
theorem plus_at {n s : ℕ} (z : S4096x256.Idx → EReal) (hp : S4096x256.Pads ![s, 0] ![0, 0] ![0, 0] ⟨2, ![n, 256]⟩) (hs : (⟨2, ![n, 256]⟩ : Shape).Slices ![0, 0] S4096x256)
    (f : ℕ → EReal) (e : Fin 256) (hz : ∀ t : Fin 4096, z (ix2 t e) = trail f s t.val) (t : Fin 4096) :
    addf (F := Ideal) (φ := .f32) z (extractStridedSlice S4096x256 ![0, 0] (pad ⟨2, ![n, 256]⟩ ![s, 0] ![0, 0] ![0, 0] z hostZero hp h_S_) hs) (ix2 t e) = trail f (s + s) t.val := by
  rw [addf_apply, hostZero_eq, hz, shift_down, hz, ← trail_double]
  rfl

theorem plus1_at (z : S4096x256.Idx → EReal) (f : ℕ → EReal) (e : Fin 256) (hz : ∀ t : Fin 4096, z (ix2 t e) = f t.val) (t : Fin 4096) : plus1 z (ix2 t e) = trail f 2 t.val :=
  plus_at z _ _ f e (fun t => (hz t).trans (trail_one f _).symm) t
theorem plus2_at (z : S4096x256.Idx → EReal) (f : ℕ → EReal) (e : Fin 256) (hz : ∀ t : Fin 4096, z (ix2 t e) = trail f 2 t.val) (t : Fin 4096) : plus2 z (ix2 t e) = trail f 4 t.val :=
  plus_at z _ _ f e hz t
theorem plus4_at (z : S4096x256.Idx → EReal) (f : ℕ → EReal) (e : Fin 256) (hz : ∀ t : Fin 4096, z (ix2 t e) = trail f 4 t.val) (t : Fin 4096) : plus4 z (ix2 t e) = trail f 8 t.val :=
  plus_at z _ _ f e hz t
theorem plus8_at (z : S4096x256.Idx → EReal) (f : ℕ → EReal) (e : Fin 256) (hz : ∀ t : Fin 4096, z (ix2 t e) = trail f 8 t.val) (t : Fin 4096) : plus8 z (ix2 t e) = trail f 16 t.val :=
  plus_at z _ _ f e hz t

theorem hostInv_at (g : Fin 4) (t : Fin 4096) : hostInv (BitVec.ofNat 32 (win g)) (ix2 t 0) = Cert.Pool.inv g t.val := by
  unfold hostInv Cert.Pool.inv
  rw [← count_word]
  pointwise [word_one]
  rfl

theorem hostMean_at (g : Fin 4) (z u : S4096x256.Idx → EReal) (t : Fin 4096) (e : Fin 256) :
    hostMean (BitVec.ofNat 32 (win g)) z u (ix2 t e) = z (ix2 t e) * Cert.Pool.inv g t.val - u (ix2 t e) := by
  unfold hostMean
  pointwise [hostInv_at]

variable {m c} {w : Weights} {y : Fin 4096 → Row} (hy : Args m c w y)
include hy

theorem hostRoot_at (i : Fin 4096) : hostRoot m c (ix2 i 0) = root y i := by
  unfold hostRoot root ms
  pointwise [hy.x, word_1024, word_eps]

theorem hostRows_at (i : Fin 4096) (j : Fin 1024) : hostRows m c (ix2 i j) = hat y i j * w.nw j := by
  unfold hostRows
  pointwise [hy.x, hy.nw, hostRoot_at hy, hat]

theorem hostProj_at (i : Fin 4096) (e : Fin 2048) : hostProj m c (ix2 i e) = proj w y i e := by
  unfold hostProj proj
  pointwise [hostRows_at hy, hy.inw]

theorem hostGroup_at (g : Fin 4) (h : S4096x1024.Slices ![0, 256 * g.val] S4096x256) (t : Fin 4096) (e : Fin 256) : hostGroup m c (256 * g.val) h (ix2 t e) = u w y t (col g e) := by
  unfold hostGroup u
  pointwise [hostProj_at hy]
  exact congrArg _ (Fin.ext (by simp [col]))

theorem hostGroup_grow (g : Fin 4) (h : S4096x1024.Slices ![0, 256 * g.val] S4096x256) (e : Fin 256) (t : Fin 4096) :
    hostGroup m c (256 * g.val) h (ix2 t e) = grow (fun s => u w y s (col g e)) t.val :=
  (hostGroup_at hy g h t e).trans (grow_val (fun s => u w y s (col g e)) t).symm

/-- A group's pooled rows from its trailing sums. -/
theorem pooled_of (g : Fin 4) (h : S4096x1024.Slices ![0, 256 * g.val] S4096x256) (z : S4096x256.Idx → EReal) (t : Fin 4096) (e : Fin 256)
    (hz : z (ix2 t e) = trail (grow fun s => u w y s (col g e)) (win g) t.val) :
    hostMean (BitVec.ofNat 32 (win g)) z (hostGroup m c (256 * g.val) h) (ix2 t e) = pooled w y t (col g e) := by
  rw [hostMean_at, hz, hostGroup_at hy]
  unfold pooled
  rw [part_col]

omit hy in
/-- Four groups side by side. -/
theorem four_at (a0 a1 a2 a3 : S4096x256.Idx → EReal) (t : Fin 4096) (f : Fin 1024 → EReal) (h0 : ∀ e, a0 (ix2 t e) = f (col 0 e)) (h1 : ∀ e, a1 (ix2 t e) = f (col 1 e))
    (h2 : ∀ e, a2 (ix2 t e) = f (col 2 e)) (h3 : ∀ e, a3 (ix2 t e) = f (col 3 e)) (j : Fin 1024) :
    concatenate S4096x1024 1 [⟨S4096x256, a0⟩, ⟨S4096x256, a1⟩, ⟨S4096x256, a2⟩, ⟨S4096x256, a3⟩] concatenates_S4096x256_S4096x256_S4096x256_S4096x256_S4096x1024_d1 (ix2 t j) = f j := by
  pointwise [h0, h1, h2, h3]
  split_ifs <;> first | omega | exact congrArg f (Fin.ext (by simp [col] <;> omega))

theorem v101_at (t : Fin 4096) (j : Fin 1024) : (V m c main_v101 : S4096x1024.Idx → EReal) (ix2 t j) = pooled w y t j := by
  have g0 := hostGroup_grow hy 0 slices_S4096x1024_S4096x256_0_0
  have g1 := hostGroup_grow hy 1 slices_S4096x1024_S4096x256_0_256
  have g2 := hostGroup_grow hy 2 slices_S4096x1024_S4096x256_0_512
  have g3 := hostGroup_grow hy 3 slices_S4096x1024_S4096x256_0_768
  rw [v101_eq]
  exact four_at _ _ _ _ t (pooled w y t)
    (fun e => pooled_of hy 0 _ _ t e (plus1_at _ _ e (g0 e) t))
    (fun e => pooled_of hy 1 _ _ t e (plus2_at _ _ e (plus1_at _ _ e (g1 e)) t))
    (fun e => pooled_of hy 2 _ _ t e (plus4_at _ _ e (plus2_at _ _ e (plus1_at _ _ e (g2 e))) t))
    (fun e => pooled_of hy 3 _ _ t e (plus8_at _ _ e (plus4_at _ _ e (plus2_at _ _ e (plus1_at _ _ e (g3 e)))) t)) j

theorem v23_at (t : Fin 4096) (j : Fin 1024) : (V m c main_v23 : S4096x1024.Idx → EReal) (ix2 t j) = gate w y t j := by
  rw [v23_eq]
  unfold gate
  pointwise [hostProj_at hy]

theorem v2_at (q : Fin 4) (k : Fin 1024) (e : Fin 512) : (V m c main_v2 : S4x1024x512.Idx → EReal) (ix3 q k e) = w.inw k ⟨512 * q.val + e.val, by omega⟩ := by
  rw [v2_eq]
  pointwise [hy.inw]
  exact congrArg (w.inw k) (Fin.ext (by dsimp only; omega))

theorem v6_at (q g : Fin 4) (r : Fin 64) (e : Fin 256) :
    (V m c main_v6 : S4x256x256.Idx → EReal) (ix3 q ⟨64 * g.val + r.val, by omega⟩ e) = w.gw g ⟨64 * q.val + r.val, by omega⟩ e :=
  (congrFun (v6_eq m c) _).trans ((quarters_at _ _ _ _ q g r e).trans (hy.gw _ _ _))

theorem v102_at (j : Fin 1024) : (V m c main_v102 : S1x1024.Idx → EReal) (ix2 0 j) = w.gb (part j) (place j) := by
  refine (congrFun (v102_eq m c) _).trans ((shapeCast_apply _ _ _ (ix2 (part j) (place j)) ?_).trans (hy.gb _ _))
  rw [Shape.rowMajor_val_two, Shape.rowMajor_val_two]
  show j.val / 256 * 256 + j.val % 256 = 0 * 1024 + j.val
  omega

end Cert.Kernel4Ideal.Own

end
-- ==== Proof.Pool.Arrays.lean ====
/-
  The result arrays of the pooling mixer's backward call over the extended reals: the formulas of `Row.lean` at the rows of the
  arguments. The points go from the last tile of rows to the first.
-/
module

public import proofs.«01_k».proof.Proof.Pool.Host

@[expose] public section

set_option maxRecDepth 16384

noncomputable section

namespace Cert.Kernel4Ideal.Own

open Idealize.ShloMosaic Idealize.ShloMosaic.TcCoe Idealize.SL.Sem Cert.Kernel4Ideal Cert.Kernel4Ideal.Gen
open Idealize.ShloMosaic.Pipeline (Dat Cfg Window)
open Cert.Pool
open Cert.Head (part place col)

/-! ## Where a block lies -/

theorem pt (t : Fin cfg0.N) : t.val < 8 := Nat.lt_of_lt_of_eq t.isLt N_0

/-- The tile of rows of a point, and the point of a row. -/
def tile (t : Fin cfg0.N) : Fin 8 := ⟨7 - t.val, by omega⟩
def pointOf (i : Fin 4096) : Fin cfg0.N := ⟨7 - i.val / 512, Nat.lt_of_lt_of_eq (by omega) N_0.symm⟩
theorem tileRow_pointOf (i : Fin 4096) : tileRow (tile (pointOf i)) ⟨i.val % 512, by omega⟩ = i :=
  Fin.ext (by show 512 * (7 - (7 - i.val / 512)) + i.val % 512 = i.val; omega)

theorem coord : ∀ t : Fin cfg0.N, (grid0.coords t 0).val = t.val := (by decide +kernel : ∀ t : Fin grid0.N, (grid0.coords t 0).val = t.val)
theorem idx_0 : ∀ t : Fin cfg0.N, win0_0.index t = ![7 - t.val, 0] := (by decide +kernel : ∀ t : Fin grid0.N, win0_0.index t = ![7 - t.val, 0])
theorem idx_1 : ∀ t : Fin cfg0.N, win0_1.index t = ![7 - t.val, 0] := (by decide +kernel : ∀ t : Fin grid0.N, win0_1.index t = ![7 - t.val, 0])
theorem idx_2 : ∀ t : Fin cfg0.N, win0_2.index t = ![7 - t.val, 0] := (by decide +kernel : ∀ t : Fin grid0.N, win0_2.index t = ![7 - t.val, 0])
theorem idx_3 : ∀ t : Fin cfg0.N, win0_3.index t = ![7 - t.val, 0] := (by decide +kernel : ∀ t : Fin grid0.N, win0_3.index t = ![7 - t.val, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0, 0] := (by decide +kernel : ∀ t : Fin grid0.N, win0_5.index t = ![0, 0, 0])
theorem idx_6 : ∀ t : Fin cfg0.N, win0_6.index t = ![0, 0, 0] := (by decide +kernel : ∀ t : Fin grid0.N, win0_6.index t = ![0, 0, 0])
theorem idx_7 : ∀ t : Fin cfg0.N, win0_7.index t = ![0, 0] := (by decide +kernel : ∀ t : Fin grid0.N, win0_7.index t = ![0, 0])
theorem idx_8 : ∀ t : Fin cfg0.N, win0_8.index t = ![0, 0] := (by decide +kernel : ∀ t : Fin grid0.N, win0_8.index t = ![0, 0])
theorem idx_9 : ∀ t : Fin cfg0.N, win0_9.index t = ![0, 0] := (by decide +kernel : ∀ t : Fin grid0.N, win0_9.index t = ![0, 0])
theorem idx_10 : ∀ t : Fin cfg0.N, win0_10.index t = ![7 - t.val, 0] := (by decide +kernel : ∀ t : Fin grid0.N, win0_10.index t = ![7 - t.val, 0])
theorem idx_11 : ∀ t : Fin cfg0.N, win0_11.index t = ![7 - t.val, 0] := (by decide +kernel : ∀ t : Fin grid0.N, win0_11.index t = ![7 - t.val, 0])

/-- A point's share of a sum over the rows, and the sum. -/
def tileSum (f : Fin 4096 → EReal) (n : ℕ) : EReal := if n < 8 then ∑ i : Fin 512, f (tileRow ⟨7 - n, by omega⟩ i) else 0

theorem tileSum_all (f : Fin 4096 → EReal) : ∑ n ∈ Finset.range 8, tileSum f n = ∑ i, f i := by
  rw [Fin.sum_univ_tiles 8 512 rfl, Finset.sum_range, ← Equiv.sum_comp Fin.revPerm]
  exact Finset.sum_congr rfl fun T _ => (if_pos (Fin.isLt _)).trans (Finset.sum_congr rfl fun (i : Fin 512) _ => congrArg f (Fin.ext (by
    show 512 * (7 - (8 - (T.val + 1))) + i.val = T.val * 512 + i.val; omega)))

theorem tileSum_at (f : Fin 4096 → EReal) (t : Fin cfg0.N) : ∑ i, f (tileRow (tile t) i) = tileSum f t.val := (if_pos (pt t)).symm

variable (m : (ℓ : Loc nD τ sig) → Buf (Elt Ideal) ℓ) (c : Dev nD)

theorem iblk_0_at (t : Fin cfg0.N) (i : Fin 512) (j : Fin 1024) : (iblk m c 0 t : Vec Ideal S512x1024 .f32) (ix2 i j) = (V m c main_arg0 : S4096x1024.Idx → EReal) (ix2 (tileRow (tile t) i) j) := by
  have := pt t
  unfold tileRow tile
  blk_ext [iblk, idx_0]
theorem iblk_1_at (t : Fin cfg0.N) (i : Fin 512) (j : Fin 1024) : (iblk m c 1 t : Vec Ideal S512x1024 .f32) (ix2 i j) = (V m c main_arg1 : S4096x1024.Idx → EReal) (ix2 (tileRow (tile t) i) j) := by
  have := pt t
  unfold tileRow tile
  blk_ext [iblk, idx_1]
theorem iblk_2_at (t : Fin cfg0.N) (i : Fin 512) (j : Fin 1024) : (iblk m c 2 t : Vec Ideal S512x1024 .bf16) (ix2 i j) = (V m c main_v101 : S4096x1024.Idx → EReal) (ix2 (tileRow (tile t) i) j) := by
  have := pt t
  unfold tileRow tile
  blk_ext [iblk, idx_2]
theorem iblk_3_at (t : Fin cfg0.N) (i : Fin 512) (j : Fin 1024) : (iblk m c 3 t : Vec Ideal S512x1024 .bf16) (ix2 i j) = (V m c main_v23 : S4096x1024.Idx → EReal) (ix2 (tileRow (tile t) i) j) := by
  have := pt t
  unfold tileRow tile
  blk_ext [iblk, idx_3]
theorem iblk_4_at (t : Fin cfg0.N) (j : Fin 1024) : (iblk m c 4 t : Vec Ideal S1x1024 .f32) (ix2 0 j) = (V m c main_arg2 : S1x1024.Idx → EReal) (ix2 0 j) := by
  blk_ext [iblk, idx_4]
theorem iblk_5_at (t : Fin cfg0.N) (q : Fin 4) (k : Fin 1024) (e : Fin 512) : (iblk m c 5 t : Vec Ideal S4x1024x512 .bf16) (ix3 q k e) = (V m c main_v2 : S4x1024x512.Idx → EReal) (ix3 q k e) := by
  blk_ext [iblk, idx_5]
theorem iblk_6_at (t : Fin cfg0.N) (q : Fin 4) (r e : Fin 256) : (iblk m c 6 t : Vec Ideal S4x256x256 .bf16) (ix3 q r e) = (V m c main_v6 : S4x256x256.Idx → EReal) (ix3 q r e) := by
  blk_ext [iblk, idx_6]
theorem iblk_7_at (t : Fin cfg0.N) (j : Fin 1024) : (iblk m c 7 t : Vec Ideal S1x1024 .f32) (ix2 0 j) = (V m c main_v102 : S1x1024.Idx → EReal) (ix2 0 j) := by
  blk_ext [iblk, idx_7]
theorem iblk_8_at (t : Fin cfg0.N) (j : Fin 1024) : (iblk m c 8 t : Vec Ideal S1x1024 .f32) (ix2 0 j) = (V m c main_arg6 : S1x1024.Idx → EReal) (ix2 0 j) := by
  blk_ext [iblk, idx_8]
theorem iblk_9_at (t : Fin cfg0.N) (k j : Fin 1024) : (iblk m c 9 t : Vec Ideal S1024x1024 .bf16) (ix2 k j) = (V m c main_v103 : S1024x1024.Idx → EReal) (ix2 k j) := by
  blk_ext [iblk, idx_9]

variable {m c} {w : Weights} {y : Fin 4096 → Row} (hy : Args m c w y)
include hy

/-! ## What a point loads -/

theorem pooled_load (t : Fin cfg0.N) (g : Fin 4) (h : 256 * g.val + 255 < 1024) (i : Fin 512) (e : Fin 256) (k : Fin 512) (hk : k.val = i.val) (l : Fin 1024) (hl : l.val = 256 * g.val + e.val) :
    (iblk m c 2 t : Vec Ideal S512x1024 .bf16) (ix2 k l) = pooled w y (tileRow (tile t) i) (col g e) := by
  obtain rfl : k = i := Fin.ext hk
  obtain rfl : l = col g e := Fin.ext hl
  exact (iblk_2_at m c t _ _).trans (v101_at hy _ _)

theorem pooled_loads (t : Fin cfg0.N) (g : Fin 4) (i : Fin 512) (e : Fin 256) : (loads m c t).p g (ix2 i e) = pooled w y (tileRow (tile t) i) (col g e) := by
  fin_cases g
  · exact (given2 (hs0_2 t) (iblk m c 2 t) 0 0 inb_S512x1024_S512x256_0_0 i e).trans (pooled_load hy t 0 (by decide) i e _ (Nat.zero_add _) _ rfl)
  · exact (given2 (hs0_2 t) (iblk m c 2 t) 0 256 inb_S512x1024_S512x256_0_256 i e).trans (pooled_load hy t 1 (by decide) i e _ (Nat.zero_add _) _ rfl)
  · exact (given2 (hs0_2 t) (iblk m c 2 t) 0 512 inb_S512x1024_S512x256_0_512 i e).trans (pooled_load hy t 2 (by decide) i e _ (Nat.zero_add _) _ rfl)
  · exact (given2 (hs0_2 t) (iblk m c 2 t) 0 768 inb_S512x1024_S512x256_0_768 i e).trans (pooled_load hy t 3 (by decide) i e _ (Nat.zero_add _) _ rfl)

theorem loads_holds (t : Fin cfg0.N) : (loads m c t).Holds w y (tile t) where
  i := congrArg (BitVec.ofNat 32) ((coord t).trans (by show t.val = 7 - (7 - t.val); have := pt t; omega))
  x i j := (whole_given _ _ _ i j).trans ((iblk_0_at m c t i j).trans ((congrFun (V_main_arg0 m c) _).trans (hy.x _ j)))
  dh i j := (whole_given _ _ _ i j).trans ((iblk_1_at m c t i j).trans ((congrFun (V_main_arg1 m c) _).trans (hy.dh _ j)))
  gt i j := (whole_given _ _ _ i j).trans ((iblk_3_at m c t i j).trans (v23_at hy _ j))
  p g i e := pooled_loads hy t g i e
  nw j := (whole_given _ _ _ 0 j).trans ((iblk_4_at m c t j).trans ((congrFun (V_main_arg2 m c) _).trans (hy.nw j)))
  wq q k e := (given3 _ _ _ _ _ _ 0 k e).trans ((congrArg _ (congr (congrArg₂ ix3 (Fin.ext (Nat.add_zero _)) (Fin.ext (Nat.zero_add _))) (Fin.ext (Nat.zero_add _)))).trans
    ((iblk_5_at m c t q k e).trans (v2_at hy q k e)))
  g g q r e := (given3 _ _ _ _ _ _ 0 r e).trans ((congrArg _ (congr (congrArg₂ ix3 (Fin.ext (Nat.add_zero _)) rfl) (Fin.ext (Nat.zero_add _)))).trans
    ((iblk_6_at m c t q ⟨64 * g.val + r.val, by omega⟩ e).trans (v6_at hy q g r e)))
  gb j := (whole_given _ _ _ 0 j).trans ((iblk_7_at m c t j).trans (v102_at hy j))
  sc j := (whole_given _ _ _ 0 j).trans ((iblk_8_at m c t j).trans ((congrFun (V_main_arg6 m c) _).trans (hy.sc j)))
  ow k j := (whole_given _ _ _ k j).trans ((iblk_9_at m c t k j).trans ((congrFun (v103_eq m c) _).trans (hy.ow k j)))

/-! ## What the points leave -/

theorem run_at : ∀ (n : ℕ) (h : n < cfg0.N),
    (∀ (r : Fin 32) (j : Fin 1024), (outsAt0 m c n h).2.2.2.2.2 (ix2 r j) = share w y j (512 * (7 - n) + r.val))
    ∧ (∀ k j : Fin 1024, (outsAt0 m c n h).2.2.1 (ix2 k j) = ∑ T ∈ Finset.range (n + 1), tileSum (fun i => owPart w y i k j) T)
    ∧ (∀ (q : Fin 4) (r d : Fin 256), (outsAt0 m c n h).2.2.2.1 (ix3 q r d) = ∑ T ∈ Finset.range (n + 1), tileSum (fun i => gwPart w y i q r d) T)
    ∧ (∀ (r : Fin 8) (j : Fin 1024), (outsAt0 m c n h).2.2.2.2.1 (ix2 r j) = ∑ T ∈ Finset.range (n + 1), tileSum (fun i => small w y i r j) T)
  | 0, h => by
    have H := loads_holds hy ⟨0, h⟩
    refine ⟨fun r j => kept_first H rfl rfl r j, fun k j => ?_, fun q r d => ?_, fun r j => ?_⟩
    · rw [Finset.sum_range_succ, Finset.sum_range_zero]
      exact (ow_first H rfl k j).trans (congrArg (0 + ·) (tileSum_at (fun i => owPart w y i k j) ⟨0, h⟩))
    · rw [Finset.sum_range_succ, Finset.sum_range_zero]
      exact (gw_first H rfl q r d).trans (congrArg (0 + ·) (tileSum_at (fun i => gwPart w y i q r d) ⟨0, h⟩))
    · rw [Finset.sum_range_succ, Finset.sum_range_zero]
      exact (small_first H rfl rfl r j).trans (congrArg (0 + ·) (tileSum_at (fun i => small w y i r j) ⟨0, h⟩))
  | n + 1, h => by
    obtain ⟨hk, ho, hg, hs⟩ := run_at n (Nat.lt_of_succ_lt h)
    have hn : n + 1 < 8 := pt ⟨n + 1, h⟩
    have H := loads_holds hy ⟨n + 1, h⟩
    have h0 : ¬(n + 1) % 8 = 0 := by omega
    have hA : ∀ (r : Fin 32) (j : Fin 1024), (prior m c ⟨n + 1, h⟩).2.2.2.2.2 (ix2 r j) = share w y j (512 * (tile ⟨n + 1, h⟩).val + 512 + r.val) := fun r j =>
      (hk r j).trans (congrArg (share w y j) (by show 512 * (7 - n) + r.val = 512 * (7 - (n + 1)) + 512 + r.val; omega))
    refine ⟨fun r j => kept_later H h0 hA r j, fun k j => ?_, fun q r d => ?_, fun r j => ?_⟩
    · rw [Finset.sum_range_succ, ← ho k j]
      exact (ow_later H h0 k j).trans (congrArg (_ + ·) (tileSum_at (fun i => owPart w y i k j) ⟨n + 1, h⟩))
    · rw [Finset.sum_range_succ, ← hg q r d]
      exact (gw_later H h0 q r d).trans (congrArg (_ + ·) (tileSum_at (fun i => gwPart w y i q r d) ⟨n + 1, h⟩))
    · rw [Finset.sum_range_succ, ← hs r j]
      exact (small_later H h0 hA r j).trans (congrArg (_ + ·) (tileSum_at (fun i => small w y i r j) ⟨n + 1, h⟩))

theorem prior_kept (t : Fin cfg0.N) (h0 : ¬t.val % 8 = 0) (r : Fin 32) (j : Fin 1024) :
    (prior m c t).2.2.2.2.2 (ix2 r j) = share w y j (512 * (tile t).val + 512 + r.val) :=
  ((run_at hy (t.val - 1) _).1 r j).trans (congrArg (share w y j) (by show 512 * (7 - (t.val - 1)) + r.val = 512 * (7 - t.val) + 512 + r.val; have := pt t; omega))

theorem dx_out (t : Fin cfg0.N) (i : Fin 512) (j : Fin 1024) : (outsAt0 m c t.val t.isLt).1 (ix2 i j) = dx w y (tileRow (tile t) i) j := by
  have := pt t
  by_cases h0 : t.val % 8 = 0
  · exact dx_first (loads_holds hy t) h0 (by show 7 - t.val = 7; omega) i j
  · exact dx_later (loads_holds hy t) h0 (prior_kept hy t h0) i j

theorem dproj_out (t : Fin cfg0.N) (i : Fin 512) (e : Fin 2048) : (outsAt0 m c t.val t.isLt).2.1 (ix2 i e) = dproj w y (tileRow (tile t) i) e := by
  have := pt t
  by_cases h0 : t.val % 8 = 0
  · exact dproj_first (loads_holds hy t) h0 (by show 7 - t.val = 7; omega) i e
  · exact dproj_later (loads_holds hy t) h0 (prior_kept hy t h0) i e

/-! ## The result arrays -/

theorem dx_array (i : Fin 4096) (j : Fin 1024) : (Dat.arrAt (dats m 0 c) 10 cfg0.N : S4096x1024.Idx → EReal) (ix2 i j) = dx w y i j := by
  have h := (dats m 0 c).arrAt_emb_eq_flushed 10 (win0_10.hdisj_of_index_inj (by decide +kernel)) (pointOf i) (flush0_10 _) (ix2 ⟨i.val % 512, by omega⟩ j)
  have e : (dats m 0 c).after 10 (pointOf i) (ix2 ⟨i.val % 512, by omega⟩ j) = dx w y i j := by
    rw [after0_10]
    exact (dx_out hy (pointOf i) _ j).trans (by rw [tileRow_pointOf])
  refine Eq.trans ?_ (h.trans e)
  have := pt (pointOf i)
  have ht : (pointOf i).val = 7 - i.val / 512 := rfl
  blk_ext [idx_10, ht]

theorem dproj_array (i : Fin 4096) (e : Fin 2048) : (Dat.arrAt (dats m 0 c) 11 cfg0.N : S4096x2048.Idx → EReal) (ix2 i e) = dproj w y i e := by
  have h := (dats m 0 c).arrAt_emb_eq_flushed 11 (win0_11.hdisj_of_index_inj (by decide +kernel)) (pointOf i) (flush0_11 _) (ix2 ⟨i.val % 512, by omega⟩ e)
  have e' : (dats m 0 c).after 11 (pointOf i) (ix2 ⟨i.val % 512, by omega⟩ e) = dproj w y i e := by
    rw [after0_11]
    exact (dproj_out hy (pointOf i) _ e).trans (by rw [tileRow_pointOf])
  refine Eq.trans ?_ (h.trans e')
  have := pt (pointOf i)
  have ht : (pointOf i).val = 7 - i.val / 512 := rfl
  blk_ext [idx_11, ht]

/-! The three arrays added to are written back once, whole, after the last point. -/

theorem ow_array (k j : Fin 1024) : (Dat.arrAt (dats m 0 c) 12 cfg0.N : S1024x1024.Idx → EReal) (ix2 k j) = ∑ i, owPart w y i k j := by
  refine ((dats m 0 c).arrAt_emb_eq_after_last 12 t0_7 (by decide +kernel) (ix2 k j)).trans ?_
  have h := (run_at hy 7 t0_7.isLt).2.1 k j
  rw [tileSum_all] at h
  exact (congrFun (after0_12 m c t0_7) (ix2 k j)).trans h

theorem gw_array (q : Fin 4) (r d : Fin 256) : (Dat.arrAt (dats m 0 c) 13 cfg0.N : S4x256x256.Idx → EReal) (ix3 q r d) = ∑ i, gwPart w y i q r d := by
  refine ((dats m 0 c).arrAt_emb_eq_after_last 13 t0_7 (by decide +kernel) (ix3 q r d)).trans ?_
  have h := (run_at hy 7 t0_7.isLt).2.2.1 q r d
  rw [tileSum_all] at h
  exact (congrFun (after0_13 m c t0_7) (ix3 q r d)).trans h

theorem small_array (r : Fin 8) (j : Fin 1024) : (Dat.arrAt (dats m 0 c) 14 cfg0.N : S8x1024.Idx → EReal) (ix2 r j) = ∑ i, small w y i r j := by
  refine ((dats m 0 c).arrAt_emb_eq_after_last 14 t0_7 (by decide +kernel) (ix2 r j)).trans ?_
  have h := (run_at hy 7 t0_7.isLt).2.2.2 r j
  rw [tileSum_all] at h
  exact (congrFun (after0_14 m c t0_7) (ix2 r j)).trans h

end Cert.Kernel4Ideal.Own

end
-- ==== Proof.Pool.Reference.lean ====
/-
  The reference of the pooling mixer's backward call, over the extended reals: its five results at an index are the formulas of
  `Row.lean`, where everything but the residual is real.
-/
module

public import proofs.«01_k».proof.Proof.Gen.Reference4Ideal.Run
public import proofs.«01_k».proof.Proof.Pool.Shifts
public import Idealize.ShloMosaic.Lib.Pointwise
public import Idealize.ShloMosaic.Lib.KernelVsHost

@[expose] public section

set_option maxRecDepth 16384

noncomputable section

namespace Cert.Reference4Ideal.Own

open Idealize.ShloMosaic Idealize.SL.Sem Cert.Reference4Ideal Cert.Reference4Ideal.Gen Cert.Reference4Ideal.Value
open Cert.Pool
open Cert.Head (word_one word_1024 word_eps word_neg_half back part place col part_col place_col col_part_place)

/-- A column, as the reshapes to and from groups name it. -/
theorem flat (g : Fin 4) (e : Fin 256) (h : g.val * 256 + e.val < 1024) : (⟨g.val * 256 + e.val, h⟩ : Fin 1024) = col g e := Fin.ext (by simp only [col]; omega)
theorem part_ix (j : Fin 1024) (h : j.val / 256 < 4) : (⟨j.val / 256, h⟩ : Fin 4) = part j := rfl
theorem place_ix (j : Fin 1024) (h : j.val % 256 < 256) : (⟨j.val % 256, h⟩ : Fin 256) = place j := rfl

/-! ## A group's windows -/

/-- The zero that running sums start from. -/
abbrev start : S_.Idx → EReal := broadcastInDim S_ ![] bcast_S_S_ (constant (F := Ideal) S_ .f32 0x00000000#32)
theorem start_eq : start = fun _ => 0 := funext fun _ => by simp only [start, pointwise]
theorem zero_eq : (constant (F := Ideal) S_ .f32 0x00000000#32 : S_.Idx → EReal) = fun _ => 0 := funext fun _ => by simp only [pointwise]

/-- The counts of a window's rows. -/
def hostCount (n : BitVec 32) : S4096x1.Idx → EReal := broadcastInDim S4096x1 ![0] bcast_S4096_S4096x1_0 (sitofp (F := Ideal) .f32
  (minsi (addi (broadcastInDim S4096 ![] bcast_S_S4096 (constantI S_ 32 1#32)) (iotaInDim S4096 32 0)) (broadcastInDim S4096 ![] bcast_S_S4096 (constantI S_ 32 n))))

theorem hostCount_at (g : Fin 4) (t : Fin 4096) : hostCount (BitVec.ofNat 32 (win g)) (ix2 t 0) = ((count g t.val : ℝ) : EReal) := by
  unfold hostCount
  rw [← count_word]
  pointwise
  rw [BitVec.add_comm]
  rfl

/-- A group's columns, and their running sums. -/
def hostGroup (g : ℕ) (h : S4096x4x256.Slices ![0, g, 0] S4096x1x256) (z : S4096x4x256.Idx → EReal) : S4096x256.Idx → EReal :=
  shapeCast S4096x256 (extractStridedSlice S4096x1x256 ![0, g, 0] z h) shapeCasts_S4096x1x256_S4096x256
def hostUpto (z : S4096x256.Idx → EReal) : S4096x256.Idx → EReal :=
  Host.reduceWindowAdd (F := Ideal) (φ := .f32) ![4096, 1] ![1, 1] ![4095, 0] ![0, 0] z start reduceWindows_S4096x256_S4096x256_w4096s1p4095_0_w1s1p0_0 h_S_

theorem hostGroup_at (g : Fin 4) (h : S4096x4x256.Slices ![0, g.val, 0] S4096x1x256) (z : S4096x4x256.Idx → EReal) (t : Fin 4096) (e : Fin 256) :
    hostGroup g.val h z (ix2 t e) = z (ix3 t g e) := by
  unfold hostGroup
  pointwise

theorem hostUpto_at (z : S4096x256.Idx → EReal) (t : Fin 4096) (e : Fin 256) : hostUpto z (ix2 t e) = upto (grow fun s => z (ix2 s e)) t.val := by
  unfold hostUpto
  rw [start_eq]
  simp only [Host.reduceWindowAdd, Ideal.hostReduceWindowAdd_def]
  exact before_sums z reduceWindows_S4096x256_S4096x256_w4096s1p4095_0_w1s1p0_0 t e

/-- The trailing means from the running sums. -/
def hostShift {n k : ℕ} (hb : S_.BroadcastsInDim ⟨2, ![n, 256]⟩ ![]) (hs : S4096x256.Slices ![0, 0] ⟨2, ![k, 256]⟩)
    (hc : Shape.Concatenates [⟨2, ![n, 256]⟩, ⟨2, ![k, 256]⟩] S4096x256 0) (z : S4096x256.Idx → EReal) : S4096x256.Idx → EReal :=
  concatenate S4096x256 0 [⟨⟨2, ![n, 256]⟩, broadcastInDim ⟨2, ![n, 256]⟩ ![] hb (constant (F := Ideal) S_ .f32 0x00000000#32)⟩,
    ⟨⟨2, ![k, 256]⟩, extractStridedSlice ⟨2, ![k, 256]⟩ ![0, 0] z hs⟩] hc

theorem hostShift_at {n k : ℕ} (hb : S_.BroadcastsInDim ⟨2, ![n, 256]⟩ ![]) (hs : S4096x256.Slices ![0, 0] ⟨2, ![k, 256]⟩)
    (hc : Shape.Concatenates [⟨2, ![n, 256]⟩, ⟨2, ![k, 256]⟩] S4096x256 0) (z : S4096x256.Idx → EReal) (t : Fin 4096) (e : Fin 256) :
    hostShift hb hs hc z (ix2 t e) = if n ≤ t.val then z (ix2 ⟨t.val - n, by omega⟩ e) else 0 := by
  unfold hostShift
  pointwise
  by_cases h : n ≤ t.val
  · rw [dif_neg (show ¬t.val < n by omega), if_pos h]
    refine congrArg₂ (fun a b => z (ix2 a b)) (Fin.ext ?_) (Fin.ext ?_)
    · rfl
    · rfl
  · rw [dif_pos (show t.val < n by omega), if_neg h]

/-- A group's trailing means: the running sums less the running sums a window before, over the count. -/
theorem mean_at {n k : ℕ} (g : Fin 4) (hb : S_.BroadcastsInDim ⟨2, ![n, 256]⟩ ![]) (hs : S4096x256.Slices ![0, 0] ⟨2, ![k, 256]⟩)
    (hc : Shape.Concatenates [⟨2, ![n, 256]⟩, ⟨2, ![k, 256]⟩] S4096x256 0) (hn : n = win g) (z : S4096x256.Idx → EReal) (q : S4096x1.Idx → EReal)
    (f : Fin 4096 → EReal) (e : Fin 256) (hz : ∀ t : Fin 4096, z (ix2 t e) = upto (grow f) t.val) (t : Fin 4096) (hq : q (ix2 t 0) = ((count g t.val : ℝ) : EReal)) :
    Host.divf (F := Ideal) (φ := .f32) (subf z (hostShift hb hs hc z)) (broadcastInDim S4096x256 ![0, 1] bcast_S4096x1_S4096x256_0_1 q) (ix2 t e)
      = Ideal.div (upto (grow f) t.val - (if win g ≤ t.val then upto (grow f) (t.val - win g) else 0)) (count g t.val : EReal) := by
  subst hn
  pointwise [hostShift_at, hz, hq]

/-- Four groups side by side. -/
theorem four_at (a0 a1 a2 a3 : S4096x256.Idx → EReal) (t : Fin 4096) (e : Fin 256) (f : Fin 4 → EReal) (h0 : a0 (ix2 t e) = f 0) (h1 : a1 (ix2 t e) = f 1)
    (h2 : a2 (ix2 t e) = f 2) (h3 : a3 (ix2 t e) = f 3) (g : Fin 4) :
    concatenate S4096x4x256 1 [⟨S4096x1x256, broadcastInDim S4096x1x256 ![0, 2] bcast_S4096x256_S4096x1x256_0_2 a0⟩,
      ⟨S4096x1x256, broadcastInDim S4096x1x256 ![0, 2] bcast_S4096x256_S4096x1x256_0_2 a1⟩, ⟨S4096x1x256, broadcastInDim S4096x1x256 ![0, 2] bcast_S4096x256_S4096x1x256_0_2 a2⟩,
      ⟨S4096x1x256, broadcastInDim S4096x1x256 ![0, 2] bcast_S4096x256_S4096x1x256_0_2 a3⟩] concatenates_S4096x1x256_S4096x1x256_S4096x1x256_S4096x1x256_S4096x4x256_d1 (ix3 t g e)
      = f g := by
  pointwise [h0, h1, h2, h3]
  fin_cases g <;> rfl

/-- A group's rows, each with the one a window on taken away, summed to the end. -/
def hostLead {n s : ℕ} (hs : S4096x256.Slices ![s, 0] ⟨2, ![n, 256]⟩) (hp : (⟨2, ![n, 256]⟩ : Shape).Pads ![0, 0] ![s, 0] ![0, 0] S4096x256) (a : S4096x256.Idx → EReal) :
    S4096x256.Idx → EReal :=
  Host.reduceWindowAdd (F := Ideal) (φ := .f32) ![4096, 1] ![1, 1] ![0, 0] ![4095, 0] (addf (F := Ideal) (φ := .f32) a
    (pad S4096x256 ![0, 0] ![s, 0] ![0, 0] (extractStridedSlice ⟨2, ![n, 256]⟩ ![s, 0] (Host.negf (F := Ideal) (φ := .f32) a) hs) (constant (F := Ideal) S_ .f32 0x00000000#32) hp h_S_))
    start reduceWindows_S4096x256_S4096x256_w4096s1p0_4095_w1s1p0_0 h_S_

theorem hostLead_at {n s : ℕ} (hs : S4096x256.Slices ![s, 0] ⟨2, ![n, 256]⟩) (hp : (⟨2, ![n, 256]⟩ : Shape).Pads ![0, 0] ![s, 0] ![0, 0] S4096x256) (hn : n + s = 4096)
    (a : S4096x256.Idx → EReal) (f : ℕ → EReal) (e : Fin 256) (ha : ∀ t : Fin 4096, a (ix2 t e) = f t.val) (t : Fin 4096) :
    hostLead hs hp a (ix2 t e) = ∑ k ∈ Finset.Ico t.val 4096, (f k + if k + s < 4096 then -f (k + s) else 0) := by
  unfold hostLead
  rw [start_eq, zero_eq]
  simp only [Host.reduceWindowAdd, Ideal.hostReduceWindowAdd_def]
  refine (after_sums _ reduceWindows_S4096x256_S4096x256_w4096s1p0_4095_w1s1p0_0 t e).trans (Finset.sum_congr rfl fun k hk => ?_)
  have hk' : k < 4096 := (Finset.mem_Ico.mp hk).2
  refine (dif_pos hk').trans ?_
  beta_reduce
  rw [addf_apply, shift_up _ _ _ _ hn, ha ⟨k, hk'⟩]
  refine congrArg (f k + ·) ?_
  by_cases h : k + s < 4096
  · rw [dif_pos h, if_pos h]
    exact congrArg (- ·) (ha ⟨k + s, h⟩)
  · rw [dif_neg h, if_neg h]

/-- Rows with each group's columns added to. -/
theorem rows_at (z : S4096x4x256.Idx → EReal) (b0 b1 b2 b3 : S4096x256.Idx → EReal) (t : Fin 4096) (e : Fin 256) (f : Fin 4 → EReal) (h0 : b0 (ix2 t e) = f 0) (h1 : b1 (ix2 t e) = f 1)
    (h2 : b2 (ix2 t e) = f 2) (h3 : b3 (ix2 t e) = f 3) (g : Fin 4) :
    addf (F := Ideal) (φ := .f32) (addf (addf (addf (Host.negf z)
      (pad S4096x4x256 ![0, 3, 0] ![0, 0, 0] ![0, 0, 0] (broadcastInDim S4096x1x256 ![0, 2] bcast_S4096x256_S4096x1x256_0_2 b3) (constant S_ .f32 0x00000000#32) pads_S4096x1x256_S4096x4x256_000_300_000 h_S_))
      (pad S4096x4x256 ![0, 2, 0] ![0, 1, 0] ![0, 0, 0] (broadcastInDim S4096x1x256 ![0, 2] bcast_S4096x256_S4096x1x256_0_2 b2) (constant S_ .f32 0x00000000#32) pads_S4096x1x256_S4096x4x256_000_210_000 h_S_))
      (pad S4096x4x256 ![0, 1, 0] ![0, 2, 0] ![0, 0, 0] (broadcastInDim S4096x1x256 ![0, 2] bcast_S4096x256_S4096x1x256_0_2 b1) (constant S_ .f32 0x00000000#32) pads_S4096x1x256_S4096x4x256_000_120_000 h_S_))
      (pad S4096x4x256 ![0, 0, 0] ![0, 3, 0] ![0, 0, 0] (broadcastInDim S4096x1x256 ![0, 2] bcast_S4096x256_S4096x1x256_0_2 b0) (constant S_ .f32 0x00000000#32) pads_S4096x1x256_S4096x4x256_000_030_000 h_S_)
      (ix3 t g e) = -z (ix3 t g e) + f g := by
  pointwise [h0, h1, h2, h3]
  generalize -z (ix3 t g e) = c
  fin_cases g <;> simp

/-! ## The run's values, one by one -/

/-- The arguments hold these weights and rows. -/
abbrev Holds (V : Valuation τ sig (Elt Ideal)) (w : Weights) (y : Fin 4096 → Row) : Prop :=
  Data (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) w y

variable {V : Valuation τ sig (Elt Ideal)} {w : Weights} {y : Fin 4096 → Row} (hy : Holds V w y) (ht : Tame w y)

section
variable (V)
theorem v24_eq : (res_main_v24 V : S4096x256.Idx → EReal) = hostUpto (hostGroup 0 slices_S4096x4x256_S4096x1x256_0_0_0 (res_main_v21 V)) := rfl
theorem v41_eq : (res_main_v41 V : S4096x256.Idx → EReal) = hostUpto (hostGroup 1 slices_S4096x4x256_S4096x1x256_0_1_0 (res_main_v21 V)) := rfl
theorem v58_eq : (res_main_v58 V : S4096x256.Idx → EReal) = hostUpto (hostGroup 2 slices_S4096x4x256_S4096x1x256_0_2_0 (res_main_v21 V)) := rfl
theorem v75_eq : (res_main_v75 V : S4096x256.Idx → EReal) = hostUpto (hostGroup 3 slices_S4096x4x256_S4096x1x256_0_3_0 (res_main_v21 V)) := rfl
theorem v36_eq : (res_main_v36 V : S4096x1.Idx → EReal) = hostCount (BitVec.ofNat 32 (win 0)) := rfl
theorem v53_eq : (res_main_v53 V : S4096x1.Idx → EReal) = hostCount (BitVec.ofNat 32 (win 1)) := rfl
theorem v70_eq : (res_main_v70 V : S4096x1.Idx → EReal) = hostCount (BitVec.ofNat 32 (win 2)) := rfl
theorem v87_eq : (res_main_v87 V : S4096x1.Idx → EReal) = hostCount (BitVec.ofNat 32 (win 3)) := rfl

/-- The trailing means' quotients. -/
def mean0 : S4096x256.Idx → EReal := Host.divf (F := Ideal) (φ := .f32) (subf (res_main_v24 V) (hostShift bcast_S_S2x256 slices_S4096x256_S4094x256_0_0 concatenates_S2x256_S4094x256_S4096x256_d0 (res_main_v24 V)))
  (broadcastInDim S4096x256 ![0, 1] bcast_S4096x1_S4096x256_0_1 (res_main_v36 V))
def mean1 : S4096x256.Idx → EReal := Host.divf (F := Ideal) (φ := .f32) (subf (res_main_v41 V) (hostShift bcast_S_S4x256 slices_S4096x256_S4092x256_0_0 concatenates_S4x256_S4092x256_S4096x256_d0 (res_main_v41 V)))
  (broadcastInDim S4096x256 ![0, 1] bcast_S4096x1_S4096x256_0_1 (res_main_v53 V))
def mean2 : S4096x256.Idx → EReal := Host.divf (F := Ideal) (φ := .f32) (subf (res_main_v58 V) (hostShift bcast_S_S8x256 slices_S4096x256_S4088x256_0_0 concatenates_S8x256_S4088x256_S4096x256_d0 (res_main_v58 V)))
  (broadcastInDim S4096x256 ![0, 1] bcast_S4096x1_S4096x256_0_1 (res_main_v70 V))
def mean3 : S4096x256.Idx → EReal := Host.divf (F := Ideal) (φ := .f32) (subf (res_main_v75 V) (hostShift bcast_S_S16x256 slices_S4096x256_S4080x256_0_0 concatenates_S16x256_S4080x256_S4096x256_d0 (res_main_v75 V)))
  (broadcastInDim S4096x256 ![0, 1] bcast_S4096x1_S4096x256_0_1 (res_main_v87 V))

theorem v95_eq : (res_main_v95 V : S4096x4x256.Idx → EReal) = subf (F := Ideal) (φ := .f32) (concatenate S4096x4x256 1
    [⟨S4096x1x256, broadcastInDim S4096x1x256 ![0, 2] bcast_S4096x256_S4096x1x256_0_2 (mean0 V)⟩, ⟨S4096x1x256, broadcastInDim S4096x1x256 ![0, 2] bcast_S4096x256_S4096x1x256_0_2 (mean1 V)⟩,
      ⟨S4096x1x256, broadcastInDim S4096x1x256 ![0, 2] bcast_S4096x256_S4096x1x256_0_2 (mean2 V)⟩, ⟨S4096x1x256, broadcastInDim S4096x1x256 ![0, 2] bcast_S4096x256_S4096x1x256_0_2 (mean3 V)⟩]
    concatenates_S4096x1x256_S4096x1x256_S4096x1x256_S4096x1x256_S4096x4x256_d1) (res_main_v21 V) := rfl

/-- The cotangents of the projection's pooled half, before the groups are laid side by side. -/
def cotangents : S4096x4x256.Idx → EReal := addf (F := Ideal) (φ := .f32) (addf (addf (addf (Host.negf (res_main_v126 V))
      (pad S4096x4x256 ![0, 3, 0] ![0, 0, 0] ![0, 0, 0] (broadcastInDim S4096x1x256 ![0, 2] bcast_S4096x256_S4096x1x256_0_2 (hostLead slices_S4096x256_S4080x256_16_0 pads_S4080x256_S4096x256_0160_000 (res_main_v139 V)))
        (constant S_ .f32 0x00000000#32) pads_S4096x1x256_S4096x4x256_000_300_000 h_S_))
      (pad S4096x4x256 ![0, 2, 0] ![0, 1, 0] ![0, 0, 0] (broadcastInDim S4096x1x256 ![0, 2] bcast_S4096x256_S4096x1x256_0_2 (hostLead slices_S4096x256_S4088x256_8_0 pads_S4088x256_S4096x256_080_000 (res_main_v150 V)))
        (constant S_ .f32 0x00000000#32) pads_S4096x1x256_S4096x4x256_000_210_000 h_S_))
      (pad S4096x4x256 ![0, 1, 0] ![0, 2, 0] ![0, 0, 0] (broadcastInDim S4096x1x256 ![0, 2] bcast_S4096x256_S4096x1x256_0_2 (hostLead slices_S4096x256_S4092x256_4_0 pads_S4092x256_S4096x256_040_000 (res_main_v161 V)))
        (constant S_ .f32 0x00000000#32) pads_S4096x1x256_S4096x4x256_000_120_000 h_S_))
      (pad S4096x4x256 ![0, 0, 0] ![0, 3, 0] ![0, 0, 0] (broadcastInDim S4096x1x256 ![0, 2] bcast_S4096x256_S4096x1x256_0_2 (hostLead slices_S4096x256_S4094x256_2_0 pads_S4094x256_S4096x256_020_000 (res_main_v172 V)))
        (constant S_ .f32 0x00000000#32) pads_S4096x1x256_S4096x4x256_000_030_000 h_S_)

/-- The gate's cotangents. -/
def gateCotangents : S4096x1024.Idx → EReal := addf (F := Ideal) (φ := .f32) (mulf (res_main_v111 V) (res_main_v105_2 V)) (mulf (mulf (res_main_v20 V) (res_main_v111 V))
  (mulf (res_main_v105_2 V) (subf (broadcastInDim S4096x1024 ![] bcast_S_S4096x1024 (constant S_ .f32 0x3F800000#32)) (res_main_v105_2 V))))

theorem v183_eq : (res_main_v183 V : S4096x2048.Idx → EReal) = concatenate S4096x2048 1 [⟨S4096x1024, shapeCast S4096x1024 (cotangents V) shapeCasts_S4096x4x256_S4096x1024⟩,
    ⟨S4096x1024, gateCotangents V⟩] concatenates_S4096x1024_S4096x1024_S4096x2048_d1 := rfl

theorem v139_eq : (res_main_v139 V : S4096x256.Idx → EReal) = Host.divf (F := Ideal) (φ := .f32) (hostGroup 3 slices_S4096x4x256_S4096x1x256_0_3_0 (res_main_v126 V))
    (broadcastInDim S4096x256 ![0, 1] bcast_S4096x1_S4096x256_0_1 (res_main_v87 V)) := rfl
theorem v150_eq : (res_main_v150 V : S4096x256.Idx → EReal) = Host.divf (F := Ideal) (φ := .f32) (hostGroup 2 slices_S4096x4x256_S4096x1x256_0_2_0 (res_main_v126 V))
    (broadcastInDim S4096x256 ![0, 1] bcast_S4096x1_S4096x256_0_1 (res_main_v70 V)) := rfl
theorem v161_eq : (res_main_v161 V : S4096x256.Idx → EReal) = Host.divf (F := Ideal) (φ := .f32) (hostGroup 1 slices_S4096x4x256_S4096x1x256_0_1_0 (res_main_v126 V))
    (broadcastInDim S4096x256 ![0, 1] bcast_S4096x1_S4096x256_0_1 (res_main_v53 V)) := rfl
theorem v172_eq : (res_main_v172 V : S4096x256.Idx → EReal) = Host.divf (F := Ideal) (φ := .f32) (hostGroup 0 slices_S4096x4x256_S4096x1x256_0_0_0 (res_main_v126 V))
    (broadcastInDim S4096x256 ![0, 1] bcast_S4096x1_S4096x256_0_1 (res_main_v36 V)) := rfl
end

end Cert.Reference4Ideal.Own

end
-- ==== Proof.Pool.Grads.lean ====
/-
  The reference of the pooling mixer's backward call, value by value: its five results at an index are the formulas of `Row.lean`,
  where everything but the residual is real.
-/
module

public import proofs.«01_k».proof.Proof.Pool.Reference

@[expose] public section

set_option maxRecDepth 16384

noncomputable section

namespace Cert.Reference4Ideal.Own

open Idealize.ShloMosaic Idealize.SL.Sem Cert.Reference4Ideal Cert.Reference4Ideal.Gen Cert.Reference4Ideal.Value
open Cert.Pool
open Cert.Head (word_one word_1024 word_eps word_neg_half back part place col part_col place_col col_part_place)

variable {V : Valuation τ sig (Elt Ideal)} {w : Weights} {y : Fin 4096 → Row} (hy : Holds V w y) (ht : Tame w y)
include hy

variable (i : Fin 4096) (g : Fin 4) (e : Fin 256) (j : Fin 1024)

theorem v7_at : (res_main_v7 V : S4096x1.Idx → EReal) (ix2 i 0) = ms y i := by
  unfold res_main_v7
  pointwise [hy.x, word_1024, word_eps, ms]

theorem v8_at : (res_main_v8 V : S4096x1.Idx → EReal) (ix2 i 0) = root y i := by
  unfold res_main_v8
  pointwise [v7_at hy]
  rfl

theorem v13_at : (res_main_v13 V : S4096x1024.Idx → EReal) (ix2 i j) = hat y i j := by
  unfold res_main_v13
  pointwise [hy.x, v8_at hy, hat]

theorem v14_at : (res_main_v14 V : S1x1024.Idx → EReal) (ix2 0 j) = w.nw j := by
  unfold res_main_v14
  pointwise [hy.nw]

theorem v17_at (k : Fin 2048) : (res_main_v17 V : S4096x2048.Idx → EReal) (ix2 i k) = proj w y i k := by
  unfold res_main_v17
  pointwise [v13_at hy, v14_at hy, hy.inw, proj]

theorem v20_at : (res_main_v20 V : S4096x1024.Idx → EReal) (ix2 i j) = gate w y i j := by
  unfold res_main_v20
  pointwise [v17_at hy, gate]

theorem v21_at : (res_main_v21 V : S4096x4x256.Idx → EReal) (ix3 i g e) = u w y i (col g e) := by
  unfold res_main_v21
  pointwise [v17_at hy]
  exact congrArg (proj w y i) (Fin.ext (by show g.val * 256 + e.val = 256 * g.val + e.val; omega))

/-! ## The trailing means -/

theorem upto_at (h : S4096x4x256.Slices ![0, g.val, 0] S4096x1x256) :
    hostUpto (hostGroup g.val h (res_main_v21 V)) (ix2 i e) = upto (grow fun s => u w y s (col g e)) i.val := by
  rw [hostUpto_at]
  exact congrArg (fun f => upto (grow f) i.val) (funext fun s => (hostGroup_at g h _ s e).trans (v21_at hy s g e))

theorem mean0_at : mean0 V (ix2 i e) = Ideal.div (upto (grow fun s => u w y s (col 0 e)) i.val
    - (if win 0 ≤ i.val then upto (grow fun s => u w y s (col 0 e)) (i.val - win 0) else 0)) (count 0 i.val : EReal) := by
  unfold mean0
  refine mean_at 0 _ _ _ rfl _ _ (fun s => u w y s (col 0 e)) e (fun s => ?_) i ?_
  · rw [v24_eq]; exact upto_at hy s 0 e slices_S4096x4x256_S4096x1x256_0_0_0
  · rw [v36_eq]; exact hostCount_at 0 i

theorem mean1_at : mean1 V (ix2 i e) = Ideal.div (upto (grow fun s => u w y s (col 1 e)) i.val
    - (if win 1 ≤ i.val then upto (grow fun s => u w y s (col 1 e)) (i.val - win 1) else 0)) (count 1 i.val : EReal) := by
  unfold mean1
  refine mean_at 1 _ _ _ rfl _ _ (fun s => u w y s (col 1 e)) e (fun s => ?_) i ?_
  · rw [v41_eq]; exact upto_at hy s 1 e slices_S4096x4x256_S4096x1x256_0_1_0
  · rw [v53_eq]; exact hostCount_at 1 i

theorem mean2_at : mean2 V (ix2 i e) = Ideal.div (upto (grow fun s => u w y s (col 2 e)) i.val
    - (if win 2 ≤ i.val then upto (grow fun s => u w y s (col 2 e)) (i.val - win 2) else 0)) (count 2 i.val : EReal) := by
  unfold mean2
  refine mean_at 2 _ _ _ rfl _ _ (fun s => u w y s (col 2 e)) e (fun s => ?_) i ?_
  · rw [v58_eq]; exact upto_at hy s 2 e slices_S4096x4x256_S4096x1x256_0_2_0
  · rw [v70_eq]; exact hostCount_at 2 i

theorem mean3_at : mean3 V (ix2 i e) = Ideal.div (upto (grow fun s => u w y s (col 3 e)) i.val
    - (if win 3 ≤ i.val then upto (grow fun s => u w y s (col 3 e)) (i.val - win 3) else 0)) (count 3 i.val : EReal) := by
  unfold mean3
  refine mean_at 3 _ _ _ rfl _ _ (fun s => u w y s (col 3 e)) e (fun s => ?_) i ?_
  · rw [v75_eq]; exact upto_at hy s 3 e slices_S4096x4x256_S4096x1x256_0_3_0
  · rw [v87_eq]; exact hostCount_at 3 i

include ht in
theorem v95_at : (res_main_v95 V : S4096x4x256.Idx → EReal) (ix3 i g e) = pooled w y i (col g e) := by
  rw [v95_eq, subf_apply, four_at (mean0 V) (mean1 V) (mean2 V) (mean3 V) i e
    (fun g => Ideal.div (upto (grow fun s => u w y s (col g e)) i.val - (if win g ≤ i.val then upto (grow fun s => u w y s (col g e)) (i.val - win g) else 0)) (Pool.count g i.val : EReal))
    (mean0_at hy i e) (mean1_at hy i e) (mean2_at hy i e) (mean3_at hy i e) g, v21_at hy]
  have h := pooled_back (y := y) ht.toMild i (col g e)
  rw [part_col] at h
  exact h

include ht in
theorem v101_at : (res_main_v101 V : S4096x1024.Idx → EReal) (ix2 i j) = mixed w y i j := by
  unfold res_main_v101
  pointwise
  rw [part_ix, place_ix]
  pointwise [hy.gw, hy.gb, v95_at hy ht, mixed]
  exact congrArg (· + w.gb (part j) (place j)) (Finset.sum_congr rfl fun a _ => mul_comm (w.gw (part j) a (place j)) (pooled w y i (col (part j) a)))

theorem v102_at : (res_main_v102 V : S1x1024.Idx → EReal) (ix2 0 j) = w.sc j := by
  unfold res_main_v102
  pointwise [hy.sc]

include ht in
theorem v104_at : (res_main_v104 V : S4096x1024.Idx → EReal) (ix2 i j) = mixed w y i j * w.sc j := by
  unfold res_main_v104
  pointwise [v101_at hy ht, v102_at hy]

theorem v105_2_at : (res_main_v105_2 V : S4096x1024.Idx → EReal) (ix2 i j) = sg w y i j := by
  unfold res_main_v105_2
  pointwise [v20_at hy, word_one, sg, Cert.Project.slope]

theorem v105_0_at : (res_main_v105_0 V : S4096x1024.Idx → EReal) (ix2 i j) = silu w y i j := by
  unfold res_main_v105_0
  pointwise [v20_at hy, v105_2_at hy, silu]

include ht in
theorem v106_at : (res_main_v106 V : S4096x1024.Idx → EReal) (ix2 i j) = mixed w y i j * w.sc j * silu w y i j := by
  unfold res_main_v106
  pointwise [v104_at hy ht, v105_0_at hy]

theorem v110_at : (res_main_v110 V : S4096x1024.Idx → EReal) (ix2 i j) = dy w y i j := by
  unfold res_main_v110
  pointwise [hy.dh, hy.ow, dy]

include ht in
theorem v111_at : (res_main_v111 V : S4096x1024.Idx → EReal) (ix2 i j) = mixed w y i j * w.sc j * dy w y i j := by
  unfold res_main_v111
  pointwise [v104_at hy ht, v110_at hy]

theorem v112_at : (res_main_v112 V : S4096x1024.Idx → EReal) (ix2 i j) = dy w y i j * silu w y i j := by
  unfold res_main_v112
  pointwise [v110_at hy, v105_0_at hy]

theorem v120_at : (res_main_v120 V : S4096x4x256.Idx → EReal) (ix3 i g e) = dmixed w y i (col g e) := by
  unfold res_main_v120
  pointwise
  rw [flat]
  pointwise [v112_at hy, v102_at hy]
  exact mul_right_comm (dy w y i (col g e)) (silu w y i (col g e)) (w.sc (col g e))

theorem v124_at : (res_main_v124 V : S4x256x4096.Idx → EReal) (ix3 g e i) = dmixed w y i (col g e) := by
  unfold res_main_v124
  pointwise [v120_at hy]

theorem v126_at : (res_main_v126 V : S4096x4x256.Idx → EReal) (ix3 i g e) = dpool w y i (col g e) := by
  unfold res_main_v126
  pointwise [v124_at hy, hy.gw, dpool, part_col, place_col]

/-! ## The leading sums -/

include ht in
theorem share_at (h : S4096x4x256.Slices ![0, g.val, 0] S4096x1x256) (q : S4096x1.Idx → EReal) (hq : q (ix2 i 0) = ((count g i.val : ℝ) : EReal)) :
    Host.divf (F := Ideal) (φ := .f32) (hostGroup g.val h (res_main_v126 V)) (broadcastInDim S4096x256 ![0, 1] bcast_S4096x1_S4096x256_0_1 q) (ix2 i e)
      = share w y (col g e) i.val := by
  pointwise [hostGroup_at, v126_at hy, hq]
  rw [div_count (dpool_real ht i _)]
  unfold share
  rw [grow_val (fun s => dpool w y s (col g e) * Cert.Pool.inv (part (col g e)) s.val) i, part_col]

include ht in
theorem v172_at : (res_main_v172 V : S4096x256.Idx → EReal) (ix2 i e) = share w y (col 0 e) i.val := by
  rw [v172_eq]
  exact share_at hy ht i 0 e slices_S4096x4x256_S4096x1x256_0_0_0 _ (by rw [v36_eq]; exact hostCount_at 0 i)

include ht in
theorem v161_at : (res_main_v161 V : S4096x256.Idx → EReal) (ix2 i e) = share w y (col 1 e) i.val := by
  rw [v161_eq]
  exact share_at hy ht i 1 e slices_S4096x4x256_S4096x1x256_0_1_0 _ (by rw [v53_eq]; exact hostCount_at 1 i)

include ht in
theorem v150_at : (res_main_v150 V : S4096x256.Idx → EReal) (ix2 i e) = share w y (col 2 e) i.val := by
  rw [v150_eq]
  exact share_at hy ht i 2 e slices_S4096x4x256_S4096x1x256_0_2_0 _ (by rw [v70_eq]; exact hostCount_at 2 i)

include ht in
theorem v139_at : (res_main_v139 V : S4096x256.Idx → EReal) (ix2 i e) = share w y (col 3 e) i.val := by
  rw [v139_eq]
  exact share_at hy ht i 3 e slices_S4096x4x256_S4096x1x256_0_3_0 _ (by rw [v87_eq]; exact hostCount_at 3 i)

include ht in
theorem cotangents_at : cotangents V (ix3 i g e) = du w y i (col g e) := by
  unfold cotangents
  refine (rows_at (res_main_v126 V) _ _ _ _ i e
    (fun g => ∑ s ∈ Finset.Ico i.val 4096, (share w y (col g e) s + if s + win g < 4096 then -share w y (col g e) (s + win g) else 0))
    (hostLead_at _ _ rfl _ _ e (fun t => v172_at hy ht t e) i) (hostLead_at _ _ rfl _ _ e (fun t => v161_at hy ht t e) i)
    (hostLead_at _ _ rfl _ _ e (fun t => v150_at hy ht t e) i) (hostLead_at _ _ rfl _ _ e (fun t => v139_at hy ht t e) i) g).trans ?_
  rw [v126_at hy]
  have h := du_back ht i (col g e)
  rw [part_col] at h
  exact h

include ht in
theorem gateCotangents_at : gateCotangents V (ix2 i j) = dgate w y i j := by
  unfold gateCotangents
  pointwise [v111_at hy ht, v105_2_at hy, v20_at hy, word_one]
  exact dgate_back ht i j

include ht in
theorem flatCotangents_at : (shapeCast S4096x1024 (cotangents V) shapeCasts_S4096x4x256_S4096x1024 : S4096x1024.Idx → EReal) (ix2 i j) = du w y i j := by
  pointwise
  rw [part_ix, place_ix, cotangents_at hy ht, col_part_place]

omit hy in
/-- Two halves side by side. -/
theorem halves_at (a b : S4096x1024.Idx → EReal) (k : Fin 2048) : concatenate S4096x2048 1 [⟨S4096x1024, a⟩, ⟨S4096x1024, b⟩] concatenates_S4096x1024_S4096x1024_S4096x2048_d1 (ix2 i k)
    = if h : k.val < 1024 then a (ix2 i ⟨k.val, h⟩) else b (ix2 i ⟨k.val - 1024, by omega⟩) := by
  pointwise

include ht in
/-- The second result. -/
theorem v183_at (k : Fin 2048) : (res_main_v183 V : S4096x2048.Idx → EReal) (ix2 i k) = dproj w y i k := by
  rw [v183_eq]
  refine (halves_at i _ _ k).trans ?_
  unfold dproj
  by_cases h : k.val < 1024
  · rw [dif_pos h, dif_pos h, flatCotangents_at hy ht]
  · rw [dif_neg h, dif_neg h, gateCotangents_at hy ht]

include ht in
theorem v184_at : (res_main_v184 V : S4096x1024.Idx → EReal) (ix2 i j) = dn w y i j := by
  unfold res_main_v184
  pointwise [v183_at hy ht, hy.inw, dn]

include ht in
theorem v189_at : (res_main_v189 V : S4096x1024.Idx → EReal) (ix2 i j) = dn w y i j * w.nw j := by
  unfold res_main_v189
  pointwise [v184_at hy ht, v14_at hy]

include ht in
/-- What the norm's statistic passes back. -/
theorem v201_at : (res_main_v201 V : S4096x1024.Idx → EReal) (ix2 i j) = back (y i).x (fun k => dn w y i k * w.nw k) (ms y i) (root y i) 1024 := by
  unfold res_main_v201
  pointwise
  rw [Fin.sum_univ_one]
  pointwise [hy.x, v189_at hy ht, v7_at hy, v8_at hy, word_neg_half, word_1024]
  rfl

/-! ## The other results -/

include ht in
/-- The first result. -/
theorem v205_at : (addf (F := Ideal) (φ := .f32) (addf (addf (V (Proc.devRef .tc main_arg1)) (mulf (res_main_v189 V) (broadcastInDim S4096x1024 ![0, 1] bcast_S4096x1_S4096x1024_0_1 (res_main_v8 V))))
      (mulf (V (Proc.devRef .tc main_arg0)) (res_main_v201 V))) (mulf (res_main_v201 V) (V (Proc.devRef .tc main_arg0))) : S4096x1024.Idx → EReal) (ix2 i j) = dx w y i j := by
  pointwise [hy.dh, hy.x, v189_at hy ht, v8_at hy, v201_at hy ht]
  exact norm_grad w y i j

include ht in
/-- The third result. -/
theorem v109_at (k : Fin 1024) : (transpose S1024x1024 [1, 0] (Host.dotGeneral (φ₁ := .f32) (φ₂ := .f32) dot_S4096x1024_S4096x1024_S1024x1024_0_0_1_1_n_n none (V (Proc.devRef .tc main_arg1)) (res_main_v106 V))
      transposes_S1024x1024_S1024x1024_1_0 : S1024x1024.Idx → EReal) (ix2 k j) = ∑ i, owPart w y i k j := by
  pointwise [hy.dh, v106_at hy ht]
  exact Finset.sum_congr rfl fun i _ => mul_comm _ _

include ht in
/-- The fourth result. -/
theorem v214_at (q : Fin 4) (r d : Fin 256) : (shapeCast S4x256x256 (transpose S4x4x64x256 [1, 0, 2, 3] (shapeCast S4x4x64x256 (transpose S4x256x256 [0, 2, 1]
      (Host.dotGeneral (φ₁ := .f32) (φ₂ := .f32) dot_S4x256x4096_S4096x4x256_S4x256x256_2_0_1_2_0_1 none (res_main_v124 V) (res_main_v95 V)) transposes_S4x256x256_S4x256x256_0_2_1) shapeCasts_S4x256x256_S4x4x64x256)
      transposes_S4x4x64x256_S4x4x64x256_1_0_2_3) shapeCasts_S4x4x64x256_S4x256x256 : S4x256x256.Idx → EReal) (ix3 q r d) = ∑ i, gwPart w y i q r d := by
  have hr : r = ⟨64 * (⟨r.val / 64, by omega⟩ : Fin 4).val + (⟨r.val % 64, by omega⟩ : Fin 64).val, by dsimp only; omega⟩ := Fin.ext (by dsimp only; omega)
  have hq := quarters_at (transpose S4x256x256 [0, 2, 1]
      (Host.dotGeneral (F := Ideal) (φ₁ := .f32) (φ₂ := .f32) dot_S4x256x4096_S4096x4x256_S4x256x256_2_0_1_2_0_1 none (res_main_v124 V) (res_main_v95 V)) transposes_S4x256x256_S4x256x256_0_2_1)
    shapeCasts_S4x256x256_S4x4x64x256 transposes_S4x4x64x256_S4x4x64x256_1_0_2_3 shapeCasts_S4x4x64x256_S4x256x256 q ⟨r.val / 64, by omega⟩ ⟨r.val % 64, by omega⟩ d
  rw [← hr] at hq
  refine hq.trans ?_
  pointwise [v124_at hy, v95_at hy ht]
  exact Finset.sum_congr rfl fun i _ => mul_comm _ _

omit hy in
variable (V) in
/-- The rows of the fifth result: the norm's weight, the scale, the groups' biases. -/
def normRow : S1x1024.Idx → EReal :=
  broadcastInDim S1x1024 ![1] bcast_S1024_S1x1024_1 (Host.reduceAdd (F := Ideal) (φ := .f32) (shapeCast _ (Host.reduceAdd (F := Ideal) (φ := .f32) (mulf (res_main_v13 V) (res_main_v184 V))
    (constant S_ .f32 0x00000000#32) reducesTo_S4096x1024_S1024_d0 h_S_) shapeCasts_S1024_S1x1024) (constant S_ .f32 0x00000000#32) reducesTo_S1x1024_S1024_d0 h_S_)
omit hy in
variable (V) in
def scaleRow : S1x1024.Idx → EReal :=
  broadcastInDim S1x1024 ![1] bcast_S1024_S1x1024_1 (Host.reduceAdd (F := Ideal) (φ := .f32) (shapeCast _ (Host.reduceAdd (F := Ideal) (φ := .f32) (mulf (res_main_v101 V) (res_main_v112 V))
    (constant S_ .f32 0x00000000#32) reducesTo_S4096x1024_S1024_d0 h_S_) shapeCasts_S1024_S1x1024) (constant S_ .f32 0x00000000#32) reducesTo_S1x1024_S1024_d0 h_S_)
omit hy in
variable (V) in
def biasRow : S1x1024.Idx → EReal :=
  shapeCast _ (Host.reduceAdd (F := Ideal) (φ := .f32) (shapeCast _ (Host.reduceAdd (F := Ideal) (φ := .f32) (res_main_v120 V) (constant S_ .f32 0x00000000#32) reducesTo_S4096x4x256_S4x256_d0 h_S_)
    shapeCasts_S4x256_S1x4x256) (constant S_ .f32 0x00000000#32) reducesTo_S1x4x256_S4x256_d0 h_S_) shapeCasts_S4x256_S1x1024

include ht in
theorem normRow_at : normRow V (ix2 0 j) = ∑ i, dn w y i j * hat y i j := by
  unfold normRow
  pointwise
  rw [Fin.sum_univ_one]
  pointwise [v13_at hy, v184_at hy ht]
  exact Finset.sum_congr rfl fun i _ => mul_comm _ _

include ht in
theorem scaleRow_at : scaleRow V (ix2 0 j) = ∑ i, dy w y i j * mixed w y i j * silu w y i j := by
  unfold scaleRow
  pointwise
  rw [Fin.sum_univ_one]
  pointwise [v101_at hy ht, v112_at hy]
  exact Finset.sum_congr rfl fun i _ => by rw [← mul_assoc, mul_comm (mixed w y i j)]

theorem biasRow_at : biasRow V (ix2 0 j) = ∑ i, dmixed w y i j := by
  unfold biasRow
  refine (shapeCast_apply _ _ _ (ix2 (part j) (place j)) ?_).trans ?_
  · rw [Shape.rowMajor_val_two, Shape.rowMajor_val_two]
    show j.val / 256 * 256 + j.val % 256 = 0 * 1024 + j.val
    omega
  pointwise
  rw [Fin.sum_univ_one]
  pointwise [v120_at hy, col_part_place]

include ht in
/-- The fifth result. -/
theorem v212_at (r : Fin 8) : (concatenate S8x1024 0 [⟨S1x1024, normRow V⟩, ⟨S1x1024, scaleRow V⟩, ⟨S1x1024, biasRow V⟩,
      ⟨S5x1024, (broadcastInDim S5x1024 ![] bcast_S_S5x1024 (constant (F := Ideal) S_ .f32 0x00000000#32) : S5x1024.Idx → EReal)⟩]
      concatenates_S1x1024_S1x1024_S1x1024_S5x1024_S8x1024_d0 : S8x1024.Idx → EReal) (ix2 r j) = ∑ i, small w y i r j := by
  pointwise
  fin_cases r
  · exact normRow_at hy ht j
  · exact scaleRow_at hy ht j
  · exact biasRow_at hy j
  all_goals exact Finset.sum_const_zero.symm

end Cert.Reference4Ideal.Own

end
-- ==== Proof.Pool.Finite.lean ====
/-
  What the precondition of the pooling mixer's backward call says: everything but the residual holds reals.
-/
module

public import proofs.«01_k».proof.Pre_finite4
public import proofs.«01_k».proof.Proof.Finite
public import proofs.«01_k».proof.Proof.Pool.Row

@[expose] public section

noncomputable section

namespace Cert.Pre_finite4

open Idealize.ShloMosaic
open Cert.Chunk (IsReal)
open Cert.Pre_finite (isReal_of_lt)
open Cert.Pool

theorem facts : Facts where
  bcast_S_S4096x1024 := by decide
  reducesTo_S4096x1024_S_d0_1 := by decide
  h_S_ := by decide
  bcast_S_S1x1024 := by decide
  reducesTo_S1x1024_S_d0_1 := by decide
  bcast_S_S1024x2048 := by decide
  reducesTo_S1024x2048_S_d0_1 := by decide
  bcast_S_S4x256x256 := by decide
  reducesTo_S4x256x256_S_d0_1_2 := by decide
  bcast_S_S4x256 := by decide
  reducesTo_S4x256_S_d0_1 := by decide
  bcast_S_S1024x1024 := by decide
  reducesTo_S1024x1024_S_d0_1 := by decide

variable [Facts]

instance : Subsingleton S_.Idx := ⟨fun _ _ => funext fun a => a.elim0⟩

theorem holds {x dh : S4096x1024.Idx → EReal} {nw : S1x1024.Idx → EReal} {inw : S1024x2048.Idx → EReal} {gw : S4x256x256.Idx → EReal} {gb : S4x256.Idx → EReal}
    {sc : S1x1024.Idx → EReal} {ow : S1024x1024.Idx → EReal} (h : fn (F := Ideal) x dh nw inw gw gb sc ow = fun _ => 1#1) :
    ∃ w y, Data x dh nw inw gw gb sc ow w y ∧ Tame w y := by
  obtain ⟨h, how⟩ := IntOp.andi_eq_one.1 (congrFun h ix0)
  obtain ⟨h, hsc⟩ := IntOp.andi_eq_one.1 h
  obtain ⟨h, hg⟩ := IntOp.andi_eq_one.1 h
  obtain ⟨hgw, hgb⟩ := IntOp.andi_eq_one.1 hg
  obtain ⟨h, hinw⟩ := IntOp.andi_eq_one.1 h
  obtain ⟨hdh, hnw⟩ := IntOp.andi_eq_one.1 h
  exact ⟨⟨fun j => nw (ix2 0 j), fun k j => inw (ix2 k j), fun g a b => gw (ix3 g a b), fun g b => gb (ix2 g b), fun j => sc (ix2 0 j), fun k j => ow (ix2 k j)⟩,
    fun i => ⟨fun j => x (ix2 i j), fun j => dh (ix2 i j)⟩,
    ⟨fun _ _ => rfl, fun _ _ => rfl, fun _ => rfl, fun _ _ => rfl, fun _ _ _ => rfl, fun _ _ => rfl, fun _ => rfl, fun _ _ => rfl⟩,
    ⟨⟨fun _ => isReal_of_lt _ (Host.reduce_andi_all _ _ _ _ _ hnw _), fun _ _ => isReal_of_lt _ (Host.reduce_andi_all _ _ _ _ _ hinw _)⟩,
      fun _ _ => isReal_of_lt _ (Host.reduce_andi_all _ _ _ _ _ hdh _), fun _ _ _ => isReal_of_lt _ (Host.reduce_andi_all _ _ _ _ _ hgw _),
      fun _ _ => isReal_of_lt _ (Host.reduce_andi_all _ _ _ _ _ hgb _), fun _ => isReal_of_lt _ (Host.reduce_andi_all _ _ _ _ _ hsc _),
      fun _ _ => isReal_of_lt _ (Host.reduce_andi_all _ _ _ _ _ how _)⟩⟩

end Cert.Pre_finite4

end
-- ==== Proof.Pool.Value.lean ====
/-
  The value claim of the pooling mixer's backward call: where every argument but the residual is finite the two ideal programs
  end with the same five results.
-/
module

public import proofs.«01_k».proof.Defs
public import proofs.«01_k».proof.Proof.Pool.Arrays
public import proofs.«01_k».proof.Proof.Pool.Grads
public import proofs.«01_k».proof.Proof.Pool.Finite
public import proofs.«01_k».proof.Proof.Pool.Frames

@[expose] public section

set_option maxRecDepth 16384

noncomputable section

namespace Cert.Proof.Pool

open Idealize.ShloMosaic Idealize.ShloMosaic.StableHlo Idealize.SL.Sem
open Cert.Pool
open Kernel4Ideal.Gen (dats)

/-- Arrays that agree index by index are equal. -/
theorem ext2 {a b : ℕ} {y z : (⟨2, ![a, b]⟩ : Shape).Idx → EReal} (h : ∀ i j, y (ix2 i j) = z (ix2 i j)) : y = z :=
  funext fun i => by rw [eq_ix2 i]; exact h _ _
theorem ext3 {a b d : ℕ} {y z : (⟨3, ![a, b, d]⟩ : Shape).Idx → EReal} (h : ∀ i j k, y (ix3 i j k) = z (ix3 i j k)) : y = z :=
  funext fun i => by rw [eq_ix3 i]; exact h _ _ _

theorem value [hp : Cert.Pre_finite4.Facts] :
    algebraic_Kernel4Ideal_Reference4Ideal_pre_finite4 (hKernel4Ideal := Kernel4Ideal.Gen.facts) (hReference4Ideal := Reference4Ideal.Gen.facts) := by
  intro m g m' g' hpre hsame
  refine ⟨fun c => (dats m 0 c).arrAt 10 Kernel4Ideal.cfg0.N, fun c => (dats m 0 c).arrAt 11 Kernel4Ideal.cfg0.N, fun c => (dats m 0 c).arrAt 12 Kernel4Ideal.cfg0.N,
    fun c => (dats m 0 c).arrAt 13 Kernel4Ideal.cfg0.N, fun c => (dats m 0 c).arrAt 14 Kernel4Ideal.cfg0.N,
    (θ_run _ _ _).mono (fun r h c => ?_) (Kernel4Ideal.Value.run_blocks m g), (θ_run _ _ _).mono (fun r h c => ?_) (Reference4Ideal.Value.run m' g')⟩
  · exact h c
  · obtain ⟨w, y, hx, ht⟩ := Pre_finite4.holds (hpre c)
    obtain ⟨h0, h1, h2, h3, h4, hargs⟩ := h c
    have hk : Kernel4Ideal.Own.Args m c w y := hx
    have hy : Reference4Ideal.Own.Holds (launchContents m' c) w y := by
      obtain ⟨e0, e1, e2, e3, e4, e5, e6, e7⟩ := hsame c
      rw [← e0, ← e1, ← e2, ← e3, ← e4, ← e5, ← e6, ← e7] at hx
      exact hx
    exact ⟨h0.trans (ext2 fun i j => (Reference4Ideal.Own.v205_at hy ht i j).trans (Kernel4Ideal.Own.dx_array hk i j).symm),
      h1.trans (ext2 fun i j => (Reference4Ideal.Own.v183_at hy ht i j).trans (Kernel4Ideal.Own.dproj_array hk i j).symm),
      h2.trans (ext2 fun i j => (Reference4Ideal.Own.v109_at hy ht j i).trans (Kernel4Ideal.Own.ow_array hk i j).symm),
      h3.trans (ext3 fun i j k => (Reference4Ideal.Own.v214_at hy ht i j k).trans (Kernel4Ideal.Own.gw_array hk i j k).symm),
      h4.trans (ext2 fun i j => (Reference4Ideal.Own.v212_at hy ht j i).trans (Kernel4Ideal.Own.small_array hk i j).symm), hargs⟩

end Cert.Proof.Pool

end
-- ==== Proof.Mixer.Frames.lean ====
/-
  The three frames of the pooling mixer's forward call, without its exchange.
-/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Proof.Mixer

open Idealize.ShloMosaic Idealize.SL.Sem

theorem kernel_frame : quiescent_Kernel5 (hKernel5 := Kernel5.Gen.facts) := fun m g _ => Kernel5.Gen.frame m g

theorem ideal_frame : quiescent_Kernel5Ideal (hKernel5Ideal := Kernel5Ideal.Gen.facts) := fun m g _ => Kernel5Ideal.Gen.frame m g

theorem reference_frame : quiescent_Reference5Ideal (hReference5Ideal := Reference5Ideal.Gen.facts) := fun m g _ =>
  (θ_run _ _ _).mono (fun _ h => ⟨fun c => (h c).2.2.2.2, sem_eq_zero_of_no_sems rfl _⟩) (Reference5Ideal.Value.run m g)

end Cert.Proof.Mixer

end
-- ==== Proof.Mixer.Row.lean ====
/-
  The residual stream after the pooling mixer, and a column of the pooled half whose first row lies 32 rows on.
-/
module

public import proofs.«01_k».proof.Proof.Pool.Row
public import proofs.«01_k».proof.Proof.Pool.Sums

@[expose] public section

noncomputable section

namespace Cert.Pool

open Cert.Head (col)

/-- The residual stream after the mixer. -/
def after (w : Weights) (y : Fin 4096 → Row) (i : Fin 4096) (j : Fin 1024) : EReal :=
  (y i).x j + ∑ k, mixed w y i k * w.sc k * silu w y i k * w.ow k j

/-- A column of the pooled half, its first row 32 rows on. -/
def late (w : Weights) (y : Fin 4096 → Row) (c : Fin 1024) (n : ℕ) : EReal := if 32 ≤ n then grow (fun s => u w y s c) (n - 32) else 0

theorem late_grow (w : Weights) (y : Fin 4096 → Row) (c : Fin 1024) (n : ℕ) : late w y c (32 + n) = grow (fun s => u w y s c) n := by
  unfold late
  rw [if_pos (by omega), Nat.add_sub_cancel_left]

/-- Its windows are the column's. -/
theorem late_trail (w : Weights) (y : Fin 4096 → Row) (c : Fin 1024) (k t : ℕ) (hk : k ≤ 32) :
    trail (late w y c) k (32 + t) = trail (grow fun s => u w y s c) k t := by
  unfold trail
  refine Finset.sum_congr rfl fun q hq => ?_
  rw [Finset.mem_range] at hq
  rw [if_pos (by omega)]
  unfold late
  by_cases h : q ≤ t
  · rw [if_pos h, if_pos (by omega)]
    exact congrArg _ (by omega)
  · rw [if_neg h, if_neg (by omega)]

end Cert.Pool

end
-- ==== Proof.Mixer.Payloads.lean ====
/-
  What the pooling mixer's forward call makes of the blocks it loads, read at an index over the extended reals: the formulas of
  `Pool/Row.lean`. A tile keeps the last 32 rows of the tile before it ahead of its own; the sums over 2, 4, 8 and 16 rows are
  doubled from these.
-/
module

public import proofs.«01_k».proof.Proof.Pool.Steps
public import proofs.«01_k».proof.Proof.Mixer.Row
public import proofs.«01_k».proof.Proof.Gen.Kernel5Ideal.Frame

@[expose] public section

set_option maxRecDepth 16384

noncomputable section

namespace Cert.Kernel5Ideal.Own

open Idealize.ShloMosaic Idealize.SL.Sem Cert.Kernel5Ideal Cert.Kernel5Ideal.Gen
open Cert.Pool
open Cert.Head (word_one word_1024 word_eps part place col part_col place_col col_part_place)
open Cert.Kernel4Ideal.Own (tileRow beside_at cast_sum mat mat_at flat_stack)

/-- What a point loads: its number, its rows and the weights; the groups' matrices and the projection by quarters. -/
structure Loads where
  i : BitVec 32
  x : FVec Ideal S512x1024 .f32
  nw : FVec Ideal S1x1024 .f32
  wq : Fin 4 → FVec Ideal S1x1024x512 .bf16
  g : Fin 4 → Fin 4 → FVec Ideal S1x64x256 .bf16
  gb : FVec Ideal S1x1024 .f32
  sc : FVec Ideal S1x1024 .f32
  ow : FVec Ideal S1024x1024 .bf16

/-- The loads hold these weights and rows. -/
structure Loads.Holds (b : Loads) (w : Weights) (y : Fin 4096 → Row) (T : Fin 8) : Prop where
  i : b.i = BitVec.ofNat 32 T.val
  x i j : b.x (ix2 i j) = (y (tileRow T i)).x j
  nw j : b.nw (ix2 0 j) = w.nw j
  wq q k e : b.wq q (ix3 0 k e) = w.inw k ⟨512 * q.val + e.val, by omega⟩
  g g q r e : b.g g q (ix3 0 r e) = w.gw g ⟨64 * q.val + r.val, by omega⟩ e
  gb j : b.gb (ix2 0 j) = w.gb (part j) (place j)
  sc j : b.sc (ix2 0 j) = w.sc j
  ow k j : b.ow (ix2 k j) = w.ow k j

/-! ## The normalised rows and the projection's halves -/

namespace Loads
variable (b : Loads)

def n0 : FVec Ideal S512x1024 .bf16 := k0_pay2 b.x b.nw
def u : FVec Ideal S512x1024 .f32 := k0_pay3 b.x b.nw (b.wq 0) (b.wq 1)
def gate : FVec Ideal S512x1024 .f32 := k0_pay4 b.x b.nw (b.wq 2) (b.wq 3)
end Loads

section
variable {b : Loads} {w : Weights} {y : Fin 4096 → Row} {T : Fin 8} (H : b.Holds w y T)
include H

theorem n0_at (i : Fin 512) (j : Fin 1024) : b.n0 (ix2 i j) = hat y (tileRow T i) j * w.nw j := by
  unfold Loads.n0 k0_pay2 hat root ms
  pointwise [H.x, H.nw, word_1024, word_eps]

theorem u_at (i : Fin 512) (j : Fin 1024) : b.u (ix2 i j) = u w y (tileRow T i) j := by
  have hn := n0_at H
  unfold Loads.n0 at hn
  unfold Loads.u k0_pay3 Cert.Pool.u proj
  pointwise [hn, H.wq]
  split_ifs <;> refine Finset.sum_congr rfl fun k _ => congrArg (_ * w.inw k ·) (Fin.ext ?_) <;> simp <;> omega

theorem gate_at (i : Fin 512) (j : Fin 1024) : b.gate (ix2 i j) = gate w y (tileRow T i) j := by
  have hn := n0_at H
  unfold Loads.n0 at hn
  unfold Loads.gate k0_pay4 Cert.Pool.gate proj
  pointwise [hn, H.wq]
  split_ifs <;> refine Finset.sum_congr rfl fun k _ => congrArg (_ * w.inw k ·) (Fin.ext ?_) <;> simp <;> omega

/-! ## The windows' lengths -/

omit H in
theorem words (T : Fin 8) (r : Fin 512) : BitVec.ofNat 32 T.val * 512#32 + BitVec.ofNat 32 r.val + 1#32 = BitVec.ofNat 32 (tileRow T r).val + 1#32 := by
  refine congrArg (· + 1#32) (BitVec.eq_of_toNat_eq ?_)
  simp only [BitVec.toNat_add, BitVec.toNat_mul, BitVec.toNat_ofNat, tileRow]
  omega

omit H in
theorem inv_words (T : Fin 8) (r : Fin 512) (g : Fin 4) :
    Ideal.div ((1 : ℝ) : EReal) (FloatOps.sitofp (F := Ideal) .f32 (IntOp.minsi (BitVec.ofNat 32 T.val * 512#32 + BitVec.ofNat 32 r.val + 1#32) (BitVec.ofNat 32 (win g))))
      = Cert.Pool.inv g (tileRow T r).val := by
  rw [words T r, count_word]
  rfl

theorem pay10_at (r : Fin 512) : k0_pay10 (F := Ideal) b.i (ix2 r 0) = Cert.Pool.inv 0 (tileRow T r).val := by
  rw [← inv_words, H.i]
  unfold k0_pay10 k0_pay9
  pointwise [word_one]
  rfl

theorem pay11_at (r : Fin 512) : k0_pay11 (F := Ideal) b.i (ix2 r 0) = Cert.Pool.inv 1 (tileRow T r).val := by
  rw [← inv_words, H.i]
  unfold k0_pay11 k0_pay9
  pointwise [word_one]
  rfl

theorem pay13_at (r : Fin 512) : k0_pay13 (F := Ideal) (k0_pay12 b.i) (ix2 r 0) = Cert.Pool.inv 2 (tileRow T r).val := by
  rw [← inv_words, H.i]
  unfold k0_pay13 k0_pay12 k0_pay9
  pointwise [word_one]
  rfl

theorem pay14_at (r : Fin 512) : k0_pay14 (F := Ideal) (k0_pay9 b.i) (ix2 r 0) = Cert.Pool.inv 3 (tileRow T r).val := by
  rw [← inv_words, H.i]
  unfold k0_pay14 k0_pay9
  pointwise [word_one]
  rfl
end

/-! ## What is kept, and its sums -/

abbrev Kept : Type := List (View.Piece (Elt Ideal) S544x1024 .f32)

/-- A group's columns, from row `s` on, are sums over `k` rows. -/
def Sums (w : Weights) (y : Fin 4096 → Row) (T : Fin 8) (L : Kept) (s p k : ℕ) : Prop :=
  ∀ (r : Fin 544) (c : Fin 1024), s ≤ r.val → p ≤ c.val → c.val < p + 256 → View.canon L (ix2 r c) = trail (late w y c) k (512 * T.val + r.val)

section
variable {w : Weights} {y : Fin 4096 → Row} {T : Fin 8} {L L' : Kept} {s p k : ℕ}

/-- Other columns are left alone. -/
theorem Sums.past (h : Sums w y T L s p k) {n o q : ℕ} {h0} (v : FVec Ideal ⟨2, ![n, 256]⟩ .f32) (hq : q + 256 ≤ p ∨ p + 256 ≤ q) :
    Sums w y T (⟨Rect.unit ![o, q] ![n, 256] h0, v⟩ :: L) s p k := fun r c hr hc hc' =>
  top2 o q h0 v L r c (fun _ hj => by omega) fun _ => h r c hr hc hc'

/-- A doubling. -/
theorem Sums.double (h : Sums w y T L s p k) {σ : RefSig} {κ : Kind} {sp : Space} (m : View σ κ sp S544x1024 .f32) {n o q : ℕ} (hn : o + n = 544) (hq : q + k = o) (hs : s ≤ q) {h0 h1 h2}
    (v : FVec Ideal ⟨2, ![n, 256]⟩ .f32)
    (hv : ∀ (i : Fin n) (e : Fin 256), v (ix2 i e) = m.readCov L (Rect.unit (s := S544x1024) ![o, p] ![n, 256] h1).toLoadRect (ix2 i e)
      + m.readCov L (Rect.unit (s := S544x1024) ![q, p] ![n, 256] h2).toLoadRect (ix2 i e)) :
    Sums w y T (⟨Rect.unit ![o, p] ![n, 256] h0, v⟩ :: L') o p (k + k) := fun r c hr hc hc' =>
  top2 o p h0 v L' r c (fun hi hj => by
    rw [hv, left2, left2, h _ _ (by dsimp only; omega) (by dsimp only; omega) (by dsimp only; omega), h _ _ (by dsimp only; omega) (by dsimp only; omega) (by dsimp only; omega)]
    rw [← trail_double, if_pos (by omega)]
    have hc : (⟨p + (c.val - p), by omega⟩ : Fin 1024) = c := Fin.ext (by dsimp only; omega)
    rw [hc]
    refine congrArg₂ (fun a b => trail (late w y c) k a + trail (late w y c) k b) ?_ ?_ <;> dsimp only <;> omega) fun hno => absurd ⟨⟨hr, by omega⟩, hc, hc'⟩ hno

/-- A load of a group's sums. -/
theorem Sums.load (h : Sums w y T L s p k) {σ : RefSig} {κ : Kind} {sp : Space} (m : View σ κ sp S544x1024 .f32) (hs : s ≤ 32) (hk : k ≤ 32) {h1} (i : Fin 512) (e : Fin 256) (j : Fin 1024)
    (hj : p + e.val = j.val) :
    m.readCov L (Rect.unit (s := S544x1024) ![32, p] ![512, 256] h1).toLoadRect (ix2 i e) = trail (grow fun s => u w y s j) k (tileRow T i).val := by
  rw [left2, h _ _ (by dsimp only; omega) (by dsimp only; omega) (by dsimp only; omega)]
  have hc : (⟨p + e.val, by omega⟩ : Fin 1024) = j := Fin.ext hj
  rw [hc, ← late_trail _ _ _ _ _ hk]
  exact congrArg _ (by dsimp only [tileRow]; omega)
end

/-- A doubling's store, from two loads of a buffer. -/
abbrev dbl (n o q p : ℕ) (h0 : ∀ k, (![o, p] : Fin 2 → ℕ) k + (![n, 256] : Fin 2 → ℕ) k ≤ S544x1024.size k) (h1 : ∀ k, (![q, p] : Fin 2 → ℕ) k + (![n, 256] : Fin 2 → ℕ) k ≤ S544x1024.size k)
    (f : FVec Ideal ⟨2, ![n, 256]⟩ .f32 → FVec Ideal ⟨2, ![n, 256]⟩ .f32 → FVec Ideal ⟨2, ![n, 256]⟩ .f32) {σ : RefSig} {κ : Kind} {sp : Space} (m : View σ κ sp S544x1024 .f32) (L : Kept) :
    View.Piece (Elt Ideal) S544x1024 .f32 :=
  ⟨Rect.unit (s := S544x1024) ![o, p] ![n, 256] h0, f (m.readCov L (Rect.unit (s := S544x1024) ![o, p] ![n, 256] h0).toLoadRect) (m.readCov L (Rect.unit (s := S544x1024) ![q, p] ![n, 256] h1).toLoadRect)⟩

namespace Loads
variable (b : Loads) (A : FVec Ideal S32x1024 .f32) {σ : RefSig} {κ κ' : Kind} {sp sp' : Space} (mE : View σ κ sp S544x1024 .f32) (mT : View σ κ' sp' S544x1024 .f32)

/-- The two buffers, store by store. -/
def e0 : Kept := [⟨Rect.unit (s := S544x1024) ![32, 0] S512x1024.size inb_S544x1024_S512x1024_32_0, k0_pay7 (F := Ideal) b.u⟩,
  ⟨Rect.unit (s := S544x1024) ![0, 0] S32x1024.size inb_S544x1024_S32x1024_0_0, k0_pay6 (F := Ideal) A⟩]
def t1 : Kept := [dbl 536 8 7 0 inb_S544x1024_S536x256_8_0 inb_S544x1024_S536x256_7_0 (k0_pay15 (F := Ideal)) mE (b.e0 A)]
def t2 : Kept := dbl 536 8 7 256 inb_S544x1024_S536x256_8_256 inb_S544x1024_S536x256_7_256 (k0_pay19 (F := Ideal)) mE (b.e0 A) :: b.t1 A mE
def e1 : Kept := dbl 528 16 14 256 inb_S544x1024_S528x256_16_256 inb_S544x1024_S528x256_14_256 (k0_pay20 (F := Ideal)) mT (b.t2 A mE) :: b.e0 A
def t3 : Kept := dbl 536 8 7 512 inb_S544x1024_S536x256_8_512 inb_S544x1024_S536x256_7_512 (k0_pay27 (F := Ideal)) mE (b.e1 A mE mT) :: b.t2 A mE
def e2 : Kept := dbl 528 16 14 512 inb_S544x1024_S528x256_16_512 inb_S544x1024_S528x256_14_512 (k0_pay28 (F := Ideal)) mT (b.t3 A mE mT) :: b.e1 A mE mT
def t4 : Kept := dbl 520 24 20 512 inb_S544x1024_S520x256_24_512 inb_S544x1024_S520x256_20_512 (k0_pay29 (F := Ideal)) mE (b.e2 A mE mT) :: b.t3 A mE mT
def t5 : Kept := dbl 536 8 7 768 inb_S544x1024_S536x256_8_768 inb_S544x1024_S536x256_7_768 (k0_pay33 (F := Ideal)) mE (b.e2 A mE mT) :: b.t4 A mE mT
def e3 : Kept := dbl 528 16 14 768 inb_S544x1024_S528x256_16_768 inb_S544x1024_S528x256_14_768 (k0_pay34 (F := Ideal)) mT (b.t5 A mE mT) :: b.e2 A mE mT
def t6 : Kept := dbl 520 24 20 768 inb_S544x1024_S520x256_24_768 inb_S544x1024_S520x256_20_768 (k0_pay35 (F := Ideal)) mE (b.e3 A mE mT) :: b.t5 A mE mT
def e4 : Kept := dbl 512 32 24 768 inb_S544x1024_S512x256_32_768 inb_S544x1024_S512x256_24_768 (k0_pay36 (F := Ideal)) mT (b.t6 A mE mT) :: b.e3 A mE mT
end Loads

section
variable {b : Loads} {w : Weights} {y : Fin 4096 → Row} {T : Fin 8} (H : b.Holds w y T) {A : FVec Ideal S32x1024 .f32}
  (HA : ∀ r j, A (ix2 r j) = late w y j (512 * T.val + r.val))
  {σ : RefSig} {κ κ' : Kind} {sp sp' : Space} (mE : View σ κ sp S544x1024 .f32) (mT : View σ κ' sp' S544x1024 .f32)
include H HA

theorem e0_at (r : Fin 544) (c : Fin 1024) : View.canon (b.e0 A) (ix2 r c) = late w y c (512 * T.val + r.val) := by
  unfold Loads.e0
  refine top2 32 0 _ _ _ r c (fun hi hj => ?_) fun h3 => ?_
  · have hu := u_at H ⟨r.val - 32, by omega⟩ c
    refine Eq.trans (b := b.u (ix2 ⟨r.val - 32, by omega⟩ c)) (by unfold k0_pay7; pointwise) ?_
    rw [hu, ← grow_val (fun s => u w y s c), ← late_grow]
    exact congrArg (late w y c) (by dsimp only [tileRow]; omega)
  refine top2 0 0 _ _ _ r c (fun hi hj => ?_) fun h => absurd (by omega) h
  refine Eq.trans (b := A (ix2 ⟨r.val - 0, by omega⟩ ⟨c.val - 0, by omega⟩)) (by unfold k0_pay6; pointwise) ?_
  exact (HA _ _).trans (congrArg (late w y c) (by dsimp only; omega))

theorem e0_sums (p : ℕ) : Sums w y T (b.e0 A) 0 p 1 := fun r c _ _ _ => (e0_at H HA r c).trans (trail_one _ _).symm

theorem t1_sums : Sums w y T (b.t1 A mE) 8 0 2 := (e0_sums H HA 0).double mE rfl rfl (by omega) _ fun i e => cast_sum _ _ _ i e
theorem t2_sums : Sums w y T (b.t2 A mE) 8 256 2 := (e0_sums H HA 256).double mE rfl rfl (by omega) _ fun i e => cast_sum _ _ _ i e
theorem e1_sums : Sums w y T (b.e1 A mE mT) 16 256 4 := (t2_sums H HA mE).double mT rfl rfl (by omega) _ fun i e => cast_sum _ _ _ i e
theorem t3_sums : Sums w y T (b.t3 A mE mT) 8 512 2 := ((e0_sums H HA 512).past _ (q := 256) (by omega)).double mE rfl rfl (by omega) _ fun i e => cast_sum _ _ _ i e
theorem e2_sums : Sums w y T (b.e2 A mE mT) 16 512 4 := (t3_sums H HA mE mT).double mT rfl rfl (by omega) _ fun i e => cast_sum _ _ _ i e
theorem t4_sums : Sums w y T (b.t4 A mE mT) 24 512 8 := (e2_sums H HA mE mT).double mE rfl rfl (by omega) _ fun i e => cast_sum _ _ _ i e
theorem t5_sums : Sums w y T (b.t5 A mE mT) 8 768 2 := (((e0_sums H HA 768).past _ (q := 256) (by omega)).past _ (q := 512) (by omega)).double mE rfl rfl (by omega) _ fun i e => cast_sum _ _ _ i e
theorem e3_sums : Sums w y T (b.e3 A mE mT) 16 768 4 := (t5_sums H HA mE mT).double mT rfl rfl (by omega) _ fun i e => cast_sum _ _ _ i e
theorem t6_sums : Sums w y T (b.t6 A mE mT) 24 768 8 := (e3_sums H HA mE mT).double mE rfl rfl (by omega) _ fun i e => cast_sum _ _ _ i e
theorem e4_sums : Sums w y T (b.e4 A mE mT) 32 768 16 := (t6_sums H HA mE mT).double mT rfl rfl (by omega) _ fun i e => cast_sum _ _ _ i e
end

/-! ## The pooled rows, and the mixer's rows -/

namespace Loads
variable (b : Loads) (A : FVec Ideal S32x1024 .f32) {σ : RefSig} {κ κ' : Kind} {sp sp' : Space} (mE : View σ κ sp S544x1024 .f32) (mT : View σ κ' sp' S544x1024 .f32)

def s3 : FVec Ideal S512x256 .f32 := mE.readCov (b.e4 A mE mT) (Rect.unit (s := S544x1024) ![32, 768] S512x256.size inb_S544x1024_S512x256_32_768).toLoadRect
def p0 : FVec Ideal S512x256 .bf16 :=
  k0_pay16 b.u (k0_pay10 b.i) (mT.readCov (b.t1 A mE) (Rect.unit (s := S544x1024) ![32, 0] S512x256.size inb_S544x1024_S512x256_32_0).toLoadRect)
def p1 : FVec Ideal S512x256 .bf16 :=
  k0_pay21 b.u (k0_pay11 b.i) (mE.readCov (b.e1 A mE mT) (Rect.unit (s := S544x1024) ![32, 256] S512x256.size inb_S544x1024_S512x256_32_256).toLoadRect)
def p2 : FVec Ideal S512x256 .bf16 :=
  k0_pay30 b.u (k0_pay13 (k0_pay12 b.i)) (mT.readCov (b.t4 A mE mT) (Rect.unit (s := S544x1024) ![32, 512] S512x256.size inb_S544x1024_S512x256_32_512).toLoadRect)
def p3 : FVec Ideal S512x256 .bf16 := k0_pay37 b.u (k0_pay14 (k0_pay9 b.i)) (b.s3 A mE mT)
def m0 : FVec Ideal S512x256 .f32 := k0_pay18 (b.p0 A mE mT) (k0_pay17 (b.g 0 0) (b.g 0 1) (b.g 0 2) (b.g 0 3))
def m1 : FVec Ideal S512x256 .f32 := k0_pay26 (b.p1 A mE mT) (k0_pay22 (b.g 1 0)) (k0_pay23 (b.g 1 1)) (k0_pay24 (b.g 1 2)) (k0_pay25 (b.g 1 3))
def m2 : FVec Ideal S512x256 .f32 := k0_pay32 (b.p2 A mE mT) (k0_pay31 (b.g 2 0)) (b.g 2 1) (b.g 2 2) (b.g 2 3)
def scaled : FVec Ideal S512x1024 .f32 :=
  k0_pay38 b.u (k0_pay14 (k0_pay9 b.i)) (b.m0 A mE mT) (b.m1 A mE mT) (b.m2 A mE mT) (b.s3 A mE mT) (b.g 3 0) (b.g 3 1) (b.g 3 2) (b.g 3 3) b.gb b.sc
def after : FVec Ideal S512x1024 .f32 := k0_pay1 b.x b.gate (b.scaled A mE mT) (k0_pay39 b.gate) b.ow
end Loads

/-- A group's means less its rows. -/
theorem group_at (g : Fin 4) (z : FVec Ideal S512x1024 .f32) (q : FVec Ideal S512x1 .f32) (s : FVec Ideal S512x256 .f32) {o : ℕ} (ho : o = 256 * g.val) (hs : S512x1024.Slices ![0, o] S512x256)
    (i : Fin 512) (e : Fin 256) :
    truncf (F := Ideal) .bf16 (subf (mulf s (broadcastTo S512x256 q broadcasts_S512x1_S512x256)) (extractStridedSlice S512x256 ![0, o] z hs)) bitsLt_bf16_f32 (ix2 i e)
      = s (ix2 i e) * q (ix2 i 0) - z (ix2 i (col g e)) := by
  subst ho
  pointwise
  exact congrArg (fun j => _ - z (ix2 i j)) (Fin.ext (by simp [col]))

section
variable {b : Loads} {w : Weights} {y : Fin 4096 → Row} {T : Fin 8} (H : b.Holds w y T) {A : FVec Ideal S32x1024 .f32}
  (HA : ∀ r j, A (ix2 r j) = late w y j (512 * T.val + r.val))
  {σ : RefSig} {κ κ' : Kind} {sp sp' : Space} (mE : View σ κ sp S544x1024 .f32) (mT : View σ κ' sp' S544x1024 .f32) (i : Fin 512) (e : Fin 256)
include H

omit H in
theorem pooled_col (g : Fin 4) : trail (grow fun s => u w y s (col g e)) (win g) (tileRow T i).val * Cert.Pool.inv g (tileRow T i).val - u w y (tileRow T i) (col g e)
    = pooled w y (tileRow T i) (col g e) := by
  unfold pooled
  rw [part_col]

include HA

theorem p0_at : b.p0 A mE mT (ix2 i e) = pooled w y (tileRow T i) (col 0 e) :=
  (group_at 0 _ _ _ rfl _ i e).trans (by rw [(t1_sums H HA mE).load mT (by omega) (by omega) i e (col 0 e) (by simp [col]), pay10_at H, u_at H]; exact pooled_col i e 0)
theorem p1_at : b.p1 A mE mT (ix2 i e) = pooled w y (tileRow T i) (col 1 e) :=
  (group_at 1 _ _ _ rfl _ i e).trans (by rw [(e1_sums H HA mE mT).load mE (by omega) (by omega) i e (col 1 e) (by simp [col]), pay11_at H, u_at H]; exact pooled_col i e 1)
theorem p2_at : b.p2 A mE mT (ix2 i e) = pooled w y (tileRow T i) (col 2 e) :=
  (group_at 2 _ _ _ rfl _ i e).trans (by rw [(t4_sums H HA mE mT).load mT (by omega) (by omega) i e (col 2 e) (by simp [col]), pay13_at H, u_at H]; exact pooled_col i e 2)
theorem p3_at : b.p3 A mE mT (ix2 i e) = pooled w y (tileRow T i) (col 3 e) :=
  (group_at 3 _ _ _ rfl _ i e).trans (by
    have h := (e4_sums H HA mE mT).load mE (by omega) (by omega) (h1 := inb_S544x1024_S512x256_32_768) i e (col 3 e) (by simp [col])
    unfold Loads.s3
    rw [h, pay14_at H, u_at H]
    exact pooled_col i e 3)

omit H HA in
/-- A group's rows through its matrix. -/
theorem through (p : FVec Ideal S512x256 .bf16) (g0 g1 g2 g3 : FVec Ideal S1x64x256 .bf16) (g : Fin 4) (t : Fin 4096)
    (h0 : ∀ r e, g0 (ix3 0 r e) = w.gw g ⟨64 * 0 + r.val, by omega⟩ e) (h1 : ∀ r e, g1 (ix3 0 r e) = w.gw g ⟨64 * 1 + r.val, by omega⟩ e)
    (h2 : ∀ r e, g2 (ix3 0 r e) = w.gw g ⟨64 * 2 + r.val, by omega⟩ e) (h3 : ∀ r e, g3 (ix3 0 r e) = w.gw g ⟨64 * 3 + r.val, by omega⟩ e)
    (hp : ∀ e, p (ix2 i e) = pooled w y t (col g e)) :
    k0_pay18 (F := Ideal) p (k0_pay17 g0 g1 g2 g3) (ix2 i e) = ∑ a, pooled w y t (col (part (col g e)) a) * w.gw (part (col g e)) a (place (col g e)) := by
  have hm : k0_pay17 g0 g1 g2 g3 = mat (w.gw g) := flat_stack g0 g1 g2 g3 (w.gw g) h0 h1 h2 h3
  rw [hm, part_col, place_col]
  unfold k0_pay18
  pointwise [mat_at, hp]

theorem scaled_at (j : Fin 1024) : b.scaled A mE mT (ix2 i j) = mixed w y (tileRow T i) j * w.sc j := by
  have hu : b.scaled A mE mT = mulf (addf (concatenate S512x1024 1 [⟨S512x256, b.m0 A mE mT⟩, ⟨S512x256, b.m1 A mE mT⟩, ⟨S512x256, b.m2 A mE mT⟩,
      ⟨S512x256, k0_pay18 (b.p3 A mE mT) (k0_pay17 (b.g 3 0) (b.g 3 1) (b.g 3 2) (b.g 3 3))⟩]
      concatenates_S512x256_S512x256_S512x256_S512x256_S512x1024_d1) (broadcastTo S512x1024 (shapeCast S1x1024 b.gb shapeCasts_S1x1024_S1x1024) broadcasts_S1x1024_S512x1024))
      (broadcastTo S512x1024 b.sc broadcasts_S1x1024_S512x1024) := rfl
  rw [hu, mulf_apply, addf_apply, beside_at _ _ _ _ i (fun j => ∑ a, pooled w y (tileRow T i) (col (part j) a) * w.gw (part j) a (place j)) (fun e => ?_) (fun e => ?_) (fun e => ?_) (fun e => ?_) j]
  · pointwise [H.gb, H.sc]
    rfl
  · exact through i e _ _ _ _ _ 0 _ (H.g 0 0) (H.g 0 1) (H.g 0 2) (H.g 0 3) (p0_at H HA mE mT i)
  · exact through i e _ _ _ _ _ 1 _ (H.g 1 0) (H.g 1 1) (H.g 1 2) (H.g 1 3) (p1_at H HA mE mT i)
  · exact through i e _ _ _ _ _ 2 _ (H.g 2 0) (H.g 2 1) (H.g 2 2) (H.g 2 3) (p2_at H HA mE mT i)
  · exact through i e _ _ _ _ _ 3 _ (H.g 3 0) (H.g 3 1) (H.g 3 2) (H.g 3 3) (p3_at H HA mE mT i)

theorem after_at (j : Fin 1024) : b.after A mE mT (ix2 i j) = after w y (tileRow T i) j := by
  have hs := scaled_at H HA mE mT
  have hg := gate_at H
  unfold Loads.after k0_pay1 k0_pay39 Cert.Pool.after silu sg Cert.Project.slope
  dsimp only
  pointwise [hs, hg, H.x, H.ow, word_one]
  simp only [zero_sub]
end

end Cert.Kernel5Ideal.Own

end
-- ==== Proof.Mixer.Points.lean ====
/-
  What each point of the pooling mixer's forward call leaves, from its blocks and, after the first point, from the rows that the
  point before has kept.
-/
module

public import proofs.«01_k».proof.Proof.Mixer.Payloads

@[expose] public section

set_option maxRecDepth 65536

noncomputable section

namespace Cert.Kernel5Ideal.Own

open Idealize.ShloMosaic Idealize.ShloMosaic.TcCoe Idealize.SL.Sem Cert.Kernel5Ideal Cert.Kernel5Ideal.Gen
open Cert.Pool
open Cert.Head (part place col part_col place_col col_part_place)
open Cert.Kernel4Ideal.Own (tileRow whole_top whole_left whole_given)

variable (m : (ℓ : Loc nD τ sig) → Buf (Elt Ideal) ℓ) (c : Dev nD) (t : Fin cfg0.N)

/-- The loads of a point. -/
def loads : Loads where
  i := BitVec.ofNat 32 (grid0.coords t 0).val
  x := View.readAt (Elt Ideal) (ms0_0 t).view (Rect.unit (s := S512x1024) ![0, 0] S512x1024.size inb_S512x1024_S512x1024_0_0).toLoadRect ((hs0_0 t).unread (iblk m c 0 t))
  nw := View.readAt (Elt Ideal) (ms0_1 t).view (Rect.unit (s := S1x1024) ![0, 0] S1x1024.size inb_S1x1024_S1x1024_0_0).toLoadRect ((hs0_1 t).unread (iblk m c 1 t))
  wq q := View.readAt (Elt Ideal) (ms0_2 t).view (Rect.unit (s := S4x1024x512) ![q.val, 0, 0] S1x1024x512.size (by fin_cases q <;> decide)).toLoadRect ((hs0_2 t).unread (iblk m c 2 t))
  g g q := View.readAt (Elt Ideal) (ms0_3 t).view (Rect.unit (s := S4x256x256) ![q.val, 64 * g.val, 0] S1x64x256.size (by fin_cases q <;> fin_cases g <;> decide)).toLoadRect ((hs0_3 t).unread (iblk m c 3 t))
  gb := View.readAt (Elt Ideal) (ms0_4 t).view (Rect.unit (s := S1x1024) ![0, 0] S1x1024.size inb_S1x1024_S1x1024_0_0).toLoadRect ((hs0_4 t).unread (iblk m c 4 t))
  sc := View.readAt (Elt Ideal) (ms0_5 t).view (Rect.unit (s := S1x1024) ![0, 0] S1x1024.size inb_S1x1024_S1x1024_0_0).toLoadRect ((hs0_5 t).unread (iblk m c 5 t))
  ow := View.readAt (Elt Ideal) (ms0_6 t).view (Rect.unit (s := S1024x1024) ![0, 0] S1024x1024.size inb_S1024x1024_S1024x1024_0_0).toLoadRect ((hs0_6 t).unread (iblk m c 6 t))

/-- The rows ahead of the first tile, and what a point loads back of the rows ahead. -/
abbrev keptBase : List (View.Piece (Elt Ideal) S32x1024 .f32) := [⟨Rect.unit (s := S32x1024) ![0, 0] S32x1024.size inb_S32x1024_S32x1024_0_0, k0_pay5 (F := Ideal)⟩]
def aheadA : FVec Ideal S32x1024 .f32 :=
  scM0_2.view.readCov keptBase (Rect.unit (s := S32x1024) ![0, 0] S32x1024.size inb_S32x1024_S32x1024_0_0).toLoadRect
def aheadB (A : Vec Ideal S32x1024 .f32) : FVec Ideal S32x1024 .f32 :=
  View.readAt (Elt Ideal) scM0_2.view (Rect.unit (s := S32x1024) ![0, 0] S32x1024.size inb_S32x1024_S32x1024_0_0).toLoadRect ((Memref.isWhole_whole _).unread A)

theorem aheadA_at (r : Fin 32) (j : Fin 1024) : aheadA (ix2 r j) = 0 := by
  refine (whole_left _ _ _ r j).trans ((whole_top _ _ _ r j).trans ?_)
  unfold k0_pay5
  pointwise

theorem aheadB_at (A : Vec Ideal S32x1024 .f32) (r : Fin 32) (j : Fin 1024) : aheadB A (ix2 r j) = A (ix2 r j) := whole_given _ A _ r j

/-- What the point before has kept. -/
abbrev prior : Vec Ideal S32x1024 .f32 := (outsAt0 m c (t.val - 1) (Nat.lt_of_le_of_lt (Nat.sub_le _ _) t.isLt)).2.2.2.2

/-- The stores of a point. -/
abbrev afterL (b : Loads) (A : FVec Ideal S32x1024 .f32) : List (View.Piece (Elt Ideal) S512x1024 .f32) :=
  [⟨Rect.unit (s := S512x1024) ![0, 0] S512x1024.size inb_S512x1024_S512x1024_0_0, b.after A scM0_0.view scM0_1.view⟩]
abbrev pooledL (b : Loads) (A : FVec Ideal S32x1024 .f32) : List (View.Piece (Elt Ideal) S512x1024 .bf16) :=
  [⟨Rect.unit (s := S512x1024) ![0, 768] S512x256.size inb_S512x1024_S512x256_0_768, b.p3 A scM0_0.view scM0_1.view⟩,
    ⟨Rect.unit (s := S512x1024) ![0, 512] S512x256.size inb_S512x1024_S512x256_0_512, b.p2 A scM0_0.view scM0_1.view⟩,
    ⟨Rect.unit (s := S512x1024) ![0, 256] S512x256.size inb_S512x1024_S512x256_0_256, b.p1 A scM0_0.view scM0_1.view⟩,
    ⟨Rect.unit (s := S512x1024) ![0, 0] S512x256.size inb_S512x1024_S512x256_0_0, b.p0 A scM0_0.view scM0_1.view⟩]
abbrev gateL (b : Loads) : List (View.Piece (Elt Ideal) S512x1024 .f32) := [⟨Rect.unit (s := S512x1024) ![0, 0] S512x1024.size inb_S512x1024_S512x1024_0_0, b.gate⟩]
abbrev n0L (b : Loads) : List (View.Piece (Elt Ideal) S512x1024 .bf16) := [⟨Rect.unit (s := S512x1024) ![0, 0] S512x1024.size inb_S512x1024_S512x1024_0_0, b.n0⟩]
abbrev keptL (b : Loads) (L : List (View.Piece (Elt Ideal) S32x1024 .f32)) : List (View.Piece (Elt Ideal) S32x1024 .f32) :=
  ⟨Rect.unit (s := S32x1024) ![0, 0] S32x1024.size inb_S32x1024_S32x1024_0_0, k0_pay8 (F := Ideal) b.u⟩ :: L

section
variable (h0 : t.val % 8 = 0)
include h0

theorem outA_after : (outsAt0 m c t.val t.isLt).1 = View.canon (afterL (loads m c t) aheadA) := by
  rw [outsAt0_A m c t h0]
  dsimp only
  unfold out0_A_7
  rw [View.read_writes_junk_eq_canon]
  sl_kernel_rfl
theorem outA_pooled : (outsAt0 m c t.val t.isLt).2.1 = View.canon (pooledL (loads m c t) aheadA) := by
  rw [outsAt0_A m c t h0]
  dsimp only
  unfold out0_A_8
  rw [View.read_writes_junk_eq_canon]
  sl_kernel_rfl
theorem outA_gate : (outsAt0 m c t.val t.isLt).2.2.1 = View.canon (gateL (loads m c t)) := by
  rw [outsAt0_A m c t h0]
  dsimp only
  unfold out0_A_9
  rw [View.read_writes_junk_eq_canon]
  sl_kernel_rfl
theorem outA_n0 : (outsAt0 m c t.val t.isLt).2.2.2.1 = View.canon (n0L (loads m c t)) := by
  rw [outsAt0_A m c t h0]
  dsimp only
  unfold out0_A_10
  rw [View.read_writes_junk_eq_canon]
  sl_kernel_rfl
theorem outA_kept : (outsAt0 m c t.val t.isLt).2.2.2.2 = View.canon (keptL (loads m c t) keptBase) := by
  rw [outsAt0_A m c t h0]
  dsimp only
  unfold sout0_A_2
  rw [View.read_writes_junk_eq_canon]
  sl_kernel_rfl
end

section
variable (h0 : ¬t.val % 8 = 0)
include h0

theorem outB_after : (outsAt0 m c t.val t.isLt).1 = View.canon (afterL (loads m c t) (aheadB (prior m c t))) := by
  rw [outsAt0_B m c t h0]
  dsimp only
  unfold out0_B_7
  rw [View.read_writes_junk_eq_canon]
  sl_kernel_rfl
theorem outB_pooled : (outsAt0 m c t.val t.isLt).2.1 = View.canon (pooledL (loads m c t) (aheadB (prior m c t))) := by
  rw [outsAt0_B m c t h0]
  dsimp only
  unfold out0_B_8
  rw [View.read_writes_junk_eq_canon]
  sl_kernel_rfl
theorem outB_gate : (outsAt0 m c t.val t.isLt).2.2.1 = View.canon (gateL (loads m c t)) := by
  rw [outsAt0_B m c t h0]
  dsimp only
  unfold out0_B_9
  rw [View.read_writes_junk_eq_canon]
  sl_kernel_rfl
theorem outB_n0 : (outsAt0 m c t.val t.isLt).2.2.2.1 = View.canon (n0L (loads m c t)) := by
  rw [outsAt0_B m c t h0]
  dsimp only
  unfold out0_B_10
  rw [View.read_writes_junk_eq_canon]
  sl_kernel_rfl
theorem outB_kept : (outsAt0 m c t.val t.isLt).2.2.2.2 = View.canon (keptL (loads m c t) []) := by
  rw [outsAt0_B m c t h0]
  dsimp only
  unfold sout0_B_2
  rw [View.read_writes_junk_eq_canon]
  sl_kernel_rfl
end

/-! ## The stores as entries -/

section
variable {b : Loads} {w : Weights} {y : Fin 4096 → Row} {T : Fin 8} (H : b.Holds w y T)
include H

theorem gateL_at (i : Fin 512) (j : Fin 1024) : View.canon (gateL b) (ix2 i j) = gate w y (tileRow T i) j := (whole_top _ _ _ i j).trans (gate_at H i j)
theorem n0L_at (i : Fin 512) (j : Fin 1024) : View.canon (n0L b) (ix2 i j) = hat y (tileRow T i) j * w.nw j := (whole_top _ _ _ i j).trans (n0_at H i j)
theorem keptL_at (L : List (View.Piece (Elt Ideal) S32x1024 .f32)) (r : Fin 32) (j : Fin 1024) : View.canon (keptL b L) (ix2 r j) = late w y j (512 * (T.val + 1) + r.val) := by
  refine (whole_top _ _ _ r j).trans ?_
  have hu := u_at H ⟨480 + r.val, by omega⟩ j
  refine Eq.trans (b := b.u (ix2 ⟨480 + r.val, by omega⟩ j)) (by unfold k0_pay8; pointwise) ?_
  rw [hu, ← grow_val (fun s => u w y s j), ← late_grow]
  exact congrArg (late w y j) (by dsimp only [tileRow]; omega)

variable {A : FVec Ideal S32x1024 .f32} (HA : ∀ r j, A (ix2 r j) = late w y j (512 * T.val + r.val))
include HA

theorem afterL_at (i : Fin 512) (j : Fin 1024) : View.canon (afterL b A) (ix2 i j) = after w y (tileRow T i) j := (whole_top _ _ _ i j).trans (after_at H HA _ _ i j)

theorem pooledL_at (i : Fin 512) (j : Fin 1024) : View.canon (pooledL b A) (ix2 i j) = pooled w y (tileRow T i) j := by
  have cut : ∀ (g : Fin 4) (hj : 256 * g.val ≤ j.val) (hj' : j.val < 256 * g.val + 256), col g ⟨j.val - 256 * g.val, by omega⟩ = j := fun g hj _ =>
    Fin.ext (by simp only [col]; omega)
  refine top2 0 768 _ _ _ i j (fun _ hj => ?_) fun h3 => ?_
  · exact (p3_at H HA _ _ _ _).trans (congrArg _ (cut 3 hj.1 hj.2))
  refine top2 0 512 _ _ _ i j (fun _ hj => ?_) fun h2 => ?_
  · exact (p2_at H HA _ _ _ _).trans (congrArg _ (cut 2 hj.1 hj.2))
  refine top2 0 256 _ _ _ i j (fun _ hj => ?_) fun h1 => ?_
  · exact (p1_at H HA _ _ _ _).trans (congrArg _ (cut 1 hj.1 hj.2))
  refine top2 0 0 _ _ _ i j (fun _ hj => ?_) fun h => absurd (by omega) h
  exact (p0_at H HA _ _ _ _).trans (congrArg _ (cut 0 hj.1 hj.2))
end

end Cert.Kernel5Ideal.Own

end
-- ==== Proof.Mixer.Arrays.lean ====
/-
  The result arrays of the pooling mixer's forward call over the extended reals: the formulas of `Pool/Row.lean` at the rows of
  the arguments. The points go from the first tile of rows to the last.
-/
module

public import proofs.«01_k».proof.Proof.Mixer.Points
public import proofs.«01_k».proof.Proof.Pool.Shifts
public import proofs.«01_k».proof.Proof.Gen.Kernel5Ideal.Value
public import Idealize.ShloMosaic.Lib.Pipeline.ValueKit

@[expose] public section

set_option maxRecDepth 16384

noncomputable section

namespace Cert.Kernel5Ideal.Own

open Idealize.ShloMosaic Idealize.ShloMosaic.TcCoe Idealize.SL.Sem Cert.Kernel5Ideal Cert.Kernel5Ideal.Gen
open Idealize.ShloMosaic.Pipeline (Dat Cfg Window)
open Cert.Pool
open Cert.Head (part place col)
open Cert.Kernel4Ideal.Own (tileRow whole_given)

/-! ## Where a block lies -/

theorem pt (t : Fin cfg0.N) : t.val < 8 := Nat.lt_of_lt_of_eq t.isLt N_0

/-- The tile of rows of a point, and the point of a row. -/
def tile (t : Fin cfg0.N) : Fin 8 := ⟨t.val, pt t⟩
def pointOf (i : Fin 4096) : Fin cfg0.N := ⟨i.val / 512, Nat.lt_of_lt_of_eq (by omega) N_0.symm⟩
theorem tileRow_pointOf (i : Fin 4096) : tileRow (tile (pointOf i)) ⟨i.val % 512, by omega⟩ = i :=
  Fin.ext (by show 512 * (i.val / 512) + i.val % 512 = i.val; omega)

theorem coord : ∀ t : Fin cfg0.N, (grid0.coords t 0).val = t.val := (by decide +kernel : ∀ t : Fin grid0.N, (grid0.coords t 0).val = t.val)
theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0, 0] := (by decide +kernel : ∀ t : Fin grid0.N, win0_2.index t = ![0, 0, 0])
theorem idx_3 : ∀ t : Fin cfg0.N, win0_3.index t = ![0, 0, 0] := (by decide +kernel : ∀ t : Fin grid0.N, win0_3.index t = ![0, 0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_6 : ∀ t : Fin cfg0.N, win0_6.index t = ![0, 0] := (by decide +kernel : ∀ t : Fin grid0.N, win0_6.index t = ![0, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val, 0] := (by decide +kernel : ∀ t : Fin grid0.N, win0_8.index t = ![t.val, 0])
theorem idx_9 : ∀ t : Fin cfg0.N, win0_9.index t = ![t.val, 0] := (by decide +kernel : ∀ t : Fin grid0.N, win0_9.index t = ![t.val, 0])
theorem idx_10 : ∀ t : Fin cfg0.N, win0_10.index t = ![t.val, 0] := (by decide +kernel : ∀ t : Fin grid0.N, win0_10.index t = ![t.val, 0])

variable (m : (ℓ : Loc nD τ sig) → Buf (Elt Ideal) ℓ) (c : Dev nD)

/-- The arguments on a device hold these weights and rows. -/
abbrev Args (dh : S4096x1024.Idx → EReal) (w : Weights) (y : Fin 4096 → Row) : Prop :=
  Data (m ((c : Thread nD τ).loc main_arg0)) dh (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) w y

theorem v2_eq : (V m c main_v2 : S4x1024x512.Idx → EReal) = transpose S4x1024x512 [1, 0, 2]
    (shapeCast S1024x4x512 (m ((c : Thread nD τ).loc main_arg2) : S1024x2048.Idx → EReal) shapeCasts_S1024x2048_S1024x4x512) transposes_S1024x4x512_S4x1024x512_1_0_2 := rfl
theorem v6_eq : (V m c main_v6 : S4x256x256.Idx → EReal) = shapeCast S4x256x256 (transpose S4x4x64x256 [1, 0, 2, 3]
    (shapeCast S4x4x64x256 (m ((c : Thread nD τ).loc main_arg3) : S4x256x256.Idx → EReal) shapeCasts_S4x256x256_S4x4x64x256) transposes_S4x4x64x256_S4x4x64x256_1_0_2_3)
    shapeCasts_S4x4x64x256_S4x256x256 := rfl
theorem v7_eq : (V m c main_v7 : S1x1024.Idx → EReal) = shapeCast S1x1024 (m ((c : Thread nD τ).loc main_arg4) : S4x256.Idx → EReal) shapeCasts_S4x256_S1x1024 := rfl
theorem v8_eq : (V m c main_v8 : S1024x1024.Idx → EReal) = m ((c : Thread nD τ).loc main_arg6) := rfl

theorem iblk_0_at (t : Fin cfg0.N) (i : Fin 512) (j : Fin 1024) : (iblk m c 0 t : Vec Ideal S512x1024 .f32) (ix2 i j) = (V m c main_arg0 : S4096x1024.Idx → EReal) (ix2 (tileRow (tile t) i) j) := by
  have := pt t
  unfold tileRow tile
  blk_ext [iblk, idx_0]
theorem iblk_1_at (t : Fin cfg0.N) (j : Fin 1024) : (iblk m c 1 t : Vec Ideal S1x1024 .f32) (ix2 0 j) = (V m c main_arg1 : S1x1024.Idx → EReal) (ix2 0 j) := by
  blk_ext [iblk, idx_1]
theorem iblk_2_at (t : Fin cfg0.N) (q : Fin 4) (k : Fin 1024) (e : Fin 512) : (iblk m c 2 t : Vec Ideal S4x1024x512 .bf16) (ix3 q k e) = (V m c main_v2 : S4x1024x512.Idx → EReal) (ix3 q k e) := by
  blk_ext [iblk, idx_2]
theorem iblk_3_at (t : Fin cfg0.N) (q : Fin 4) (r e : Fin 256) : (iblk m c 3 t : Vec Ideal S4x256x256 .bf16) (ix3 q r e) = (V m c main_v6 : S4x256x256.Idx → EReal) (ix3 q r e) := by
  blk_ext [iblk, idx_3]
theorem iblk_4_at (t : Fin cfg0.N) (j : Fin 1024) : (iblk m c 4 t : Vec Ideal S1x1024 .f32) (ix2 0 j) = (V m c main_v7 : S1x1024.Idx → EReal) (ix2 0 j) := by
  blk_ext [iblk, idx_4]
theorem iblk_5_at (t : Fin cfg0.N) (j : Fin 1024) : (iblk m c 5 t : Vec Ideal S1x1024 .f32) (ix2 0 j) = (V m c main_arg5 : S1x1024.Idx → EReal) (ix2 0 j) := by
  blk_ext [iblk, idx_5]
theorem iblk_6_at (t : Fin cfg0.N) (k j : Fin 1024) : (iblk m c 6 t : Vec Ideal S1024x1024 .bf16) (ix2 k j) = (V m c main_v8 : S1024x1024.Idx → EReal) (ix2 k j) := by
  blk_ext [iblk, idx_6]

variable {m c} {dh : S4096x1024.Idx → EReal} {w : Weights} {y : Fin 4096 → Row} (hy : Args m c dh w y)
include hy

/-! ## What a point loads -/

theorem v2_at (q : Fin 4) (k : Fin 1024) (e : Fin 512) : (V m c main_v2 : S4x1024x512.Idx → EReal) (ix3 q k e) = w.inw k ⟨512 * q.val + e.val, by omega⟩ := by
  rw [v2_eq]
  pointwise [hy.inw]
  exact congrArg (w.inw k) (Fin.ext (by dsimp only; omega))

theorem v7_at (j : Fin 1024) : (V m c main_v7 : S1x1024.Idx → EReal) (ix2 0 j) = w.gb (part j) (place j) := by
  refine (congrFun (v7_eq m c) _).trans ((shapeCast_apply _ _ _ (ix2 (part j) (place j)) ?_).trans (hy.gb _ _))
  rw [Shape.rowMajor_val_two, Shape.rowMajor_val_two]
  show j.val / 256 * 256 + j.val % 256 = 0 * 1024 + j.val
  omega

theorem loads_holds (t : Fin cfg0.N) : (loads m c t).Holds w y (tile t) where
  i := congrArg (BitVec.ofNat 32) (coord t)
  x i j := (whole_given _ _ _ i j).trans ((iblk_0_at m c t i j).trans ((congrFun (V_main_arg0 m c) _).trans (hy.x _ j)))
  nw j := (whole_given _ _ _ 0 j).trans ((iblk_1_at m c t j).trans ((congrFun (V_main_arg1 m c) _).trans (hy.nw j)))
  wq q k e := (given3 _ _ _ _ _ _ 0 k e).trans ((congrArg _ (congr (congrArg₂ ix3 (Fin.ext (Nat.add_zero _)) (Fin.ext (Nat.zero_add _))) (Fin.ext (Nat.zero_add _)))).trans
    ((iblk_2_at m c t q k e).trans (v2_at hy q k e)))
  g g q r e := (given3 _ _ _ _ _ _ 0 r e).trans ((congrArg _ (congr (congrArg₂ ix3 (Fin.ext (Nat.add_zero _)) rfl) (Fin.ext (Nat.zero_add _)))).trans
    ((iblk_3_at m c t q ⟨64 * g.val + r.val, by omega⟩ e).trans ((congrFun (v6_eq m c) _).trans ((quarters_at _ _ _ _ q g r e).trans (hy.gw _ _ _)))))
  gb j := (whole_given _ _ _ 0 j).trans ((iblk_4_at m c t j).trans (v7_at hy j))
  sc j := (whole_given _ _ _ 0 j).trans ((iblk_5_at m c t j).trans ((congrFun (V_main_arg5 m c) _).trans (hy.sc j)))
  ow k j := (whole_given _ _ _ k j).trans ((iblk_6_at m c t k j).trans ((congrFun (v8_eq m c) _).trans (hy.ow k j)))

/-! ## What the points leave -/

/-- A point keeps its last 32 rows. -/
theorem kept_out (t : Fin cfg0.N) (r : Fin 32) (j : Fin 1024) : (outsAt0 m c t.val t.isLt).2.2.2.2 (ix2 r j) = late w y j (512 * (t.val + 1) + r.val) := by
  by_cases h0 : t.val % 8 = 0
  · rw [outA_kept m c t h0]
    exact keptL_at (loads_holds hy t) _ r j
  · rw [outB_kept m c t h0]
    exact keptL_at (loads_holds hy t) _ r j

/-- What the first point and a later one find ahead of their rows. -/
theorem ahead_first (t : Fin cfg0.N) (h0 : t.val % 8 = 0) (r : Fin 32) (j : Fin 1024) : aheadA (ix2 r j) = late w y j (512 * (tile t).val + r.val) := by
  have := pt t
  rw [aheadA_at]
  unfold late
  exact (if_neg (by show ¬32 ≤ 512 * t.val + r.val; omega)).symm
theorem ahead_later (t : Fin cfg0.N) (h0 : ¬t.val % 8 = 0) (r : Fin 32) (j : Fin 1024) : aheadB (prior m c t) (ix2 r j) = late w y j (512 * (tile t).val + r.val) := by
  have := pt t
  rw [aheadB_at]
  exact (kept_out hy ⟨t.val - 1, Nat.lt_of_le_of_lt (Nat.sub_le _ _) t.isLt⟩ r j).trans (congrArg (late w y j) (by show 512 * (t.val - 1 + 1) + r.val = 512 * t.val + r.val; omega))

theorem after_out (t : Fin cfg0.N) (i : Fin 512) (j : Fin 1024) : (outsAt0 m c t.val t.isLt).1 (ix2 i j) = after w y (tileRow (tile t) i) j := by
  by_cases h0 : t.val % 8 = 0
  · rw [outA_after m c t h0]
    exact afterL_at (loads_holds hy t) (ahead_first hy t h0) i j
  · rw [outB_after m c t h0]
    exact afterL_at (loads_holds hy t) (ahead_later hy t h0) i j
theorem pooled_out (t : Fin cfg0.N) (i : Fin 512) (j : Fin 1024) : (outsAt0 m c t.val t.isLt).2.1 (ix2 i j) = pooled w y (tileRow (tile t) i) j := by
  by_cases h0 : t.val % 8 = 0
  · rw [outA_pooled m c t h0]
    exact pooledL_at (loads_holds hy t) (ahead_first hy t h0) i j
  · rw [outB_pooled m c t h0]
    exact pooledL_at (loads_holds hy t) (ahead_later hy t h0) i j
theorem gate_out (t : Fin cfg0.N) (i : Fin 512) (j : Fin 1024) : (outsAt0 m c t.val t.isLt).2.2.1 (ix2 i j) = gate w y (tileRow (tile t) i) j := by
  by_cases h0 : t.val % 8 = 0
  · rw [outA_gate m c t h0]
    exact gateL_at (loads_holds hy t) i j
  · rw [outB_gate m c t h0]
    exact gateL_at (loads_holds hy t) i j
theorem n0_out (t : Fin cfg0.N) (i : Fin 512) (j : Fin 1024) : (outsAt0 m c t.val t.isLt).2.2.2.1 (ix2 i j) = hat y (tileRow (tile t) i) j * w.nw j := by
  by_cases h0 : t.val % 8 = 0
  · rw [outA_n0 m c t h0]
    exact n0L_at (loads_holds hy t) i j
  · rw [outB_n0 m c t h0]
    exact n0L_at (loads_holds hy t) i j

/-! ## The result arrays -/

theorem after_array (i : Fin 4096) (j : Fin 1024) : (Dat.arrAt (dats m 0 c) 7 cfg0.N : S4096x1024.Idx → EReal) (ix2 i j) = after w y i j := by
  have h := (dats m 0 c).arrAt_emb_eq_flushed 7 (win0_7.hdisj_of_index_inj (by decide +kernel)) (pointOf i) (flush0_7 _) (ix2 ⟨i.val % 512, by omega⟩ j)
  refine Eq.trans ?_ (h.trans ((congrFun (after0_7 m c (pointOf i)) _).trans ((after_out hy (pointOf i) _ j).trans (by rw [tileRow_pointOf]))))
  have := pt (pointOf i)
  have ht : (pointOf i).val = i.val / 512 := rfl
  blk_ext [idx_7, ht]
theorem pooled_array (i : Fin 4096) (j : Fin 1024) : (Dat.arrAt (dats m 0 c) 8 cfg0.N : S4096x1024.Idx → EReal) (ix2 i j) = pooled w y i j := by
  have h := (dats m 0 c).arrAt_emb_eq_flushed 8 (win0_8.hdisj_of_index_inj (by decide +kernel)) (pointOf i) (flush0_8 _) (ix2 ⟨i.val % 512, by omega⟩ j)
  refine Eq.trans ?_ (h.trans ((congrFun (after0_8 m c (pointOf i)) _).trans ((pooled_out hy (pointOf i) _ j).trans (by rw [tileRow_pointOf]))))
  have := pt (pointOf i)
  have ht : (pointOf i).val = i.val / 512 := rfl
  blk_ext [idx_8, ht]
theorem gate_array (i : Fin 4096) (j : Fin 1024) : (Dat.arrAt (dats m 0 c) 9 cfg0.N : S4096x1024.Idx → EReal) (ix2 i j) = gate w y i j := by
  have h := (dats m 0 c).arrAt_emb_eq_flushed 9 (win0_9.hdisj_of_index_inj (by decide +kernel)) (pointOf i) (flush0_9 _) (ix2 ⟨i.val % 512, by omega⟩ j)
  refine Eq.trans ?_ (h.trans ((congrFun (after0_9 m c (pointOf i)) _).trans ((gate_out hy (pointOf i) _ j).trans (by rw [tileRow_pointOf]))))
  have := pt (pointOf i)
  have ht : (pointOf i).val = i.val / 512 := rfl
  blk_ext [idx_9, ht]
theorem n0_array (i : Fin 4096) (j : Fin 1024) : (Dat.arrAt (dats m 0 c) 10 cfg0.N : S4096x1024.Idx → EReal) (ix2 i j) = hat y i j * w.nw j := by
  have h := (dats m 0 c).arrAt_emb_eq_flushed 10 (win0_10.hdisj_of_index_inj (by decide +kernel)) (pointOf i) (flush0_10 _) (ix2 ⟨i.val % 512, by omega⟩ j)
  refine Eq.trans ?_ (h.trans ((congrFun (after0_10 m c (pointOf i)) _).trans ((n0_out hy (pointOf i) _ j).trans (by rw [tileRow_pointOf]))))
  have := pt (pointOf i)
  have ht : (pointOf i).val = i.val / 512 := rfl
  blk_ext [idx_10, ht]

end Cert.Kernel5Ideal.Own

end
-- ==== Proof.Mixer.Reference.lean ====
/-
  The results of the pooling mixer's forward call as the reference takes them: the trailing means from running sums, and the rows
  through the groups' matrices, the gate and the output projection. They are the formulas of `Pool/Row.lean`.
-/
module

public import proofs.«01_k».proof.Proof.Pool.Reference
public import proofs.«01_k».proof.Proof.Mixer.Row
public import proofs.«01_k».proof.Proof.Gen.Reference5Ideal.Run

@[expose] public section

set_option maxRecDepth 16384

noncomputable section

namespace Cert.Reference5Ideal.Own

open Idealize.ShloMosaic Idealize.ShloMosaic.TcCoe Idealize.SL.Sem Cert.Reference5Ideal Cert.Reference5Ideal.Gen
open Cert.Pool
open Cert.Head (word_one word_1024 word_eps part place col part_col place_col col_part_place)
open Cert.Reference4Ideal.Own (part_ix place_ix hostCount hostCount_at hostGroup hostGroup_at hostUpto hostUpto_at hostShift mean_at four_at)

variable (x : S4096x1024.Idx → EReal) (nw : S1x1024.Idx → EReal) (inw : S1024x2048.Idx → EReal) (gw : S4x256x256.Idx → EReal) (gb : S4x256.Idx → EReal)
  (sc : S1x1024.Idx → EReal) (ow : S1024x1024.Idx → EReal)

/-! ## The values between -/

def rootOf : S4096x1.Idx → EReal :=
  Host.rsqrt (F := Ideal) (φ := .f32) (addf (Host.divf (broadcastInDim S4096x1 ![0] bcast_S4096_S4096x1_0 (Host.reduceAdd (F := Ideal) (φ := .f32)
    (mulf (F := Ideal) (φ := .f32) x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))
def rowOf (z : S1x1024.Idx → EReal) : S4096x1024.Idx → EReal := broadcastInDim S4096x1024 ![0, 1] bcast_S1x1024_S4096x1024_0_1 (broadcastInDim S1x1024 ![1] bcast_S1024_S1x1024_1
  (shapeCast S1024 z shapeCasts_S1x1024_S1024))
def normed : S4096x1024.Idx → EReal :=
  mulf (F := Ideal) (φ := .f32) (mulf (F := Ideal) (φ := .f32) x (broadcastInDim S4096x1024 ![0, 1] bcast_S4096x1_S4096x1024_0_1 (rootOf x))) (rowOf nw)
def projected : S4096x2048.Idx → EReal := Host.dotGeneral (F := Ideal) (φ₁ := .f32) (φ₂ := .f32) dot_S4096x1024_S1024x2048_S4096x2048_1_0_0_1_n_n none (normed x nw) inw
def gateOf : S4096x1024.Idx → EReal := extractStridedSlice S4096x1024 ![0, 1024] (projected x nw inw) slices_S4096x2048_S4096x1024_0_1024
def groups : S4096x4x256.Idx → EReal :=
  shapeCast S4096x4x256 (extractStridedSlice S4096x1024 ![0, 0] (projected x nw inw) slices_S4096x2048_S4096x1024_0_0) shapeCasts_S4096x1024_S4096x4x256

/-- A group's trailing means. -/
def means {n k : ℕ} (hb : S_.BroadcastsInDim ⟨2, ![n, 256]⟩ ![]) (hs : S4096x256.Slices ![0, 0] ⟨2, ![k, 256]⟩)
    (hc : Shape.Concatenates [⟨2, ![n, 256]⟩, ⟨2, ![k, 256]⟩] S4096x256 0) (l : BitVec 32) (z : S4096x256.Idx → EReal) : S4096x1x256.Idx → EReal :=
  broadcastInDim S4096x1x256 ![0, 2] bcast_S4096x256_S4096x1x256_0_2 (Host.divf (F := Ideal) (φ := .f32) (subf (hostUpto z) (hostShift hb hs hc (hostUpto z)))
    (broadcastInDim S4096x256 ![0, 1] bcast_S4096x1_S4096x256_0_1 (hostCount l)))
def pooledOf (z : S4096x4x256.Idx → EReal) : S4096x4x256.Idx → EReal := subf (F := Ideal) (φ := .f32) (concatenate S4096x4x256 1
    [⟨S4096x1x256, means bcast_S_S2x256 slices_S4096x256_S4094x256_0_0 concatenates_S2x256_S4094x256_S4096x256_d0 2#32 (hostGroup 0 slices_S4096x4x256_S4096x1x256_0_0_0 z)⟩,
      ⟨S4096x1x256, means bcast_S_S4x256 slices_S4096x256_S4092x256_0_0 concatenates_S4x256_S4092x256_S4096x256_d0 4#32 (hostGroup 1 slices_S4096x4x256_S4096x1x256_0_1_0 z)⟩,
      ⟨S4096x1x256, means bcast_S_S8x256 slices_S4096x256_S4088x256_0_0 concatenates_S8x256_S4088x256_S4096x256_d0 8#32 (hostGroup 2 slices_S4096x4x256_S4096x1x256_0_2_0 z)⟩,
      ⟨S4096x1x256, means bcast_S_S16x256 slices_S4096x256_S4080x256_0_0 concatenates_S16x256_S4080x256_S4096x256_d0 16#32 (hostGroup 3 slices_S4096x4x256_S4096x1x256_0_3_0 z)⟩]
    concatenates_S4096x1x256_S4096x1x256_S4096x1x256_S4096x1x256_S4096x4x256_d1) z
def mixedOf (p : S4096x4x256.Idx → EReal) : S4096x1024.Idx → EReal := shapeCast S4096x1024 (addf (F := Ideal) (φ := .f32)
  (transpose S4096x4x256 [2, 0, 1] (Host.dotGeneral (F := Ideal) (φ₁ := .f32) (φ₂ := .f32) dot_S4x256x256_S4096x4x256_S4x256x4096_1_2_2_0_0_1 none gw p) transposes_S4x256x4096_S4096x4x256_2_0_1)
  (broadcastInDim S4096x4x256 ![0, 1, 2] bcast_S1x4x256_S4096x4x256_0_1_2 (broadcastInDim S1x4x256 ![1, 2] bcast_S4x256_S1x4x256_1_2 gb))) shapeCasts_S4096x4x256_S4096x1024
def siluOf (z : S4096x1024.Idx → EReal) : S4096x1024.Idx → EReal := mulf (F := Ideal) (φ := .f32) z (Host.divf (F := Ideal) (φ := .f32)
  (broadcastInDim S4096x1024 ![] bcast_S_S4096x1024 (constant S_ .f32 0x3F800000#32))
  (addf (broadcastInDim S4096x1024 ![] bcast_S_S4096x1024 (constant S_ .f32 0x3F800000#32)) (Host.exp (F := Ideal) (φ := .f32) (Host.negf (F := Ideal) (φ := .f32) z))))
def afterOf (p : S4096x4x256.Idx → EReal) (z : S4096x1024.Idx → EReal) : S4096x1024.Idx → EReal := addf (F := Ideal) (φ := .f32) x
  (Host.dotGeneral (F := Ideal) (φ₁ := .f32) (φ₂ := .f32) dot_S4096x1024_S1024x1024_S4096x1024_1_0_0_1_n_n none
    (mulf (F := Ideal) (φ := .f32) (mulf (F := Ideal) (φ := .f32) (mixedOf gw gb p) (rowOf sc)) (siluOf z)) ow)

section
variable {x nw inw gw gb sc ow} {dh : S4096x1024.Idx → EReal} {w : Weights} {y : Fin 4096 → Row} (hy : Data x dh nw inw gw gb sc ow w y) (ht : Mild w)
include hy

variable (i : Fin 4096) (g : Fin 4) (e : Fin 256) (j : Fin 1024)

theorem rootOf_at : rootOf x (ix2 i 0) = root y i := by
  unfold rootOf root ms
  pointwise [hy.x, word_1024, word_eps]

omit hy in
theorem rowOf_at (z : S1x1024.Idx → EReal) : rowOf z (ix2 i j) = z (ix2 0 j) := by
  unfold rowOf
  pointwise

theorem normed_at : normed x nw (ix2 i j) = hat y i j * w.nw j := by
  unfold normed
  pointwise [hy.x, rowOf_at, hy.nw, rootOf_at hy, hat]

theorem projected_at (k : Fin 2048) : projected x nw inw (ix2 i k) = proj w y i k := by
  unfold projected proj
  pointwise [normed_at hy, hy.inw]

theorem gateOf_at : gateOf x nw inw (ix2 i j) = gate w y i j := by
  unfold gateOf gate
  pointwise [projected_at hy]

theorem groups_at : groups x nw inw (ix3 i g e) = u w y i (col g e) := by
  unfold groups u
  pointwise [projected_at hy]
  exact congrArg (proj w y i) (Fin.ext (by show g.val * 256 + e.val = 256 * g.val + e.val; omega))

theorem upto_at (h : S4096x4x256.Slices ![0, g.val, 0] S4096x1x256) :
    hostUpto (hostGroup g.val h (groups x nw inw)) (ix2 i e) = upto (grow fun s => u w y s (col g e)) i.val := by
  rw [hostUpto_at]
  exact congrArg (fun f => upto (grow f) i.val) (funext fun s => (hostGroup_at g h _ s e).trans (groups_at hy s g e))

include ht in
theorem pooledOf_at : pooledOf (groups x nw inw) (ix3 i g e) = pooled w y i (col g e) := by
  refine (congrArg₂ (· - ·) (four_at _ _ _ _ i e
    (fun g => Ideal.div (upto (grow fun s => u w y s (col g e)) i.val - (if win g ≤ i.val then upto (grow fun s => u w y s (col g e)) (i.val - win g) else 0)) (Pool.count g i.val : EReal))
    (mean_at 0 _ _ _ rfl _ _ (fun s => u w y s (col 0 e)) e (fun s => upto_at hy s 0 e _) i (hostCount_at 0 i))
    (mean_at 1 _ _ _ rfl _ _ (fun s => u w y s (col 1 e)) e (fun s => upto_at hy s 1 e _) i (hostCount_at 1 i))
    (mean_at 2 _ _ _ rfl _ _ (fun s => u w y s (col 2 e)) e (fun s => upto_at hy s 2 e _) i (hostCount_at 2 i))
    (mean_at 3 _ _ _ rfl _ _ (fun s => u w y s (col 3 e)) e (fun s => upto_at hy s 3 e _) i (hostCount_at 3 i)) g) (groups_at hy i g e)).trans ?_
  have h := pooled_back (y := y) ht i (col g e)
  rw [part_col] at h
  exact h

include ht in
theorem mixedOf_at : mixedOf gw gb (pooledOf (groups x nw inw)) (ix2 i j) = mixed w y i j := by
  unfold mixedOf
  pointwise
  rw [part_ix, place_ix]
  pointwise [hy.gw, hy.gb, pooledOf_at hy ht, mixed]
  exact congrArg (· + w.gb (part j) (place j)) (Finset.sum_congr rfl fun a _ => mul_comm (w.gw (part j) a (place j)) (pooled w y i (col (part j) a)))

theorem siluOf_at : siluOf (gateOf x nw inw) (ix2 i j) = silu w y i j := by
  unfold siluOf silu sg Cert.Project.slope
  pointwise [gateOf_at hy, word_one]

include ht in
theorem afterOf_at : afterOf x gw gb sc ow (pooledOf (groups x nw inw)) (gateOf x nw inw) (ix2 i j) = after w y i j := by
  unfold afterOf after
  pointwise [hy.x, hy.sc, hy.ow, mixedOf_at hy ht, siluOf_at hy, rowOf_at]

end

/-! ## The results -/

section
variable (m : (ℓ : Loc nD τ sig) → Buf (Elt Ideal) ℓ) (c : Dev nD)

/-- The arguments on a device hold these weights and rows. -/
abbrev Args (dh : S4096x1024.Idx → EReal) (w : Weights) (y : Fin 4096 → Row) : Prop :=
  Data (m ((c.tc : Thread nD τ).loc main_arg0)) dh (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) w y

theorem pooled_result : (Value.res_main_v103 m c : S4096x1024.Idx → EReal) = shapeCast S4096x1024
    (pooledOf (groups (m ((c.tc : Thread nD τ).loc main_arg0)) (m ((c.tc : Thread nD τ).loc main_arg1)) (m ((c.tc : Thread nD τ).loc main_arg2)))) shapeCasts_S4096x4x256_S4096x1024 := rfl
theorem after_result : (Value.res_main_v101 m c : S4096x1024.Idx → EReal) =
    afterOf (m ((c.tc : Thread nD τ).loc main_arg0)) (m ((c.tc : Thread nD τ).loc main_arg3)) (m ((c.tc : Thread nD τ).loc main_arg4)) (m ((c.tc : Thread nD τ).loc main_arg5))
      (m ((c.tc : Thread nD τ).loc main_arg6)) (pooledOf (groups (m ((c.tc : Thread nD τ).loc main_arg0)) (m ((c.tc : Thread nD τ).loc main_arg1)) (m ((c.tc : Thread nD τ).loc main_arg2))))
      (gateOf (m ((c.tc : Thread nD τ).loc main_arg0)) (m ((c.tc : Thread nD τ).loc main_arg1)) (m ((c.tc : Thread nD τ).loc main_arg2))) := rfl

variable {m c} {dh : S4096x1024.Idx → EReal} {w : Weights} {y : Fin 4096 → Row} (hy : Args m c dh w y) (ht : Mild w) (i : Fin 4096) (j : Fin 1024)
include hy ht

theorem pooled_result_at : (Value.res_main_v103 m c : S4096x1024.Idx → EReal) (ix2 i j) = pooled w y i j := by
  rw [pooled_result]
  pointwise
  rw [part_ix, place_ix, pooledOf_at hy ht, col_part_place]

theorem after_result_at : (Value.res_main_v101 m c : S4096x1024.Idx → EReal) (ix2 i j) = after w y i j :=
  (congrFun (after_result m c) _).trans (afterOf_at hy ht i j)
end

end Cert.Reference5Ideal.Own

end
-- ==== Proof.Mixer.Finite.lean ====
/-
  What the precondition of the pooling mixer's forward call says: the norm's weight and the input projection hold reals.
-/
module

public import proofs.«01_k».proof.Pre_finite5
public import proofs.«01_k».proof.Proof.Finite
public import proofs.«01_k».proof.Proof.Pool.Row

@[expose] public section

noncomputable section

namespace Cert.Pre_finite5

open Idealize.ShloMosaic
open Cert.Pre_finite (isReal_of_lt)
open Cert.Pool

theorem facts : Facts where
  bcast_S_S1x1024 := by decide
  reducesTo_S1x1024_S_d0_1 := by decide
  h_S_ := by decide
  bcast_S_S1024x2048 := by decide
  reducesTo_S1024x2048_S_d0_1 := by decide

variable [Facts]

instance : Subsingleton S_.Idx := ⟨fun _ _ => funext fun a => a.elim0⟩

/-- The call takes no cotangent: the rows' are zero. -/
theorem holds {x : S4096x1024.Idx → EReal} {nw : S1x1024.Idx → EReal} {inw : S1024x2048.Idx → EReal} {gw : S4x256x256.Idx → EReal} {gb : S4x256.Idx → EReal}
    {sc : S1x1024.Idx → EReal} {ow : S1024x1024.Idx → EReal} (h : fn (F := Ideal) x nw inw gw gb sc ow = fun _ => 1#1) :
    ∃ w y, Data x (fun _ => 0) nw inw gw gb sc ow w y ∧ Mild w := by
  obtain ⟨hnw, hinw⟩ := IntOp.andi_eq_one.1 (congrFun h ix0)
  exact ⟨⟨fun j => nw (ix2 0 j), fun k j => inw (ix2 k j), fun g a b => gw (ix3 g a b), fun g b => gb (ix2 g b), fun j => sc (ix2 0 j), fun k j => ow (ix2 k j)⟩,
    fun i => ⟨fun j => x (ix2 i j), fun _ => 0⟩,
    ⟨fun _ _ => rfl, fun _ _ => rfl, fun _ => rfl, fun _ _ => rfl, fun _ _ _ => rfl, fun _ _ => rfl, fun _ => rfl, fun _ _ => rfl⟩,
    ⟨fun _ => isReal_of_lt _ (Host.reduce_andi_all _ _ _ _ _ hnw _), fun _ _ => isReal_of_lt _ (Host.reduce_andi_all _ _ _ _ _ hinw _)⟩⟩

end Cert.Pre_finite5

end
-- ==== Proof.Mixer.Value.lean ====
/-
  The value claim of the pooling mixer's forward call: where the norm's weight and the input projection are finite the two ideal
  programs end with the same four results.
-/
module

public import proofs.«01_k».proof.Defs
public import proofs.«01_k».proof.Proof.Mixer.Arrays
public import proofs.«01_k».proof.Proof.Mixer.Reference
public import proofs.«01_k».proof.Proof.Mixer.Finite
public import proofs.«01_k».proof.Proof.Mixer.Frames

@[expose] public section

set_option maxRecDepth 16384

noncomputable section

namespace Cert.Proof.Mixer

open Idealize.ShloMosaic Idealize.ShloMosaic.StableHlo Idealize.SL.Sem
open Cert.Pool
open Cert.Kernel4Ideal.Own (ext2)
open Kernel5Ideal.Gen (dats)

theorem value [hp : Cert.Pre_finite5.Facts] :
    algebraic_Kernel5Ideal_Reference5Ideal_pre_finite5 (hKernel5Ideal := Kernel5Ideal.Gen.facts) (hReference5Ideal := Reference5Ideal.Gen.facts) := by
  intro m g m' g' hpre hsame
  refine ⟨fun c => (dats m 0 c).arrAt 7 Kernel5Ideal.cfg0.N, fun c => (dats m 0 c).arrAt 8 Kernel5Ideal.cfg0.N, fun c => (dats m 0 c).arrAt 9 Kernel5Ideal.cfg0.N,
    fun c => (dats m 0 c).arrAt 10 Kernel5Ideal.cfg0.N,
    (θ_run _ _ _).mono (fun r h c => ?_) (Kernel5Ideal.Value.run_blocks m g), (θ_run _ _ _).mono (fun r h c => ?_) (Reference5Ideal.Value.run m' g')⟩
  · exact h c
  · obtain ⟨w, y, hx, ht⟩ := Pre_finite5.holds (hpre c)
    obtain ⟨h0, h1, h2, h3, hargs⟩ := h c
    have hk : Kernel5Ideal.Own.Args m c (fun _ => 0) w y := hx
    have hy : Reference5Ideal.Own.Args m' c (fun _ => 0) w y := by
      obtain ⟨e0, e1, e2, e3, e4, e5, e6⟩ := hsame c
      rw [← e0, ← e1, ← e2, ← e3, ← e4, ← e5, ← e6] at hx
      exact hx
    exact ⟨h0.trans (ext2 fun i j => (Reference5Ideal.Own.after_result_at hy ht i j).trans (Kernel5Ideal.Own.after_array hk i j).symm),
      h1.trans (ext2 fun i j => (Reference5Ideal.Own.pooled_result_at hy ht i j).trans (Kernel5Ideal.Own.pooled_array hk i j).symm),
      h2.trans (ext2 fun i j => (Reference5Ideal.Own.gateOf_at hy i j).trans (Kernel5Ideal.Own.gate_array hk i j).symm),
      h3.trans (ext2 fun i j => (Reference5Ideal.Own.normed_at hy i j).trans (Kernel5Ideal.Own.n0_array hk i j).symm), hargs⟩

end Cert.Proof.Mixer

end
-- ==== Proof.Gla.Frames.lean ====
/-
  The three frames of the projections' forward call, without its exchange.
-/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.Proof.Gla

open Idealize.ShloMosaic Idealize.SL.Sem

theorem kernel_frame : quiescent_Kernel6 (hKernel6 := Kernel6.Gen.facts) := fun m g _ => Kernel6.Gen.frame m g

theorem ideal_frame : quiescent_Kernel6Ideal (hKernel6Ideal := Kernel6Ideal.Gen.facts) := fun m g _ => Kernel6Ideal.Gen.frame m g

theorem reference_frame : quiescent_Reference6Ideal (hReference6Ideal := Reference6Ideal.Gen.facts) := fun m g _ =>
  (θ_run _ _ _).mono (fun _ h => ⟨fun c => (h c).2.2.2.2.2.2, sem_eq_zero_of_no_sems rfl _⟩) (Reference6Ideal.Value.run m g)

end Cert.Proof.Gla

end
-- ==== Proof.Gla.Row.lean ====
/-
  The mathematics of one row of the projections' forward call, over the extended reals: the projection's columns, and the
  forget gate's log decays summed along a chunk.
-/
module

public import proofs.«01_k».proof.Proof.Project.Row

@[expose] public section

noncomputable section

namespace Cert.Project

open Idealize.ShloMosaic
open Cert.Head

/-! ## The log-sigmoid -/

/-- The log-sigmoid from the smaller of the entry and zero. -/
theorem log_sigmoid (z : EReal) : min z 0 - Ideal.log (((1 : ℝ) : EReal) + Ideal.exp (-(max z (-z)))) = -softplus (-z) := by
  unfold softplus
  have hmin : -max (-z) 0 = min z 0 := by
    rcases le_total z 0 with h | h
    · rw [max_eq_left (by rwa [← neg_zero, EReal.neg_le_neg_iff]), neg_neg, min_eq_left h]
    · rw [max_eq_right (by rw [← neg_zero, EReal.neg_le_neg_iff]; exact h), neg_zero, min_eq_right h]
  have hlog : ∀ u : EReal, Ideal.log (((1 : ℝ) : EReal) + u) = Ideal.log1p u := fun u => by rw [Ideal.log1p, EReal.coe_one]
  rw [neg_neg, max_comm (-z) z, hlog, ← hmin]
  have h1 : 0 ≤ Ideal.log1p (Ideal.exp (-(max z (-z)))) ∧ Ideal.log1p (Ideal.exp (-(max z (-z)))) ≠ ⊤ := by
    have real : ∀ u : ℝ, Ideal.log1p (Ideal.exp (u : EReal)) = ((Real.log (1 + Real.exp u) : ℝ) : EReal) := fun u => by
      rw [exp_real, Ideal.log1p, ← EReal.coe_one, ← EReal.coe_add]
      show (if 1 + Real.exp u ≤ 0 then (⊥ : EReal) else _) = _
      rw [if_neg (not_le.2 (by positivity))]
    have bot : Ideal.log1p (Ideal.exp ⊥) = 0 := by
      rw [Ideal.exp_bot, Ideal.log1p, add_zero, ← EReal.coe_one]
      show (if (1 : ℝ) ≤ 0 then (⊥ : EReal) else ((Real.log 1 : ℝ) : EReal)) = _
      rw [if_neg (by norm_num), Real.log_one, EReal.coe_zero]
    induction z with
    | bot => rw [EReal.neg_bot, max_eq_right bot_le, EReal.neg_top, bot]; exact ⟨le_rfl, EReal.zero_ne_top⟩
    | top => rw [max_eq_left le_top, EReal.neg_top, bot]; exact ⟨le_rfl, EReal.zero_ne_top⟩
    | coe z =>
      rw [← EReal.coe_neg, ← (EReal.coe_strictMono.monotone.map_max : _ = max (z : EReal) ((-z : ℝ) : EReal)), ← EReal.coe_neg, real]
      exact ⟨EReal.coe_nonneg.2 (Real.log_nonneg (by linarith [Real.exp_pos (-max z (-z))])), EReal.coe_ne_top _⟩
  generalize Ideal.log1p (Ideal.exp (-(max z (-z)))) = l at h1
  rw [EReal.neg_add (.inr h1.2) (.inr (ne_of_gt (lt_of_lt_of_le EReal.bot_lt_zero h1.1)))]

/-! ## The sums along a chunk -/

/-- A window of all earlier entries, summed. -/
theorem earlier_sums (x : (⟨3, ![64, 64, 512]⟩ : Shape).Idx → EReal)
    (h : (⟨3, ![64, 64, 512]⟩ : Shape).ReduceWindows ![1, 64, 1] ![1, 1, 1] ![0, 63, 0] ![0, 0, 0] ⟨3, ![64, 64, 512]⟩) (n r : Fin 64) (j : Fin 512) :
    Ideal.hostReduceWindowAdd ![1, 64, 1] ![1, 1, 1] ![0, 63, 0] ![0, 0, 0] h x 0 (ix3 n r j) = ∑ s : Fin 64, if s ≤ r then x (ix3 n s j) else 0 := by
  unfold Ideal.hostReduceWindowAdd Host.reduceWindow
  dsimp only
  rw [show ∀ (M : ℕ) (g : Fin M → EReal), (List.finRange M).foldl (fun r k => r + g k) 0 = ∑ k, g k from fun M g => by
    rw [← List.foldl_map (f := g) (g := fun a b => a + b), ← List.sum_eq_foldl, ← List.ofFn_eq_map, List.sum_ofFn]]
  generalize hG : (fun i : (⟨3, ![1, 64, 1]⟩ : Shape).Idx => (if hin : ∀ a : Fin 3, ![0, 63, 0] a ≤ (ix3 n r j (a.cast h.1.symm)).val * ![1, 1, 1] a + (i a).val
      ∧ (ix3 n r j (a.cast h.1.symm)).val * ![1, 1, 1] a + (i a).val - ![0, 63, 0] a < (⟨3, ![64, 64, 512]⟩ : Shape).size a
    then x (fun a => ⟨(ix3 n r j (a.cast h.1.symm)).val * ![1, 1, 1] a + (i a).val - ![0, 63, 0] a, (hin a).2⟩) else 0)) = G
  have over : ∑ k : Fin 64, G (ix3 0 k 0) = ∑ i, G i := by
    refine Fintype.sum_bijective (fun k : Fin 64 => (ix3 0 k 0 : (⟨3, ![1, 64, 1]⟩ : Shape).Idx)) ⟨fun a b hab => congrFun hab 1, fun i => ⟨i 1, ?_⟩⟩ _ _ fun _ => rfl
    rw [eq_ix3 i]
    funext a
    fin_cases a
    · exact Subsingleton.elim (α := Fin 1) _ _
    · rfl
    · exact Subsingleton.elim (α := Fin 1) _ _
  have hr : r.val < 64 := r.isLt
  generalize hX : (fun s : ℕ => if hs : s < 64 then x (ix3 n ⟨s, hs⟩ j) else 0) = X
  have entry : ∀ k : Fin 64, G (ix3 0 k 0) = if 63 - r.val ≤ k.val then X (r.val + k.val - 63) else 0 := fun k => by
    have hk : k.val < 64 := k.isLt
    rw [← hG, ← hX]
    dsimp only
    by_cases hk : 63 - r.val ≤ k.val
    · rw [if_pos hk, dif_pos (show r.val + k.val - 63 < 64 by omega), dif_pos]
      · refine congrArg x (funext fun a => Fin.ext ?_)
        fin_cases a
        · show n.val * 1 + 0 - 0 = n.val; omega
        · show r.val * 1 + k.val - 63 = r.val + k.val - 63; omega
        · show j.val * 1 + 0 - 0 = j.val; omega
      · intro a
        fin_cases a
        · show 0 ≤ n.val * 1 + 0 ∧ n.val * 1 + 0 - 0 < 64; omega
        · show 63 ≤ r.val * 1 + k.val ∧ r.val * 1 + k.val - 63 < 64; omega
        · show 0 ≤ j.val * 1 + 0 ∧ j.val * 1 + 0 - 0 < 512; omega
    · rw [if_neg hk, dif_neg]
      intro hin
      have h1 : 63 ≤ r.val * 1 + k.val ∧ r.val * 1 + k.val - 63 < 64 := hin 1
      omega
  refine (Finset.sum_congr rfl fun k _ => (?_ : _ = G ((⟨3, ![1, 64, 1]⟩ : Shape).rowMajor.symm k))).trans (((Equiv.sum_comp _ G).trans over.symm).trans ?_)
  · rw [← hG]; congr!
  simp only [entry]
  have back : ∀ s : Fin 64, (if s ≤ r then x (ix3 n s j) else 0) = if s.val ≤ r.val then X s.val else 0 := fun s => by
    rw [← hX]
    dsimp only
    rw [dif_pos s.isLt]
    rfl
  simp only [back]
  rw [Fin.sum_univ_eq_sum_range (fun k => if 63 - r.val ≤ k then X (r.val + k - 63) else 0) 64, Fin.sum_univ_eq_sum_range (fun s => if s ≤ r.val then X s else 0) 64,
    ← Finset.sum_filter, ← Finset.sum_filter,
    show (Finset.range 64).filter (fun k => 63 - r.val ≤ k) = Finset.Ico (63 - r.val) 64 from Finset.ext fun s => by
      simp only [Finset.mem_Ico, Finset.mem_filter, Finset.mem_range]; omega,
    show (Finset.range 64).filter (fun s => s ≤ r.val) = Finset.range (64 - (63 - r.val)) from Finset.ext fun s => by
      simp only [Finset.mem_filter, Finset.mem_range]; omega,
    Finset.sum_Ico_eq_sum_range]
  exact Finset.sum_congr rfl fun s _ => congrArg X (by omega)

/-! ## The rows -/

variable (w : Weights) (x : Fin 4096 → Row) (i : Fin 4096)

/-- A column of the projection, a log decay, and the log decays summed along the chunk. -/
def column (j : Fin 3088) : EReal := ∑ k, n1 w x i k * w.inw k j
def decay (j : Fin 512) : EReal := Ideal.div (-softplus (-(pre w x i j))) ((16 : ℝ) : EReal)
def cum (j : Fin 512) : EReal := ∑ s : Fin 64, if s.val ≤ i.val % 64 then decay w x (mate i s) j else 0

end Cert.Project

end
-- ==== Proof.Gla.Payloads.lean ====
/-
  What the projections' forward call makes of its blocks, read at an index over the extended reals: the formulas of `Row.lean`
  at the rows and the weights that the blocks hold.
-/
module

public import proofs.«01_k».proof.Proof.Gla.Row
public import proofs.«01_k».proof.Proof.Project.Payloads
public import proofs.«01_k».proof.Proof.Gen.Kernel6Ideal.Skeleton
public import Idealize.ShloMosaic.Lib.Pointwise
public import Idealize.ShloMosaic.Lib.KernelVsHost

@[expose] public section

set_option maxRecDepth 16384

noncomputable section

namespace Cert.Kernel6Ideal.Own

open Idealize.ShloMosaic Idealize.SL.Sem Cert.Kernel6Ideal Cert.Kernel6Ideal.Gen
open Cert.Project
open Cert.Head (word_one word_1024 word_eps)
open Cert.Kernel3Ideal.Own (tileRow grown grown_of sum_grown)

/-- What a point loads: rows, the norm's weight, four windows of the assembled weights, and the forget gate's weights. -/
structure Loads where
  x : Vec Ideal S512x1024 .f32
  nw : Vec Ideal S1x1024 .f32
  wqk : Vec Ideal S1024x1024 .bf16
  wv : Vec Ideal S1024x1024 .bf16
  wg : Vec Ideal S1024x1024 .bf16
  wlow : Vec Ideal S1024x128 .bf16
  wgk : Vec Ideal S128x512 .bf16
  bias : Vec Ideal S1x512 .f32

/-- The loads hold these weights and rows. -/
structure Loads.Holds (b : Loads) (w : Weights) (y : Fin 4096 → Row) (T : Fin 8) : Prop where
  x i j : b.x (ix2 i j) = (y (tileRow T i)).h1 j
  nw j : b.nw (ix2 0 j) = w.nw j
  wqk k e : b.wqk (ix2 k e) = w.inw k ⟨e.val, by omega⟩
  wv k e : b.wv (ix2 k e) = w.inw k ⟨1024 + e.val, by omega⟩
  wg k e : b.wg (ix2 k e) = w.inw k ⟨2048 + e.val, by omega⟩
  wlow k p : b.wlow (ix2 k p) = grown (fun p : Fin 16 => w.inw k ⟨3072 + p.val, by omega⟩) p
  wgk p j : b.wgk (ix2 p j) = grown (fun p => w.gk p j) p
  bias j : b.bias (ix2 0 j) = w.gb j

/-- The rows of the norm, and the log decays. -/
abbrev Loads.n1 (b : Loads) : FVec Ideal S512x1024 .bf16 := k0_pay11 b.x b.nw
abbrev Loads.lg (b : Loads) : FVec Ideal S512x512 .f32 := k0_pay16 b.n1 b.wlow b.wgk b.bias

/-- A row block of the assembled weights. The four blocks' payloads have one text. -/
theorem block_at (q0 q1 q2 q3 : Vec Ideal S1x256x772 .bf16) (r : Fin 256) (c : Fin 3200) (f : Fin 3088 → EReal)
    (h0 : ∀ e : Fin 772, q0 (ix3 0 r e) = f ⟨772 * 0 + e.val, by omega⟩) (h1 : ∀ e : Fin 772, q1 (ix3 0 r e) = f ⟨772 * 1 + e.val, by omega⟩)
    (h2 : ∀ e : Fin 772, q2 (ix3 0 r e) = f ⟨772 * 2 + e.val, by omega⟩) (h3 : ∀ e : Fin 772, q3 (ix3 0 r e) = f ⟨772 * 3 + e.val, by omega⟩) :
    k0_pay7 q0 q1 q2 q3 (ix2 r c) = grown f c := by
  have cast : ∀ (y : Vec Ideal S1x256x772 .bf16) (e : Fin 772), shapeCast S256x772 y shapeCasts_S1x256x772_S256x772 (ix2 r e) = y (ix3 0 r e) := fun y e => by
    pointwise
  have same : ∀ y : FVec Ideal S256x3200 .bf16, shapeCast S256x3200 y shapeCasts_S256x3200_S256x3200 (ix2 r c) = y (ix2 r c) := fun y => by
    pointwise
  have hz : ∀ e : Fin 112, k0_pay6 (F := Ideal) (ix2 r e) = 0 := fun e => by
    simp only [k0_pay6, pointwise]
  exact (same _).trans (Cert.Kernel3Ideal.Own.block_at _ _ _ _ _ r c f (fun e => (cast q0 e).trans (h0 e)) (fun e => (cast q1 e).trans (h1 e)) (fun e => (cast q2 e).trans (h2 e))
    (fun e => (cast q3 e).trans (h3 e)) hz)

/-- Ones where the row is not before the column. -/
theorem mask_at (r s : Fin 64) : k0_pay17 (F := Ideal) (ix2 r s) = if s ≤ r then 1 else 0 := by
  simp only [k0_pay17, pointwise]
  have h : ∀ a c : Fin 64, BitVec.setWidth 32 (IntOp.cmpi CmpIPredicate.sge (BitVec.ofNat 32 (0 * 64 + a.val)) (BitVec.ofNat 32 (0 * 64 + c.val))) = if c ≤ a then 1#32 else 0#32 := by
    decide +kernel
  refine (congrArg (FloatOps.sitofp (F := Ideal) .f32) (h r s)).trans ?_
  show ((((if s ≤ r then 1#32 else 0#32 : BitVec 32).toInt : ℤ) : ℝ) : EReal) = _
  split_ifs <;> simp

/-- The log-sigmoid and its divisor, at an index. -/
theorem decayed (z : FVec Ideal S512x512 .f32) (i j : Fin 512) :
    divf (subf (minimumf z (broadcast S512x512 (Scalar.ofBits .f32 0x00000000#32))) (log (addf (broadcast S512x512 (Scalar.ofBits .f32 0x3F800000#32))
      (exp (subf (broadcast S512x512 (Scalar.ofBits .f32 0x00000000#32)) (absf z)))))) (broadcast S512x512 (Scalar.ofBits .f32 0x41800000#32)) (ix2 i j)
      = Ideal.div (-softplus (-(z (ix2 i j)))) ((16 : ℝ) : EReal) := by
  simp only [pointwise, zero_sub, word_one, word_16, ← log_sigmoid]
  rfl

section
variable {b : Loads} {w : Weights} {y : Fin 4096 → Row} {T : Fin 8} (H : b.Holds w y T)
include H

theorem n1_at (i : Fin 512) (j : Fin 1024) : b.n1 (ix2 i j) = n1 w y (tileRow T i) j := by
  simp only [Loads.n1, k0_pay11, pointwise, ↓reduceDIte, OfNat.ofNat_ne_one, Nat.reduceEqDiff, H.x, H.nw, zero_add, word_1024, word_eps]
  rfl

theorem qk_at (i : Fin 512) (j : Fin 1024) : k0_pay12 b.x b.nw b.wqk (ix2 i j) = column w y (tileRow T i) ⟨j.val, by omega⟩ := by
  have h := n1_at H
  simp only [Loads.n1] at h
  unfold k0_pay12
  pointwise [h, H.wqk, zero_add, column]

theorem v_at (i : Fin 512) (j : Fin 1024) : k0_pay13 b.x b.nw b.wv (ix2 i j) = column w y (tileRow T i) ⟨1024 + j.val, by omega⟩ := by
  have h := n1_at H
  simp only [Loads.n1] at h
  unfold k0_pay13
  pointwise [h, H.wv, zero_add, column]

theorem gate_at (i : Fin 512) (j : Fin 1024) : k0_pay14 b.x b.nw b.wg (ix2 i j) = column w y (tileRow T i) ⟨2048 + j.val, by omega⟩ := by
  have h := n1_at H
  simp only [Loads.n1] at h
  unfold k0_pay14
  pointwise [h, H.wg, zero_add, column]

theorem low_at (i : Fin 512) (p : Fin 128) : k0_pay15 b.n1 b.wlow (ix2 i p) = grown (low w y (tileRow T i)) p := by
  have h := n1_at H
  simp only [Loads.n1] at h
  unfold k0_pay15
  pointwise [h, H.wlow, zero_add]
  unfold grown low
  split_ifs
  · rfl
  · simp only [mul_zero, Finset.sum_const_zero]

theorem lg_at (i j : Fin 512) : b.lg (ix2 i j) = decay w y (tileRow T i) j := by
  refine (decayed _ i j).trans (congrArg (fun z => Ideal.div (-softplus (-z)) _) ?_)
  simp only [pointwise, ↓reduceDIte, OfNat.ofNat_ne_one, Nat.reduceEqDiff, low_at H, H.wgk, H.bias, zero_add, pre]
  refine congrArg (· + w.gb j) ?_
  refine sum_grown (fun p l => l * w.gk p j) (fun p => low w y (tileRow T i) p) _ (fun p => ?_) fun p hp => ?_
  · rw [grown_of _ (⟨p.val, by omega⟩ : Fin 128) p rfl, grown_of _ (⟨p.val, by omega⟩ : Fin 128) p rfl]
  · rw [grown, dif_neg (by omega), zero_mul]

/-- A chunk's log decays, summed by the product with the mask. -/
theorem chunk_at (c : Fin 8) (o : ℕ) (ho : o = 64 * c.val) (h : S512x512.Slices ![o, 0] S64x512) (r : Fin 64) (j : Fin 512) :
    matmul (F := Ideal) (φ₁ := .f32) (φ₂ := .f32) dot_S64x64_S64x512_S64x512_1_0_0_1_n_n (some .fp32) (k0_pay17 (F := Ideal)) (extractStridedSlice S64x512 ![o, 0] b.lg h)
      (constant S64x512 .f32 0x00000000#32) (ix2 r j) = cum w y (tileRow T ⟨64 * c.val + r.val, by omega⟩) j := by
  have e : ∀ s : Fin 64, extractStridedSlice S64x512 ![o, 0] b.lg h (ix2 s j) = decay w y (tileRow T ⟨64 * c.val + s.val, by omega⟩) j := fun s => by
    subst ho
    refine Eq.trans (congrArg b.lg (funext fun k => Fin.ext ?_)) (lg_at H ⟨64 * c.val + s.val, by omega⟩ j)
    fin_cases k
    · rfl
    · exact Nat.zero_add _
  pointwise [mask_at, e, zero_add]
  unfold cum
  refine Finset.sum_congr rfl fun s _ => ?_
  have hr : (tileRow T ⟨64 * c.val + r.val, by omega⟩).val = 512 * T.val + (64 * c.val + r.val) := rfl
  have hm : mate (tileRow T ⟨64 * c.val + r.val, by omega⟩) s = tileRow T ⟨64 * c.val + s.val, by omega⟩ := Fin.ext (by
    show 64 * ((512 * T.val + (64 * c.val + r.val)) / 64) + s.val = 512 * T.val + (64 * c.val + s.val); omega)
  rw [hm, hr, show (512 * T.val + (64 * c.val + r.val)) % 64 = r.val by omega]
  by_cases h : s ≤ r
  · rw [if_pos h, if_pos (show s.val ≤ r.val from h), one_mul]
  · rw [if_neg h, if_neg (show ¬ s.val ≤ r.val from h), zero_mul]

end

end Cert.Kernel6Ideal.Own

end
-- ==== Proof.Gla.Points.lean ====
/-
  What each point of the projections' forward call leaves, from its blocks and from the assembled weights: the first point
  assembles them, a later one finds what the point before has left.
-/
module

public import proofs.«01_k».proof.Proof.Gla.Payloads
public import proofs.«01_k».proof.Proof.Pool.Pieces
public import proofs.«01_k».proof.Proof.Pool.Steps
public import proofs.«01_k».proof.Proof.Gen.Kernel6Ideal.Frame

@[expose] public section

set_option maxRecDepth 65536

noncomputable section

namespace Cert.Kernel6Ideal.Own

open Idealize.ShloMosaic Idealize.ShloMosaic.TcCoe Idealize.SL.Sem Cert.Kernel6Ideal Cert.Kernel6Ideal.Gen
open Cert.Project
open Cert.Pool (top2 left2 given2 given3)
open Cert.Kernel3Ideal.Own (tileRow grown grown_of)
open Cert.Kernel4Ideal.Own (whole_top)

variable (m : (ℓ : Loc nD τ sig) → Buf (Elt Ideal) ℓ) (c : Dev nD) (t : Fin cfg0.N)

/-! ## The assembled weights -/

/-- A quarter of a row block, as the first point loads it. -/
abbrev quarter (q o : ℕ) (h : ∀ k, (![q, o, 0] : Fin 3 → ℕ) k + S1x256x772.size k ≤ S4x1024x772.size k) : Vec Ideal S1x256x772 .bf16 :=
  View.readAt (Elt Ideal) (ms0_2 t).view (Rect.unit (s := S4x1024x772) ![q, o, 0] S1x256x772.size h).toLoadRect ((hs0_2 t).unread (iblk m c 2 t))

/-- The first point's stores of them. -/
abbrev weightsL : List (View.Piece (Elt Ideal) S1024x3200 .bf16) :=
  [⟨Rect.unit (s := S1024x3200) ![768, 0] S256x3200.size inb_S1024x3200_S256x3200_768_0, k0_pay10 (F := Ideal) k0_pay6 (quarter m c t 0 768 inb_S4x1024x772_S1x256x772_0_768_0)
      (quarter m c t 1 768 inb_S4x1024x772_S1x256x772_1_768_0) (quarter m c t 2 768 inb_S4x1024x772_S1x256x772_2_768_0) (quarter m c t 3 768 inb_S4x1024x772_S1x256x772_3_768_0)⟩,
    ⟨Rect.unit (s := S1024x3200) ![512, 0] S256x3200.size inb_S1024x3200_S256x3200_512_0, k0_pay9 (F := Ideal) k0_pay6 (quarter m c t 0 512 inb_S4x1024x772_S1x256x772_0_512_0)
      (quarter m c t 1 512 inb_S4x1024x772_S1x256x772_1_512_0) (quarter m c t 2 512 inb_S4x1024x772_S1x256x772_2_512_0) (quarter m c t 3 512 inb_S4x1024x772_S1x256x772_3_512_0)⟩,
    ⟨Rect.unit (s := S1024x3200) ![256, 0] S256x3200.size inb_S1024x3200_S256x3200_256_0, k0_pay8 (F := Ideal) (quarter m c t 0 256 inb_S4x1024x772_S1x256x772_0_256_0)
      (quarter m c t 1 256 inb_S4x1024x772_S1x256x772_1_256_0) (quarter m c t 2 256 inb_S4x1024x772_S1x256x772_2_256_0) (quarter m c t 3 256 inb_S4x1024x772_S1x256x772_3_256_0)⟩,
    ⟨Rect.unit (s := S1024x3200) ![0, 0] S256x3200.size inb_S1024x3200_S256x3200_0_0, k0_pay7 (F := Ideal) (quarter m c t 0 0 inb_S4x1024x772_S1x256x772_0_0_0)
      (quarter m c t 1 0 inb_S4x1024x772_S1x256x772_1_0_0) (quarter m c t 2 0 inb_S4x1024x772_S1x256x772_2_0_0) (quarter m c t 3 0 inb_S4x1024x772_S1x256x772_3_0_0)⟩]

/-- What the point before has left of them. -/
abbrev prior : Vec Ideal S1024x3200 .bf16 := (outsAt0 m c (t.val - 1) (Nat.lt_of_le_of_lt (Nat.sub_le _ _) t.isLt)).2.2.2.2.2.2

/-! ## What a point loads -/

/-- The loads of a point, with its windows of the assembled weights. -/
abbrev loads (wqk wv wg : Vec Ideal S1024x1024 .bf16) (wlow : Vec Ideal S1024x128 .bf16) : Loads where
  x := View.readAt (Elt Ideal) (ms0_0 t).view (Rect.unit (s := S512x1024) ![0, 0] S512x1024.size inb_S512x1024_S512x1024_0_0).toLoadRect ((hs0_0 t).unread (iblk m c 0 t))
  nw := View.readAt (Elt Ideal) (ms0_1 t).view (Rect.unit (s := S1x1024) ![0, 0] S1x1024.size inb_S1x1024_S1x1024_0_0).toLoadRect ((hs0_1 t).unread (iblk m c 1 t))
  wqk := wqk
  wv := wv
  wg := wg
  wlow := wlow
  wgk := View.readAt (Elt Ideal) (ms0_3 t).view (Rect.unit (s := S128x512) ![0, 0] S128x512.size inb_S128x512_S128x512_0_0).toLoadRect ((hs0_3 t).unread (iblk m c 3 t))
  bias := View.readAt (Elt Ideal) (ms0_4 t).view (Rect.unit (s := S1x512) ![0, 0] S1x512.size inb_S1x512_S1x512_0_0).toLoadRect ((hs0_4 t).unread (iblk m c 4 t))

/-- Four windows of columns. -/
abbrev rect0 := Rect.unit (s := S1024x3200) ![0, 0] S1024x1024.size inb_S1024x3200_S1024x1024_0_0
abbrev rect1 := Rect.unit (s := S1024x3200) ![0, 1024] S1024x1024.size inb_S1024x3200_S1024x1024_0_1024
abbrev rect2 := Rect.unit (s := S1024x3200) ![0, 2048] S1024x1024.size inb_S1024x3200_S1024x1024_0_2048
abbrev rect3 := Rect.unit (s := S1024x3200) ![0, 3072] S1024x128.size inb_S1024x3200_S1024x128_0_3072

/-- The first point's loads, and a later one's. -/
def loadsA : Loads :=
  loads m c t (scM0_0.view.readCov (weightsL m c t) rect0.toLoadRect) (scM0_0.view.readCov (weightsL m c t) rect1.toLoadRect) (scM0_0.view.readCov (weightsL m c t) rect2.toLoadRect)
    (scM0_0.view.readCov (weightsL m c t) rect3.toLoadRect)
def loadsB (A : Vec Ideal S1024x3200 .bf16) : Loads :=
  loads m c t (View.readAt (Elt Ideal) scM0_0.view rect0.toLoadRect ((Memref.isWhole_whole _).unread A)) (View.readAt (Elt Ideal) scM0_0.view rect1.toLoadRect ((Memref.isWhole_whole _).unread A))
    (View.readAt (Elt Ideal) scM0_0.view rect2.toLoadRect ((Memref.isWhole_whole _).unread A)) (View.readAt (Elt Ideal) scM0_0.view rect3.toLoadRect ((Memref.isWhole_whole _).unread A))

/-! ## The stores of a point -/

abbrev qkL (b : Loads) : List (View.Piece (Elt Ideal) S512x1024 .f32) := [⟨Rect.unit (s := S512x1024) ![0, 0] S512x1024.size inb_S512x1024_S512x1024_0_0, k0_pay12 b.x b.nw b.wqk⟩]
abbrev vL (b : Loads) : List (View.Piece (Elt Ideal) S512x1024 .bf16) := [⟨Rect.unit (s := S512x1024) ![0, 0] S512x1024.size inb_S512x1024_S512x1024_0_0, k0_pay13 b.x b.nw b.wv⟩]
abbrev gateL (b : Loads) : List (View.Piece (Elt Ideal) S512x1024 .f32) := [⟨Rect.unit (s := S512x1024) ![0, 0] S512x1024.size inb_S512x1024_S512x1024_0_0, k0_pay14 b.x b.nw b.wg⟩]
abbrev lowL (b : Loads) : List (View.Piece (Elt Ideal) S512x128 .bf16) := [⟨Rect.unit (s := S512x128) ![0, 0] S512x128.size inb_S512x128_S512x128_0_0, k0_pay15 b.n1 b.wlow⟩]
abbrev n1L (b : Loads) : List (View.Piece (Elt Ideal) S512x1024 .bf16) := [⟨Rect.unit (s := S512x1024) ![0, 0] S512x1024.size inb_S512x1024_S512x1024_0_0, b.n1⟩]
abbrev cumL (b : Loads) : List (View.Piece (Elt Ideal) S512x512 .f32) :=
  [⟨Rect.unit (s := S512x512) ![448, 0] S64x512.size inb_S512x512_S64x512_448_0, k0_pay5 b.lg k0_pay17⟩,
    ⟨Rect.unit (s := S512x512) ![384, 0] S64x512.size inb_S512x512_S64x512_384_0, k0_pay4 b.lg k0_pay17⟩,
    ⟨Rect.unit (s := S512x512) ![320, 0] S64x512.size inb_S512x512_S64x512_320_0, k0_pay3 b.lg k0_pay17⟩,
    ⟨Rect.unit (s := S512x512) ![256, 0] S64x512.size inb_S512x512_S64x512_256_0, k0_pay2 b.lg k0_pay17⟩,
    ⟨Rect.unit (s := S512x512) ![192, 0] S64x512.size inb_S512x512_S64x512_192_0, k0_pay1 b.lg k0_pay17⟩,
    ⟨Rect.unit (s := S512x512) ![128, 0] S64x512.size inb_S512x512_S64x512_128_0, k0_pay20 b.n1 b.wlow b.wgk b.bias⟩,
    ⟨Rect.unit (s := S512x512) ![64, 0] S64x512.size inb_S512x512_S64x512_64_0, k0_pay19 b.n1 b.wlow b.wgk b.bias⟩,
    ⟨Rect.unit (s := S512x512) ![0, 0] S64x512.size inb_S512x512_S64x512_0_0, k0_pay18 b.n1 b.wlow b.wgk b.bias⟩]

section
variable (h0 : t.val % 8 = 0)
include h0

theorem outA_qk : (outsAt0 m c t.val t.isLt).1 = View.canon (qkL (loadsA m c t)) := by
  rw [outsAt0_A m c t h0]
  dsimp only
  unfold out0_A_5
  rw [View.read_writes_junk_eq_canon]
  sl_kernel_rfl
theorem outA_v : (outsAt0 m c t.val t.isLt).2.1 = View.canon (vL (loadsA m c t)) := by
  rw [outsAt0_A m c t h0]
  dsimp only
  unfold out0_A_6
  rw [View.read_writes_junk_eq_canon]
  sl_kernel_rfl
theorem outA_gate : (outsAt0 m c t.val t.isLt).2.2.1 = View.canon (gateL (loadsA m c t)) := by
  rw [outsAt0_A m c t h0]
  dsimp only
  unfold out0_A_7
  rw [View.read_writes_junk_eq_canon]
  sl_kernel_rfl
theorem outA_low : (outsAt0 m c t.val t.isLt).2.2.2.1 = View.canon (lowL (loadsA m c t)) := by
  rw [outsAt0_A m c t h0]
  dsimp only
  unfold out0_A_8
  rw [View.read_writes_junk_eq_canon]
  sl_kernel_rfl
theorem outA_cum : (outsAt0 m c t.val t.isLt).2.2.2.2.1 = View.canon (cumL (loadsA m c t)) := by
  rw [outsAt0_A m c t h0]
  dsimp only
  unfold out0_A_9
  rw [View.read_writes_junk_eq_canon]
  sl_kernel_rfl
theorem outA_n1 : (outsAt0 m c t.val t.isLt).2.2.2.2.2.1 = View.canon (n1L (loadsA m c t)) := by
  rw [outsAt0_A m c t h0]
  dsimp only
  unfold out0_A_10
  rw [View.read_writes_junk_eq_canon]
  sl_kernel_rfl
theorem outA_weights : (outsAt0 m c t.val t.isLt).2.2.2.2.2.2 = View.canon (weightsL m c t) := by
  rw [outsAt0_A m c t h0]
  dsimp only
  unfold sout0_A_0
  rw [View.read_writes_junk_eq_canon]
  sl_kernel_rfl
end

section
variable (h0 : ¬t.val % 8 = 0)
include h0

theorem outB_qk : (outsAt0 m c t.val t.isLt).1 = View.canon (qkL (loadsB m c t (prior m c t))) := by
  rw [outsAt0_B m c t h0]
  dsimp only
  unfold out0_B_5
  rw [View.read_writes_junk_eq_canon]
  sl_kernel_rfl
theorem outB_v : (outsAt0 m c t.val t.isLt).2.1 = View.canon (vL (loadsB m c t (prior m c t))) := by
  rw [outsAt0_B m c t h0]
  dsimp only
  unfold out0_B_6
  rw [View.read_writes_junk_eq_canon]
  sl_kernel_rfl
theorem outB_gate : (outsAt0 m c t.val t.isLt).2.2.1 = View.canon (gateL (loadsB m c t (prior m c t))) := by
  rw [outsAt0_B m c t h0]
  dsimp only
  unfold out0_B_7
  rw [View.read_writes_junk_eq_canon]
  sl_kernel_rfl
theorem outB_low : (outsAt0 m c t.val t.isLt).2.2.2.1 = View.canon (lowL (loadsB m c t (prior m c t))) := by
  rw [outsAt0_B m c t h0]
  dsimp only
  unfold out0_B_8
  rw [View.read_writes_junk_eq_canon]
  sl_kernel_rfl
theorem outB_cum : (outsAt0 m c t.val t.isLt).2.2.2.2.1 = View.canon (cumL (loadsB m c t (prior m c t))) := by
  rw [outsAt0_B m c t h0]
  dsimp only
  unfold out0_B_9
  rw [View.read_writes_junk_eq_canon]
  sl_kernel_rfl
theorem outB_n1 : (outsAt0 m c t.val t.isLt).2.2.2.2.2.1 = View.canon (n1L (loadsB m c t (prior m c t))) := by
  rw [outsAt0_B m c t h0]
  dsimp only
  unfold out0_B_10
  rw [View.read_writes_junk_eq_canon]
  sl_kernel_rfl
theorem outB_weights : (outsAt0 m c t.val t.isLt).2.2.2.2.2.2 = prior m c t := by
  rw [outsAt0_B m c t h0]
  rfl
end

/-! ## The stores as entries -/

section
variable {m c t} {w : Weights}

theorem weightsL_at (hw : ∀ q k e, (iblk m c 2 t : Vec Ideal S4x1024x772 .bf16) (ix3 q k e) = w.inw k ⟨772 * q.val + e.val, by omega⟩) (k : Fin 1024) (p : Fin 3200) :
    View.canon (weightsL m c t) (ix2 k p) = grown (w.inw k) p := by
  have hq : ∀ (q : Fin 4) (o : ℕ) (h) (r : Fin 256) (ho : o + r.val < 1024) (e : Fin 772), quarter m c t q.val o h (ix3 0 r e) = w.inw ⟨o + r.val, ho⟩ ⟨772 * q.val + e.val, by omega⟩ :=
    fun q o h r ho e => (given3 _ _ _ _ _ _ 0 r e).trans ((congrArg _ (congr (congrArg₂ ix3 (Fin.ext (Nat.add_zero _)) rfl) (Fin.ext (Nat.zero_add _)))).trans (hw q ⟨o + r.val, ho⟩ e))
  have blk : ∀ (o : ℕ) (g0 g1 g2 g3) (hk : o ≤ k.val ∧ k.val < o + 256), k0_pay7 (quarter m c t 0 o g0) (quarter m c t 1 o g1) (quarter m c t 2 o g2) (quarter m c t 3 o g3)
      (ix2 ⟨k.val - o, by omega⟩ p) = grown (w.inw k) p := fun o g0 g1 g2 g3 hk =>
    (block_at _ _ _ _ _ p (w.inw ⟨o + (k.val - o), by omega⟩) (hq 0 o g0 _ (by dsimp only; omega)) (hq 1 o g1 _ (by dsimp only; omega)) (hq 2 o g2 _ (by dsimp only; omega))
      (hq 3 o g3 _ (by dsimp only; omega))).trans (congrArg (fun k => grown (w.inw k) p) (Fin.ext (by dsimp only; omega)))
  refine top2 768 0 _ _ _ k p (fun hk _ => blk 768 _ _ _ _ hk) fun h3 => ?_
  refine top2 512 0 _ _ _ k p (fun hk _ => blk 512 _ _ _ _ hk) fun h2 => ?_
  refine top2 256 0 _ _ _ k p (fun hk _ => blk 256 _ _ _ _ hk) fun h1 => ?_
  exact top2 0 0 _ _ _ k p (fun hk _ => blk 0 _ _ _ _ hk) fun h => absurd (by omega) h

end

section
variable {b : Loads} {w : Weights} {y : Fin 4096 → Row} {T : Fin 8} (H : b.Holds w y T)
include H

theorem qkL_at (i : Fin 512) (j : Fin 1024) : View.canon (qkL b) (ix2 i j) = column w y (tileRow T i) ⟨j.val, by omega⟩ := (whole_top _ _ _ i j).trans (qk_at H i j)
theorem vL_at (i : Fin 512) (j : Fin 1024) : View.canon (vL b) (ix2 i j) = column w y (tileRow T i) ⟨1024 + j.val, by omega⟩ := (whole_top _ _ _ i j).trans (v_at H i j)
theorem gateL_at (i : Fin 512) (j : Fin 1024) : View.canon (gateL b) (ix2 i j) = column w y (tileRow T i) ⟨2048 + j.val, by omega⟩ := (whole_top _ _ _ i j).trans (gate_at H i j)
theorem lowL_at (i : Fin 512) (p : Fin 128) : View.canon (lowL b) (ix2 i p) = grown (low w y (tileRow T i)) p := (whole_top _ _ _ i p).trans (low_at H i p)
theorem n1L_at (i : Fin 512) (j : Fin 1024) : View.canon (n1L b) (ix2 i j) = n1 w y (tileRow T i) j := (whole_top _ _ _ i j).trans (n1_at H i j)

theorem cumL_at (i j : Fin 512) : View.canon (cumL b) (ix2 i j) = cum w y (tileRow T i) j := by
  have cut : ∀ (q : Fin 8) (h : 64 * q.val ≤ i.val ∧ i.val < 64 * q.val + 64), cum w y (tileRow T ⟨64 * q.val + (i.val - 64 * q.val), by omega⟩) j = cum w y (tileRow T i) j := fun q h =>
    congrArg (fun i => cum w y (tileRow T i) j) (Fin.ext (by dsimp only; omega))
  refine top2 448 0 _ _ _ i j (fun h _ => (chunk_at H 7 448 rfl _ _ _).trans (cut 7 h)) fun h7 => ?_
  refine top2 384 0 _ _ _ i j (fun h _ => (chunk_at H 6 384 rfl _ _ _).trans (cut 6 h)) fun h6 => ?_
  refine top2 320 0 _ _ _ i j (fun h _ => (chunk_at H 5 320 rfl _ _ _).trans (cut 5 h)) fun h5 => ?_
  refine top2 256 0 _ _ _ i j (fun h _ => (chunk_at H 4 256 rfl _ _ _).trans (cut 4 h)) fun h4 => ?_
  refine top2 192 0 _ _ _ i j (fun h _ => (chunk_at H 3 192 rfl _ _ _).trans (cut 3 h)) fun h3 => ?_
  refine top2 128 0 _ _ _ i j (fun h _ => (chunk_at H 2 128 rfl _ _ _).trans (cut 2 h)) fun h2 => ?_
  refine top2 64 0 _ _ _ i j (fun h _ => (chunk_at H 1 64 rfl _ _ _).trans (cut 1 h)) fun h1 => ?_
  exact top2 0 0 _ _ _ i j (fun h _ => (chunk_at H 0 0 rfl _ _ _).trans (cut 0 h)) fun h => absurd (by omega) h

end

end Cert.Kernel6Ideal.Own

end
-- ==== Proof.Gla.Arrays.lean ====
/-
  The result arrays of the projections' forward call over the extended reals: the formulas of `Row.lean` at the rows of the
  arguments. The points go from the first tile of rows to the last.
-/
module

public import proofs.«01_k».proof.Proof.Gla.Points
public import proofs.«01_k».proof.Proof.Gen.Kernel6Ideal.Value
public import Idealize.ShloMosaic.Lib.Pipeline.ValueKit

@[expose] public section

set_option maxRecDepth 16384

noncomputable section

namespace Cert.Kernel6Ideal.Own

open Idealize.ShloMosaic Idealize.ShloMosaic.TcCoe Idealize.SL.Sem Cert.Kernel6Ideal Cert.Kernel6Ideal.Gen
open Idealize.ShloMosaic.Pipeline (Dat Cfg Window)
open Cert.Project
open Cert.Pool (left2 given2)
open Cert.Kernel3Ideal.Own (tileRow grown grown_of)
open Cert.Kernel4Ideal.Own (whole_given)

/-! ## Where a block lies -/

theorem pt (t : Fin cfg0.N) : t.val < 8 := Nat.lt_of_lt_of_eq t.isLt N_0

/-- The tile of rows of a point, and the point of a row. -/
def tile (t : Fin cfg0.N) : Fin 8 := ⟨t.val, pt t⟩
def pointOf (i : Fin 4096) : Fin cfg0.N := ⟨i.val / 512, Nat.lt_of_lt_of_eq (by omega) N_0.symm⟩
theorem tileRow_pointOf (i : Fin 4096) : tileRow (tile (pointOf i)) ⟨i.val % 512, by omega⟩ = i :=
  Fin.ext (by show 512 * (i.val / 512) + i.val % 512 = i.val; omega)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0, 0] := (by decide +kernel : ∀ t : Fin grid0.N, win0_2.index t = ![0, 0, 0])
theorem idx_3 : ∀ t : Fin cfg0.N, win0_3.index t = ![0, 0] := (by decide +kernel : ∀ t : Fin grid0.N, win0_3.index t = ![0, 0])
theorem idx_4 : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val, 0] := (by decide +kernel : ∀ t : Fin grid0.N, win0_8.index t = ![t.val, 0])
theorem idx_9 : ∀ t : Fin cfg0.N, win0_9.index t = ![t.val, 0] := (by decide +kernel : ∀ t : Fin grid0.N, win0_9.index t = ![t.val, 0])
theorem idx_10 : ∀ t : Fin cfg0.N, win0_10.index t = ![t.val, 0] := (by decide +kernel : ∀ t : Fin grid0.N, win0_10.index t = ![t.val, 0])

variable (m : (ℓ : Loc nD τ sig) → Buf (Elt Ideal) ℓ) (c : Dev nD)

/-- The arguments on a device hold these weights and rows. The rows' other entries do not matter. -/
abbrev Args (w : Weights) (y : Fin 4096 → Row) : Prop :=
  Data (fun _ => 0) (fun _ => 0) (fun _ => 0) (fun _ => 0) (fun _ => 0) (m ((c : Thread nD τ).loc main_arg0)) (fun _ => 0) (m ((c : Thread nD τ).loc main_arg1))
    (m ((c : Thread nD τ).loc main_arg2)) (m ((c : Thread nD τ).loc main_arg3)) (m ((c : Thread nD τ).loc main_arg4)) w y

theorem v2_eq : (V m c main_v2 : S4x1024x772.Idx → EReal) = transpose S4x1024x772 [1, 0, 2]
    (shapeCast S1024x4x772 (m ((c : Thread nD τ).loc main_arg2) : S1024x3088.Idx → EReal) shapeCasts_S1024x3088_S1024x4x772) transposes_S1024x4x772_S4x1024x772_1_0_2 := rfl
theorem v4_eq : (V m c main_v4 : S128x512.Idx → EReal) = pad S128x512 ![0, 0] ![112, 0] ![0, 0] (m ((c : Thread nD τ).loc main_arg3) : S16x512.Idx → EReal)
    (sitofp (F := Ideal) .f32 (constantI S_ 32 0#32)) pads_S16x512_S128x512_01120_000 h_S_ := rfl

theorem iblk_0_at (t : Fin cfg0.N) (i : Fin 512) (j : Fin 1024) : (iblk m c 0 t : Vec Ideal S512x1024 .f32) (ix2 i j) = (V m c main_arg0 : S4096x1024.Idx → EReal) (ix2 (tileRow (tile t) i) j) := by
  have := pt t
  unfold tileRow tile
  blk_ext [iblk, idx_0]
theorem iblk_1_at (t : Fin cfg0.N) (j : Fin 1024) : (iblk m c 1 t : Vec Ideal S1x1024 .f32) (ix2 0 j) = (V m c main_arg1 : S1x1024.Idx → EReal) (ix2 0 j) := by
  blk_ext [iblk, idx_1]
theorem iblk_2_at (t : Fin cfg0.N) (q : Fin 4) (k : Fin 1024) (e : Fin 772) : (iblk m c 2 t : Vec Ideal S4x1024x772 .bf16) (ix3 q k e) = (V m c main_v2 : S4x1024x772.Idx → EReal) (ix3 q k e) := by
  blk_ext [iblk, idx_2]
theorem iblk_3_at (t : Fin cfg0.N) (p : Fin 128) (j : Fin 512) : (iblk m c 3 t : Vec Ideal S128x512 .bf16) (ix2 p j) = (V m c main_v4 : S128x512.Idx → EReal) (ix2 p j) := by
  blk_ext [iblk, idx_3]
theorem iblk_4_at (t : Fin cfg0.N) (j : Fin 512) : (iblk m c 4 t : Vec Ideal S1x512 .f32) (ix2 0 j) = (V m c main_arg4 : S1x512.Idx → EReal) (ix2 0 j) := by
  blk_ext [iblk, idx_4]

variable {m c} {w : Weights} {y : Fin 4096 → Row} (hy : Args m c w y)
include hy

/-! ## What a point loads -/

theorem weights_at (t : Fin cfg0.N) (q : Fin 4) (k : Fin 1024) (e : Fin 772) : (iblk m c 2 t : Vec Ideal S4x1024x772 .bf16) (ix3 q k e) = w.inw k ⟨772 * q.val + e.val, by omega⟩ := by
  rw [iblk_2_at, v2_eq]
  pointwise [hy.inw]
  exact congrArg (w.inw k) (Fin.ext (by dsimp only; omega))

omit hy in
theorem pad_rows (x : S16x512.Idx → EReal) (p : Fin 128) (j : Fin 512) :
    pad S128x512 ![0, 0] ![112, 0] ![0, 0] x (fun _ => 0) pads_S16x512_S128x512_01120_000 h_S_ (ix2 p j) = grown (fun p => x (ix2 p j)) p := by
  pointwise
  rfl

theorem v4_at (p : Fin 128) (j : Fin 512) : (V m c main_v4 : S128x512.Idx → EReal) (ix2 p j) = grown (fun p => w.gk p j) p := by
  have zero_word : (sitofp (F := Ideal) .f32 (constantI S_ 32 0#32) : S_.Idx → EReal) = fun _ => 0 := by
    funext i
    show ((((0#32 : BitVec 32).toInt : ℤ) : ℝ) : EReal) = _
    simp
  rw [v4_eq, zero_word, pad_rows]
  exact congrArg (fun f : Fin 16 → EReal => grown f p) (funext fun p => hy.gk p j)

omit hy in
/-- A window of the assembled weights' columns. -/
theorem window_at {A : S1024x3200.Idx → EReal} (hA : ∀ k p, A (ix2 k p) = grown (w.inw k) p) (o e : ℕ) (h : o + e < 3088) (h' : o + e < 3200) (k : Fin 1024) (hk : 0 + k.val < 1024) :
    A (ix2 ⟨0 + k.val, hk⟩ ⟨o + e, h'⟩) = w.inw k ⟨o + e, h⟩ :=
  (hA _ _).trans ((grown_of _ _ (⟨o + e, h⟩ : Fin 3088) rfl).trans (congrArg (fun k => w.inw k ⟨o + e, h⟩) (Fin.ext (Nat.zero_add _))))

omit hy in
theorem tail_at {A : S1024x3200.Idx → EReal} (hA : ∀ k p, A (ix2 k p) = grown (w.inw k) p) (p : Fin 128) (k : Fin 1024) (hk : 0 + k.val < 1024) (hp : 3072 + p.val < 3200) :
    A (ix2 ⟨0 + k.val, hk⟩ ⟨3072 + p.val, hp⟩) = grown (fun p : Fin 16 => w.inw k ⟨3072 + p.val, by omega⟩) p := by
  by_cases h : p.val < 16
  · exact (window_at hA 3072 p.val (by omega) hp k hk).trans (grown_of (fun p : Fin 16 => w.inw k ⟨3072 + p.val, by omega⟩) p ⟨p.val, h⟩ rfl).symm
  · rw [hA, grown, grown, dif_neg h, dif_neg (by dsimp only; omega)]

/-- The loads hold the weights and rows where the windows are those of the assembled weights. -/
theorem loads_holds (t : Fin cfg0.N) {A : S1024x3200.Idx → EReal} (hA : ∀ k p, A (ix2 k p) = grown (w.inw k) p) (wqk wv wg : Vec Ideal S1024x1024 .bf16) (wlow : Vec Ideal S1024x128 .bf16)
    (h0 : ∀ k e : Fin 1024, wqk (ix2 k e) = A (ix2 ⟨0 + k.val, by omega⟩ ⟨0 + e.val, by omega⟩)) (h1 : ∀ k e : Fin 1024, wv (ix2 k e) = A (ix2 ⟨0 + k.val, by omega⟩ ⟨1024 + e.val, by omega⟩))
    (h2 : ∀ k e : Fin 1024, wg (ix2 k e) = A (ix2 ⟨0 + k.val, by omega⟩ ⟨2048 + e.val, by omega⟩))
    (h3 : ∀ (k : Fin 1024) (p : Fin 128), wlow (ix2 k p) = A (ix2 ⟨0 + k.val, by omega⟩ ⟨3072 + p.val, by omega⟩)) : (loads m c t wqk wv wg wlow).Holds w y (tile t) where
  x i j := (whole_given _ _ _ i j).trans ((iblk_0_at m c t i j).trans ((congrFun (V_main_arg0 m c) _).trans (hy.h1 _ j)))
  nw j := (whole_given _ _ _ 0 j).trans ((iblk_1_at m c t j).trans ((congrFun (V_main_arg1 m c) _).trans (hy.nw j)))
  wqk k e := (h0 k e).trans ((window_at hA 0 e.val (by omega) _ k _).trans (congrArg (w.inw k) (Fin.ext (Nat.zero_add _))))
  wv k e := (h1 k e).trans (window_at hA 1024 e.val (by omega) _ k _)
  wg k e := (h2 k e).trans (window_at hA 2048 e.val (by omega) _ k _)
  wlow k p := (h3 k p).trans (tail_at hA p k _ _)
  wgk p j := (whole_given _ _ _ p j).trans ((iblk_3_at m c t p j).trans (v4_at hy p j))
  bias j := (whole_given _ _ _ 0 j).trans ((iblk_4_at m c t j).trans ((congrFun (V_main_arg4 m c) _).trans (hy.gb j)))

/-! ## What the points leave -/

/-- The assembled weights, after every point. -/
theorem weights_out : ∀ (n : ℕ) (hn : n < cfg0.N) (k : Fin 1024) (p : Fin 3200), (outsAt0 m c n hn).2.2.2.2.2.2 (ix2 k p) = grown (w.inw k) p
  | 0, hn, k, p => by
    rw [outA_weights m c ⟨0, hn⟩ (Nat.zero_mod _)]
    exact weightsL_at (weights_at hy _) k p
  | n + 1, hn, k, p => by
    by_cases h0 : (n + 1) % 8 = 0
    · rw [outA_weights m c ⟨n + 1, hn⟩ h0]
      exact weightsL_at (weights_at hy _) k p
    · rw [outB_weights m c ⟨n + 1, hn⟩ h0]
      exact weights_out n (Nat.lt_of_succ_lt hn) k p

theorem loadsA_holds (t : Fin cfg0.N) : (loadsA m c t).Holds w y (tile t) :=
  loads_holds hy t (weightsL_at (weights_at hy t)) _ _ _ _ (fun k e => left2 _ _ 0 0 _ k e) (fun k e => left2 _ _ 0 1024 _ k e) (fun k e => left2 _ _ 0 2048 _ k e)
    (fun k e => left2 _ _ 0 3072 _ k e)
theorem loadsB_holds (t : Fin cfg0.N) : (loadsB m c t (prior m c t)).Holds w y (tile t) :=
  loads_holds hy t (weights_out hy (t.val - 1) (Nat.lt_of_le_of_lt (Nat.sub_le _ _) t.isLt)) _ _ _ _ (fun k e => given2 _ _ 0 0 _ k e) (fun k e => given2 _ _ 0 1024 _ k e)
    (fun k e => given2 _ _ 0 2048 _ k e) (fun k e => given2 _ _ 0 3072 _ k e)

theorem qk_out (t : Fin cfg0.N) (i : Fin 512) (j : Fin 1024) : (outsAt0 m c t.val t.isLt).1 (ix2 i j) = column w y (tileRow (tile t) i) ⟨j.val, by omega⟩ := by
  by_cases h0 : t.val % 8 = 0
  · rw [outA_qk m c t h0]
    exact qkL_at (loadsA_holds hy t) i j
  · rw [outB_qk m c t h0]
    exact qkL_at (loadsB_holds hy t) i j
theorem v_out (t : Fin cfg0.N) (i : Fin 512) (j : Fin 1024) : (outsAt0 m c t.val t.isLt).2.1 (ix2 i j) = column w y (tileRow (tile t) i) ⟨1024 + j.val, by omega⟩ := by
  by_cases h0 : t.val % 8 = 0
  · rw [outA_v m c t h0]
    exact vL_at (loadsA_holds hy t) i j
  · rw [outB_v m c t h0]
    exact vL_at (loadsB_holds hy t) i j
theorem gate_out (t : Fin cfg0.N) (i : Fin 512) (j : Fin 1024) : (outsAt0 m c t.val t.isLt).2.2.1 (ix2 i j) = column w y (tileRow (tile t) i) ⟨2048 + j.val, by omega⟩ := by
  by_cases h0 : t.val % 8 = 0
  · rw [outA_gate m c t h0]
    exact gateL_at (loadsA_holds hy t) i j
  · rw [outB_gate m c t h0]
    exact gateL_at (loadsB_holds hy t) i j
theorem low_out (t : Fin cfg0.N) (i : Fin 512) (j : Fin 128) : (outsAt0 m c t.val t.isLt).2.2.2.1 (ix2 i j) = grown (low w y (tileRow (tile t) i)) j := by
  by_cases h0 : t.val % 8 = 0
  · rw [outA_low m c t h0]
    exact lowL_at (loadsA_holds hy t) i j
  · rw [outB_low m c t h0]
    exact lowL_at (loadsB_holds hy t) i j
theorem cum_out (t : Fin cfg0.N) (i : Fin 512) (j : Fin 512) : (outsAt0 m c t.val t.isLt).2.2.2.2.1 (ix2 i j) = cum w y (tileRow (tile t) i) j := by
  by_cases h0 : t.val % 8 = 0
  · rw [outA_cum m c t h0]
    exact cumL_at (loadsA_holds hy t) i j
  · rw [outB_cum m c t h0]
    exact cumL_at (loadsB_holds hy t) i j
theorem n1_out (t : Fin cfg0.N) (i : Fin 512) (j : Fin 1024) : (outsAt0 m c t.val t.isLt).2.2.2.2.2.1 (ix2 i j) = n1 w y (tileRow (tile t) i) j := by
  by_cases h0 : t.val % 8 = 0
  · rw [outA_n1 m c t h0]
    exact n1L_at (loadsA_holds hy t) i j
  · rw [outB_n1 m c t h0]
    exact n1L_at (loadsB_holds hy t) i j

/-! ## The result arrays -/

theorem qk_array (i : Fin 4096) (j : Fin 1024) : (Dat.arrAt (dats m 0 c) 5 cfg0.N : S4096x1024.Idx → EReal) (ix2 i j) = column w y i ⟨j.val, by omega⟩ := by
  have h := (dats m 0 c).arrAt_emb_eq_flushed 5 (win0_5.hdisj_of_index_inj (by decide +kernel)) (pointOf i) (flush0_5 _) (ix2 ⟨i.val % 512, by omega⟩ j)
  refine Eq.trans ?_ (h.trans ((congrFun (after0_5 m c (pointOf i)) _).trans ((qk_out hy (pointOf i) _ j).trans (by rw [tileRow_pointOf]))))
  have := pt (pointOf i)
  have ht : (pointOf i).val = i.val / 512 := rfl
  blk_ext [idx_5, ht]
theorem v_array (i : Fin 4096) (j : Fin 1024) : (Dat.arrAt (dats m 0 c) 6 cfg0.N : S4096x1024.Idx → EReal) (ix2 i j) = column w y i ⟨1024 + j.val, by omega⟩ := by
  have h := (dats m 0 c).arrAt_emb_eq_flushed 6 (win0_6.hdisj_of_index_inj (by decide +kernel)) (pointOf i) (flush0_6 _) (ix2 ⟨i.val % 512, by omega⟩ j)
  refine Eq.trans ?_ (h.trans ((congrFun (after0_6 m c (pointOf i)) _).trans ((v_out hy (pointOf i) _ j).trans (by rw [tileRow_pointOf]))))
  have := pt (pointOf i)
  have ht : (pointOf i).val = i.val / 512 := rfl
  blk_ext [idx_6, ht]
theorem gate_array (i : Fin 4096) (j : Fin 1024) : (Dat.arrAt (dats m 0 c) 7 cfg0.N : S4096x1024.Idx → EReal) (ix2 i j) = column w y i ⟨2048 + j.val, by omega⟩ := by
  have h := (dats m 0 c).arrAt_emb_eq_flushed 7 (win0_7.hdisj_of_index_inj (by decide +kernel)) (pointOf i) (flush0_7 _) (ix2 ⟨i.val % 512, by omega⟩ j)
  refine Eq.trans ?_ (h.trans ((congrFun (after0_7 m c (pointOf i)) _).trans ((gate_out hy (pointOf i) _ j).trans (by rw [tileRow_pointOf]))))
  have := pt (pointOf i)
  have ht : (pointOf i).val = i.val / 512 := rfl
  blk_ext [idx_7, ht]
theorem low_array (i : Fin 4096) (j : Fin 128) : (Dat.arrAt (dats m 0 c) 8 cfg0.N : S4096x128.Idx → EReal) (ix2 i j) = grown (low w y i) j := by
  have h := (dats m 0 c).arrAt_emb_eq_flushed 8 (win0_8.hdisj_of_index_inj (by decide +kernel)) (pointOf i) (flush0_8 _) (ix2 ⟨i.val % 512, by omega⟩ j)
  refine Eq.trans ?_ (h.trans ((congrFun (after0_8 m c (pointOf i)) _).trans ((low_out hy (pointOf i) _ j).trans (by rw [tileRow_pointOf]))))
  have := pt (pointOf i)
  have ht : (pointOf i).val = i.val / 512 := rfl
  blk_ext [idx_8, ht]
theorem cum_array (i : Fin 4096) (j : Fin 512) : (Dat.arrAt (dats m 0 c) 9 cfg0.N : S4096x512.Idx → EReal) (ix2 i j) = cum w y i j := by
  have h := (dats m 0 c).arrAt_emb_eq_flushed 9 (win0_9.hdisj_of_index_inj (by decide +kernel)) (pointOf i) (flush0_9 _) (ix2 ⟨i.val % 512, by omega⟩ j)
  refine Eq.trans ?_ (h.trans ((congrFun (after0_9 m c (pointOf i)) _).trans ((cum_out hy (pointOf i) _ j).trans (by rw [tileRow_pointOf]))))
  have := pt (pointOf i)
  have ht : (pointOf i).val = i.val / 512 := rfl
  blk_ext [idx_9, ht]
theorem n1_array (i : Fin 4096) (j : Fin 1024) : (Dat.arrAt (dats m 0 c) 10 cfg0.N : S4096x1024.Idx → EReal) (ix2 i j) = n1 w y i j := by
  have h := (dats m 0 c).arrAt_emb_eq_flushed 10 (win0_10.hdisj_of_index_inj (by decide +kernel)) (pointOf i) (flush0_10 _) (ix2 ⟨i.val % 512, by omega⟩ j)
  refine Eq.trans ?_ (h.trans ((congrFun (after0_10 m c (pointOf i)) _).trans ((n1_out hy (pointOf i) _ j).trans (by rw [tileRow_pointOf]))))
  have := pt (pointOf i)
  have ht : (pointOf i).val = i.val / 512 := rfl
  blk_ext [idx_10, ht]

end Cert.Kernel6Ideal.Own

end
-- ==== Proof.Gla.Reference.lean ====
/-
  The reference of the projections' forward call, over the extended reals: its six results at an index are the formulas of
  `Row.lean`.
-/
module

public import proofs.«01_k».proof.Proof.Gen.Reference6Ideal.Run
public import proofs.«01_k».proof.Proof.Gla.Row
public import Idealize.ShloMosaic.Lib.Pointwise
public import Idealize.ShloMosaic.Lib.KernelVsHost

@[expose] public section

set_option maxRecDepth 16384

noncomputable section

namespace Cert.Reference6Ideal.Own

open Idealize.ShloMosaic Idealize.SL.Sem Cert.Reference6Ideal Cert.Reference6Ideal.Gen Cert.Reference6Ideal.Value
open Cert.Project
open Cert.Head (word_1024 word_eps)

/-! ## The reference's values, one by one -/

section
variable (h1 : FVec Ideal S4096x1024 .f32) (nw : FVec Ideal S1x1024 .f32) (inw : FVec Ideal S1024x3088 .f32) (gk : FVec Ideal S16x512 .f32) (gb : FVec Ideal S1x512 .f32)

/-- A word at every index. -/
abbrev all (b : BitVec 32) : FVec Ideal S4096x512 .f32 := broadcastInDim S4096x512 ![] bcast_S_S4096x512 (constant S_ .f32 b)

/-- The norm's rows, and the projection. -/
def roots : FVec Ideal S4096x1 .f32 :=
  Host.rsqrt (addf (Host.divf (broadcastInDim S4096x1 ![0] bcast_S4096_S4096x1_0 (Host.reduceAdd (mulf h1 h1) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))
def rows : FVec Ideal S4096x1024 .f32 :=
  mulf (mulf h1 (broadcastInDim S4096x1024 ![0, 1] bcast_S4096x1_S4096x1024_0_1 (roots h1)))
    (broadcastInDim S4096x1024 ![0, 1] bcast_S1x1024_S4096x1024_0_1 (broadcastInDim S1x1024 ![1] bcast_S1024_S1x1024_1 (shapeCast S1024 nw shapeCasts_S1x1024_S1024)))
def columns : FVec Ideal S4096x3088 .f32 := Host.dotGeneral (φ₂ := .f32) dot_S4096x1024_S1024x3088_S4096x3088_1_0_0_1_n_n none (rows h1 nw) inw
def lows : FVec Ideal S4096x16 .f32 := extractStridedSlice S4096x16 ![0, 3072] (columns h1 nw inw) slices_S4096x3088_S4096x16_0_3072

/-- What the log-sigmoid takes with the sign turned, the softplus, and the log decays. -/
def turned : FVec Ideal S4096x512 .f32 :=
  Host.negf (addf (Host.dotGeneral (φ₂ := .f32) dot_S4096x16_S16x512_S4096x512_1_0_0_1_n_n none (lows h1 nw inw) gk)
    (broadcastInDim S4096x512 ![0, 1] bcast_S1x512_S4096x512_0_1 (broadcastInDim S1x512 ![1] bcast_S512_S1x512_1 (shapeCast S512 gb shapeCasts_S1x512_S512))))
def soft (x : FVec Ideal S4096x512 .f32) : FVec Ideal S4096x512 .f32 :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))
def decays : FVec Ideal S4096x512 .f32 := Host.divf (Host.negf (soft (turned h1 nw inw gk gb))) (all 0x41800000#32)

/-- The results. -/
def qkOf : FVec Ideal S4096x1024 .f32 :=
  concatenate S4096x1024 1 [⟨S4096x512, extractStridedSlice S4096x512 ![0, 0] (columns h1 nw inw) slices_S4096x3088_S4096x512_0_0⟩,
    ⟨S4096x512, extractStridedSlice S4096x512 ![0, 512] (columns h1 nw inw) slices_S4096x3088_S4096x512_0_512⟩] concatenates_S4096x512_S4096x512_S4096x1024_d1
def vOf : FVec Ideal S4096x1024 .f32 := extractStridedSlice S4096x1024 ![0, 1024] (columns h1 nw inw) slices_S4096x3088_S4096x1024_0_1024
def gateOf : FVec Ideal S4096x1024 .f32 := extractStridedSlice S4096x1024 ![0, 2048] (columns h1 nw inw) slices_S4096x3088_S4096x1024_0_2048
def lowOf : FVec Ideal S4096x128 .f32 :=
  pad S4096x128 ![0, 0] ![0, 112] ![0, 0] (lows h1 nw inw) (sitofp .f32 (constantI S_ 32 0#32)) pads_S4096x16_S4096x128_000_01120 h_S_
def cumOf : FVec Ideal S4096x512 .f32 :=
  shapeCast S4096x512 (Host.reduceWindowAdd ![1, 64, 1] ![1, 1, 1] ![0, 63, 0] ![0, 0, 0] (shapeCast S64x64x512 (decays h1 nw inw gk gb) shapeCasts_S4096x512_S64x64x512)
    (broadcastInDim S_ ![] bcast_S_S_ (constant S_ .f32 0x00000000#32)) reduceWindows_S64x64x512_S64x64x512_w1s1p0_0_w64s1p63_0_w1s1p0_0 h_S_) shapeCasts_S64x64x512_S4096x512

end

/-! ## The run's results are these -/

section
variable (m : (ℓ : Loc nD τ sig) → Buf (Elt Ideal) ℓ) (c : Dev nD)

/-- An argument on a device. -/
abbrev arg0 : FVec Ideal S4096x1024 .f32 := m ((c.tc : Thread nD τ).loc main_arg0)
abbrev arg1 : FVec Ideal S1x1024 .f32 := m ((c.tc : Thread nD τ).loc main_arg1)
abbrev arg2 : FVec Ideal S1024x3088 .f32 := m ((c.tc : Thread nD τ).loc main_arg2)
abbrev arg3 : FVec Ideal S16x512 .f32 := m ((c.tc : Thread nD τ).loc main_arg3)
abbrev arg4 : FVec Ideal S1x512 .f32 := m ((c.tc : Thread nD τ).loc main_arg4)

theorem cum_eq : (res_out4 m c : S4096x512.Idx → EReal) = cumOf (arg0 m c) (arg1 m c) (arg2 m c) (arg3 m c) (arg4 m c) := rfl
end

/-! ## At an index -/

theorem zero_word : (sitofp (F := Ideal) .f32 (constantI S_ 32 0#32) : S_.Idx → EReal) = fun _ => 0 := by
  funext i
  show ((((0#32 : BitVec 32).toInt : ℤ) : ℝ) : EReal) = _
  simp

theorem soft_at (x : FVec Ideal S4096x512 .f32) (i : Fin 4096) (j : Fin 512) : soft x (ix2 i j) = softplus (x (ix2 i j)) := by
  unfold soft softplus
  pointwise
  rw [if_neg (not_not.2 rfl)]
  rfl

section
variable {dq dk : (⟨2, ![4096, 512]⟩ : Shape).Idx → EReal} {dv dgate : (⟨2, ![4096, 1024]⟩ : Shape).Idx → EReal} {dcum : (⟨2, ![4096, 512]⟩ : Shape).Idx → EReal}
  {h1 : FVec Ideal S4096x1024 .f32} {dh2 : (⟨2, ![4096, 1024]⟩ : Shape).Idx → EReal}
  {nw : FVec Ideal S1x1024 .f32} {inw : FVec Ideal S1024x3088 .f32} {gk : FVec Ideal S16x512 .f32} {gb : FVec Ideal S1x512 .f32}
  {w : Weights} {x : Fin 4096 → Row} (hx : Data dq dk dv dgate dcum h1 dh2 nw inw gk gb w x)
include hx

variable (i : Fin 4096)

theorem roots_at : roots h1 (ix2 i 0) = root x i := by
  unfold roots
  pointwise [hx.h1, word_1024, word_eps]
  rfl

theorem rows_at (j : Fin 1024) : rows h1 nw (ix2 i j) = n1 w x i j := by
  unfold rows
  pointwise [roots_at hx, hx.h1, hx.nw, n1, hat]

theorem columns_at (j : Fin 3088) : columns h1 nw inw (ix2 i j) = column w x i j := by
  unfold columns
  pointwise [rows_at hx, hx.inw, column]

theorem lows_at (p : Fin 16) : lows h1 nw inw (ix2 i p) = low w x i p := by
  unfold lows
  pointwise [columns_at hx, column, low]

theorem turned_at (j : Fin 512) : turned h1 nw inw gk gb (ix2 i j) = -pre w x i j := by
  unfold turned
  pointwise [lows_at hx, hx.gk, hx.gb, pre]

theorem decays_at (j : Fin 512) : decays h1 nw inw gk gb (ix2 i j) = decay w x i j := by
  unfold decays
  pointwise [soft_at, turned_at hx, word_16]
  rfl

/-- The first result. -/
theorem qkOf_at (j : Fin 1024) : qkOf h1 nw inw (ix2 i j) = column w x i ⟨j.val, by omega⟩ := by
  unfold qkOf
  pointwise [columns_at hx]
  split_ifs <;> exact congrArg (column w x i) (Fin.ext (by dsimp only <;> omega))

/-- The second and the third. -/
theorem vOf_at (j : Fin 1024) : vOf h1 nw inw (ix2 i j) = column w x i ⟨1024 + j.val, by omega⟩ := by
  unfold vOf
  pointwise [columns_at hx]
theorem gateOf_at (j : Fin 1024) : gateOf h1 nw inw (ix2 i j) = column w x i ⟨2048 + j.val, by omega⟩ := by
  unfold gateOf
  pointwise [columns_at hx]

/-- The fourth. -/
theorem lowOf_at (p : Fin 128) : lowOf h1 nw inw (ix2 i p) = if h : p.val < 16 then low w x i ⟨p.val, h⟩ else 0 := by
  unfold lowOf
  rw [zero_word]
  pointwise [lows_at hx]

/-- The fifth. -/
theorem cumOf_at (j : Fin 512) : cumOf h1 nw inw gk gb (ix2 i j) = cum w x i j := by
  unfold cumOf
  pointwise
  have hz : (broadcastInDim S_ ![] bcast_S_S_ (constant (F := Ideal) S_ .f32 0x00000000#32) : S_.Idx → EReal) = fun _ => 0 := funext fun _ => by
    simp only [pointwise]
  rw [hz]
  refine (earlier_sums (shapeCast S64x64x512 (decays h1 nw inw gk gb) shapeCasts_S4096x512_S64x64x512) reduceWindows_S64x64x512_S64x64x512_w1s1p0_0_w64s1p63_0_w1s1p0_0
    ⟨i.val / 64, by omega⟩ ⟨i.val % 64, by omega⟩ j).trans ?_
  unfold cum
  refine Finset.sum_congr rfl fun s _ => ?_
  have e : shapeCast S64x64x512 (decays h1 nw inw gk gb) shapeCasts_S4096x512_S64x64x512 (ix3 ⟨i.val / 64, by omega⟩ s j) = decay w x (mate i s) j := by
    pointwise [decays_at hx]
    exact congrArg (fun k => decay w x k j) (Fin.ext (by show _ = 64 * (i.val / 64) + s.val; dsimp only; omega))
  rw [e]
  rfl

end

end Cert.Reference6Ideal.Own

end
-- ==== Proof.Gla.Value.lean ====
/-
  The value claim of the projections' forward call: whatever the arguments are, the two ideal programs end with the same six
  results.
-/
module

public import proofs.«01_k».proof.Defs
public import proofs.«01_k».proof.Proof.Gla.Arrays
public import proofs.«01_k».proof.Proof.Gla.Reference
public import proofs.«01_k».proof.Proof.Gla.Frames

@[expose] public section

set_option maxRecDepth 16384

noncomputable section

namespace Cert.Proof.Gla

open Idealize.ShloMosaic Idealize.ShloMosaic.StableHlo Idealize.SL.Sem
open Cert.Project
open Cert.Kernel4Ideal.Own (ext2)
open Kernel6Ideal.Gen (dats)

theorem value :
    algebraic_Kernel6Ideal_Reference6Ideal (hKernel6Ideal := Kernel6Ideal.Gen.facts) (hReference6Ideal := Reference6Ideal.Gen.facts) := by
  intro m g m' g' _ hsame
  refine ⟨fun c => (dats m 0 c).arrAt 5 Kernel6Ideal.cfg0.N, fun c => (dats m 0 c).arrAt 6 Kernel6Ideal.cfg0.N, fun c => (dats m 0 c).arrAt 7 Kernel6Ideal.cfg0.N,
    fun c => (dats m 0 c).arrAt 8 Kernel6Ideal.cfg0.N, fun c => (dats m 0 c).arrAt 9 Kernel6Ideal.cfg0.N, fun c => (dats m 0 c).arrAt 10 Kernel6Ideal.cfg0.N,
    (θ_run _ _ _).mono (fun r h c => ?_) (Kernel6Ideal.Value.run_blocks m g), (θ_run _ _ _).mono (fun r h c => ?_) (Reference6Ideal.Value.run m' g')⟩
  · exact h c
  · obtain ⟨h0, h1, h2, h3, h4, h5, hargs⟩ := h c
    obtain ⟨w, y, hy⟩ := Data.own (fun _ => 0) (fun _ => 0) (fun _ => 0) (fun _ => 0) (fun _ => 0) (Reference6Ideal.Own.arg0 m' c) (fun _ => 0) (Reference6Ideal.Own.arg1 m' c)
      (Reference6Ideal.Own.arg2 m' c) (Reference6Ideal.Own.arg3 m' c) (Reference6Ideal.Own.arg4 m' c)
    have hk : Kernel6Ideal.Own.Args m c w y := by
      obtain ⟨e0, e1, e2, e3, e4⟩ := hsame c
      have hx := hy
      unfold Reference6Ideal.Own.arg0 Reference6Ideal.Own.arg1 Reference6Ideal.Own.arg2 Reference6Ideal.Own.arg3 Reference6Ideal.Own.arg4 at hx
      rw [e0, e1, e2, e3, e4] at hx
      exact hx
    exact ⟨h0.trans (ext2 fun i j => (Reference6Ideal.Own.qkOf_at hy i j).trans (Kernel6Ideal.Own.qk_array hk i j).symm),
      h1.trans (ext2 fun i j => (Reference6Ideal.Own.vOf_at hy i j).trans (Kernel6Ideal.Own.v_array hk i j).symm),
      h2.trans (ext2 fun i j => (Reference6Ideal.Own.gateOf_at hy i j).trans (Kernel6Ideal.Own.gate_array hk i j).symm),
      h3.trans (ext2 fun i j => (Reference6Ideal.Own.lowOf_at hy i j).trans (Kernel6Ideal.Own.low_array hk i j).symm),
      h4.trans (ext2 fun i j => (congrFun (Reference6Ideal.Own.cum_eq m' c) _).trans ((Reference6Ideal.Own.cumOf_at hy i j).trans (Kernel6Ideal.Own.cum_array hk i j).symm)),
      h5.trans (ext2 fun i j => (Reference6Ideal.Own.rows_at hy i j).trans (Kernel6Ideal.Own.n1_array hk i j).symm), hargs⟩

end Cert.Proof.Gla

end
-- ==== Proof.lean ====
/- The claims, from the modules that prove them. -/
module

public import proofs.«01_k».proof.Proof.Gen.Kernel3Ideal.Skeleton
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value
public import proofs.«01_k».proof.Proof.Head.Frames
public import proofs.«01_k».proof.Proof.Head.Value
public import proofs.«01_k».proof.Proof.Project.Frames
public import proofs.«01_k».proof.Proof.Project.Value
public import proofs.«01_k».proof.Proof.Pool.Frames
public import proofs.«01_k».proof.Proof.Pool.Value
public import proofs.«01_k».proof.Proof.Mixer.Frames
public import proofs.«01_k».proof.Proof.Mixer.Value
public import proofs.«01_k».proof.Proof.Gla.Frames
public import proofs.«01_k».proof.Proof.Gla.Value

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Pre_finite.facts, Cert.Pre_finite2.facts, Cert.Pre_finite4.facts, Cert.Pre_finite5.facts,
  kernel_frame, ideal_frame, fun m g _ => ideal_frame m g trivial, reference_frame, fun m g _ => reference_frame m g trivial,
  Head.kernel_frame, Head.ideal_frame, fun m g _ => Head.ideal_frame m g trivial, Head.reference_frame, fun m g _ => Head.reference_frame m g trivial,
  Project.kernel_frame, Project.ideal_frame, Project.reference_frame,
  Pool.kernel_frame, Pool.ideal_frame, fun m g _ => Pool.ideal_frame m g trivial, Pool.reference_frame, fun m g _ => Pool.reference_frame m g trivial,
  Mixer.kernel_frame, Mixer.ideal_frame, fun m g _ => Mixer.ideal_frame m g trivial, Mixer.reference_frame, fun m g _ => Mixer.reference_frame m g trivial,
  Gla.kernel_frame, Gla.ideal_frame, Gla.reference_frame,
  trivial, value (hp := Cert.Pre_finite.facts), trivial, Head.value (hp := Cert.Pre_finite2.facts), trivial, Project.value, trivial, Pool.value (hp := Cert.Pre_finite4.facts),
  trivial, Mixer.value (hp := Cert.Pre_finite5.facts), trivial, Gla.value⟩

end Cert.Proof

end
